-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_loss_finite [hPre_loss_finite : Cert.Pre_loss_finite.Facts] (m : (ℓ : Loc Cert.KernelIdeal.nD Cert.KernelIdeal.τ Cert.KernelIdeal.sig) → Buf (Elt Ideal) ℓ) : Prop :=
  ∀ c : Dev Cert.KernelIdeal.nD,
    (Cert.Pre_loss_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_loss_finite [hPre_loss_finite : Cert.Pre_loss_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_loss_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ssd_pool_finite [hPre_ssd_pool_finite : Cert.Pre_ssd_pool_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ssd_pool_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ssd_pool_finite [hPre_ssd_pool_finite : Cert.Pre_ssd_pool_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ssd_pool_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_ple_finite [hPre_ple_finite : Cert.Pre_ple_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ple_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ple_finite [hPre_ple_finite : Cert.Pre_ple_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ple_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_out_finite [hPre_out_finite : Cert.Pre_out_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_out_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_out_finite [hPre_out_finite : Cert.Pre_out_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_out_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_mix_in_finite [hPre_mix_in_finite : Cert.Pre_mix_in_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_mix_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_mix_in_finite [hPre_mix_in_finite : Cert.Pre_mix_in_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_mix_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ffn_finite [hPre_ffn_finite : Cert.Pre_ffn_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ffn_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ffn_finite [hPre_ffn_finite : Cert.Pre_ffn_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ffn_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_pool_finite [hPre_pool_finite : Cert.Pre_pool_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_pool_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_pool_finite [hPre_pool_finite : Cert.Pre_pool_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_pool_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_loss_finite [hKernelIdeal : Cert.KernelIdeal.Facts] [hPre_loss_finite : Cert.Pre_loss_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_loss_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_loss_finite [hReferenceIdeal : Cert.ReferenceIdeal.Facts] [hPre_loss_finite : Cert.Pre_loss_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_loss_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_ssd_pool_finite [hKernel2Ideal : Cert.Kernel2Ideal.Facts] [hPre_ssd_pool_finite : Cert.Pre_ssd_pool_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ssd_pool_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_ssd_pool_finite [hReference2Ideal : Cert.Reference2Ideal.Facts] [hPre_ssd_pool_finite : Cert.Pre_ssd_pool_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ssd_pool_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_ple_finite [hKernel3Ideal : Cert.Kernel3Ideal.Facts] [hPre_ple_finite : Cert.Pre_ple_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ple_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_ple_finite [hReference3Ideal : Cert.Reference3Ideal.Facts] [hPre_ple_finite : Cert.Pre_ple_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ple_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_out_finite [hKernel4Ideal : Cert.Kernel4Ideal.Facts] [hPre_out_finite : Cert.Pre_out_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_out_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_out_finite [hReference4Ideal : Cert.Reference4Ideal.Facts] [hPre_out_finite : Cert.Pre_out_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_out_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_mix_in_finite [hKernel5Ideal : Cert.Kernel5Ideal.Facts] [hPre_mix_in_finite : Cert.Pre_mix_in_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_mix_in_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_mix_in_finite [hReference5Ideal : Cert.Reference5Ideal.Facts] [hPre_mix_in_finite : Cert.Pre_mix_in_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_mix_in_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_ffn_finite [hKernel6Ideal : Cert.Kernel6Ideal.Facts] [hPre_ffn_finite : Cert.Pre_ffn_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ffn_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_ffn_finite [hReference6Ideal : Cert.Reference6Ideal.Facts] [hPre_ffn_finite : Cert.Pre_ffn_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ffn_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Kernel10Ideal_pre_pool_finite [hKernel10Ideal : Cert.Kernel10Ideal.Facts] [hPre_pool_finite : Cert.Pre_pool_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_pool_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Reference10Ideal_pre_pool_finite [hReference10Ideal : Cert.Reference10Ideal.Facts] [hPre_pool_finite : Cert.Pre_pool_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_pool_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  True

def algebraic_KernelIdeal_ReferenceIdeal_pre_loss_finite [hKernelIdeal : Cert.KernelIdeal.Facts] [hReferenceIdeal : Cert.ReferenceIdeal.Facts] [hPre_loss_finite : Cert.Pre_loss_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_loss_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_ssd_pool_finite [hKernel2Ideal : Cert.Kernel2Ideal.Facts] [hReference2Ideal : Cert.Reference2Ideal.Facts] [hPre_ssd_pool_finite : Cert.Pre_ssd_pool_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ssd_pool_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v100_8)) (v1 : (c : Dev Cert.Kernel2Ideal.nD) → Buf (Elt Ideal) ((c.tc : Thread Cert.Kernel2Ideal.nD Cert.Kernel2Ideal.τ).loc Cert.Kernel2Ideal.main_v100_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v100_8) = v0 c
          ∧ r.2.mem ((c.tc : Thread Cert.Kernel2Ideal.nD Cert.Kernel2Ideal.τ).loc Cert.Kernel2Ideal.main_v100_9) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_ple_finite [hKernel3Ideal : Cert.Kernel3Ideal.Facts] [hReference3Ideal : Cert.Reference3Ideal.Facts] [hPre_ple_finite : Cert.Pre_ple_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ple_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_v61) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_out_finite [hKernel4Ideal : Cert.Kernel4Ideal.Facts] [hReference4Ideal : Cert.Reference4Ideal.Facts] [hPre_out_finite : Cert.Pre_out_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_out_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v49) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_mix_in_finite [hKernel5Ideal : Cert.Kernel5Ideal.Facts] [hReference5Ideal : Cert.Reference5Ideal.Facts] [hPre_mix_in_finite : Cert.Pre_mix_in_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_mix_in_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v36_0)) (v1 : (c : Dev Cert.Kernel5Ideal.nD) → Buf (Elt Ideal) ((c.tc : Thread Cert.Kernel5Ideal.nD Cert.Kernel5Ideal.τ).loc Cert.Kernel5Ideal.main_v36_1)) (v2 : (c : Dev Cert.Kernel5Ideal.nD) → Buf (Elt Ideal) ((c.tc : Thread Cert.Kernel5Ideal.nD Cert.Kernel5Ideal.τ).loc Cert.Kernel5Ideal.main_v36_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36_0) = v0 c
          ∧ r.2.mem ((c.tc : Thread Cert.Kernel5Ideal.nD Cert.Kernel5Ideal.τ).loc Cert.Kernel5Ideal.main_v36_1) = v1 c
          ∧ r.2.mem ((c.tc : Thread Cert.Kernel5Ideal.nD Cert.Kernel5Ideal.τ).loc Cert.Kernel5Ideal.main_v36_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_v46) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "gelu_c2" .f32 0x3D122279#32 ((80338380498831 / 2251799813685248 : ℝ) : EReal)
  ∧ IdealRules.named_const.Statement Cert.Kernel6Ideal.κ "gelu_c3" .f32 0x3DDB33B6#32 ((241015141496493 / 2251799813685248 : ℝ) : EReal)

def algebraic_Kernel6Ideal_Reference6Ideal_pre_ffn_finite [hKernel6Ideal : Cert.Kernel6Ideal.Facts] [hReference6Ideal : Cert.Reference6Ideal.Facts] [hPre_ffn_finite : Cert.Pre_ffn_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ffn_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v55_0)) (v1 : (c : Dev Cert.Kernel6Ideal.nD) → Buf (Elt Ideal) ((c.tc : Thread Cert.Kernel6Ideal.nD Cert.Kernel6Ideal.τ).loc Cert.Kernel6Ideal.main_v55_3)) (v2 : (c : Dev Cert.Kernel6Ideal.nD) → Buf (Elt Ideal) ((c.tc : Thread Cert.Kernel6Ideal.nD Cert.Kernel6Ideal.τ).loc Cert.Kernel6Ideal.main_v55_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v55_0) = v0 c
          ∧ r.2.mem ((c.tc : Thread Cert.Kernel6Ideal.nD Cert.Kernel6Ideal.τ).loc Cert.Kernel6Ideal.main_v55_3) = v1 c
          ∧ r.2.mem ((c.tc : Thread Cert.Kernel6Ideal.nD Cert.Kernel6Ideal.τ).loc Cert.Kernel6Ideal.main_v55_4) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v154) = v0 c
          ∧ r.2.mem ((c.tc : Thread Cert.Reference6Ideal.nD Cert.Reference6Ideal.τ).loc Cert.Reference6Ideal.main_v168) = v1 c
          ∧ r.2.mem ((c.tc : Thread Cert.Reference6Ideal.nD Cert.Reference6Ideal.τ).loc Cert.Reference6Ideal.main_v173) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "gelu_c2" .f32 0x3D122279#32 ((80338380498831 / 2251799813685248 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v37_0)) (v1 : (c : Dev Cert.Kernel8Ideal.nD) → Buf (Elt Ideal) ((c.tc : Thread Cert.Kernel8Ideal.nD Cert.Kernel8Ideal.τ).loc Cert.Kernel8Ideal.main_v37_1)) (v2 : (c : Dev Cert.Kernel8Ideal.nD) → Buf (Elt Ideal) ((c.tc : Thread Cert.Kernel8Ideal.nD Cert.Kernel8Ideal.τ).loc Cert.Kernel8Ideal.main_v37_2)) (v3 : (c : Dev Cert.Kernel8Ideal.nD) → Buf (Elt Ideal) ((c.tc : Thread Cert.Kernel8Ideal.nD Cert.Kernel8Ideal.τ).loc Cert.Kernel8Ideal.main_v37_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v37_0) = v0 c
          ∧ r.2.mem ((c.tc : Thread Cert.Kernel8Ideal.nD Cert.Kernel8Ideal.τ).loc Cert.Kernel8Ideal.main_v37_1) = v1 c
          ∧ r.2.mem ((c.tc : Thread Cert.Kernel8Ideal.nD Cert.Kernel8Ideal.τ).loc Cert.Kernel8Ideal.main_v37_2) = v2 c
          ∧ r.2.mem ((c.tc : Thread Cert.Kernel8Ideal.nD Cert.Kernel8Ideal.τ).loc Cert.Kernel8Ideal.main_v37_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_v83) = v2 c
          ∧ r.2.mem ((c.tc : Thread Cert.Reference8Ideal.nD Cert.Reference8Ideal.τ).loc Cert.Reference8Ideal.main_v93) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_pool_finite [hKernel10Ideal : Cert.Kernel10Ideal.Facts] [hReference10Ideal : Cert.Reference10Ideal.Facts] [hPre_pool_finite : Cert.Pre_pool_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_pool_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v25)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v25) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v77) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_loss_finite : Cert.Pre_loss_finite.Facts) (hPre_ssd_pool_finite : Cert.Pre_ssd_pool_finite.Facts) (hPre_ple_finite : Cert.Pre_ple_finite.Facts) (hPre_out_finite : Cert.Pre_out_finite.Facts) (hPre_mix_in_finite : Cert.Pre_mix_in_finite.Facts) (hPre_ffn_finite : Cert.Pre_ffn_finite.Facts) (hPre_pool_finite : Cert.Pre_pool_finite.Facts),
    quiescent_Kernel (hKernel := hKernel)
    ∧ quiescent_KernelIdeal (hKernelIdeal := hKernelIdeal)
    ∧ quiescent_KernelIdeal_pre_loss_finite (hKernelIdeal := hKernelIdeal) (hPre_loss_finite := hPre_loss_finite)
    ∧ quiescent_ReferenceIdeal (hReferenceIdeal := hReferenceIdeal)
    ∧ quiescent_ReferenceIdeal_pre_loss_finite (hReferenceIdeal := hReferenceIdeal) (hPre_loss_finite := hPre_loss_finite)
    ∧ quiescent_Kernel2 (hKernel2 := hKernel2)
    ∧ quiescent_Kernel2Ideal (hKernel2Ideal := hKernel2Ideal)
    ∧ quiescent_Kernel2Ideal_pre_ssd_pool_finite (hKernel2Ideal := hKernel2Ideal) (hPre_ssd_pool_finite := hPre_ssd_pool_finite)
    ∧ quiescent_Reference2Ideal (hReference2Ideal := hReference2Ideal)
    ∧ quiescent_Reference2Ideal_pre_ssd_pool_finite (hReference2Ideal := hReference2Ideal) (hPre_ssd_pool_finite := hPre_ssd_pool_finite)
    ∧ quiescent_Kernel3 (hKernel3 := hKernel3)
    ∧ quiescent_Kernel3Ideal (hKernel3Ideal := hKernel3Ideal)
    ∧ quiescent_Kernel3Ideal_pre_ple_finite (hKernel3Ideal := hKernel3Ideal) (hPre_ple_finite := hPre_ple_finite)
    ∧ quiescent_Reference3Ideal (hReference3Ideal := hReference3Ideal)
    ∧ quiescent_Reference3Ideal_pre_ple_finite (hReference3Ideal := hReference3Ideal) (hPre_ple_finite := hPre_ple_finite)
    ∧ quiescent_Kernel4 (hKernel4 := hKernel4)
    ∧ quiescent_Kernel4Ideal (hKernel4Ideal := hKernel4Ideal)
    ∧ quiescent_Kernel4Ideal_pre_out_finite (hKernel4Ideal := hKernel4Ideal) (hPre_out_finite := hPre_out_finite)
    ∧ quiescent_Reference4Ideal (hReference4Ideal := hReference4Ideal)
    ∧ quiescent_Reference4Ideal_pre_out_finite (hReference4Ideal := hReference4Ideal) (hPre_out_finite := hPre_out_finite)
    ∧ quiescent_Kernel5 (hKernel5 := hKernel5)
    ∧ quiescent_Kernel5Ideal (hKernel5Ideal := hKernel5Ideal)
    ∧ quiescent_Kernel5Ideal_pre_mix_in_finite (hKernel5Ideal := hKernel5Ideal) (hPre_mix_in_finite := hPre_mix_in_finite)
    ∧ quiescent_Reference5Ideal (hReference5Ideal := hReference5Ideal)
    ∧ quiescent_Reference5Ideal_pre_mix_in_finite (hReference5Ideal := hReference5Ideal) (hPre_mix_in_finite := hPre_mix_in_finite)
    ∧ quiescent_Kernel6 (hKernel6 := hKernel6)
    ∧ quiescent_Kernel6Ideal (hKernel6Ideal := hKernel6Ideal)
    ∧ quiescent_Kernel6Ideal_pre_ffn_finite (hKernel6Ideal := hKernel6Ideal) (hPre_ffn_finite := hPre_ffn_finite)
    ∧ quiescent_Reference6Ideal (hReference6Ideal := hReference6Ideal)
    ∧ quiescent_Reference6Ideal_pre_ffn_finite (hReference6Ideal := hReference6Ideal) (hPre_ffn_finite := hPre_ffn_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_pool_finite (hKernel10Ideal := hKernel10Ideal) (hPre_pool_finite := hPre_pool_finite)
    ∧ quiescent_Reference10Ideal (hReference10Ideal := hReference10Ideal)
    ∧ quiescent_Reference10Ideal_pre_pool_finite (hReference10Ideal := hReference10Ideal) (hPre_pool_finite := hPre_pool_finite)
    ∧ preserves_Kernel_KernelIdeal
    ∧ algebraic_KernelIdeal_ReferenceIdeal_pre_loss_finite (hKernelIdeal := hKernelIdeal) (hReferenceIdeal := hReferenceIdeal) (hPre_loss_finite := hPre_loss_finite)
    ∧ preserves_Kernel2_Kernel2Ideal
    ∧ algebraic_Kernel2Ideal_Reference2Ideal_pre_ssd_pool_finite (hKernel2Ideal := hKernel2Ideal) (hReference2Ideal := hReference2Ideal) (hPre_ssd_pool_finite := hPre_ssd_pool_finite)
    ∧ preserves_Kernel3_Kernel3Ideal
    ∧ algebraic_Kernel3Ideal_Reference3Ideal_pre_ple_finite (hKernel3Ideal := hKernel3Ideal) (hReference3Ideal := hReference3Ideal) (hPre_ple_finite := hPre_ple_finite)
    ∧ preserves_Kernel4_Kernel4Ideal
    ∧ algebraic_Kernel4Ideal_Reference4Ideal_pre_out_finite (hKernel4Ideal := hKernel4Ideal) (hReference4Ideal := hReference4Ideal) (hPre_out_finite := hPre_out_finite)
    ∧ preserves_Kernel5_Kernel5Ideal
    ∧ algebraic_Kernel5Ideal_Reference5Ideal_pre_mix_in_finite (hKernel5Ideal := hKernel5Ideal) (hReference5Ideal := hReference5Ideal) (hPre_mix_in_finite := hPre_mix_in_finite)
    ∧ preserves_Kernel6_Kernel6Ideal
    ∧ algebraic_Kernel6Ideal_Reference6Ideal_pre_ffn_finite (hKernel6Ideal := hKernel6Ideal) (hReference6Ideal := hReference6Ideal) (hPre_ffn_finite := hPre_ffn_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_pool_finite (hKernel10Ideal := hKernel10Ideal) (hReference10Ideal := hReference10Ideal) (hPre_pool_finite := hPre_pool_finite)
-- ==== Pre_ffn_finite.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S3x5632 .f32) (main_arg5 : FVec F S5632 .f32) (main_arg6 : FVec F S2816x1024 .f32) (main_v3 : IVec S_ 1) (main_v7 : IVec S_ 1) (main_v11 : IVec S_ 1) (main_v15 : IVec S_ 1) : IVec S_ 1 :=
  let main_v16 : FVec F S3x5632 .f32 := Host.absf main_arg4
  let main_cst_6 : FVec F S_ .f32 := constant S_ .f32 0x7F800000#32
  let main_v17 : FVec F S3x5632 .f32 := broadcastInDim S3x5632 ![] bcast_S_S3x5632 main_cst_6
  let main_v18 : IVec S3x5632 1 := cmpf .olt main_v16 main_v17
  let main_c_7 : IVec S_ 1 := constantI S_ 1 1#1
  let main_v19 : IVec S_ 1 := (fun x v => Host.reduce IntOp.andi x v reducesTo_S3x5632_S_d0_1 h_S_) main_v18 main_c_7
  let main_v20 : FVec F S5632 .f32 := Host.absf main_arg5
  let main_cst_8 : FVec F S_ .f32 := constant S_ .f32 0x7F800000#32
  let main_v21 : FVec F S5632 .f32 := broadcastInDim S5632 ![] bcast_S_S5632 main_cst_8
  let main_v22 : IVec S5632 1 := cmpf .olt main_v20 main_v21
  let main_c_9 : IVec S_ 1 := constantI S_ 1 1#1
  let main_v23 : IVec S_ 1 := (fun x v => Host.reduce IntOp.andi x v reducesTo_S5632_S_d0 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S16384x1024 .f32) (main_arg1 : FVec F S16384x1024 .f32) (main_arg2 : FVec F S1024 .f32) (main_arg3 : FVec F S1024x5632 .f32) (main_arg4 : FVec F S3x5632 .f32) (main_arg5 : FVec F S5632 .f32) (main_arg6 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x5632 .f32 := Host.absf main_arg3
  let main_cst_4 : FVec F S_ .f32 := constant S_ .f32 0x7F800000#32
  let main_v13 : FVec F S1024x5632 .f32 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_arg4 main_arg5 main_arg6 main_v3 main_v7 main_v11 main_v15
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S16384x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_mix_in_finite.lean ====
abbrev S16384x2056 : Shape := ⟨2, ![16384, 2056]⟩
abbrev S16384x1024 : Shape := ⟨2, ![16384, 1024]⟩
abbrev S1024 : Shape := ⟨1, ![1024]⟩
abbrev S1024x2056 : Shape := ⟨2, ![1024, 2056]⟩
abbrev S_ : Shape := ⟨0, ![]⟩

class Facts : Prop where
  bcast_S_S16384x2056 : S_.BroadcastsInDim S16384x2056 (![] : Fin 0 → Fin S16384x2056.rank)
  reducesTo_S16384x2056_S_d0_1 : S16384x2056.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_
  bcast_S_S1024x2056 : S_.BroadcastsInDim S1024x2056 (![] : Fin 0 → Fin S1024x2056.rank)
  reducesTo_S1024x2056_S_d0_1 : S1024x2056.ReducesTo [0, 1] S_

variable [Facts]

def fn_part1 {F : FTy → Type} [FloatOps F] (main_arg4 : FVec F S1024x2056 .f32) (main_v3 : IVec S_ 1) (main_v7 : IVec S_ 1) (main_v11 : IVec S_ 1) (main_v15 : IVec S_ 1) : IVec S_ 1 :=
  let main_v16 : FVec F S1024x2056 .f32 := Host.absf main_arg4
  let main_cst_6 : FVec F S_ .f32 := constant S_ .f32 0x7F800000#32
  let main_v17 : FVec F S1024x2056 .f32 := broadcastInDim S1024x2056 ![] bcast_S_S1024x2056 main_cst_6
  let main_v18 : IVec S1024x2056 1 := cmpf .olt main_v16 main_v17
  let main_c_7 : IVec S_ 1 := constantI S_ 1 1#1
  let main_v19 : IVec S_ 1 := (fun x v => Host.reduce IntOp.andi x v reducesTo_S1024x2056_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x2056 .f32) (main_arg1 : FVec F S16384x1024 .f32) (main_arg2 : FVec F S16384x1024 .f32) (main_arg3 : FVec F S1024 .f32) (main_arg4 : FVec F S1024x2056 .f32) : IVec S_ 1 :=
  let main_v0 : FVec F S16384x2056 .f32 := Host.absf main_arg0
  let main_cst : FVec F S_ .f32 := constant S_ .f32 0x7F800000#32
  let main_v1 : FVec F S16384x2056 .f32 := broadcastInDim S16384x2056 ![] bcast_S_S16384x2056 main_cst
  let main_v2 : IVec S16384x2056 1 := cmpf .olt main_v0 main_v1
  let main_c : IVec S_ 1 := constantI S_ 1 1#1
  let main_v3 : IVec S_ 1 := (fun x v => Host.reduce IntOp.andi x v reducesTo_S16384x2056_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S16384x1024 .f32 := Host.absf main_arg2
  let main_cst_2 : FVec F S_ .f32 := constant S_ .f32 0x7F800000#32
  let main_v9 : FVec F S16384x1024 .f32 := broadcastInDim S16384x1024 ![] bcast_S_S16384x1024 main_cst_2
  let main_v10 : IVec S16384x1024 1 := cmpf .olt main_v8 main_v9
  let main_c_3 : IVec S_ 1 := constantI S_ 1 1#1
  let main_v11 : IVec S_ 1 := (fun x v => Host.reduce IntOp.andi x v reducesTo_S16384x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_out_finite.lean ====
abbrev S16384x1024 : Shape := ⟨2, ![16384, 1024]⟩
abbrev S2x16384x1024 : Shape := ⟨3, ![2, 16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x16384x1024 : S_.BroadcastsInDim S2x16384x1024 (![] : Fin 0 → Fin S2x16384x1024.rank)
  reducesTo_S2x16384x1024_S_d0_1_2 : S2x16384x1024.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024 .f32) (main_arg5 : FVec F S1024x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S16384x1024 .f32) (main_arg1 : FVec F S2x16384x1024 .f32) (main_arg2 : FVec F S16384x1024 .f32) (main_arg3 : FVec F S16384x1024 .f32) (main_arg4 : FVec F S1024 .f32) (main_arg5 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_c_1 : IVec S_ 1 := constantI S_ 1 1#1
  let main_v7 : IVec S_ 1 := (fun x v => Host.reduce IntOp.andi x v reducesTo_S2x16384x1024_S_d0_1_2 h_S_) main_v6 main_c_1
  let main_v8 : FVec F S16384x1024 .f32 := Host.absf main_arg2
  let main_cst_2 : FVec F S_ .f32 := constant S_ .f32 0x7F800000#32
  let main_v9 : FVec F S16384x1024 .f32 := broadcastInDim S16384x1024 ![] bcast_S_S16384x1024 main_cst_2
  let main_v10 : IVec S16384x1024 1 := cmpf .olt main_v8 main_v9
  let main_c_3 : IVec S_ 1 := constantI S_ 1 1#1
  let main_v11 : IVec S_ 1 := (fun x v => Host.reduce IntOp.andi x v reducesTo_S16384x1024_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_arg5 main_v3 main_v7 main_v11 main_v15
-- ==== Pre_ple_finite.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x16384x256 : S_.BroadcastsInDim S4x16384x256 (![] : Fin 0 → Fin S4x16384x256.rank)
  reducesTo_S4x16384x256_S_d0_1_2 : S4x16384x256.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1024x1024 .f32) (main_arg5 : FVec F S256x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S256x1024 .f32 := Host.absf main_arg5
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S16384x1024 .f32) (main_arg1 : FVec F S16384x1024 .f32) (main_arg2 : FVec F S4x16384x256 .f32) (main_arg3 : FVec F S1024 .f32) (main_arg4 : FVec F S1024x1024 .f32) (main_arg5 : FVec F S256x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S4x16384x256 .f32 := Host.absf main_arg2
  let main_cst_2 : FVec F S_ .f32 := constant S_ .f32 0x7F800000#32
  let main_v9 : FVec F S4x16384x256 .f32 := broadcastInDim S4x16384x256 ![] bcast_S_S4x16384x256 main_cst_2
  let main_v10 : IVec S4x16384x256 1 := cmpf .olt main_v8 main_v9
  let main_c_3 : IVec S_ 1 := constantI S_ 1 1#1
  let main_v11 : IVec S_ 1 := (fun x v => Host.reduce IntOp.andi x v reducesTo_S4x16384x256_S_d0_1_2 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_v3 main_v7 main_v11 main_v15
-- ==== Pre_pool_finite.lean ====
abbrev S16384x2056 : Shape := ⟨2, ![16384, 2056]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S_ : Shape := ⟨0, ![]⟩

class Facts : Prop where
  bcast_S_S16384x2056 : S_.BroadcastsInDim S16384x2056 (![] : Fin 0 → Fin S16384x2056.rank)
  reducesTo_S16384x2056_S_d0_1 : S16384x2056.ReducesTo [0, 1] S_
  h_S_ : 0 < S_.numel

variable [Facts]

def fn {F : FTy → Type} [FloatOps F] (main_arg0 : FVec F S16384x2056 .f32) (main_arg1 : FVec F S4x1024 .f32) (main_arg2 : FVec F S1024 .f32) (main_arg3 : FVec F S8 .f32) (main_arg4 : FVec F S8 .f32) (main_arg5 : FVec F S8 .f32) (main_arg6 : FVec F S512 .f32) (main_arg7 : FVec F S4x128x128 .f32) (main_arg8 : FVec F S512 .f32) : IVec S_ 1 :=
  let main_v0 : FVec F S16384x2056 .f32 := Host.absf main_arg0
  let main_cst : FVec F S_ .f32 := constant S_ .f32 0x7F800000#32
  let main_v1 : FVec F S16384x2056 .f32 := broadcastInDim S16384x2056 ![] bcast_S_S16384x2056 main_cst
  let main_v2 : IVec S16384x2056 1 := cmpf .olt main_v0 main_v1
  let main_c : IVec S_ 1 := constantI S_ 1 1#1
  let main_v3 : IVec S_ 1 := (fun x v => Host.reduce IntOp.andi x v reducesTo_S16384x2056_S_d0_1 h_S_) main_v2 main_c
  main_v3
-- ==== Pre_ssd_pool_finite.lean ====
abbrev S16384x1024 : Shape := ⟨2, ![16384, 1024]⟩
abbrev S16384x2056 : Shape := ⟨2, ![16384, 2056]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2056 : S_.BroadcastsInDim S16384x2056 (![] : Fin 0 → Fin S16384x2056.rank)
  reducesTo_S16384x2056_S_d0_1 : S16384x2056.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16384x1024 .f32) (main_arg1 : FVec F S16384x2056 .f32) (main_arg2 : FVec F S4x1024 .f32) (main_arg3 : FVec F S1024 .f32) (main_arg4 : FVec F S8 .f32) (main_arg5 : FVec F S8 .f32) (main_arg6 : FVec F S8 .f32) (main_arg7 : FVec F S512 .f32) (main_arg8 : FVec F S4x128x128 .f32) (main_arg9 : FVec F S512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2056 .f32 := Host.absf main_arg1
  let main_cst_0 : FVec F S_ .f32 := constant S_ .f32 0x7F800000#32
  let main_v5 : FVec F S16384x2056 .f32 := broadcastInDim S16384x2056 ![] bcast_S_S16384x2056 main_cst_0
  let main_v6 : IVec S16384x2056 1 := cmpf .olt main_v4 main_v5
  let main_c_1 : IVec S_ 1 := constantI S_ 1 1#1
  let main_v7 : IVec S_ 1 := (fun x v => Host.reduce IntOp.andi x v reducesTo_S16384x2056_S_d0_1 h_S_) main_v6 main_c_1
  let main_v8 : FVec F S4x128x128 .f32 := Host.absf main_arg8
  let main_cst_2 : FVec F S_ .f32 := constant S_ .f32 0x7F800000#32
  let main_v9 : FVec F S4x128x128 .f32 := broadcastInDim S4x128x128 ![] bcast_S_S4x128x128 main_cst_2
  let main_v10 : IVec S4x128x128 1 := cmpf .olt main_v8 main_v9
  let main_c_3 : IVec S_ 1 := constantI S_ 1 1#1
  let main_v11 : IVec S_ 1 := (fun x v => Host.reduce IntOp.andi x v reducesTo_S4x128x128_S_d0_1_2 h_S_) main_v10 main_c_3
  let main_v12 : FVec F S512 .f32 := Host.absf main_arg9
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_v3 main_v7 main_v11 main_v15
-- ==== Kernel.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel2.lean ====
abbrev S16384x1024 : Shape := ⟨2, ![16384, 1024]⟩
abbrev S16384x2056 : Shape := ⟨2, ![16384, 2056]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S16384x1536 : Shape := ⟨2, ![16384, 1536]⟩
abbrev S16384x512 : Shape := ⟨2, ![16384, 512]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x128 : Shape := ⟨2, ![16384, 128]⟩
abbrev S1x1024 : Shape := ⟨2, ![1, 1024]⟩
abbrev S120 : Shape := ⟨1, ![120]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S3x1024 : Shape := ⟨2, ![3, 1024]⟩
abbrev S16387x1024 : Shape := ⟨2, ![16387, 1024]⟩
abbrev S16384x256 : Shape := ⟨2, ![16384, 256]⟩
abbrev S1x8 : Shape := ⟨2, ![1, 8]⟩
abbrev S16384x8x64 : Shape := ⟨3, ![16384, 8, 64]⟩
abbrev S16384x8x1 : Shape := ⟨3, ![16384, 8, 1]⟩
abbrev S128x128x2x4x64 : Shape := ⟨5, ![128, 128, 2, 4, 64]⟩
abbrev S128x128x2x4 : Shape := ⟨4, ![128, 128, 2, 4]⟩
abbrev S2x4x128x128 : Shape := ⟨4, ![2, 4, 128, 128]⟩
abbrev S2x4x128x1 : Shape := ⟨4, ![2, 4, 128, 1]⟩
abbrev S128x128x2x128 : Shape := ⟨4, ![128, 128, 2, 128]⟩
abbrev S128x128x2x4x1 : Shape := ⟨5, ![128, 128, 2, 4, 1]⟩
abbrev S128x2x4x64x128 : Shape := ⟨5, ![128, 2, 4, 64, 128]⟩
abbrev S2x4x128 : Shape := ⟨3, ![2, 4, 128]⟩
abbrev S2x4x64x128 : Shape := ⟨4, ![2, 4, 64, 128]⟩
abbrev S128x2x4 : Shape := ⟨3, ![128, 2, 4]⟩
abbrev S1x2x4 : Shape := ⟨3, ![1, 2, 4]⟩
abbrev S2x4 : Shape := ⟨2, ![2, 4]⟩
abbrev S1x2x4x64x128 : Shape := ⟨5, ![1, 2, 4, 64, 128]⟩
abbrev S2x4x1x1 : Shape := ⟨4, ![2, 4, 1, 1]⟩
abbrev S128x4x2x64x128 : Shape := ⟨5, ![128, 4, 2, 64, 128]⟩
abbrev S128x4x128x2x64 : Shape := ⟨5, ![128, 4, 128, 2, 64]⟩
abbrev S128x4x128x128 : Shape := ⟨4, ![128, 4, 128, 128]⟩
abbrev S128x1024 : Shape := ⟨2, ![128, 1024]⟩
abbrev S128x2048 : Shape := ⟨2, ![128, 2048]⟩
abbrev S16x2048 : Shape := ⟨2, ![16, 2048]⟩
abbrev S128x128 : Shape := ⟨2, ![128, 128]⟩
abbrev S1x4x128x128 : Shape := ⟨4, ![1, 4, 128, 128]⟩
abbrev S144x1024 : Shape := ⟨2, ![144, 1024]⟩
abbrev S144x512 : Shape := ⟨2, ![144, 512]⟩
abbrev S16x1024 : Shape := ⟨2, ![16, 1024]⟩
abbrev S16x512 : Shape := ⟨2, ![16, 512]⟩
abbrev S128x512 : Shape := ⟨2, ![128, 512]⟩
abbrev S128x1 : Shape := ⟨2, ![128, 1]⟩
abbrev S1x1x128x128 : Shape := ⟨4, ![1, 1, 128, 128]⟩
abbrev S128x256 : Shape := ⟨2, ![128, 256]⟩
abbrev S1x256 : Shape := ⟨2, ![1, 256]⟩
abbrev S256 : Shape := ⟨1, ![256]⟩
abbrev S1x128x128 : Shape := ⟨3, ![1, 128, 128]⟩

abbrev nBuf : Space → Nat
  | .hbm => 178
  | .vmem => 37
  | .smem => 0
  | _ => 0

abbrev hbmTy0_0 (i : Nat) : BufTy := match i % 128 with
  | 0 => ⟨S16384x1024, .f32⟩
  | 1 => ⟨S16384x2056, .f32⟩
  | 2 => ⟨S4x1024, .f32⟩
  | 3 => ⟨S1024, .f32⟩
  | 4 => ⟨S8, .f32⟩
  | 5 => ⟨S8, .f32⟩
  | 6 => ⟨S8, .f32⟩
  | 7 => ⟨S512, .f32⟩
  | 8 => ⟨S4x128x128, .f32⟩
  | 9 => ⟨S512, .f32⟩
  | 10 => ⟨S16384x1536, .f32⟩
  | 11 => ⟨S16384x512, .f32⟩
  | 12 => ⟨S16384x2048, .f32⟩
  | 13 => ⟨S16384x2048, .bf16⟩
  | 14 => ⟨S16384x1536, .f32⟩
  | 15 => ⟨S16384x512, .f32⟩
  | 16 => ⟨S16384x2048, .f32⟩
  | 17 => ⟨S16384x2048, .bf16⟩
  | 18 => ⟨S16384x8, .f32⟩
  | 19 => ⟨S_, .f32⟩
  | 20 => ⟨S16384x120, .f32⟩
  | 21 => ⟨S16384x128, .f32⟩
  | 22 => ⟨S1x1024, .f32⟩
  | 23 => ⟨S_, .f32⟩
  | 24 => ⟨S120, .f32⟩
  | 25 => ⟨S128, .f32⟩
  | 26 => ⟨S1x128, .f32⟩
  | 27 => ⟨S_, .f32⟩
  | 28 => ⟨S120, .f32⟩
  | 29 => ⟨S128, .f32⟩
  | 30 => ⟨S1x128, .f32⟩
  | 31 => ⟨S8x64, .f32⟩
  | 32 => ⟨S512, .f32⟩
  | 33 => ⟨S1x512, .f32⟩
  | 34 => ⟨S1x512, .f32⟩
  | 35 => ⟨S4x128x128, .bf16⟩
  | 36 => ⟨S1x512, .f32⟩
  | 37 => ⟨S16384x1024, .f32⟩
  | 38 => ⟨S_, .f32⟩
  | 39 => ⟨S3x1024, .f32⟩
  | 40 => ⟨S16387x1024, .f32⟩
  | 41 => ⟨S16384x1024, .f32⟩
  | 42 => ⟨S1x1024, .f32⟩
  | 43 => ⟨S1024, .f32⟩
  | 44 => ⟨S1x1024, .f32⟩
  | 45 => ⟨S16384x1024, .f32⟩
  | 46 => ⟨S16384x1024, .f32⟩
  | 47 => ⟨S1x1024, .f32⟩
  | 48 => ⟨S16384x1024, .f32⟩
  | 49 => ⟨S16384x1024, .f32⟩
  | 50 => ⟨S16384x1024, .f32⟩
  | 51 => ⟨S1x1024, .f32⟩
  | 52 => ⟨S1024, .f32⟩
  | 53 => ⟨S1x1024, .f32⟩
  | 54 => ⟨S16384x1024, .f32⟩
  | 55 => ⟨S16384x1024, .f32⟩
  | 56 => ⟨S16384x1024, .f32⟩
  | 57 => ⟨S16384x1024, .f32⟩
  | 58 => ⟨S1x1024, .f32⟩
  | 59 => ⟨S1024, .f32⟩
  | 60 => ⟨S1x1024, .f32⟩
  | 61 => ⟨S16384x1024, .f32⟩
  | 62 => ⟨S16384x1024, .f32⟩
  | 63 => ⟨S16384x1024, .f32⟩
  | 64 => ⟨S16384x1024, .f32⟩
  | 65 => ⟨S1x1024, .f32⟩
  | 66 => ⟨S1024, .f32⟩
  | 67 => ⟨S1x1024, .f32⟩
  | 68 => ⟨S16384x1024, .f32⟩
  | 69 => ⟨S16384x1024, .f32⟩
  | 70 => ⟨S16384x1024, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S_, .f32⟩
  | 77 => ⟨S16384x1024, .f32⟩
  | 78 => ⟨S16384x1024, .f32⟩
  | 79 => ⟨S16384x1024, .f32⟩
  | 80 => ⟨S16384x512, .f32⟩
  | 81 => ⟨S16384x256, .f32⟩
  | 82 => ⟨S16384x256, .f32⟩
  | 83 => ⟨S16384x8, .f32⟩
  | 84 => ⟨S1x8, .f32⟩
  | 85 => ⟨S16384x8, .f32⟩
  | 86 => ⟨S16384x8, .f32⟩
  | 87 => ⟨S_, .f32⟩
  | 88 => ⟨S16384x8, .f32⟩
  | 89 => ⟨S16384x8, .f32⟩
  | 90 => ⟨S16384x8, .f32⟩
  | 91 => ⟨S16384x8, .f32⟩
  | 92 => ⟨S16384x8, .i1⟩
  | 93 => ⟨S16384x8, .f32⟩
  | 94 => ⟨S16384x8, .f32⟩
  | 95 => ⟨S16384x8, .f32⟩
  | 96 => ⟨S16384x8, .f32⟩
  | 97 => ⟨S16384x8, .f32⟩
  | 98 => ⟨S16384x8, .f32⟩
  | 99 => ⟨S16384x8, .f32⟩
  | 100 => ⟨S16384x8, .f32⟩
  | 101 => ⟨S16384x8x64, .f32⟩
  | 102 => ⟨S16384x8x1, .f32⟩
  | 103 => ⟨S16384x8x64, .f32⟩
  | 104 => ⟨S16384x8x64, .f32⟩
  | 105 => ⟨S128x128x2x4x64, .f32⟩
  | 106 => ⟨S8, .f32⟩
  | 107 => ⟨S8, .f32⟩
  | 108 => ⟨S1x8, .f32⟩
  | 109 => ⟨S16384x8, .f32⟩
  | 110 => ⟨S16384x8, .f32⟩
  | 111 => ⟨S128x128x2x4, .f32⟩
  | 112 => ⟨S2x4x128x128, .f32⟩
  | 113 => ⟨S_, .f32⟩
  | 114 => ⟨S_, .f32⟩
  | 115 => ⟨S2x4x128x128, .f32⟩
  | 116 => ⟨S2x4x128x1, .f32⟩
  | 117 => ⟨S2x4x128x128, .f32⟩
  | 118 => ⟨S2x4x128x128, .f32⟩
  | 119 => ⟨S2x4x128x128, .f32⟩
  | 120 => ⟨S128x128x2x4, .f32⟩
  | 121 => ⟨S128x128x2x128, .f32⟩
  | 122 => ⟨S128x128x2x4x1, .f32⟩
  | 123 => ⟨S128x128x2x4x64, .f32⟩
  | 124 => ⟨S128x128x2x4x64, .f32⟩
  | 125 => ⟨S128x2x4x64x128, .f32⟩
  | 126 => ⟨S2x4x128x1, .f32⟩
  | 127 => ⟨S2x4x128, .f32⟩
  | _ => ⟨S16384x1024, .f32⟩

abbrev hbmTy0_1 (i : Nat) : BufTy := match i % 128 with
  | 0 => ⟨S2x4x128, .f32⟩
  | 1 => ⟨S_, .f32⟩
  | 2 => ⟨S2x4x64x128, .f32⟩
  | 3 => ⟨S128x2x4, .f32⟩
  | 4 => ⟨S_, .f32⟩
  | 5 => ⟨S128x2x4x64x128, .f32⟩
  | 6 => ⟨S_, .i32⟩
  | 7 => ⟨S128x2x4, .f32⟩
  | 8 => ⟨S128x2x4x64x128, .f32⟩
  | 9 => ⟨S_, .i32⟩
  | 10 => ⟨S2x4x64x128, .f32⟩
  | 11 => ⟨S128x2x4x64x128, .f32⟩
  | 12 => ⟨S_, .i32⟩
  | 13 => ⟨S_, .i1⟩
  | 14 => ⟨S_, .i32⟩
  | 15 => ⟨S_, .i32⟩
  | 16 => ⟨S1x2x4, .f32⟩
  | 17 => ⟨S2x4, .f32⟩
  | 18 => ⟨S_, .i32⟩
  | 19 => ⟨S_, .i32⟩
  | 20 => ⟨S_, .i32⟩
  | 21 => ⟨S_, .i32⟩
  | 22 => ⟨S1x2x4x64x128, .f32⟩
  | 23 => ⟨S2x4x64x128, .f32⟩
  | 24 => ⟨S2x4x1x1, .f32⟩
  | 25 => ⟨S2x4x64x128, .f32⟩
  | 26 => ⟨S2x4x64x128, .f32⟩
  | 27 => ⟨S2x4x64x128, .f32⟩
  | 28 => ⟨S1x2x4x64x128, .f32⟩
  | 29 => ⟨S_, .i32⟩
  | 30 => ⟨S_, .i32⟩
  | 31 => ⟨S_, .i32⟩
  | 32 => ⟨S_, .i32⟩
  | 33 => ⟨S128x2x4x64x128, .f32⟩
  | 34 => ⟨S_, .i32⟩
  | 35 => ⟨S_, .i32⟩
  | 36 => ⟨S128x4x2x64x128, .f32⟩
  | 37 => ⟨S128x4x128x2x64, .f32⟩
  | 38 => ⟨S128x4x128x128, .f32⟩
  | 39 => ⟨S16384x1024, .bf16⟩
  | 40 => ⟨S16384x2048, .bf16⟩
  | 41 => ⟨S16384x128, .f32⟩
  | 42 => ⟨S4x1024, .f32⟩
  | 43 => ⟨S1x1024, .f32⟩
  | 44 => ⟨S1x128, .f32⟩
  | 45 => ⟨S1x128, .f32⟩
  | 46 => ⟨S1x512, .f32⟩
  | 47 => ⟨S1x512, .f32⟩
  | 48 => ⟨S4x128x128, .f32⟩
  | 49 => ⟨S1x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x2048, .bf16⟩
  | .local _ .vmem, ⟨3, _⟩ => ⟨S128x2048, .bf16⟩
  | .local _ .vmem, ⟨4, _⟩ => ⟨S16x2048, .bf16⟩
  | .local _ .vmem, ⟨5, _⟩ => ⟨S16x2048, .bf16⟩
  | .local _ .vmem, ⟨6, _⟩ => ⟨S128x128, .f32⟩
  | .local _ .vmem, ⟨7, _⟩ => ⟨S128x128, .f32⟩
  | .local _ .vmem, ⟨8, _⟩ => ⟨S1x4x128x128, .f32⟩
  | .local _ .vmem, ⟨9, _⟩ => ⟨S1x4x128x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S4x128x128, .bf16⟩
  | .local _ .vmem, ⟨17, _⟩ => ⟨S1x512, .f32⟩
  | .local _ .vmem, ⟨18, _⟩ => ⟨S128x2048, .bf16⟩
  | .local _ .vmem, ⟨19, _⟩ => ⟨S128x2048, .bf16⟩
  | .local _ .vmem, ⟨20, _⟩ => ⟨S128x128, .f32⟩
  | .local _ .vmem, ⟨21, _⟩ => ⟨S128x128, .f32⟩
  | .local _ .vmem, ⟨22, _⟩ => ⟨S4x1024, .f32⟩
  | .local _ .vmem, ⟨23, _⟩ => ⟨S1x1024, .f32⟩
  | .local _ .vmem, ⟨24, _⟩ => ⟨S1x128, .f32⟩
  | .local _ .vmem, ⟨25, _⟩ => ⟨S1x128, .f32⟩
  | .local _ .vmem, ⟨26, _⟩ => ⟨S1x512, .f32⟩
  | .local _ .vmem, ⟨27, _⟩ => ⟨S1x512, .f32⟩
  | .local _ .vmem, ⟨28, _⟩ => ⟨S4x128x128, .f32⟩
  | .local _ .vmem, ⟨29, _⟩ => ⟨S1x512, .f32⟩
  | .local _ .vmem, ⟨30, _⟩ => ⟨S4x128x128, .f32⟩
  | .local _ .vmem, ⟨31, _⟩ => ⟨S144x1024, .f32⟩
  | .local _ .vmem, ⟨32, _⟩ => ⟨S144x512, .f32⟩
  | .local _ .vmem, ⟨33, _⟩ => ⟨S144x1024, .f32⟩
  | .local _ .vmem, ⟨34, _⟩ => ⟨S144x512, .f32⟩
  | .local _ .vmem, ⟨35, _⟩ => ⟨S16x1024, .f32⟩
  | .local _ .vmem, ⟨36, _⟩ => ⟨S16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call2_call0_cst : Ref sig .tc := ⟨.hbm, 113, rfl⟩
abbrev main_call2_call0_v0 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_3 : Ref sig .tc := ⟨.hbm, 129, rfl⟩
abbrev main_v92 : Ref sig .tc := ⟨.hbm, 130, rfl⟩
abbrev main_v93 : Ref sig .tc := ⟨.hbm, 131, rfl⟩
abbrev main_cst_4 : Ref sig .tc := ⟨.hbm, 132, rfl⟩
abbrev main_v94 : Ref sig .tc := ⟨.hbm, 133, rfl⟩
abbrev main_c : Ref sig .tc := ⟨.hbm, 134, rfl⟩
abbrev main_v95_0 : Ref sig .tc := ⟨.hbm, 135, rfl⟩
abbrev main_v95_1 : Ref sig .tc := ⟨.hbm, 136, rfl⟩
abbrev main_v95_2 : Ref sig .tc := ⟨.hbm, 137, rfl⟩
abbrev main_v95_3 : Ref sig .tc := ⟨.hbm, 138, rfl⟩
abbrev main_v95_4 : Ref sig .tc := ⟨.hbm, 139, rfl⟩
abbrev main_while0c_c_9 : Ref sig .tc := ⟨.hbm, 140, rfl⟩
abbrev main_while0c_v101 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_v0 : Ref sig .tc := ⟨.hbm, 144, rfl⟩
abbrev main_while0b_v101 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_call4_c_1 : Ref sig .tc := ⟨.hbm, 148, rfl⟩
abbrev main_while0b_call4_c_2 : Ref sig .tc := ⟨.hbm, 149, rfl⟩
abbrev main_while0b_call4_v0 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_v105 : Ref sig .tc := ⟨.hbm, 154, rfl⟩
abbrev main_while0b_v106 : Ref sig .tc := ⟨.hbm, 155, rfl⟩
abbrev main_while0b_call5_v0 : Ref sig .tc := ⟨.hbm, 156, rfl⟩
abbrev main_while0b_call5_c : Ref sig .tc := ⟨.hbm, 157, rfl⟩
abbrev main_while0b_call5_c_0 : Ref sig .tc := ⟨.hbm, 158, rfl⟩
abbrev main_while0b_call5_c_1 : Ref sig .tc := ⟨.hbm, 159, rfl⟩
abbrev main_while0b_call5_c_2 : Ref sig .tc := ⟨.hbm, 160, rfl⟩
abbrev main_while0b_v107 : Ref sig .tc := ⟨.hbm, 161, rfl⟩
abbrev main_while0b_c_9 : Ref sig .tc := ⟨.hbm, 162, rfl⟩
abbrev main_while0b_v108 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100_0 : Ref sig .tc := ⟨.hbm, 168, rfl⟩
abbrev main_v100_1 : Ref sig .tc := ⟨.hbm, 169, rfl⟩
abbrev main_v100_2 : Ref sig .tc := ⟨.hbm, 170, rfl⟩
abbrev main_v100_3 : Ref sig .tc := ⟨.hbm, 171, rfl⟩
abbrev main_v100_4 : Ref sig .tc := ⟨.hbm, 172, rfl⟩
abbrev main_v100_5 : Ref sig .tc := ⟨.hbm, 173, rfl⟩
abbrev main_v100_6 : Ref sig .tc := ⟨.hbm, 174, rfl⟩
abbrev main_v100_7 : Ref sig .tc := ⟨.hbm, 175, rfl⟩
abbrev main_v100_8 : Ref sig .tc := ⟨.hbm, 176, rfl⟩
abbrev main_v100_9 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29

abbrev nD : Nat := 1
abbrev τ : Topo := Topo.v7x

variable {F : FTy → Type} [FloatOps F]

abbrev main_while0_count : Scf.Loop 32 := ⟨0#32, 128#32, 1#32⟩

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference2Ideal.lean ====
abbrev S16384x1024 : Shape := ⟨2, ![16384, 1024]⟩
abbrev S16384x2056 : Shape := ⟨2, ![16384, 2056]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S16384x512 : Shape := ⟨2, ![16384, 512]⟩
abbrev S16384x8 : Shape := ⟨2, ![16384, 8]⟩
abbrev S16384x4x128 : Shape := ⟨3, ![16384, 4, 128]⟩
abbrev S_ : Shape := ⟨0, ![]⟩
abbrev S16384 : Shape := ⟨1, ![16384]⟩
abbrev S16384x1x128 : Shape := ⟨3, ![16384, 1, 128]⟩
abbrev S16384x128 : Shape := ⟨2, ![16384, 128]⟩
abbrev S2x128 : Shape := ⟨2, ![2, 128]⟩
abbrev S16386x128 : Shape := ⟨2, ![16386, 128]⟩
abbrev S16384x1 : Shape := ⟨2, ![16384, 1]⟩
abbrev S4x128 : Shape := ⟨2, ![4, 128]⟩
abbrev S16388x128 : Shape := ⟨2, ![16388, 128]⟩
abbrev S8x128 : Shape := ⟨2, ![8, 128]⟩
abbrev S16392x128 : Shape := ⟨2, ![16392, 128]⟩
abbrev S16x128 : Shape := ⟨2, ![16, 128]⟩
abbrev S16400x128 : Shape := ⟨2, ![16400, 128]⟩
abbrev S4x128x16384 : Shape := ⟨3, ![4, 128, 16384]⟩
abbrev S1x512 : Shape := ⟨2, ![1, 512]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2056, .f32⟩
  | .hbm, ⟨2, _⟩ => ⟨S4x1024, .f32⟩
  | .hbm, ⟨3, _⟩ => ⟨S1024, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S512, .f32⟩
  | .hbm, ⟨8, _⟩ => ⟨S4x128x128, .f32⟩
  | .hbm, ⟨9, _⟩ => ⟨S512, .f32⟩
  | .hbm, ⟨10, _⟩ => ⟨S16384x512, .f32⟩
  | .hbm, ⟨11, _⟩ => ⟨S16384x1024, .f32⟩
  | .hbm, ⟨12, _⟩ => ⟨S16384x8, .f32⟩
  | .hbm, ⟨13, _⟩ => ⟨S16384x512, .f32⟩
  | .hbm, ⟨14, _⟩ => ⟨S16384x4x128, .f32⟩
  | .hbm, ⟨15, _⟩ => ⟨S_, .f32⟩
  | .hbm, ⟨16, _⟩ => ⟨S_, .f32⟩
  | .hbm, ⟨17, _⟩ => ⟨S16384x4x128, .f32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .f32⟩
  | .hbm, ⟨23, _⟩ => ⟨S16384x1x128, .f32⟩
  | .hbm, ⟨24, _⟩ => ⟨S16384x128, .f32⟩
  | .hbm, ⟨25, _⟩ => ⟨S_, .f32⟩
  | .hbm, ⟨26, _⟩ => ⟨S2x128, .f32⟩
  | .hbm, ⟨27, _⟩ => ⟨S16386x128, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S16384x128, .f32⟩
  | .hbm, ⟨35, _⟩ => ⟨S16384x128, .f32⟩
  | .hbm, ⟨36, _⟩ => ⟨S16384x1x128, .f32⟩
  | .hbm, ⟨37, _⟩ => ⟨S16384x128, .f32⟩
  | .hbm, ⟨38, _⟩ => ⟨S16384x128, .f32⟩
  | .hbm, ⟨39, _⟩ => ⟨S16384x1x128, .f32⟩
  | .hbm, ⟨40, _⟩ => ⟨S16384x128, .f32⟩
  | .hbm, ⟨41, _⟩ => ⟨S_, .f32⟩
  | .hbm, ⟨42, _⟩ => ⟨S4x128, .f32⟩
  | .hbm, ⟨43, _⟩ => ⟨S16388x128, .f32⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1, .f32⟩
  | .hbm, ⟨50, _⟩ => ⟨S16384x128, .f32⟩
  | .hbm, ⟨51, _⟩ => ⟨S16384x128, .f32⟩
  | .hbm, ⟨52, _⟩ => ⟨S16384x1x128, .f32⟩
  | .hbm, ⟨53, _⟩ => ⟨S16384x128, .f32⟩
  | .hbm, ⟨54, _⟩ => ⟨S16384x128, .f32⟩
  | .hbm, ⟨55, _⟩ => ⟨S16384x1x128, .f32⟩
  | .hbm, ⟨56, _⟩ => ⟨S16384x128, .f32⟩
  | .hbm, ⟨57, _⟩ => ⟨S_, .f32⟩
  | .hbm, ⟨58, _⟩ => ⟨S8x128, .f32⟩
  | .hbm, ⟨59, _⟩ => ⟨S16392x128, .f32⟩
  | .hbm, ⟨60, _⟩ => ⟨S16384x128, .f32⟩
  | .hbm, ⟨61, _⟩ => ⟨S16384x128, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S16384x1, .f32⟩
  | .hbm, ⟨66, _⟩ => ⟨S16384x128, .f32⟩
  | .hbm, ⟨67, _⟩ => ⟨S16384x128, .f32⟩
  | .hbm, ⟨68, _⟩ => ⟨S16384x1x128, .f32⟩
  | .hbm, ⟨69, _⟩ => ⟨S16384x128, .f32⟩
  | .hbm, ⟨70, _⟩ => ⟨S16384x128, .f32⟩
  | .hbm, ⟨71, _⟩ => ⟨S16384x1x128, .f32⟩
  | .hbm, ⟨72, _⟩ => ⟨S16384x128, .f32⟩
  | .hbm, ⟨73, _⟩ => ⟨S_, .f32⟩
  | .hbm, ⟨74, _⟩ => ⟨S16x128, .f32⟩
  | .hbm, ⟨75, _⟩ => ⟨S16400x128, .f32⟩
  | .hbm, ⟨76, _⟩ => ⟨S16384x128, .f32⟩
  | .hbm, ⟨77, _⟩ => ⟨S16384x128, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384x1, .f32⟩
  | .hbm, ⟨82, _⟩ => ⟨S16384x128, .f32⟩
  | .hbm, ⟨83, _⟩ => ⟨S16384x128, .f32⟩
  | .hbm, ⟨84, _⟩ => ⟨S16384x1x128, .f32⟩
  | .hbm, ⟨85, _⟩ => ⟨S16384x128, .f32⟩
  | .hbm, ⟨86, _⟩ => ⟨S16384x128, .f32⟩
  | .hbm, ⟨87, _⟩ => ⟨S16384x1x128, .f32⟩
  | .hbm, ⟨88, _⟩ => ⟨S16384x1x128, .f32⟩
  | .hbm, ⟨89, _⟩ => ⟨S16384x1x128, .f32⟩
  | .hbm, ⟨90, _⟩ => ⟨S16384x1x128, .f32⟩
  | .hbm, ⟨91, _⟩ => ⟨S16384x4x128, .f32⟩
  | .hbm, ⟨92, _⟩ => ⟨S4x128x16384, .f32⟩
  | .hbm, ⟨93, _⟩ => ⟨S16384x4x128, .f32⟩
  | .hbm, ⟨94, _⟩ => ⟨S16384x512, .f32⟩
  | .hbm, ⟨95, _⟩ => ⟨S1x512, .f32⟩
  | .hbm, ⟨96, _⟩ => ⟨S16384x512, .f32⟩
  | .hbm, ⟨97, _⟩ => ⟨S16384x512, .f32⟩
  | .hbm, ⟨98, _⟩ => ⟨S16384x512, .f32⟩
  | .hbm, ⟨99, _⟩ => ⟨S16384x512, .f32⟩
  | .hbm, ⟨100, _⟩ => ⟨S_, .f32⟩
  | .hbm, ⟨101, _⟩ => ⟨S512, .f32⟩
  | .hbm, ⟨102, _⟩ => ⟨S1x512, .f32⟩
  | .hbm, ⟨103, _⟩ => ⟨S16384x512, .f32⟩
  | .hbm, ⟨104, _⟩ => ⟨S16384x512, .f32⟩
  | .hbm, ⟨105, _⟩ => ⟨S_, .f32⟩
  | .hbm, ⟨106, _⟩ => ⟨S512, .f32⟩
  | .hbm, ⟨107, _⟩ => ⟨S16384x4x128, .f32⟩
  | .hbm, ⟨108, _⟩ => ⟨S4x128x16384, .f32⟩
  | .hbm, ⟨109, _⟩ => ⟨S4x128x128, .f32⟩
  | .hbm, ⟨110, _⟩ => ⟨S4x128x128, .f32⟩
  | .hbm, ⟨111, _⟩ => ⟨S1x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_call0_cst : Ref sig .tc := ⟨.hbm, 15, rfl⟩
abbrev main_call0_call0_v0 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_7 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_8 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Kernel3.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S16384x1024, .f32⟩
  | .hbm, ⟨10, _⟩ => ⟨S1024x1024, .f32⟩
  | .hbm, ⟨11, _⟩ => ⟨S256x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | .local _ .vmem, ⟨12, _⟩ => ⟨S256x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S16384x1024 : Shape := ⟨2, ![16384, 1024]⟩
abbrev S4x16384x256 : Shape := ⟨3, ![4, 16384, 256]⟩
abbrev S1024 : Shape := ⟨1, ![1024]⟩
abbrev S1024x1024 : Shape := ⟨2, ![1024, 1024]⟩
abbrev S256x1024 : Shape := ⟨2, ![256, 1024]⟩
abbrev S1x16384x256 : Shape := ⟨3, ![1, 16384, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x256 : Shape := ⟨2, ![1024, 256]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x16384x256, .f32⟩
  | .hbm, ⟨7, _⟩ => ⟨S16384x256, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024x1024, .f32⟩
  | .hbm, ⟨49, _⟩ => ⟨S1024x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1024x256, .f32⟩
  | .hbm, ⟨78, _⟩ => ⟨S256x1024, .f32⟩
  | .hbm, ⟨79, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel4.lean ====
abbrev S16384x1024 : Shape := ⟨2, ![16384, 1024]⟩
abbrev S2x16384x1024 : Shape := ⟨3, ![2, 16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 15
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S2x16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024x1024, .f32⟩
  | .hbm, ⟨6, _⟩ => ⟨S16384x1024, .bf16⟩
  | .hbm, ⟨7, _⟩ => ⟨S1024x1024, .bf16⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .hbm, ⟨13, _⟩ => ⟨S1024x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S2x512x1024, .f32⟩
  | .local _ .vmem, ⟨3, _⟩ => ⟨S2x512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S16384x1024 : Shape := ⟨2, ![16384, 1024]⟩
abbrev S2x16384x1024 : Shape := ⟨3, ![2, 16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x16384x1024 : Shape := ⟨3, ![1, 16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x16384x1024, .f32⟩
  | .hbm, ⟨29, _⟩ => ⟨S16384x1024, .f32⟩
  | .hbm, ⟨30, _⟩ => ⟨S1x16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S1024x1024, .f32⟩
  | .hbm, ⟨61, _⟩ => ⟨S1024x1024, .f32⟩
  | .hbm, ⟨62, _⟩ => ⟨S16384x1024, .f32⟩
  | .hbm, ⟨63, _⟩ => ⟨S16384x1024, .bf16⟩
  | .hbm, ⟨64, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel5.lean ====
abbrev S16384x2056 : Shape := ⟨2, ![16384, 2056]⟩
abbrev S16384x1024 : Shape := ⟨2, ![16384, 1024]⟩
abbrev S1024 : Shape := ⟨1, ![1024]⟩
abbrev S1024x2056 : Shape := ⟨2, ![1024, 2056]⟩
abbrev S1024x514 : Shape := ⟨2, ![1024, 514]⟩
abbrev S1x1024x514 : Shape := ⟨3, ![1, 1024, 514]⟩
abbrev S4x1024x514 : Shape := ⟨3, ![4, 1024, 514]⟩
abbrev S1024x508 : Shape := ⟨2, ![1024, 508]⟩
abbrev S1024x512 : Shape := ⟨2, ![1024, 512]⟩
abbrev S1024x6 : Shape := ⟨2, ![1024, 6]⟩
abbrev S1024x2 : Shape := ⟨2, ![1024, 2]⟩
abbrev S_ : Shape := ⟨0, ![]⟩
abbrev S1024x120 : Shape := ⟨2, ![1024, 120]⟩
abbrev S1024x2176 : Shape := ⟨2, ![1024, 2176]⟩
abbrev S16384x1536 : Shape := ⟨2, ![16384, 1536]⟩
abbrev S16384x512 : Shape := ⟨2, ![16384, 512]⟩
abbrev S16384x2048 : Shape := ⟨2, ![16384, 2048]⟩
abbrev S16384x8 : Shape := ⟨2, ![16384, 8]⟩
abbrev S16384x120 : Shape := ⟨2, ![16384, 120]⟩
abbrev S16384x128 : Shape := ⟨2, ![16384, 128]⟩
abbrev S1x1024 : Shape := ⟨2, ![1, 1024]⟩
abbrev S512x2048 : Shape := ⟨2, ![512, 2048]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x2176 : Shape := ⟨2, ![512, 2176]⟩

abbrev nBuf : Space → Nat
  | .hbm => 46
  | .vmem => 14
  | .smem => 0
  | _ => 0

abbrev bufTy : (tb : Table) → Fin (tcTables nBuf tb) → BufTy
  | .hbm, ⟨0, _⟩ => ⟨S16384x2056, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x2056, .f32⟩
  | .hbm, ⟨5, _⟩ => ⟨S1024x514, .f32⟩
  | .hbm, ⟨6, _⟩ => ⟨S1024x514, .f32⟩
  | .hbm, ⟨7, _⟩ => ⟨S1024x514, .f32⟩
  | .hbm, ⟨8, _⟩ => ⟨S1024x514, .f32⟩
  | .hbm, ⟨9, _⟩ => ⟨S1x1024x514, .f32⟩
  | .hbm, ⟨10, _⟩ => ⟨S1x1024x514, .f32⟩
  | .hbm, ⟨11, _⟩ => ⟨S1x1024x514, .f32⟩
  | .hbm, ⟨12, _⟩ => ⟨S1x1024x514, .f32⟩
  | .hbm, ⟨13, _⟩ => ⟨S4x1024x514, .f32⟩
  | .hbm, ⟨14, _⟩ => ⟨S4x1024x514, .bf16⟩
  | .hbm, ⟨15, _⟩ => ⟨S1x1024x514, .bf16⟩
  | .hbm, ⟨16, _⟩ => ⟨S1024x514, .bf16⟩
  | .hbm, ⟨17, _⟩ => ⟨S1x1024x514, .bf16⟩
  | .hbm, ⟨18, _⟩ => ⟨S1024x514, .bf16⟩
  | .hbm, ⟨19, _⟩ => ⟨S1x1024x514, .bf16⟩
  | .hbm, ⟨20, _⟩ => ⟨S1024x514, .bf16⟩
  | .hbm, ⟨21, _⟩ => ⟨S1024x508, .bf16⟩
  | .hbm, ⟨22, _⟩ => ⟨S1x1024x514, .bf16⟩
  | .hbm, ⟨23, _⟩ => ⟨S1024x514, .bf16⟩
  | .hbm, ⟨24, _⟩ => ⟨S1024x512, .bf16⟩
  | .hbm, ⟨25, _⟩ => ⟨S1x1024x514, .bf16⟩
  | .hbm, ⟨26, _⟩ => ⟨S1024x514, .bf16⟩
  | .hbm, ⟨27, _⟩ => ⟨S1024x6, .bf16⟩
  | .hbm, ⟨28, _⟩ => ⟨S1x1024x514, .bf16⟩
  | .hbm, ⟨29, _⟩ => ⟨S1024x514, .bf16⟩
  | .hbm, ⟨30, _⟩ => ⟨S1024x2, .bf16⟩
  | .hbm, ⟨31, _⟩ => ⟨S_, .bf16⟩
  | .hbm, ⟨32, _⟩ => ⟨S1024x120, .bf16⟩
  | .hbm, ⟨33, _⟩ => ⟨S1024x2176, .bf16⟩
  | .hbm, ⟨34, _⟩ => ⟨S16384x1536, .f32⟩
  | .hbm, ⟨35, _⟩ => ⟨S16384x512, .f32⟩
  | .hbm, ⟨36, _⟩ => ⟨S16384x2048, .f32⟩
  | .hbm, ⟨37, _⟩ => ⟨S16384x2048, .bf16⟩
  | .hbm, ⟨38, _⟩ => ⟨S16384x8, .f32⟩
  | .hbm, ⟨39, _⟩ => ⟨S_, .f32⟩
  | .hbm, ⟨40, _⟩ => ⟨S16384x120, .f32⟩
  | .hbm, ⟨41, _⟩ => ⟨S16384x128, .f32⟩
  | .hbm, ⟨42, _⟩ => ⟨S1x1024, .f32⟩
  | .hbm, ⟨43, _⟩ => ⟨S16384x1024, .f32⟩
  | .hbm, ⟨44, _⟩ => ⟨S1024x2176, .f32⟩
  | .hbm, ⟨45, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x2176, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x2176, .f32⟩
  | _, _ => ⟨S16384x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S16384x2056 : Shape := ⟨2, ![16384, 2056]⟩
abbrev S16384x1024 : Shape := ⟨2, ![16384, 1024]⟩
abbrev S1024 : Shape := ⟨1, ![1024]⟩
abbrev S1024x2056 : Shape := ⟨2, ![1024, 2056]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2056x1024 : Shape := ⟨2, ![2056, 1024]⟩
abbrev S1024x1536 : Shape := ⟨2, ![1024, 1536]⟩
abbrev S1024x512 : Shape := ⟨2, ![1024, 512]⟩
abbrev S1024x8 : Shape := ⟨2, ![1024, 8]⟩
abbrev S1024x120 : Shape := ⟨2, ![1024, 120]⟩
abbrev S1024x2176 : Shape := ⟨2, ![1024, 2176]⟩

abbrev nBuf : Space → Nat
  | .hbm => 62
  | .vmem => 0
  | .smem => 0
  | _ => 0

abbrev bufTy : (tb : Table) → Fin (tcTables nBuf tb) → BufTy
  | .hbm, ⟨0, _⟩ => ⟨S16384x2056, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x2056, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2056, .f32⟩
  | .hbm, ⟨26, _⟩ => ⟨S2056x1024, .f32⟩
  | .hbm, ⟨27, _⟩ => ⟨S1024x2056, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1024x1536, .f32⟩
  | .hbm, ⟨56, _⟩ => ⟨S1024x512, .f32⟩
  | .hbm, ⟨57, _⟩ => ⟨S1024x8, .f32⟩
  | .hbm, ⟨58, _⟩ => ⟨S_, .f32⟩
  | .hbm, ⟨59, _⟩ => ⟨S1024x120, .f32⟩
  | .hbm, ⟨60, _⟩ => ⟨S1024x2176, .f32⟩
  | .hbm, ⟨61, _⟩ => ⟨S1x1024, .f32⟩
  | _, _ => ⟨S16384x2056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1024x1408 : Shape := ⟨2, ![1024, 1408]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S3x1408 : Shape := ⟨2, ![3, 1408]⟩
abbrev S3x2816 : Shape := ⟨2, ![3, 2816]⟩
abbrev S1x3x2816 : Shape := ⟨3, ![1, 3, 2816]⟩
abbrev S2x3x2816 : Shape := ⟨3, ![2, 3, 2816]⟩
abbrev S1x5632 : Shape := ⟨2, ![1, 5632]⟩
abbrev S1x1408 : Shape := ⟨2, ![1, 1408]⟩
abbrev S1x2816 : Shape := ⟨2, ![1, 2816]⟩
abbrev S1x1x2816 : Shape := ⟨3, ![1, 1, 2816]⟩
abbrev S2x1x2816 : Shape := ⟨3, ![2, 1, 2816]⟩
abbrev S2x1408x1024 : Shape := ⟨3, ![2, 1408, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x16384x2816 : Shape := ⟨3, ![1, 16384, 2816]⟩
abbrev S2x16384x2816 : Shape := ⟨3, ![2, 16384, 2816]⟩
abbrev S2x16384x1024 : Shape := ⟨3, ![2, 16384, 1024]⟩
abbrev S4x1024x1408 : Shape := ⟨3, ![4, 1024, 1408]⟩
abbrev S256x1024 : Shape := ⟨2, ![256, 1024]⟩
abbrev S16x1024 : Shape := ⟨2, ![16, 1024]⟩
abbrev S1x256x2816 : Shape := ⟨3, ![1, 256, 2816]⟩
abbrev S1x16x2816 : Shape := ⟨3, ![1, 16, 2816]⟩
abbrev S1x1408x1024 : Shape := ⟨3, ![1, 1408, 1024]⟩
abbrev S1x256x1024 : Shape := ⟨3, ![1, 256, 1024]⟩
abbrev S288x2816 : Shape := ⟨2, ![288, 2816]⟩
abbrev S272x2816 : Shape := ⟨2, ![272, 2816]⟩
abbrev S1408x1024 : Shape := ⟨2, ![1408, 1024]⟩
abbrev S256 : Shape := ⟨1, ![256]⟩
abbrev S256x1 : Shape := ⟨2, ![256, 1]⟩
abbrev S16x2816 : Shape := ⟨2, ![16, 2816]⟩
abbrev S256x2816 : Shape := ⟨2, ![256, 2816]⟩
abbrev S272x1024 : Shape := ⟨2, ![272, 1024]⟩
abbrev S272x1408 : Shape := ⟨2, ![272, 1408]⟩
abbrev S256x1408 : Shape := ⟨2, ![256, 1408]⟩
abbrev S2816 : Shape := ⟨1, ![2816]⟩
abbrev S1x1024x1408 : Shape := ⟨3, ![1, 1024, 1408]⟩

abbrev nBuf : Space → Nat
  | .hbm => 70
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1x1024, .f32⟩
  | .hbm, ⟨8, _⟩ => ⟨S1024x5632, .bf16⟩
  | .hbm, ⟨9, _⟩ => ⟨S1024x1408, .bf16⟩
  | .hbm, ⟨10, _⟩ => ⟨S1024x1408, .bf16⟩
  | .hbm, ⟨11, _⟩ => ⟨S1024x2816, .bf16⟩
  | .hbm, ⟨12, _⟩ => ⟨S1024x1408, .bf16⟩
  | .hbm, ⟨13, _⟩ => ⟨S1024x1408, .bf16⟩
  | .hbm, ⟨14, _⟩ => ⟨S1024x2816, .bf16⟩
  | .hbm, ⟨15, _⟩ => ⟨S1x1024x2816, .bf16⟩
  | .hbm, ⟨16, _⟩ => ⟨S1x1024x2816, .bf16⟩
  | .hbm, ⟨17, _⟩ => ⟨S2x1024x2816, .bf16⟩
  | .hbm, ⟨18, _⟩ => ⟨S3x1408, .f32⟩
  | .hbm, ⟨19, _⟩ => ⟨S3x1408, .f32⟩
  | .hbm, ⟨20, _⟩ => ⟨S3x2816, .f32⟩
  | .hbm, ⟨21, _⟩ => ⟨S3x1408, .f32⟩
  | .hbm, ⟨22, _⟩ => ⟨S3x1408, .f32⟩
  | .hbm, ⟨23, _⟩ => ⟨S3x2816, .f32⟩
  | .hbm, ⟨24, _⟩ => ⟨S1x3x2816, .f32⟩
  | .hbm, ⟨25, _⟩ => ⟨S1x3x2816, .f32⟩
  | .hbm, ⟨26, _⟩ => ⟨S2x3x2816, .f32⟩
  | .hbm, ⟨27, _⟩ => ⟨S1x5632, .f32⟩
  | .hbm, ⟨28, _⟩ => ⟨S1x1408, .f32⟩
  | .hbm, ⟨29, _⟩ => ⟨S1x1408, .f32⟩
  | .hbm, ⟨30, _⟩ => ⟨S1x2816, .f32⟩
  | .hbm, ⟨31, _⟩ => ⟨S1x1408, .f32⟩
  | .hbm, ⟨32, _⟩ => ⟨S1x1408, .f32⟩
  | .hbm, ⟨33, _⟩ => ⟨S1x2816, .f32⟩
  | .hbm, ⟨34, _⟩ => ⟨S1x1x2816, .f32⟩
  | .hbm, ⟨35, _⟩ => ⟨S1x1x2816, .f32⟩
  | .hbm, ⟨36, _⟩ => ⟨S2x1x2816, .f32⟩
  | .hbm, ⟨37, _⟩ => ⟨S2816x1024, .bf16⟩
  | .hbm, ⟨38, _⟩ => ⟨S2x1408x1024, .bf16⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .bf16⟩
  | .hbm, ⟨55, _⟩ => ⟨S1x1024x2816, .bf16⟩
  | .hbm, ⟨56, _⟩ => ⟨S1024x2816, .bf16⟩
  | .hbm, ⟨57, _⟩ => ⟨S16384x2816, .f32⟩
  | .hbm, ⟨58, _⟩ => ⟨S1x1024x2816, .bf16⟩
  | .hbm, ⟨59, _⟩ => ⟨S1024x2816, .bf16⟩
  | .hbm, ⟨60, _⟩ => ⟨S16384x2816, .f32⟩
  | .hbm, ⟨61, _⟩ => ⟨S1x16384x2816, .f32⟩
  | .hbm, ⟨62, _⟩ => ⟨S1x16384x2816, .f32⟩
  | .hbm, ⟨63, _⟩ => ⟨S2x16384x2816, .f32⟩
  | .hbm, ⟨64, _⟩ => ⟨S2x16384x2816, .bf16⟩
  | .hbm, ⟨65, _⟩ => ⟨S2x16384x1024, .f32⟩
  | .hbm, ⟨66, _⟩ => ⟨S4x1024x1408, .f32⟩
  | .hbm, ⟨67, _⟩ => ⟨S2x1408x1024, .f32⟩
  | .hbm, ⟨68, _⟩ => ⟨S2x3x2816, .f32⟩
  | .hbm, ⟨69, _⟩ => ⟨S2x1x2816, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .f32⟩
  | .local _ .vmem, ⟨5, _⟩ => ⟨S256x1024, .f32⟩
  | .local _ .vmem, ⟨6, _⟩ => ⟨S1x256x2816, .bf16⟩
  | .local _ .vmem, ⟨7, _⟩ => ⟨S1x256x2816, .bf16⟩
  | .local _ .vmem, ⟨8, _⟩ => ⟨S1x16x2816, .bf16⟩
  | .local _ .vmem, ⟨9, _⟩ => ⟨S1x16x2816, .bf16⟩
  | .local _ .vmem, ⟨10, _⟩ => ⟨S1x16x2816, .bf16⟩
  | .local _ .vmem, ⟨11, _⟩ => ⟨S1x16x2816, .bf16⟩
  | .local _ .vmem, ⟨12, _⟩ => ⟨S1x1024, .f32⟩
  | .local _ .vmem, ⟨13, _⟩ => ⟨S1x1024x2816, .bf16⟩
  | .local _ .vmem, ⟨14, _⟩ => ⟨S1x3x2816, .f32⟩
  | .local _ .vmem, ⟨15, _⟩ => ⟨S1x3x2816, .f32⟩
  | .local _ .vmem, ⟨16, _⟩ => ⟨S1x1x2816, .f32⟩
  | .local _ .vmem, ⟨17, _⟩ => ⟨S1x1x2816, .f32⟩
  | .local _ .vmem, ⟨18, _⟩ => ⟨S1x1408x1024, .bf16⟩
  | .local _ .vmem, ⟨19, _⟩ => ⟨S1x1408x1024, .bf16⟩
  | .local _ .vmem, ⟨20, _⟩ => ⟨S1x256x1024, .f32⟩
  | .local _ .vmem, ⟨21, _⟩ => ⟨S1x256x1024, .f32⟩
  | .local _ .vmem, ⟨22, _⟩ => ⟨S1x3x2816, .f32⟩
  | .local _ .vmem, ⟨23, _⟩ => ⟨S1x3x2816, .f32⟩
  | .local _ .vmem, ⟨24, _⟩ => ⟨S1x1x2816, .f32⟩
  | .local _ .vmem, ⟨25, _⟩ => ⟨S1x1x2816, .f32⟩
  | .local _ .vmem, ⟨26, _⟩ => ⟨S288x2816, .f32⟩
  | .local _ .vmem, ⟨27, _⟩ => ⟨S272x2816, .f32⟩
  | .local _ .vmem, ⟨28, _⟩ => ⟨S1024x2816, .f32⟩
  | .local _ .vmem, ⟨29, _⟩ => ⟨S1408x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55_0 : Ref sig .tc := ⟨.hbm, 65, rfl⟩
abbrev main_v55_1 : Ref sig .tc := ⟨.hbm, 66, rfl⟩
abbrev main_v55_2 : Ref sig .tc := ⟨.hbm, 67, rfl⟩
abbrev main_v55_3 : Ref sig .tc := ⟨.hbm, 68, rfl⟩
abbrev main_v55_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32_105 : BitVec 32 := 63#32
  let v178 : BitVec 1 := Scalar.cmpi .eq arg1 c63_i32_105
  let v179 : BitVec 32 := Scalar.extui v178
  let c0_i32_106 : BitVec 32 := 0#32
  let v180 : BitVec 1 := Scalar.cmpi .ne v179 c0_i32_106
  v180

def k0_off1 (i : grid0.Coords) : Fin 3 → Nat :=
  let arg0 : BitVec 32 := BitVec.ofNat 32 (i 0).val
  let c0_i32_107_r0 : BitVec 32 := 0#32
  let c0_i32_108_r0 : BitVec 32 := 0#32
  ![arg0.toNat, 0, 0]
def k0_off2 (i : grid0.Coords) : Fin 3 → Nat :=
  let c2_i32 : BitVec 32 := 2#32
  let arg0 : BitVec 32 := BitVec.ofNat 32 (i 0).val
  let v181 : BitVec 32 := Scalar.addi c2_i32 arg0
  let c0_i32_107_r1 : BitVec 32 := 0#32
  let c0_i32_108_r1 : BitVec 32 := 0#32
  ![v181.toNat, 0, 0]
def k0_off3 (i : grid0.Coords) : Fin 3 → Nat :=
  let arg0 : BitVec 32 := BitVec.ofNat 32 (i 0).val
  let c0_i32_107_r2 : BitVec 32 := 0#32
  let c0_i32_108_r2 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1x3x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1408x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Kernel6Ideal.lean ====
variable {F : FTy → Type} [FloatOps F] [Named F]
def κ : String → Option EReal := fun
  | "gelu_c2" => some ((80338380498831 / 2251799813685248 : ℝ) : EReal)
  | "gelu_c3" => some ((241015141496493 / 2251799813685248 : ℝ) : EReal)
  | _ => none
-- ==== Reference6Ideal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x16384x1024 : Shape := ⟨3, ![1, 16384, 1024]⟩
abbrev S2x16384x1024 : Shape := ⟨3, ![2, 16384, 1024]⟩
abbrev S1024x1408 : Shape := ⟨2, ![1024, 1408]⟩
abbrev S16384x1408 : Shape := ⟨2, ![16384, 1408]⟩
abbrev S16384x5632 : Shape := ⟨2, ![16384, 5632]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩
abbrev S3x1408 : Shape := ⟨2, ![3, 1408]⟩
abbrev S1x1408 : Shape := ⟨2, ![1, 1408]⟩
abbrev S3x2816 : Shape := ⟨2, ![3, 2816]⟩
abbrev S1x3x2816 : Shape := ⟨3, ![1, 3, 2816]⟩
abbrev S2x3x2816 : Shape := ⟨3, ![2, 3, 2816]⟩
abbrev S1x2816 : Shape := ⟨2, ![1, 2816]⟩
abbrev S1x1x2816 : Shape := ⟨3, ![1, 1, 2816]⟩
abbrev S2x1x2816 : Shape := ⟨3, ![2, 1, 2816]⟩

abbrev nBuf : Space → Nat
  | .hbm => 214
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x5632, .f32⟩
  | 4 => ⟨S3x5632, .f32⟩
  | 5 => ⟨S5632, .f32⟩
  | 6 => ⟨S2816x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S1x16384x1024, .f32⟩
  | 24 => ⟨S1x16384x1024, .f32⟩
  | 25 => ⟨S2x16384x1024, .f32⟩
  | 26 => ⟨S1x16384x1024, .f32⟩
  | 27 => ⟨S16384x1024, .f32⟩
  | 28 => ⟨S1024x1408, .f32⟩
  | 29 => ⟨S16384x1408, .f32⟩
  | 30 => ⟨S1x16384x1024, .f32⟩
  | 31 => ⟨S16384x1024, .f32⟩
  | 32 => ⟨S1024x1408, .f32⟩
  | 33 => ⟨S16384x1408, .f32⟩
  | 34 => ⟨S1x16384x1024, .f32⟩
  | 35 => ⟨S16384x1024, .f32⟩
  | 36 => ⟨S1024x1408, .f32⟩
  | 37 => ⟨S16384x1408, .f32⟩
  | 38 => ⟨S1x16384x1024, .f32⟩
  | 39 => ⟨S16384x1024, .f32⟩
  | 40 => ⟨S1024x1408, .f32⟩
  | 41 => ⟨S16384x1408, .f32⟩
  | 42 => ⟨S16384x5632, .f32⟩
  | 43 => ⟨S_, .f32⟩
  | 44 => ⟨S2x5632, .f32⟩
  | 45 => ⟨S16386x5632, .f32⟩
  | 46 => ⟨S_, .f32⟩
  | 47 => ⟨S2x5632, .f32⟩
  | 48 => ⟨S16384x5632, .f32⟩
  | 49 => ⟨S1x5632, .f32⟩
  | 50 => ⟨S5632, .f32⟩
  | 51 => ⟨S1x5632, .f32⟩
  | 52 => ⟨S16384x5632, .f32⟩
  | 53 => ⟨S16384x5632, .f32⟩
  | 54 => ⟨S1x5632, .f32⟩
  | 55 => ⟨S16384x5632, .f32⟩
  | 56 => ⟨S16384x5632, .f32⟩
  | 57 => ⟨S16384x5632, .f32⟩
  | 58 => ⟨S1x5632, .f32⟩
  | 59 => ⟨S5632, .f32⟩
  | 60 => ⟨S1x5632, .f32⟩
  | 61 => ⟨S16384x5632, .f32⟩
  | 62 => ⟨S16384x5632, .f32⟩
  | 63 => ⟨S16384x5632, .f32⟩
  | 64 => ⟨S16384x5632, .f32⟩
  | 65 => ⟨S1x5632, .f32⟩
  | 66 => ⟨S5632, .f32⟩
  | 67 => ⟨S1x5632, .f32⟩
  | 68 => ⟨S16384x5632, .f32⟩
  | 69 => ⟨S16384x5632, .f32⟩
  | 70 => ⟨S16384x5632, .f32⟩
  | 71 => ⟨S16384x2816, .f32⟩
  | 72 => ⟨S16384x2816, .f32⟩
  | 73 => ⟨S16384x2816, .f32⟩
  | 74 => ⟨S16384x2816, .f32⟩
  | 75 => ⟨S16384x2816, .f32⟩
  | 76 => ⟨S_, .f32⟩
  | 77 => ⟨S16384x2816, .f32⟩
  | 78 => ⟨S16384x2816, .f32⟩
  | 79 => ⟨S_, .f32⟩
  | 80 => ⟨S16384x2816, .f32⟩
  | 81 => ⟨S16384x2816, .f32⟩
  | 82 => ⟨S16384x2816, .f32⟩
  | 83 => ⟨S_, .f32⟩
  | 84 => ⟨S16384x2816, .f32⟩
  | 85 => ⟨S16384x2816, .f32⟩
  | 86 => ⟨S16384x2816, .f32⟩
  | 87 => ⟨S_, .f32⟩
  | 88 => ⟨S16384x2816, .f32⟩
  | 89 => ⟨S16384x2816, .f32⟩
  | 90 => ⟨S_, .f32⟩
  | 91 => ⟨S16384x2816, .f32⟩
  | 92 => ⟨S16384x2816, .f32⟩
  | 93 => ⟨S16384x2816, .f32⟩
  | 94 => ⟨S_, .f32⟩
  | 95 => ⟨S16384x2816, .f32⟩
  | 96 => ⟨S16384x2816, .f32⟩
  | 97 => ⟨S_, .f32⟩
  | 98 => ⟨S16384x2816, .f32⟩
  | 99 => ⟨S16384x2816, .f32⟩
  | 100 => ⟨S16384x2816, .f32⟩
  | 101 => ⟨S16384x2816, .f32⟩
  | 102 => ⟨S16384x1024, .f32⟩
  | 103 => ⟨S16384x2816, .f32⟩
  | 104 => ⟨S16384x2816, .f32⟩
  | 105 => ⟨S16384x2816, .f32⟩
  | 106 => ⟨S16384x2816, .f32⟩
  | 107 => ⟨S16384x2816, .f32⟩
  | 108 => ⟨S_, .f32⟩
  | 109 => ⟨S16384x2816, .f32⟩
  | 110 => ⟨S16384x2816, .f32⟩
  | 111 => ⟨S16384x2816, .f32⟩
  | 112 => ⟨S_, .f32⟩
  | 113 => ⟨S16384x2816, .f32⟩
  | 114 => ⟨S16384x2816, .f32⟩
  | 115 => ⟨S16384x2816, .f32⟩
  | 116 => ⟨S_, .f32⟩
  | 117 => ⟨S16384x2816, .f32⟩
  | 118 => ⟨S16384x2816, .f32⟩
  | 119 => ⟨S16384x2816, .f32⟩
  | 120 => ⟨S16384x2816, .f32⟩
  | 121 => ⟨S16384x5632, .f32⟩
  | 122 => ⟨S16384x5632, .f32⟩
  | 123 => ⟨S_, .f32⟩
  | 124 => ⟨S5632, .f32⟩
  | 125 => ⟨S1x5632, .f32⟩
  | 126 => ⟨S16384x5632, .f32⟩
  | 127 => ⟨S16384x5632, .f32⟩
  | _ => ⟨S16384x1024, .f32⟩

abbrev hbmTy0_1 (i : Nat) : BufTy := match i % 128 with
  | 0 => ⟨S_, .f32⟩
  | 1 => ⟨S5632, .f32⟩
  | 2 => ⟨S1x5632, .f32⟩
  | 3 => ⟨S_, .f32⟩
  | 4 => ⟨S3x5632, .f32⟩
  | 5 => ⟨S_, .f32⟩
  | 6 => ⟨S16386x5632, .f32⟩
  | 7 => ⟨S16384x5632, .f32⟩
  | 8 => ⟨S_, .f32⟩
  | 9 => ⟨S5632, .f32⟩
  | 10 => ⟨S1x5632, .f32⟩
  | 11 => ⟨S16384x5632, .f32⟩
  | 12 => ⟨S16384x5632, .f32⟩
  | 13 => ⟨S_, .f32⟩
  | 14 => ⟨S5632, .f32⟩
  | 15 => ⟨S1x5632, .f32⟩
  | 16 => ⟨S_, .f32⟩
  | 17 => ⟨S3x5632, .f32⟩
  | 18 => ⟨S3x5632, .f32⟩
  | 19 => ⟨S_, .f32⟩
  | 20 => ⟨S16386x5632, .f32⟩
  | 21 => ⟨S16386x5632, .f32⟩
  | 22 => ⟨S_, .f32⟩
  | 23 => ⟨S5632, .f32⟩
  | 24 => ⟨S1x5632, .f32⟩
  | 25 => ⟨S_, .f32⟩
  | 26 => ⟨S5632, .f32⟩
  | 27 => ⟨S16384x5632, .f32⟩
  | 28 => ⟨S_, .f32⟩
  | 29 => ⟨S5632, .f32⟩
  | 30 => ⟨S1x5632, .f32⟩
  | 31 => ⟨S16384x5632, .f32⟩
  | 32 => ⟨S16384x5632, .f32⟩
  | 33 => ⟨S_, .f32⟩
  | 34 => ⟨S5632, .f32⟩
  | 35 => ⟨S1x5632, .f32⟩
  | 36 => ⟨S_, .f32⟩
  | 37 => ⟨S3x5632, .f32⟩
  | 38 => ⟨S3x5632, .f32⟩
  | 39 => ⟨S_, .f32⟩
  | 40 => ⟨S16386x5632, .f32⟩
  | 41 => ⟨S16386x5632, .f32⟩
  | 42 => ⟨S2x5632, .f32⟩
  | 43 => ⟨S16384x5632, .f32⟩
  | 44 => ⟨S16384x1408, .f32⟩
  | 45 => ⟨S16384x1408, .f32⟩
  | 46 => ⟨S16384x1408, .f32⟩
  | 47 => ⟨S16384x1408, .f32⟩
  | 48 => ⟨S16384x1024, .f32⟩
  | 49 => ⟨S1x16384x1024, .f32⟩
  | 50 => ⟨S_, .f32⟩
  | 51 => ⟨S2x16384x1024, .f32⟩
  | 52 => ⟨S16384x1024, .f32⟩
  | 53 => ⟨S1x16384x1024, .f32⟩
  | 54 => ⟨S_, .f32⟩
  | 55 => ⟨S2x16384x1024, .f32⟩
  | 56 => ⟨S2x16384x1024, .f32⟩
  | 57 => ⟨S16384x1024, .f32⟩
  | 58 => ⟨S1x16384x1024, .f32⟩
  | 59 => ⟨S_, .f32⟩
  | 60 => ⟨S2x16384x1024, .f32⟩
  | 61 => ⟨S2x16384x1024, .f32⟩
  | 62 => ⟨S16384x1024, .f32⟩
  | 63 => ⟨S1x16384x1024, .f32⟩
  | 64 => ⟨S_, .f32⟩
  | 65 => ⟨S2x16384x1024, .f32⟩
  | 66 => ⟨S2x16384x1024, .f32⟩
  | 67 => ⟨S3x1408, .f32⟩
  | 68 => ⟨S3x1408, .f32⟩
  | 69 => ⟨S3x1408, .f32⟩
  | 70 => ⟨S3x1408, .f32⟩
  | 71 => ⟨S1x5632, .f32⟩
  | 72 => ⟨S1x1408, .f32⟩
  | 73 => ⟨S1x1408, .f32⟩
  | 74 => ⟨S1x1408, .f32⟩
  | 75 => ⟨S1x1408, .f32⟩
  | 76 => ⟨S3x2816, .f32⟩
  | 77 => ⟨S3x2816, .f32⟩
  | 78 => ⟨S1x3x2816, .f32⟩
  | 79 => ⟨S1x3x2816, .f32⟩
  | 80 => ⟨S2x3x2816, .f32⟩
  | 81 => ⟨S1x2816, .f32⟩
  | 82 => ⟨S1x2816, .f32⟩
  | 83 => ⟨S1x1x2816, .f32⟩
  | 84 => ⟨S1x1x2816, .f32⟩
  | 85 => ⟨S2x1x2816, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_12 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_13 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_15 : Ref sig .tc := ⟨.hbm, 128, rfl⟩
abbrev main_v105 : Ref sig .tc := ⟨.hbm, 129, rfl⟩
abbrev main_v106 : Ref sig .tc := ⟨.hbm, 130, rfl⟩
abbrev main_cst_16 : Ref sig .tc := ⟨.hbm, 131, rfl⟩
abbrev main_v107 : Ref sig .tc := ⟨.hbm, 132, rfl⟩
abbrev main_cst_17 : Ref sig .tc := ⟨.hbm, 133, rfl⟩
abbrev main_v108 : Ref sig .tc := ⟨.hbm, 134, rfl⟩
abbrev main_v109 : Ref sig .tc := ⟨.hbm, 135, rfl⟩
abbrev main_cst_18 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_19 : Ref sig .tc := ⟨.hbm, 141, rfl⟩
abbrev main_v114 : Ref sig .tc := ⟨.hbm, 142, rfl⟩
abbrev main_v115 : Ref sig .tc := ⟨.hbm, 143, rfl⟩
abbrev main_cst_20 : Ref sig .tc := ⟨.hbm, 144, rfl⟩
abbrev main_v116 : Ref sig .tc := ⟨.hbm, 145, rfl⟩
abbrev main_v117 : Ref sig .tc := ⟨.hbm, 146, rfl⟩
abbrev main_cst_21 : Ref sig .tc := ⟨.hbm, 147, rfl⟩
abbrev main_v118 : Ref sig .tc := ⟨.hbm, 148, rfl⟩
abbrev main_v119 : Ref sig .tc := ⟨.hbm, 149, rfl⟩
abbrev main_cst_22 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_cst_24 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_25 : Ref sig .tc := ⟨.hbm, 161, rfl⟩
abbrev main_v128 : Ref sig .tc := ⟨.hbm, 162, rfl⟩
abbrev main_v129 : Ref sig .tc := ⟨.hbm, 163, rfl⟩
abbrev main_cst_26 : Ref sig .tc := ⟨.hbm, 164, rfl⟩
abbrev main_v130 : Ref sig .tc := ⟨.hbm, 165, rfl⟩
abbrev main_v131 : Ref sig .tc := ⟨.hbm, 166, rfl⟩
abbrev main_cst_27 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_28 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_29 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_30 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_31 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x2056 : Shape := ⟨2, ![1024, 2056]⟩
abbrev S1024x514 : Shape := ⟨2, ![1024, 514]⟩
abbrev S1x1024x514 : Shape := ⟨3, ![1, 1024, 514]⟩
abbrev S4x1024x514 : Shape := ⟨3, ![4, 1024, 514]⟩
abbrev S1024x508 : Shape := ⟨2, ![1024, 508]⟩
abbrev S1024x512 : Shape := ⟨2, ![1024, 512]⟩
abbrev S1024x6 : Shape := ⟨2, ![1024, 6]⟩
abbrev S1024x2 : Shape := ⟨2, ![1024, 2]⟩
abbrev S_ : Shape := ⟨0, ![]⟩
abbrev S1024x120 : Shape := ⟨2, ![1024, 120]⟩
abbrev S1024x2176 : Shape := ⟨2, ![1024, 2176]⟩
abbrev S1x1024 : Shape := ⟨2, ![1, 1024]⟩
abbrev S16384x2048 : Shape := ⟨2, ![16384, 2048]⟩
abbrev S16384x128 : Shape := ⟨2, ![16384, 128]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x2176 : Shape := ⟨2, ![512, 2176]⟩

abbrev nBuf : Space → Nat
  | .hbm => 35
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2056, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .hbm, ⟨7, _⟩ => ⟨S1x1024x514, .f32⟩
  | .hbm, ⟨8, _⟩ => ⟨S1x1024x514, .f32⟩
  | .hbm, ⟨9, _⟩ => ⟨S1x1024x514, .f32⟩
  | .hbm, ⟨10, _⟩ => ⟨S1x1024x514, .f32⟩
  | .hbm, ⟨11, _⟩ => ⟨S4x1024x514, .f32⟩
  | .hbm, ⟨12, _⟩ => ⟨S4x1024x514, .bf16⟩
  | .hbm, ⟨13, _⟩ => ⟨S1x1024x514, .bf16⟩
  | .hbm, ⟨14, _⟩ => ⟨S1024x514, .bf16⟩
  | .hbm, ⟨15, _⟩ => ⟨S1x1024x514, .bf16⟩
  | .hbm, ⟨16, _⟩ => ⟨S1024x514, .bf16⟩
  | .hbm, ⟨17, _⟩ => ⟨S1x1024x514, .bf16⟩
  | .hbm, ⟨18, _⟩ => ⟨S1024x514, .bf16⟩
  | .hbm, ⟨19, _⟩ => ⟨S1024x508, .bf16⟩
  | .hbm, ⟨20, _⟩ => ⟨S1x1024x514, .bf16⟩
  | .hbm, ⟨21, _⟩ => ⟨S1024x514, .bf16⟩
  | .hbm, ⟨22, _⟩ => ⟨S1024x512, .bf16⟩
  | .hbm, ⟨23, _⟩ => ⟨S1x1024x514, .bf16⟩
  | .hbm, ⟨24, _⟩ => ⟨S1024x514, .bf16⟩
  | .hbm, ⟨25, _⟩ => ⟨S1024x6, .bf16⟩
  | .hbm, ⟨26, _⟩ => ⟨S1x1024x514, .bf16⟩
  | .hbm, ⟨27, _⟩ => ⟨S1024x514, .bf16⟩
  | .hbm, ⟨28, _⟩ => ⟨S1024x2, .bf16⟩
  | .hbm, ⟨29, _⟩ => ⟨S_, .bf16⟩
  | .hbm, ⟨30, _⟩ => ⟨S1024x120, .bf16⟩
  | .hbm, ⟨31, _⟩ => ⟨S1024x2176, .bf16⟩
  | .hbm, ⟨32, _⟩ => ⟨S1x1024, .f32⟩
  | .hbm, ⟨33, _⟩ => ⟨S16384x2048, .bf16⟩
  | .hbm, ⟨34, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29_0 : Ref sig .tc := ⟨.hbm, 33, rfl⟩
abbrev main_v29_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x1024 : Shape := ⟨2, ![16384, 1024]⟩
abbrev S1024 : Shape := ⟨1, ![1024]⟩
abbrev S1024x2056 : Shape := ⟨2, ![1024, 2056]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2056 : Shape := ⟨2, ![16384, 2056]⟩
abbrev S16384x1536 : Shape := ⟨2, ![16384, 1536]⟩
abbrev S16384x512 : Shape := ⟨2, ![16384, 512]⟩
abbrev S16384x2048 : Shape := ⟨2, ![16384, 2048]⟩
abbrev S16384x8 : Shape := ⟨2, ![16384, 8]⟩
abbrev S16384x120 : Shape := ⟨2, ![16384, 120]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2056, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2056, .f32⟩
  | .hbm, ⟨20, _⟩ => ⟨S16384x1536, .f32⟩
  | .hbm, ⟨21, _⟩ => ⟨S16384x512, .f32⟩
  | .hbm, ⟨22, _⟩ => ⟨S16384x2048, .f32⟩
  | .hbm, ⟨23, _⟩ => ⟨S16384x2048, .bf16⟩
  | .hbm, ⟨24, _⟩ => ⟨S16384x8, .f32⟩
  | .hbm, ⟨25, _⟩ => ⟨S_, .f32⟩
  | .hbm, ⟨26, _⟩ => ⟨S16384x120, .f32⟩
  | .hbm, ⟨27, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S16384x1024 : Shape := ⟨2, ![16384, 1024]⟩
abbrev S4x16384x256 : Shape := ⟨3, ![4, 16384, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S1x1024 : Shape := ⟨2, ![1, 1024]⟩
abbrev S1024x1408 : Shape := ⟨2, ![1024, 1408]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S3x1408 : Shape := ⟨2, ![3, 1408]⟩
abbrev S3x2816 : Shape := ⟨2, ![3, 2816]⟩
abbrev S1x3x2816 : Shape := ⟨3, ![1, 3, 2816]⟩
abbrev S2x3x2816 : Shape := ⟨3, ![2, 3, 2816]⟩
abbrev S1x5632 : Shape := ⟨2, ![1, 5632]⟩
abbrev S1x1408 : Shape := ⟨2, ![1, 1408]⟩
abbrev S1x2816 : Shape := ⟨2, ![1, 2816]⟩
abbrev S1x1x2816 : Shape := ⟨3, ![1, 1, 2816]⟩
abbrev S2x1x2816 : Shape := ⟨3, ![2, 1, 2816]⟩
abbrev S2x1408x1024 : Shape := ⟨3, ![2, 1408, 1024]⟩
abbrev S2x16384x2816 : Shape := ⟨3, ![2, 16384, 2816]⟩
abbrev S16x1024 : Shape := ⟨2, ![16, 1024]⟩
abbrev S1x256x256 : Shape := ⟨3, ![1, 256, 256]⟩
abbrev S2x256x2816 : Shape := ⟨3, ![2, 256, 2816]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩
abbrev S256x2816 : Shape := ⟨2, ![256, 2816]⟩
abbrev S1x256x2816 : Shape := ⟨3, ![1, 256, 2816]⟩
abbrev S256x1408 : Shape := ⟨2, ![256, 1408]⟩
abbrev S1x1408x1024 : Shape := ⟨3, ![1, 1408, 1024]⟩
abbrev S1408x1024 : Shape := ⟨2, ![1408, 1024]⟩
abbrev S256 : Shape := ⟨1, ![256]⟩
abbrev S256x1 : Shape := ⟨2, ![256, 1]⟩
abbrev S256x256 : Shape := ⟨2, ![256, 256]⟩

abbrev nBuf : Space → Nat
  | .hbm => 53
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S16384x1024, .bf16⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S1024x1408, .bf16⟩
  | .hbm, ⟨17, _⟩ => ⟨S1024x1408, .bf16⟩
  | .hbm, ⟨18, _⟩ => ⟨S1024x2816, .bf16⟩
  | .hbm, ⟨19, _⟩ => ⟨S1024x1408, .bf16⟩
  | .hbm, ⟨20, _⟩ => ⟨S1024x1408, .bf16⟩
  | .hbm, ⟨21, _⟩ => ⟨S1024x2816, .bf16⟩
  | .hbm, ⟨22, _⟩ => ⟨S1x1024x2816, .bf16⟩
  | .hbm, ⟨23, _⟩ => ⟨S1x1024x2816, .bf16⟩
  | .hbm, ⟨24, _⟩ => ⟨S2x1024x2816, .bf16⟩
  | .hbm, ⟨25, _⟩ => ⟨S3x1408, .f32⟩
  | .hbm, ⟨26, _⟩ => ⟨S3x1408, .f32⟩
  | .hbm, ⟨27, _⟩ => ⟨S3x2816, .f32⟩
  | .hbm, ⟨28, _⟩ => ⟨S3x1408, .f32⟩
  | .hbm, ⟨29, _⟩ => ⟨S3x1408, .f32⟩
  | .hbm, ⟨30, _⟩ => ⟨S3x2816, .f32⟩
  | .hbm, ⟨31, _⟩ => ⟨S1x3x2816, .f32⟩
  | .hbm, ⟨32, _⟩ => ⟨S1x3x2816, .f32⟩
  | .hbm, ⟨33, _⟩ => ⟨S2x3x2816, .f32⟩
  | .hbm, ⟨34, _⟩ => ⟨S1x5632, .f32⟩
  | .hbm, ⟨35, _⟩ => ⟨S1x1408, .f32⟩
  | .hbm, ⟨36, _⟩ => ⟨S1x1408, .f32⟩
  | .hbm, ⟨37, _⟩ => ⟨S1x2816, .f32⟩
  | .hbm, ⟨38, _⟩ => ⟨S1x1408, .f32⟩
  | .hbm, ⟨39, _⟩ => ⟨S1x1408, .f32⟩
  | .hbm, ⟨40, _⟩ => ⟨S1x2816, .f32⟩
  | .hbm, ⟨41, _⟩ => ⟨S1x1x2816, .f32⟩
  | .hbm, ⟨42, _⟩ => ⟨S1x1x2816, .f32⟩
  | .hbm, ⟨43, _⟩ => ⟨S2x1x2816, .f32⟩
  | .hbm, ⟨44, _⟩ => ⟨S2816x1024, .bf16⟩
  | .hbm, ⟨45, _⟩ => ⟨S2x1408x1024, .bf16⟩
  | .hbm, ⟨46, _⟩ => ⟨S1x1024, .f32⟩
  | .hbm, ⟨47, _⟩ => ⟨S1024x1024, .bf16⟩
  | .hbm, ⟨48, _⟩ => ⟨S256x1024, .bf16⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S2x16384x2816, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S1x256x256, .f32⟩
  | .local _ .vmem, ⟨9, _⟩ => ⟨S1x256x256, .f32⟩
  | .local _ .vmem, ⟨10, _⟩ => ⟨S1024x1024, .bf16⟩
  | .local _ .vmem, ⟨11, _⟩ => ⟨S1x1024, .f32⟩
  | .local _ .vmem, ⟨12, _⟩ => ⟨S2x1024x2816, .bf16⟩
  | .local _ .vmem, ⟨13, _⟩ => ⟨S2x3x2816, .f32⟩
  | .local _ .vmem, ⟨14, _⟩ => ⟨S2x1x2816, .f32⟩
  | .local _ .vmem, ⟨15, _⟩ => ⟨S2x1408x1024, .bf16⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S2x256x2816, .bf16⟩
  | .local _ .vmem, ⟨26, _⟩ => ⟨S2x256x2816, .bf16⟩
  | .local _ .vmem, ⟨27, _⟩ => ⟨S272x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1408x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel8Ideal.lean ====
variable {F : FTy → Type} [FloatOps F] [Named F]
def κ : String → Option EReal := fun
  | "gelu_c2" => some ((80338380498831 / 2251799813685248 : ℝ) : EReal)
  | _ => none
-- ==== Reference8Ideal.lean ====
abbrev S16384x1024 : Shape := ⟨2, ![16384, 1024]⟩
abbrev S4x16384x256 : Shape := ⟨3, ![4, 16384, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩
abbrev S1x16384x256 : Shape := ⟨3, ![1, 16384, 256]⟩
abbrev S16384x256 : Shape := ⟨2, ![16384, 256]⟩
abbrev S16384x1408 : Shape := ⟨2, ![16384, 1408]⟩
abbrev S1x16384x2816 : Shape := ⟨3, ![1, 16384, 2816]⟩
abbrev S2x16384x2816 : Shape := ⟨3, ![2, 16384, 2816]⟩

abbrev nBuf : Space → Nat
  | .hbm => 119
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024x1024, .f32⟩
  | .hbm, ⟨11, _⟩ => ⟨S256x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x5632, .f32⟩
  | .hbm, ⟨31, _⟩ => ⟨S_, .f32⟩
  | .hbm, ⟨32, _⟩ => ⟨S2x5632, .f32⟩
  | .hbm, ⟨33, _⟩ => ⟨S16386x5632, .f32⟩
  | .hbm, ⟨34, _⟩ => ⟨S16384x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S16384x5632, .f32⟩
  | .hbm, ⟨39, _⟩ => ⟨S16384x5632, .f32⟩
  | .hbm, ⟨40, _⟩ => ⟨S1x5632, .f32⟩
  | .hbm, ⟨41, _⟩ => ⟨S16384x5632, .f32⟩
  | .hbm, ⟨42, _⟩ => ⟨S16384x5632, .f32⟩
  | .hbm, ⟨43, _⟩ => ⟨S16384x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S16384x5632, .f32⟩
  | .hbm, ⟨51, _⟩ => ⟨S1x5632, .f32⟩
  | .hbm, ⟨52, _⟩ => ⟨S5632, .f32⟩
  | .hbm, ⟨53, _⟩ => ⟨S1x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S_, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S_, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x1024, .f32⟩
  | .hbm, ⟨78, _⟩ => ⟨S16384x1024, .f32⟩
  | .hbm, ⟨79, _⟩ => ⟨S1x16384x256, .f32⟩
  | .hbm, ⟨80, _⟩ => ⟨S16384x256, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S1x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | .hbm, ⟨109, _⟩ => ⟨S16384x1408, .f32⟩
  | .hbm, ⟨110, _⟩ => ⟨S16384x1408, .f32⟩
  | .hbm, ⟨111, _⟩ => ⟨S16384x1408, .f32⟩
  | .hbm, ⟨112, _⟩ => ⟨S16384x1408, .f32⟩
  | .hbm, ⟨113, _⟩ => ⟨S16384x2816, .f32⟩
  | .hbm, ⟨114, _⟩ => ⟨S16384x2816, .f32⟩
  | .hbm, ⟨115, _⟩ => ⟨S1x16384x2816, .f32⟩
  | .hbm, ⟨116, _⟩ => ⟨S1x16384x2816, .f32⟩
  | .hbm, ⟨117, _⟩ => ⟨S2x16384x2816, .f32⟩
  | .hbm, ⟨118, _⟩ => ⟨S2x16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== Kernel9.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S16384x2056 : Shape := ⟨2, ![16384, 2056]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S16384x1536 : Shape := ⟨2, ![16384, 1536]⟩
abbrev S16384x512 : Shape := ⟨2, ![16384, 512]⟩
abbrev S16384x2048 : Shape := ⟨2, ![16384, 2048]⟩
abbrev S16384x8 : Shape := ⟨2, ![16384, 8]⟩
abbrev S_ : Shape := ⟨0, ![]⟩
abbrev S16384x120 : Shape := ⟨2, ![16384, 120]⟩
abbrev S16384x128 : Shape := ⟨2, ![16384, 128]⟩
abbrev S1x1024 : Shape := ⟨2, ![1, 1024]⟩
abbrev S120 : Shape := ⟨1, ![120]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S16384x1024 : Shape := ⟨2, ![16384, 1024]⟩
abbrev S128x4x128x128 : Shape := ⟨4, ![128, 4, 128, 128]⟩
abbrev S128x2048 : Shape := ⟨2, ![128, 2048]⟩
abbrev S16x2048 : Shape := ⟨2, ![16, 2048]⟩
abbrev S128x128 : Shape := ⟨2, ![128, 128]⟩
abbrev S128x1024 : Shape := ⟨2, ![128, 1024]⟩
abbrev S1x4x128x128 : Shape := ⟨4, ![1, 4, 128, 128]⟩
abbrev S144x1024 : Shape := ⟨2, ![144, 1024]⟩
abbrev S144x512 : Shape := ⟨2, ![144, 512]⟩
abbrev S16x1024 : Shape := ⟨2, ![16, 1024]⟩
abbrev S16x512 : Shape := ⟨2, ![16, 512]⟩
abbrev S128x512 : Shape := ⟨2, ![128, 512]⟩
abbrev S128x1 : Shape := ⟨2, ![128, 1]⟩
abbrev S1x128x128 : Shape := ⟨3, ![1, 128, 128]⟩
abbrev S1x1x128x128 : Shape := ⟨4, ![1, 1, 128, 128]⟩
abbrev S128x256 : Shape := ⟨2, ![128, 256]⟩
abbrev S1x256 : Shape := ⟨2, ![1, 256]⟩

abbrev nBuf : Space → Nat
  | .hbm => 39
  | .vmem => 21
  | .smem => 0
  | _ => 0

abbrev bufTy : (tb : Table) → Fin (tcTables nBuf tb) → BufTy
  | .hbm, ⟨0, _⟩ => ⟨S16384x2056, .f32⟩
  | .hbm, ⟨1, _⟩ => ⟨S4x1024, .f32⟩
  | .hbm, ⟨2, _⟩ => ⟨S1024, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S4x128x128, .f32⟩
  | .hbm, ⟨8, _⟩ => ⟨S512, .f32⟩
  | .hbm, ⟨9, _⟩ => ⟨S16384x1536, .f32⟩
  | .hbm, ⟨10, _⟩ => ⟨S16384x512, .f32⟩
  | .hbm, ⟨11, _⟩ => ⟨S16384x2048, .f32⟩
  | .hbm, ⟨12, _⟩ => ⟨S16384x2048, .bf16⟩
  | .hbm, ⟨13, _⟩ => ⟨S16384x1536, .f32⟩
  | .hbm, ⟨14, _⟩ => ⟨S16384x512, .f32⟩
  | .hbm, ⟨15, _⟩ => ⟨S16384x2048, .f32⟩
  | .hbm, ⟨16, _⟩ => ⟨S16384x2048, .bf16⟩
  | .hbm, ⟨17, _⟩ => ⟨S16384x8, .f32⟩
  | .hbm, ⟨18, _⟩ => ⟨S_, .f32⟩
  | .hbm, ⟨19, _⟩ => ⟨S16384x120, .f32⟩
  | .hbm, ⟨20, _⟩ => ⟨S16384x128, .f32⟩
  | .hbm, ⟨21, _⟩ => ⟨S1x1024, .f32⟩
  | .hbm, ⟨22, _⟩ => ⟨S_, .f32⟩
  | .hbm, ⟨23, _⟩ => ⟨S120, .f32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S120, .f32⟩
  | .hbm, ⟨28, _⟩ => ⟨S128, .f32⟩
  | .hbm, ⟨29, _⟩ => ⟨S1x128, .f32⟩
  | .hbm, ⟨30, _⟩ => ⟨S8x64, .f32⟩
  | .hbm, ⟨31, _⟩ => ⟨S512, .f32⟩
  | .hbm, ⟨32, _⟩ => ⟨S1x512, .f32⟩
  | .hbm, ⟨33, _⟩ => ⟨S1x512, .f32⟩
  | .hbm, ⟨34, _⟩ => ⟨S4x128x128, .bf16⟩
  | .hbm, ⟨35, _⟩ => ⟨S1x512, .f32⟩
  | .hbm, ⟨36, _⟩ => ⟨S16384x1024, .bf16⟩
  | .hbm, ⟨37, _⟩ => ⟨S128x4x128x128, .f32⟩
  | .hbm, ⟨38, _⟩ => ⟨S16384x512, .bf16⟩
  | .local _ .vmem, ⟨0, _⟩ => ⟨S128x2048, .bf16⟩
  | .local _ .vmem, ⟨1, _⟩ => ⟨S128x2048, .bf16⟩
  | .local _ .vmem, ⟨2, _⟩ => ⟨S16x2048, .bf16⟩
  | .local _ .vmem, ⟨3, _⟩ => ⟨S16x2048, .bf16⟩
  | .local _ .vmem, ⟨4, _⟩ => ⟨S128x128, .f32⟩
  | .local _ .vmem, ⟨5, _⟩ => ⟨S128x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S4x128x128, .bf16⟩
  | .local _ .vmem, ⟨13, _⟩ => ⟨S1x512, .f32⟩
  | .local _ .vmem, ⟨14, _⟩ => ⟨S128x1024, .bf16⟩
  | .local _ .vmem, ⟨15, _⟩ => ⟨S128x1024, .bf16⟩
  | .local _ .vmem, ⟨16, _⟩ => ⟨S1x4x128x128, .f32⟩
  | .local _ .vmem, ⟨17, _⟩ => ⟨S1x4x128x128, .f32⟩
  | .local _ .vmem, ⟨18, _⟩ => ⟨S4x128x128, .f32⟩
  | .local _ .vmem, ⟨19, _⟩ => ⟨S144x1024, .f32⟩
  | .local _ .vmem, ⟨20, _⟩ => ⟨S144x512, .f32⟩
  | _, _ => ⟨S16384x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S16384x2056 : Shape := ⟨2, ![16384, 2056]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S16384x512 : Shape := ⟨2, ![16384, 512]⟩
abbrev S16384x1024 : Shape := ⟨2, ![16384, 1024]⟩
abbrev S16384x8 : Shape := ⟨2, ![16384, 8]⟩
abbrev S16384x4x128 : Shape := ⟨3, ![16384, 4, 128]⟩
abbrev S_ : Shape := ⟨0, ![]⟩
abbrev S16384 : Shape := ⟨1, ![16384]⟩
abbrev S16384x1x128 : Shape := ⟨3, ![16384, 1, 128]⟩
abbrev S16384x128 : Shape := ⟨2, ![16384, 128]⟩
abbrev S2x128 : Shape := ⟨2, ![2, 128]⟩
abbrev S16386x128 : Shape := ⟨2, ![16386, 128]⟩
abbrev S16384x1 : Shape := ⟨2, ![16384, 1]⟩
abbrev S4x128 : Shape := ⟨2, ![4, 128]⟩
abbrev S16388x128 : Shape := ⟨2, ![16388, 128]⟩
abbrev S8x128 : Shape := ⟨2, ![8, 128]⟩
abbrev S16392x128 : Shape := ⟨2, ![16392, 128]⟩
abbrev S16x128 : Shape := ⟨2, ![16, 128]⟩
abbrev S16400x128 : Shape := ⟨2, ![16400, 128]⟩
abbrev S4x128x16384 : Shape := ⟨3, ![4, 128, 16384]⟩
abbrev S1x512 : Shape := ⟨2, ![1, 512]⟩

abbrev nBuf : Space → Nat
  | .hbm => 98
  | .vmem => 0
  | .smem => 0
  | _ => 0

abbrev bufTy : (tb : Table) → Fin (tcTables nBuf tb) → BufTy
  | .hbm, ⟨0, _⟩ => ⟨S16384x2056, .f32⟩
  | .hbm, ⟨1, _⟩ => ⟨S4x1024, .f32⟩
  | .hbm, ⟨2, _⟩ => ⟨S1024, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S4x128x128, .f32⟩
  | .hbm, ⟨8, _⟩ => ⟨S512, .f32⟩
  | .hbm, ⟨9, _⟩ => ⟨S16384x512, .f32⟩
  | .hbm, ⟨10, _⟩ => ⟨S16384x1024, .f32⟩
  | .hbm, ⟨11, _⟩ => ⟨S16384x8, .f32⟩
  | .hbm, ⟨12, _⟩ => ⟨S16384x512, .f32⟩
  | .hbm, ⟨13, _⟩ => ⟨S16384x4x128, .f32⟩
  | .hbm, ⟨14, _⟩ => ⟨S_, .f32⟩
  | .hbm, ⟨15, _⟩ => ⟨S_, .f32⟩
  | .hbm, ⟨16, _⟩ => ⟨S16384x4x128, .f32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .f32⟩
  | .hbm, ⟨22, _⟩ => ⟨S16384x1x128, .f32⟩
  | .hbm, ⟨23, _⟩ => ⟨S16384x128, .f32⟩
  | .hbm, ⟨24, _⟩ => ⟨S_, .f32⟩
  | .hbm, ⟨25, _⟩ => ⟨S2x128, .f32⟩
  | .hbm, ⟨26, _⟩ => ⟨S16386x128, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x128, .f32⟩
  | .hbm, ⟨34, _⟩ => ⟨S16384x128, .f32⟩
  | .hbm, ⟨35, _⟩ => ⟨S16384x1x128, .f32⟩
  | .hbm, ⟨36, _⟩ => ⟨S16384x128, .f32⟩
  | .hbm, ⟨37, _⟩ => ⟨S16384x128, .f32⟩
  | .hbm, ⟨38, _⟩ => ⟨S16384x1x128, .f32⟩
  | .hbm, ⟨39, _⟩ => ⟨S16384x128, .f32⟩
  | .hbm, ⟨40, _⟩ => ⟨S_, .f32⟩
  | .hbm, ⟨41, _⟩ => ⟨S4x128, .f32⟩
  | .hbm, ⟨42, _⟩ => ⟨S16388x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384x1, .f32⟩
  | .hbm, ⟨49, _⟩ => ⟨S16384x128, .f32⟩
  | .hbm, ⟨50, _⟩ => ⟨S16384x128, .f32⟩
  | .hbm, ⟨51, _⟩ => ⟨S16384x1x128, .f32⟩
  | .hbm, ⟨52, _⟩ => ⟨S16384x128, .f32⟩
  | .hbm, ⟨53, _⟩ => ⟨S16384x128, .f32⟩
  | .hbm, ⟨54, _⟩ => ⟨S16384x1x128, .f32⟩
  | .hbm, ⟨55, _⟩ => ⟨S16384x128, .f32⟩
  | .hbm, ⟨56, _⟩ => ⟨S_, .f32⟩
  | .hbm, ⟨57, _⟩ => ⟨S8x128, .f32⟩
  | .hbm, ⟨58, _⟩ => ⟨S16392x128, .f32⟩
  | .hbm, ⟨59, _⟩ => ⟨S16384x128, .f32⟩
  | .hbm, ⟨60, _⟩ => ⟨S16384x128, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S16384x1, .f32⟩
  | .hbm, ⟨65, _⟩ => ⟨S16384x128, .f32⟩
  | .hbm, ⟨66, _⟩ => ⟨S16384x128, .f32⟩
  | .hbm, ⟨67, _⟩ => ⟨S16384x1x128, .f32⟩
  | .hbm, ⟨68, _⟩ => ⟨S16384x128, .f32⟩
  | .hbm, ⟨69, _⟩ => ⟨S16384x128, .f32⟩
  | .hbm, ⟨70, _⟩ => ⟨S16384x1x128, .f32⟩
  | .hbm, ⟨71, _⟩ => ⟨S16384x128, .f32⟩
  | .hbm, ⟨72, _⟩ => ⟨S_, .f32⟩
  | .hbm, ⟨73, _⟩ => ⟨S16x128, .f32⟩
  | .hbm, ⟨74, _⟩ => ⟨S16400x128, .f32⟩
  | .hbm, ⟨75, _⟩ => ⟨S16384x128, .f32⟩
  | .hbm, ⟨76, _⟩ => ⟨S16384x128, .f32⟩
  | .hbm, ⟨77, _⟩ => ⟨S_, .f32⟩
  | .hbm, ⟨78, _⟩ => ⟨S16384, .f32⟩
  | .hbm, ⟨79, _⟩ => ⟨S16384, .f32⟩
  | .hbm, ⟨80, _⟩ => ⟨S16384x1, .f32⟩
  | .hbm, ⟨81, _⟩ => ⟨S16384x128, .f32⟩
  | .hbm, ⟨82, _⟩ => ⟨S16384x128, .f32⟩
  | .hbm, ⟨83, _⟩ => ⟨S16384x1x128, .f32⟩
  | .hbm, ⟨84, _⟩ => ⟨S16384x128, .f32⟩
  | .hbm, ⟨85, _⟩ => ⟨S16384x128, .f32⟩
  | .hbm, ⟨86, _⟩ => ⟨S16384x1x128, .f32⟩
  | .hbm, ⟨87, _⟩ => ⟨S16384x1x128, .f32⟩
  | .hbm, ⟨88, _⟩ => ⟨S16384x1x128, .f32⟩
  | .hbm, ⟨89, _⟩ => ⟨S16384x1x128, .f32⟩
  | .hbm, ⟨90, _⟩ => ⟨S16384x4x128, .f32⟩
  | .hbm, ⟨91, _⟩ => ⟨S4x128x16384, .f32⟩
  | .hbm, ⟨92, _⟩ => ⟨S16384x4x128, .f32⟩
  | .hbm, ⟨93, _⟩ => ⟨S16384x512, .f32⟩
  | .hbm, ⟨94, _⟩ => ⟨S1x512, .f32⟩
  | .hbm, ⟨95, _⟩ => ⟨S16384x512, .f32⟩
  | .hbm, ⟨96, _⟩ => ⟨S16384x512, .f32⟩
  | .hbm, ⟨97, _⟩ => ⟨S16384x512, .bf16⟩
  | _, _ => ⟨S16384x2056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_call0_cst : Ref sig .tc := ⟨.hbm, 14, rfl⟩
abbrev main_call0_call0_v0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Proof.Reals.lean ====
/- Finite extended reals: an array all of whose entries are finite is an array of reals, the operations on reals, the
   constants of the programs, and the gradient of a row's root-mean-square normalisation written two ways. -/
module

public import Idealize.ShloMosaic.PureOps.Ideal.Laws
public import Idealize.ShloMosaic.Lib.IdealHost
public import Idealize.ShloMosaic.Lib.ReduceAll
public import Idealize.ShloMosaic.Lib.Pointwise

@[expose] public section

noncomputable section

namespace Cert.Reals

open Idealize.ShloMosaic

/-- A sum of reals, taken among the extended reals. -/
theorem sum_coe {ι : Type} [Fintype ι] (f : ι → ℝ) : (∑ i, ((f i : ℝ) : EReal)) = ((∑ i, f i : ℝ) : EReal) := by
  classical
  exact (map_sum (⟨⟨fun r : ℝ => (r : EReal), EReal.coe_zero⟩, EReal.coe_add⟩ : ℝ →+ EReal) f Finset.univ).symm

/-- A value that starts at a real and adds a real at every point is the sum of the reals. -/
theorem run_sum {N : ℕ} (f : (n : ℕ) → n < N → EReal) (part : ℕ → ℝ) (h0 : ∀ h, f 0 h = ((part 0 : ℝ) : EReal))
    (hs : ∀ n (h : n + 1 < N), f (n + 1) h = f n (Nat.lt_of_succ_lt h) + ((part (n + 1) : ℝ) : EReal)) (n : ℕ) (h : n < N) :
    f n h = ((∑ p ∈ Finset.range (n + 1), part p : ℝ) : EReal) := by
  induction n with
  | zero => simpa using h0 h
  | succ n ih => rw [hs n h, ih, Finset.sum_range_succ _ (n + 1), EReal.coe_add]

/-- A sum over `A * B` numbers, taken in `A` blocks of `B`. -/
theorem sum_blocks (A B : ℕ) (f : ℕ → ℝ) : (∑ p ∈ Finset.range A, ∑ r : Fin B, f (p * B + r.val)) = ∑ n : Fin (A * B), f n.val := by
  rw [Fin.sum_univ_eq_sum_range (fun n => f n) (A * B)]
  induction A with
  | zero => simp
  | succ A ih =>
    rw [Finset.sum_range_succ, ih, Nat.succ_mul, Finset.sum_range_add, Fin.sum_univ_eq_sum_range (fun r => f (A * B + r)) B]

/-! ## Constants -/

/-- The number added to a mean of squares, as the programs' word reads. -/
def eps : ℝ := 8796093 / 8796093022208

theorem eps_pos : 0 < eps := by norm_num [eps]

theorem c1024 : Ideal.ofBits .f32 0x44800000#32 = ((1024 : ℝ) : EReal) := by
  simp [Ideal.ofBits, Ideal.ieee, -EReal.coe_mul]; norm_num

theorem cInv1024 : Ideal.ofBits .f32 0x3A800000#32 = ((1 / 1024 : ℝ) : EReal) := by
  simp [Ideal.ofBits, Ideal.ieee, -EReal.coe_mul]; norm_num

theorem cEps : Ideal.ofBits .f32 0x358637BD#32 = ((eps : ℝ) : EReal) := by
  simp [Ideal.ofBits, Ideal.ieee, -EReal.coe_mul, eps]; norm_num

theorem cHalf : Ideal.ofBits .f32 0x3F000000#32 = ((1 / 2 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

theorem cOne : Ideal.ofBits .f32 0x3F800000#32 = ((1 : ℝ) : EReal) := by
  simp [Ideal.ofBits, Ideal.ieee, -EReal.coe_mul]; norm_num

theorem cZero : Ideal.ofBits .f32 0x00000000#32 = ((0 : ℝ) : EReal) := by
  simp [Ideal.ofBits, Ideal.ieee]

theorem cInf : Ideal.ofBits .f32 0x7F800000#32 = (⊤ : EReal) := by
  simp [Ideal.ofBits, Ideal.ieee]

/-! ## Finite arrays -/

/-- An extended real whose absolute value lies below infinity is a real. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- `jnp.abs(x) < jnp.inf`, everywhere, gives an array of reals. -/
theorem reals_of_finite {s t u v : Shape} [Subsingleton t.Idx] {axes : List (Fin s.rank)} (x : FVec Ideal s .f32)
    (init : IVec u 1) (d : Fin v.rank → Fin s.rank) (hb : v.BroadcastsInDim s d) (h : s.ReducesTo axes t) (hu : 0 < u.numel) (j : t.Idx)
    (e : Host.reduce IntOp.andi (cmpf .olt (Host.absf x) (broadcastInDim s d hb (constant v .f32 0x7F800000#32))) init h hu j = 1#1) :
    ∃ X : s.Idx → ℝ, ∀ i, x i = ((X i : ℝ) : EReal) := by
  have key : ∀ i, ∃ r : ℝ, x i = (r : EReal) := fun i => by
    have h1 := Host.reduce_andi_all _ init h hu j e i
    refine real_of_abs_lt (x i) ?_
    rw [← cInf]
    exact h1
  exact ⟨fun i => (key i).choose, fun i => (key i).choose_spec⟩

/-- An array of reals, its rows numbered by the natural numbers. -/
theorem rows_of {A B : ℕ} (x : FVec Ideal ⟨2, ![A, B]⟩ .f32) (X : (⟨2, ![A, B]⟩ : Shape).Idx → ℝ) (hX : ∀ i, x i = ((X i : ℝ) : EReal)) :
    ∃ Y : ℕ → Fin B → ℝ, ∀ (r : Fin A) l, x (ix2 r l) = ((Y r.val l : ℝ) : EReal) := by
  refine ⟨fun n l => if hn : n < A then X (ix2 ⟨n, hn⟩ l) else 0, fun r l => ?_⟩
  have h : (if hn : r.val < A then X (ix2 ⟨r.val, hn⟩ l) else 0) = X (ix2 r l) := dif_pos r.isLt
  rw [hX]
  exact congrArg (fun x : ℝ => (x : EReal)) h.symm

/-! ## A row's normalisation -/

/-- The mean of the squares of a row. -/
def msq (x : Fin 1024 → ℝ) : ℝ := (∑ k, x k * x k) / 1024

/-- The reciprocal root of a row's mean square plus `eps`. -/
def rinv (x : Fin 1024 → ℝ) : ℝ := (Real.sqrt (msq x + eps))⁻¹

theorem msq_eps_pos (x : Fin 1024 → ℝ) : 0 < msq x + eps := by
  have : 0 ≤ msq x := div_nonneg (Finset.sum_nonneg fun k _ => mul_self_nonneg _) (by norm_num)
  linarith [eps_pos]

theorem div_real (a b : ℝ) (hb : b ≠ 0) : Ideal.div (a : EReal) (b : EReal) = ((a / b : ℝ) : EReal) := by
  rw [Ideal.div_coe hb, ← EReal.coe_mul, mul_one_div]

/-- The programs' reciprocal root of a row of reals is the real one. -/
theorem rsqrt_row (x : Fin 1024 → ℝ) :
    Ideal.rsqrt (Ideal.div (∑ k, ((x k : ℝ) : EReal) * ((x k : ℝ) : EReal)) ((1024 : ℝ) : EReal) + ((eps : ℝ) : EReal)) = ((rinv x : ℝ) : EReal) := by
  simp only [← EReal.coe_mul, sum_coe]
  rw [div_real _ _ (by norm_num), ← EReal.coe_add, Ideal.rsqrt_coe]
  have h := msq_eps_pos x
  unfold msq at h
  rw [if_neg (not_lt.mpr h.le), if_neg h.ne']
  rfl

/-- The product of the reciprocal root with itself is the reciprocal. -/
theorem rinv_sq (x : Fin 1024 → ℝ) : rinv x * rinv x = (msq x + eps)⁻¹ := by
  unfold rinv
  rw [← mul_inv, Real.mul_self_sqrt (msq_eps_pos x).le]

/-- The gradient through `x ↦ x · rinv x` at the row `x` and the cotangent `d`. -/
def rmsGrad (x d : Fin 1024 → ℝ) (l : Fin 1024) : ℝ :=
  rinv x * (d l - x l * rinv x * ((∑ k, d k * (x k * rinv x)) / 1024))

/-- The same gradient, differentiated operation by operation: through the product, the reciprocal root, the mean and
    the square. -/
theorem rmsGrad_eq (x d : Fin 1024 → ℝ) (l : Fin 1024) :
    d l * rinv x + x l * ((∑ k, x k * d k) * (-(1 / 2) * (rinv x / (msq x + eps))) / 1024)
      + (∑ k, x k * d k) * (-(1 / 2) * (rinv x / (msq x + eps))) / 1024 * x l = rmsGrad x d l := by
  have hs : (∑ k, d k * (x k * rinv x)) = (∑ k, x k * d k) * rinv x := by
    rw [Finset.sum_mul]; exact Finset.sum_congr rfl fun k _ => by ring
  unfold rmsGrad
  rw [hs, div_eq_mul_inv (rinv x) (msq x + eps), ← rinv_sq]
  ring

/-- The programs' logistic function of a real is the real one. -/
theorem logistic_real (z : ℝ) : Ideal.div 1 (1 + Ideal.exp (-(z : EReal))) = ((1 / (1 + Real.exp (-z)) : ℝ) : EReal) := by
  rw [← EReal.coe_neg, Ideal.exp_coe, ← EReal.coe_one, ← EReal.coe_add, div_real _ _ (by positivity)]

end Cert.Reals

end
-- ==== Proof.LossValue.lean ====
/- What the loss head leaves in its three results, as functions of finite arguments: the gradient of every row, the
   gradient of the gain summed over the rows, and the loss. -/
module

public import proofs.«01_k».proof.Proof.Reals
public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.LossValue

open Idealize.ShloMosaic Idealize.ShloMosaic.TcCoe Idealize.SL.Sem Cert.KernelIdeal Cert.KernelIdeal.Gen Cert.Reals

/-- The error of a row: the normalised row times the gain, minus the target. -/
def err (x t g : Fin 1024 → ℝ) (l : Fin 1024) : ℝ := x l * rinv x * g l - t l

/-- The error's share of the gradient. -/
def derr (x t g : Fin 1024 → ℝ) (l : Fin 1024) : ℝ := err x t g l * (1 / 1024)

section payloads

variable (h t : FVec Ideal S512x1024 .f32) (g : FVec Ideal S1x1024 .f32)
  (X T : Fin 512 → Fin 1024 → ℝ) (G : Fin 1024 → ℝ)
  (hX : ∀ r l, h (ix2 r l) = ((X r l : ℝ) : EReal)) (hT : ∀ r l, t (ix2 r l) = ((T r l : ℝ) : EReal))
  (hG : ∀ l, g (ix2 0 l) = ((G l : ℝ) : EReal))

include hX in
theorem pay6 (r : Fin 512) : k0_pay6 (F := Ideal) h (ix2 r 0) = ((rinv (X r) : ℝ) : EReal) := by
  pointwise [k0_pay6]
  simp only [hX, c1024, cEps, rsqrt_row]

include hX in
theorem pay7 (r : Fin 512) (l : Fin 1024) : k0_pay7 (F := Ideal) h (ix2 r l) = ((X r l * rinv (X r) : ℝ) : EReal) := by
  have h6 := pay6 h X hX r
  pointwise [k0_pay7]
  rw [h6, hX, EReal.coe_mul]

include hX hT hG in
theorem pay8 (r : Fin 512) (l : Fin 1024) : k0_pay8 (F := Ideal) g h t (ix2 r l) = ((err (X r) (T r) G l : ℝ) : EReal) := by
  have h7 := pay7 h X hX r l
  pointwise [k0_pay8, k0_pay5]
  rw [h7, hT, hG, err, EReal.coe_sub, EReal.coe_mul _ (G l)]

include hX hT hG in
theorem pay10 (r : Fin 512) (l : Fin 1024) : k0_pay10 (F := Ideal) g h t (ix2 r l) = ((derr (X r) (T r) G l : ℝ) : EReal) := by
  have h8 := pay8 h t g X T G hX hT hG r l
  pointwise [k0_pay10]
  rw [h8, cInv1024, derr, EReal.coe_mul]

include hX hT hG in
/-- A row's gradient. -/
theorem pay1 (r : Fin 512) (l : Fin 1024) :
    k0_pay1 (F := Ideal) (k0_pay6 h) (k0_pay7 h) (k0_pay10 g h t) (k0_pay11 g) (ix2 r l)
      = ((rmsGrad (X r) (fun l => derr (X r) (T r) G l * G l) l : ℝ) : EReal) := by
  have h6 := pay6 h X hX
  have h7 := pay7 h X hX
  have h10 := pay10 h t g X T G hX hT hG
  pointwise [k0_pay1, k0_pay11, k0_pay5]
  simp only [h6, h7, h10, hG, c1024, ← EReal.coe_mul, sum_coe, div_real _ _ (by norm_num : (1024 : ℝ) ≠ 0), ← EReal.coe_sub]
  rfl

include hX hT hG in
/-- The gain's gradient takes in a block's rows. -/
theorem pay2 (acc : FVec Ideal S1x1024 .f32) (l : Fin 1024) :
    k0_pay2 (F := Ideal) (k0_pay7 h) (k0_pay10 g h t) acc (ix2 0 l)
      = acc (ix2 0 l) + ∑ r : Fin 512, ((derr (X r) (T r) G l * (X r l * rinv (X r)) : ℝ) : EReal) := by
  have h7 := pay7 h X hX
  have h10 := pay10 h t g X T G hX hT hG
  pointwise [k0_pay2]
  simp only [h7, h10, EReal.coe_mul]

include hX hT hG in
/-- The loss takes in a block's rows. -/
theorem pay9 (acc : FVec Ideal S1x128 .f32) (l : Fin 128) :
    k0_pay9 (F := Ideal) g h t acc (ix2 0 l)
      = acc (ix2 0 l) + ((1 / 2 * ∑ r : Fin 512, (∑ k, err (X r) (T r) G k * err (X r) (T r) G k) / 1024 : ℝ) : EReal) := by
  have h8 := pay8 h t g X T G hX hT hG
  pointwise [k0_pay9]
  simp only [h8, c1024, cHalf, ← EReal.coe_mul, sum_coe, div_real _ _ (by norm_num : (1024 : ℝ) ≠ 0)]

theorem k0_pay3_at (l : Fin 1024) : k0_pay3 (F := Ideal) (ix2 0 l) = (0 : EReal) := by
  pointwise [k0_pay3]

theorem k0_pay4_at (l : Fin 128) : k0_pay4 (F := Ideal) (ix2 0 l) = (0 : EReal) := by
  pointwise [k0_pay4]

end payloads

/-! ## The results -/

section results

variable (m : (ℓ : Loc nD τ sig) → Buf (Elt Ideal) ℓ) (c : Dev nD) (X T : ℕ → Fin 1024 → ℝ) (G : Fin 1024 → ℝ)
  (hX : ∀ (r : Fin 16384) l, (m ((c : Thread nD τ).loc main_arg0) : FVec Ideal S16384x1024 .f32) (ix2 r l) = ((X r.val l : ℝ) : EReal))
  (hT : ∀ (r : Fin 16384) l, (m ((c : Thread nD τ).loc main_arg1) : FVec Ideal S16384x1024 .f32) (ix2 r l) = ((T r.val l : ℝ) : EReal))
  (hG : ∀ l, (m ((c : Thread nD τ).loc main_arg2) : FVec Ideal S1024 .f32) (ix1 l) = ((G l : ℝ) : EReal))

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem lt32 (t : Fin cfg0.N) : t.val < 32 := lt_of_lt_of_eq t.isLt N_0

include hX in
theorem blk0 (t : Fin cfg0.N) (r : Fin 512) (l : Fin 1024) :
    (iblk m c 0 t : FVec Ideal S512x1024 .f32) (ix2 r l) = ((X (t.val * 512 + r.val) l : ℝ) : EReal) := by
  have := lt32 t
  refine Eq.trans ?_ (hX ⟨t.val * 512 + r.val, by omega⟩ l)
  blk_ext [iblk, V, idx t]

include hT in
theorem blk1 (t : Fin cfg0.N) (r : Fin 512) (l : Fin 1024) :
    (iblk m c 1 t : FVec Ideal S512x1024 .f32) (ix2 r l) = ((T (t.val * 512 + r.val) l : ℝ) : EReal) := by
  have := lt32 t
  refine Eq.trans ?_ (hT ⟨t.val * 512 + r.val, by omega⟩ l)
  blk_ext [iblk, V, idx t]

include hG in
theorem blk2 (t : Fin cfg0.N) (l : Fin 1024) :
    (iblk m c 2 t : FVec Ideal S1x1024 .f32) (ix2 0 l) = ((G l : ℝ) : EReal) := by
  refine Eq.trans ?_ (hG l)
  blk_simp [iblk, idx t]
  entry_read
  pointwise
  blk_ext [idx t]

/-- Row `n`'s cotangent of the normalised row. -/
def ct (X T : ℕ → Fin 1024 → ℝ) (G : Fin 1024 → ℝ) (n : ℕ) (l : Fin 1024) : ℝ := derr (X n) (T n) G l * G l

/-- Row `n`'s part of the gain's gradient. -/
def gpart (X T : ℕ → Fin 1024 → ℝ) (G : Fin 1024 → ℝ) (l : Fin 1024) (n : ℕ) : ℝ := derr (X n) (T n) G l * (X n l * rinv (X n))

/-- Row `n`'s part of the loss. -/
def lpart (X T : ℕ → Fin 1024 → ℝ) (G : Fin 1024 → ℝ) (n : ℕ) : ℝ := (∑ k, err (X n) (T n) G k * err (X n) (T n) G k) / 1024

include hX hT hG in
theorem out3 (t : Fin cfg0.N) (y : S512x1024.Idx) :
    (outsAt0 m c t.val t.isLt).1 y
      = ((rmsGrad (X (t.val * 512 + (y 0).val)) (ct X T G (t.val * 512 + (y 0).val)) (y 1) : ℝ) : EReal) := by
  have key := pay1 (iblk m c 0 t) (iblk m c 1 t) (iblk m c 2 t) (fun r => X (t.val * 512 + r.val)) (fun r => T (t.val * 512 + r.val)) G
    (blk0 m c X hX t) (blk1 m c T hT t) (blk2 m c G hG t) (y 0) (y 1)
  refine Eq.trans ?_ key
  rw [← eq_ix2 y]
  by_cases ht : t.val % 32 = 0
  · rw [outsAt0_A m c t ht]
    frame_out
  · rw [outsAt0_B m c t ht]
    frame_out

include hX hT hG in
theorem out4 (l : Fin 1024) (n : ℕ) (hn : n < cfg0.N) :
    (outsAt0 m c n hn).2.1 (ix2 0 l) = ((∑ p ∈ Finset.range (n + 1), ∑ r : Fin 512, gpart X T G l (p * 512 + r.val) : ℝ) : EReal) := by
  have key := fun t : Fin cfg0.N => pay2 (iblk m c 0 t) (iblk m c 1 t) (iblk m c 2 t) (fun r => X (t.val * 512 + r.val))
    (fun r => T (t.val * 512 + r.val)) G (blk0 m c X hX t) (blk1 m c T hT t) (blk2 m c G hG t)
  refine run_sum (fun n hn => (outsAt0 m c n hn).2.1 (ix2 0 l)) (fun p => ∑ r : Fin 512, gpart X T G l (p * 512 + r.val)) (fun h => ?_) (fun n h => ?_) n hn
  · beta_reduce
    rw [outsAt0_A m c ⟨0, h⟩ rfl]
    frame_out
    rw [key ⟨0, h⟩, sum_coe, k0_pay3_at, zero_add]
    rfl
  · have h32 : n + 1 < 32 := lt32 ⟨n + 1, h⟩
    beta_reduce
    rw [outsAt0_B m c ⟨n + 1, h⟩ (by show ¬ (n + 1) % 32 = 0; omega)]
    frame_out
    rw [key ⟨n + 1, h⟩, sum_coe]
    rfl

include hX hT hG in
theorem out5 (l : Fin 128) (n : ℕ) (hn : n < cfg0.N) :
    (outsAt0 m c n hn).2.2 (ix2 0 l)
      = ((∑ p ∈ Finset.range (n + 1), 1 / 2 * ∑ r : Fin 512, lpart X T G (p * 512 + r.val) : ℝ) : EReal) := by
  have key := fun t : Fin cfg0.N => pay9 (iblk m c 0 t) (iblk m c 1 t) (iblk m c 2 t) (fun r => X (t.val * 512 + r.val))
    (fun r => T (t.val * 512 + r.val)) G (blk0 m c X hX t) (blk1 m c T hT t) (blk2 m c G hG t)
  refine run_sum (fun n hn => (outsAt0 m c n hn).2.2 (ix2 0 l)) (fun p => 1 / 2 * ∑ r : Fin 512, lpart X T G (p * 512 + r.val))
    (fun h => ?_) (fun n h => ?_) n hn
  · beta_reduce
    rw [outsAt0_A m c ⟨0, h⟩ rfl]
    frame_out
    rw [key ⟨0, h⟩, k0_pay4_at, zero_add]
    rfl
  · have h32 : n + 1 < 32 := lt32 ⟨n + 1, h⟩
    beta_reduce
    rw [outsAt0_B m c ⟨n + 1, h⟩ (by show ¬ (n + 1) % 32 = 0; omega)]
    frame_out
    rw [key ⟨n + 1, h⟩]
    rfl

include hX hT hG in
/-- The rows' gradients. -/
theorem final3 : (dats m 0 c).arrAt 3 (cfgs 0).N
    = fun i : S16384x1024.Idx => ((rmsGrad (X (i 0).val) (ct X T G (i 0).val) (i 1) : ℝ) : EReal) := by
  refine (dats m 0 c).arrAt_eq_of_covers 3 _ (by decide +kernel) fun t hf y => ?_
  blk_simp
  rw [after0_3]
  refine (out3 m c X T G hX hT hG t y).trans ?_
  have h0 : win0_3.index t 0 = t.val := by rw [(idx t).2.2.2.1]; rfl
  have h1 : (win0_3.blk t).view.emb y 1 = (y 1 : Fin 1024) := by
    refine Fin.ext ?_
    blk_simp [idx t]
  rw [h0, h1]

include hX hT hG in
/-- The gain's gradient. -/
theorem final4 : (dats m 0 c).arrAt 4 (cfgs 0).N
    = fun i : S1x1024.Idx => ((∑ n : Fin 16384, gpart X T G (i 1) n.val : ℝ) : EReal) := by
  refine (dats m 0 c).arrAt_eq_of_covers 4 _ (by decide +kernel) fun t hf y => ?_
  blk_simp
  rw [after0_4]
  have hy : y = (ix2 0 (y 1 : Fin 1024) : S1x1024.Idx) := by
    refine (eq_ix2 (y : S1x1024.Idx)).trans (congrArg (fun a : Fin 1 => (ix2 a (y 1 : Fin 1024) : S1x1024.Idx)) (Subsingleton.elim _ _))
  have h1 : (win0_4.blk t).view.emb y 1 = (y 1 : Fin 1024) := by
    refine Fin.ext ?_
    blk_simp [idx t]
  have ht : t.val + 1 = 32 := by have := (flush0_4 t).mp hf; have := lt32 t; omega
  rw [h1]
  refine (congrArg (outsAt0 m c t.val t.isLt).2.1 hy).trans ((out4 m c X T G hX hT hG (y 1) t.val t.isLt).trans ?_)
  rw [ht, sum_blocks 32 512]

include hX hT hG in
/-- The loss. -/
theorem final5 : (dats m 0 c).arrAt 5 (cfgs 0).N
    = fun _ : S1x128.Idx => ((1 / 2 * ∑ n : Fin 16384, lpart X T G n.val : ℝ) : EReal) := by
  refine (dats m 0 c).arrAt_eq_of_covers 5 _ (by decide +kernel) fun t hf y => ?_
  blk_simp
  rw [after0_5]
  have hy : y = (ix2 0 (y 1 : Fin 128) : S1x128.Idx) := by
    refine (eq_ix2 (y : S1x128.Idx)).trans (congrArg (fun a : Fin 1 => (ix2 a (y 1 : Fin 128) : S1x128.Idx)) (Subsingleton.elim _ _))
  have ht : t.val + 1 = 32 := by have := (flush0_5 t).mp hf; have := lt32 t; omega
  refine (congrArg (outsAt0 m c t.val t.isLt).2.2 hy).trans ((out5 m c X T G hX hT hG (y 1) t.val t.isLt).trans ?_)
  rw [ht, ← Finset.mul_sum, sum_blocks 32 512]

end results

end Cert.LossValue

end
-- ==== Proof.LossRef.lean ====
/- What the reference's loss and its two gradients are, at finite arguments. -/
module

public import proofs.«01_k».proof.Proof.LossValue
public import proofs.«01_k».proof.Proof.Gen.ReferenceIdeal.Read

@[expose] public section

set_option maxRecDepth 16384

noncomputable section

namespace Cert.LossRef

open Idealize.ShloMosaic Cert.ReferenceIdeal Cert.ReferenceIdeal.Gen Cert.ReferenceIdeal.Read Cert.Reals Cert.LossValue

variable (h t : FVec Ideal S16384x1024 .f32) (g : FVec Ideal S1024 .f32) (X T : ℕ → Fin 1024 → ℝ) (G : Fin 1024 → ℝ)
  (hX : ∀ (r : Fin 16384) l, h (ix2 r l) = ((X r.val l : ℝ) : EReal)) (hT : ∀ (r : Fin 16384) l, t (ix2 r l) = ((T r.val l : ℝ) : EReal))
  (hG : ∀ l, g (ix1 l) = ((G l : ℝ) : EReal))

include hX in
theorem v6 (r : Fin 16384) : val_main_v6 (F := Ideal) h (ix2 r 0) = ((msq (X r) + eps : ℝ) : EReal) := by
  pointwise [val_main_v6, val_main_v5, val_main_v4, val_main_v3, val_main_v2, val_main_v1, val_main_v0, val_main_cst, val_main_cst_0, val_main_cst_1]
  simp only [hX, c1024, cEps, ← EReal.coe_mul, sum_coe, div_real _ _ (by norm_num : (1024 : ℝ) ≠ 0), ← EReal.coe_add]
  rfl

include hX in
theorem v7 (r : Fin 16384) : val_main_v7 (F := Ideal) h (ix2 r 0) = ((rinv (X r) : ℝ) : EReal) := by
  have h6 := v6 h X hX r
  have hp := msq_eps_pos (X r)
  pointwise [val_main_v7]
  rw [h6, Ideal.rsqrt_coe, if_neg (not_lt.mpr hp.le), if_neg hp.ne']
  rfl

include hX in
theorem v10 (r : Fin 16384) :
    val_main_v10 (F := Ideal) h (ix2 r 0) = ((-(1 / 2) * (rinv (X r) / (msq (X r) + eps)) : ℝ) : EReal) := by
  have h6 := v6 h X hX r
  have h7 := v7 h X hX r
  pointwise [val_main_v10, val_main_v9, val_main_v8, val_main_cst_2]
  rw [h6, h7, cNegHalf, div_real _ _ (msq_eps_pos (X r)).ne', ← EReal.coe_mul]

include hX in
theorem v12 (r : Fin 16384) (l : Fin 1024) : val_main_v12 (F := Ideal) h (ix2 r l) = ((X r l * rinv (X r) : ℝ) : EReal) := by
  have h7 := v7 h X hX r
  pointwise [val_main_v12, val_main_v11]
  rw [h7, hX, ← EReal.coe_mul]

include hX hT hG in
theorem v16 (r : Fin 16384) (l : Fin 1024) : val_main_v16 (F := Ideal) h t g (ix2 r l) = ((err (X r) (T r) G l : ℝ) : EReal) := by
  have h12 := v12 h X hX r l
  pointwise [val_main_v16, val_main_v15, val_main_v14, val_main_v13]
  rw [h12, hT, hG, ← EReal.coe_mul, ← EReal.coe_sub]
  rfl

include hX hT hG in
theorem v30 (r : Fin 16384) (l : Fin 1024) : val_main_v30 (F := Ideal) h t g (ix2 r l) = ((derr (X r) (T r) G l : ℝ) : EReal) := by
  have h16 := v16 h t g X T G hX hT hG r l
  pointwise [val_main_v30, val_main_v29, val_main_v28, val_main_v27, val_main_v26, val_main_v25, val_main_v19, val_main_v18,
    val_main_cst_3, val_main_cst_8, val_main_cst_9, val_main_cst_10]
  simp only [h16, cTwo, cHalf, cOne, c1024, ← EReal.coe_mul, div_real _ _ (by norm_num : (1024 : ℝ) ≠ 0), derr]
  exact congrArg _ (by ring)

include hX hT hG in
theorem v35 (r : Fin 16384) (l : Fin 1024) : val_main_v35 (F := Ideal) h t g (ix2 r l) = ((ct X T G r l : ℝ) : EReal) := by
  have h30 := v30 h t g X T G hX hT hG r l
  pointwise [val_main_v35, val_main_v34, val_main_v13]
  rw [h30, hG, ← EReal.coe_mul]
  rfl

include hX hT hG in
theorem v46 (r : Fin 16384) (l : Fin 1024) : val_main_v46 (F := Ideal) h t g (ix2 r l)
    = (((∑ k, X r k * ct X T G r k) * (-(1 / 2) * (rinv (X r) / (msq (X r) + eps))) / 1024 : ℝ) : EReal) := by
  have h35 := v35 h t g X T G hX hT hG r
  have h10 : ∀ a : Fin 1, val_main_v10 (F := Ideal) h (ix2 r a)
      = ((-(1 / 2) * (rinv (X r) / (msq (X r) + eps)) : ℝ) : EReal) := fun a => by rw [Subsingleton.elim a 0, v10 h X hX r]
  pointwise [val_main_v46, val_main_v45, val_main_v44, val_main_v43, val_main_v42, val_main_v39, val_main_v38, val_main_v37,
    val_main_cst_13, val_main_cst_14, val_main_cst_15]
  simp only [h35, h10, hX, c1024, ← EReal.coe_mul, sum_coe, div_real _ _ (by norm_num : (1024 : ℝ) ≠ 0), Fin.sum_univ_one]

include hX hT hG in
/-- The rows' gradients. -/
theorem dh_eq : val_main_v50 (F := Ideal) h t g
    = fun i : S16384x1024.Idx => ((rmsGrad (X (i 0).val) (ct X T G (i 0).val) (i 1) : ℝ) : EReal) := by
  funext i
  obtain ⟨r, l, rfl⟩ : ∃ (r : Fin 16384) (l : Fin 1024), i = ix2 r l := ⟨i 0, i 1, eq_ix2 i⟩
  have h7 := v7 h X hX r
  have h35 := v35 h t g X T G hX hT hG r l
  have h46 := v46 h t g X T G hX hT hG r l
  pointwise [val_main_v50, val_main_v49, val_main_v48, val_main_v47, val_main_v41, val_main_v40]
  rw [h7, h35, h46, hX, ← EReal.coe_mul, ← EReal.coe_mul, ← EReal.coe_mul, ← EReal.coe_add, ← EReal.coe_add]
  exact congrArg _ (rmsGrad_eq _ _ _)

include hX hT hG in
/-- The gain's gradient. -/
theorem dg_eq : val_main_v51 (F := Ideal) h t g
    = fun i : S1x1024.Idx => ((∑ n : Fin 16384, gpart X T G (i 1) n.val : ℝ) : EReal) := by
  funext i
  obtain ⟨a, l, rfl⟩ : ∃ (a : Fin 1) (l : Fin 1024), i = ix2 a l := ⟨i 0, i 1, eq_ix2 i⟩
  obtain rfl : a = 0 := Subsingleton.elim _ _
  have h12 := fun r : Fin 16384 => v12 h X hX r l
  have h30 := fun r : Fin 16384 => v30 h t g X T G hX hT hG r l
  pointwise [val_main_v51, val_main_v36, val_main_v33, val_main_v32, val_main_v31, val_main_cst_11, val_main_cst_12]
  simp only [Fin.sum_univ_one, h12, h30, ← EReal.coe_mul, sum_coe]
  refine congrArg (fun r : ℝ => (r : EReal)) (Finset.sum_congr rfl fun n _ => ?_)
  rw [mul_comm]
  rfl

include hX hT hG in
/-- The loss. -/
theorem loss_eq : val_main_v52 (F := Ideal) h t g
    = fun _ : S1x128.Idx => ((1 / 2 * ∑ n : Fin 16384, lpart X T G n.val : ℝ) : EReal) := by
  funext i
  have h16 := v16 h t g X T G hX hT hG
  pointwise [val_main_v52, val_main_v24, val_main_v23, val_main_v22, val_main_v21, val_main_v20, val_main_v17, val_main_cst_4,
    val_main_cst_5, val_main_cst_6, val_main_cst_7]
  simp only [h16, c1024, cHalf, ← EReal.coe_mul, sum_coe, div_real _ _ (by norm_num : (1024 : ℝ) ≠ 0)]
  rfl

end Cert.LossRef

end
-- ==== Proof.LossClaim.lean ====
/- The loss head's gradients and loss are the reference's, at finite arguments. -/
module

public import proofs.«01_k».proof.Defs
public import proofs.«01_k».proof.Proof.LossRef
public import proofs.«01_k».proof.Proof.Gen.Pre_loss_finite
public import Idealize.ShloMosaic.Lib.Claim
public import Idealize.ShloMosaic.Lib.Quiescent

@[expose] public section

set_option maxRecDepth 16384

noncomputable section

namespace Cert.LossClaim

open Idealize.ShloMosaic Idealize.ShloMosaic.TcCoe Idealize.SL.Sem

/-- Finite arguments of the loss head are arrays of reals. -/
theorem loss_reals (h t : FVec Ideal Cert.KernelIdeal.S16384x1024 .f32) (g : FVec Ideal Cert.KernelIdeal.S1024 .f32)
    (hp : Cert.Pre_loss_finite.fn (F := Ideal) h t g = fun _ => 1#1) :
    ∃ (X T : ℕ → Fin 1024 → ℝ) (G : Fin 1024 → ℝ), (∀ (r : Fin 16384) l, h (ix2 r l) = ((X r.val l : ℝ) : EReal))
      ∧ (∀ (r : Fin 16384) l, t (ix2 r l) = ((T r.val l : ℝ) : EReal)) ∧ ∀ l, g (ix1 l) = ((G l : ℝ) : EReal) := by
  have h0 := congrFun hp (fun a => a.elim0)
  dsimp only [Cert.Pre_loss_finite.fn] at h0
  obtain ⟨h1, h3⟩ := IntOp.andi_eq_one.mp h0
  obtain ⟨h1, h2⟩ := IntOp.andi_eq_one.mp h1
  obtain ⟨X, hX⟩ := Cert.Reals.reals_of_finite h _ _ _ _ _ _ h1
  obtain ⟨T, hT⟩ := Cert.Reals.reals_of_finite t _ _ _ _ _ _ h2
  obtain ⟨G, hG⟩ := Cert.Reals.reals_of_finite g _ _ _ _ _ _ h3
  obtain ⟨Y, hY⟩ := Cert.Reals.rows_of h X hX
  obtain ⟨U, hU⟩ := Cert.Reals.rows_of t T hT
  exact ⟨Y, U, fun l => G (ix1 l), hY, hU, fun l => hG _⟩

theorem frame_reference : Cert.quiescent_ReferenceIdeal := fun m g _ =>
  (θ_run (Cert.ReferenceIdeal.defs (F := Ideal)) _ _).mono
    (fun r h => ⟨fun c => ⟨(h c).2.2.2.1, (h c).2.2.2.2.1, (h c).2.2.2.2.2⟩, sem_eq_zero_of_no_sems (by decide) r.2⟩)
    (Cert.ReferenceIdeal.Value.run m g)

theorem algebraic : Cert.algebraic_KernelIdeal_ReferenceIdeal_pre_loss_finite := by
  intro m g m' g' hpre hagree
  refine ⟨fun c => (Cert.KernelIdeal.Gen.dats m 0 c).arrAt 3 (Cert.KernelIdeal.cfgs 0).N,
    fun c => (Cert.KernelIdeal.Gen.dats m 0 c).arrAt 4 (Cert.KernelIdeal.cfgs 0).N,
    fun c => (Cert.KernelIdeal.Gen.dats m 0 c).arrAt 5 (Cert.KernelIdeal.cfgs 0).N, ?_, ?_⟩
  · run_from Cert.KernelIdeal.Gen.run_main m g
  · refine (θ_run (Cert.ReferenceIdeal.defs (F := Ideal)) _ _).mono (fun r h c => ?_) (Cert.ReferenceIdeal.Value.run m' g')
    obtain ⟨X, T, G, hX, hT, hG⟩ := loss_reals _ _ _ (hpre c)
    obtain ⟨h0, h1, h2, a0, a1, a2⟩ := h c
    obtain ⟨e0, e1, e2⟩ := hagree c
    refine ⟨h0.trans ?_, h1.trans ?_, h2.trans ?_, a0, a1, a2⟩
    · refine (Cert.ReferenceIdeal.Read.val_main_v50_eq m' c).trans ?_
      rw [e0, e1, e2]
      exact (Cert.LossRef.dh_eq _ _ _ X T G hX hT hG).trans (Cert.LossValue.final3 m c X T G hX hT hG).symm
    · refine (Cert.ReferenceIdeal.Read.val_main_v51_eq _ _ _).trans ?_
      rw [e0, e1, e2]
      exact (Cert.LossRef.dg_eq _ _ _ X T G hX hT hG).trans (Cert.LossValue.final4 m c X T G hX hT hG).symm
    · refine (Cert.ReferenceIdeal.Read.val_main_v52_eq _ _ _).trans ?_
      rw [e0, e1, e2]
      exact (Cert.LossRef.loss_eq _ _ _ X T G hX hT hG).trans (Cert.LossValue.final5 m c X T G hX hT hG).symm

end Cert.LossClaim

end
-- ==== Proof.SsdRunA.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Ssd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The grid point the body treats as the first one. -/
abbrev first (i : grid0.Coords) : Prop :=
  (Scalar.cmpi .ne (Scalar.extui (Scalar.cmpi .eq (BitVec.ofNat 32 (i 0).val) 0#32)) 0#32) = 1#1

/-- That is point 0 of the grid. -/
theorem first_iff (t : Fin cfg0.N) : first (grid0.coords t) ↔ t.val % 128 = 0 := by
  have ht : t.val < 128 := Nat.lt_of_lt_of_eq t.isLt N_0
  have e0 : (grid0.coords t 0).val = t.val / 1 % 128 := Pipeline.Grid.coords_val t 0 (by decide) rfl
  simp only [first, e0]
  word_cmp

/-- A buffer that holds the pieces `L` written over some contents. -/
def written {sp : Space} {S : Shape} {e : EltTy} (c : Dev nD) (r : Memref sig .tc sp S e) (L : List (View.Piece (Elt F) S e)) : sProp 𝕄 :=
  iprop(∃ f, r.view.loc (c : Thread nD τ) ↦[r.view.set]{fullShare} r.view.writes (Elt F) f L)

set_option maxHeartbeats 4000000 in
/-- The body at a first grid point, on whole staging buffers that hold the blocks `x0 … x12`: it runs to its end, gives
    the input buffers back as they were, and leaves in every output and scratch buffer the pieces that its stores wrote. The
    pieces are found by running the body. -/
noncomputable def runA' (c : Dev nD) (i : grid0.Coords) (arg1 : Memref sig .tc .vmem S128x1024 .bf16) (harg1 : arg1.IsWhole) (arg2 : Memref sig .tc .vmem S128x2048 .bf16) (harg2 : arg2.IsWhole) (arg3 : Memref sig .tc .vmem S16x2048 .bf16) (harg3 : arg3.IsWhole) (arg4 : Memref sig .tc .vmem S128x128 .f32) (harg4 : arg4.IsWhole) (arg5 : Memref sig .tc .vmem S1x4x128x128 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S128x2048 .bf16) (harg14 : arg14.IsWhole) (arg15 : Memref sig .tc .vmem S128x128 .f32) (harg15 : arg15.IsWhole) (arg16 : Memref sig .tc .vmem S4x1024 .f32) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S4x128x128 .f32) (harg22 : arg22.IsWhole) (arg23 : Memref sig .tc .vmem S1x512 .f32) (harg23 : arg23.IsWhole) (arg24 : Memref sig .tc .vmem S4x128x128 .f32) (harg24 : arg24.IsWhole) (arg25 : Memref sig .tc .vmem S144x1024 .f32) (harg25 : arg25.IsWhole) (arg26 : Memref sig .tc .vmem S144x512 .f32) (harg26 : arg26.IsWhole) (arg27 : Memref sig .tc .vmem S144x1024 .f32) (harg27 : arg27.IsWhole) (arg28 : Memref sig .tc .vmem S144x512 .f32) (harg28 : arg28.IsWhole) (arg29 : Memref sig .tc .vmem S16x1024 .f32) (harg29 : arg29.IsWhole) (arg30 : Memref sig .tc .vmem S16x512 .f32) (harg30 : arg30.IsWhole) (hc0 : first i)
    (x0 : Vec F S128x1024 .bf16) (x1 : Vec F S128x2048 .bf16) (x2 : Vec F S16x2048 .bf16) (x3 : Vec F S128x128 .f32) (x4 : Vec F S1x4x128x128 .f32) (x5 : Vec F S4x1024 .f32) (x6 : Vec F S1x1024 .f32) (x7 : Vec F S1x128 .f32) (x8 : Vec F S1x128 .f32) (x9 : Vec F S1x512 .f32) (x10 : Vec F S1x512 .f32) (x11 : Vec F S4x128x128 .bf16) (x12 : Vec F S1x512 .f32) :
    Σ' (L13 : List (View.Piece (Elt F) S128x2048 .bf16)), Σ' (L14 : List (View.Piece (Elt F) S128x128 .f32)), Σ' (L15 : List (View.Piece (Elt F) S4x1024 .f32)), Σ' (L16 : List (View.Piece (Elt F) S1x1024 .f32)), Σ' (L17 : List (View.Piece (Elt F) S1x128 .f32)), Σ' (L18 : List (View.Piece (Elt F) S1x128 .f32)), Σ' (L19 : List (View.Piece (Elt F) S1x512 .f32)), Σ' (L20 : List (View.Piece (Elt F) S1x512 .f32)), Σ' (L21 : List (View.Piece (Elt F) S4x128x128 .f32)), Σ' (L22 : List (View.Piece (Elt F) S1x512 .f32)), Σ' (LS0 : List (View.Piece (Elt F) S4x128x128 .f32)), Σ' (LS5 : List (View.Piece (Elt F) S16x1024 .f32)), Σ' (LS6 : List (View.Piece (Elt F) S16x512 .f32)), Σ' (LT1 : List (View.Piece (Elt F) S144x1024 .f32)), Σ' (LT2 : List (View.Piece (Elt F) S144x512 .f32)), Σ' (LT3 : List (View.Piece (Elt F) S144x1024 .f32)), { LT4 : List (View.Piece (Elt F) S144x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ written c arg14 L13 ∗ written c arg15 L14 ∗ written c arg16 L15 ∗ written c arg17 L16 ∗ written c arg18 L17 ∗ written c arg19 L18 ∗ written c arg20 L19 ∗ written c arg21 L20 ∗ written c arg22 L21 ∗ written c arg23 L22 ∗ written c arg24 LS0 ∗ written c arg25 LT1 ∗ written c arg26 LT2 ∗ written c arg27 LT3 ∗ written c arg28 LT4 ∗ written c arg29 LS5 ∗ written c arg30 LS6) -∗ K ()))
          ⊢ wp frame (wpE (defs₀ (F := F)) Variants.none c none) E (cc0_ssd_pool_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, ?_, ?_, ?_, ?_, ?_, ?_, ?_, fun E K => ?run⟩
  case run =>
    simp only [cc0_ssd_pool_bwd_eq_skeleton]; unfold cc0_ssd_pool_bwd_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns written
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, Hs0⟩, ⟨%ds1, %fs1, -, Hs1⟩, ⟨%ds2, %fs2, -, Hs2⟩, ⟨%ds3, %fs3, -, Hs3⟩, ⟨%ds4, %fs4, -, Hs4⟩, ⟨%ds5, %fs5, -, Hs5⟩, ⟨%ds6, %fs6, -, Hs6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]; · (iexists _; isplitr; (· ipureintro; exact harg1.read_unread _); iexact H0)
    isplitl [H1]; · (iexists _; isplitr; (· ipureintro; exact harg2.read_unread _); iexact H1)
    isplitl [H2]; · (iexists _; isplitr; (· ipureintro; exact harg3.read_unread _); iexact H2)
    isplitl [H3]; · (iexists _; isplitr; (· ipureintro; exact harg4.read_unread _); iexact H3)
    isplitl [H4]; · (iexists _; isplitr; (· ipureintro; exact harg5.read_unread _); iexact H4)
    isplitl [H5]; · (iexists _; isplitr; (· ipureintro; exact harg6.read_unread _); iexact H5)
    isplitl [H6]; · (iexists _; isplitr; (· ipureintro; exact harg7.read_unread _); iexact H6)
    isplitl [H7]; · (iexists _; isplitr; (· ipureintro; exact harg8.read_unread _); iexact H7)
    isplitl [H8]; · (iexists _; isplitr; (· ipureintro; exact harg9.read_unread _); iexact H8)
    isplitl [H9]; · (iexists _; isplitr; (· ipureintro; exact harg10.read_unread _); iexact H9)
    isplitl [H10]; · (iexists _; isplitr; (· ipureintro; exact harg11.read_unread _); iexact H10)
    isplitl [H11]; · (iexists _; isplitr; (· ipureintro; exact harg12.read_unread _); iexact H11)
    isplitl [H12]; · (iexists _; isplitr; (· ipureintro; exact harg13.read_unread _); iexact H12)
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexists _; iexact Hs6

end Cert.Ssd

end
-- ==== Proof.SsdRunB.lean ====
module

public import proofs.«01_k».proof.Proof.SsdRunA

@[expose] public section

set_option maxRecDepth 16384

noncomputable section

namespace Cert.Ssd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 4000000 in
/-- The body at a later grid point, on whole staging buffers that hold the blocks `x0 … x12`, the running outputs `xo15 … xo22` and the carried scratch `xs0, xs5, xs6`: it runs to its end, gives
    the input buffers back as they were, and leaves in every output and scratch buffer the pieces that its stores wrote. The
    pieces are found by running the body. -/
noncomputable def runB' (c : Dev nD) (i : grid0.Coords) (arg1 : Memref sig .tc .vmem S128x1024 .bf16) (harg1 : arg1.IsWhole) (arg2 : Memref sig .tc .vmem S128x2048 .bf16) (harg2 : arg2.IsWhole) (arg3 : Memref sig .tc .vmem S16x2048 .bf16) (harg3 : arg3.IsWhole) (arg4 : Memref sig .tc .vmem S128x128 .f32) (harg4 : arg4.IsWhole) (arg5 : Memref sig .tc .vmem S1x4x128x128 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S4x128x128 .bf16) (harg12 : arg12.IsWhole) (arg13 : Memref sig .tc .vmem S1x512 .f32) (harg13 : arg13.IsWhole) (arg14 : Memref sig .tc .vmem S128x2048 .bf16) (harg14 : arg14.IsWhole) (arg15 : Memref sig .tc .vmem S128x128 .f32) (harg15 : arg15.IsWhole) (arg16 : Memref sig .tc .vmem S4x1024 .f32) (harg16 : arg16.IsWhole) (arg17 : Memref sig .tc .vmem S1x1024 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S4x128x128 .f32) (harg22 : arg22.IsWhole) (arg23 : Memref sig .tc .vmem S1x512 .f32) (harg23 : arg23.IsWhole) (arg24 : Memref sig .tc .vmem S4x128x128 .f32) (harg24 : arg24.IsWhole) (arg25 : Memref sig .tc .vmem S144x1024 .f32) (harg25 : arg25.IsWhole) (arg26 : Memref sig .tc .vmem S144x512 .f32) (harg26 : arg26.IsWhole) (arg27 : Memref sig .tc .vmem S144x1024 .f32) (harg27 : arg27.IsWhole) (arg28 : Memref sig .tc .vmem S144x512 .f32) (harg28 : arg28.IsWhole) (arg29 : Memref sig .tc .vmem S16x1024 .f32) (harg29 : arg29.IsWhole) (arg30 : Memref sig .tc .vmem S16x512 .f32) (harg30 : arg30.IsWhole) (hc0 : ¬first i)
    (x0 : Vec F S128x1024 .bf16) (x1 : Vec F S128x2048 .bf16) (x2 : Vec F S16x2048 .bf16) (x3 : Vec F S128x128 .f32) (x4 : Vec F S1x4x128x128 .f32) (x5 : Vec F S4x1024 .f32) (x6 : Vec F S1x1024 .f32) (x7 : Vec F S1x128 .f32) (x8 : Vec F S1x128 .f32) (x9 : Vec F S1x512 .f32) (x10 : Vec F S1x512 .f32) (x11 : Vec F S4x128x128 .bf16) (x12 : Vec F S1x512 .f32) (xo15 : Vec F S4x1024 .f32) (xo16 : Vec F S1x1024 .f32) (xo17 : Vec F S1x128 .f32) (xo18 : Vec F S1x128 .f32) (xo19 : Vec F S1x512 .f32) (xo20 : Vec F S1x512 .f32) (xo21 : Vec F S4x128x128 .f32) (xo22 : Vec F S1x512 .f32) (xs0 : Vec F S4x128x128 .f32) (xs5 : Vec F S16x1024 .f32) (xs6 : Vec F S16x512 .f32) :
    Σ' (L13 : List (View.Piece (Elt F) S128x2048 .bf16)), Σ' (L14 : List (View.Piece (Elt F) S128x128 .f32)), Σ' (L15 : List (View.Piece (Elt F) S4x1024 .f32)), Σ' (L16 : List (View.Piece (Elt F) S1x1024 .f32)), Σ' (L17 : List (View.Piece (Elt F) S1x128 .f32)), Σ' (L18 : List (View.Piece (Elt F) S1x128 .f32)), Σ' (L19 : List (View.Piece (Elt F) S1x512 .f32)), Σ' (L20 : List (View.Piece (Elt F) S1x512 .f32)), Σ' (L21 : List (View.Piece (Elt F) S4x128x128 .f32)), Σ' (L22 : List (View.Piece (Elt F) S1x512 .f32)), Σ' (LS0 : List (View.Piece (Elt F) S4x128x128 .f32)), Σ' (LS5 : List (View.Piece (Elt F) S16x1024 .f32)), Σ' (LS6 : List (View.Piece (Elt F) S16x512 .f32)), Σ' (LT1 : List (View.Piece (Elt F) S144x1024 .f32)), Σ' (LT2 : List (View.Piece (Elt F) S144x512 .f32)), Σ' (LT3 : List (View.Piece (Elt F) S144x1024 .f32)), { LT4 : List (View.Piece (Elt F) S144x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xo15 ∗ owns (c : Thread nD τ) arg17 fullShare xo16 ∗ owns (c : Thread nD τ) arg18 fullShare xo17 ∗ owns (c : Thread nD τ) arg19 fullShare xo18 ∗ owns (c : Thread nD τ) arg20 fullShare xo19 ∗ owns (c : Thread nD τ) arg21 fullShare xo20 ∗ owns (c : Thread nD τ) arg22 fullShare xo21 ∗ owns (c : Thread nD τ) arg23 fullShare xo22 ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs5 ∗ owns (c : Thread nD τ) arg30 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ written c arg14 L13 ∗ written c arg15 L14 ∗ written c arg16 L15 ∗ written c arg17 L16 ∗ written c arg18 L17 ∗ written c arg19 L18 ∗ written c arg20 L19 ∗ written c arg21 L20 ∗ written c arg22 L21 ∗ written c arg23 L22 ∗ written c arg24 LS0 ∗ written c arg25 LT1 ∗ written c arg26 LT2 ∗ written c arg27 LT3 ∗ written c arg28 LT4 ∗ written c arg29 LS5 ∗ written c arg30 LS6) -∗ K ()))
          ⊢ wp frame (wpE (defs₀ (F := F)) Variants.none c none) E (cc0_ssd_pool_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, ?_, ?_, ?_, ?_, ?_, ?_, ?_, fun E K => ?run⟩
  case run =>
    simp only [cc0_ssd_pool_bwd_eq_skeleton]; unfold cc0_ssd_pool_bwd_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns written
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%fs0, %hfs0, Hs0⟩, ⟨%ds1, %fs1, -, Hs1⟩, ⟨%ds2, %fs2, -, Hs2⟩, ⟨%ds3, %fs3, -, Hs3⟩, ⟨%ds4, %fs4, -, Hs4⟩, ⟨%fs5, %hfs5, Hs5⟩, ⟨%fs6, %hfs6, Hs6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hfs0; obtain rfl := harg29.eq_unread hfs5; obtain rfl := harg30.eq_unread hfs6
    sl_exec (disch := first | sl_exact hc0)
    sl_step
    iapply Hk
    isplitl [H0]; · (iexists _; isplitr; (· ipureintro; exact harg1.read_unread _); iexact H0)
    isplitl [H1]; · (iexists _; isplitr; (· ipureintro; exact harg2.read_unread _); iexact H1)
    isplitl [H2]; · (iexists _; isplitr; (· ipureintro; exact harg3.read_unread _); iexact H2)
    isplitl [H3]; · (iexists _; isplitr; (· ipureintro; exact harg4.read_unread _); iexact H3)
    isplitl [H4]; · (iexists _; isplitr; (· ipureintro; exact harg5.read_unread _); iexact H4)
    isplitl [H5]; · (iexists _; isplitr; (· ipureintro; exact harg6.read_unread _); iexact H5)
    isplitl [H6]; · (iexists _; isplitr; (· ipureintro; exact harg7.read_unread _); iexact H6)
    isplitl [H7]; · (iexists _; isplitr; (· ipureintro; exact harg8.read_unread _); iexact H7)
    isplitl [H8]; · (iexists _; isplitr; (· ipureintro; exact harg9.read_unread _); iexact H8)
    isplitl [H9]; · (iexists _; isplitr; (· ipureintro; exact harg10.read_unread _); iexact H9)
    isplitl [H10]; · (iexists _; isplitr; (· ipureintro; exact harg11.read_unread _); iexact H10)
    isplitl [H11]; · (iexists _; isplitr; (· ipureintro; exact harg12.read_unread _); iexact H11)
    isplitl [H12]; · (iexists _; isplitr; (· ipureintro; exact harg13.read_unread _); iexact H12)
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexists _; iexact Hs6

end Cert.Ssd

end
-- ==== Proof.SsdBody.lean ====
module

public import proofs.«01_k».proof.Proof.SsdRunB

@[expose] public section

set_option maxRecDepth 16384

noncomputable section

namespace Cert.Ssd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- Two buffers with the same covering pieces written read the same: so the pieces alone say what a buffer holds. -/
theorem owns_of_written {sp : Space} {S : Shape} {e : EltTy} (c : Dev nD) (r : Memref sig .tc sp S e) (v : View sig .tc sp S e)
    (L : List (View.Piece (Elt F) S e)) (hL : ∀ y, ∃ p ∈ L, y ∈ p.1.set) :
    (written c r L : sProp 𝕄) ⊢ owns (c : Thread nD τ) r fullShare (v.read (Elt F) (v.writes (Elt F) v.junk L)) := by
  unfold written owns
  iintro ⟨%f, H⟩
  iexists _; isplitr
  swap; · iexact H
  ipureintro; exact View.read_writes_of_cover _ _ _ _ _ hL

theorem owns_of_written_any {sp : Space} {S : Shape} {e : EltTy} (c : Dev nD) (r : Memref sig .tc sp S e)
    (L : List (View.Piece (Elt F) S e)) :
    (written c r L : sProp 𝕄) ⊢ iprop(∃ d, owns (c : Thread nD τ) r fullShare d) := by
  unfold written owns
  iintro ⟨%f, H⟩
  iexists _; iexists _; isplitr
  swap; · iexact H
  ipureintro; rfl

/-! ## What the points leave -/

/-- The ten outputs' staging buffers and the three scratch buffers that one point hands to the next. -/
abbrev Outs : Type := Vec F S128x2048 .bf16 × Vec F S128x128 .f32 × Vec F S4x1024 .f32 × Vec F S1x1024 .f32 × Vec F S1x128 .f32 × Vec F S1x128 .f32 × Vec F S1x512 .f32 × Vec F S1x512 .f32 × Vec F S4x128x128 .f32 × Vec F S1x512 .f32 × Vec F S4x128x128 .f32 × Vec F S16x1024 .f32 × Vec F S16x512 .f32

variable (V : (c : Dev nD) → (b : Ref sig .tc) → Buf (Elt F) ((c : Thread nD τ).loc b))

/-- The block of window `w` at point `t`, in its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev out13 : View sig .tc .vmem S128x2048 .bf16 := (Memref.whole cc0_stg13_0 : Memref sig .tc .vmem S128x2048 .bf16).view
abbrev out14 : View sig .tc .vmem S128x128 .f32 := (Memref.whole cc0_stg14_0 : Memref sig .tc .vmem S128x128 .f32).view
abbrev out15 : View sig .tc .vmem S4x1024 .f32 := (Memref.whole cc0_stg15_0 : Memref sig .tc .vmem S4x1024 .f32).view
abbrev out16 : View sig .tc .vmem S1x1024 .f32 := (Memref.whole cc0_stg16_0 : Memref sig .tc .vmem S1x1024 .f32).view
abbrev out17 : View sig .tc .vmem S1x128 .f32 := (Memref.whole cc0_stg17_0 : Memref sig .tc .vmem S1x128 .f32).view
abbrev out18 : View sig .tc .vmem S1x128 .f32 := (Memref.whole cc0_stg18_0 : Memref sig .tc .vmem S1x128 .f32).view
abbrev out19 : View sig .tc .vmem S1x512 .f32 := (Memref.whole cc0_stg19_0 : Memref sig .tc .vmem S1x512 .f32).view
abbrev out20 : View sig .tc .vmem S1x512 .f32 := (Memref.whole cc0_stg20_0 : Memref sig .tc .vmem S1x512 .f32).view
abbrev out21 : View sig .tc .vmem S4x128x128 .f32 := (Memref.whole cc0_stg21_0 : Memref sig .tc .vmem S4x128x128 .f32).view
abbrev out22 : View sig .tc .vmem S1x512 .f32 := (Memref.whole cc0_stg22_0 : Memref sig .tc .vmem S1x512 .f32).view
abbrev scr0 : Memref sig .tc .vmem S4x128x128 .f32 := Memref.whole cc0_scratch0
abbrev scr1 : Memref sig .tc .vmem S144x1024 .f32 := Memref.whole cc0_scratch1
abbrev scr2 : Memref sig .tc .vmem S144x512 .f32 := Memref.whole cc0_scratch2
abbrev scr3 : Memref sig .tc .vmem S144x1024 .f32 := Memref.whole cc0_scratch3
abbrev scr4 : Memref sig .tc .vmem S144x512 .f32 := Memref.whole cc0_scratch4
abbrev scr5 : Memref sig .tc .vmem S16x1024 .f32 := Memref.whole cc0_scratch5
abbrev scr6 : Memref sig .tc .vmem S16x512 .f32 := Memref.whole cc0_scratch6

/-! The staging buffer each window uses at a point. -/
abbrev stg0 (t : Fin cfg0.N) : Memref sig .tc .vmem S128x1024 .bf16 := win0_0.stage (cfg0.slots t 0)
abbrev stg1 (t : Fin cfg0.N) : Memref sig .tc .vmem S128x2048 .bf16 := win0_1.stage (cfg0.slots t 1)
abbrev stg2 (t : Fin cfg0.N) : Memref sig .tc .vmem S16x2048 .bf16 := win0_2.stage (cfg0.slots t 2)
abbrev stg3 (t : Fin cfg0.N) : Memref sig .tc .vmem S128x128 .f32 := win0_3.stage (cfg0.slots t 3)
abbrev stg4 (t : Fin cfg0.N) : Memref sig .tc .vmem S1x4x128x128 .f32 := win0_4.stage (cfg0.slots t 4)
abbrev stg5 (t : Fin cfg0.N) : Memref sig .tc .vmem S4x1024 .f32 := win0_5.stage (cfg0.slots t 5)
abbrev stg6 (t : Fin cfg0.N) : Memref sig .tc .vmem S1x1024 .f32 := win0_6.stage (cfg0.slots t 6)
abbrev stg7 (t : Fin cfg0.N) : Memref sig .tc .vmem S1x128 .f32 := win0_7.stage (cfg0.slots t 7)
abbrev stg8 (t : Fin cfg0.N) : Memref sig .tc .vmem S1x128 .f32 := win0_8.stage (cfg0.slots t 8)
abbrev stg9 (t : Fin cfg0.N) : Memref sig .tc .vmem S1x512 .f32 := win0_9.stage (cfg0.slots t 9)
abbrev stg10 (t : Fin cfg0.N) : Memref sig .tc .vmem S1x512 .f32 := win0_10.stage (cfg0.slots t 10)
abbrev stg11 (t : Fin cfg0.N) : Memref sig .tc .vmem S4x128x128 .bf16 := win0_11.stage (cfg0.slots t 11)
abbrev stg12 (t : Fin cfg0.N) : Memref sig .tc .vmem S1x512 .f32 := win0_12.stage (cfg0.slots t 12)
abbrev stg13 (t : Fin cfg0.N) : Memref sig .tc .vmem S128x2048 .bf16 := win0_13.stage (cfg0.slots t 13)
abbrev stg14 (t : Fin cfg0.N) : Memref sig .tc .vmem S128x128 .f32 := win0_14.stage (cfg0.slots t 14)
abbrev stg15 (t : Fin cfg0.N) : Memref sig .tc .vmem S4x1024 .f32 := win0_15.stage (cfg0.slots t 15)
abbrev stg16 (t : Fin cfg0.N) : Memref sig .tc .vmem S1x1024 .f32 := win0_16.stage (cfg0.slots t 16)
abbrev stg17 (t : Fin cfg0.N) : Memref sig .tc .vmem S1x128 .f32 := win0_17.stage (cfg0.slots t 17)
abbrev stg18 (t : Fin cfg0.N) : Memref sig .tc .vmem S1x128 .f32 := win0_18.stage (cfg0.slots t 18)
abbrev stg19 (t : Fin cfg0.N) : Memref sig .tc .vmem S1x512 .f32 := win0_19.stage (cfg0.slots t 19)
abbrev stg20 (t : Fin cfg0.N) : Memref sig .tc .vmem S1x512 .f32 := win0_20.stage (cfg0.slots t 20)
abbrev stg21 (t : Fin cfg0.N) : Memref sig .tc .vmem S4x128x128 .f32 := win0_21.stage (cfg0.slots t 21)
abbrev stg22 (t : Fin cfg0.N) : Memref sig .tc .vmem S1x512 .f32 := win0_22.stage (cfg0.slots t 22)

/-- The pieces the body writes at the first point. -/
abbrev runA (c : Dev nD) (t : Fin cfg0.N) (h : t.val % 128 = 0) :=
  runA' c (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10)) (stg11 t) (hstage0_11 ((cfg0.slots t 11).cast nbuf0_11)) (stg12 t) (hstage0_12 ((cfg0.slots t 12).cast nbuf0_12)) (stg13 t) (hstage0_13 ((cfg0.slots t 13).cast nbuf0_13)) (stg14 t) (hstage0_14 ((cfg0.slots t 14).cast nbuf0_14)) (stg15 t) (hstage0_15 ((cfg0.slots t 15).cast nbuf0_15)) (stg16 t) (hstage0_16 ((cfg0.slots t 16).cast nbuf0_16)) (stg17 t) (hstage0_17 ((cfg0.slots t 17).cast nbuf0_17)) (stg18 t) (hstage0_18 ((cfg0.slots t 18).cast nbuf0_18)) (stg19 t) (hstage0_19 ((cfg0.slots t 19).cast nbuf0_19)) (stg20 t) (hstage0_20 ((cfg0.slots t 20).cast nbuf0_20)) (stg21 t) (hstage0_21 ((cfg0.slots t 21).cast nbuf0_21)) (stg22 t) (hstage0_22 ((cfg0.slots t 22).cast nbuf0_22)) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _)
    ((first_iff t).mpr h) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)

/-- The pieces it writes at a later point that finds `p`. -/
abbrev runB (c : Dev nD) (t : Fin cfg0.N) (h : ¬t.val % 128 = 0) (p : Outs (F := F)) :=
  runB' c (grid0.coords t) (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10)) (stg11 t) (hstage0_11 ((cfg0.slots t 11).cast nbuf0_11)) (stg12 t) (hstage0_12 ((cfg0.slots t 12).cast nbuf0_12)) (stg13 t) (hstage0_13 ((cfg0.slots t 13).cast nbuf0_13)) (stg14 t) (hstage0_14 ((cfg0.slots t 14).cast nbuf0_14)) (stg15 t) (hstage0_15 ((cfg0.slots t 15).cast nbuf0_15)) (stg16 t) (hstage0_16 ((cfg0.slots t 16).cast nbuf0_16)) (stg17 t) (hstage0_17 ((cfg0.slots t 17).cast nbuf0_17)) (stg18 t) (hstage0_18 ((cfg0.slots t 18).cast nbuf0_18)) (stg19 t) (hstage0_19 ((cfg0.slots t 19).cast nbuf0_19)) (stg20 t) (hstage0_20 ((cfg0.slots t 20).cast nbuf0_20)) (stg21 t) (hstage0_21 ((cfg0.slots t 21).cast nbuf0_21)) (stg22 t) (hstage0_22 ((cfg0.slots t 22).cast nbuf0_22)) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _)
    (mt (first_iff t).mp h) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
    p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2

/-- What the first point leaves. -/
def outsA (c : Dev nD) (t : Fin cfg0.N) (h : t.val % 128 = 0) : Outs (F := F) :=
  (out13.read (Elt F) (out13.writes (Elt F) out13.junk (runA V c t h).1),
   out14.read (Elt F) (out14.writes (Elt F) out14.junk (runA V c t h).2.1),
   out15.read (Elt F) (out15.writes (Elt F) out15.junk (runA V c t h).2.2.1),
   out16.read (Elt F) (out16.writes (Elt F) out16.junk (runA V c t h).2.2.2.1),
   out17.read (Elt F) (out17.writes (Elt F) out17.junk (runA V c t h).2.2.2.2.1),
   out18.read (Elt F) (out18.writes (Elt F) out18.junk (runA V c t h).2.2.2.2.2.1),
   out19.read (Elt F) (out19.writes (Elt F) out19.junk (runA V c t h).2.2.2.2.2.2.1),
   out20.read (Elt F) (out20.writes (Elt F) out20.junk (runA V c t h).2.2.2.2.2.2.2.1),
   out21.read (Elt F) (out21.writes (Elt F) out21.junk (runA V c t h).2.2.2.2.2.2.2.2.1),
   out22.read (Elt F) (out22.writes (Elt F) out22.junk (runA V c t h).2.2.2.2.2.2.2.2.2.1),
   scr0.view.read (Elt F) (scr0.view.writes (Elt F) scr0.view.junk (runA V c t h).2.2.2.2.2.2.2.2.2.2.1),
   scr5.view.read (Elt F) (scr5.view.writes (Elt F) scr5.view.junk (runA V c t h).2.2.2.2.2.2.2.2.2.2.2.1),
   scr6.view.read (Elt F) (scr6.view.writes (Elt F) scr6.view.junk (runA V c t h).2.2.2.2.2.2.2.2.2.2.2.2.1))

/-- What a later point leaves that finds `p`. -/
def outsB (c : Dev nD) (t : Fin cfg0.N) (h : ¬t.val % 128 = 0) (p : Outs (F := F)) : Outs (F := F) :=
  (out13.read (Elt F) (out13.writes (Elt F) out13.junk (runB V c t h p).1),
   out14.read (Elt F) (out14.writes (Elt F) out14.junk (runB V c t h p).2.1),
   out15.read (Elt F) (out15.writes (Elt F) out15.junk (runB V c t h p).2.2.1),
   out16.read (Elt F) (out16.writes (Elt F) out16.junk (runB V c t h p).2.2.2.1),
   out17.read (Elt F) (out17.writes (Elt F) out17.junk (runB V c t h p).2.2.2.2.1),
   out18.read (Elt F) (out18.writes (Elt F) out18.junk (runB V c t h p).2.2.2.2.2.1),
   out19.read (Elt F) (out19.writes (Elt F) out19.junk (runB V c t h p).2.2.2.2.2.2.1),
   out20.read (Elt F) (out20.writes (Elt F) out20.junk (runB V c t h p).2.2.2.2.2.2.2.1),
   out21.read (Elt F) (out21.writes (Elt F) out21.junk (runB V c t h p).2.2.2.2.2.2.2.2.1),
   out22.read (Elt F) (out22.writes (Elt F) out22.junk (runB V c t h p).2.2.2.2.2.2.2.2.2.1),
   scr0.view.read (Elt F) (scr0.view.writes (Elt F) scr0.view.junk (runB V c t h p).2.2.2.2.2.2.2.2.2.2.1),
   scr5.view.read (Elt F) (scr5.view.writes (Elt F) scr5.view.junk (runB V c t h p).2.2.2.2.2.2.2.2.2.2.2.1),
   scr6.view.read (Elt F) (scr6.view.writes (Elt F) scr6.view.junk (runB V c t h p).2.2.2.2.2.2.2.2.2.2.2.2.1))

/-- What point `n` leaves, from what the point before it left. -/
def outsAt (c : Dev nD) : (n : ℕ) → n < cfg0.N → Outs (F := F)
  | 0, hn => outsA V c ⟨0, hn⟩ rfl
  | n + 1, hn =>
    if h : (n + 1) % 128 = 0 then outsA V c ⟨n + 1, hn⟩ h
    else outsB V c ⟨n + 1, hn⟩ h (outsAt c n (Nat.lt_of_succ_lt hn))

theorem outsAt_A (c : Dev nD) (t : Fin cfg0.N) (h : t.val % 128 = 0) : outsAt V c t.val t.isLt = outsA V c t h := by
  obtain ⟨n, hn⟩ := t
  cases n with
  | zero => exact rfl
  | succ n => exact (dif_pos h).trans rfl

theorem outsAt_B (c : Dev nD) (t : Fin cfg0.N) (h : ¬t.val % 128 = 0) :
    outsAt V c t.val t.isLt = outsB V c t h (outsAt V c (t.val - 1) (Nat.lt_of_le_of_lt (Nat.sub_le _ _) t.isLt)) := by
  obtain ⟨n, hn⟩ := t
  cases n with
  | zero => exact absurd (Nat.zero_mod _) h
  | succ n => exact (dif_neg h).trans rfl

/-! ## The pipeline's proof data -/

/-- The scratch buffers after a point that left `p`: the carried ones as it left them, the others at anything. -/
def scratch (c : Dev nD) (p : Outs (F := F)) : sProp 𝕄 :=
  iprop(owns (c : Thread nD τ) scr0 fullShare p.2.2.2.2.2.2.2.2.2.2.1 ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ owns (c : Thread nD τ) scr5 fullShare p.2.2.2.2.2.2.2.2.2.2.2.1 ∗ owns (c : Thread nD τ) scr6 fullShare p.2.2.2.2.2.2.2.2.2.2.2.2)

/-- The scratch buffers at anything. -/
def scratchAny (c : Dev nD) : sProp 𝕄 :=
  iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d))

/-- A scratch buffer's contents may be forgotten. -/
theorem scratch_any (c : Dev nD) (p : Outs (F := F)) : (scratch c p : sProp 𝕄) ⊢ scratchAny c := by
  unfold scratch scratchAny
  iintro ⟨H0, H1, H2, H3, H4, H5, H6⟩
  isplitl [H0]; · iexists _; iexact H0
  isplitl [H1]; · iexact H1
  isplitl [H2]; · iexact H2
  isplitl [H3]; · iexact H3
  isplitl [H4]; · iexact H4
  isplitl [H5]; · iexists _; iexact H5
  iexists _; iexact H6

theorem rest_eq (c : Dev nD) : (Pipeline.ΦA spec0 c : sProp 𝕄) = iprop(scratchAny c ∗ (∃ r, prngReg c r)) := by
  unfold Pipeline.ΦA scratchAny
  rw [scopedRest0_eq]; simp only [scr0, scr1, scr2, scr3, scr4, scr5, scr6, owns_whole]; try rfl

/-- What holds between points: before the first the scratch at anything, later as the point before left it. -/
def between (c : Dev nD) : (n : ℕ) → n ≤ cfg0.N → sProp 𝕄
  | 0, _ => Pipeline.ΦA spec0 c
  | n + 1, hn => iprop(scratch c (outsAt V c n hn) ∗ (∃ r, prngReg c r))

theorem between_pos (c : Dev nD) (n : ℕ) (h : n ≤ cfg0.N) (hz : n ≠ 0) :
    between V c n h = iprop(scratch c (outsAt V c (n - 1) (by omega)) ∗ (∃ r, prngReg c r)) := by
  cases n with
  | zero => exact absurd rfl hz
  | succ n => rfl

/-- The arrays as the region finds them; after point `t` each input's buffer at its block, each output's as the point left it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => (outsAt V c t.val t.isLt).1
    | ⟨14, _⟩ => (outsAt V c t.val t.isLt).2.1
    | ⟨15, _⟩ => (outsAt V c t.val t.isLt).2.2.1
    | ⟨16, _⟩ => (outsAt V c t.val t.isLt).2.2.2.1
    | ⟨17, _⟩ => (outsAt V c t.val t.isLt).2.2.2.2.1
    | ⟨18, _⟩ => (outsAt V c t.val t.isLt).2.2.2.2.2.1
    | ⟨19, _⟩ => (outsAt V c t.val t.isLt).2.2.2.2.2.2.1
    | ⟨20, _⟩ => (outsAt V c t.val t.isLt).2.2.2.2.2.2.2.1
    | ⟨21, _⟩ => (outsAt V c t.val t.isLt).2.2.2.2.2.2.2.2.1
    | ⟨22, _⟩ => (outsAt V c t.val t.isLt).2.2.2.2.2.2.2.2.2.1
    | ⟨_ + 23, h⟩ => absurd h (Nat.not_lt.2 (Nat.le_add_left _ _))
  Φ t := between V c t.val (Nat.le_of_lt_succ t.isLt)
  q _ := fullShare
  owed _ := 0

theorem dat_A (c : Dev nD) (w : Fin cfg0.W) : (dat V c).A w = V c (Pipeline.arrRef spec0 w) := by
  dsimp only [dat]

/-- An input's staging buffer holds its block at every point, fetched there or kept. -/
theorem before_in (c : Dev nD) (w : Fin cfg0.W) (hin : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dat V c).after w t) = (dat V c).blockOf w t)
    (t : Fin cfg0.N) (d) : (dat V c).before w t d = (dat V c).fetched w t d :=
  (dat V c).before_in_eq_fetched w hin hlive hclip hkeep t d

/-- At a later point an accumulating output's buffer holds what the point before left. -/
theorem before_acc (c : Dev nD) (w : Fin cfg0.W) (hout : (cfg0.win w).isOut = true) (hlive : ∀ i, cfg0.idle w i = false)
    (hclip : ∀ (i : cfg0.grid.Coords) a, (cfg0.win w).clip i a = none)
    (hflush : ∀ t : Fin cfg0.N, (cfg0.win w).flush t = true ↔ t.val % 128 = 127)
    (t : Fin cfg0.N) (h : ¬t.val % 128 = 0) (d) :
    (dat V c).before w t d = (dat V c).after w ⟨t.val - 1, Nat.lt_of_le_of_lt (Nat.sub_le _ _) t.isLt⟩ := by
  have hN : t.val < 128 := lt_of_lt_of_eq t.isLt (show cfg0.N = 128 from N_0)
  exact Dat.before_out_kept _ w hout t (by omega)
    (Bool.eq_false_iff.mpr fun hf => by have := (hflush _).mp hf; dsimp only at this; omega) hlive hclip d

/-- The input windows' staging buffers at their blocks. -/
def inputs (c : Dev nD) (t : Fin cfg0.N) : sProp 𝕄 :=
  iprop(owns (c : Thread nD τ) (stg0 t) fullShare (iblk V c 0 t)
    ∗ owns (c : Thread nD τ) (stg1 t) fullShare (iblk V c 1 t)
    ∗ owns (c : Thread nD τ) (stg2 t) fullShare (iblk V c 2 t)
    ∗ owns (c : Thread nD τ) (stg3 t) fullShare (iblk V c 3 t)
    ∗ owns (c : Thread nD τ) (stg4 t) fullShare (iblk V c 4 t)
    ∗ owns (c : Thread nD τ) (stg5 t) fullShare (iblk V c 5 t)
    ∗ owns (c : Thread nD τ) (stg6 t) fullShare (iblk V c 6 t)
    ∗ owns (c : Thread nD τ) (stg7 t) fullShare (iblk V c 7 t)
    ∗ owns (c : Thread nD τ) (stg8 t) fullShare (iblk V c 8 t)
    ∗ owns (c : Thread nD τ) (stg9 t) fullShare (iblk V c 9 t)
    ∗ owns (c : Thread nD τ) (stg10 t) fullShare (iblk V c 10 t)
    ∗ owns (c : Thread nD τ) (stg11 t) fullShare (iblk V c 11 t)
    ∗ owns (c : Thread nD τ) (stg12 t) fullShare (iblk V c 12 t))

/-- The output windows' staging buffers after a point that left `p`. -/
def outputs (c : Dev nD) (t : Fin cfg0.N) (p : Outs (F := F)) : sProp 𝕄 :=
  iprop(owns (c : Thread nD τ) (stg13 t) fullShare p.1
    ∗ owns (c : Thread nD τ) (stg14 t) fullShare p.2.1
    ∗ owns (c : Thread nD τ) (stg15 t) fullShare p.2.2.1
    ∗ owns (c : Thread nD τ) (stg16 t) fullShare p.2.2.2.1
    ∗ owns (c : Thread nD τ) (stg17 t) fullShare p.2.2.2.2.1
    ∗ owns (c : Thread nD τ) (stg18 t) fullShare p.2.2.2.2.2.1
    ∗ owns (c : Thread nD τ) (stg19 t) fullShare p.2.2.2.2.2.2.1
    ∗ owns (c : Thread nD τ) (stg20 t) fullShare p.2.2.2.2.2.2.2.1
    ∗ owns (c : Thread nD τ) (stg21 t) fullShare p.2.2.2.2.2.2.2.2.1
    ∗ owns (c : Thread nD τ) (stg22 t) fullShare p.2.2.2.2.2.2.2.2.2.1)

/-- The output windows' staging buffers at anything. -/
def outputsAny (c : Dev nD) (t : Fin cfg0.N) : sProp 𝕄 :=
  iprop((∃ d, owns (c : Thread nD τ) (stg13 t) fullShare d)
    ∗ (∃ d, owns (c : Thread nD τ) (stg14 t) fullShare d)
    ∗ (∃ d, owns (c : Thread nD τ) (stg15 t) fullShare d)
    ∗ (∃ d, owns (c : Thread nD τ) (stg16 t) fullShare d)
    ∗ (∃ d, owns (c : Thread nD τ) (stg17 t) fullShare d)
    ∗ (∃ d, owns (c : Thread nD τ) (stg18 t) fullShare d)
    ∗ (∃ d, owns (c : Thread nD τ) (stg19 t) fullShare d)
    ∗ (∃ d, owns (c : Thread nD τ) (stg20 t) fullShare d)
    ∗ (∃ d, owns (c : Thread nD τ) (stg21 t) fullShare d)
    ∗ (∃ d, owns (c : Thread nD τ) (stg22 t) fullShare d))

/-- The two outputs that are written afresh at anything, the running ones as the point before left them. -/
def outputsKept (c : Dev nD) (t : Fin cfg0.N) (p : Outs (F := F)) : sProp 𝕄 :=
  iprop((∃ d, owns (c : Thread nD τ) (stg13 t) fullShare d)
    ∗ (∃ d, owns (c : Thread nD τ) (stg14 t) fullShare d)
    ∗ owns (c : Thread nD τ) (stg15 t) fullShare p.2.2.1
    ∗ owns (c : Thread nD τ) (stg16 t) fullShare p.2.2.2.1
    ∗ owns (c : Thread nD τ) (stg17 t) fullShare p.2.2.2.2.1
    ∗ owns (c : Thread nD τ) (stg18 t) fullShare p.2.2.2.2.2.1
    ∗ owns (c : Thread nD τ) (stg19 t) fullShare p.2.2.2.2.2.2.1
    ∗ owns (c : Thread nD τ) (stg20 t) fullShare p.2.2.2.2.2.2.2.1
    ∗ owns (c : Thread nD τ) (stg21 t) fullShare p.2.2.2.2.2.2.2.2.1
    ∗ owns (c : Thread nD τ) (stg22 t) fullShare p.2.2.2.2.2.2.2.2.2.1)

set_option maxHeartbeats 4000000 in
/-- The body at the first point. -/
theorem stepA (c : Dev nD) (t : Fin cfg0.N) (h : t.val % 128 = 0) (K : PUnit → sProp 𝕄) :
    iprop(inputs V c t ∗ outputsAny c t ∗ scratchAny c ∗ (iprop(inputs V c t ∗ outputs c t (outsA V c t h) ∗ scratch c (outsA V c t h)) -∗ K ()))
      ⊢ wp frame (wpE (defs₀ (F := F)) Variants.none c none) Set.univ (bodyAt0 t) K := by
  unfold inputs outputs scratch outputsAny scratchAny bodyAt0 outsA
  dsimp only
  iintro ⟨⟨H0, H1, H2, H3, H4, H5, H6, H7, H8, H9, H10, H11, H12⟩, ⟨H13, H14, H15, H16, H17, H18, H19, H20, H21, H22⟩, ⟨S0, S1, S2, S3, S4, S5, S6⟩, Hk⟩
  iapply ((runA V c t h).2.2.2.2.2.2.2.2.2.2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, H12, H13, H14, H15, H16, H17, H18, H19, H20, H21, H22, S0, S1, S2, S3, S4, S5, S6⟩
  iapply Hk
  isplitl [H0 H1 H2 H3 H4 H5 H6 H7 H8 H9 H10 H11 H12]
  · iframe H0 H1 H2 H3 H4 H5 H6 H7 H8 H9 H10 H11 H12
  isplitl [H13 H14 H15 H16 H17 H18 H19 H20 H21 H22]
  · isplitl [H13]; · iapply (owns_of_written c _ out13 _ (View.cover_of_tiledBy _ ![128, 512] (by sl_kernel_rfl))); iexact H13
    isplitl [H14]; · iapply (owns_of_written c _ out14 _ (View.cover_of_tiledL _ S128x128.size (by sl_kernel_rfl))); iexact H14
    isplitl [H15]; · iapply (owns_of_written c _ out15 _ (View.cover_of_tiledBy _ ![1, 1024] (by sl_kernel_rfl))); iexact H15
    isplitl [H16]; · iapply (owns_of_written c _ out16 _ (View.cover_of_tiledL _ S1x1024.size (by sl_kernel_rfl))); iexact H16
    isplitl [H17]; · iapply (owns_of_written c _ out17 _ (View.cover_of_tiledL _ S1x128.size (by sl_kernel_rfl))); iexact H17
    isplitl [H18]; · iapply (owns_of_written c _ out18 _ (View.cover_of_tiledL _ S1x128.size (by sl_kernel_rfl))); iexact H18
    isplitl [H19]; · iapply (owns_of_written c _ out19 _ (View.cover_of_tiledL _ S1x512.size (by sl_kernel_rfl))); iexact H19
    isplitl [H20]; · iapply (owns_of_written c _ out20 _ (View.cover_of_tiledL _ S1x512.size (by sl_kernel_rfl))); iexact H20
    isplitl [H21]; · iapply (owns_of_written c _ out21 _ (View.cover_of_tiledBy _ ![1, 128, 128] (by sl_kernel_rfl))); iexact H21
    iapply (owns_of_written c _ out22 _ (View.cover_of_tiledL _ S1x512.size (by sl_kernel_rfl))); iexact H22
  isplitl [S0]; · iapply (owns_of_written c _ scr0.view _ (View.cover_of_wholeMem _ (by sl_whole_mem))); iexact S0
  isplitl [S1]; · iapply (owns_of_written_any c _ _); iexact S1
  isplitl [S2]; · iapply (owns_of_written_any c _ _); iexact S2
  isplitl [S3]; · iapply (owns_of_written_any c _ _); iexact S3
  isplitl [S4]; · iapply (owns_of_written_any c _ _); iexact S4
  isplitl [S5]; · iapply (owns_of_written c _ scr5.view _ (View.cover_of_tiledL _ S16x1024.size (by sl_kernel_rfl))); iexact S5
  iapply (owns_of_written c _ scr6.view _ (View.cover_of_tiledL _ S16x512.size (by sl_kernel_rfl))); iexact S6

set_option maxHeartbeats 4000000 in
/-- The body at a later point that finds `p`. -/
theorem stepB (c : Dev nD) (t : Fin cfg0.N) (h : ¬t.val % 128 = 0) (p : Outs (F := F)) (K : PUnit → sProp 𝕄) :
    iprop(inputs V c t ∗ outputsKept c t p ∗ scratch c p ∗ (iprop(inputs V c t ∗ outputs c t (outsB V c t h p) ∗ scratch c (outsB V c t h p)) -∗ K ()))
      ⊢ wp frame (wpE (defs₀ (F := F)) Variants.none c none) Set.univ (bodyAt0 t) K := by
  unfold inputs outputs scratch outputsKept bodyAt0 outsB
  dsimp only
  iintro ⟨⟨H0, H1, H2, H3, H4, H5, H6, H7, H8, H9, H10, H11, H12⟩, ⟨H13, H14, H15, H16, H17, H18, H19, H20, H21, H22⟩, ⟨S0, S1, S2, S3, S4, S5, S6⟩, Hk⟩
  iapply ((runB V c t h p).2.2.2.2.2.2.2.2.2.2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, H12, H13, H14, H15, H16, H17, H18, H19, H20, H21, H22, S0, S1, S2, S3, S4, S5, S6⟩
  iapply Hk
  isplitl [H0 H1 H2 H3 H4 H5 H6 H7 H8 H9 H10 H11 H12]
  · iframe H0 H1 H2 H3 H4 H5 H6 H7 H8 H9 H10 H11 H12
  isplitl [H13 H14 H15 H16 H17 H18 H19 H20 H21 H22]
  · isplitl [H13]; · iapply (owns_of_written c _ out13 _ (View.cover_of_tiledBy _ ![128, 512] (by sl_kernel_rfl))); iexact H13
    isplitl [H14]; · iapply (owns_of_written c _ out14 _ (View.cover_of_tiledL _ S128x128.size (by sl_kernel_rfl))); iexact H14
    isplitl [H15]; · iapply (owns_of_written c _ out15 _ (View.cover_of_tiledL _ S1x1024.size (by sl_kernel_rfl))); iexact H15
    isplitl [H16]; · iapply (owns_of_written c _ out16 _ (View.cover_of_tiledL _ S1x1024.size (by sl_kernel_rfl))); iexact H16
    isplitl [H17]; · iapply (owns_of_written c _ out17 _ (View.cover_of_tiledL _ S1x128.size (by sl_kernel_rfl))); iexact H17
    isplitl [H18]; · iapply (owns_of_written c _ out18 _ (View.cover_of_tiledL _ S1x128.size (by sl_kernel_rfl))); iexact H18
    isplitl [H19]; · iapply (owns_of_written c _ out19 _ (View.cover_of_tiledL _ S1x512.size (by sl_kernel_rfl))); iexact H19
    isplitl [H20]; · iapply (owns_of_written c _ out20 _ (View.cover_of_tiledL _ S1x512.size (by sl_kernel_rfl))); iexact H20
    isplitl [H21]; · iapply (owns_of_written c _ out21 _ (View.cover_of_tiledL _ S1x128x128.size (by sl_kernel_rfl))); iexact H21
    iapply (owns_of_written c _ out22 _ (View.cover_of_tiledL _ S1x512.size (by sl_kernel_rfl))); iexact H22
  isplitl [S0]; · iapply (owns_of_written c _ scr0.view _ (View.cover_of_tiledL _ S1x128x128.size (by sl_kernel_rfl))); iexact S0
  isplitl [S1]; · iapply (owns_of_written_any c _ _); iexact S1
  isplitl [S2]; · iapply (owns_of_written_any c _ _); iexact S2
  isplitl [S3]; · iapply (owns_of_written_any c _ _); iexact S3
  isplitl [S4]; · iapply (owns_of_written_any c _ _); iexact S4
  isplitl [S5]; · iapply (owns_of_written c _ scr5.view _ (View.cover_of_tiledL _ S16x1024.size (by sl_kernel_rfl))); iexact S5
  iapply (owns_of_written c _ scr6.view _ (View.cover_of_tiledL _ S16x512.size (by sl_kernel_rfl))); iexact S6

/-! ## Every point -/

/-- What the pipeline hands the body at point `t`, -/
def bodyPre (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d))
    ∗ (∃ d, owns (c : Thread nD τ) (stg3 t) fullShare ((dat V c).before 3 t d))
    ∗ (∃ d, owns (c : Thread nD τ) (stg4 t) fullShare ((dat V c).before 4 t d))
    ∗ (∃ d, owns (c : Thread nD τ) (stg5 t) fullShare ((dat V c).before 5 t d))
    ∗ (∃ d, owns (c : Thread nD τ) (stg6 t) fullShare ((dat V c).before 6 t d))
    ∗ (∃ d, owns (c : Thread nD τ) (stg7 t) fullShare ((dat V c).before 7 t d))
    ∗ (∃ d, owns (c : Thread nD τ) (stg8 t) fullShare ((dat V c).before 8 t d))
    ∗ (∃ d, owns (c : Thread nD τ) (stg9 t) fullShare ((dat V c).before 9 t d))
    ∗ (∃ d, owns (c : Thread nD τ) (stg10 t) fullShare ((dat V c).before 10 t d))
    ∗ (∃ d, owns (c : Thread nD τ) (stg11 t) fullShare ((dat V c).before 11 t d))
    ∗ (∃ d, owns (c : Thread nD τ) (stg12 t) fullShare ((dat V c).before 12 t d))
    ∗ (∃ d, owns (c : Thread nD τ) (stg13 t) fullShare ((dat V c).before 13 t d))
    ∗ (∃ d, owns (c : Thread nD τ) (stg14 t) fullShare ((dat V c).before 14 t d))
    ∗ (∃ d, owns (c : Thread nD τ) (stg15 t) fullShare ((dat V c).before 15 t d))
    ∗ (∃ d, owns (c : Thread nD τ) (stg16 t) fullShare ((dat V c).before 16 t d))
    ∗ (∃ d, owns (c : Thread nD τ) (stg17 t) fullShare ((dat V c).before 17 t d))
    ∗ (∃ d, owns (c : Thread nD τ) (stg18 t) fullShare ((dat V c).before 18 t d))
    ∗ (∃ d, owns (c : Thread nD τ) (stg19 t) fullShare ((dat V c).before 19 t d))
    ∗ (∃ d, owns (c : Thread nD τ) (stg20 t) fullShare ((dat V c).before 20 t d))
    ∗ (∃ d, owns (c : Thread nD τ) (stg21 t) fullShare ((dat V c).before 21 t d))
    ∗ (∃ d, owns (c : Thread nD τ) (stg22 t) fullShare ((dat V c).before 22 t d)))

/-- and what the body gives back. -/
def bodyPost (c : Dev nD) (t : Fin cfg0.N) : sProp 𝕄 :=
  iprop((dat V c).Φ t.succ ∗ (dat V c).owesAt () t.succ
    ∗ owns (c : Thread nD τ) (stg0 t) fullShare ((dat V c).after 0 t)
    ∗ owns (c : Thread nD τ) (stg1 t) fullShare ((dat V c).after 1 t)
    ∗ owns (c : Thread nD τ) (stg2 t) fullShare ((dat V c).after 2 t)
    ∗ owns (c : Thread nD τ) (stg3 t) fullShare ((dat V c).after 3 t)
    ∗ owns (c : Thread nD τ) (stg4 t) fullShare ((dat V c).after 4 t)
    ∗ owns (c : Thread nD τ) (stg5 t) fullShare ((dat V c).after 5 t)
    ∗ owns (c : Thread nD τ) (stg6 t) fullShare ((dat V c).after 6 t)
    ∗ owns (c : Thread nD τ) (stg7 t) fullShare ((dat V c).after 7 t)
    ∗ owns (c : Thread nD τ) (stg8 t) fullShare ((dat V c).after 8 t)
    ∗ owns (c : Thread nD τ) (stg9 t) fullShare ((dat V c).after 9 t)
    ∗ owns (c : Thread nD τ) (stg10 t) fullShare ((dat V c).after 10 t)
    ∗ owns (c : Thread nD τ) (stg11 t) fullShare ((dat V c).after 11 t)
    ∗ owns (c : Thread nD τ) (stg12 t) fullShare ((dat V c).after 12 t)
    ∗ owns (c : Thread nD τ) (stg13 t) fullShare ((dat V c).after 13 t)
    ∗ owns (c : Thread nD τ) (stg14 t) fullShare ((dat V c).after 14 t)
    ∗ owns (c : Thread nD τ) (stg15 t) fullShare ((dat V c).after 15 t)
    ∗ owns (c : Thread nD τ) (stg16 t) fullShare ((dat V c).after 16 t)
    ∗ owns (c : Thread nD τ) (stg17 t) fullShare ((dat V c).after 17 t)
    ∗ owns (c : Thread nD τ) (stg18 t) fullShare ((dat V c).after 18 t)
    ∗ owns (c : Thread nD τ) (stg19 t) fullShare ((dat V c).after 19 t)
    ∗ owns (c : Thread nD τ) (stg20 t) fullShare ((dat V c).after 20 t)
    ∗ owns (c : Thread nD τ) (stg21 t) fullShare ((dat V c).after 21 t)
    ∗ owns (c : Thread nD τ) (stg22 t) fullShare ((dat V c).after 22 t))

set_option maxHeartbeats 4000000 in
theorem body_post (c : Dev nD) (t : Fin cfg0.N) :
    iprop((∃ r, prngReg c r) ∗ (dat V c).owesAt () t.castSucc ∗ inputs V c t ∗ outputs c t (outsAt V c t.val t.isLt) ∗ scratch c (outsAt V c t.val t.isLt))
      ⊢ bodyPost V c t := by
  unfold bodyPost inputs outputs
  rw [show (dat V c).owesAt () t.succ = (dat V c).owesAt () t.castSucc from rfl,
    show (dat V c).Φ t.succ = iprop(scratch c (outsAt V c t.val t.isLt) ∗ (∃ r, prngReg c r)) from rfl]
  dsimp only [dat]
  iintro ⟨Hg, Ho, ⟨H0, H1, H2, H3, H4, H5, H6, H7, H8, H9, H10, H11, H12⟩, ⟨H13, H14, H15, H16, H17, H18, H19, H20, H21, H22⟩, Hs⟩
  iframe Hs Hg Ho H0 H1 H2 H3 H4 H5 H6 H7 H8 H9 H10 H11 H12 H13 H14 H15 H16 H17 H18 H19 H20 H21 H22

set_option maxHeartbeats 4000000 in
theorem body_pre (c : Dev nD) (t : Fin cfg0.N) :
    bodyPre V c t ⊢ iprop((dat V c).Φ t.castSucc ∗ (dat V c).owesAt () t.castSucc ∗ inputs V c t
    ∗ (∃ d, owns (c : Thread nD τ) (stg13 t) fullShare ((dat V c).before 13 t d))
    ∗ (∃ d, owns (c : Thread nD τ) (stg14 t) fullShare ((dat V c).before 14 t d))
    ∗ (∃ d, owns (c : Thread nD τ) (stg15 t) fullShare ((dat V c).before 15 t d))
    ∗ (∃ d, owns (c : Thread nD τ) (stg16 t) fullShare ((dat V c).before 16 t d))
    ∗ (∃ d, owns (c : Thread nD τ) (stg17 t) fullShare ((dat V c).before 17 t d))
    ∗ (∃ d, owns (c : Thread nD τ) (stg18 t) fullShare ((dat V c).before 18 t d))
    ∗ (∃ d, owns (c : Thread nD τ) (stg19 t) fullShare ((dat V c).before 19 t d))
    ∗ (∃ d, owns (c : Thread nD τ) (stg20 t) fullShare ((dat V c).before 20 t d))
    ∗ (∃ d, owns (c : Thread nD τ) (stg21 t) fullShare ((dat V c).before 21 t d))
    ∗ (∃ d, owns (c : Thread nD τ) (stg22 t) fullShare ((dat V c).before 22 t d))) := by
  unfold bodyPre inputs
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19, H20, H21, H22⟩
  rw [before_in V c 0 rfl (fun _ => rfl) (fun _ _ _ => rfl) (fun _ => rfl) t d0, before_in V c 1 rfl (fun _ => rfl) (fun _ _ _ => rfl) (fun _ => rfl) t d1, before_in V c 2 rfl (fun _ => rfl) (fun _ _ _ => rfl) (fun _ => rfl) t d2, before_in V c 3 rfl (fun _ => rfl) (fun _ _ _ => rfl) (fun _ => rfl) t d3, before_in V c 4 rfl (fun _ => rfl) (fun _ _ _ => rfl) (fun _ => rfl) t d4, before_in V c 5 rfl (fun _ => rfl) (fun _ _ _ => rfl) (fun _ => rfl) t d5, before_in V c 6 rfl (fun _ => rfl) (fun _ _ _ => rfl) (fun _ => rfl) t d6, before_in V c 7 rfl (fun _ => rfl) (fun _ _ _ => rfl) (fun _ => rfl) t d7, before_in V c 8 rfl (fun _ => rfl) (fun _ _ _ => rfl) (fun _ => rfl) t d8, before_in V c 9 rfl (fun _ => rfl) (fun _ _ _ => rfl) (fun _ => rfl) t d9, before_in V c 10 rfl (fun _ => rfl) (fun _ _ _ => rfl) (fun _ => rfl) t d10, before_in V c 11 rfl (fun _ => rfl) (fun _ _ _ => rfl) (fun _ => rfl) t d11, before_in V c 12 rfl (fun _ => rfl) (fun _ _ _ => rfl) (fun _ => rfl) t d12]
  iframe HΦ Ho H0 H1 H2 H3 H4 H5 H6 H7 H8 H9 H10 H11 H12 H13 H14 H15 H16 H17 H18 H19 H20 H21 H22

/-- The body runs at any point from what the pipeline hands it to what it expects back. -/
theorem sound_body (c : Dev nD) (t : Fin cfg0.N) :
    bodyPre V c t ⊢ wp frame (wpE (defs₀ (F := F)) Variants.none c none) Set.univ (bodyAt0 t) (fun _ => bodyPost V c t) := by
  have hN : t.val < 128 := lt_of_lt_of_eq t.isLt (show cfg0.N = 128 from N_0)
  refine (body_pre V c t).trans ?_
  by_cases h : t.val % 128 = 0
  · have hz : t.val = 0 := by omega
    have hΦ : (dat V c).Φ t.castSucc = iprop(scratchAny c ∗ (∃ r, prngReg c r)) := by
      refine Eq.trans ?_ (rest_eq c)
      obtain ⟨n, hn⟩ := t
      obtain rfl : n = 0 := hz
      rfl
    rw [hΦ]
    iintro ⟨⟨Hs, Hg⟩, Ho, Hi, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (stepA V c t h)
    isplitl [Hi]; · iexact Hi
    isplitl [H13 H14 H15 H16 H17 H18 H19 H20 H21 H22]
    · unfold outputsAny
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      iexists _; iexact H22
    isplitl [Hs]; · iexact Hs
    rw [← outsAt_A V c t h]
    iintro ⟨Hi, Hout, Hs⟩
    iapply (body_post V c t)
    iframe Hg Ho Hi Hout Hs
  · have hΦ : (dat V c).Φ t.castSucc = iprop(scratch c (outsAt V c (t.val - 1) (Nat.lt_of_le_of_lt (Nat.sub_le _ _) t.isLt)) ∗ (∃ r, prngReg c r)) := by
      refine Eq.trans ?_ (between_pos V c t.val (Nat.le_of_lt t.isLt) (by omega))
      dsimp only [dat]; exact Pipeline.Dat.Φ_castSucc (between V c) t
    rw [hΦ]
    iintro ⟨⟨Hs, Hg⟩, Ho, Hi, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    rw [before_acc V c 15 rfl (fun _ => rfl) (fun _ _ => rfl) flush0_15 t h d15, before_acc V c 16 rfl (fun _ => rfl) (fun _ _ => rfl) flush0_16 t h d16, before_acc V c 17 rfl (fun _ => rfl) (fun _ _ => rfl) flush0_17 t h d17, before_acc V c 18 rfl (fun _ => rfl) (fun _ _ => rfl) flush0_18 t h d18, before_acc V c 19 rfl (fun _ => rfl) (fun _ _ => rfl) flush0_19 t h d19, before_acc V c 20 rfl (fun _ => rfl) (fun _ _ => rfl) flush0_20 t h d20, before_acc V c 21 rfl (fun _ => rfl) (fun _ _ => rfl) flush0_21 t h d21, before_acc V c 22 rfl (fun _ => rfl) (fun _ _ => rfl) flush0_22 t h d22]
    iapply (stepB V c t h (outsAt V c (t.val - 1) (Nat.lt_of_le_of_lt (Nat.sub_le _ _) t.isLt)))
    isplitl [Hi]; · iexact Hi
    isplitl [H13 H14 H15 H16 H17 H18 H19 H20 H21 H22]
    · unfold outputsKept
      isplitl [H13]; · iexists _; iexact H13
      isplitl [H14]; · iexists _; iexact H14
      dsimp only [dat]
      iframe H15 H16 H17 H18 H19 H20 H21 H22
    isplitl [Hs]; · iexact Hs
    rw [← outsAt_B V c t h]
    iintro ⟨Hi, Hout, Hs⟩
    iapply (body_post V c t)
    iframe Hg Ho Hi Hout Hs

theorem row (t : Fin cfg0.N) : defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, row]
  exact triple_restated (sound_body V c t) rfl .rfl fun _ => .rfl

theorem between_first (c : Dev nD) : Pipeline.ΦA spec0 c ⊢ (dat V c).Φ 0 := by
  rw [show (dat V c).Φ 0 = Pipeline.ΦA spec0 c from rfl]
  try exact Idealize.SL.BI.Entails.refl _

theorem between_last (c : Dev nD) : (dat V c).Φ (Fin.last cfg0.N) ⊢ Pipeline.ΦA spec0 c := by
  rw [show (dat V c).Φ (Fin.last cfg0.N) = between V c cfg0.N (Nat.le_refl _) from rfl,
    between_pos V c cfg0.N (Nat.le_refl _) (by rw [show cfg0.N = 128 from N_0]; omega), rest_eq]
  iintro ⟨Hs, Hg⟩
  isplitl [Hs]
  · iapply (scratch_any c _); iexact Hs
  iexact Hg

end Cert.Ssd

end
-- ==== Proof.SsdFrame.lean ====
/- The run of the state-space call's program: the host's stretches and its one loop before the kernel's region, each
   from the contents the one before it leaves. -/
module

public import proofs.«01_k».proof.Proof.SsdBody
public import Idealize.ShloMosaic.Lib.Pipeline.RegionsLoop
public import Idealize.ShloMosaic.Lib.StableHlo.RunLoop
public import Idealize.ShloMosaic.Lib.StableHlo.RunRead
public import Idealize.ShloMosaic.Lib.Pipeline.FrameSuffix
public import Idealize.ShloMosaic.Lib.Scf.ExitTest
public import Idealize.ShloMosaic.Lib.Scf.Counter
public import Idealize.ShloMosaic.Lib.WordCmp

@[expose] public section

set_option maxRecDepth 16384

noncomputable section

namespace Cert.Ssd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev args : List (Ref sig .tc) := [main_arg0, main_arg1, main_arg2, main_arg3, main_arg4, main_arg5, main_arg6, main_arg7, main_arg8, main_arg9]

/-- The loop condition's two operations. -/
abbrev condOps : List (HloOp τ sig (Elt F)) :=
  [ StableHlo.nullary main_while0c_c_9 (constantI S_ 32 128#32),
    StableHlo.binary main_v95_2 main_while0c_c_9 main_while0c_v101 (cmpi .slt) ]

/-- The stretches before the loop, and the loop body's. -/
abbrev preI : List (List (HloOp τ sig (Elt F))) := [hostOps0, hostOps0_1, hostOps0_2, hostOps0_3, hostOps0_4, hostOps0_5, hostOps0_6]
abbrev bodyI : List (List (HloOp τ sig (Elt F))) := [while0Ops0, while0Ops0_1, while0Ops0_2, while0Ops0_3, while0Ops0_4]

set_option maxRecDepth 100000 in
set_option maxHeartbeats 4000000 in
theorem plain_body : StableHlo.Plain (bodyI (F := F)) :=
  .cons while0Ops0_sub <| .cons while0Ops0_1_sub <| .cons while0Ops0_2_sub <| .cons while0Ops0_3_sub <| .cons while0Ops0_4_sub .nil

/-! ## What each stretch writes -/

/-- The operations write these references only. -/
abbrev Writes (ops : List (HloOp τ sig (Elt F))) (W : List (Ref sig .tc)) : Prop :=
  ops.Forall fun op => op.writes ⊆ (W.map (Proc.devRef (τ := τ) .tc)).toFinset

/-- A reference that no stretch of a list writes keeps its contents across the list. -/
theorem afterL_keep {L : List (List (HloOp τ sig (Elt F)))} {Ws : List (List (Ref sig .tc))} (h : List.Forall₂ Writes L Ws)
    (r : Ref sig .tc) (hr : ∀ W ∈ Ws, r ∉ W) (V : Valuation τ sig (Elt F)) :
    StableHlo.afterL L V (Proc.devRef .tc r) = V (Proc.devRef .tc r) := by
  induction h generalizing V with
  | nil => rfl
  | cons hw _ ih =>
    rw [StableHlo.afterL_cons, ih fun W hW => hr W (List.mem_cons_of_mem _ hW)]
    exact StableHlo.after_of_writes_sub _ _ hw (hr _ List.mem_cons_self)

theorem hostOps0_fresh : (hostOps0 : List (HloOp τ sig (Elt F))).Forall fun op => op.fresh = ∅ := by
  simp only [List.Forall]; repeat' constructor
abbrev hostOps0_W : List (Ref sig .tc) :=
  [main_v0, main_v1, main_v2, main_v3, main_v4, main_v5, main_v6, main_v7, main_v8, main_cst, main_v9, main_v10, main_v11, main_cst_0,
   main_v12, main_v13, main_v14, main_cst_1, main_v15, main_v16, main_v17, main_v18, main_v19, main_v20, main_v21, main_v22, main_v23,
   main_v24, main_cst_2, main_v25, main_v26, main_v27, main_v28, main_v29, main_v30, main_v31, main_v32, main_v33, main_v34, main_v35,
   main_v36, main_v37, main_v38, main_v39, main_v40, main_v41, main_v42, main_v43, main_v44, main_v45, main_v46, main_v47, main_v48,
   main_v49, main_v50, main_v51, main_v52, main_v53, main_v54, main_v55, main_v56]
theorem hostOps0_writes : Writes (F := F) hostOps0 hostOps0_W := StableHlo.forall_writes_sub_of_map rfl

theorem hostOps0_1_fresh : (hostOps0_1 : List (HloOp τ sig (Elt F))).Forall fun op => op.fresh = ∅ := by
  simp only [List.Forall]; repeat' constructor
abbrev hostOps0_1_W : List (Ref sig .tc) :=
  [main_call0_v0, main_call0_v1, main_call0_cst, main_call0_v2, main_call0_v3, main_call0_cst_0, main_call0_v4, main_call0_v5, main_v57]
theorem hostOps0_1_writes : Writes (F := F) hostOps0_1 hostOps0_1_W := StableHlo.forall_writes_sub_of_map rfl

theorem hostOps0_2_fresh : (hostOps0_2 : List (HloOp τ sig (Elt F))).Forall fun op => op.fresh = ∅ := by
  simp only [List.Forall]; repeat' constructor
abbrev hostOps0_2_W : List (Ref sig .tc) :=
  [main_v58, main_v59, main_v60, main_v61, main_v62, main_v63, main_v64]
theorem hostOps0_2_writes : Writes (F := F) hostOps0_2 hostOps0_2_W := StableHlo.forall_writes_sub_of_map rfl

theorem hostOps0_3_fresh : (hostOps0_3 : List (HloOp τ sig (Elt F))).Forall fun op => op.fresh = ∅ := by
  simp only [List.Forall]; repeat' constructor
abbrev hostOps0_3_W : List (Ref sig .tc) :=
  [main_call1_cst, main_call1_v0, main_call1_v1, main_call1_v2, main_call1_v3, main_call1_v4, main_call1_v5, main_call1_v6, main_call1_v7,
   main_call1_v8, main_call1_v9, main_call1_v10, main_call1_v11, main_v65]
theorem hostOps0_3_writes : Writes (F := F) hostOps0_3 hostOps0_3_W := StableHlo.forall_writes_sub_of_map rfl

theorem hostOps0_4_fresh : (hostOps0_4 : List (HloOp τ sig (Elt F))).Forall fun op => op.fresh = ∅ := by
  simp only [List.Forall]; repeat' constructor
abbrev hostOps0_4_W : List (Ref sig .tc) :=
  [main_v66, main_v67, main_v68, main_v69, main_v70, main_v71, main_v72, main_v73, main_v74, main_v75, main_v76, main_v77]
theorem hostOps0_4_writes : Writes (F := F) hostOps0_4 hostOps0_4_W := StableHlo.forall_writes_sub_of_map rfl

theorem hostOps0_5_fresh : (hostOps0_5 : List (HloOp τ sig (Elt F))).Forall fun op => op.fresh = ∅ := by
  simp only [List.Forall]; repeat' constructor
abbrev hostOps0_5_W : List (Ref sig .tc) :=
  [main_call2_call0_cst, main_call2_call0_v0, main_v78]
theorem hostOps0_5_writes : Writes (F := F) hostOps0_5 hostOps0_5_W := StableHlo.forall_writes_sub_of_map rfl

theorem hostOps0_6_fresh : (hostOps0_6 : List (HloOp τ sig (Elt F))).Forall fun op => op.fresh = ∅ := by
  simp only [List.Forall]; repeat' constructor
abbrev hostOps0_6_W : List (Ref sig .tc) :=
  [main_v79, main_v80, main_v81, main_v82, main_v83, main_v84, main_v85, main_v86, main_v87, main_v88, main_v89, main_v90, main_v91,
   main_cst_3, main_v92, main_v93, main_cst_4, main_v94, main_c, main_v95_0, main_v95_1, main_v95_2, main_v95_3, main_v95_4]
theorem hostOps0_6_writes : Writes (F := F) hostOps0_6 hostOps0_6_W := StableHlo.forall_writes_sub_of_map rfl

theorem hostOps0_7_fresh : (hostOps0_7 : List (HloOp τ sig (Elt F))).Forall fun op => op.fresh = ∅ := by
  simp only [List.Forall]; repeat' constructor
abbrev hostOps0_7_W : List (Ref sig .tc) :=
  [main_v96, main_v97, main_v98, main_v99]
theorem hostOps0_7_writes : Writes (F := F) hostOps0_7 hostOps0_7_W := StableHlo.forall_writes_sub_of_map rfl

abbrev while0Ops0_W : List (Ref sig .tc) :=
  [main_while0b_call3_c, main_while0b_call3_c_0, main_while0b_call3_v0, main_while0b_v101]
theorem while0Ops0_writes : Writes (F := F) while0Ops0 while0Ops0_W := StableHlo.forall_writes_sub_of_map rfl

abbrev while0Ops0_1_W : List (Ref sig .tc) :=
  [main_while0b_call4_c, main_while0b_call4_c_0, main_while0b_call4_c_1, main_while0b_call4_c_2, main_while0b_call4_v0, main_while0b_v102]
theorem while0Ops0_1_writes : Writes (F := F) while0Ops0_1 while0Ops0_1_W := StableHlo.forall_writes_sub_of_map rfl

abbrev while0Ops0_2_W : List (Ref sig .tc) :=
  [main_while0b_v103, main_while0b_v104, main_while0b_v105, main_while0b_v106]
theorem while0Ops0_2_writes : Writes (F := F) while0Ops0_2 while0Ops0_2_W := StableHlo.forall_writes_sub_of_map rfl

abbrev while0Ops0_3_W : List (Ref sig .tc) :=
  [main_while0b_call5_v0, main_while0b_call5_c, main_while0b_call5_c_0, main_while0b_call5_c_1, main_while0b_call5_c_2, main_while0b_v107]
theorem while0Ops0_3_writes : Writes (F := F) while0Ops0_3 while0Ops0_3_W := StableHlo.forall_writes_sub_of_map rfl

abbrev while0Ops0_4_W : List (Ref sig .tc) :=
  [main_while0b_c_9, main_while0b_v108, main_v95_2, main_v95_3, main_v95_4]
theorem while0Ops0_4_writes : Writes (F := F) while0Ops0_4 while0Ops0_4_W := StableHlo.forall_writes_sub_of_map rfl

abbrev condOps_W : List (Ref sig .tc) := [main_while0c_c_9, main_while0c_v101]
theorem condOps_writes : Writes (F := F) condOps condOps_W := StableHlo.forall_writes_sub_of_map rfl

abbrev preW : List (List (Ref sig .tc)) := [hostOps0_W, hostOps0_1_W, hostOps0_2_W, hostOps0_3_W, hostOps0_4_W, hostOps0_5_W, hostOps0_6_W]
theorem pre_writes : List.Forall₂ (Writes (F := F)) preI preW :=
  .cons hostOps0_writes <| .cons hostOps0_1_writes <| .cons hostOps0_2_writes <| .cons hostOps0_3_writes <| .cons hostOps0_4_writes <| .cons hostOps0_5_writes <| .cons hostOps0_6_writes .nil
abbrev bodyW : List (List (Ref sig .tc)) := [while0Ops0_W, while0Ops0_1_W, while0Ops0_2_W, while0Ops0_3_W, while0Ops0_4_W]
theorem body_writes : List.Forall₂ (Writes (F := F)) bodyI bodyW :=
  .cons while0Ops0_writes <| .cons while0Ops0_1_writes <| .cons while0Ops0_2_writes <| .cons while0Ops0_3_writes <| .cons while0Ops0_4_writes .nil

theorem pre_args : ∀ a ∈ args, ∀ W ∈ preW, a ∉ W := by decide +kernel
theorem body_args : ∀ a ∈ args, ∀ W ∈ bodyW, a ∉ W := by decide +kernel
theorem cond_args : ∀ a ∈ args, a ∉ condOps_W := by decide +kernel
theorem hostOps0_7_args : ∀ a ∈ args, a ∉ hostOps0_7_W := by decide +kernel

/-! ## The contents at each boundary -/

/-- At launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)

/-- The loop's trips. -/
abbrev nT : ℕ := 128
/-- At the loop's entry. -/
abbrev Went : Dev nD → Valuation τ sig (Elt F) := fun c => StableHlo.afterL preI (W0 m c)
theorem Went_eq (c : Dev nD) : Went m c = W7 m c := rfl
/-- Before the `k`-th condition. -/
abbrev Wk (k : ℕ) (c : Dev nD) : Valuation τ sig (Elt F) := StableHlo.atTrip condOps bodyI (Went m) k c
/-- After the loop. -/
abbrev W8 : Dev nD → Valuation τ sig (Elt F) := fun c => StableHlo.after condOps (StableHlo.atTrip condOps bodyI (Went m) nT c)
/-- At the region's entry. -/
abbrev W9 : Dev nD → Valuation τ sig (Elt F) := fun c => StableHlo.after hostOps0_7 (W8 m c)
abbrev V9 : (c : Dev nD) → (b : Ref sig .tc) → Buf (Elt F) ((c : Thread nD τ).loc b) := fun c b => W9 m c b
/-- After the region. -/
def W10 (c : Dev nD) : Valuation τ sig (Elt F) := Pipeline.withArrays spec0 c (W9 m c) fun w => (dat (V9 m) c).arrAt w cfg0.N
abbrev V10 : (c : Dev nD) → (b : Ref sig .tc) → Buf (Elt F) ((c : Thread nD τ).loc b) := fun c b => W10 m c b

/-- A reference the loop does not write keeps its contents to any trip. -/
theorem Wk_keep (c : Dev nD) (r : Ref sig .tc) (hc : r ∉ condOps_W) (hb : ∀ W ∈ bodyW, r ∉ W) :
    ∀ k, Wk m k c (Proc.devRef .tc r) = Went m c (Proc.devRef .tc r)
  | 0 => rfl
  | k + 1 => by
    rw [show Wk m (k + 1) c = StableHlo.afterL bodyI (StableHlo.after condOps (Wk m k c)) from rfl, afterL_keep body_writes r hb,
      StableHlo.after_of_writes_sub condOps _ condOps_writes hc]
    exact Wk_keep c r hc hb k

/-- A reference that neither the loop nor the last stretch writes is at the region's entry what it was at the loop's. -/
theorem W9_keep (c : Dev nD) (r : Ref sig .tc) (hc : r ∉ condOps_W) (hb : ∀ W ∈ bodyW, r ∉ W) (h7 : r ∉ hostOps0_7_W) :
    W9 m c (Proc.devRef .tc r) = Went m c (Proc.devRef .tc r) :=
  (StableHlo.after_of_writes_sub hostOps0_7 _ hostOps0_7_writes h7).trans
    ((StableHlo.after_of_writes_sub condOps _ condOps_writes hc).trans (Wk_keep m c r hc hb nT))

theorem W9_args (c : Dev nD) (a : Ref sig .tc) (ha : a ∈ args) : W9 m c (Proc.devRef .tc a) = m ((c : Thread nD τ).loc a) :=
  (W9_keep m c a (cond_args a ha) (body_args a ha) (hostOps0_7_args a ha)).trans (afterL_keep pre_writes a (pre_args a ha) _)

theorem W10_arr (c : Dev nD) (w : Fin cfg0.W) : W10 m c (Proc.devRef .tc (Pipeline.arrRef spec0 w)) = (dat (V9 m) c).arrAt w cfg0.N := by
  unfold W10; exact Pipeline.withArrays_arr spec0 launch0.win.arr_inj c _ _ w

theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb

theorem args_in : ∀ a ∈ args, ∀ w : Fin cfg0.W, Pipeline.arrRef spec0 w = a → (cfg0.win w).isOut = false :=
  ListAll.forall_mem_of_all_decide (by decide +kernel)

theorem W10_args (c : Dev nD) (a : Ref sig .tc) (ha : a ∈ args) : W10 m c (Proc.devRef .tc a) = m ((c : Thread nD τ).loc a) := by
  refine Eq.trans ?_ (W9_args m c a ha)
  by_cases hw : ∃ w : Fin cfg0.W, Pipeline.arrRef spec0 w = a
  · obtain ⟨w, hw⟩ := hw
    have h := args_in a ha w hw
    subst hw
    exact (W10_arr m c w).trans (((dat (V9 m) c).arrAt_in w h _).trans (dat_A (V9 m) c w))
  · exact W10_of_ne m c a fun w e => hw ⟨w, e⟩

theorem hF0 (c : Dev nD) (w : Fin cfg0.W) : (dat (V9 m) c).arrAt w cfg0.N = V10 m c (Pipeline.arrRef spec0 w) := (W10_arr m c w).symm

theorem hrest0 (c : Dev nD) : ∀ b, b ∉ Finset.univ.image (Pipeline.arrRef spec0) → V10 m c b = V9 m c b :=
  fun b hb => W10_of_ne m c b fun w e => hb (Finset.mem_image.mpr ⟨w, Finset.mem_univ _, e⟩)

/-! ## The segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V9 m) c
abbrev tk (_ : Fin 1) : Pipeline.Ticket (Ix := Unit) (Name := ℕ) (U := UR sig nD τ) (Lvl := ℕ) (nD := nD) (τ := τ) (pcfgs (F := F)) adm :=
  ⟨0, pdats m, emb₁⟩
abbrev 𝒱₀ : Variants := Variants.none
abbrev L : GSem nD τ sig → Finset Unit := fun _ => ∅
abbrev lv : GSem nD τ sig → Unit → ℕ := fun _ _ => 0
/-- Beside the buffers: the generator register, and nothing owed. -/
abbrev R (c : Dev nD) : sProp 𝕄 := iprop((∃ r, prngReg c r) ∗ ∃ W, owes (c : Thread nD τ) (0 : CellTallies nD τ sig Unit) W)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.CSeg (pcfgs (F := F)) adm defs₀ 𝒱₀ L lv loops (tk m) :=
  Pipeline.CSeg.ofOps _ _ _ _ _ _ _ _ (Pipeline.ucRefs τ sig) ops
    (fun op h => Pipeline.sub_ucRefs op ((List.forall_iff_forall_mem.mp hsub) op h))
    (fun op h => (List.forall_iff_forall_mem.mp hfresh) op h) W R
@[simp] theorem hseg_T (ops : List (HloOp τ sig (Elt F))) (hsub hfresh) (W : Dev nD → Valuation τ sig (Elt F)) :
    (hseg m ops hsub hfresh W).T = ∅ := rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state, beside nothing owed. -/
abbrev Tₙ (c : Dev nD) : sProp 𝕄 := iprop(StableHlo.held (c : Thread nD τ) (Pipeline.ucRefs τ sig) (W10 m c) ∗ ∃ r, prngReg c r)

section
open Idealize.ShloMosaic.StableHlo
open Idealize.ShloMosaic.Pipeline (ucRefs sub_ucRefs)

/-- The trip counter goes up by one in a trip. -/
theorem ctr_step (X : Valuation τ sig (Elt F)) :
    afterL bodyI X (Proc.devRef .tc main_v95_2) = addi (X (Proc.devRef .tc main_v95_2)) (constantI S_ 32 1#32) := by
  have h : afterL bodyI X = after while0Ops0_4 (afterL [while0Ops0, while0Ops0_1, while0Ops0_2, while0Ops0_3] X) := rfl
  have h4 : ∀ Y : Valuation τ sig (Elt F), after while0Ops0_4 Y (Proc.devRef .tc main_v95_2)
      = addi (Y (Proc.devRef .tc main_v95_2)) (constantI S_ 32 1#32) := fun Y => by
    after_reads_simp
    rfl
  rw [h, h4, afterL_keep (Ws := [while0Ops0_W, while0Ops0_1_W, while0Ops0_2_W, while0Ops0_3_W])
    (.cons while0Ops0_writes <| .cons while0Ops0_1_writes <| .cons while0Ops0_2_writes <| .cons while0Ops0_3_writes .nil) main_v95_2 (by decide +kernel)]

/-- It begins at zero. -/
theorem ctr_entry (c : Dev nD) : Went m c (Proc.devRef .tc main_v95_2) = fun _ => (0#32 : BitVec 32) := by
  show after hostOps0_6 (W6 m c) (Proc.devRef .tc main_v95_2) = _
  generalize W6 m c = Y
  after_reads_simp
  rfl

theorem atK_ctr (c : Dev nD) : ∀ k, Wk m k c (Proc.devRef .tc main_v95_2) = fun _ => Scf.iv 0#32 1#32 k
  | 0 => by rw [show Wk m 0 c = Went m c from rfl, ctr_entry, Scf.iv_zero]
  | k + 1 => by
    rw [show Wk m (k + 1) c = afterL bodyI (after condOps (Wk m k c)) from rfl, ctr_step,
      after_of_writes_sub condOps _ condOps_writes (by decide +kernel), atK_ctr c k, Scf.iv_succ]
    rfl

-- the rule's thread is found by unfolding definitions in a metavariable's type
set_option backward.isDefEq.respectTransparency.types false in
/-- The condition holds before each of the trips and fails after them. -/
theorem cond_spec : LoopCond (pcfgs (F := F)) defs₀ 𝒱₀ loops R (main_while0_cond (F := F)) condOps bodyI (Went m) nT := by
  intro k hk c bd
  have hctr := atK_ctr m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v95_2 HostLoop.idx0)
        (HloOp.result _ (Wk m k c) main_while0c_c_9 HostLoop.idx0) = 1#1) (k < nT)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR
end

set_option backward.isDefEq.respectTransparency.types false in
/-- The kernel's region. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation (V9 m) c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (V9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V9 m c) (dat_A (V9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (between_first (V9 m) c)
    unfold Pipeline.ΦA
    iintro ⟨Hp, -, Hr⟩
    isplitl [Hr]; · iexact Hr
    iexact Hp
  hout c := by
    rw [Pipeline.ownSems0_none]
    refine BIBase.Entails.trans (between_last (V9 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V9 m c) (V10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev cseg0 : Pipeline.CSeg (pcfgs (F := F)) adm defs₀ 𝒱₀ L lv loops (tk m) :=
  Pipeline.CSeg.region _ _ () cellOf_inj _ _ _ _ _ _ (0 : Fin 1) (reg0 m)
@[simp] theorem cseg0_T : (cseg0 m).T = {(0 : Fin 1)} := rfl

/-- The loop. -/
abbrev loop0 : Pipeline.CSeg (pcfgs (F := F)) adm defs₀ 𝒱₀ L lv loops (tk m) :=
  StableHlo.loopSeg _ _ _ _ _ _ _ _ 0 (main_while0_cond (F := F)) (main_while0_body (F := F)) rfl condOps bodyI plain_body
    (by rw [while0_body_chain]; rfl) nT (Went m) R (cond_spec m)
@[simp] theorem loop0_T : (loop0 m).T = ∅ := StableHlo.loopSeg_T _ _ _ _ _ _ _ _ _

abbrev segs : List (Pipeline.CSeg (pcfgs (F := F)) adm defs₀ 𝒱₀ L lv loops (tk m)) :=
  [ hseg m hostOps0 hostOps0_sub hostOps0_fresh (W0 m),
    hseg m hostOps0_1 hostOps0_1_sub hostOps0_1_fresh (W1 m),
    hseg m hostOps0_2 hostOps0_2_sub hostOps0_2_fresh (W2 m),
    hseg m hostOps0_3 hostOps0_3_sub hostOps0_3_fresh (W3 m),
    hseg m hostOps0_4 hostOps0_4_sub hostOps0_4_fresh (W4 m),
    hseg m hostOps0_5 hostOps0_5_sub hostOps0_5_fresh (W5 m),
    hseg m hostOps0_6 hostOps0_6_sub hostOps0_6_fresh (W6 m),
    loop0 m,
    hseg m hostOps0_7 hostOps0_7_sub hostOps0_7_fresh (W8 m),
    cseg0 m ]

theorem main_run (c : Dev nD) : main (F := F) c = Pipeline.CSeg.runL (segs m) := (main_chain c).trans (by chain_rfl)

theorem segs_disjoint : (segs m).Pairwise fun s s' => Disjoint s.T s'.T := by
  simp only [segs, List.pairwise_cons, List.Pairwise.nil, List.mem_cons, List.mem_nil_iff, forall_eq_or_imp, forall_eq,
    or_false, and_true, hseg_T, cseg0_T, loop0_T, Finset.disjoint_empty_left, Finset.disjoint_empty_right, implies_true, true_and]
  all_goals exact fun _ h => h.elim

theorem no_unscoped : ∀ sm : SemLoc sig, sm.isScoped .tc = true := by decide

set_option backward.isDefEq.respectTransparency.types false in
/-- Every run ends, with every unscoped buffer at the last boundary's contents and every counter at zero. -/
theorem run_main_quiescent : θ_run defs (onTc (τ := τ) (main (F := F))) ⟨m, fun _ => 0, ρ⟩
    (fun r => (∀ (c : Dev nD), ∀ b ∈ Pipeline.ucRefs τ sig, r.2.mem (((c : Thread nD τ)).1, b) = W10 m c b) ∧ r.2.sem = fun _ => 0) :=
  Pipeline.θ_run_regions_loop_kit_sems (pcfgs (F := F)) adm cellOf_inj defs₀ 𝒱₀ L lv loops (tk m) m ρ main (segs m)
    (fun c Q => by rw [main_run m c]) (segs_disjoint m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · rw [Finset.univ_unique, BI.bigSep_singleton]
        iapply (show (ownU (initOf (Pipeline.cells cfgs cellOf_inj) (Pipeline.launchToks cfgs cellOf_inj)) : sProp 𝕄) ⊢ BI.own ((tk m default).EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W10 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun _ h hz => ⟨h, funext fun g => hz g (.inr (no_unscoped g.2))⟩)

/-- The arguments are as launched, and the window arrays as the region leaves them. -/
theorem run_arrays : θ_run defs (onTc (τ := τ) (main (F := F))) ⟨m, fun _ => 0, ρ⟩
    (fun r => (∀ (c : Dev nD), (∀ w : Fin cfg0.W, r.2.mem ((c : Thread nD τ).loc (Pipeline.arrRef spec0 w)) = (dat (V9 m) c).arrAt w cfg0.N)
      ∧ ∀ a ∈ args, r.2.mem ((c : Thread nD τ).loc a) = m ((c : Thread nD τ).loc a)) ∧ r.2.sem = fun _ => 0) :=
  (θ_run defs _ _).mono (fun r h => ⟨fun c => ⟨fun w => (h.1 c _ (mem_uc _ ((by decide +kernel : ∀ w : Fin cfg0.W, ¬ (Proc.devRef .tc (Pipeline.arrRef spec0 w) : DevRef τ sig).isScoped) w))).trans (W10_arr m c w),
    fun a ha => (h.1 c _ (mem_uc a ((by decide : ∀ a ∈ args, ¬ (Proc.devRef .tc a : DevRef τ sig).isScoped) a ha))).trans (W10_args m c a ha)⟩, h.2⟩)
    (run_main_quiescent m ρ)

end Cert.Ssd

end
-- ==== Proof.SsdClaim.lean ====
/- The recurrence and pooling backward call leaves its arguments as launched. -/
module

public import proofs.«01_k».proof.Defs
public import proofs.«01_k».proof.Proof.SsdFrame
public import proofs.«01_k».proof.Proof.Gen.Kernel2
public import Idealize.ShloMosaic.Lib.Claim
public import Idealize.ShloMosaic.Lib.Quiescent

@[expose] public section

set_option maxRecDepth 16384

noncomputable section

namespace Cert.SsdClaim

open Idealize.ShloMosaic Idealize.ShloMosaic.TcCoe Idealize.SL.Sem

/-- A statement of the ten arguments from one about their list. -/
theorem each {P : Ref Cert.Kernel2Ideal.sig .tc → Prop} (k : ∀ a ∈ Cert.Ssd.args, P a) :
    P Cert.Kernel2Ideal.main_arg0 ∧ P Cert.Kernel2Ideal.main_arg1 ∧ P Cert.Kernel2Ideal.main_arg2 ∧ P Cert.Kernel2Ideal.main_arg3
      ∧ P Cert.Kernel2Ideal.main_arg4 ∧ P Cert.Kernel2Ideal.main_arg5 ∧ P Cert.Kernel2Ideal.main_arg6 ∧ P Cert.Kernel2Ideal.main_arg7
      ∧ P Cert.Kernel2Ideal.main_arg8 ∧ P Cert.Kernel2Ideal.main_arg9 := by
  unfold Cert.Ssd.args at k
  obtain ⟨h0, k⟩ := List.forall_mem_cons.mp k
  obtain ⟨h1, k⟩ := List.forall_mem_cons.mp k
  obtain ⟨h2, k⟩ := List.forall_mem_cons.mp k
  obtain ⟨h3, k⟩ := List.forall_mem_cons.mp k
  obtain ⟨h4, k⟩ := List.forall_mem_cons.mp k
  obtain ⟨h5, k⟩ := List.forall_mem_cons.mp k
  obtain ⟨h6, k⟩ := List.forall_mem_cons.mp k
  obtain ⟨h7, k⟩ := List.forall_mem_cons.mp k
  obtain ⟨h8, k⟩ := List.forall_mem_cons.mp k
  obtain ⟨h9, -⟩ := List.forall_mem_cons.mp k
  exact ⟨h0, h1, h2, h3, h4, h5, h6, h7, h8, h9⟩

theorem frame_ideal : Cert.quiescent_Kernel2Ideal := fun m g _ =>
  (θ_run (Cert.Kernel2Ideal.defs (F := Ideal)) _ _).mono (fun _ h => ⟨fun c => each (h.1 c).2, h.2⟩) (Cert.Ssd.run_arrays (F := Ideal) m g)

open Cert.Kernel2Ideal in
/-- The same program over machine words leaves its arguments as launched. -/
theorem frame_bits (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run (defs (F := Bits)) _ _).mono (fun _ h => ⟨fun c => each (h.1 c).2, h.2⟩) (Cert.Ssd.run_arrays (F := Bits) m g)

theorem frame_kernel : Cert.quiescent_Kernel2 := fun m g _ => Eq.mp (by sl_kernel_rfl) (frame_bits m g)

end Cert.SsdClaim

end
-- ==== Proof.PoolSum.lean ====
/- Running sums, window means and the pooled branch's two gradients, among the reals. -/
module

public import proofs.«01_k».proof.Proof.Reals
public import Idealize.ShloMosaic.Lib.Pointwise

@[expose] public section

set_option maxRecDepth 16384

noncomputable section

namespace Cert.Pool

open Idealize.ShloMosaic Cert.Reals

/-! ## The host's running sum -/

theorem foldl_sum {β : Type} (g : β → EReal) (l : List β) (v : EReal) : l.foldl (fun r b => r + g b) v = v + (l.map g).sum := by
  induction l generalizing v with
  | nil => simp
  | cons a l ih => rw [List.foldl_cons, ih, List.map_cons, List.sum_cons, add_assoc]

/-- A sum over a column's indices, taken over its rows. -/
theorem sum_col (R : ℕ) (g : (⟨3, ![R, 1, 1]⟩ : Shape).Idx → EReal) : ∑ i, g i = ∑ q : Fin R, g (ix3 q 0 0) := by
  refine (Fintype.sum_equiv ⟨fun q : Fin R => (ix3 q 0 0 : (⟨3, ![R, 1, 1]⟩ : Shape).Idx), fun i => i 0, fun _ => rfl, fun i => ?_⟩ _ _ fun _ => rfl).symm
  refine Eq.trans ?_ (eq_ix3 i).symm
  exact congrArg₂ (fun (a b : Fin 1) => (ix3 (i 0 : Fin R) a b : (⟨3, ![R, 1, 1]⟩ : Shape).Idx)) (Subsingleton.elim _ _) (Subsingleton.elim _ _)

theorem sum_tail (f : ℕ → ℝ) (P n : ℕ) (hn : n ≤ P) :
    (∑ q ∈ Finset.range (P + 1), if P ≤ n + q then f (n + q - P) else 0) = ∑ i ∈ Finset.range (n + 1), f i := by
  rw [show P + 1 = (P - n) + (n + 1) by omega, Finset.sum_range_add,
    Finset.sum_eq_zero (s := Finset.range (P - n)) (fun q hq => if_neg (by have := Finset.mem_range.mp hq; omega)), zero_add]
  exact Finset.sum_congr rfl fun q _ => by rw [if_pos (by omega)]; exact congrArg f (by omega)

/-- The running sum down the rows of an array of reals. -/
theorem running_sum {R P C E : ℕ} (hR : P + 1 = R) (x : (⟨3, ![R, C, E]⟩ : Shape).Idx → EReal) (f : ℕ → ℝ) (c : Fin C) (e : Fin E)
    (hx : ∀ n : Fin R, x (ix3 n c e) = ((f n.val : ℝ) : EReal))
    (h : (⟨3, ![R, C, E]⟩ : Shape).ReduceWindows (![R, 1, 1] : Fin 3 → ℕ) ![1, 1, 1] ![P, 0, 0] ![0, 0, 0] (⟨3, ![R, C, E]⟩ : Shape)) (n : Fin R) :
    Ideal.hostReduceWindowAdd (s := ⟨3, ![R, C, E]⟩) ![R, 1, 1] ![1, 1, 1] ![P, 0, 0] ![0, 0, 0] h x 0 (ix3 n c e)
      = ((∑ i ∈ Finset.range (n.val + 1), f i : ℝ) : EReal) := by
  subst hR
  unfold Ideal.hostReduceWindowAdd Host.reduceWindow
  dsimp only
  have hn := n.isLt
  rw [foldl_sum, zero_add, ← Fin.sum_univ_def]
  refine (Finset.sum_congr rfl fun i _ => (?_ : _ = (fun i : (⟨3, ![P + 1, 1, 1]⟩ : Shape).Idx =>
    ((if P ≤ n.val + (i 0).val then f (n.val + (i 0).val - P) else 0 : ℝ) : EReal)) ((⟨3, ![P + 1, 1, 1]⟩ : Shape).rowMajor.symm i))).trans ?_
  · have h0 : ((⟨3, ![P + 1, 1, 1]⟩ : Shape).rowMajor.symm i 0).val < P + 1 := ((⟨3, ![P + 1, 1, 1]⟩ : Shape).rowMajor.symm i 0).isLt
    have h1 : ((⟨3, ![P + 1, 1, 1]⟩ : Shape).rowMajor.symm i 1).val < 1 := ((⟨3, ![P + 1, 1, 1]⟩ : Shape).rowMajor.symm i 1).isLt
    have h2 : ((⟨3, ![P + 1, 1, 1]⟩ : Shape).rowMajor.symm i 2).val < 1 := ((⟨3, ![P + 1, 1, 1]⟩ : Shape).rowMajor.symm i 2).isLt
    have hc := c.isLt
    have he := e.isLt
    beta_reduce
    split
    · next hin =>
      have g0 := (hin 0).1
      change P ≤ n.val * 1 + ((⟨3, ![P + 1, 1, 1]⟩ : Shape).rowMajor.symm i 0).val at g0
      rw [if_pos (by omega)]
      refine Eq.trans (congrArg x (funext fun a => Fin.ext ?_)) (hx ⟨n.val + ((⟨3, ![P + 1, 1, 1]⟩ : Shape).rowMajor.symm i 0).val - P, by omega⟩)
      fin_cases a
      · show n.val * 1 + ((⟨3, ![P + 1, 1, 1]⟩ : Shape).rowMajor.symm i 0).val - P = n.val + ((⟨3, ![P + 1, 1, 1]⟩ : Shape).rowMajor.symm i 0).val - P
        omega
      · show c.val * 1 + ((⟨3, ![P + 1, 1, 1]⟩ : Shape).rowMajor.symm i 1).val - 0 = c.val
        omega
      · show e.val * 1 + ((⟨3, ![P + 1, 1, 1]⟩ : Shape).rowMajor.symm i 2).val - 0 = e.val
        omega
    · next hin =>
      rw [if_neg fun hq => hin fun a => by
        fin_cases a
        · show P ≤ n.val * 1 + ((⟨3, ![P + 1, 1, 1]⟩ : Shape).rowMajor.symm i 0).val ∧ n.val * 1 + ((⟨3, ![P + 1, 1, 1]⟩ : Shape).rowMajor.symm i 0).val - P < P + 1
          omega
        · show 0 ≤ c.val * 1 + ((⟨3, ![P + 1, 1, 1]⟩ : Shape).rowMajor.symm i 1).val ∧ c.val * 1 + ((⟨3, ![P + 1, 1, 1]⟩ : Shape).rowMajor.symm i 1).val - 0 < C
          omega
        · show 0 ≤ e.val * 1 + ((⟨3, ![P + 1, 1, 1]⟩ : Shape).rowMajor.symm i 2).val ∧ e.val * 1 + ((⟨3, ![P + 1, 1, 1]⟩ : Shape).rowMajor.symm i 2).val - 0 < E
          omega]
      rfl
  refine (Equiv.sum_comp (⟨3, ![P + 1, 1, 1]⟩ : Shape).rowMajor.symm (fun i : (⟨3, ![P + 1, 1, 1]⟩ : Shape).Idx =>
    ((if P ≤ n.val + (i 0).val then f (n.val + (i 0).val - P) else 0 : ℝ) : EReal))).trans ?_
  rw [sum_col, sum_coe]
  show ((∑ q : Fin (P + 1), (if P ≤ n.val + q.val then f (n.val + q.val - P) else 0) : ℝ) : EReal) = _
  refine congrArg (fun z : ℝ => (z : EReal)) ?_
  rw [Fin.sum_univ_eq_sum_range (fun q => if P ≤ n.val + q then f (n.val + q - P) else 0) (P + 1)]
  exact sum_tail f P n.val (by omega)

/-! ## Window means -/

/-- A row's value `s` rows earlier, zero before the first row. -/
def back (u : ℕ → ℝ) (s n : ℕ) : ℝ := if s ≤ n then u (n - s) else 0

/-- The sum over the last `w` rows. -/
def win (u : ℕ → ℝ) (w n : ℕ) : ℝ := ∑ s ∈ Finset.range w, back u s n

/-- Running sums `w` rows apart differ by the window's sum. -/
theorem win_eq (u : ℕ → ℝ) (w n : ℕ) (hw : 0 < w) :
    (∑ i ∈ Finset.range (n + 1), u i) - (if w ≤ n then ∑ i ∈ Finset.range (n - w + 1), u i else 0) = win u w n := by
  unfold win back
  by_cases h : w ≤ n
  · rw [if_pos h, show n + 1 = (n - w + 1) + w by omega, Finset.sum_range_add, add_sub_cancel_left]
    rw [← Finset.sum_range_reflect]
    refine Finset.sum_congr rfl fun s hs => ?_
    have := Finset.mem_range.mp hs
    rw [if_pos (by omega)]
    exact congrArg u (by omega)
  · rw [if_neg h, sub_zero, show w = (n + 1) + (w - (n + 1)) by omega, Finset.sum_range_add (fun s => if s ≤ n then u (n - s) else 0),
      Finset.sum_eq_zero (s := Finset.range (w - (n + 1))) (fun s _ => if_neg (by omega)), add_zero, ← Finset.sum_range_reflect]
    refine Finset.sum_congr rfl fun s hs => ?_
    have := Finset.mem_range.mp hs
    rw [if_pos (by omega)]
    exact congrArg u (by omega)

/-- The number of rows in the window at row `n`. -/
def den (w n : ℕ) : ℝ := min ((n : ℝ) + 1) w

/-- The window's mean minus the row. -/
def pg (u : ℕ → ℝ) (w n : ℕ) : ℝ := win u w n / den w n - u n

/-- The window of each group. -/
def wid (g : ℕ) : ℕ := if g = 0 then 2 else if g = 1 then 4 else if g = 2 then 8 else 16

theorem div_min (a p w : ℝ) (hp : 0 < p) (hw : 0 < w) :
    Ideal.div (a : EReal) (min (p : EReal) (w : EReal)) = ((a / min p w : ℝ) : EReal) := by
  rw [← EReal.coe_strictMono.monotone.map_min]
  exact div_real _ _ (lt_min hp hw).ne'

theorem c4 : Ideal.ofBits .f32 0x40800000#32 = ((4 : ℝ) : EReal) := by
  simp [Ideal.ofBits, Ideal.ieee, -EReal.coe_mul]; norm_num

theorem c8 : Ideal.ofBits .f32 0x41000000#32 = ((8 : ℝ) : EReal) := by
  simp [Ideal.ofBits, Ideal.ieee, -EReal.coe_mul]; norm_num

theorem c16 : Ideal.ofBits .f32 0x41800000#32 = ((16 : ℝ) : EReal) := by
  simp [Ideal.ofBits, Ideal.ieee, -EReal.coe_mul]; norm_num

/-! ## The gradients -/

variable (Y P : ℕ → ℕ → ℝ) (W : ℕ → ℕ → ℕ → ℝ) (S : ℕ → ℝ)

/-- A pooled value of group `g`. -/
def pooled (g n k : ℕ) : ℝ := pg (fun n => P n (1544 + (g * 128 + k))) (wid g) n

/-- A row of group `g` after its product. -/
def mixed (g n l : ℕ) : ℝ := ∑ k : Fin 128, pooled P g n k.val * W g k.val l

/-- A row's addition to the group weights' gradient and to the scale's. -/
def dwRow (g k l n : ℕ) : ℝ := pooled P g n k * (Y n (512 + (g * 128 + l)) * S (g * 128 + l))

def dsRow (l n : ℕ) : ℝ := Y n (512 + l) * mixed P W (l / 128) n (l % 128)

end Cert.Pool

end
-- ==== Proof.PoolPay.lean ====
/- What the pooling operations of the two branches' backward kernel give at one grid point, over arrays of reals. -/
module

public import proofs.«01_k».proof.Proof.PoolSum
public import proofs.«01_k».proof.Proof.Gen.Kernel2Ideal.Skeleton

@[expose] public section

set_option maxRecDepth 16384

noncomputable section

namespace Cert.Pool

open Idealize.ShloMosaic Idealize.ShloMosaic.TcCoe Cert.Reals Cert.Kernel2Ideal Cert.Kernel2Ideal.Gen

/-- A mean minus a row, among the extended reals. -/
theorem mean_sub (a p w u : ℝ) (hp : 0 < p) (hw : 0 < w) :
    Ideal.div (a : EReal) (min (p : EReal) (w : EReal)) - (u : EReal) = ((a / min p w - u : ℝ) : EReal) := by
  rw [div_min a p w hp hw, ← EReal.coe_sub]

section groups

variable (v984 : FVec Ideal S128x512 .f32) (v985 : BitVec 32) (v986 : IVec S128x1 32) (U : ℕ → ℕ → ℝ) (b : ℕ)
  (hu : ∀ (r : Fin 128) (l : Fin 512), v984 (ix2 r l) = ((U (b + r.val) l.val : ℝ) : EReal))
  (hp : ∀ r : Fin 128, k0_pay279 (F := Ideal) v985 v986 (ix2 r 0) = (((b + r.val : ℕ) : ℝ) + 1 : ℝ))

include hu in
/-- The end of each group's value: the window's sum over its size, minus the row. -/
theorem close (w : ℕ) (hw : 0 < w) (o : ℕ) (r k : Fin 128) (hl : o + k.val < 512) (s : ℝ)
    (hs : s = win (fun n => U n (o + k.val)) w (b + r.val)) :
    Ideal.div (s : EReal) (min ((((b + r.val : ℕ) : ℝ) + 1 : ℝ) : EReal) ((w : ℝ) : EReal)) - v984 (ix2 r ⟨o + k.val, hl⟩)
      = ((pg (fun n => U n (o + k.val)) w (b + r.val) : ℝ) : EReal) := by
  rw [hu, mean_sub _ _ _ _ (by positivity) (by exact_mod_cast hw), hs]
  rfl

include hu hp in
theorem pay281 (y0 y1 : FVec Ideal S128x128 .f32) (r k : Fin 128)
    (h0 : y0 (ix2 r k) = ((back (fun n => U n k.val) 0 (b + r.val) : ℝ) : EReal))
    (h1 : y1 (ix2 r k) = ((back (fun n => U n k.val) 1 (b + r.val) : ℝ) : EReal)) :
    k0_pay281 (F := Ideal) v984 v985 v986 y0 y1 (ix2 r k) = ((pg (fun n => U n k.val) 2 (b + r.val) : ℝ) : EReal) := by
  have c := close v984 U b hu 2 (by decide) 0 r k (by omega)
  pointwise [k0_pay281, k0_pay280]
  rw [hp, cTwo, h0, h1]
  simp only [← EReal.coe_add]
  simp only [Nat.zero_add] at c
  exact c _ (by simp only [win, Finset.sum_range_succ, Finset.sum_range_zero, zero_add])

include hu hp in
theorem pay284 (y0 y1 y2 y3 : FVec Ideal S128x128 .f32) (r k : Fin 128)
    (h0 : y0 (ix2 r k) = ((back (fun n => U n (128 + k.val)) 0 (b + r.val) : ℝ) : EReal))
    (h1 : y1 (ix2 r k) = ((back (fun n => U n (128 + k.val)) 1 (b + r.val) : ℝ) : EReal))
    (h2 : y2 (ix2 r k) = ((back (fun n => U n (128 + k.val)) 2 (b + r.val) : ℝ) : EReal))
    (h3 : y3 (ix2 r k) = ((back (fun n => U n (128 + k.val)) 3 (b + r.val) : ℝ) : EReal)) :
    k0_pay284 (F := Ideal) v984 v985 v986 y0 y1 y2 y3 (ix2 r k) = ((pg (fun n => U n (128 + k.val)) 4 (b + r.val) : ℝ) : EReal) := by
  have c := close v984 U b hu 4 (by decide) 128 r k (by omega)
  pointwise [k0_pay284, k0_pay283]
  rw [hp, c4, h0, h1, h2, h3]
  simp only [← EReal.coe_add]
  exact c _ (by simp only [win, Finset.sum_range_succ, Finset.sum_range_zero, zero_add])

include hu in
theorem pay287 (v991 : FVec Ideal S128x1 .f32) (hp : ∀ r : Fin 128, v991 (ix2 r 0) = (((b + r.val : ℕ) : ℝ) + 1 : ℝ))
    (y0 y1 y2 y3 y4 y5 y6 y7 : FVec Ideal S128x128 .f32) (r k : Fin 128)
    (h0 : y0 (ix2 r k) = ((back (fun n => U n (256 + k.val)) 0 (b + r.val) : ℝ) : EReal))
    (h1 : y1 (ix2 r k) = ((back (fun n => U n (256 + k.val)) 1 (b + r.val) : ℝ) : EReal))
    (h2 : y2 (ix2 r k) = ((back (fun n => U n (256 + k.val)) 2 (b + r.val) : ℝ) : EReal))
    (h3 : y3 (ix2 r k) = ((back (fun n => U n (256 + k.val)) 3 (b + r.val) : ℝ) : EReal))
    (h4 : y4 (ix2 r k) = ((back (fun n => U n (256 + k.val)) 4 (b + r.val) : ℝ) : EReal))
    (h5 : y5 (ix2 r k) = ((back (fun n => U n (256 + k.val)) 5 (b + r.val) : ℝ) : EReal))
    (h6 : y6 (ix2 r k) = ((back (fun n => U n (256 + k.val)) 6 (b + r.val) : ℝ) : EReal))
    (h7 : y7 (ix2 r k) = ((back (fun n => U n (256 + k.val)) 7 (b + r.val) : ℝ) : EReal)) :
    k0_pay287 (F := Ideal) v984 v991 y0 y1 y2 y3 y4 y5 y6 y7 (ix2 r k) = ((pg (fun n => U n (256 + k.val)) 8 (b + r.val) : ℝ) : EReal) := by
  have c := close v984 U b hu 8 (by decide) 256 r k (by omega)
  pointwise [k0_pay287, k0_pay286]
  rw [hp, c8, h0, h1, h2, h3, h4, h5, h6, h7]
  simp only [← EReal.coe_add]
  exact c _ (by simp only [win, Finset.sum_range_succ, Finset.sum_range_zero, zero_add])

include hu in
theorem pay291 (v991 : FVec Ideal S128x1 .f32) (hp : ∀ r : Fin 128, v991 (ix2 r 0) = (((b + r.val : ℕ) : ℝ) + 1 : ℝ))
    (y : ℕ → FVec Ideal S128x128 .f32) (r k : Fin 128)
    (hy : ∀ j < 16, y j (ix2 r k) = ((back (fun n => U n (384 + k.val)) j (b + r.val) : ℝ) : EReal)) :
    k0_pay291 (F := Ideal) v984 v991 (k0_pay289 (y 0) (y 1) (y 2) (y 3)) (y 4) (y 5) (y 6) (y 7) (y 8) (y 9) (y 10) (y 11) (y 12) (y 13) (y 14) (y 15) (ix2 r k)
      = ((pg (fun n => U n (384 + k.val)) 16 (b + r.val) : ℝ) : EReal) := by
  have c := close v984 U b hu 16 (by decide) 384 r k (by omega)
  pointwise [k0_pay291, k0_pay290, k0_pay289]
  rw [hp, c16]
  simp only [hy _ (by decide : 0 < 16), hy _ (by decide : 1 < 16), hy _ (by decide : 2 < 16), hy _ (by decide : 3 < 16), hy _ (by decide : 4 < 16),
    hy _ (by decide : 5 < 16), hy _ (by decide : 6 < 16), hy _ (by decide : 7 < 16), hy _ (by decide : 8 < 16), hy _ (by decide : 9 < 16),
    hy _ (by decide : 10 < 16), hy _ (by decide : 11 < 16), hy _ (by decide : 12 < 16), hy _ (by decide : 13 < 16), hy _ (by decide : 14 < 16),
    hy _ (by decide : 15 < 16), ← EReal.coe_add]
  exact c _ (by simp only [win, Finset.sum_range_succ, Finset.sum_range_zero, zero_add])

end groups

/-- The row numbers, counted from one. -/
theorem pos (a : ℕ) (ha : a < 128) (r : Fin 128) :
    k0_pay279 (F := Ideal) (Scalar.muli (Scalar.subi 127#32 (BitVec.ofNat 32 a)) 128#32) (iota .tc S128x1 32 [0] iota_S128x1_d0_w32) (ix2 r 0)
      = (((((127 - a) * 128 + r.val : ℕ) : ℝ) + 1 : ℝ) : EReal) := by
  pointwise [k0_pay279]
  have hr := r.isLt
  have e : IntOp.addi (IntOp.addi (Scalar.muli (Scalar.subi 127#32 (BitVec.ofNat 32 a)) 128#32) (BitVec.ofNat 32 r.val)) 1#32
      = BitVec.ofNat 32 ((127 - a) * 128 + r.val + 1) := by
    refine BitVec.eq_of_toNat_eq ?_
    simp only [IntOp.addi, Scalar.muli, Scalar.subi, IntOp.muli, IntOp.subi, BitVec.toNat_add, BitVec.toNat_mul, BitVec.toNat_sub, BitVec.toNat_ofNat]
    omega
  rw [e]
  have t : (BitVec.ofNat 32 ((127 - a) * 128 + r.val + 1)).toInt = ((((127 - a) * 128 + r.val + 1 : ℕ)) : ℤ) := by
    rw [BitVec.toInt_eq_toNat_of_lt (by rw [BitVec.toNat_ofNat]; omega), BitVec.toNat_ofNat, Nat.mod_eq_of_lt (by omega)]
  show (((BitVec.ofNat 32 ((127 - a) * 128 + r.val + 1)).toInt : ℝ) : EReal) = _
  rw [t]
  push_cast
  rfl

section products

variable (p : FVec Ideal S128x128 .f32) (w : FVec Ideal S1x128x128 .bf16) (p0 p1 p2 p3 : FVec Ideal S128x128 .f32) (d : FVec Ideal S128x512 .f32)
  (s : FVec Ideal S1x512 .f32) (A : ℕ → Fin 128 → Fin 128 → ℝ) (B : ℕ → Fin 128 → Fin 128 → ℝ) (D : Fin 128 → Fin 512 → ℝ) (S : Fin 512 → ℝ)

/-- The four groups' products, summed against the cotangent's rows. -/
theorem pay294 (m0 m1 m2 : FVec Ideal S128x128 .f32) (x : FVec Ideal S128x128 .bf16) (y : FVec Ideal S128x128 .bf16)
    (hd : ∀ r l, d (ix2 r l) = ((D r l : ℝ) : EReal))
    (h0 : ∀ r l, m0 (ix2 r l) = ((A 0 r l : ℝ) : EReal)) (h1 : ∀ r l, m1 (ix2 r l) = ((A 1 r l : ℝ) : EReal))
    (h2 : ∀ r l, m2 (ix2 r l) = ((A 2 r l : ℝ) : EReal)) (h3 : ∀ r l, (∑ k : Fin 128, x (ix2 r k) * y (ix2 k l)) = ((A 3 r l : ℝ) : EReal))
    (acc : FVec Ideal S1x512 .f32) (l : Fin 512) :
    k0_pay294 (F := Ideal) d m0 m1 m2 x y acc (ix2 0 l)
      = acc (ix2 0 l) + ((∑ r : Fin 128, D r l * A (l.val / 128) r ⟨l.val % 128, Nat.mod_lt _ (by decide)⟩ : ℝ) : EReal) := by
  have key : ∀ (g : ℕ) (l' : Fin 128), l.val = g * 128 + l'.val → A (l.val / 128) = A g ∧ (⟨l.val % 128, Nat.mod_lt _ (by decide)⟩ : Fin 128) = l' :=
    fun g l' h => ⟨by rw [show l.val / 128 = g by omega], Fin.ext (by show l.val % 128 = l'.val; omega)⟩
  pointwise [k0_pay294]
  rw [← sum_coe]
  refine congrArg (acc (ix2 0 l) + ·) (Finset.sum_congr rfl fun r _ => ?_)
  rw [hd]
  by_cases c0 : l.val < 128
  · obtain ⟨ka, kl⟩ := key 0 ⟨l.val, c0⟩ (by simp)
    rw [dif_pos c0, h0, ka, kl, ← EReal.coe_mul]
  · rw [dif_neg c0]
    by_cases c1 : l.val - 128 < 128
    · obtain ⟨ka, kl⟩ := key 1 ⟨l.val - 128, c1⟩ (by show l.val = 1 * 128 + (l.val - 128); omega)
      rw [dif_pos c1, h1, ka, kl, ← EReal.coe_mul]
    · rw [dif_neg c1]
      by_cases c2 : l.val - 128 - 128 < 128
      · obtain ⟨ka, kl⟩ := key 2 ⟨l.val - 128 - 128, c2⟩ (by show l.val = 2 * 128 + (l.val - 128 - 128); omega)
        rw [dif_pos c2, h2, ka, kl, ← EReal.coe_mul]
      · obtain ⟨ka, kl⟩ := key 3 ⟨l.val - 128 - 128 - 128, by omega⟩ (by show l.val = 3 * 128 + (l.val - 128 - 128 - 128); omega)
        rw [dif_neg c2, h3, ka, kl, ← EReal.coe_mul]

section weights

variable (hd : ∀ r l, d (ix2 r l) = ((D r l : ℝ) : EReal)) (hs : ∀ l, s (ix2 0 l) = ((S l : ℝ) : EReal))
  (X : Fin 128 → Fin 128 → ℝ) (hp : ∀ r k, p (ix2 r k) = ((X r k : ℝ) : EReal)) (acc : FVec Ideal S1x128x128 .f32) (k l : Fin 128)

include hd hs hp

theorem pay298 : k0_pay298 (F := Ideal) d s p acc (ix3 0 k l)
    = acc (ix3 0 k l) + ((∑ r : Fin 128, X r k * (D r ⟨l.val, by omega⟩ * S ⟨l.val, by omega⟩) : ℝ) : EReal) := by
  pointwise [k0_pay298, k0_pay297, k0_pay295]
  simp only [hp, hd, hs, ← EReal.coe_mul, sum_coe]

theorem pay305 : k0_pay305 (F := Ideal) p (k0_pay295 d s) acc (ix3 0 k l)
    = acc (ix3 0 k l) + ((∑ r : Fin 128, X r k * (D r ⟨128 + l.val, by omega⟩ * S ⟨128 + l.val, by omega⟩) : ℝ) : EReal) := by
  pointwise [k0_pay305, k0_pay304, k0_pay295]
  simp only [hp, hd, hs, ← EReal.coe_mul, sum_coe]

theorem pay314 : k0_pay314 (F := Ideal) p (k0_pay295 d s) acc (ix3 0 k l)
    = acc (ix3 0 k l) + ((∑ r : Fin 128, X r k * (D r ⟨256 + l.val, by omega⟩ * S ⟨256 + l.val, by omega⟩) : ℝ) : EReal) := by
  pointwise [k0_pay314, k0_pay313, k0_pay295]
  simp only [hp, hd, hs, ← EReal.coe_mul, sum_coe]

theorem pay326 : k0_pay326 (F := Ideal) p (k0_pay295 d s) acc (ix3 0 k l)
    = acc (ix3 0 k l) + ((∑ r : Fin 128, X r k * (D r ⟨384 + l.val, by omega⟩ * S ⟨384 + l.val, by omega⟩) : ℝ) : EReal) := by
  pointwise [k0_pay326, k0_pay325, k0_pay295]
  simp only [hp, hd, hs, ← EReal.coe_mul, sum_coe]

end weights

section rows

variable (B' : Fin 128 → Fin 128 → ℝ) (hw : ∀ k l, w (ix3 0 k l) = ((B' k l : ℝ) : EReal)) (X : Fin 128 → Fin 128 → ℝ)

include hw

theorem pay282 (v984 : FVec Ideal S128x512 .f32) (v985 : BitVec 32) (v986 : IVec S128x1 32) (y0 y1 : FVec Ideal S128x128 .f32)
    (h : ∀ r k, k0_pay281 (F := Ideal) v984 v985 v986 y0 y1 (ix2 r k) = ((X r k : ℝ) : EReal)) (r l : Fin 128) :
    k0_pay282 (F := Ideal) v984 v985 v986 y0 y1 w (ix2 r l) = ((∑ k : Fin 128, X r k * B' k l : ℝ) : EReal) := by
  pointwise [k0_pay282]
  simp only [h, hw, ← EReal.coe_mul, sum_coe]

theorem pay285 (v984 : FVec Ideal S128x512 .f32) (v985 : BitVec 32) (v986 : IVec S128x1 32) (y0 y1 y2 y3 : FVec Ideal S128x128 .f32)
    (h : ∀ r k, k0_pay284 (F := Ideal) v984 v985 v986 y0 y1 y2 y3 (ix2 r k) = ((X r k : ℝ) : EReal)) (r l : Fin 128) :
    k0_pay285 (F := Ideal) v984 v985 v986 y0 y1 y2 y3 w (ix2 r l) = ((∑ k : Fin 128, X r k * B' k l : ℝ) : EReal) := by
  pointwise [k0_pay285]
  simp only [h, hw, ← EReal.coe_mul, sum_coe]

theorem pay288 (v984 : FVec Ideal S128x512 .f32) (v991 : FVec Ideal S128x1 .f32) (y0 y1 y2 y3 y4 y5 y6 y7 : FVec Ideal S128x128 .f32)
    (h : ∀ r k, k0_pay287 (F := Ideal) v984 v991 y0 y1 y2 y3 y4 y5 y6 y7 (ix2 r k) = ((X r k : ℝ) : EReal)) (r l : Fin 128) :
    k0_pay288 (F := Ideal) v984 v991 y0 y1 y2 y3 y4 y5 y6 y7 w (ix2 r l) = ((∑ k : Fin 128, X r k * B' k l : ℝ) : EReal) := by
  pointwise [k0_pay288]
  simp only [h, hw, ← EReal.coe_mul, sum_coe]

theorem pay293 (k l : Fin 128) : k0_pay293 (F := Ideal) w (ix2 k l) = ((B' k l : ℝ) : EReal) := by
  pointwise [k0_pay293]
  exact hw k l

end rows

section cut

variable (i : grid0.Coords) (z : FVec Ideal S128x2048 .bf16) (q : FVec Ideal S16x2048 .bf16) (e : FVec Ideal S128x1024 .bf16)

theorem pay17 (r : Fin 128) (l : Fin 512) : k0_pay17 (F := Ideal) z (ix2 r l) = z (ix2 r ⟨1536 + l.val, by omega⟩) := by
  pointwise [k0_pay17, k0_pay12]

theorem pay278 (r : Fin 128) (l : Fin 512) : k0_pay278 (F := Ideal) (k0_pay12 z) (ix2 r l) = z (ix2 r ⟨1536 + l.val, by omega⟩) := by
  pointwise [k0_pay278, k0_pay12]

theorem pay277 (s : FVec Ideal S1x512 .f32) (l : Fin 512) : k0_pay277 (F := Ideal) s (ix2 0 l) = s (ix2 0 l) := by
  pointwise [k0_pay277]

theorem pay49 (r : Fin 128) (l : Fin 1024) : k0_pay49 (F := Ideal) e (ix2 r l) = e (ix2 r l) := by
  pointwise [k0_pay49]

theorem later (a : ℕ) (ha : a < 128) : Scalar.cmpi .sgt (Scalar.subi 127#32 (BitVec.ofNat 32 a)) 0#32 = if a < 127 then 1#1 else 0#1 :=
  (by decide +kernel : ∀ a : Fin 128, Scalar.cmpi .sgt (Scalar.subi 127#32 (BitVec.ofNat 32 a.val)) 0#32 = if a.val < 127 then 1#1 else 0#1) ⟨a, ha⟩

theorem pay16 (a : ℕ) (ha : a < 128) (hi : (i 0).val = a) (r : Fin 16) (l : Fin 512) :
    k0_pay16 (F := Ideal) i q (ix2 r l) = if a < 127 then q (ix2 r ⟨1536 + l.val, by omega⟩) else ((0 : ℝ) : EReal) := by
  pointwise [k0_pay16, k0_pay13]
  rw [hi, later a ha]
  by_cases h : a < 127
  · rw [if_pos h, if_pos h]
    rfl
  · rw [if_neg h, if_neg h]
    rfl

end cut

end products

end Cert.Pool

end
-- ==== Proof.PoolRead.lean ====
/- What the two branches' backward kernel reads back of its row buffer and of the group weights' blocks. -/
module

public import proofs.«01_k».proof.Proof.PoolPay
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.Pool

open Idealize.ShloMosaic Idealize.ShloMosaic.TcCoe Idealize.SL.Sem

section plain

variable {sg : RefSig} {kd : Kind} {sp : Space} {A w : ℕ}

/-- A load of a rectangle reads the contents there. -/
theorem readCov_rect (v : View sg kd sp (⟨2, ![A, w]⟩ : Shape) .f32) (L : List (View.Piece (Elt Ideal) (⟨2, ![A, w]⟩ : Shape) .f32)) (o q n k : ℕ)
    (inb : ∀ x : Fin 2, (![o, q] : Fin 2 → ℕ) x + (![n, k] : Fin 2 → ℕ) x ≤ (![A, w] : Fin 2 → ℕ) x) (r : Fin n) (l : Fin k)
    (h : o + r.val < A) (h' : q + l.val < w) :
    v.readCov (Val := Elt Ideal) L (Rect.unit (s := ⟨2, ![A, w]⟩) ![o, q] ![n, k] inb).toLoadRect (ix2 r l : (⟨2, ![n, k]⟩ : Shape).Idx)
      = v.read (Elt Ideal) (v.writes (Elt Ideal) v.junk L) (ix2 ⟨o + r.val, h⟩ ⟨q + l.val, h'⟩) := by
  refine congrArg (v.read (Elt Ideal) (v.writes (Elt Ideal) v.junk L)) (funext fun x => Fin.ext ?_)
  fin_cases x
  · show o + 1 * r.val = o + r.val
    omega
  · show q + 1 * l.val = q + l.val
    omega

/-- Two stores, one above the other: the lower one is read below, the upper one above. -/
theorem read_two {B D : ℕ} (v : View sg kd sp (⟨2, ![A, w]⟩ : Shape) .f32) (f : v.ty.Contents (Elt Ideal))
    (inb : ∀ x : Fin 2, (![B, 0] : Fin 2 → ℕ) x + (![D, w] : Fin 2 → ℕ) x ≤ (![A, w] : Fin 2 → ℕ) x)
    (inb' : ∀ x : Fin 2, (![0, 0] : Fin 2 → ℕ) x + (![B, w] : Fin 2 → ℕ) x ≤ (![A, w] : Fin 2 → ℕ) x)
    (a : FVec Ideal (⟨2, ![D, w]⟩ : Shape) .f32) (e : FVec Ideal (⟨2, ![B, w]⟩ : Shape) .f32) (r : Fin A) (l : Fin w) :
    v.read (Elt Ideal) (v.writes (Elt Ideal) f [⟨Rect.unit (s := ⟨2, ![A, w]⟩) ![B, 0] ![D, w] inb, a⟩, ⟨Rect.unit (s := ⟨2, ![A, w]⟩) ![0, 0] ![B, w] inb', e⟩]) (ix2 r l)
      = if h : r.val < B then e (ix2 ⟨r.val, h⟩ l) else if h' : r.val - B < D then a (ix2 ⟨r.val - B, h'⟩ l)
        else v.read (Elt Ideal) (v.writes (Elt Ideal) f [⟨Rect.unit (s := ⟨2, ![A, w]⟩) ![B, 0] ![D, w] inb, a⟩, ⟨Rect.unit (s := ⟨2, ![A, w]⟩) ![0, 0] ![B, w] inb', e⟩]) (ix2 r l) := by
  by_cases h : r.val < B
  · rw [dif_pos h]
    refine (View.read_writes_cons_unit_of_not_mem v f inb a _ _ rfl 0 (Or.inl h)).trans ?_
    exact View.read_writes_cons_unit_of_mem v f inb' e _ _ (ix2 ⟨r.val, h⟩ l) rfl (Fin.forall_fin_two.mpr ⟨(Nat.zero_add _).symm, (Nat.zero_add _).symm⟩)
  · rw [dif_neg h]
    by_cases h' : r.val - B < D
    · rw [dif_pos h']
      exact View.read_writes_cons_unit_of_mem v f inb a _ _ (ix2 ⟨r.val - B, h'⟩ l) rfl
        (Fin.forall_fin_two.mpr ⟨by show r.val = B + (r.val - B); omega, (Nat.zero_add _).symm⟩)
    · rw [dif_neg h']

end plain

section lead

variable {G n w : ℕ} (k : Fin G) (inb : ∀ x : Fin 3, (![k.val, 0, 0] : Fin 3 → ℕ) x + (![1, n, w] : Fin 3 → ℕ) x ≤ (![G, n, w] : Fin 3 → ℕ) x)
  (L : List (View.Piece (Elt Ideal) (⟨3, ![G, n, w]⟩ : Shape) .f32))

theorem lead_emb (r : Fin n) (l : Fin w) :
    (Rect.unit (s := ⟨3, ![G, n, w]⟩) ![k.val, 0, 0] ![1, n, w] inb).emb (ix3 0 r l : (⟨3, ![1, n, w]⟩ : Shape).Idx) = ix3 k r l := by
  funext a
  refine Fin.ext ?_
  fin_cases a
  · show k.val + 1 * 0 = k.val
    omega
  · show 0 + 1 * r.val = r.val
    omega
  · show 0 + 1 * l.val = l.val
    omega

theorem lead_hit (x : FVec Ideal (⟨3, ![1, n, w]⟩ : Shape) .f32) (r : Fin n) (l : Fin w) :
    View.canon (Val := Elt Ideal) (⟨Rect.unit (s := ⟨3, ![G, n, w]⟩) ![k.val, 0, 0] ![1, n, w] inb, x⟩ :: L) (ix3 k r l) = x (ix3 0 r l) := by
  rw [← lead_emb k inb r l]
  exact View.canon_cons_emb (Val := Elt Ideal) (Rect.unit (s := ⟨3, ![G, n, w]⟩) ![k.val, 0, 0] ![1, n, w] inb) x L (ix3 0 r l)

theorem lead_miss (x : FVec Ideal (⟨3, ![1, n, w]⟩ : Shape) .f32) (a : Fin G) (r : Fin n) (l : Fin w) (h : a.val ≠ k.val) :
    View.canon (Val := Elt Ideal) (⟨Rect.unit (s := ⟨3, ![G, n, w]⟩) ![k.val, 0, 0] ![1, n, w] inb, x⟩ :: L) (ix3 a r l) = View.canon L (ix3 a r l) := by
  refine View.canon_cons_of_not_mem _ _ fun hm => ?_
  have h0 := hm
  rw [Rect.mem_set_unit] at h0
  have h1 := h0 0
  have h2 : k.val ≤ a.val ∧ a.val < k.val + 1 := h1
  omega

theorem lead_read {sg : RefSig} {kd : Kind} {sp : Space} (v : View sg kd sp (⟨3, ![G, n, w]⟩ : Shape) .f32) (r : Fin n) (l : Fin w) :
    v.readCov (Val := Elt Ideal) L (Rect.unit (s := ⟨3, ![G, n, w]⟩) ![k.val, 0, 0] ![1, n, w] inb).toLoadRect (ix3 0 r l : (⟨3, ![1, n, w]⟩ : Shape).Idx)
      = View.canon L (ix3 k r l) := by
  rw [View.readCov_eq_canon']
  exact congrArg (View.canon L) (lead_emb k inb r l)

theorem lead_ld {e : EltTy} (X : (⟨3, ![G, n, w]⟩ : Shape).Idx → Elt Ideal e) (r : Fin n) (l : Fin w) :
    View.ld (Val := Elt Ideal) (e' := e) X (Rect.unit (s := ⟨3, ![G, n, w]⟩) ![k.val, 0, 0] ![1, n, w] inb)
      (ix3 0 r l : (⟨3, ![1, n, w]⟩ : Shape).Idx) = X (ix3 k r l) := by
  refine View.ld_unit_apply_of (Val := Elt Ideal) (e := e) (S := ⟨3, ![G, n, w]⟩) X _ _ _ _ (ix3 k r l) fun a => ?_
  fin_cases a
  · rfl
  · exact (Nat.zero_add _).symm
  · exact (Nat.zero_add _).symm

/-- What one store over the whole block leaves. -/
theorem lead_fill (inb : ∀ x : Fin 3, (![0, 0, 0] : Fin 3 → ℕ) x + (![G, n, w] : Fin 3 → ℕ) x ≤ (![G, n, w] : Fin 3 → ℕ) x)
    (x : FVec Ideal (⟨3, ![G, n, w]⟩ : Shape) .f32) (a : Fin G) (r : Fin n) (l : Fin w) :
    View.canon (Val := Elt Ideal) (⟨Rect.unit (s := ⟨3, ![G, n, w]⟩) ![0, 0, 0] ![G, n, w] inb, x⟩ :: ([] : List (View.Piece (Elt Ideal) (⟨3, ![G, n, w]⟩ : Shape) .f32)))
      (ix3 a r l) = x (ix3 a r l) := by
  have e : (Rect.unit (s := ⟨3, ![G, n, w]⟩) ![0, 0, 0] ![G, n, w] inb).emb (ix3 a r l : (⟨3, ![G, n, w]⟩ : Shape).Idx) = ix3 a r l := by
    funext b
    refine Fin.ext ?_
    fin_cases b
    · show 0 + 1 * a.val = a.val
      omega
    · show 0 + 1 * r.val = r.val
      omega
    · show 0 + 1 * l.val = l.val
      omega
  conv_lhs => rw [← e]
  exact View.canon_cons_emb (Val := Elt Ideal) (Rect.unit (s := ⟨3, ![G, n, w]⟩) ![0, 0, 0] ![G, n, w] inb) x
    ([] : List (View.Piece (Elt Ideal) (⟨3, ![G, n, w]⟩ : Shape) .f32)) (ix3 a r l)

end lead

/-- Rows of the pooled branch's buffer: a block of rows under its halo. -/
theorem read_rows {sg : RefSig} {kd : Kind} {sp : Space} (v : View sg kd sp (⟨2, ![144, 512]⟩ : Shape) .f32)
    (z : FVec Ideal (⟨2, ![128, 512]⟩ : Shape) .f32) (q : FVec Ideal (⟨2, ![16, 512]⟩ : Shape) .f32) (u : ℕ → ℕ → ℝ) (b : ℕ)
    (hz : ∀ (r : Fin 128) (l : Fin 512), z (ix2 r l) = ((u (b + r.val) l.val : ℝ) : EReal))
    (hq : ∀ (r : Fin 16) (l : Fin 512), q (ix2 r l) = ((back (fun n => u n l.val) (16 - r.val) b : ℝ) : EReal))
    (i0 : ∀ x : Fin 2, (![16, 0] : Fin 2 → ℕ) x + (![128, 512] : Fin 2 → ℕ) x ≤ (![144, 512] : Fin 2 → ℕ) x)
    (i1 : ∀ x : Fin 2, (![0, 0] : Fin 2 → ℕ) x + (![16, 512] : Fin 2 → ℕ) x ≤ (![144, 512] : Fin 2 → ℕ) x)
    (j c : ℕ) (hj : j ≤ 16) (inb : ∀ x : Fin 2, (![16 - j, c] : Fin 2 → ℕ) x + (![128, 128] : Fin 2 → ℕ) x ≤ (![144, 512] : Fin 2 → ℕ) x) (r k : Fin 128) :
    v.readCov (Val := Elt Ideal)
      [⟨Rect.unit (s := ⟨2, ![144, 512]⟩) ![16, 0] ![128, 512] i0, z⟩, ⟨Rect.unit (s := ⟨2, ![144, 512]⟩) ![0, 0] ![16, 512] i1, q⟩]
        (Rect.unit (s := ⟨2, ![144, 512]⟩) ![16 - j, c] ![128, 128] inb).toLoadRect (ix2 r k : (⟨2, ![128, 128]⟩ : Shape).Idx)
      = ((back (fun n => u n (c + k.val)) j (b + r.val) : ℝ) : EReal) := by
  have h0 : 16 - j + 128 ≤ 144 := inb 0
  have h1 : c + 128 ≤ 512 := inb 1
  refine (readCov_rect v _ (16 - j) c 128 128 inb r k (by omega) (by omega)).trans ?_
  refine (read_two v _ _ _ z q _ _).trans ?_
  by_cases h : 16 - j + r.val < 16
  · rw [dif_pos h, hq]
    unfold back
    dsimp only
    by_cases hb : j ≤ b + r.val
    · rw [if_pos hb, if_pos (by omega), show b - (16 - (16 - j + r.val)) = b + r.val - j by omega]
    · rw [if_neg hb, if_neg (by omega)]
  · rw [dif_neg h, dif_pos (by show 16 - j + r.val - 16 < 128; omega), hz]
    unfold back
    dsimp only
    rw [if_pos (by omega), show b + (16 - j + r.val - 16) = b + r.val - j by omega]

end Cert.Pool

end
-- ==== Proof.PoolTile.lean ====
/- What one grid point of the two branches' backward kernel adds to the pooled branch's two parameter gradients. -/
module

public import proofs.«01_k».proof.Proof.SsdBody
public import proofs.«01_k».proof.Proof.PoolRead

@[expose] public section

set_option maxRecDepth 16384

noncomputable section

namespace Cert.Pool

open Idealize.ShloMosaic Idealize.ShloMosaic.TcCoe Idealize.SL.Sem Cert.Reals Cert.Kernel2Ideal Cert.Kernel2Ideal.Gen Cert.Ssd

/-- Four pieces on the leading axis, read at any place. -/
theorem canon4 {n w : ℕ} (L : List (View.Piece (Elt Ideal) (⟨3, ![4, n, w]⟩ : Shape) .f32)) (x0 x1 x2 x3 : FVec Ideal (⟨3, ![1, n, w]⟩ : Shape) .f32)
    (i0 : ∀ x : Fin 3, (![0, 0, 0] : Fin 3 → ℕ) x + (![1, n, w] : Fin 3 → ℕ) x ≤ (![4, n, w] : Fin 3 → ℕ) x)
    (i1 : ∀ x : Fin 3, (![1, 0, 0] : Fin 3 → ℕ) x + (![1, n, w] : Fin 3 → ℕ) x ≤ (![4, n, w] : Fin 3 → ℕ) x)
    (i2 : ∀ x : Fin 3, (![2, 0, 0] : Fin 3 → ℕ) x + (![1, n, w] : Fin 3 → ℕ) x ≤ (![4, n, w] : Fin 3 → ℕ) x)
    (i3 : ∀ x : Fin 3, (![3, 0, 0] : Fin 3 → ℕ) x + (![1, n, w] : Fin 3 → ℕ) x ≤ (![4, n, w] : Fin 3 → ℕ) x)
    (g : Fin 4) (k : Fin n) (l : Fin w) (f : ℕ → EReal)
    (h0 : x0 (ix3 0 k l) = f 0) (h1 : x1 (ix3 0 k l) = f 1) (h2 : x2 (ix3 0 k l) = f 2) (h3 : x3 (ix3 0 k l) = f 3) :
    View.canon (Val := Elt Ideal) (⟨Rect.unit (s := ⟨3, ![4, n, w]⟩) ![3, 0, 0] ![1, n, w] i3, x3⟩ :: ⟨Rect.unit (s := ⟨3, ![4, n, w]⟩) ![2, 0, 0] ![1, n, w] i2, x2⟩ ::
      ⟨Rect.unit (s := ⟨3, ![4, n, w]⟩) ![1, 0, 0] ![1, n, w] i1, x1⟩ :: ⟨Rect.unit (s := ⟨3, ![4, n, w]⟩) ![0, 0, 0] ![1, n, w] i0, x0⟩ :: L) (ix3 g k l) = f g.val := by
  by_cases e3 : g = 3
  · subst e3
    exact (lead_hit (G := 4) 3 i3 _ x3 k l).trans h3
  refine (lead_miss (G := 4) 3 i3 _ x3 g k l (fun h => e3 (Fin.ext h))).trans ?_
  by_cases e2 : g = 2
  · subst e2
    exact (lead_hit (G := 4) 2 i2 _ x2 k l).trans h2
  refine (lead_miss (G := 4) 2 i2 _ x2 g k l (fun h => e2 (Fin.ext h))).trans ?_
  by_cases e1 : g = 1
  · subst e1
    exact (lead_hit (G := 4) 1 i1 _ x1 k l).trans h1
  refine (lead_miss (G := 4) 1 i1 _ x1 g k l (fun h => e1 (Fin.ext h))).trans ?_
  obtain rfl : g = 0 := by
    refine Fin.ext ?_
    have a1 : g.val ≠ 1 := fun h => e1 (Fin.ext h)
    have a2 : g.val ≠ 2 := fun h => e2 (Fin.ext h)
    have a3 : g.val ≠ 3 := fun h => e3 (Fin.ext h)
    have := g.isLt
    show g.val = 0
    omega
  exact (lead_hit (G := 4) 0 i0 _ x0 k l).trans h0

theorem lt512 (l : Fin 512) : 512 + l.val < 1024 := by omega

theorem lt1536 (l : Fin 512) : 1536 + l.val < 2048 := by omega

section tile

variable (V : (c : Dev nD) → (b : Ref sig .tc) → Buf (Elt Ideal) ((c : Thread nD τ).loc b)) (c : Dev nD) (t : Fin cfg0.N)
  (Y P : ℕ → ℕ → ℝ) (W : ℕ → ℕ → ℕ → ℝ) (S : ℕ → ℝ)

theorem coord : (grid0.coords t 0).val = t.val := (by decide +kernel : ∀ t : Fin cfg0.N, (grid0.coords t 0).val = t.val) t

/-- A load of the row buffer. -/
def kr (o q : ℕ) (inb : ∀ x : Fin 2, (![o, q] : Fin 2 → ℕ) x + (![128, 128] : Fin 2 → ℕ) x ≤ S144x512.size x) : FVec Ideal S128x128 .f32 :=
  (View.whole cc0_scratch2).readCov (Val := Elt Ideal)
      [⟨Rect.unit ![16, 0] ![128, 512] inb_S144x512_S128x512_16_0, k0_pay17 (iblk V c 1 t)⟩,
        ⟨Rect.unit ![0, 0] ![16, 512] inb_S144x512_S16x512_0_0, k0_pay16 (grid0.coords t) (iblk V c 2 t)⟩]
        (Rect.unit (s := S144x512) ![o, q] ![128, 128] inb).toLoadRect

/-- A row's number, counted from one. -/
def kb : BitVec 32 := Scalar.muli (Scalar.subi 127#32 (BitVec.ofNat 32 (grid0.coords t 0).val)) 128#32
def kp : FVec Ideal S128x1 .f32 := k0_pay279 (kb t) (iota .tc S128x1 32 [0] iota_S128x1_d0_w32)
def ku : FVec Ideal S128x512 .f32 := k0_pay278 (k0_pay12 (iblk V c 1 t))

/-- The four groups' windows. -/
def kg0 : FVec Ideal S128x128 .f32 := k0_pay281 (ku V c t) (kb t) (iota .tc S128x1 32 [0] iota_S128x1_d0_w32)
  (kr V c t 16 0 inb_S144x512_S128x128_16_0) (kr V c t 15 0 inb_S144x512_S128x128_15_0)

def kg1 : FVec Ideal S128x128 .f32 := k0_pay284 (ku V c t) (kb t) (iota .tc S128x1 32 [0] iota_S128x1_d0_w32)
  (kr V c t 16 128 inb_S144x512_S128x128_16_128) (kr V c t 15 128 inb_S144x512_S128x128_15_128)
  (kr V c t 14 128 inb_S144x512_S128x128_14_128) (kr V c t 13 128 inb_S144x512_S128x128_13_128)

def kg2 : FVec Ideal S128x128 .f32 := k0_pay287 (ku V c t) (kp t)
  (kr V c t 16 256 inb_S144x512_S128x128_16_256) (kr V c t 15 256 inb_S144x512_S128x128_15_256)
  (kr V c t 14 256 inb_S144x512_S128x128_14_256) (kr V c t 13 256 inb_S144x512_S128x128_13_256)
  (kr V c t 12 256 inb_S144x512_S128x128_12_256) (kr V c t 11 256 inb_S144x512_S128x128_11_256)
  (kr V c t 10 256 inb_S144x512_S128x128_10_256) (kr V c t 9 256 inb_S144x512_S128x128_9_256)

theorem inb384 (j : ℕ) (h : j ≤ 16) (x : Fin 2) : (![16 - j, 384] : Fin 2 → ℕ) x + (![128, 128] : Fin 2 → ℕ) x ≤ S144x512.size x := by
  fin_cases x
  · show 16 - j + 128 ≤ 144
    omega
  · exact le_refl 512

def kr3 (j : ℕ) : FVec Ideal S128x128 .f32 := if h : j ≤ 16 then kr V c t (16 - j) 384 (inb384 j h) else fun _ => 0

def kg3 : FVec Ideal S128x128 .f32 := k0_pay291 (ku V c t) (kp t) (k0_pay289 (kr3 V c t 0) (kr3 V c t 1) (kr3 V c t 2) (kr3 V c t 3))
  (kr3 V c t 4) (kr3 V c t 5) (kr3 V c t 6) (kr3 V c t 7) (kr3 V c t 8) (kr3 V c t 9) (kr3 V c t 10) (kr3 V c t 11) (kr3 V c t 12)
  (kr3 V c t 13) (kr3 V c t 14) (kr3 V c t 15)

/-- The first row of a point's block. -/
abbrev b0 : ℕ := (127 - t.val) * 128

variable (h0 : ∀ (r : Fin 128) (l : Fin 512), (iblk V c 0 t : FVec Ideal S128x1024 .bf16) (ix2 r ⟨512 + l.val, lt512 l⟩) = ((Y (b0 t + r.val) (512 + l.val) : ℝ) : EReal))
  (h1 : ∀ (r : Fin 128) (l : Fin 512), (iblk V c 1 t : FVec Ideal S128x2048 .bf16) (ix2 r ⟨1536 + l.val, lt1536 l⟩) = ((P (b0 t + r.val) (1544 + l.val) : ℝ) : EReal))
  (h2 : t.val < 127 → ∀ (r : Fin 16) (l : Fin 512), (iblk V c 2 t : FVec Ideal S16x2048 .bf16) (ix2 r ⟨1536 + l.val, lt1536 l⟩) = ((P (b0 t - 16 + r.val) (1544 + l.val) : ℝ) : EReal))
  (h11 : ∀ (g : Fin 4) (k l : Fin 128), (iblk V c 11 t : FVec Ideal S4x128x128 .bf16) (ix3 g k l) = ((W g.val k.val l.val : ℝ) : EReal))
  (h12 : ∀ l : Fin 512, (iblk V c 12 t : FVec Ideal S1x512 .f32) (ix2 0 l) = ((S l.val : ℝ) : EReal))

theorem t_lt : t.val < 128 := t.isLt

theorem kp_at (r : Fin 128) : kp t (ix2 r 0) = (((b0 t + r.val : ℕ) : ℝ) + 1 : ℝ) := by
  have h := pos t.val (t_lt t) r
  unfold kp kb
  rw [coord t]
  exact h

include h1 in
theorem ku_at (r : Fin 128) (l : Fin 512) : ku V c t (ix2 r l) = ((P (b0 t + r.val) (1544 + l.val) : ℝ) : EReal) := (pay278 _ r l).trans (h1 r l)

include h1 h2 in
theorem kr_at (j q : ℕ) (hj : j ≤ 16) (inb : ∀ x : Fin 2, (![16 - j, q] : Fin 2 → ℕ) x + (![128, 128] : Fin 2 → ℕ) x ≤ S144x512.size x) (r k : Fin 128) :
    kr V c t (16 - j) q inb (ix2 r k) = ((back (fun n => P n (1544 + (q + k.val))) j (b0 t + r.val) : ℝ) : EReal) := by
  refine read_rows (View.whole cc0_scratch2) (k0_pay17 (iblk V c 1 t)) (k0_pay16 (grid0.coords t) (iblk V c 2 t)) (fun n l => P n (1544 + l)) (b0 t) (fun r l => (pay17 _ r l).trans (h1 r l)) (fun r l => ?_) inb_S144x512_S128x512_16_0 inb_S144x512_S16x512_0_0 j q hj inb r k
  have ht := t_lt t
  rw [pay16 _ _ t.val ht (coord t) r l]
  unfold back
  dsimp only
  by_cases h : t.val < 127
  · rw [if_pos h, h2 h, if_pos (by show 16 - r.val ≤ (127 - t.val) * 128; omega),
      show b0 t - 16 + r.val = b0 t - (16 - r.val) by show (127 - t.val) * 128 - 16 + r.val = (127 - t.val) * 128 - (16 - r.val); omega]
  · rw [if_neg h, if_neg (by show ¬ 16 - r.val ≤ (127 - t.val) * 128; omega)]

include h1 h2

theorem kg0_at (r k : Fin 128) : kg0 V c t (ix2 r k) = ((pooled P 0 (b0 t + r.val) k.val : ℝ) : EReal) := by
  have key := pay281 (ku V c t) (kb t) (iota .tc S128x1 32 [0] iota_S128x1_d0_w32) (fun n l => P n (1544 + l)) (b0 t) (ku_at V c t P h1)
    (kp_at t) (kr V c t 16 0 inb_S144x512_S128x128_16_0) (kr V c t 15 0 inb_S144x512_S128x128_15_0) r k
    ((kr_at V c t P h1 h2 0 0 (by decide) _ r k).trans (by rw [Nat.zero_add])) ((kr_at V c t P h1 h2 1 0 (by decide) _ r k).trans (by rw [Nat.zero_add]))
  refine Eq.trans key ?_
  unfold pooled
  rw [Nat.zero_mul, Nat.zero_add]
  rfl

theorem kg1_at (r k : Fin 128) : kg1 V c t (ix2 r k) = ((pooled P 1 (b0 t + r.val) k.val : ℝ) : EReal) :=
  pay284 (ku V c t) (kb t) (iota .tc S128x1 32 [0] iota_S128x1_d0_w32) (fun n l => P n (1544 + l)) (b0 t) (ku_at V c t P h1)
    (kp_at t) _ _ _ _ r k
    (kr_at V c t P h1 h2 0 128 (by decide) _ r k) (kr_at V c t P h1 h2 1 128 (by decide) _ r k)
    (kr_at V c t P h1 h2 2 128 (by decide) _ r k) (kr_at V c t P h1 h2 3 128 (by decide) _ r k)

theorem kg2_at (r k : Fin 128) : kg2 V c t (ix2 r k) = ((pooled P 2 (b0 t + r.val) k.val : ℝ) : EReal) :=
  pay287 (ku V c t) (fun n l => P n (1544 + l)) (b0 t) (ku_at V c t P h1) (kp t)
    (kp_at t) _ _ _ _ _ _ _ _ r k
    (kr_at V c t P h1 h2 0 256 (by decide) _ r k) (kr_at V c t P h1 h2 1 256 (by decide) _ r k)
    (kr_at V c t P h1 h2 2 256 (by decide) _ r k) (kr_at V c t P h1 h2 3 256 (by decide) _ r k)
    (kr_at V c t P h1 h2 4 256 (by decide) _ r k) (kr_at V c t P h1 h2 5 256 (by decide) _ r k)
    (kr_at V c t P h1 h2 6 256 (by decide) _ r k) (kr_at V c t P h1 h2 7 256 (by decide) _ r k)

theorem kg3_at (r k : Fin 128) : kg3 V c t (ix2 r k) = ((pooled P 3 (b0 t + r.val) k.val : ℝ) : EReal) :=
  pay291 (ku V c t) (fun n l => P n (1544 + l)) (b0 t) (ku_at V c t P h1) (kp t)
    (kp_at t) (kr3 V c t) r k fun j hj => by
      unfold kr3
      rw [dif_pos (by omega)]
      exact kr_at V c t P h1 h2 j 384 (by omega) _ r k

omit h1 h2

include h0 in
theorem kd_at (r : Fin 128) (l : Fin 512) : k0_pay51 (F := Ideal) (iblk V c 0 t) (ix2 r l) = ((Y (b0 t + r.val) (512 + l.val) : ℝ) : EReal) := by
  refine Eq.trans ?_ (h0 r l)
  generalize (iblk V c 0 t : FVec Ideal S128x1024 .bf16) = e
  pointwise [k0_pay51, k0_pay49]

include h12 in
theorem ks_at (l : Fin 512) : k0_pay277 (F := Ideal) (iblk V c 12 t) (ix2 0 l) = ((S l.val : ℝ) : EReal) := (pay277 _ l).trans (h12 l)

include h11 in
theorem kw_at (g : Fin 4) (inb : ∀ x : Fin 3, (![g.val, 0, 0] : Fin 3 → ℕ) x + (![1, 128, 128] : Fin 3 → ℕ) x ≤ S4x128x128.size x) (k l : Fin 128) :
    View.ld (Val := Elt Ideal) (e' := .bf16) (iblk V c 11 t : FVec Ideal S4x128x128 .bf16) (Rect.unit (s := S4x128x128) ![g.val, 0, 0] ![1, 128, 128] inb)
      (ix3 0 k l : S1x128x128.Idx) = ((W g.val k.val l.val : ℝ) : EReal) :=
  (lead_ld g inb (e := .bf16) (iblk V c 11 t : FVec Ideal S4x128x128 .bf16) k l).trans (h11 g k l)

/-- What a point adds to the group weights' gradient. -/
def upd (g k l : ℕ) : ℝ := ∑ r : Fin 128, dwRow Y P S g k l (b0 t + r.val)

section weights

variable (acc : FVec Ideal S1x128x128 .f32) (k l : Fin 128)

include h0 h1 h2 h12

theorem upd0 : k0_pay298 (F := Ideal) (k0_pay51 (iblk V c 0 t)) (k0_pay277 (iblk V c 12 t)) (kg0 V c t) acc (ix3 0 k l)
    = acc (ix3 0 k l) + ((upd t Y P S 0 k.val l.val : ℝ) : EReal) := by
  refine (pay298 (kg0 V c t) (k0_pay51 (iblk V c 0 t)) (k0_pay277 (iblk V c 12 t)) (fun r l => Y (b0 t + r.val) (512 + l.val)) (fun l => S l.val) (kd_at V c t Y h0) (ks_at V c t S h12)
    (fun r k => pooled P 0 (b0 t + r.val) k.val) (kg0_at V c t P h1 h2) acc k l).trans ?_
  refine congrArg (fun x : ℝ => acc (ix3 0 k l) + (x : EReal)) (Finset.sum_congr rfl fun r _ => ?_)
  unfold dwRow
  rw [Nat.zero_mul, Nat.zero_add]

theorem upd1 : k0_pay305 (F := Ideal) (kg1 V c t) (k0_pay295 (k0_pay51 (iblk V c 0 t)) (k0_pay277 (iblk V c 12 t))) acc (ix3 0 k l)
    = acc (ix3 0 k l) + ((upd t Y P S 1 k.val l.val : ℝ) : EReal) :=
  pay305 (kg1 V c t) (k0_pay51 (iblk V c 0 t)) (k0_pay277 (iblk V c 12 t)) (fun r l => Y (b0 t + r.val) (512 + l.val)) (fun l => S l.val) (kd_at V c t Y h0) (ks_at V c t S h12)
    (fun r k => pooled P 1 (b0 t + r.val) k.val) (kg1_at V c t P h1 h2) acc k l

theorem upd2 : k0_pay314 (F := Ideal) (kg2 V c t) (k0_pay295 (k0_pay51 (iblk V c 0 t)) (k0_pay277 (iblk V c 12 t))) acc (ix3 0 k l)
    = acc (ix3 0 k l) + ((upd t Y P S 2 k.val l.val : ℝ) : EReal) :=
  pay314 (kg2 V c t) (k0_pay51 (iblk V c 0 t)) (k0_pay277 (iblk V c 12 t)) (fun r l => Y (b0 t + r.val) (512 + l.val)) (fun l => S l.val) (kd_at V c t Y h0) (ks_at V c t S h12)
    (fun r k => pooled P 2 (b0 t + r.val) k.val) (kg2_at V c t P h1 h2) acc k l

theorem upd3 : k0_pay326 (F := Ideal) (kg3 V c t) (k0_pay295 (k0_pay51 (iblk V c 0 t)) (k0_pay277 (iblk V c 12 t))) acc (ix3 0 k l)
    = acc (ix3 0 k l) + ((upd t Y P S 3 k.val l.val : ℝ) : EReal) :=
  pay326 (kg3 V c t) (k0_pay51 (iblk V c 0 t)) (k0_pay277 (iblk V c 12 t)) (fun r l => Y (b0 t + r.val) (512 + l.val)) (fun l => S l.val) (kd_at V c t Y h0) (ks_at V c t S h12)
    (fun r k => pooled P 3 (b0 t + r.val) k.val) (kg3_at V c t P h1 h2) acc k l

end weights

section scale

variable (i0 : ∀ x : Fin 3, (![0, 0, 0] : Fin 3 → ℕ) x + (![1, 128, 128] : Fin 3 → ℕ) x ≤ S4x128x128.size x)
  (i1 : ∀ x : Fin 3, (![1, 0, 0] : Fin 3 → ℕ) x + (![1, 128, 128] : Fin 3 → ℕ) x ≤ S4x128x128.size x)
  (i2 : ∀ x : Fin 3, (![2, 0, 0] : Fin 3 → ℕ) x + (![1, 128, 128] : Fin 3 → ℕ) x ≤ S4x128x128.size x)
  (i3 : ∀ x : Fin 3, (![3, 0, 0] : Fin 3 → ℕ) x + (![1, 128, 128] : Fin 3 → ℕ) x ≤ S4x128x128.size x)

/-- A group's block of the weights. -/
def kw (g : ℕ) (i : ∀ x : Fin 3, (![g, 0, 0] : Fin 3 → ℕ) x + (![1, 128, 128] : Fin 3 → ℕ) x ≤ S4x128x128.size x) : FVec Ideal S1x128x128 .bf16 :=
  View.ld (Val := Elt Ideal) (e' := .bf16) (iblk V c 11 t : FVec Ideal S4x128x128 .bf16) (Rect.unit (s := S4x128x128) ![g, 0, 0] ![1, 128, 128] i)

def km0 : FVec Ideal S128x128 .f32 := k0_pay282 (ku V c t) (kb t) (iota .tc S128x1 32 [0] iota_S128x1_d0_w32)
  (kr V c t 16 0 inb_S144x512_S128x128_16_0) (kr V c t 15 0 inb_S144x512_S128x128_15_0) (kw V c t 0 i0)

def km1 : FVec Ideal S128x128 .f32 := k0_pay285 (ku V c t) (kb t) (iota .tc S128x1 32 [0] iota_S128x1_d0_w32)
  (kr V c t 16 128 inb_S144x512_S128x128_16_128) (kr V c t 15 128 inb_S144x512_S128x128_15_128)
  (kr V c t 14 128 inb_S144x512_S128x128_14_128) (kr V c t 13 128 inb_S144x512_S128x128_13_128) (kw V c t 1 i1)

def km2 : FVec Ideal S128x128 .f32 := k0_pay288 (ku V c t) (kp t)
  (kr V c t 16 256 inb_S144x512_S128x128_16_256) (kr V c t 15 256 inb_S144x512_S128x128_15_256)
  (kr V c t 14 256 inb_S144x512_S128x128_14_256) (kr V c t 13 256 inb_S144x512_S128x128_13_256)
  (kr V c t 12 256 inb_S144x512_S128x128_12_256) (kr V c t 11 256 inb_S144x512_S128x128_11_256)
  (kr V c t 10 256 inb_S144x512_S128x128_10_256) (kr V c t 9 256 inb_S144x512_S128x128_9_256) (kw V c t 2 i2)

def km3 : FVec Ideal S128x128 .bf16 := k0_pay292 (ku V c t) (kp t) (k0_pay289 (kr3 V c t 0) (kr3 V c t 1) (kr3 V c t 2) (kr3 V c t 3))
  (kr3 V c t 4) (kr3 V c t 5) (kr3 V c t 6) (kr3 V c t 7) (kr3 V c t 8) (kr3 V c t 9) (kr3 V c t 10) (kr3 V c t 11) (kr3 V c t 12)
  (kr3 V c t 13) (kr3 V c t 14) (kr3 V c t 15)

include h1 h2

theorem km3_at (r k : Fin 128) : km3 V c t (ix2 r k) = ((pooled P 3 (b0 t + r.val) k.val : ℝ) : EReal) := by
  have h := kg3_at V c t P h1 h2 r k
  unfold kg3 at h
  unfold km3
  pointwise [k0_pay292]
  exact h

/-- What a point adds to the scale's gradient. -/
def upds (l : ℕ) : ℝ := ∑ r : Fin 128, dsRow Y P W l (b0 t + r.val)

include h0 h11

theorem dsUpd (acc : FVec Ideal S1x512 .f32) (l : Fin 512) :
    k0_pay294 (F := Ideal) (k0_pay51 (iblk V c 0 t)) (km0 V c t i0) (km1 V c t i1) (km2 V c t i2) (km3 V c t) (k0_pay293 (kw V c t 3 i3)) acc (ix2 0 l)
      = acc (ix2 0 l) + ((upds t Y P W l.val : ℝ) : EReal) :=
  pay294 (k0_pay51 (iblk V c 0 t)) (fun g r l => mixed P W g (b0 t + r.val) l.val) (fun r l => Y (b0 t + r.val) (512 + l.val))
    _ _ _ _ _ (kd_at V c t Y h0)
    (fun r l => pay282 _ _ (kw_at V c t W h11 0 i0) _ _ _ _ _ _ (kg0_at V c t P h1 h2) r l)
    (fun r l => pay285 _ _ (kw_at V c t W h11 1 i1) _ _ _ _ _ _ _ _ (kg1_at V c t P h1 h2) r l)
    (fun r l => pay288 _ _ (kw_at V c t W h11 2 i2) _ _ _ _ _ _ _ _ _ _ _ (kg2_at V c t P h1 h2) r l)
    (fun r l => (Finset.sum_congr rfl fun k _ => (congrArg₂ (· * ·) (km3_at V c t P h1 h2 r k)
      (pay293 (kw V c t 3 i3) (fun k l => W 3 k.val l.val) (kw_at V c t W h11 3 i3) k l)).trans (EReal.coe_mul _ _).symm).trans (sum_coe _)) acc l

end scale

end tile

end Cert.Pool

end
-- ==== Proof.PoolStep.lean ====
/- The pooled branch's two accumulators after each point of the grid. -/
module

public import proofs.«01_k».proof.Proof.PoolTile
public import Idealize.ShloMosaic.Lib.Pipeline.ReadBack

@[expose] public section

set_option maxRecDepth 16384

noncomputable section

namespace Cert.Pool

open Idealize.ShloMosaic Idealize.ShloMosaic.TcCoe Idealize.SL.Sem Cert.Reals Cert.Kernel2Ideal Cert.Kernel2Ideal.Gen Cert.Ssd

/-- A value that starts at the first of 128 points and grows by one part at each further point. -/
theorem run_points {N : ℕ} (hN : N ≤ 128) (f : (n : ℕ) → n < N → EReal) (part : ℕ → ℝ)
    (h0 : ∀ n h, n % 128 = 0 → f n h = ((part n : ℝ) : EReal))
    (hs : ∀ n (h : n + 1 < N), ¬ (n + 1) % 128 = 0 → f (n + 1) h = f n (Nat.lt_of_succ_lt h) + ((part (n + 1) : ℝ) : EReal)) :
    ∀ n (h : n < N), f n h = ((∑ p ∈ Finset.range (n + 1), part p : ℝ) : EReal) := by
  intro n
  induction n with
  | zero => intro h; exact (h0 0 h rfl).trans (by simp)
  | succ n ih =>
    intro h
    rw [hs n h (by omega), ih, ← EReal.coe_add, ← Finset.sum_range_succ]

section steps

variable (V : (c : Dev nD) → (b : Ref sig .tc) → Buf (Elt Ideal) ((c : Thread nD τ).loc b)) (c : Dev nD)
  (Y P : ℕ → ℕ → ℝ) (W : ℕ → ℕ → ℕ → ℝ) (S : ℕ → ℝ)
  (h0 : ∀ (t : Fin cfg0.N) (r : Fin 128) (l : Fin 512), (iblk V c 0 t : FVec Ideal S128x1024 .bf16) (ix2 r ⟨512 + l.val, lt512 l⟩) = ((Y (b0 t + r.val) (512 + l.val) : ℝ) : EReal))
  (h1 : ∀ (t : Fin cfg0.N) (r : Fin 128) (l : Fin 512), (iblk V c 1 t : FVec Ideal S128x2048 .bf16) (ix2 r ⟨1536 + l.val, lt1536 l⟩) = ((P (b0 t + r.val) (1544 + l.val) : ℝ) : EReal))
  (h2 : ∀ (t : Fin cfg0.N), t.val < 127 → ∀ (r : Fin 16) (l : Fin 512), (iblk V c 2 t : FVec Ideal S16x2048 .bf16) (ix2 r ⟨1536 + l.val, lt1536 l⟩) = ((P (b0 t - 16 + r.val) (1544 + l.val) : ℝ) : EReal))
  (h11 : ∀ (t : Fin cfg0.N) (g : Fin 4) (k l : Fin 128), (iblk V c 11 t : FVec Ideal S4x128x128 .bf16) (ix3 g k l) = ((W g.val k.val l.val : ℝ) : EReal))
  (h12 : ∀ (t : Fin cfg0.N) (l : Fin 512), (iblk V c 12 t : FVec Ideal S1x512 .f32) (ix2 0 l) = ((S l.val : ℝ) : EReal))

include h0 h1 h2 h11

theorem stepB22 (t : Fin cfg0.N) (h : ¬ t.val % 128 = 0) (p : Outs (F := Ideal)) (l : Fin 512) :
    (outsB V c t h p).2.2.2.2.2.2.2.2.2.1 (ix2 0 l) = p.2.2.2.2.2.2.2.2.2.1 (ix2 0 l) + ((upds t Y P W l.val : ℝ) : EReal) := by
  dsimp only [outsB]
  dsimp only [runB, runB']
  frame_out
  refine (dsUpd V c t Y P W (h0 t) (h1 t) (h2 t) (h11 t) inb_S4x128x128_S1x128x128_0_0_0 inb_S4x128x128_S1x128x128_1_0_0 inb_S4x128x128_S1x128x128_2_0_0 inb_S4x128x128_S1x128x128_3_0_0 _ l).trans ?_
  rfl

theorem stepA22 (t : Fin cfg0.N) (h : t.val % 128 = 0) (l : Fin 512) :
    (outsA V c t h).2.2.2.2.2.2.2.2.2.1 (ix2 0 l) = ((upds t Y P W l.val : ℝ) : EReal) := by
  dsimp only [outsA]
  dsimp only [runA, runA']
  frame_out
  refine (dsUpd V c t Y P W (h0 t) (h1 t) (h2 t) (h11 t) inb_S4x128x128_S1x128x128_0_0_0 inb_S4x128x128_S1x128x128_1_0_0 inb_S4x128x128_S1x128x128_2_0_0 inb_S4x128x128_S1x128x128_3_0_0 _ l).trans ?_
  rw [show k0_pay11 (F := Ideal) (ix2 0 l) = 0 by pointwise [k0_pay11], zero_add]

omit h11

include h12

theorem stepB21 (t : Fin cfg0.N) (h : ¬ t.val % 128 = 0) (p : Outs (F := Ideal)) (g : Fin 4) (k l : Fin 128) :
    (outsB V c t h p).2.2.2.2.2.2.2.2.1 (ix3 g k l) = p.2.2.2.2.2.2.2.2.1 (ix3 g k l) + ((upd t Y P S g.val k.val l.val : ℝ) : EReal) := by
  dsimp only [outsB]
  dsimp only [runB, runB']
  frame_out
  refine (canon4 _ _ _ _ _ _ _ _ _ g k l (fun g => (if h : g < 4 then p.2.2.2.2.2.2.2.2.1 (ix3 ⟨g, h⟩ k l) else 0) + ((upd t Y P S g k.val l.val : ℝ) : EReal))
    ((upd0 V c t Y P S (h0 t) (h1 t) (h2 t) (h12 t) _ k l).trans (congrArg (· + _) (lead_ld (G := 4) 0 _ _ k l)))
    ((upd1 V c t Y P S (h0 t) (h1 t) (h2 t) (h12 t) _ k l).trans (congrArg (· + _) (lead_ld (G := 4) 1 _ _ k l)))
    ((upd2 V c t Y P S (h0 t) (h1 t) (h2 t) (h12 t) _ k l).trans (congrArg (· + _) (lead_ld (G := 4) 2 _ _ k l)))
    ((upd3 V c t Y P S (h0 t) (h1 t) (h2 t) (h12 t) _ k l).trans (congrArg (· + _) (lead_ld (G := 4) 3 _ _ k l)))).trans ?_
  rw [dif_pos g.isLt]

theorem stepA21 (t : Fin cfg0.N) (h : t.val % 128 = 0) (g : Fin 4) (k l : Fin 128) :
    (outsA V c t h).2.2.2.2.2.2.2.2.1 (ix3 g k l) = ((upd t Y P S g.val k.val l.val : ℝ) : EReal) := by
  have z : ∀ a : Fin 4, k0_pay10 (F := Ideal) (ix3 a k l) = 0 := fun a => by pointwise [k0_pay10]
  dsimp only [outsA]
  dsimp only [runA, runA']
  frame_out
  exact canon4 _ _ _ _ _ _ _ _ _ g k l (fun g => ((upd t Y P S g k.val l.val : ℝ) : EReal))
    ((upd0 V c t Y P S (h0 t) (h1 t) (h2 t) (h12 t) _ k l).trans ((congrArg (· + _)
      ((lead_read (G := 4) 0 _ _ _ k l).trans ((lead_fill _ _ 0 k l).trans (z 0)))).trans (zero_add _)))
    ((upd1 V c t Y P S (h0 t) (h1 t) (h2 t) (h12 t) _ k l).trans ((congrArg (· + _)
      ((lead_read (G := 4) 1 _ _ _ k l).trans ((lead_miss (G := 4) 0 _ _ _ 1 k l (by decide)).trans ((lead_fill _ _ 1 k l).trans (z 1))))).trans (zero_add _)))
    ((upd2 V c t Y P S (h0 t) (h1 t) (h2 t) (h12 t) _ k l).trans ((congrArg (· + _)
      ((lead_read (G := 4) 2 _ _ _ k l).trans ((lead_miss (G := 4) 1 _ _ _ 2 k l (by decide)).trans
        ((lead_miss (G := 4) 0 _ _ _ 2 k l (by decide)).trans ((lead_fill _ _ 2 k l).trans (z 2)))))).trans (zero_add _)))
    ((upd3 V c t Y P S (h0 t) (h1 t) (h2 t) (h12 t) _ k l).trans ((congrArg (· + _)
      ((lead_read (G := 4) 3 _ _ _ k l).trans ((lead_miss (G := 4) 2 _ _ _ 3 k l (by decide)).trans ((lead_miss (G := 4) 1 _ _ _ 3 k l (by decide)).trans
        ((lead_miss (G := 4) 0 _ _ _ 3 k l (by decide)).trans ((lead_fill _ _ 3 k l).trans (z 3))))))).trans (zero_add _)))

end steps

end Cert.Pool

end
-- ==== Proof.PoolEntry.lean ====
/- The blocks of the pooled branch's arguments that one grid point of the two branches' backward kernel takes. -/
module

public import proofs.«01_k».proof.Proof.SsdFrame
public import proofs.«01_k».proof.Proof.Reals
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Pool

open Idealize.ShloMosaic Idealize.ShloMosaic.TcCoe Idealize.SL.Sem Cert.Reals Cert.Kernel2Ideal Cert.Kernel2Ideal.Gen Cert.Ssd
open StableHlo

section entry

variable (m : (ℓ : Loc nD τ sig) → Buf (Elt Ideal) ℓ) (c : Dev nD)

/-- What the first stretch writes and nothing after it is unchanged where the region begins. -/
theorem first (r : Ref sig .tc) (hc : r ∉ condOps_W) (hb : ∀ W ∈ bodyW, r ∉ W) (h7 : r ∉ hostOps0_7_W)
    (hp : ∀ W ∈ [hostOps0_1_W, hostOps0_2_W, hostOps0_3_W, hostOps0_4_W, hostOps0_5_W, hostOps0_6_W], r ∉ W) :
    W9 m c (Proc.devRef .tc r) = after hostOps0 (W0 m c) (Proc.devRef .tc r) :=
  (W9_keep m c r hc hb h7).trans (afterL_keep (.cons hostOps0_1_writes <| .cons hostOps0_2_writes <| .cons hostOps0_3_writes <|
    .cons hostOps0_4_writes <| .cons hostOps0_5_writes <| .cons hostOps0_6_writes .nil) r hp (after hostOps0 (W0 m c)))

theorem a0 : W9 m c (Proc.devRef .tc main_v99) = (truncf .bf16 (m ((c : Thread nD τ).loc main_arg0) : FVec Ideal S16384x1024 .f32) bitsLt_bf16_f32 : FVec Ideal S16384x1024 .bf16) := by
  have h0 : W8 m c (Proc.devRef .tc main_arg0) = m ((c : Thread nD τ).loc main_arg0) :=
    (StableHlo.after_of_writes_sub condOps _ condOps_writes (cond_args main_arg0 (by decide +kernel))).trans
      ((Wk_keep m c main_arg0 (cond_args main_arg0 (by decide +kernel)) (body_args main_arg0 (by decide +kernel)) nT).trans
        (afterL_keep pre_writes main_arg0 (pre_args main_arg0 (by decide +kernel)) _))
  show after hostOps0_7 (W8 m c) (Proc.devRef .tc main_v99) = _
  rw [← h0]
  generalize W8 m c = Y
  after_reads_simp

/-- The two bands of the projection the kernel keeps, next to each other. -/
def band (x : FVec Ideal S16384x2056 .f32) : FVec Ideal S16384x2048 .bf16 :=
  truncf .bf16 (concatenate S16384x2048 1 [⟨S16384x1536, extractStridedSlice S16384x1536 ![0, 0] x slices_S16384x2056_S16384x1536_0_0⟩,
    ⟨S16384x512, extractStridedSlice S16384x512 ![0, 1544] x slices_S16384x2056_S16384x512_0_1544⟩] concatenates_S16384x1536_S16384x512_S16384x2048_d1) bitsLt_bf16_f32

theorem a1 : W9 m c (Proc.devRef .tc main_v3) = band (m ((c : Thread nD τ).loc main_arg1)) := by
  rw [first m c main_v3 (by decide +kernel) (by decide +kernel) (by decide +kernel) (by decide +kernel)]
  show _ = band (W0 m c (Proc.devRef .tc main_arg1))
  generalize W0 m c = Y
  after_reads_simp
  rfl

theorem a2 : W9 m c (Proc.devRef .tc main_v7) = band (m ((c : Thread nD τ).loc main_arg1)) := by
  rw [first m c main_v7 (by decide +kernel) (by decide +kernel) (by decide +kernel) (by decide +kernel)]
  show _ = band (W0 m c (Proc.devRef .tc main_arg1))
  generalize W0 m c = Y
  after_reads_simp
  rfl

theorem a11 : W9 m c (Proc.devRef .tc main_v22) = (truncf .bf16 (m ((c : Thread nD τ).loc main_arg8) : FVec Ideal S4x128x128 .f32) bitsLt_bf16_f32 : FVec Ideal S4x128x128 .bf16) := by
  rw [first m c main_v22 (by decide +kernel) (by decide +kernel) (by decide +kernel) (by decide +kernel)]
  show _ = (truncf .bf16 (W0 m c (Proc.devRef .tc main_arg8) : FVec Ideal S4x128x128 .f32) bitsLt_bf16_f32 : FVec Ideal S4x128x128 .bf16)
  generalize W0 m c = Y
  after_reads_simp

theorem a12 : W9 m c (Proc.devRef .tc main_v23) = (shapeCast S1x512 (m ((c : Thread nD τ).loc main_arg9) : FVec Ideal S512 .f32) shapeCasts_S512_S1x512 : FVec Ideal S1x512 .f32) := by
  rw [first m c main_v23 (by decide +kernel) (by decide +kernel) (by decide +kernel) (by decide +kernel)]
  show _ = (shapeCast S1x512 (W0 m c (Proc.devRef .tc main_arg9) : FVec Ideal S512 .f32) shapeCasts_S512_S1x512 : FVec Ideal S1x512 .f32)
  generalize W0 m c = Y
  after_reads_simp
  rfl

end entry

section blocks

variable (m : (ℓ : Loc nD τ sig) → Buf (Elt Ideal) ℓ) (c : Dev nD) (Y P : ℕ → ℕ → ℝ) (W : ℕ → ℕ → ℕ → ℝ) (S : ℕ → ℝ)
  (hY : ∀ (n : Fin 16384) (l : Fin 1024), (m ((c : Thread nD τ).loc main_arg0) : FVec Ideal S16384x1024 .f32) (ix2 n l) = ((Y n.val l.val : ℝ) : EReal))
  (hP : ∀ (n : Fin 16384) (l : Fin 2056), (m ((c : Thread nD τ).loc main_arg1) : FVec Ideal S16384x2056 .f32) (ix2 n l) = ((P n.val l.val : ℝ) : EReal))
  (hW : ∀ (g : Fin 4) (k l : Fin 128), (m ((c : Thread nD τ).loc main_arg8) : FVec Ideal S4x128x128 .f32) (ix3 g k l) = ((W g.val k.val l.val : ℝ) : EReal))
  (hS : ∀ l : Fin 512, (m ((c : Thread nD τ).loc main_arg9) : FVec Ideal S512 .f32) (ix1 l) = ((S l.val : ℝ) : EReal))

theorem idx : ∀ t : Fin cfg0.N, win0_0.index t = ![127 - t.val, 0] ∧ win0_1.index t = ![127 - t.val, 0]
    ∧ win0_2.index t = ![(127 - t.val) * 8 - 1, 0] ∧ win0_11.index t = ![0, 0, 0] ∧ win0_12.index t = ![0, 0]
    ∧ win0_21.index t = ![0, 0, 0] ∧ win0_22.index t = ![0, 0] :=
  (by decide +kernel : ∀ t : Fin grid0.N, _)

theorem band_at (x : FVec Ideal S16384x2056 .f32) (P : ℕ → ℕ → ℝ) (hx : ∀ (n : Fin 16384) (l : Fin 2056), x (ix2 n l) = ((P n.val l.val : ℝ) : EReal))
    (n : Fin 16384) (l : Fin 512) : band x (ix2 n ⟨1536 + l.val, by omega⟩) = ((P n.val (1544 + l.val) : ℝ) : EReal) := by
  have h := hx n ⟨1544 + l.val, by omega⟩
  pointwise [band]
  exact h

include hY in
theorem blk0 (t : Fin cfg0.N) (r : Fin 128) (l : Fin 512) : (iblk (V9 m) c 0 t : FVec Ideal S128x1024 .bf16) (ix2 r ⟨512 + l.val, by omega⟩)
    = ((Y ((127 - t.val) * 128 + r.val) (512 + l.val) : ℝ) : EReal) := by
  refine Eq.trans ?_ (hY ⟨(127 - t.val) * 128 + r.val, by omega⟩ ⟨512 + l.val, by omega⟩)
  have e : (V9 m c main_v99 : FVec Ideal S16384x1024 .bf16) = fun i => (m ((c : Thread nD τ).loc main_arg0) : FVec Ideal S16384x1024 .f32) i := by
    refine (a0 m c).trans ?_
    funext i
    rfl
  have e' : iblk (V9 m) c 0 t = ((cfg0.win 0).blk t).view.read (Elt Ideal) (V9 m c main_v99) := rfl
  rw [e', e]
  blk_ext [idx t]

include hP in
theorem blk1 (t : Fin cfg0.N) (r : Fin 128) (l : Fin 512) : (iblk (V9 m) c 1 t : FVec Ideal S128x2048 .bf16) (ix2 r ⟨1536 + l.val, by omega⟩)
    = ((P ((127 - t.val) * 128 + r.val) (1544 + l.val) : ℝ) : EReal) := by
  refine Eq.trans ?_ (band_at _ P hP ⟨(127 - t.val) * 128 + r.val, by omega⟩ l)
  have e' : iblk (V9 m) c 1 t = ((cfg0.win 1).blk t).view.read (Elt Ideal) (band (m ((c : Thread nD τ).loc main_arg1))) := by
    rw [← a1 m c]
    rfl
  rw [e']
  generalize band (m ((c : Thread nD τ).loc main_arg1)) = z
  blk_ext [idx t]

include hP in
theorem blk2 (t : Fin cfg0.N) (ht : t.val < 127) (r : Fin 16) (l : Fin 512) : (iblk (V9 m) c 2 t : FVec Ideal S16x2048 .bf16) (ix2 r ⟨1536 + l.val, by omega⟩)
    = ((P ((127 - t.val) * 128 - 16 + r.val) (1544 + l.val) : ℝ) : EReal) := by
  refine Eq.trans ?_ (band_at _ P hP ⟨(127 - t.val) * 128 - 16 + r.val, by omega⟩ l)
  have e' : iblk (V9 m) c 2 t = ((cfg0.win 2).blk t).view.read (Elt Ideal) (band (m ((c : Thread nD τ).loc main_arg1))) := by
    rw [← a2 m c]
    rfl
  rw [e']
  generalize band (m ((c : Thread nD τ).loc main_arg1)) = z
  blk_ext [idx t]

include hW in
theorem blk11 (t : Fin cfg0.N) (g : Fin 4) (k l : Fin 128) : (iblk (V9 m) c 11 t : FVec Ideal S4x128x128 .bf16) (ix3 g k l) = ((W g.val k.val l.val : ℝ) : EReal) := by
  refine Eq.trans ?_ (hW g k l)
  have e' : iblk (V9 m) c 11 t = ((cfg0.win 11).blk t).view.read (Elt Ideal) (truncf .bf16 (m ((c : Thread nD τ).loc main_arg8) : FVec Ideal S4x128x128 .f32) bitsLt_bf16_f32 : FVec Ideal S4x128x128 .bf16) := by
    rw [← a11 m c]
    rfl
  rw [e']
  blk_ext [idx t]

include hS in
theorem blk12 (t : Fin cfg0.N) (l : Fin 512) : (iblk (V9 m) c 12 t : FVec Ideal S1x512 .f32) (ix2 0 l) = ((S l.val : ℝ) : EReal) := by
  refine Eq.trans ?_ (hS l)
  have e' : iblk (V9 m) c 12 t = ((cfg0.win 12).blk t).view.read (Elt Ideal) (shapeCast S1x512 (m ((c : Thread nD τ).loc main_arg9) : FVec Ideal S512 .f32) shapeCasts_S512_S1x512 : FVec Ideal S1x512 .f32) := by
    rw [← a12 m c]
    rfl
  rw [e']
  have e'' : (shapeCast S1x512 (m ((c : Thread nD τ).loc main_arg9) : FVec Ideal S512 .f32) shapeCasts_S512_S1x512 : FVec Ideal S1x512 .f32) (ix2 0 l)
    = (m ((c : Thread nD τ).loc main_arg9) : FVec Ideal S512 .f32) (ix1 l) := by pointwise
  rw [← e'']
  blk_ext [idx t]

end blocks

end Cert.Pool

end
-- ==== Proof.PoolValue.lean ====
/- What the two branches' backward call leaves in the pooled branch's two parameter gradients, as functions of finite arguments. -/
module

public import proofs.«01_k».proof.Proof.PoolStep
public import proofs.«01_k».proof.Proof.PoolEntry

@[expose] public section

set_option maxRecDepth 16384

noncomputable section

namespace Cert.Pool

open Idealize.ShloMosaic Idealize.ShloMosaic.TcCoe Idealize.SL.Sem Cert.Reals Cert.Kernel2Ideal Cert.Kernel2Ideal.Gen Cert.Ssd

/-- The grid's points, which take the row blocks in reverse, cover every row once. -/
theorem sum_back (f : ℕ → ℝ) : (∑ p ∈ Finset.range 128, ∑ r : Fin 128, f ((127 - p) * 128 + r.val)) = ∑ n ∈ Finset.range 16384, f n := by
  refine (Finset.sum_range_reflect (fun p => ∑ r : Fin 128, f (p * 128 + r.val)) 128).trans ?_
  exact (sum_blocks 128 128 f).trans (Fin.sum_univ_eq_sum_range f (128 * 128))

section finals

variable (m : (ℓ : Loc nD τ sig) → Buf (Elt Ideal) ℓ) (c : Dev nD) (Y P : ℕ → ℕ → ℝ) (W : ℕ → ℕ → ℕ → ℝ) (S : ℕ → ℝ)
  (hY : ∀ (n : Fin 16384) (l : Fin 1024), (m ((c : Thread nD τ).loc main_arg0) : FVec Ideal S16384x1024 .f32) (ix2 n l) = ((Y n.val l.val : ℝ) : EReal))
  (hP : ∀ (n : Fin 16384) (l : Fin 2056), (m ((c : Thread nD τ).loc main_arg1) : FVec Ideal S16384x2056 .f32) (ix2 n l) = ((P n.val l.val : ℝ) : EReal))
  (hW : ∀ (g : Fin 4) (k l : Fin 128), (m ((c : Thread nD τ).loc main_arg8) : FVec Ideal S4x128x128 .f32) (ix3 g k l) = ((W g.val k.val l.val : ℝ) : EReal))
  (hS : ∀ l : Fin 512, (m ((c : Thread nD τ).loc main_arg9) : FVec Ideal S512 .f32) (ix1 l) = ((S l.val : ℝ) : EReal))

include hY hP

include hW in
theorem acc22 (l : Fin 512) (n : ℕ) (hn : n < cfg0.N) : (outsAt (V9 m) c n hn).2.2.2.2.2.2.2.2.2.1 (ix2 0 l)
    = ((∑ p ∈ Finset.range (n + 1), ∑ r : Fin 128, dsRow Y P W l.val ((127 - p) * 128 + r.val) : ℝ) : EReal) := by
  refine run_points (le_of_eq N_0) (fun n hn => (outsAt (V9 m) c n hn).2.2.2.2.2.2.2.2.2.1 (ix2 0 l))
    (fun p => ∑ r : Fin 128, dsRow Y P W l.val ((127 - p) * 128 + r.val)) (fun n h e => ?_) (fun n h e => ?_) n hn
  · beta_reduce
    rw [outsAt_A (V9 m) c ⟨n, h⟩ e]
    exact stepA22 (V9 m) c Y P W (blk0 m c Y hY) (blk1 m c P hP) (blk2 m c P hP) (blk11 m c W hW) ⟨n, h⟩ e l
  · beta_reduce
    rw [outsAt_B (V9 m) c ⟨n + 1, h⟩ e]
    exact stepB22 (V9 m) c Y P W (blk0 m c Y hY) (blk1 m c P hP) (blk2 m c P hP) (blk11 m c W hW) ⟨n + 1, h⟩ e _ l

include hS in
theorem acc21 (g : Fin 4) (k l : Fin 128) (n : ℕ) (hn : n < cfg0.N) : (outsAt (V9 m) c n hn).2.2.2.2.2.2.2.2.1 (ix3 g k l)
    = ((∑ p ∈ Finset.range (n + 1), ∑ r : Fin 128, dwRow Y P S g.val k.val l.val ((127 - p) * 128 + r.val) : ℝ) : EReal) := by
  refine run_points (le_of_eq N_0) (fun n hn => (outsAt (V9 m) c n hn).2.2.2.2.2.2.2.2.1 (ix3 g k l))
    (fun p => ∑ r : Fin 128, dwRow Y P S g.val k.val l.val ((127 - p) * 128 + r.val)) (fun n h e => ?_) (fun n h e => ?_) n hn
  · beta_reduce
    rw [outsAt_A (V9 m) c ⟨n, h⟩ e]
    exact stepA21 (V9 m) c Y P S (blk0 m c Y hY) (blk1 m c P hP) (blk2 m c P hP) (blk12 m c S hS) ⟨n, h⟩ e g k l
  · beta_reduce
    rw [outsAt_B (V9 m) c ⟨n + 1, h⟩ e]
    exact stepB21 (V9 m) c Y P S (blk0 m c Y hY) (blk1 m c P hP) (blk2 m c P hP) (blk12 m c S hS) ⟨n + 1, h⟩ e _ g k l

include hW in
/-- The scale's gradient. -/
theorem final22 : (dat (V9 m) c).arrAt 22 cfg0.N
    = fun i : S1x512.Idx => ((∑ n ∈ Finset.range 16384, dsRow Y P W (i 1).val n : ℝ) : EReal) := by
  refine (dat (V9 m) c).arrAt_eq_of_covers 22 _ (by decide +kernel) fun t hf y => ?_
  blk_simp
  have hy : y = (ix2 0 (y 1 : Fin 512) : S1x512.Idx) := by
    refine (eq_ix2 (y : S1x512.Idx)).trans ?_
    exact congrArg (fun a : Fin 1 => (ix2 a (y 1 : Fin 512) : S1x512.Idx)) (Subsingleton.elim _ _)
  have g1 : win0_22.index t 1 = 0 := congrFun (idx t).2.2.2.2.2.2 1
  have ht : t.val = 127 := by
    have := (flush0_22 t).mp hf
    have := t_lt t
    omega
  rw [g1, Nat.zero_mul, Nat.zero_add]
  refine (congrArg (outsAt (V9 m) c t.val t.isLt).2.2.2.2.2.2.2.2.2.1 hy).trans ((acc22 m c Y P W hY hP hW (y 1 : Fin 512) t.val t.isLt).trans ?_)
  rw [ht, sum_back]

include hS in
/-- The group weights' gradient. -/
theorem final21 : (dat (V9 m) c).arrAt 21 cfg0.N
    = fun i : S4x128x128.Idx => ((∑ n ∈ Finset.range 16384, dwRow Y P S (i 0).val (i 1).val (i 2).val n : ℝ) : EReal) := by
  refine (dat (V9 m) c).arrAt_eq_of_covers 21 _ (by decide +kernel) fun t hf y => ?_
  blk_simp
  have hy : y = (ix3 (y 0 : Fin 4) (y 1 : Fin 128) (y 2 : Fin 128) : S4x128x128.Idx) := eq_ix3 (y : S4x128x128.Idx)
  have e := (idx t).2.2.2.2.2.1
  have g0 : win0_21.index t 0 = 0 := congrFun e 0
  have g1 : win0_21.index t 1 = 0 := congrFun e 1
  have g2 : win0_21.index t 2 = 0 := congrFun e 2
  have ht : t.val = 127 := by
    have := (flush0_21 t).mp hf
    have := t_lt t
    omega
  rw [g0, g1, g2, Nat.zero_mul, Nat.zero_add, Nat.zero_add, Nat.zero_add]
  refine (congrArg (outsAt (V9 m) c t.val t.isLt).2.2.2.2.2.2.2.2.1 hy).trans
    ((acc21 m c Y P S hY hP hS (y 0 : Fin 4) (y 1 : Fin 128) (y 2 : Fin 128) t.val t.isLt).trans ?_)
  rw [ht, sum_back]

end finals

end Cert.Pool

end
-- ==== Proof.PoolRef.lean ====
/- The pooled branch's two parameter gradients, as the reference computes them. -/
module

public import proofs.«01_k».proof.Proof.PoolPay
public import proofs.«01_k».proof.Proof.Gen.Reference2Ideal.Read

@[expose] public section

set_option maxRecDepth 16384

noncomputable section

namespace Cert.PoolRef

open Idealize.ShloMosaic Cert.Reference2Ideal Cert.Reference2Ideal.Gen Cert.Reference2Ideal.Read Cert.Reals Cert.Pool

variable (y : FVec Ideal S16384x1024 .f32) (x : FVec Ideal S16384x2056 .f32) (w : FVec Ideal S4x128x128 .f32) (s : FVec Ideal S512 .f32)
  (Y P : ℕ → ℕ → ℝ) (W : ℕ → ℕ → ℕ → ℝ) (S : ℕ → ℝ)
  (hY : ∀ (n : Fin 16384) (l : Fin 1024), y (ix2 n l) = ((Y n.val l.val : ℝ) : EReal))
  (hP : ∀ (n : Fin 16384) (l : Fin 2056), x (ix2 n l) = ((P n.val l.val : ℝ) : EReal))
  (hW : ∀ (g : Fin 4) (k l : Fin 128), w (ix3 g k l) = ((W g.val k.val l.val : ℝ) : EReal))
  (hS : ∀ l : Fin 512, s (ix1 l) = ((S l.val : ℝ) : EReal))

include hP in
theorem v4 (n : Fin 16384) (g : Fin 4) (k : Fin 128) : val_main_v4 (F := Ideal) x (ix3 n g k) = ((P n.val (1544 + (g.val * 128 + k.val)) : ℝ) : EReal) := by
  have h := hP n ⟨1544 + (g.val * 128 + k.val), by omega⟩
  refine Eq.trans ?_ h
  pointwise [val_main_v4, val_main_v3]

include hP in
theorem v5 (n : Fin 16384) (g : Fin 4) (k : Fin 128) : val_main_v5 (F := Ideal) x (ix3 n g k)
    = ((∑ i ∈ Finset.range (n.val + 1), P i (1544 + (g.val * 128 + k.val)) : ℝ) : EReal) := by
  have h0 : ∀ i, val_main_call0_call0_v0 (F := Ideal) i = 0 := fun i => by pointwise [val_main_call0_call0_v0, val_main_call0_call0_cst]
  have key := running_sum (R := 16384) (P := 16383) rfl (val_main_v4 (F := Ideal) x) (fun n => P n (1544 + (g.val * 128 + k.val))) g k
    (fun n => v4 x P hP n g k) reduceWindows_S16384x4x128_S16384x4x128_w16384s1p16383_0_w1s1p0_0_w1s1p0_0 n
  refine Eq.trans ?_ key
  unfold val_main_v5
  generalize val_main_v4 (F := Ideal) x = u
  simp only [Host.reduceWindowAdd, h0]
  rfl

theorem v9 (n : Fin 16384) : val_main_v9 (F := Ideal) (ix1 n) = (((n.val : ℝ) + 1 : ℝ) : EReal) := by
  pointwise [val_main_v9, val_main_v8, val_main_v7, val_main_v6, val_main_c]
  have hn := n.isLt
  have e : IntOp.addi 1#32 (BitVec.ofNat 32 n.val) = BitVec.ofNat 32 (n.val + 1) := by
    refine BitVec.eq_of_toNat_eq ?_
    simp only [IntOp.addi, BitVec.toNat_add, BitVec.toNat_ofNat]
    omega
  rw [e]
  have t : (BitVec.ofNat 32 (n.val + 1)).toInt = ((n.val + 1 : ℕ) : ℤ) := by
    rw [BitVec.toInt_eq_toNat_of_lt (by rw [BitVec.toNat_ofNat]; omega), BitVec.toNat_ofNat, Nat.mod_eq_of_lt (by omega)]
  show (((BitVec.ofNat 32 (n.val + 1)).toInt : ℝ) : EReal) = _
  rw [t]
  push_cast
  rfl

/-- The window's mean minus the row, out of two running sums. -/
theorem group (f : ℕ → ℝ) (w n : ℕ) (hw : 0 < w) (a u d c : EReal) (B : ¬ n < w → EReal)
    (ha : a = ((∑ i ∈ Finset.range (n + 1), f i : ℝ) : EReal)) (hB : ∀ h, B h = ((∑ i ∈ Finset.range (n - w + 1), f i : ℝ) : EReal))
    (hu : u = ((f n : ℝ) : EReal)) (hd : d = (((n : ℝ) + 1 : ℝ) : EReal)) (hc : c = ((w : ℝ) : EReal)) :
    Ideal.div (a - if h : n < w then 0 else B h) (min d c) - u = ((pg f w n : ℝ) : EReal) := by
  have e : (if h : n < w then 0 else B h) = (((if w ≤ n then ∑ i ∈ Finset.range (n - w + 1), f i else 0 : ℝ)) : EReal) := by
    by_cases h : n < w
    · rw [dif_pos h, if_neg (by omega), EReal.coe_zero]
    · rw [dif_neg h, hB, if_pos (by omega)]
  rw [e, ha, ← EReal.coe_sub, win_eq f w n hw, hu, hd, hc, mean_sub _ _ _ _ (by positivity) (by exact_mod_cast hw)]
  rfl

section groups

variable (n : Fin 16384) (k : Fin 128)

include hP

theorem v23 : val_main_v23 (F := Ideal) x (ix2 n k) = ((pooled P 0 n.val k.val : ℝ) : EReal) := by
  have h4 := fun n => v4 x P hP n 0 k
  have h5 := fun n => v5 x P hP n 0 k
  pointwise [val_main_v23, val_main_v22, val_main_v21, val_main_v20, val_main_v19, val_main_v18, val_main_v17, val_main_v16, val_main_v15, val_main_v14, val_main_v13,
    val_main_v12, val_main_v11, val_main_v10, val_main_cst, val_main_cst_0]
  exact group _ 2 n.val (by decide) _ _ _ _ _ (h5 n) (fun _ => h5 _) (h4 n) (v9 n) cTwo

theorem v37 : val_main_v37 (F := Ideal) x (ix2 n k) = ((pooled P 1 n.val k.val : ℝ) : EReal) := by
  have h4 := fun n => v4 x P hP n 1 k
  have h5 := fun n => v5 x P hP n 1 k
  pointwise [val_main_v37, val_main_v36, val_main_v35, val_main_v34, val_main_v33, val_main_v32, val_main_v31, val_main_v30, val_main_v29, val_main_v28, val_main_v27,
    val_main_v26, val_main_v25, val_main_v24, val_main_cst_1, val_main_cst_2]
  exact group _ 4 n.val (by decide) _ _ _ _ _ (h5 n) (fun _ => h5 _) (h4 n) (v9 n) c4

theorem v51 : val_main_v51 (F := Ideal) x (ix2 n k) = ((pooled P 2 n.val k.val : ℝ) : EReal) := by
  have h4 := fun n => v4 x P hP n 2 k
  have h5 := fun n => v5 x P hP n 2 k
  pointwise [val_main_v51, val_main_v50, val_main_v49, val_main_v48, val_main_v47, val_main_v46, val_main_v45, val_main_v44, val_main_v43, val_main_v42, val_main_v41,
    val_main_v40, val_main_v39, val_main_v38, val_main_cst_3, val_main_cst_4]
  exact group _ 8 n.val (by decide) _ _ _ _ _ (h5 n) (fun _ => h5 _) (h4 n) (v9 n) c8

theorem v65 : val_main_v65 (F := Ideal) x (ix2 n k) = ((pooled P 3 n.val k.val : ℝ) : EReal) := by
  have h4 := fun n => v4 x P hP n 3 k
  have h5 := fun n => v5 x P hP n 3 k
  pointwise [val_main_v65, val_main_v64, val_main_v63, val_main_v62, val_main_v61, val_main_v60, val_main_v59, val_main_v58, val_main_v57, val_main_v56, val_main_v55,
    val_main_v54, val_main_v53, val_main_v52, val_main_cst_5, val_main_cst_6]
  exact group _ 16 n.val (by decide) _ _ _ _ _ (h5 n) (fun _ => h5 _) (h4 n) (v9 n) c16

theorem v70 (g : Fin 4) : val_main_v70 (F := Ideal) x (ix3 n g k) = ((pooled P g.val n.val k.val : ℝ) : EReal) := by
  have a0 := v23 x P hP n k
  have a1 := v37 x P hP n k
  have a2 := v51 x P hP n k
  have a3 := v65 x P hP n k
  fin_cases g <;> pointwise [val_main_v70, val_main_v66, val_main_v67, val_main_v68, val_main_v69]
  · exact a0
  · exact a1
  · exact a2
  · exact a3

end groups

include hP hW in
theorem v71 (n : Fin 16384) (g : Fin 4) (l : Fin 128) : val_main_v71 (F := Ideal) x w (ix3 g l n) = ((mixed P W g.val n.val l.val : ℝ) : EReal) := by
  have a := fun k => v70 x P hP n k g
  have b := fun k => hW g k l
  rw [val_main_v71_apply]
  refine Eq.trans (Finset.sum_congr rfl fun k _ => ?_) (sum_coe fun k : Fin 128 => pooled P g.val n.val k.val * W g.val k.val l.val)
  rw [mul_comm (pooled P g.val n.val k.val), EReal.coe_mul, ← a k, ← b k]
  refine congrArg₂ (· * ·) (congrArg w (funext fun i => ?_)) (congrArg (val_main_v70 (F := Ideal) x) (funext fun i => ?_)) <;> fin_cases i <;> rfl

include hP hW in
theorem v73 (n : Fin 16384) (l : Fin 512) : val_main_v73 (F := Ideal) x w (ix2 n l) = ((mixed P W (l.val / 128) n.val (l.val % 128) : ℝ) : EReal) := by
  have h := v71 x w P W hP hW n ⟨l.val / 128, by omega⟩ ⟨l.val % 128, Nat.mod_lt _ (by decide)⟩
  refine Eq.trans ?_ h
  pointwise [val_main_v73, val_main_v72]

include hY hP hW in
theorem v88 (l : Fin 512) : val_main_v88 (F := Ideal) y x w (ix2 0 l) = ((∑ n ∈ Finset.range 16384, dsRow Y P W l.val n : ℝ) : EReal) := by
  have h := fun n => v73 x w P W hP hW n l
  have hy := fun n : Fin 16384 => hY n ⟨512 + l.val, by omega⟩
  pointwise [val_main_v88, val_main_v83, val_main_v80, val_main_v79, val_main_v78, val_main_v77, val_main_cst_7, val_main_cst_8]
  rw [Fin.sum_univ_one, Finset.sum_range, ← sum_coe]
  refine Finset.sum_congr rfl fun n _ => ?_
  rw [h, hy, ← EReal.coe_mul, mul_comm]
  rfl

include hY hP hS in
theorem v87 (g : Fin 4) (k l : Fin 128) : val_main_v87 (F := Ideal) y x s (ix3 g k l) = ((∑ n ∈ Finset.range 16384, dwRow Y P S g.val k.val l.val n : ℝ) : EReal) := by
  have h := fun n => v70 x P hP n k g
  have hy := fun n : Fin 16384 => hY n ⟨512 + (g.val * 128 + l.val), by omega⟩
  have hs := hS ⟨g.val * 128 + l.val, by omega⟩
  have e : val_main_v87 (F := Ideal) y x s (ix3 g k l) = val_main_v86 (F := Ideal) y x s (ix3 g l k) := by
    pointwise [val_main_v87]
  rw [e, val_main_v86_apply]
  pointwise [val_main_v85, val_main_v84, val_main_v82, val_main_v81, val_main_v77, val_main_v74]
  rw [Finset.sum_range, ← sum_coe]
  refine Finset.sum_congr rfl fun n _ => ?_
  rw [hy, hs, ← EReal.coe_mul, mul_comm]
  unfold dwRow
  rw [EReal.coe_mul (pooled P g.val n.val k.val), ← h n]
  refine congrArg (· * _) (congrArg (val_main_v70 (F := Ideal) x) (funext fun i => ?_))
  fin_cases i <;> rfl

include hY hP hS in
theorem dpw_eq : val_main_v87 (F := Ideal) y x s = fun i : S4x128x128.Idx => ((∑ n ∈ Finset.range 16384, dwRow Y P S (i 0).val (i 1).val (i 2).val n : ℝ) : EReal) := by
  funext i
  exact (congrArg (val_main_v87 (F := Ideal) y x s) (eq_ix3 i)).trans (v87 y x s Y P S hY hP hS (i 0 : Fin 4) (i 1 : Fin 128) (i 2 : Fin 128))

include hY hP hW in
theorem dps_eq : val_main_v88 (F := Ideal) y x w = fun i : S1x512.Idx => ((∑ n ∈ Finset.range 16384, dsRow Y P W (i 1).val n : ℝ) : EReal) := by
  funext i
  have e : i = (ix2 0 (i 1 : Fin 512) : S1x512.Idx) :=
    (eq_ix2 i).trans (congrArg (fun a : Fin 1 => (ix2 a (i 1 : Fin 512) : S1x512.Idx)) (Subsingleton.elim _ _))
  exact (congrArg (val_main_v88 (F := Ideal) y x w) e).trans (v88 y x w Y P W hY hP hW (i 1 : Fin 512))

end Cert.PoolRef

end
-- ==== Proof.PoolClaim.lean ====
/- The two branches' backward call gives the pooled branch's two parameter gradients as the reference does, at finite arguments. -/
module

public import proofs.«01_k».proof.Defs
public import proofs.«01_k».proof.Proof.SsdClaim
public import proofs.«01_k».proof.Proof.PoolValue
public import proofs.«01_k».proof.Proof.PoolRef
public import proofs.«01_k».proof.Proof.Gen.Pre_ssd_pool_finite
public import Idealize.ShloMosaic.Lib.Claim
public import Idealize.ShloMosaic.Lib.Quiescent

@[expose] public section

set_option maxRecDepth 16384

noncomputable section

namespace Cert.PoolClaim

open Idealize.ShloMosaic Idealize.ShloMosaic.TcCoe Idealize.SL.Sem

/-- An array of reals over two axes, read at natural numbers. -/
theorem nat2 {A N : ℕ} (x : FVec Ideal ⟨2, ![A, N]⟩ .f32) (X : (⟨2, ![A, N]⟩ : Shape).Idx → ℝ) (hX : ∀ i, x i = ((X i : ℝ) : EReal)) :
    ∃ Y : ℕ → ℕ → ℝ, ∀ (a : Fin A) (n : Fin N), x (ix2 a n) = ((Y a.val n.val : ℝ) : EReal) := by
  refine ⟨fun a n => if h : a < A ∧ n < N then X (ix2 ⟨a, h.1⟩ ⟨n, h.2⟩) else 0, fun a n => ?_⟩
  have h : (if h : a.val < A ∧ n.val < N then X (ix2 ⟨a.val, h.1⟩ ⟨n.val, h.2⟩) else 0) = X (ix2 a n) := dif_pos ⟨a.isLt, n.isLt⟩
  exact (hX _).trans (congrArg (fun x : ℝ => (x : EReal)) h.symm)

/-- The same over three axes. -/
theorem nat3 {A B N : ℕ} (x : FVec Ideal ⟨3, ![A, B, N]⟩ .f32) (X : (⟨3, ![A, B, N]⟩ : Shape).Idx → ℝ) (hX : ∀ i, x i = ((X i : ℝ) : EReal)) :
    ∃ Y : ℕ → ℕ → ℕ → ℝ, ∀ (a : Fin A) (b : Fin B) (n : Fin N), x (ix3 a b n) = ((Y a.val b.val n.val : ℝ) : EReal) := by
  refine ⟨fun a b n => if h : a < A ∧ b < B ∧ n < N then X (ix3 ⟨a, h.1⟩ ⟨b, h.2.1⟩ ⟨n, h.2.2⟩) else 0, fun a b n => ?_⟩
  have h : (if h : a.val < A ∧ b.val < B ∧ n.val < N then X (ix3 ⟨a.val, h.1⟩ ⟨b.val, h.2.1⟩ ⟨n.val, h.2.2⟩) else 0) = X (ix3 a b n) :=
    dif_pos ⟨a.isLt, b.isLt, n.isLt⟩
  exact (hX _).trans (congrArg (fun x : ℝ => (x : EReal)) h.symm)

open Cert.Kernel2Ideal in
/-- Finite arguments of the call are arrays of reals. -/
theorem pool_reals (y : FVec Ideal S16384x1024 .f32) (x : FVec Ideal S16384x2056 .f32) (a2 : FVec Ideal S4x1024 .f32) (a3 : FVec Ideal S1024 .f32)
    (a4 a5 a6 : FVec Ideal S8 .f32) (a7 : FVec Ideal S512 .f32) (w : FVec Ideal S4x128x128 .f32) (s : FVec Ideal S512 .f32)
    (hp : Cert.Pre_ssd_pool_finite.fn (F := Ideal) y x a2 a3 a4 a5 a6 a7 w s = fun _ => 1#1) :
    ∃ (Y P : ℕ → ℕ → ℝ) (W : ℕ → ℕ → ℕ → ℝ) (S : ℕ → ℝ),
      (∀ (n : Fin 16384) (l : Fin 1024), y (ix2 n l) = ((Y n.val l.val : ℝ) : EReal))
      ∧ (∀ (n : Fin 16384) (l : Fin 2056), x (ix2 n l) = ((P n.val l.val : ℝ) : EReal))
      ∧ (∀ (g : Fin 4) (k l : Fin 128), w (ix3 g k l) = ((W g.val k.val l.val : ℝ) : EReal))
      ∧ ∀ l : Fin 512, s (ix1 l) = ((S l.val : ℝ) : EReal) := by
  have h0 := congrFun hp (fun a => a.elim0)
  dsimp only [Cert.Pre_ssd_pool_finite.fn, Cert.Pre_ssd_pool_finite.fn_part1] at h0
  obtain ⟨h1, h4⟩ := IntOp.andi_eq_one.mp h0
  obtain ⟨h1, h3⟩ := IntOp.andi_eq_one.mp h1
  obtain ⟨h1, h2⟩ := IntOp.andi_eq_one.mp h1
  obtain ⟨X1, hX1⟩ := Cert.Reals.reals_of_finite y _ _ _ _ _ _ h1
  obtain ⟨X2, hX2⟩ := Cert.Reals.reals_of_finite x _ _ _ _ _ _ h2
  obtain ⟨X3, hX3⟩ := Cert.Reals.reals_of_finite w _ _ _ _ _ _ h3
  obtain ⟨X4, hX4⟩ := Cert.Reals.reals_of_finite s _ _ _ _ _ _ h4
  obtain ⟨Y, hY⟩ := nat2 y X1 hX1
  obtain ⟨P, hP⟩ := nat2 x X2 hX2
  obtain ⟨W, hW⟩ := nat3 w X3 hX3
  refine ⟨Y, P, W, fun n => if h : n < 512 then X4 (ix1 ⟨n, h⟩) else 0, hY, hP, hW, fun n => ?_⟩
  have e : (if h : n.val < 512 then X4 (ix1 ⟨n.val, h⟩) else 0) = X4 (ix1 n) := dif_pos n.isLt
  exact (hX4 _).trans (congrArg (fun x : ℝ => (x : EReal)) e.symm)

theorem frame_reference : Cert.quiescent_Reference2Ideal := fun m g _ =>
  (θ_run (Cert.Reference2Ideal.defs (F := Ideal)) _ _).mono
    (fun r h => ⟨fun c => (h c).2.2, sem_eq_zero_of_no_sems (by decide) r.2⟩)
    (Cert.Reference2Ideal.Value.run m g)

set_option maxHeartbeats 4000000 in
theorem algebraic : Cert.algebraic_Kernel2Ideal_Reference2Ideal_pre_ssd_pool_finite := by
  intro m g m' g' hpre hagree
  refine ⟨fun c => (Cert.Ssd.dat (Cert.Ssd.V9 m) c).arrAt 21 Cert.Kernel2Ideal.cfg0.N,
    fun c => (Cert.Ssd.dat (Cert.Ssd.V9 m) c).arrAt 22 Cert.Kernel2Ideal.cfg0.N, ?_, ?_⟩
  · exact (θ_run (Cert.Kernel2Ideal.defs (F := Ideal)) _ _).mono
      (fun _ h c => ⟨(h.1 c).1 21, (h.1 c).1 22, Cert.SsdClaim.each (h.1 c).2⟩) (Cert.Ssd.run_arrays (F := Ideal) m g)
  refine (θ_run (Cert.Reference2Ideal.defs (F := Ideal)) _ _).mono (fun r h c => ?_) (Cert.Reference2Ideal.Value.run m' g')
  obtain ⟨Y, P, W, S, hY, hP, hW, hS⟩ := pool_reals _ _ _ _ _ _ _ _ _ _ (hpre c)
  obtain ⟨h0, h1, a⟩ := h c
  obtain ⟨e0, e1, -, -, -, -, -, -, e8, e9⟩ := hagree c
  have q0 := Cert.Reference2Ideal.Read.val_main_v87_eq m' c
  have q1 := Cert.Reference2Ideal.Read.val_main_v88_eq m' c
  rw [e0, e1, e9] at q0
  rw [e0, e1, e8] at q1
  exact ⟨h0.trans (q0.trans ((Cert.PoolRef.dpw_eq _ _ _ Y P S hY hP hS).trans (Cert.Pool.final21 m c Y P S hY hP hS).symm)),
    h1.trans (q1.trans ((Cert.PoolRef.dps_eq _ _ _ Y P W hY hP hW).trans (Cert.Pool.final22 m c Y P W hY hP hW).symm)), a⟩

end Cert.PoolClaim

end
-- ==== Proof.PleValue.lean ====
/- What the gated embedding's backward call leaves in its four results, as functions of finite arguments. -/
module

public import proofs.«01_k».proof.Proof.Reals
public import proofs.«01_k».proof.Proof.Gen.Kernel3Ideal.Value
public import Idealize.ShloMosaic.Lib.Pointwise
public import Idealize.ShloMosaic.Lib.Pipeline.ValueKit
public import Idealize.ShloMosaic.Lib.Claim

@[expose] public section

set_option maxRecDepth 16384

noncomputable section

namespace Cert.PleValue

open Idealize.ShloMosaic Idealize.ShloMosaic.TcCoe Idealize.SL.Sem Cert.Kernel3Ideal Cert.Kernel3Ideal.Gen Cert.Reals

/-- The normalised row times the gain. -/
def hn (x G : Fin 1024 → ℝ) (l : Fin 1024) : ℝ := x l * rinv x * G l

/-- The gate of a row. -/
def gate (x G : Fin 1024 → ℝ) (Wg : Fin 1024 → Fin 1024 → ℝ) (l : Fin 1024) : ℝ :=
  1 / (1 + Real.exp (-∑ k, hn x G k * Wg k l))

/-- The projected embedding of a row. -/
def emb (p : Fin 256 → ℝ) (Wp : Fin 256 → Fin 1024 → ℝ) (l : Fin 1024) : ℝ := ∑ k, p k * Wp k l

/-- The cotangent of the gate's argument. -/
def dpre (d x G : Fin 1024 → ℝ) (p : Fin 256 → ℝ) (Wg : Fin 1024 → Fin 1024 → ℝ) (Wp : Fin 256 → Fin 1024 → ℝ) (l : Fin 1024) : ℝ :=
  d l * emb p Wp l * gate x G Wg l * (1 - gate x G Wg l)

/-- The cotangent of the normalised row times the gain. -/
def dhn (d x G : Fin 1024 → ℝ) (p : Fin 256 → ℝ) (Wg : Fin 1024 → Fin 1024 → ℝ) (Wp : Fin 256 → Fin 1024 → ℝ) (l : Fin 1024) : ℝ :=
  ∑ k, dpre d x G p Wg Wp k * Wg l k

section payloads

variable (d h : FVec Ideal S512x1024 .f32) (p : FVec Ideal S1x512x256 .f32) (g : FVec Ideal S1x1024 .f32)
  (wg : FVec Ideal S1024x1024 .bf16) (wp : FVec Ideal S256x1024 .bf16)
  (D X : Fin 512 → Fin 1024 → ℝ) (P : Fin 512 → Fin 256 → ℝ) (G : Fin 1024 → ℝ) (Wg : Fin 1024 → Fin 1024 → ℝ) (Wp : Fin 256 → Fin 1024 → ℝ)
  (hD : ∀ r l, d (ix2 r l) = ((D r l : ℝ) : EReal)) (hX : ∀ r l, h (ix2 r l) = ((X r l : ℝ) : EReal))
  (hP : ∀ r l, p (ix3 0 r l) = ((P r l : ℝ) : EReal)) (hG : ∀ l, g (ix2 0 l) = ((G l : ℝ) : EReal))
  (hWg : ∀ k l, wg (ix2 k l) = ((Wg k l : ℝ) : EReal)) (hWp : ∀ k l, wp (ix2 k l) = ((Wp k l : ℝ) : EReal))

include hX in
theorem pay7 (r : Fin 512) : k0_pay7 (F := Ideal) h (ix2 r 0) = ((rinv (X r) : ℝ) : EReal) := by
  pointwise [k0_pay7]
  simp only [hX, c1024, cEps, rsqrt_row]

include hX in
theorem pay8 (r : Fin 512) (l : Fin 1024) : k0_pay8 (F := Ideal) h (ix2 r l) = ((X r l * rinv (X r) : ℝ) : EReal) := by
  have h7 := pay7 h X hX r
  pointwise [k0_pay8]
  rw [h7, hX, EReal.coe_mul]

include hX hG in
theorem pay9 (r : Fin 512) (l : Fin 1024) : k0_pay9 (F := Ideal) g h (ix2 r l) = ((hn (X r) G l : ℝ) : EReal) := by
  have h8 := pay8 h X hX r l
  pointwise [k0_pay9, k0_pay6]
  rw [h8, hG, ← EReal.coe_mul]
  rfl

include hX hG hWg in
theorem pay10 (r : Fin 512) (l : Fin 1024) : k0_pay10 (F := Ideal) g h wg (ix2 r l) = ((gate (X r) G Wg l : ℝ) : EReal) := by
  have h9 := pay9 h g X G hX hG
  pointwise [k0_pay10]
  simp only [h9, hWg, cOne, ← EReal.coe_mul, sum_coe, zero_sub, logistic_real]
  rfl

include hD hX hP hG hWg hWp in
theorem pay13 (r : Fin 512) (l : Fin 1024) : k0_pay13 (F := Ideal) d (k0_pay10 g h wg) (k0_pay11 p) (k0_pay12 wp) (constant S512x1024 .f32 0x00000000#32) (ix2 r l)
    = ((dpre (D r) (X r) G (P r) Wg Wp l : ℝ) : EReal) := by
  have h10 := pay10 h g wg X G Wg hX hG hWg
  pointwise [k0_pay13, k0_pay11, k0_pay12]
  simp only [h10, hD, hP, hWp, cOne, ← EReal.coe_mul, ← EReal.coe_sub, ← EReal.coe_one, sum_coe]
  rfl

include hD hX hP hG hWg hWp in
theorem pay16 (r : Fin 512) (l : Fin 1024) : k0_pay16 (F := Ideal) d (k0_pay10 g h wg) (k0_pay11 p) (k0_pay12 wp) (constant S512x1024 .f32 0x00000000#32) wg (ix2 r l)
    = ((dhn (D r) (X r) G (P r) Wg Wp l : ℝ) : EReal) := by
  have h13 := pay13 d h p g wg wp D X P G Wg Wp hD hX hP hG hWg hWp
  pointwise [k0_pay16]
  simp only [h13, hWg, ← EReal.coe_mul, sum_coe]
  rfl

include hD hX hP hG hWg hWp in
/-- The rows' gradients. -/
theorem pay2 (r : Fin 512) (l : Fin 1024) :
    k0_pay2 (F := Ideal) d (k0_pay17 (k0_pay6 g) d (k0_pay7 h) (k0_pay8 h) (k0_pay10 g h wg) (k0_pay11 p) (k0_pay12 wp) (constant S512x1024 .f32 0x00000000#32) wg) (ix2 r l)
      = ((D r l + rmsGrad (X r) (fun l => dhn (D r) (X r) G (P r) Wg Wp l * G l) l : ℝ) : EReal) := by
  have h7 := pay7 h X hX
  have h8 := pay8 h X hX
  have h16 := pay16 d h p g wg wp D X P G Wg Wp hD hX hP hG hWg hWp
  pointwise [k0_pay2, k0_pay17, k0_pay6]
  simp only [h7, h8, h16, hG, hD, c1024, ← EReal.coe_mul, sum_coe, div_real _ _ (by norm_num : (1024 : ℝ) ≠ 0), ← EReal.coe_sub, ← EReal.coe_add]
  rfl

include hD hX hP hG hWg hWp in
theorem pay1 (acc : FVec Ideal S1x1024 .f32) (l : Fin 1024) :
    k0_pay1 (F := Ideal) (k0_pay18 d (k0_pay8 h) (k0_pay10 g h wg) (k0_pay11 p) (k0_pay12 wp) (constant S512x1024 .f32 0x00000000#32) wg) (k0_pay19 acc) (ix2 0 l)
      = acc (ix2 0 l) + ((∑ r : Fin 512, dhn (D r) (X r) G (P r) Wg Wp l * (X r l * rinv (X r)) : ℝ) : EReal) := by
  have h8 := pay8 h X hX
  have h16 := pay16 d h p g wg wp D X P G Wg Wp hD hX hP hG hWg hWp
  pointwise [k0_pay1, k0_pay18, k0_pay19]
  simp only [h8, h16, ← EReal.coe_mul, sum_coe]

include hD hX hP hG hWg in
theorem pay14 (acc : FVec Ideal S256x1024 .f32) (k : Fin 256) (l : Fin 1024) :
    k0_pay14 (F := Ideal) d (k0_pay10 g h wg) (k0_pay11 p) acc (ix2 k l)
      = acc (ix2 k l) + ((∑ r : Fin 512, P r k * (D r l * gate (X r) G Wg l) : ℝ) : EReal) := by
  have h10 := pay10 h g wg X G Wg hX hG hWg
  pointwise [k0_pay14, k0_pay11]
  simp only [h10, hD, hP, ← EReal.coe_mul, sum_coe]

include hD hX hP hG hWg hWp in
theorem pay15 (acc : FVec Ideal S1024x1024 .f32) (k : Fin 1024) (l : Fin 1024) :
    k0_pay15 (F := Ideal) d (k0_pay9 g h) (k0_pay10 g h wg) (k0_pay11 p) (k0_pay12 wp) (constant S512x1024 .f32 0x00000000#32) acc (ix2 k l)
      = acc (ix2 k l) + ((∑ r : Fin 512, hn (X r) G k * dpre (D r) (X r) G (P r) Wg Wp l : ℝ) : EReal) := by
  have h9 := pay9 h g X G hX hG
  have h13 := pay13 d h p g wg wp D X P G Wg Wp hD hX hP hG hWg hWp
  pointwise [k0_pay15]
  simp only [h9, h13, ← EReal.coe_mul, sum_coe]

theorem pay3 (k l : Fin 1024) : k0_pay3 (F := Ideal) (ix2 k l) = (0 : EReal) := by
  pointwise [k0_pay3]

theorem pay4 (k : Fin 256) (l : Fin 1024) : k0_pay4 (F := Ideal) (ix2 k l) = (0 : EReal) := by
  pointwise [k0_pay4]

theorem pay5 (l : Fin 1024) : k0_pay5 (F := Ideal) (ix2 0 l) = (0 : EReal) := by
  pointwise [k0_pay5]

end payloads

/-! ## The results -/

section results

variable (m : (ℓ : Loc nD τ sig) → Buf (Elt Ideal) ℓ) (c : Dev nD)
  (D X : ℕ → Fin 1024 → ℝ) (P : ℕ → Fin 256 → ℝ) (G : Fin 1024 → ℝ) (Wg : Fin 1024 → Fin 1024 → ℝ) (Wp : Fin 256 → Fin 1024 → ℝ)
  (hD : ∀ (r : Fin 16384) l, (m ((c : Thread nD τ).loc main_arg0) : FVec Ideal S16384x1024 .f32) (ix2 r l) = ((D r.val l : ℝ) : EReal))
  (hX : ∀ (r : Fin 16384) l, (m ((c : Thread nD τ).loc main_arg1) : FVec Ideal S16384x1024 .f32) (ix2 r l) = ((X r.val l : ℝ) : EReal))
  (hP : ∀ (r : Fin 16384) l, (m ((c : Thread nD τ).loc main_arg2) : FVec Ideal S4x16384x256 .f32) (ix3 3 r l) = ((P r.val l : ℝ) : EReal))
  (hG : ∀ l, (m ((c : Thread nD τ).loc main_arg3) : FVec Ideal S1024 .f32) (ix1 l) = ((G l : ℝ) : EReal))
  (hWg : ∀ k l, (m ((c : Thread nD τ).loc main_arg4) : FVec Ideal S1024x1024 .f32) (ix2 k l) = ((Wg k l : ℝ) : EReal))
  (hWp : ∀ k l, (m ((c : Thread nD τ).loc main_arg5) : FVec Ideal S256x1024 .f32) (ix2 k l) = ((Wp k l : ℝ) : EReal))

theorem idx : ∀ t : Fin cfg0.N, win0_0.index t = ![t.val, 0] ∧ win0_1.index t = ![t.val, 0] ∧ win0_2.index t = ![3, t.val, 0]
    ∧ win0_3.index t = ![0, 0] ∧ win0_4.index t = ![0, 0] ∧ win0_5.index t = ![0, 0]
    ∧ win0_6.index t = ![t.val, 0] ∧ win0_7.index t = ![0, 0] ∧ win0_8.index t = ![0, 0] ∧ win0_9.index t = ![0, 0] :=
  (by decide +kernel : ∀ t : Fin grid0.N, _)

theorem lt32 (t : Fin cfg0.N) : t.val < 32 := lt_of_lt_of_eq t.isLt N_0

include hD in
theorem blk0 (t : Fin cfg0.N) (r : Fin 512) (l : Fin 1024) :
    (iblk m c 0 t : FVec Ideal S512x1024 .f32) (ix2 r l) = ((D (t.val * 512 + r.val) l : ℝ) : EReal) := by
  have := lt32 t
  refine Eq.trans ?_ (hD ⟨t.val * 512 + r.val, by omega⟩ l)
  blk_ext [iblk, V, idx t]

include hX in
theorem blk1 (t : Fin cfg0.N) (r : Fin 512) (l : Fin 1024) :
    (iblk m c 1 t : FVec Ideal S512x1024 .f32) (ix2 r l) = ((X (t.val * 512 + r.val) l : ℝ) : EReal) := by
  have := lt32 t
  refine Eq.trans ?_ (hX ⟨t.val * 512 + r.val, by omega⟩ l)
  blk_ext [iblk, V, idx t]

include hP in
theorem blk2 (t : Fin cfg0.N) (r : Fin 512) (l : Fin 256) :
    (iblk m c 2 t : FVec Ideal S1x512x256 .f32) (ix3 0 r l) = ((P (t.val * 512 + r.val) l : ℝ) : EReal) := by
  have := lt32 t
  refine Eq.trans ?_ (hP ⟨t.val * 512 + r.val, by omega⟩ l)
  blk_ext [iblk, V, idx t]

include hG in
theorem blk3 (t : Fin cfg0.N) (l : Fin 1024) : (iblk m c 3 t : FVec Ideal S1x1024 .f32) (ix2 0 l) = ((G l : ℝ) : EReal) := by
  refine Eq.trans ?_ (hG l)
  blk_simp [iblk, idx t]
  entry_read
  pointwise
  blk_ext [idx t]

include hWg in
theorem blk4 (t : Fin cfg0.N) (k l : Fin 1024) : (iblk m c 4 t : FVec Ideal S1024x1024 .bf16) (ix2 k l) = ((Wg k l : ℝ) : EReal) := by
  refine Eq.trans ?_ (hWg k l)
  blk_simp [iblk, idx t]
  entry_read
  pointwise
  blk_ext [idx t]

include hWp in
theorem blk5 (t : Fin cfg0.N) (k : Fin 256) (l : Fin 1024) : (iblk m c 5 t : FVec Ideal S256x1024 .bf16) (ix2 k l) = ((Wp k l : ℝ) : EReal) := by
  refine Eq.trans ?_ (hWp k l)
  blk_simp [iblk, idx t]
  entry_read
  pointwise
  blk_ext [idx t]

/-- Row `n`'s gradient. -/
def dh (n : ℕ) (l : Fin 1024) : ℝ := D n l + rmsGrad (X n) (fun l => dhn (D n) (X n) G (P n) Wg Wp l * G l) l

/-- Row `n`'s part of the gain's gradient. -/
def gpart (l : Fin 1024) (n : ℕ) : ℝ := dhn (D n) (X n) G (P n) Wg Wp l * (X n l * rinv (X n))

/-- Row `n`'s part of the projection's gradient. -/
def ppart (k : Fin 256) (l : Fin 1024) (n : ℕ) : ℝ := P n k * (D n l * gate (X n) G Wg l)

/-- Row `n`'s part of the gate weight's gradient. -/
def wpart (k l : Fin 1024) (n : ℕ) : ℝ := hn (X n) G k * dpre (D n) (X n) G (P n) Wg Wp l

include hD hX hP hG hWg hWp in
theorem out6 (t : Fin cfg0.N) (y : S512x1024.Idx) :
    (outsAt0 m c t.val t.isLt).1 y = ((dh D X P G Wg Wp (t.val * 512 + (y 0).val) (y 1) : ℝ) : EReal) := by
  have key := pay2 (iblk m c 0 t) (iblk m c 1 t) (iblk m c 2 t) (iblk m c 3 t) (iblk m c 4 t) (iblk m c 5 t)
    (fun r => D (t.val * 512 + r.val)) (fun r => X (t.val * 512 + r.val)) (fun r => P (t.val * 512 + r.val)) G Wg Wp
    (blk0 m c D hD t) (blk1 m c X hX t) (blk2 m c P hP t) (blk3 m c G hG t) (blk4 m c Wg hWg t) (blk5 m c Wp hWp t) (y 0) (y 1)
  refine Eq.trans ?_ key
  rw [← eq_ix2 y]
  by_cases ht : t.val % 32 = 0
  · rw [outsAt0_A m c t ht]
    frame_out
  · rw [outsAt0_B m c t ht]
    frame_out

include hD hX hP hG hWg hWp in
theorem out7 (k l : Fin 1024) (n : ℕ) (hn : n < cfg0.N) :
    (outsAt0 m c n hn).2.1 (ix2 k l)
      = ((∑ p ∈ Finset.range (n + 1), ∑ r : Fin 512, wpart D X P G Wg Wp k l (p * 512 + r.val) : ℝ) : EReal) := by
  have key := fun t : Fin cfg0.N => pay15 (iblk m c 0 t) (iblk m c 1 t) (iblk m c 2 t) (iblk m c 3 t) (iblk m c 4 t) (iblk m c 5 t)
    (fun r => D (t.val * 512 + r.val)) (fun r => X (t.val * 512 + r.val)) (fun r => P (t.val * 512 + r.val)) G Wg Wp
    (blk0 m c D hD t) (blk1 m c X hX t) (blk2 m c P hP t) (blk3 m c G hG t) (blk4 m c Wg hWg t) (blk5 m c Wp hWp t)
  refine run_sum (fun n hn => (outsAt0 m c n hn).2.1 (ix2 k l)) (fun p => ∑ r : Fin 512, wpart D X P G Wg Wp k l (p * 512 + r.val))
    (fun h => ?_) (fun n h => ?_) n hn
  · beta_reduce
    rw [outsAt0_A m c ⟨0, h⟩ rfl]
    frame_out
    rw [key ⟨0, h⟩, pay3, zero_add]
    rfl
  · have h32 : n + 1 < 32 := lt32 ⟨n + 1, h⟩
    beta_reduce
    rw [outsAt0_B m c ⟨n + 1, h⟩ (by show ¬ (n + 1) % 32 = 0; omega)]
    frame_out
    rw [key ⟨n + 1, h⟩]
    rfl

include hD hX hP hG hWg hWp in
theorem out8 (k : Fin 256) (l : Fin 1024) (n : ℕ) (hn : n < cfg0.N) :
    (outsAt0 m c n hn).2.2.1 (ix2 k l)
      = ((∑ p ∈ Finset.range (n + 1), ∑ r : Fin 512, ppart D X P G Wg k l (p * 512 + r.val) : ℝ) : EReal) := by
  have key := fun t : Fin cfg0.N => pay14 (iblk m c 0 t) (iblk m c 1 t) (iblk m c 2 t) (iblk m c 3 t) (iblk m c 4 t)
    (fun r => D (t.val * 512 + r.val)) (fun r => X (t.val * 512 + r.val)) (fun r => P (t.val * 512 + r.val)) G Wg
    (blk0 m c D hD t) (blk1 m c X hX t) (blk2 m c P hP t) (blk3 m c G hG t) (blk4 m c Wg hWg t)
  refine run_sum (fun n hn => (outsAt0 m c n hn).2.2.1 (ix2 k l)) (fun p => ∑ r : Fin 512, ppart D X P G Wg k l (p * 512 + r.val))
    (fun h => ?_) (fun n h => ?_) n hn
  · beta_reduce
    rw [outsAt0_A m c ⟨0, h⟩ rfl]
    frame_out
    rw [key ⟨0, h⟩, pay4, zero_add]
    rfl
  · have h32 : n + 1 < 32 := lt32 ⟨n + 1, h⟩
    beta_reduce
    rw [outsAt0_B m c ⟨n + 1, h⟩ (by show ¬ (n + 1) % 32 = 0; omega)]
    frame_out
    rw [key ⟨n + 1, h⟩]
    rfl

include hD hX hP hG hWg hWp in
theorem out9 (l : Fin 1024) (n : ℕ) (hn : n < cfg0.N) :
    (outsAt0 m c n hn).2.2.2 (ix2 0 l)
      = ((∑ p ∈ Finset.range (n + 1), ∑ r : Fin 512, gpart D X P G Wg Wp l (p * 512 + r.val) : ℝ) : EReal) := by
  have key := fun t : Fin cfg0.N => pay1 (iblk m c 0 t) (iblk m c 1 t) (iblk m c 2 t) (iblk m c 3 t) (iblk m c 4 t) (iblk m c 5 t)
    (fun r => D (t.val * 512 + r.val)) (fun r => X (t.val * 512 + r.val)) (fun r => P (t.val * 512 + r.val)) G Wg Wp
    (blk0 m c D hD t) (blk1 m c X hX t) (blk2 m c P hP t) (blk3 m c G hG t) (blk4 m c Wg hWg t) (blk5 m c Wp hWp t)
  refine run_sum (fun n hn => (outsAt0 m c n hn).2.2.2 (ix2 0 l)) (fun p => ∑ r : Fin 512, gpart D X P G Wg Wp l (p * 512 + r.val))
    (fun h => ?_) (fun n h => ?_) n hn
  · beta_reduce
    rw [outsAt0_A m c ⟨0, h⟩ rfl]
    frame_out
    rw [key ⟨0, h⟩, pay5, zero_add]
    rfl
  · have h32 : n + 1 < 32 := lt32 ⟨n + 1, h⟩
    beta_reduce
    rw [outsAt0_B m c ⟨n + 1, h⟩ (by show ¬ (n + 1) % 32 = 0; omega)]
    frame_out
    rw [key ⟨n + 1, h⟩]
    rfl

include hD hX hP hG hWg hWp in
/-- The rows' gradients. -/
theorem final6 : (dats m 0 c).arrAt 6 (cfgs 0).N
    = fun i : S16384x1024.Idx => ((dh D X P G Wg Wp (i 0).val (i 1) : ℝ) : EReal) := by
  refine (dats m 0 c).arrAt_eq_of_covers 6 _ (by decide +kernel) fun t hf y => ?_
  blk_simp
  rw [after0_6]
  refine (out6 m c D X P G Wg Wp hD hX hP hG hWg hWp t y).trans ?_
  have h0 : win0_6.index t 0 = t.val := by rw [(idx t).2.2.2.2.2.2.1]; rfl
  have h1 : (win0_6.blk t).view.emb y 1 = (y 1 : Fin 1024) := by
    refine Fin.ext ?_
    blk_simp [idx t]
  rw [h0, h1]

include hD hX hP hG hWg hWp in
/-- The gate weight's gradient. -/
theorem final7 : (dats m 0 c).arrAt 7 (cfgs 0).N
    = fun i : S1024x1024.Idx => ((∑ n : Fin 16384, wpart D X P G Wg Wp (i 0) (i 1) n.val : ℝ) : EReal) := by
  refine (dats m 0 c).arrAt_eq_of_covers 7 _ (by decide +kernel) fun t hf y => ?_
  blk_simp
  rw [after0_7]
  have h0 : (win0_7.blk t).view.emb y 0 = (y 0 : Fin 1024) := by
    refine Fin.ext ?_
    blk_simp [idx t]
  have h1 : (win0_7.blk t).view.emb y 1 = (y 1 : Fin 1024) := by
    refine Fin.ext ?_
    blk_simp [idx t]
  have ht : t.val + 1 = 32 := by have := (flush0_7 t).mp hf; have := lt32 t; omega
  rw [h0, h1]
  refine (congrArg (outsAt0 m c t.val t.isLt).2.1 (eq_ix2 (y : S1024x1024.Idx))).trans
    ((out7 m c D X P G Wg Wp hD hX hP hG hWg hWp (y 0) (y 1) t.val t.isLt).trans ?_)
  rw [ht, sum_blocks 32 512]

include hD hX hP hG hWg hWp in
/-- The projection's gradient. -/
theorem final8 : (dats m 0 c).arrAt 8 (cfgs 0).N
    = fun i : S256x1024.Idx => ((∑ n : Fin 16384, ppart D X P G Wg (i 0) (i 1) n.val : ℝ) : EReal) := by
  refine (dats m 0 c).arrAt_eq_of_covers 8 _ (by decide +kernel) fun t hf y => ?_
  blk_simp
  rw [after0_8]
  have h0 : (win0_8.blk t).view.emb y 0 = (y 0 : Fin 256) := by
    refine Fin.ext ?_
    blk_simp [idx t]
  have h1 : (win0_8.blk t).view.emb y 1 = (y 1 : Fin 1024) := by
    refine Fin.ext ?_
    blk_simp [idx t]
  have ht : t.val + 1 = 32 := by have := (flush0_8 t).mp hf; have := lt32 t; omega
  rw [h0, h1]
  refine (congrArg (outsAt0 m c t.val t.isLt).2.2.1 (eq_ix2 (y : S256x1024.Idx))).trans
    ((out8 m c D X P G Wg Wp hD hX hP hG hWg hWp (y 0) (y 1) t.val t.isLt).trans ?_)
  rw [ht, sum_blocks 32 512]

include hD hX hP hG hWg hWp in
/-- The gain's gradient. -/
theorem final9 : (dats m 0 c).arrAt 9 (cfgs 0).N
    = fun i : S1x1024.Idx => ((∑ n : Fin 16384, gpart D X P G Wg Wp (i 1) n.val : ℝ) : EReal) := by
  refine (dats m 0 c).arrAt_eq_of_covers 9 _ (by decide +kernel) fun t hf y => ?_
  blk_simp
  rw [after0_9]
  have hy : y = (ix2 0 (y 1 : Fin 1024) : S1x1024.Idx) := by
    refine (eq_ix2 (y : S1x1024.Idx)).trans (congrArg (fun a : Fin 1 => (ix2 a (y 1 : Fin 1024) : S1x1024.Idx)) (Subsingleton.elim _ _))
  have h1 : (win0_9.blk t).view.emb y 1 = (y 1 : Fin 1024) := by
    refine Fin.ext ?_
    blk_simp [idx t]
  have ht : t.val + 1 = 32 := by have := (flush0_9 t).mp hf; have := lt32 t; omega
  rw [h1]
  refine (congrArg (outsAt0 m c t.val t.isLt).2.2.2 hy).trans
    ((out9 m c D X P G Wg Wp hD hX hP hG hWg hWp (y 1) t.val t.isLt).trans ?_)
  rw [ht, sum_blocks 32 512]

end results

end Cert.PleValue

end
-- ==== Proof.PleRef.lean ====
/- What the reference's four gradients of the gated embedding are, at finite arguments. -/
module

public import proofs.«01_k».proof.Proof.PleValue
public import proofs.«01_k».proof.Proof.Gen.Reference3Ideal.Read

@[expose] public section

set_option maxRecDepth 16384

noncomputable section

namespace Cert.PleRef

open Idealize.ShloMosaic Cert.Reference3Ideal Cert.Reference3Ideal.Gen Cert.Reference3Ideal.Read Cert.Reals Cert.PleValue

variable (d h : FVec Ideal S16384x1024 .f32) (p : FVec Ideal S4x16384x256 .f32) (g : FVec Ideal S1024 .f32)
  (wg : FVec Ideal S1024x1024 .f32) (wp : FVec Ideal S256x1024 .f32)
  (D X : ℕ → Fin 1024 → ℝ) (P : ℕ → Fin 256 → ℝ) (G : Fin 1024 → ℝ) (Wg : Fin 1024 → Fin 1024 → ℝ) (Wp : Fin 256 → Fin 1024 → ℝ)
  (hD : ∀ (r : Fin 16384) l, d (ix2 r l) = ((D r.val l : ℝ) : EReal)) (hX : ∀ (r : Fin 16384) l, h (ix2 r l) = ((X r.val l : ℝ) : EReal))
  (hP : ∀ (r : Fin 16384) l, p (ix3 3 r l) = ((P r.val l : ℝ) : EReal)) (hG : ∀ l, g (ix1 l) = ((G l : ℝ) : EReal))
  (hWg : ∀ k l, wg (ix2 k l) = ((Wg k l : ℝ) : EReal)) (hWp : ∀ k l, wp (ix2 k l) = ((Wp k l : ℝ) : EReal))

include hP hWp in
theorem v2 (r : Fin 16384) (l : Fin 1024) : val_main_v2 (F := Ideal) p wp (ix2 r l) = ((emb (P r) Wp l : ℝ) : EReal) := by
  pointwise [val_main_v2, val_main_v1, val_main_v0]
  simp only [hP, hWp, ← EReal.coe_mul, sum_coe]
  rfl

include hX in
theorem v9 (r : Fin 16384) : val_main_v9 (F := Ideal) h (ix2 r 0) = ((msq (X r) + eps : ℝ) : EReal) := by
  pointwise [val_main_v9, val_main_v8, val_main_v7, val_main_v6, val_main_v5, val_main_v4, val_main_v3, val_main_cst, val_main_cst_0, val_main_cst_1]
  simp only [hX, c1024, cEps, ← EReal.coe_mul, sum_coe, div_real _ _ (by norm_num : (1024 : ℝ) ≠ 0), ← EReal.coe_add]
  rfl

include hX in
theorem v10 (r : Fin 16384) : val_main_v10 (F := Ideal) h (ix2 r 0) = ((rinv (X r) : ℝ) : EReal) := by
  have h9 := v9 h X hX r
  have hp := msq_eps_pos (X r)
  pointwise [val_main_v10]
  rw [h9, Ideal.rsqrt_coe, if_neg (not_lt.mpr hp.le), if_neg hp.ne']
  rfl

include hX in
theorem v13 (r : Fin 16384) :
    val_main_v13 (F := Ideal) h (ix2 r 0) = ((-(1 / 2) * (rinv (X r) / (msq (X r) + eps)) : ℝ) : EReal) := by
  have h9 := v9 h X hX r
  have h10 := v10 h X hX r
  pointwise [val_main_v13, val_main_v12, val_main_v11, val_main_cst_2]
  rw [h9, h10, cNegHalf, div_real _ _ (msq_eps_pos (X r)).ne', ← EReal.coe_mul]

include hX in
theorem v15 (r : Fin 16384) (l : Fin 1024) : val_main_v15 (F := Ideal) h (ix2 r l) = ((X r l * rinv (X r) : ℝ) : EReal) := by
  have h10 := v10 h X hX r
  pointwise [val_main_v15, val_main_v14]
  rw [h10, hX, ← EReal.coe_mul]

include hX hG in
theorem v18 (r : Fin 16384) (l : Fin 1024) : val_main_v18 (F := Ideal) h g (ix2 r l) = ((hn (X r) G l : ℝ) : EReal) := by
  have h15 := v15 h X hX r l
  pointwise [val_main_v18, val_main_v17, val_main_v16]
  rw [h15, hG, ← EReal.coe_mul]
  rfl

include hX hG hWg in
theorem v25 (r : Fin 16384) (l : Fin 1024) : val_main_v25 (F := Ideal) h g wg (ix2 r l) = ((gate (X r) G Wg l : ℝ) : EReal) := by
  have h18 := v18 h g X G hX hG r
  pointwise [val_main_v25, val_main_v24, val_main_v23, val_main_v22, val_main_v21, val_main_v20, val_main_v19, val_main_cst_3, val_main_cst_4]
  simp only [h18, hWg, ← EReal.coe_mul, sum_coe, logistic_real]
  rfl

include hD hX hP hG hWg hWp in
theorem v34 (r : Fin 16384) (l : Fin 1024) :
    val_main_v34 (F := Ideal) d h p g wg wp (ix2 r l) = ((dpre (D r) (X r) G (P r) Wg Wp l : ℝ) : EReal) := by
  have h2 := v2 p wp P Wp hP hWp r l
  have h25 := v25 h g wg X G Wg hX hG hWg r l
  pointwise [val_main_v34, val_main_v32, val_main_v31, val_main_v28, val_main_v27, val_main_v26, val_main_cst_5]
  simp only [h2, h25, hD, ← EReal.coe_one, ← EReal.coe_mul, ← EReal.coe_sub]
  exact congrArg _ (by unfold dpre; ring)

include hD hX hP hG hWg hWp in
theorem v37 (r : Fin 16384) (l : Fin 1024) :
    val_main_v37 (F := Ideal) d h p g wg wp (ix2 r l) = ((dhn (D r) (X r) G (P r) Wg Wp l : ℝ) : EReal) := by
  have h34 := v34 d h p g wg wp D X P G Wg Wp hD hX hP hG hWg hWp r
  pointwise [val_main_v37]
  simp only [h34, hWg, ← EReal.coe_mul, sum_coe]
  rfl

include hD hX hP hG hWg hWp in
theorem v42 (r : Fin 16384) (l : Fin 1024) :
    val_main_v42 (F := Ideal) d h p g wg wp (ix2 r l) = ((dhn (D r) (X r) G (P r) Wg Wp l * G l : ℝ) : EReal) := by
  have h37 := v37 d h p g wg wp D X P G Wg Wp hD hX hP hG hWg hWp r l
  pointwise [val_main_v42, val_main_v41, val_main_v16]
  rw [h37, hG, ← EReal.coe_mul]

include hD hX hP hG hWg hWp in
theorem v54 (r : Fin 16384) (l : Fin 1024) : val_main_v54 (F := Ideal) d h p g wg wp (ix2 r l)
    = (((∑ k, X r k * (dhn (D r) (X r) G (P r) Wg Wp k * G k)) * (-(1 / 2) * (rinv (X r) / (msq (X r) + eps))) / 1024 : ℝ) : EReal) := by
  have h42 := v42 d h p g wg wp D X P G Wg Wp hD hX hP hG hWg hWp r
  have h13 : ∀ a : Fin 1, val_main_v13 (F := Ideal) h (ix2 r a)
      = ((-(1 / 2) * (rinv (X r) / (msq (X r) + eps)) : ℝ) : EReal) := fun a => by rw [Subsingleton.elim a 0, v13 h X hX r]
  pointwise [val_main_v54, val_main_v53, val_main_v52, val_main_v51, val_main_v50, val_main_v46, val_main_v45, val_main_v44,
    val_main_cst_8, val_main_cst_9, val_main_cst_10]
  simp only [h42, h13, hX, c1024, ← EReal.coe_mul, sum_coe, div_real _ _ (by norm_num : (1024 : ℝ) ≠ 0), Fin.sum_univ_one]

include hD hX hP hG hWg hWp in
/-- The rows' gradients. -/
theorem dh_eq : val_main_v58 (F := Ideal) d h p g wg wp
    = fun i : S16384x1024.Idx => ((dh D X P G Wg Wp (i 0).val (i 1) : ℝ) : EReal) := by
  funext i
  obtain ⟨r, l, rfl⟩ : ∃ (r : Fin 16384) (l : Fin 1024), i = ix2 r l := ⟨i 0, i 1, eq_ix2 i⟩
  have h10 := v10 h X hX r
  have h42 := v42 d h p g wg wp D X P G Wg Wp hD hX hP hG hWg hWp r l
  have h54 := v54 d h p g wg wp D X P G Wg Wp hD hX hP hG hWg hWp r l
  pointwise [val_main_v58, val_main_v57, val_main_v56, val_main_v55, val_main_v49, val_main_v48, val_main_v47]
  rw [h10, h42, h54, hX, hD]
  simp only [← EReal.coe_mul, ← EReal.coe_add]
  refine congrArg (fun r : ℝ => (r : EReal)) ?_
  unfold dh
  rw [← rmsGrad_eq]
  ring

include hD hX hP hG hWg hWp in
/-- The gate weight's gradient. -/
theorem dwg_eq : val_main_v36 (F := Ideal) d h p g wg wp
    = fun i : S1024x1024.Idx => ((∑ n : Fin 16384, wpart D X P G Wg Wp (i 0) (i 1) n.val : ℝ) : EReal) := by
  funext i
  obtain ⟨k, l, rfl⟩ : ∃ (k l : Fin 1024), i = ix2 k l := ⟨i 0, i 1, eq_ix2 i⟩
  have h18 := v18 h g X G hX hG
  have h34 := v34 d h p g wg wp D X P G Wg Wp hD hX hP hG hWg hWp
  pointwise [val_main_v36, val_main_v35]
  simp only [h18, h34, ← EReal.coe_mul, sum_coe]
  refine congrArg (fun r : ℝ => (r : EReal)) (Finset.sum_congr rfl fun n _ => ?_)
  rw [mul_comm]
  rfl

include hD hX hP hG hWg in
/-- The projection's gradient. -/
theorem dwp_eq : val_main_v60 (F := Ideal) d h p g wg
    = fun i : S256x1024.Idx => ((∑ n : Fin 16384, ppart D X P G Wg (i 0) (i 1) n.val : ℝ) : EReal) := by
  funext i
  obtain ⟨k, l, rfl⟩ : ∃ (k : Fin 256) (l : Fin 1024), i = ix2 k l := ⟨i 0, i 1, eq_ix2 i⟩
  have h25 := v25 h g wg X G Wg hX hG hWg
  pointwise [val_main_v60, val_main_v59, val_main_v33, val_main_v31, val_main_v1, val_main_v0]
  simp only [h25, hD, hP, ← EReal.coe_mul, sum_coe]
  refine congrArg (fun r : ℝ => (r : EReal)) (Finset.sum_congr rfl fun n _ => ?_)
  rw [mul_comm]
  rfl

include hD hX hP hG hWg hWp in
/-- The gain's gradient. -/
theorem dg_eq : val_main_v61 (F := Ideal) d h p g wg wp
    = fun i : S1x1024.Idx => ((∑ n : Fin 16384, gpart D X P G Wg Wp (i 1) n.val : ℝ) : EReal) := by
  funext i
  obtain ⟨a, l, rfl⟩ : ∃ (a : Fin 1) (l : Fin 1024), i = ix2 a l := ⟨i 0, i 1, eq_ix2 i⟩
  obtain rfl : a = 0 := Subsingleton.elim _ _
  have h15 := fun r : Fin 16384 => v15 h X hX r l
  have h37 := fun r : Fin 16384 => v37 d h p g wg wp D X P G Wg Wp hD hX hP hG hWg hWp r l
  pointwise [val_main_v61, val_main_v43, val_main_v40, val_main_v39, val_main_v38, val_main_cst_6, val_main_cst_7]
  simp only [Fin.sum_univ_one, h15, h37, ← EReal.coe_mul, sum_coe]
  refine congrArg (fun r : ℝ => (r : EReal)) (Finset.sum_congr rfl fun n _ => ?_)
  rw [mul_comm]
  rfl

end Cert.PleRef

end
-- ==== Proof.PleClaim.lean ====
/- The gated embedding's four gradients are the reference's, at finite arguments. -/
module

public import proofs.«01_k».proof.Defs
public import proofs.«01_k».proof.Proof.PleRef
public import proofs.«01_k».proof.Proof.Gen.Pre_ple_finite
public import Idealize.ShloMosaic.Lib.Claim
public import Idealize.ShloMosaic.Lib.Quiescent

@[expose] public section

set_option maxRecDepth 16384

noncomputable section

namespace Cert.PleClaim

open Idealize.ShloMosaic Idealize.ShloMosaic.TcCoe Idealize.SL.Sem

/-- Finite arguments of the gated embedding are arrays of reals. -/
theorem ple_reals (d h : FVec Ideal Cert.Kernel3Ideal.S16384x1024 .f32) (p : FVec Ideal Cert.Kernel3Ideal.S4x16384x256 .f32)
    (g : FVec Ideal Cert.Kernel3Ideal.S1024 .f32) (wg : FVec Ideal Cert.Kernel3Ideal.S1024x1024 .f32) (wp : FVec Ideal Cert.Kernel3Ideal.S256x1024 .f32)
    (hp : Cert.Pre_ple_finite.fn (F := Ideal) d h p g wg wp = fun _ => 1#1) :
    ∃ (D X : ℕ → Fin 1024 → ℝ) (P : ℕ → Fin 256 → ℝ) (G : Fin 1024 → ℝ) (Wg : Fin 1024 → Fin 1024 → ℝ) (Wp : Fin 256 → Fin 1024 → ℝ),
      (∀ (r : Fin 16384) l, d (ix2 r l) = ((D r.val l : ℝ) : EReal)) ∧ (∀ (r : Fin 16384) l, h (ix2 r l) = ((X r.val l : ℝ) : EReal))
      ∧ (∀ (r : Fin 16384) l, p (ix3 3 r l) = ((P r.val l : ℝ) : EReal)) ∧ (∀ l, g (ix1 l) = ((G l : ℝ) : EReal))
      ∧ (∀ k l, wg (ix2 k l) = ((Wg k l : ℝ) : EReal)) ∧ ∀ k l, wp (ix2 k l) = ((Wp k l : ℝ) : EReal) := by
  have h0 := congrFun hp (fun a => a.elim0)
  dsimp only [Cert.Pre_ple_finite.fn, Cert.Pre_ple_finite.fn_part1] at h0
  obtain ⟨h1, h6⟩ := IntOp.andi_eq_one.mp h0
  obtain ⟨h1, h5⟩ := IntOp.andi_eq_one.mp h1
  obtain ⟨h1, h4⟩ := IntOp.andi_eq_one.mp h1
  obtain ⟨h1, h3⟩ := IntOp.andi_eq_one.mp h1
  obtain ⟨h1, h2⟩ := IntOp.andi_eq_one.mp h1
  obtain ⟨X1, hX1⟩ := Cert.Reals.reals_of_finite d _ _ _ _ _ _ h1
  obtain ⟨X2, hX2⟩ := Cert.Reals.reals_of_finite h _ _ _ _ _ _ h2
  obtain ⟨X3, hX3⟩ := Cert.Reals.reals_of_finite p _ _ _ _ _ _ h3
  obtain ⟨X4, hX4⟩ := Cert.Reals.reals_of_finite g _ _ _ _ _ _ h4
  obtain ⟨X5, hX5⟩ := Cert.Reals.reals_of_finite wg _ _ _ _ _ _ h5
  obtain ⟨X6, hX6⟩ := Cert.Reals.reals_of_finite wp _ _ _ _ _ _ h6
  obtain ⟨D, hD⟩ := Cert.Reals.rows_of d X1 hX1
  obtain ⟨X, hX⟩ := Cert.Reals.rows_of h X2 hX2
  refine ⟨D, X, fun r l => if h : r < 16384 then X3 (ix3 3 ⟨r, h⟩ l) else 0, fun l => X4 (ix1 l), fun k l => X5 (ix2 k l),
    fun k l => X6 (ix2 k l), hD, hX, fun r l => ?_, fun l => hX4 _, fun k l => hX5 _, fun k l => hX6 _⟩
  have h : (if h : r.val < 16384 then X3 (ix3 3 ⟨r.val, h⟩ l) else 0) = X3 (ix3 3 r l) := dif_pos r.isLt
  exact (hX3 _).trans (congrArg (fun x : ℝ => (x : EReal)) h.symm)

theorem frame_reference : Cert.quiescent_Reference3Ideal := fun m g _ =>
  (θ_run (Cert.Reference3Ideal.defs (F := Ideal)) _ _).mono
    (fun r h => ⟨fun c => (h c).2.2.2.2, sem_eq_zero_of_no_sems (by decide) r.2⟩)
    (Cert.Reference3Ideal.Value.run m g)

theorem algebraic : Cert.algebraic_Kernel3Ideal_Reference3Ideal_pre_ple_finite := by
  intro m g m' g' hpre hagree
  refine ⟨fun c => (Cert.Kernel3Ideal.Gen.dats m 0 c).arrAt 6 (Cert.Kernel3Ideal.cfgs 0).N,
    fun c => (Cert.Kernel3Ideal.Gen.dats m 0 c).arrAt 7 (Cert.Kernel3Ideal.cfgs 0).N,
    fun c => (Cert.Kernel3Ideal.Gen.dats m 0 c).arrAt 8 (Cert.Kernel3Ideal.cfgs 0).N,
    fun c => (Cert.Kernel3Ideal.Gen.dats m 0 c).arrAt 9 (Cert.Kernel3Ideal.cfgs 0).N, ?_, ?_⟩
  · run_from Cert.Kernel3Ideal.Gen.run_main m g
  · refine (θ_run (Cert.Reference3Ideal.defs (F := Ideal)) _ _).mono (fun r h c => ?_) (Cert.Reference3Ideal.Value.run m' g')
    obtain ⟨D, X, P, G, Wg, Wp, hD, hX, hP, hG, hWg, hWp⟩ := ple_reals _ _ _ _ _ _ (hpre c)
    obtain ⟨h0, h1, h2, h3, a⟩ := h c
    obtain ⟨e0, e1, e2, e3, e4, e5⟩ := hagree c
    refine ⟨h0.trans ?_, h1.trans ?_, h2.trans ?_, h3.trans ?_, a⟩
    · refine (Cert.Reference3Ideal.Read.val_main_v58_eq m' c).trans ?_
      rw [e0, e1, e2, e3, e4, e5]
      exact (Cert.PleRef.dh_eq _ _ _ _ _ _ D X P G Wg Wp hD hX hP hG hWg hWp).trans (Cert.PleValue.final6 m c D X P G Wg Wp hD hX hP hG hWg hWp).symm
    · refine (Cert.Reference3Ideal.Read.val_main_v36_eq _ _ _ _ _ _).trans ?_
      rw [e0, e1, e2, e3, e4, e5]
      exact (Cert.PleRef.dwg_eq _ _ _ _ _ _ D X P G Wg Wp hD hX hP hG hWg hWp).trans (Cert.PleValue.final7 m c D X P G Wg Wp hD hX hP hG hWg hWp).symm
    · refine (Cert.Reference3Ideal.Read.val_main_v60_eq _ _ _ _ _).trans ?_
      rw [e0, e1, e2, e3, e4]
      exact (Cert.PleRef.dwp_eq _ _ _ _ _ D X P G Wg hD hX hP hG hWg).trans (Cert.PleValue.final8 m c D X P G Wg Wp hD hX hP hG hWg hWp).symm
    · refine (Cert.Reference3Ideal.Read.val_main_v61_eq _ _ _ _ _ _).trans ?_
      rw [e0, e1, e2, e3, e4, e5]
      exact (Cert.PleRef.dg_eq _ _ _ _ _ _ D X P G Wg Wp hD hX hP hG hWg hWp).trans (Cert.PleValue.final9 m c D X P G Wg Wp hD hX hP hG hWg hWp).symm

end Cert.PleClaim

end
-- ==== Proof.OutValue.lean ====
/- What the output projection's backward call leaves in its four results, as functions of finite arguments. -/
module

public import proofs.«01_k».proof.Proof.Reals
public import proofs.«01_k».proof.Proof.Gen.Kernel4Ideal.Value
public import Idealize.ShloMosaic.Lib.Pointwise
public import Idealize.ShloMosaic.Lib.Pipeline.ValueKit
public import Idealize.ShloMosaic.Lib.Claim

@[expose] public section

set_option maxRecDepth 16384

noncomputable section

namespace Cert.OutValue

open Idealize.ShloMosaic Idealize.ShloMosaic.TcCoe Idealize.SL.Sem Cert.Kernel4Ideal Cert.Kernel4Ideal.Gen Cert.Reals

/-- A row's cotangent: the residual's and the norm's, whose own cotangent is the sum of the two parts. -/
def dx (d p q x G : Fin 1024 → ℝ) (l : Fin 1024) : ℝ := rmsGrad x (fun l => (p l + q l) * G l) l + d l

/-- The residual row: the input plus its mixed row's projection. -/
def res (h y : Fin 1024 → ℝ) (W : Fin 1024 → Fin 1024 → ℝ) (l : Fin 1024) : ℝ := h l + ∑ k, y k * W k l

section payloads

variable (d h : FVec Ideal S512x1024 .f32) (p q : FVec Ideal S1x512x1024 .f32) (ym : FVec Ideal S512x1024 .bf16) (g : FVec Ideal S1x1024 .f32)
  (w : FVec Ideal S1024x1024 .bf16)
  (D X P Q Y : Fin 512 → Fin 1024 → ℝ) (G : Fin 1024 → ℝ) (W : Fin 1024 → Fin 1024 → ℝ)
  (hD : ∀ r l, d (ix2 r l) = ((D r l : ℝ) : EReal)) (hX : ∀ r l, h (ix2 r l) = ((X r l : ℝ) : EReal))
  (hP : ∀ r l, p (ix3 0 r l) = ((P r l : ℝ) : EReal)) (hQ : ∀ r l, q (ix3 0 r l) = ((Q r l : ℝ) : EReal))
  (hY : ∀ r l, ym (ix2 r l) = ((Y r l : ℝ) : EReal)) (hG : ∀ l, g (ix2 0 l) = ((G l : ℝ) : EReal))
  (hW : ∀ k l, w (ix2 k l) = ((W k l : ℝ) : EReal))

include hX in
theorem pay9 (r : Fin 512) : k0_pay9 (F := Ideal) h (ix2 r 0) = ((rinv (X r) : ℝ) : EReal) := by
  pointwise [k0_pay9, k0_pay8]
  simp only [hX, c1024, cEps, rsqrt_row]

include hX in
theorem pay10 (r : Fin 512) (l : Fin 1024) : k0_pay10 (F := Ideal) h (ix2 r l) = ((X r l * rinv (X r) : ℝ) : EReal) := by
  have h9 := pay9 h X hX r
  pointwise [k0_pay10, k0_pay8]
  rw [h9, hX, EReal.coe_mul]

include hP hQ in
theorem pay11 (r : Fin 512) (l : Fin 1024) : k0_pay11 (F := Ideal) p q (ix2 r l) = ((P r l + Q r l : ℝ) : EReal) := by
  pointwise [k0_pay11]
  rw [hP, hQ, EReal.coe_add]

include hD hX hP hQ hG in
/-- The rows' gradients. -/
theorem pay2 (r : Fin 512) (l : Fin 1024) :
    k0_pay2 (F := Ideal) (k0_pay12 g h p q) d (ix2 r l) = ((dx (D r) (P r) (Q r) (X r) G l : ℝ) : EReal) := by
  have h9 := pay9 h X hX
  have h10 := pay10 h X hX
  have h11 := pay11 p q P Q hP hQ
  pointwise [k0_pay2, k0_pay12]
  simp only [h9, h10, h11, hG, hD, c1024, ← EReal.coe_mul, sum_coe, div_real _ _ (by norm_num : (1024 : ℝ) ≠ 0), ← EReal.coe_sub, ← EReal.coe_add]
  exact congrArg _ (add_comm _ _)

include hD hX hP hQ hG hW in
/-- The cotangent of the mixed rows. -/
theorem pay4 (r : Fin 512) (l : Fin 1024) :
    k0_pay4 (F := Ideal) (k0_pay12 g h p q) d w (ix2 r l) = ((∑ k, dx (D r) (P r) (Q r) (X r) G k * W l k : ℝ) : EReal) := by
  have h2 := pay2 d h p q g D X P Q G hD hX hP hQ hG
  pointwise [k0_pay4, k0_pay3]
  simp only [h2, hW, ← EReal.coe_mul, sum_coe]

include hD hX hP hQ hY hG in
theorem pay5 (acc : FVec Ideal S1024x1024 .f32) (k l : Fin 1024) :
    k0_pay5 (F := Ideal) (k0_pay12 g h p q) d acc ym (ix2 k l)
      = acc (ix2 k l) + ((∑ r : Fin 512, Y r k * dx (D r) (P r) (Q r) (X r) G l : ℝ) : EReal) := by
  have h2 := pay2 d h p q g D X P Q G hD hX hP hQ hG
  pointwise [k0_pay5, k0_pay3]
  simp only [h2, hY, ← EReal.coe_mul, sum_coe]

include hX hP hQ in
theorem pay1 (acc : FVec Ideal S1x1024 .f32) (l : Fin 1024) :
    k0_pay1 (F := Ideal) (k0_pay13 h p q) acc (ix2 0 l)
      = acc (ix2 0 l) + ((∑ r : Fin 512, (P r l + Q r l) * (X r l * rinv (X r)) : ℝ) : EReal) := by
  have h10 := pay10 h X hX
  have h11 := pay11 p q P Q hP hQ
  pointwise [k0_pay1, k0_pay13]
  simp only [h10, h11, ← EReal.coe_mul, sum_coe]

theorem pay6 (k l : Fin 1024) : k0_pay6 (F := Ideal) (ix2 k l) = (0 : EReal) := by
  pointwise [k0_pay6]

theorem pay7 (l : Fin 1024) : k0_pay7 (F := Ideal) (ix2 0 l) = (0 : EReal) := by
  pointwise [k0_pay7]

end payloads

/-! ## The results -/

section results

variable (m : (ℓ : Loc nD τ sig) → Buf (Elt Ideal) ℓ) (c : Dev nD)
  (D P Q H Y : ℕ → Fin 1024 → ℝ) (G : Fin 1024 → ℝ) (W : Fin 1024 → Fin 1024 → ℝ)
  (hD : ∀ (r : Fin 16384) l, (m ((c : Thread nD τ).loc main_arg0) : FVec Ideal S16384x1024 .f32) (ix2 r l) = ((D r.val l : ℝ) : EReal))
  (hP : ∀ (r : Fin 16384) l, (m ((c : Thread nD τ).loc main_arg1) : FVec Ideal S2x16384x1024 .f32) (ix3 0 r l) = ((P r.val l : ℝ) : EReal))
  (hQ : ∀ (r : Fin 16384) l, (m ((c : Thread nD τ).loc main_arg1) : FVec Ideal S2x16384x1024 .f32) (ix3 1 r l) = ((Q r.val l : ℝ) : EReal))
  (hH : ∀ (r : Fin 16384) l, (m ((c : Thread nD τ).loc main_arg2) : FVec Ideal S16384x1024 .f32) (ix2 r l) = ((H r.val l : ℝ) : EReal))
  (hY : ∀ (r : Fin 16384) l, (m ((c : Thread nD τ).loc main_arg3) : FVec Ideal S16384x1024 .f32) (ix2 r l) = ((Y r.val l : ℝ) : EReal))
  (hG : ∀ l, (m ((c : Thread nD τ).loc main_arg4) : FVec Ideal S1024 .f32) (ix1 l) = ((G l : ℝ) : EReal))
  (hW : ∀ k l, (m ((c : Thread nD τ).loc main_arg5) : FVec Ideal S1024x1024 .f32) (ix2 k l) = ((W k l : ℝ) : EReal))

theorem idx : ∀ t : Fin cfg0.N, win0_0.index t = ![t.val, 0] ∧ win0_1.index t = ![0, t.val, 0] ∧ win0_2.index t = ![t.val, 0]
    ∧ win0_3.index t = ![t.val, 0] ∧ win0_4.index t = ![0, 0] ∧ win0_5.index t = ![0, 0]
    ∧ win0_6.index t = ![t.val, 0] ∧ win0_7.index t = ![t.val, 0] ∧ win0_8.index t = ![0, 0] ∧ win0_9.index t = ![0, 0] :=
  (by decide +kernel : ∀ t : Fin grid0.N, _)

theorem lt32 (t : Fin cfg0.N) : t.val < 32 := lt_of_lt_of_eq t.isLt N_0

include hD in
theorem blk0 (t : Fin cfg0.N) (r : Fin 512) (l : Fin 1024) :
    (iblk m c 0 t : FVec Ideal S512x1024 .f32) (ix2 r l) = ((D (t.val * 512 + r.val) l : ℝ) : EReal) := by
  have := lt32 t
  refine Eq.trans ?_ (hD ⟨t.val * 512 + r.val, by omega⟩ l)
  blk_ext [iblk, V, idx t]

include hP in
theorem blk1 (t : Fin cfg0.N) (r : Fin 512) (l : Fin 1024) :
    (iblk m c 1 t : FVec Ideal S2x512x1024 .f32) (ix3 0 r l) = ((P (t.val * 512 + r.val) l : ℝ) : EReal) := by
  have := lt32 t
  refine Eq.trans ?_ (hP ⟨t.val * 512 + r.val, by omega⟩ l)
  blk_ext [iblk, V, idx t]

include hQ in
theorem blk1' (t : Fin cfg0.N) (r : Fin 512) (l : Fin 1024) :
    (iblk m c 1 t : FVec Ideal S2x512x1024 .f32) (ix3 1 r l) = ((Q (t.val * 512 + r.val) l : ℝ) : EReal) := by
  have := lt32 t
  refine Eq.trans ?_ (hQ ⟨t.val * 512 + r.val, by omega⟩ l)
  blk_ext [iblk, V, idx t]

include hH hY hW in
theorem blk2 (t : Fin cfg0.N) (r : Fin 512) (l : Fin 1024) :
    (iblk m c 2 t : FVec Ideal S512x1024 .f32) (ix2 r l)
      = ((res (H (t.val * 512 + r.val)) (Y (t.val * 512 + r.val)) W l : ℝ) : EReal) := by
  have := lt32 t
  have hH' := hH ⟨t.val * 512 + r.val, by omega⟩ l
  have hY' := hY ⟨t.val * 512 + r.val, by omega⟩
  blk_simp [iblk, idx t]
  entry_read
  pointwise
  unfold res
  rw [EReal.coe_add, ← sum_coe]
  refine congrArg₂ (· + ·) (Eq.trans ?_ hH') (Finset.sum_congr rfl fun k _ => ?_)
  · blk_ext [idx t]
  · rw [EReal.coe_mul]
    refine congrArg₂ (· * ·) (Eq.trans ?_ (hY' k)) (Eq.trans ?_ (hW k l))
    · blk_ext [idx t]
    · blk_ext [idx t]

include hY in
theorem blk3 (t : Fin cfg0.N) (r : Fin 512) (l : Fin 1024) :
    (iblk m c 3 t : FVec Ideal S512x1024 .bf16) (ix2 r l) = ((Y (t.val * 512 + r.val) l : ℝ) : EReal) := by
  have := lt32 t
  refine Eq.trans ?_ (hY ⟨t.val * 512 + r.val, by omega⟩ l)
  blk_simp [iblk, idx t]
  entry_read
  pointwise
  blk_ext [idx t]

include hG in
theorem blk4 (t : Fin cfg0.N) (l : Fin 1024) : (iblk m c 4 t : FVec Ideal S1x1024 .f32) (ix2 0 l) = ((G l : ℝ) : EReal) := by
  refine Eq.trans ?_ (hG l)
  blk_simp [iblk, idx t]
  entry_read
  pointwise
  blk_ext [idx t]

include hW in
theorem blk5 (t : Fin cfg0.N) (k l : Fin 1024) : (iblk m c 5 t : FVec Ideal S1024x1024 .bf16) (ix2 k l) = ((W k l : ℝ) : EReal) := by
  refine Eq.trans ?_ (hW k l)
  blk_simp [iblk, idx t]
  entry_read
  pointwise
  blk_ext [idx t]

/-- Row `n`'s gradient. -/
def dh (n : ℕ) (l : Fin 1024) : ℝ := dx (D n) (P n) (Q n) (res (H n) (Y n) W) G l

/-- The cotangent of mixed row `n`. -/
def dym (n : ℕ) (l : Fin 1024) : ℝ := ∑ k, dh D P Q H Y G W n k * W l k

/-- Row `n`'s part of the projection's gradient. -/
def wpart (k l : Fin 1024) (n : ℕ) : ℝ := Y n k * dh D P Q H Y G W n l

/-- Row `n`'s part of the gain's gradient. -/
def gpart (l : Fin 1024) (n : ℕ) : ℝ := (P n l + Q n l) * (res (H n) (Y n) W l * rinv (res (H n) (Y n) W))

/-- The two parts of a block of rows, as the body reads them. -/
abbrev part0 (t : Fin cfg0.N) : FVec Ideal S1x512x1024 .f32 :=
  View.ld (iblk m c 1 t) (Rect.unit ![0, 0, 0] ![1, 512, 1024] inb_S2x512x1024_S1x512x1024_0_0_0)
abbrev part1 (t : Fin cfg0.N) : FVec Ideal S1x512x1024 .f32 :=
  View.ld (iblk m c 1 t) (Rect.unit ![1, 0, 0] ![1, 512, 1024] inb_S2x512x1024_S1x512x1024_1_0_0)

include hP in
theorem part0_eq (t : Fin cfg0.N) (r : Fin 512) (l : Fin 1024) : part0 m c t (ix3 0 r l) = ((P (t.val * 512 + r.val) l : ℝ) : EReal) := by
  refine (View.ld_unit_apply_of (S := S2x512x1024) (iblk m c 1 t) _ _ _ _ (ix3 0 r l) fun a => ?_).trans (blk1 m c P hP t r l)
  fin_cases a <;> exact (Nat.zero_add _).symm

include hQ in
theorem part1_eq (t : Fin cfg0.N) (r : Fin 512) (l : Fin 1024) : part1 m c t (ix3 0 r l) = ((Q (t.val * 512 + r.val) l : ℝ) : EReal) := by
  refine (View.ld_unit_apply_of (S := S2x512x1024) (iblk m c 1 t) _ _ _ _ (ix3 1 r l) fun a => ?_).trans (blk1' m c Q hQ t r l)
  fin_cases a
  · rfl
  · exact (Nat.zero_add _).symm
  · exact (Nat.zero_add _).symm

include hD hP hQ hH hY hG hW in
theorem out6 (t : Fin cfg0.N) (y : S512x1024.Idx) :
    (outsAt0 m c t.val t.isLt).1 y = ((dh D P Q H Y G W (t.val * 512 + (y 0).val) (y 1) : ℝ) : EReal) := by
  have key := pay2 (iblk m c 0 t) (iblk m c 2 t) (part0 m c t) (part1 m c t) (iblk m c 4 t)
    (fun r => D (t.val * 512 + r.val)) (fun r => res (H (t.val * 512 + r.val)) (Y (t.val * 512 + r.val)) W)
    (fun r => P (t.val * 512 + r.val)) (fun r => Q (t.val * 512 + r.val)) G
    (blk0 m c D hD t) (blk2 m c H Y W hH hY hW t) (part0_eq m c P hP t) (part1_eq m c Q hQ t) (blk4 m c G hG t) (y 0) (y 1)
  refine Eq.trans ?_ key
  rw [← eq_ix2 y]
  by_cases ht : t.val % 32 = 0
  · rw [outsAt0_A m c t ht]
    frame_out
    rfl
  · rw [outsAt0_B m c t ht]
    frame_out
    rfl

include hD hP hQ hH hY hG hW in
theorem out7 (t : Fin cfg0.N) (y : S512x1024.Idx) :
    (outsAt0 m c t.val t.isLt).2.1 y = ((dym D P Q H Y G W (t.val * 512 + (y 0).val) (y 1) : ℝ) : EReal) := by
  have key := pay4 (iblk m c 0 t) (iblk m c 2 t) (part0 m c t) (part1 m c t) (iblk m c 4 t) (iblk m c 5 t)
    (fun r => D (t.val * 512 + r.val)) (fun r => res (H (t.val * 512 + r.val)) (Y (t.val * 512 + r.val)) W)
    (fun r => P (t.val * 512 + r.val)) (fun r => Q (t.val * 512 + r.val)) G W
    (blk0 m c D hD t) (blk2 m c H Y W hH hY hW t) (part0_eq m c P hP t) (part1_eq m c Q hQ t) (blk4 m c G hG t) (blk5 m c W hW t) (y 0) (y 1)
  refine Eq.trans ?_ key
  rw [← eq_ix2 y]
  by_cases ht : t.val % 32 = 0
  · rw [outsAt0_A m c t ht]
    frame_out
    rfl
  · rw [outsAt0_B m c t ht]
    frame_out
    rfl

include hD hP hQ hH hY hG hW in
theorem out8 (k l : Fin 1024) (n : ℕ) (hn : n < cfg0.N) :
    (outsAt0 m c n hn).2.2.1 (ix2 k l)
      = ((∑ p ∈ Finset.range (n + 1), ∑ r : Fin 512, wpart D P Q H Y G W k l (p * 512 + r.val) : ℝ) : EReal) := by
  have key := fun t : Fin cfg0.N => pay5 (iblk m c 0 t) (iblk m c 2 t) (part0 m c t) (part1 m c t) (iblk m c 3 t) (iblk m c 4 t)
    (fun r => D (t.val * 512 + r.val)) (fun r => res (H (t.val * 512 + r.val)) (Y (t.val * 512 + r.val)) W)
    (fun r => P (t.val * 512 + r.val)) (fun r => Q (t.val * 512 + r.val)) (fun r => Y (t.val * 512 + r.val)) G
    (blk0 m c D hD t) (blk2 m c H Y W hH hY hW t) (part0_eq m c P hP t) (part1_eq m c Q hQ t) (blk3 m c Y hY t) (blk4 m c G hG t)
  refine run_sum (fun n hn => (outsAt0 m c n hn).2.2.1 (ix2 k l)) (fun p => ∑ r : Fin 512, wpart D P Q H Y G W k l (p * 512 + r.val))
    (fun h => ?_) (fun n h => ?_) n hn
  · beta_reduce
    rw [outsAt0_A m c ⟨0, h⟩ rfl]
    frame_out
    refine (key ⟨0, h⟩ _ _ _).trans ?_
    rw [pay6, zero_add]
    rfl
  · have h32 : n + 1 < 32 := lt32 ⟨n + 1, h⟩
    beta_reduce
    rw [outsAt0_B m c ⟨n + 1, h⟩ (by show ¬ (n + 1) % 32 = 0; omega)]
    frame_out
    exact key ⟨n + 1, h⟩ _ _ _

include hP hQ hH hY hW in
theorem out9 (l : Fin 1024) (n : ℕ) (hn : n < cfg0.N) :
    (outsAt0 m c n hn).2.2.2 (ix2 0 l)
      = ((∑ p ∈ Finset.range (n + 1), ∑ r : Fin 512, gpart P Q H Y W l (p * 512 + r.val) : ℝ) : EReal) := by
  have key := fun t : Fin cfg0.N => pay1 (iblk m c 2 t) (part0 m c t) (part1 m c t)
    (fun r => res (H (t.val * 512 + r.val)) (Y (t.val * 512 + r.val)) W)
    (fun r => P (t.val * 512 + r.val)) (fun r => Q (t.val * 512 + r.val))
    (blk2 m c H Y W hH hY hW t) (part0_eq m c P hP t) (part1_eq m c Q hQ t)
  refine run_sum (fun n hn => (outsAt0 m c n hn).2.2.2 (ix2 0 l)) (fun p => ∑ r : Fin 512, gpart P Q H Y W l (p * 512 + r.val))
    (fun h => ?_) (fun n h => ?_) n hn
  · beta_reduce
    rw [outsAt0_A m c ⟨0, h⟩ rfl]
    frame_out
    refine (key ⟨0, h⟩ _ _).trans ?_
    rw [pay7, zero_add]
    rfl
  · have h32 : n + 1 < 32 := lt32 ⟨n + 1, h⟩
    beta_reduce
    rw [outsAt0_B m c ⟨n + 1, h⟩ (by show ¬ (n + 1) % 32 = 0; omega)]
    frame_out
    exact key ⟨n + 1, h⟩ _ _

include hD hP hQ hH hY hG hW in
/-- The rows' gradients. -/
theorem final6 : (dats m 0 c).arrAt 6 (cfgs 0).N
    = fun i : S16384x1024.Idx => ((dh D P Q H Y G W (i 0).val (i 1) : ℝ) : EReal) := by
  refine (dats m 0 c).arrAt_eq_of_covers 6 _ (by decide +kernel) fun t hf y => ?_
  blk_simp
  rw [after0_6]
  refine (out6 m c D P Q H Y G W hD hP hQ hH hY hG hW t y).trans ?_
  have h0 : win0_6.index t 0 = t.val := by rw [(idx t).2.2.2.2.2.2.1]; rfl
  have h1 : (win0_6.blk t).view.emb y 1 = (y 1 : Fin 1024) := by
    refine Fin.ext ?_
    blk_simp [idx t]
  rw [h0, h1]

include hD hP hQ hH hY hG hW in
/-- The cotangent of the mixed rows. -/
theorem final7 : (dats m 0 c).arrAt 7 (cfgs 0).N
    = fun i : S16384x1024.Idx => ((dym D P Q H Y G W (i 0).val (i 1) : ℝ) : EReal) := by
  refine (dats m 0 c).arrAt_eq_of_covers 7 _ (by decide +kernel) fun t hf y => ?_
  blk_simp
  rw [after0_7]
  refine (out7 m c D P Q H Y G W hD hP hQ hH hY hG hW t y).trans ?_
  have h0 : win0_7.index t 0 = t.val := by rw [(idx t).2.2.2.2.2.2.2.1]; rfl
  have h1 : (win0_7.blk t).view.emb y 1 = (y 1 : Fin 1024) := by
    refine Fin.ext ?_
    blk_simp [idx t]
  rw [h0, h1]

include hD hP hQ hH hY hG hW in
/-- The projection's gradient. -/
theorem final8 : (dats m 0 c).arrAt 8 (cfgs 0).N
    = fun i : S1024x1024.Idx => ((∑ n : Fin 16384, wpart D P Q H Y G W (i 0) (i 1) n.val : ℝ) : EReal) := by
  refine (dats m 0 c).arrAt_eq_of_covers 8 _ (by decide +kernel) fun t hf y => ?_
  blk_simp
  rw [after0_8]
  have h0 : (win0_8.blk t).view.emb y 0 = (y 0 : Fin 1024) := by
    refine Fin.ext ?_
    blk_simp [idx t]
  have h1 : (win0_8.blk t).view.emb y 1 = (y 1 : Fin 1024) := by
    refine Fin.ext ?_
    blk_simp [idx t]
  have ht : t.val + 1 = 32 := by have := (flush0_8 t).mp hf; have := lt32 t; omega
  rw [h0, h1]
  refine (congrArg (outsAt0 m c t.val t.isLt).2.2.1 (eq_ix2 (y : S1024x1024.Idx))).trans
    ((out8 m c D P Q H Y G W hD hP hQ hH hY hG hW (y 0) (y 1) t.val t.isLt).trans ?_)
  rw [ht, sum_blocks 32 512]

include hP hQ hH hY hW in
/-- The gain's gradient. -/
theorem final9 : (dats m 0 c).arrAt 9 (cfgs 0).N
    = fun i : S1x1024.Idx => ((∑ n : Fin 16384, gpart P Q H Y W (i 1) n.val : ℝ) : EReal) := by
  refine (dats m 0 c).arrAt_eq_of_covers 9 _ (by decide +kernel) fun t hf y => ?_
  blk_simp
  rw [after0_9]
  have hy : y = (ix2 0 (y 1 : Fin 1024) : S1x1024.Idx) := by
    refine (eq_ix2 (y : S1x1024.Idx)).trans (congrArg (fun a : Fin 1 => (ix2 a (y 1 : Fin 1024) : S1x1024.Idx)) (Subsingleton.elim _ _))
  have h1 : (win0_9.blk t).view.emb y 1 = (y 1 : Fin 1024) := by
    refine Fin.ext ?_
    blk_simp [idx t]
  have ht : t.val + 1 = 32 := by have := (flush0_9 t).mp hf; have := lt32 t; omega
  rw [h1]
  refine (congrArg (outsAt0 m c t.val t.isLt).2.2.2 hy).trans
    ((out9 m c P Q H Y W hP hQ hH hY hW (y 1) t.val t.isLt).trans ?_)
  rw [ht, sum_blocks 32 512]

end results

end Cert.OutValue

end
-- ==== Proof.OutRef.lean ====
/- What the reference's four gradients of the output projection and its norm are, at finite arguments. -/
module

public import proofs.«01_k».proof.Proof.OutValue
public import proofs.«01_k».proof.Proof.Gen.Reference4Ideal.Read

@[expose] public section

set_option maxRecDepth 16384

noncomputable section

namespace Cert.OutRef

open Idealize.ShloMosaic Cert.Reference4Ideal Cert.Reference4Ideal.Gen Cert.Reference4Ideal.Read Cert.Reals Cert.OutValue

variable (d h ym : FVec Ideal S16384x1024 .f32) (p : FVec Ideal S2x16384x1024 .f32) (g : FVec Ideal S1024 .f32)
  (w : FVec Ideal S1024x1024 .f32)
  (D P Q H Y : ℕ → Fin 1024 → ℝ) (G : Fin 1024 → ℝ) (W : Fin 1024 → Fin 1024 → ℝ)
  (hD : ∀ (r : Fin 16384) l, d (ix2 r l) = ((D r.val l : ℝ) : EReal)) (hP : ∀ (r : Fin 16384) l, p (ix3 0 r l) = ((P r.val l : ℝ) : EReal))
  (hQ : ∀ (r : Fin 16384) l, p (ix3 1 r l) = ((Q r.val l : ℝ) : EReal)) (hH : ∀ (r : Fin 16384) l, h (ix2 r l) = ((H r.val l : ℝ) : EReal))
  (hY : ∀ (r : Fin 16384) l, ym (ix2 r l) = ((Y r.val l : ℝ) : EReal)) (hG : ∀ l, g (ix1 l) = ((G l : ℝ) : EReal))
  (hW : ∀ k l, w (ix2 k l) = ((W k l : ℝ) : EReal))

include hH hY hW in
theorem v1 (r : Fin 16384) (l : Fin 1024) : val_main_v1 (F := Ideal) h ym w (ix2 r l) = ((res (H r) (Y r) W l : ℝ) : EReal) := by
  pointwise [val_main_v1, val_main_v0]
  simp only [hH, hY, hW, ← EReal.coe_mul, sum_coe, ← EReal.coe_add]
  rfl

include hH hY hW in
theorem v8 (r : Fin 16384) : val_main_v8 (F := Ideal) h ym w (ix2 r 0) = ((msq (res (H r) (Y r) W) + eps : ℝ) : EReal) := by
  have h1 := v1 h ym w H Y W hH hY hW r
  pointwise [val_main_v8, val_main_v7, val_main_v6, val_main_v5, val_main_v4, val_main_v3, val_main_v2, val_main_cst, val_main_cst_0, val_main_cst_1]
  simp only [h1, c1024, cEps, ← EReal.coe_mul, sum_coe, div_real _ _ (by norm_num : (1024 : ℝ) ≠ 0), ← EReal.coe_add]
  rfl

include hH hY hW in
theorem v9 (r : Fin 16384) : val_main_v9 (F := Ideal) h ym w (ix2 r 0) = ((rinv (res (H r) (Y r) W) : ℝ) : EReal) := by
  have h8 := v8 h ym w H Y W hH hY hW r
  have hp := msq_eps_pos (res (H r) (Y r) W)
  pointwise [val_main_v9]
  rw [h8, Ideal.rsqrt_coe, if_neg (not_lt.mpr hp.le), if_neg hp.ne']
  rfl

include hH hY hW in
theorem v12 (r : Fin 16384) : val_main_v12 (F := Ideal) h ym w (ix2 r 0)
    = ((-(1 / 2) * (rinv (res (H r) (Y r) W) / (msq (res (H r) (Y r) W) + eps)) : ℝ) : EReal) := by
  have h8 := v8 h ym w H Y W hH hY hW r
  have h9 := v9 h ym w H Y W hH hY hW r
  pointwise [val_main_v12, val_main_v11, val_main_v10, val_main_cst_2]
  rw [h8, h9, cNegHalf, div_real _ _ (msq_eps_pos _).ne', ← EReal.coe_mul]

include hP hQ in
theorem v22 (r : Fin 16384) (l : Fin 1024) : val_main_v22 (F := Ideal) p (ix2 r l) = ((P r l + Q r l : ℝ) : EReal) := by
  pointwise [val_main_v22, val_main_v21, val_main_v20, val_main_v19, val_main_v18]
  rw [hP, hQ, ← EReal.coe_add]

include hP hQ hG in
theorem v27 (r : Fin 16384) (l : Fin 1024) : val_main_v27 (F := Ideal) p g (ix2 r l) = (((P r l + Q r l) * G l : ℝ) : EReal) := by
  have h22 := v22 p P Q hP hQ r l
  pointwise [val_main_v27, val_main_v26, val_main_v15]
  rw [h22, hG, ← EReal.coe_mul]

include hP hQ hH hY hG hW in
theorem v39 (r : Fin 16384) (l : Fin 1024) : val_main_v39 (F := Ideal) p h ym g w (ix2 r l)
    = (((∑ k, res (H r) (Y r) W k * ((P r k + Q r k) * G k))
        * (-(1 / 2) * (rinv (res (H r) (Y r) W) / (msq (res (H r) (Y r) W) + eps))) / 1024 : ℝ) : EReal) := by
  have h1 := v1 h ym w H Y W hH hY hW r
  have h27 := v27 p g P Q G hP hQ hG r
  have h12 : ∀ a : Fin 1, val_main_v12 (F := Ideal) h ym w (ix2 r a)
      = ((-(1 / 2) * (rinv (res (H r) (Y r) W) / (msq (res (H r) (Y r) W) + eps)) : ℝ) : EReal) := fun a => by
    rw [Subsingleton.elim a 0, v12 h ym w H Y W hH hY hW r]
  pointwise [val_main_v39, val_main_v38, val_main_v37, val_main_v36, val_main_v35, val_main_v31, val_main_v30, val_main_v29,
    val_main_cst_5, val_main_cst_6, val_main_cst_7]
  simp only [h1, h27, h12, c1024, ← EReal.coe_mul, sum_coe, div_real _ _ (by norm_num : (1024 : ℝ) ≠ 0), Fin.sum_univ_one]

include hD hP hQ hH hY hG hW in
theorem v43 (r : Fin 16384) (l : Fin 1024) :
    val_main_v43 (F := Ideal) d p h ym g w (ix2 r l) = ((dh D P Q H Y G W r.val l : ℝ) : EReal) := by
  have h1 := v1 h ym w H Y W hH hY hW r l
  have h9 := v9 h ym w H Y W hH hY hW r
  have h27 := v27 p g P Q G hP hQ hG r l
  have h39 := v39 h ym p g w P Q H Y G W hP hQ hH hY hG hW r l
  pointwise [val_main_v43, val_main_v42, val_main_v41, val_main_v40, val_main_v34, val_main_v33, val_main_v32]
  rw [h1, h9, h27, h39, hD]
  simp only [← EReal.coe_mul, ← EReal.coe_add]
  refine congrArg (fun r : ℝ => (r : EReal)) ?_
  unfold dh dx
  rw [← rmsGrad_eq]
  ring

include hD hP hQ hH hY hG hW in
/-- The rows' gradients. -/
theorem dh_eq : val_main_v43 (F := Ideal) d p h ym g w
    = fun i : S16384x1024.Idx => ((dh D P Q H Y G W (i 0).val (i 1) : ℝ) : EReal) := by
  funext i
  obtain ⟨r, l, rfl⟩ : ∃ (r : Fin 16384) (l : Fin 1024), i = ix2 r l := ⟨i 0, i 1, eq_ix2 i⟩
  exact v43 d h ym p g w D P Q H Y G W hD hP hQ hH hY hG hW r l

include hD hP hQ hH hY hG hW in
/-- The cotangent of the mixed rows. -/
theorem dym_eq : val_main_v48 (F := Ideal) d p h ym g w
    = fun i : S16384x1024.Idx => ((dym D P Q H Y G W (i 0).val (i 1) : ℝ) : EReal) := by
  funext i
  obtain ⟨r, l, rfl⟩ : ∃ (r : Fin 16384) (l : Fin 1024), i = ix2 r l := ⟨i 0, i 1, eq_ix2 i⟩
  have h43 := v43 d h ym p g w D P Q H Y G W hD hP hQ hH hY hG hW r
  pointwise [val_main_v48, val_main_v47, val_main_v44]
  simp only [h43, hW, ← EReal.coe_mul, sum_coe]
  rfl

include hD hP hQ hH hY hG hW in
/-- The projection's gradient. -/
theorem dw_eq : val_main_v46 (F := Ideal) d p h ym g w
    = fun i : S1024x1024.Idx => ((∑ n : Fin 16384, wpart D P Q H Y G W (i 0) (i 1) n.val : ℝ) : EReal) := by
  funext i
  obtain ⟨k, l, rfl⟩ : ∃ (k l : Fin 1024), i = ix2 k l := ⟨i 0, i 1, eq_ix2 i⟩
  have h43 := v43 d h ym p g w D P Q H Y G W hD hP hQ hH hY hG hW
  pointwise [val_main_v46, val_main_v45, val_main_v44]
  simp only [h43, hY, ← EReal.coe_mul, sum_coe]
  refine congrArg (fun r : ℝ => (r : EReal)) (Finset.sum_congr rfl fun n _ => ?_)
  rw [mul_comm]
  rfl

include hP hQ hH hY hW in
/-- The gain's gradient. -/
theorem dg_eq : val_main_v49 (F := Ideal) p h ym w
    = fun i : S1x1024.Idx => ((∑ n : Fin 16384, gpart P Q H Y W (i 1) n.val : ℝ) : EReal) := by
  funext i
  obtain ⟨a, l, rfl⟩ : ∃ (a : Fin 1) (l : Fin 1024), i = ix2 a l := ⟨i 0, i 1, eq_ix2 i⟩
  obtain rfl : a = 0 := Subsingleton.elim _ _
  have h1 := fun r : Fin 16384 => v1 h ym w H Y W hH hY hW r l
  have h9 := fun r : Fin 16384 => v9 h ym w H Y W hH hY hW r
  have h22 := fun r : Fin 16384 => v22 p P Q hP hQ r l
  pointwise [val_main_v49, val_main_v28, val_main_v25, val_main_v24, val_main_v23, val_main_v14, val_main_v13, val_main_cst_3, val_main_cst_4]
  simp only [Fin.sum_univ_one, h1, h9, h22, ← EReal.coe_mul, sum_coe]
  refine congrArg (fun r : ℝ => (r : EReal)) (Finset.sum_congr rfl fun n _ => ?_)
  rw [mul_comm]
  rfl

end Cert.OutRef

end
-- ==== Proof.OutClaim.lean ====
/- The output projection's four gradients are the reference's, at finite arguments. -/
module

public import proofs.«01_k».proof.Defs
public import proofs.«01_k».proof.Proof.OutRef
public import proofs.«01_k».proof.Proof.Gen.Pre_out_finite
public import Idealize.ShloMosaic.Lib.Claim
public import Idealize.ShloMosaic.Lib.Quiescent

@[expose] public section

set_option maxRecDepth 16384

noncomputable section

namespace Cert.OutClaim

open Idealize.ShloMosaic Idealize.ShloMosaic.TcCoe Idealize.SL.Sem

/-- Finite arguments of the output projection are arrays of reals. -/
theorem out_reals (d : FVec Ideal Cert.Kernel4Ideal.S16384x1024 .f32) (p : FVec Ideal Cert.Kernel4Ideal.S2x16384x1024 .f32)
    (h ym : FVec Ideal Cert.Kernel4Ideal.S16384x1024 .f32) (g : FVec Ideal Cert.Kernel4Ideal.S1024 .f32)
    (w : FVec Ideal Cert.Kernel4Ideal.S1024x1024 .f32)
    (hp : Cert.Pre_out_finite.fn (F := Ideal) d p h ym g w = fun _ => 1#1) :
    ∃ (D P Q H Y : ℕ → Fin 1024 → ℝ) (G : Fin 1024 → ℝ) (W : Fin 1024 → Fin 1024 → ℝ),
      (∀ (r : Fin 16384) l, d (ix2 r l) = ((D r.val l : ℝ) : EReal)) ∧ (∀ (r : Fin 16384) l, p (ix3 0 r l) = ((P r.val l : ℝ) : EReal))
      ∧ (∀ (r : Fin 16384) l, p (ix3 1 r l) = ((Q r.val l : ℝ) : EReal)) ∧ (∀ (r : Fin 16384) l, h (ix2 r l) = ((H r.val l : ℝ) : EReal))
      ∧ (∀ (r : Fin 16384) l, ym (ix2 r l) = ((Y r.val l : ℝ) : EReal)) ∧ (∀ l, g (ix1 l) = ((G l : ℝ) : EReal))
      ∧ ∀ k l, w (ix2 k l) = ((W k l : ℝ) : EReal) := by
  have h0 := congrFun hp (fun a => a.elim0)
  dsimp only [Cert.Pre_out_finite.fn, Cert.Pre_out_finite.fn_part1] at h0
  obtain ⟨h1, h6⟩ := IntOp.andi_eq_one.mp h0
  obtain ⟨h1, h5⟩ := IntOp.andi_eq_one.mp h1
  obtain ⟨h1, h4⟩ := IntOp.andi_eq_one.mp h1
  obtain ⟨h1, h3⟩ := IntOp.andi_eq_one.mp h1
  obtain ⟨h1, h2⟩ := IntOp.andi_eq_one.mp h1
  obtain ⟨X1, hX1⟩ := Cert.Reals.reals_of_finite d _ _ _ _ _ _ h1
  obtain ⟨X2, hX2⟩ := Cert.Reals.reals_of_finite p _ _ _ _ _ _ h2
  obtain ⟨X3, hX3⟩ := Cert.Reals.reals_of_finite h _ _ _ _ _ _ h3
  obtain ⟨X4, hX4⟩ := Cert.Reals.reals_of_finite ym _ _ _ _ _ _ h4
  obtain ⟨X5, hX5⟩ := Cert.Reals.reals_of_finite g _ _ _ _ _ _ h5
  obtain ⟨X6, hX6⟩ := Cert.Reals.reals_of_finite w _ _ _ _ _ _ h6
  obtain ⟨D, hD⟩ := Cert.Reals.rows_of d X1 hX1
  obtain ⟨H, hH⟩ := Cert.Reals.rows_of h X3 hX3
  obtain ⟨Y, hY⟩ := Cert.Reals.rows_of ym X4 hX4
  have part : ∀ a : Fin 2, ∃ P : ℕ → Fin 1024 → ℝ, ∀ (r : Fin 16384) l, p (ix3 a r l) = ((P r.val l : ℝ) : EReal) := fun a =>
    ⟨fun r l => if h : r < 16384 then X2 (ix3 a ⟨r, h⟩ l) else 0, fun r l => by
      have h : (if h : r.val < 16384 then X2 (ix3 a ⟨r.val, h⟩ l) else 0) = X2 (ix3 a r l) := dif_pos r.isLt
      exact (hX2 _).trans (congrArg (fun x : ℝ => (x : EReal)) h.symm)⟩
  obtain ⟨P, hP⟩ := part 0
  obtain ⟨Q, hQ⟩ := part 1
  exact ⟨D, P, Q, H, Y, fun l => X5 (ix1 l), fun k l => X6 (ix2 k l), hD, hP, hQ, hH, hY, fun l => hX5 _, fun k l => hX6 _⟩

theorem frame_reference : Cert.quiescent_Reference4Ideal := fun m g _ =>
  (θ_run (Cert.Reference4Ideal.defs (F := Ideal)) _ _).mono
    (fun r h => ⟨fun c => (h c).2.2.2.2, sem_eq_zero_of_no_sems (by decide) r.2⟩)
    (Cert.Reference4Ideal.Value.run m g)

set_option maxHeartbeats 4000000 in
theorem algebraic : Cert.algebraic_Kernel4Ideal_Reference4Ideal_pre_out_finite := by
  intro m g m' g' hpre hagree
  refine ⟨fun c => (Cert.Kernel4Ideal.Gen.dats m 0 c).arrAt 6 (Cert.Kernel4Ideal.cfgs 0).N,
    fun c => (Cert.Kernel4Ideal.Gen.dats m 0 c).arrAt 7 (Cert.Kernel4Ideal.cfgs 0).N,
    fun c => (Cert.Kernel4Ideal.Gen.dats m 0 c).arrAt 8 (Cert.Kernel4Ideal.cfgs 0).N,
    fun c => (Cert.Kernel4Ideal.Gen.dats m 0 c).arrAt 9 (Cert.Kernel4Ideal.cfgs 0).N, ?_, ?_⟩
  · run_from Cert.Kernel4Ideal.Gen.run_main m g
  · refine (θ_run (Cert.Reference4Ideal.defs (F := Ideal)) _ _).mono (fun r h c => ?_) (Cert.Reference4Ideal.Value.run m' g')
    obtain ⟨D, P, Q, H, Y, G, W, hD, hP, hQ, hH, hY, hG, hW⟩ := out_reals _ _ _ _ _ _ (hpre c)
    obtain ⟨h0, h1, h2, h3, a⟩ := h c
    obtain ⟨e0, e1, e2, e3, e4, e5⟩ := hagree c
    refine ⟨h0.trans ?_, h1.trans ?_, h2.trans ?_, h3.trans ?_, a⟩
    · refine (Cert.Reference4Ideal.Read.val_main_v43_eq m' c).trans ?_
      rw [e0, e1, e2, e3, e4, e5]
      exact (Cert.OutRef.dh_eq _ _ _ _ _ _ D P Q H Y G W hD hP hQ hH hY hG hW).trans
        (Cert.OutValue.final6 m c D P Q H Y G W hD hP hQ hH hY hG hW).symm
    · refine (Cert.Reference4Ideal.Read.val_main_v48_eq m' c).trans ?_
      rw [e0, e1, e2, e3, e4, e5]
      exact (Cert.OutRef.dym_eq _ _ _ _ _ _ D P Q H Y G W hD hP hQ hH hY hG hW).trans
        (Cert.OutValue.final7 m c D P Q H Y G W hD hP hQ hH hY hG hW).symm
    · refine (Cert.Reference4Ideal.Read.val_main_v46_eq m' c).trans ?_
      rw [e0, e1, e2, e3, e4, e5]
      exact (Cert.OutRef.dw_eq _ _ _ _ _ _ D P Q H Y G W hD hP hQ hH hY hG hW).trans
        (Cert.OutValue.final8 m c D P Q H Y G W hD hP hQ hH hY hG hW).symm
    · have e : Cert.Reference4Ideal.Read.val_main_v49 (F := Ideal)
          (m' ((c : Thread Cert.Reference4Ideal.nD Cert.Reference4Ideal.τ).loc Cert.Reference4Ideal.main_arg1))
          (m' ((c : Thread Cert.Reference4Ideal.nD Cert.Reference4Ideal.τ).loc Cert.Reference4Ideal.main_arg2))
          (m' ((c : Thread Cert.Reference4Ideal.nD Cert.Reference4Ideal.τ).loc Cert.Reference4Ideal.main_arg3))
          (m' ((c : Thread Cert.Reference4Ideal.nD Cert.Reference4Ideal.τ).loc Cert.Reference4Ideal.main_arg5))
          = fun i : Cert.Kernel4Ideal.S1x1024.Idx => ((∑ n : Fin 16384, Cert.OutValue.gpart P Q H Y W (i 1) n.val : ℝ) : EReal) := by
        rw [e1, e2, e3, e5]
        exact Cert.OutRef.dg_eq _ _ _ _ P Q H Y W hP hQ hH hY hW
      have q := Cert.Reference4Ideal.Read.val_main_v49_eq (F := Ideal)
          (m' ((c : Thread Cert.Reference4Ideal.nD Cert.Reference4Ideal.τ).loc Cert.Reference4Ideal.main_arg1))
          (m' ((c : Thread Cert.Reference4Ideal.nD Cert.Reference4Ideal.τ).loc Cert.Reference4Ideal.main_arg2))
          (m' ((c : Thread Cert.Reference4Ideal.nD Cert.Reference4Ideal.τ).loc Cert.Reference4Ideal.main_arg3))
          (m' ((c : Thread Cert.Reference4Ideal.nD Cert.Reference4Ideal.τ).loc Cert.Reference4Ideal.main_arg5))
      exact q.trans (e.trans (Cert.OutValue.final9 m c P Q H Y W hP hQ hH hY hW).symm)

end Cert.OutClaim

end
-- ==== Proof.MixInValue.lean ====
/- What the input projection's backward call leaves in its three results, as functions of finite arguments. -/
module

public import proofs.«01_k».proof.Proof.Reals
public import proofs.«01_k».proof.Proof.Gen.Kernel5Ideal.Value
public import Idealize.ShloMosaic.Lib.Pointwise
public import Idealize.ShloMosaic.Lib.Pipeline.ValueKit
public import Idealize.ShloMosaic.Lib.Claim
public import Idealize.ShloMosaic.Lib.Pipeline.ReadBack

@[expose] public section

set_option maxRecDepth 16384

noncomputable section

namespace Cert.MixInValue

open Idealize.ShloMosaic Idealize.ShloMosaic.TcCoe Idealize.SL.Sem Cert.Kernel5Ideal Cert.Kernel5Ideal.Gen Cert.Reals

/-- A row of 2056 columns in the kernel's order, padded to 2176: the gate, the convolved rows and the pool input first, the steps last. -/
def ord (f : ℕ → ℝ) (c : ℕ) : ℝ := if c < 1536 then f c else if c < 2048 then f (c + 8) else if c < 2056 then f (c - 512) else 0

theorem ord_mul (f g : ℕ → ℝ) (c : ℕ) : ord f c * ord g c = ord (fun n => f n * g n) c := by
  unfold ord
  split_ifs <;> simp

/-- The order and the padding leave a sum over the columns as it was. -/
theorem ord_sum (f : ℕ → ℝ) : ∑ c : Fin 2176, ord f c.val = ∑ j : Fin 2056, f j.val := by
  rw [Fin.sum_univ_eq_sum_range (fun c => ord f c) 2176, Fin.sum_univ_eq_sum_range (fun j => f j) 2056,
    show 2176 = 1536 + 512 + 8 + 120 from rfl, show 2056 = 1536 + 8 + 512 from rfl]
  simp only [Finset.sum_range_add]
  have h1 : ∑ x ∈ Finset.range 1536, ord f x = ∑ x ∈ Finset.range 1536, f x :=
    Finset.sum_congr rfl fun x hx => if_pos (Finset.mem_range.mp hx)
  have h2 : ∑ x ∈ Finset.range 512, ord f (1536 + x) = ∑ x ∈ Finset.range 512, f (1536 + 8 + x) :=
    Finset.sum_congr rfl fun x hx => by
      have := Finset.mem_range.mp hx
      unfold ord
      rw [if_neg (by omega), if_pos (by omega)]
      exact congrArg f (by omega)
  have h3 : ∑ x ∈ Finset.range 8, ord f (1536 + 512 + x) = ∑ x ∈ Finset.range 8, f (1536 + x) :=
    Finset.sum_congr rfl fun x hx => by
      have := Finset.mem_range.mp hx
      unfold ord
      rw [if_neg (by omega), if_neg (by omega), if_pos (by omega)]
      exact congrArg f (by omega)
  have h4 : ∑ x ∈ Finset.range 120, ord f (1536 + 512 + 8 + x) = 0 :=
    Finset.sum_eq_zero fun x _ => by
      unfold ord
      rw [if_neg (by omega), if_neg (by omega), if_neg (by omega)]
  rw [h1, h2, h3, h4]
  ring

/-- A row's cotangent through the projection. -/
def dhn (p : ℕ → ℝ) (W : Fin 1024 → ℕ → ℝ) (l : Fin 1024) : ℝ := ∑ j : Fin 2056, p j.val * W l j.val

section payloads

variable (z : FVec Ideal S512x2048 .bf16) (s : FVec Ideal S512x128 .f32) (h d : FVec Ideal S512x1024 .f32) (g : FVec Ideal S1x1024 .f32)
  (w : FVec Ideal S1024x2176 .bf16)
  (P : Fin 512 → ℕ → ℝ) (X D : Fin 512 → Fin 1024 → ℝ) (G : Fin 1024 → ℝ) (W : Fin 1024 → ℕ → ℝ)
  (hZ : ∀ r (l : Fin 2048), z (ix2 r l) = ((ord (P r) l.val : ℝ) : EReal))
  (hS : ∀ r (l : Fin 128), s (ix2 r l) = ((ord (P r) (2048 + l.val) : ℝ) : EReal))
  (hX : ∀ r l, h (ix2 r l) = ((X r l : ℝ) : EReal)) (hD : ∀ r l, d (ix2 r l) = ((D r l : ℝ) : EReal))
  (hG : ∀ l, g (ix2 0 l) = ((G l : ℝ) : EReal))
  (hW : ∀ k (l : Fin 2176), w (ix2 k l) = ((ord (W k) l.val : ℝ) : EReal))

include hX in
theorem pay6 (r : Fin 512) : k0_pay6 (F := Ideal) h (ix2 r 0) = ((rinv (X r) : ℝ) : EReal) := by
  pointwise [k0_pay6]
  simp only [hX, c1024, cEps, rsqrt_row]

include hX in
theorem pay7 (r : Fin 512) (l : Fin 1024) : k0_pay7 (F := Ideal) h (ix2 r l) = ((X r l * rinv (X r) : ℝ) : EReal) := by
  have h6 := pay6 h X hX r
  pointwise [k0_pay7]
  rw [h6, hX, EReal.coe_mul]

include hZ hS in
theorem pay8 (r : Fin 512) (l : Fin 2176) : k0_pay8 (F := Ideal) z s (ix2 r l) = ((ord (P r) l.val : ℝ) : EReal) := by
  pointwise [k0_pay8]
  by_cases hl : l.val < 2048
  · rw [dif_pos hl]
    exact hZ r ⟨l.val, hl⟩
  · rw [dif_neg hl]
    refine (hS r ⟨l.val - 2048, by omega⟩).trans ?_
    rw [show 2048 + (l.val - 2048) = l.val by omega]

include hZ hS hW in
theorem pay9 (r : Fin 512) (l : Fin 1024) : k0_pay9 (F := Ideal) z s w (ix2 r l) = ((dhn (P r) W l : ℝ) : EReal) := by
  have h8 := pay8 z s P hZ hS
  pointwise [k0_pay9]
  simp only [h8, hW, ← EReal.coe_mul, sum_coe, ord_mul, ord_sum]
  rfl

include hZ hS hX hD hG hW in
/-- The rows' gradients. -/
theorem pay2 (r : Fin 512) (l : Fin 1024) :
    k0_pay2 (F := Ideal) (k0_pay6 h) (k0_pay7 h) (k0_pay11 g z s w) d (ix2 r l)
      = ((D r l + rmsGrad (X r) (fun l => dhn (P r) W l * G l) l : ℝ) : EReal) := by
  have h6 := pay6 h X hX
  have h7 := pay7 h X hX
  have h9 := pay9 z s w P W hZ hS hW
  pointwise [k0_pay2, k0_pay11, k0_pay5]
  simp only [h6, h7, h9, hG, hD, c1024, ← EReal.coe_mul, sum_coe, div_real _ _ (by norm_num : (1024 : ℝ) ≠ 0), ← EReal.coe_sub, ← EReal.coe_add]
  rfl

include hZ hS hX hG in
theorem pay10 (acc : FVec Ideal S1024x2176 .f32) (k : Fin 1024) (l : Fin 2176) :
    k0_pay10 (F := Ideal) g h z s acc (ix2 k l)
      = acc (ix2 k l) + ((∑ r : Fin 512, X r k * rinv (X r) * G k * ord (P r) l.val : ℝ) : EReal) := by
  have h7 := pay7 h X hX
  have h8 := pay8 z s P hZ hS
  pointwise [k0_pay10, k0_pay5]
  simp only [h7, h8, hG, ← EReal.coe_mul, sum_coe]

include hZ hS hX hW in
theorem pay1 (acc : FVec Ideal S1x1024 .f32) (l : Fin 1024) :
    k0_pay1 (F := Ideal) (k0_pay7 h) (k0_pay9 z s w) acc (ix2 0 l)
      = acc (ix2 0 l) + ((∑ r : Fin 512, dhn (P r) W l * (X r l * rinv (X r)) : ℝ) : EReal) := by
  have h7 := pay7 h X hX
  have h9 := pay9 z s w P W hZ hS hW
  pointwise [k0_pay1]
  simp only [h7, h9, ← EReal.coe_mul, sum_coe]

theorem pay3 (k : Fin 1024) (l : Fin 2176) : k0_pay3 (F := Ideal) (ix2 k l) = (0 : EReal) := by
  pointwise [k0_pay3]

theorem pay4 (l : Fin 1024) : k0_pay4 (F := Ideal) (ix2 0 l) = (0 : EReal) := by
  pointwise [k0_pay4]

end payloads

/-! ## The results -/

section results

variable (m : (ℓ : Loc nD τ sig) → Buf (Elt Ideal) ℓ) (c : Dev nD)
  (P : ℕ → ℕ → ℝ) (D H : ℕ → Fin 1024 → ℝ) (G : Fin 1024 → ℝ) (W : Fin 1024 → ℕ → ℝ)
  (hP : ∀ (r : Fin 16384) (l : Fin 2056), (m ((c : Thread nD τ).loc main_arg0) : FVec Ideal S16384x2056 .f32) (ix2 r l) = ((P r.val l.val : ℝ) : EReal))
  (hD : ∀ (r : Fin 16384) l, (m ((c : Thread nD τ).loc main_arg1) : FVec Ideal S16384x1024 .f32) (ix2 r l) = ((D r.val l : ℝ) : EReal))
  (hH : ∀ (r : Fin 16384) l, (m ((c : Thread nD τ).loc main_arg2) : FVec Ideal S16384x1024 .f32) (ix2 r l) = ((H r.val l : ℝ) : EReal))
  (hG : ∀ l, (m ((c : Thread nD τ).loc main_arg3) : FVec Ideal S1024 .f32) (ix1 l) = ((G l : ℝ) : EReal))
  (hW : ∀ k (l : Fin 2056), (m ((c : Thread nD τ).loc main_arg4) : FVec Ideal S1024x2056 .f32) (ix2 k l) = ((W k l.val : ℝ) : EReal))

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![t.val, 0] ∧ win0_7.index t = ![0, 0] :=
  (by decide +kernel : ∀ t : Fin grid0.N, _)

theorem lt32 (t : Fin cfg0.N) : t.val < 32 := lt_of_lt_of_eq t.isLt N_0

include hP in
theorem ent0 (r : Fin 16384) (l : Fin 2048) : (V m c main_v31 : FVec Ideal S16384x2048 .bf16) (ix2 r l) = ((ord (P r.val) l.val : ℝ) : EReal) := by
  have hP' := hP r
  entry_read
  pointwise
  unfold ord
  by_cases h1 : l.val < 1536
  · rw [dif_pos h1, if_pos h1]
    exact hP' ⟨l.val, by omega⟩
  · rw [dif_neg h1, if_neg h1, if_pos l.isLt]
    refine Eq.trans (congrArg _ (congrArg (ix2 r) (Fin.ext ?_))) (hP' ⟨l.val + 8, by omega⟩)
    show 1544 + (l.val - 1536) = l.val + 8
    omega

include hP in
theorem blk0 (t : Fin cfg0.N) (r : Fin 512) (l : Fin 2048) :
    (iblk m c 0 t : FVec Ideal S512x2048 .bf16) (ix2 r l) = ((ord (P (t.val * 512 + r.val)) l.val : ℝ) : EReal) := by
  have := lt32 t
  refine Eq.trans ?_ (ent0 m c P hP ⟨t.val * 512 + r.val, by omega⟩ l)
  blk_ext [iblk, idx t]

include hP in
theorem ent1 (r : Fin 16384) (l : Fin 128) : (V m c main_v34 : FVec Ideal S16384x128 .f32) (ix2 r l) = ((ord (P r.val) (2048 + l.val) : ℝ) : EReal) := by
  have hP' := hP r
  entry_read
  pointwise
  unfold ord
  rw [if_neg (by omega), if_neg (by omega)]
  by_cases h1 : l.val < 8
  · rw [dif_pos h1, if_pos (by omega)]
    refine Eq.trans (congrArg _ (congrArg (ix2 r) (Fin.ext ?_))) (hP' ⟨2048 + l.val - 512, by omega⟩)
    show 1536 + l.val = 2048 + l.val - 512
    omega
  · rw [dif_neg h1, if_neg (by omega)]
    rfl

include hP in
theorem blk1 (t : Fin cfg0.N) (r : Fin 512) (l : Fin 128) :
    (iblk m c 1 t : FVec Ideal S512x128 .f32) (ix2 r l) = ((ord (P (t.val * 512 + r.val)) (2048 + l.val) : ℝ) : EReal) := by
  have := lt32 t
  refine Eq.trans ?_ (ent1 m c P hP ⟨t.val * 512 + r.val, by omega⟩ l)
  blk_ext [iblk, idx t]

include hH in
theorem blk2 (t : Fin cfg0.N) (r : Fin 512) (l : Fin 1024) :
    (iblk m c 2 t : FVec Ideal S512x1024 .f32) (ix2 r l) = ((H (t.val * 512 + r.val) l : ℝ) : EReal) := by
  have := lt32 t
  refine Eq.trans ?_ (hH ⟨t.val * 512 + r.val, by omega⟩ l)
  blk_ext [iblk, V, idx t]

include hD in
theorem blk3 (t : Fin cfg0.N) (r : Fin 512) (l : Fin 1024) :
    (iblk m c 3 t : FVec Ideal S512x1024 .f32) (ix2 r l) = ((D (t.val * 512 + r.val) l : ℝ) : EReal) := by
  have := lt32 t
  refine Eq.trans ?_ (hD ⟨t.val * 512 + r.val, by omega⟩ l)
  blk_ext [iblk, V, idx t]

include hG in
theorem blk4 (t : Fin cfg0.N) (l : Fin 1024) : (iblk m c 4 t : FVec Ideal S1x1024 .f32) (ix2 0 l) = ((G l : ℝ) : EReal) := by
  refine Eq.trans ?_ (hG l)
  blk_simp [iblk, idx t]
  entry_read
  pointwise
  blk_ext [idx t]

theorem v27_eq : V m c main_v27 = concatenate S1024x2176 1 [⟨S1024x514, V m c main_v11⟩, ⟨S1024x514, V m c main_v13⟩, ⟨S1024x508, V m c main_v16⟩,
    ⟨S1024x512, V m c main_v19⟩, ⟨S1024x6, V m c main_v22⟩, ⟨S1024x2, V m c main_v25⟩, ⟨S1024x120, V m c main_v26⟩]
    concatenates_S1024x514_S1024x514_S1024x508_S1024x512_S1024x6_S1024x2_S1024x120_S1024x2176_d1 := by
  sl_kernel_rfl

theorem v8_eq : V m c main_v8 = concatenate S4x1024x514 0 [⟨S1x1024x514, V m c main_v4⟩, ⟨S1x1024x514, V m c main_v5⟩, ⟨S1x1024x514, V m c main_v6⟩,
    ⟨S1x1024x514, V m c main_v7⟩] concatenates_S1x1024x514_S1x1024x514_S1x1024x514_S1x1024x514_S4x1024x514_d0 := by
  sl_kernel_rfl

include hW in
theorem v4_eq (k : Fin 1024) (l : Fin 514) : (V m c main_v4 : FVec Ideal S1x1024x514 .f32) (ix3 0 k l) = ((W k l.val : ℝ) : EReal) := by
  refine Eq.trans ?_ (hW k ⟨l.val, by omega⟩)
  entry_read
  pointwise

include hW in
theorem v5_eq (k : Fin 1024) (l : Fin 514) : (V m c main_v5 : FVec Ideal S1x1024x514 .f32) (ix3 0 k l) = ((W k (514 + l.val) : ℝ) : EReal) := by
  refine Eq.trans ?_ (hW k ⟨514 + l.val, by omega⟩)
  entry_read
  pointwise

include hW in
theorem v6_eq (k : Fin 1024) (l : Fin 514) : (V m c main_v6 : FVec Ideal S1x1024x514 .f32) (ix3 0 k l) = ((W k (1028 + l.val) : ℝ) : EReal) := by
  refine Eq.trans ?_ (hW k ⟨1028 + l.val, by omega⟩)
  entry_read
  pointwise

include hW in
theorem v7_eq (k : Fin 1024) (l : Fin 514) : (V m c main_v7 : FVec Ideal S1x1024x514 .f32) (ix3 0 k l) = ((W k (1542 + l.val) : ℝ) : EReal) := by
  refine Eq.trans ?_ (hW k ⟨1542 + l.val, by omega⟩)
  entry_read
  pointwise

include hW in
theorem v9_eq (a : Fin 4) (k : Fin 1024) (l : Fin 514) : (V m c main_v9 : FVec Ideal S4x1024x514 .bf16) (ix3 a k l) = ((W k (514 * a.val + l.val) : ℝ) : EReal) := by
  refine Eq.trans (b := (V m c main_v8 : FVec Ideal S4x1024x514 .f32) (ix3 a k l)) rfl ?_
  rw [v8_eq]
  have h4 := v4_eq m c W hW
  have h5 := v5_eq m c W hW
  have h6 := v6_eq m c W hW
  have h7 := v7_eq m c W hW
  fin_cases a <;> pointwise
  · exact (h4 k l).trans (by simp)
  · exact (h5 k l).trans (by simp)
  · exact (h6 k l).trans (by simp)
  · exact (h7 k l).trans (by simp)

theorem v16_eq : V m c main_v16 = extractStridedSlice S1024x508 ![0, 0] (V m c main_v15) slices_S1024x514_S1024x508_0_0 := by
  sl_kernel_rfl

theorem v19_eq : V m c main_v19 = extractStridedSlice S1024x512 ![0, 2] (V m c main_v18) slices_S1024x514_S1024x512_0_2 := by
  sl_kernel_rfl

theorem v22_eq : V m c main_v22 = extractStridedSlice S1024x6 ![0, 508] (V m c main_v21) slices_S1024x514_S1024x6_0_508 := by
  sl_kernel_rfl

theorem v25_eq : V m c main_v25 = extractStridedSlice S1024x2 ![0, 0] (V m c main_v24) slices_S1024x514_S1024x2_0_0 := by
  sl_kernel_rfl

set_option maxHeartbeats 1000000 in
include hW in
theorem ent5 (k : Fin 1024) (l : Fin 2176) :
    (V m c main_v27 : FVec Ideal S1024x2176 .bf16) (ix2 k l) = ((ord (W k) l.val : ℝ) : EReal) := by
  have h9 := v9_eq m c W hW
  have h11 : ∀ l : Fin 514, (V m c main_v11 : FVec Ideal S1024x514 .bf16) (ix2 k l) = ((W k l.val : ℝ) : EReal) := fun l => by
    refine Eq.trans (b := shapeCast S1024x514 (extractStridedSlice S1x1024x514 ![0, 0, 0] (V m c main_v9) slices_S4x1024x514_S1x1024x514_0_0_0) shapeCasts_S1x1024x514_S1024x514 (ix2 k l)) rfl ?_
    pointwise
    exact (h9 0 k l).trans (by simp)
  have h13 : ∀ l : Fin 514, (V m c main_v13 : FVec Ideal S1024x514 .bf16) (ix2 k l) = ((W k (514 + l.val) : ℝ) : EReal) := fun l => by
    refine Eq.trans (b := shapeCast S1024x514 (extractStridedSlice S1x1024x514 ![1, 0, 0] (V m c main_v9) slices_S4x1024x514_S1x1024x514_1_0_0) shapeCasts_S1x1024x514_S1024x514 (ix2 k l)) rfl ?_
    pointwise
    exact (h9 1 k l).trans (by simp)
  have h15 : ∀ l : Fin 514, (V m c main_v15 : FVec Ideal S1024x514 .bf16) (ix2 k l) = ((W k (1028 + l.val) : ℝ) : EReal) := fun l => by
    refine Eq.trans (b := shapeCast S1024x514 (extractStridedSlice S1x1024x514 ![2, 0, 0] (V m c main_v9) slices_S4x1024x514_S1x1024x514_2_0_0) shapeCasts_S1x1024x514_S1024x514 (ix2 k l)) rfl ?_
    pointwise
    exact (h9 2 k l).trans (by simp)
  have h18 : ∀ l : Fin 514, (V m c main_v18 : FVec Ideal S1024x514 .bf16) (ix2 k l) = ((W k (1542 + l.val) : ℝ) : EReal) := fun l => by
    refine Eq.trans (b := shapeCast S1024x514 (extractStridedSlice S1x1024x514 ![3, 0, 0] (V m c main_v9) slices_S4x1024x514_S1x1024x514_3_0_0) shapeCasts_S1x1024x514_S1024x514 (ix2 k l)) rfl ?_
    pointwise
    exact (h9 3 k l).trans (by simp)
  have h16 : ∀ l : Fin 508, (V m c main_v16 : FVec Ideal S1024x508 .bf16) (ix2 k l) = ((W k (1028 + l.val) : ℝ) : EReal) := fun l => by
    rw [v16_eq]
    pointwise
    exact h15 ⟨l.val, by omega⟩
  have h19 : ∀ l : Fin 512, (V m c main_v19 : FVec Ideal S1024x512 .bf16) (ix2 k l) = ((W k (1544 + l.val) : ℝ) : EReal) := fun l => by
    rw [v19_eq]
    pointwise
    refine (h18 ⟨2 + l.val, by omega⟩).trans ?_
    rw [show 1542 + (2 + l.val) = 1544 + l.val by omega]
  have h21 : ∀ l : Fin 514, (V m c main_v21 : FVec Ideal S1024x514 .bf16) (ix2 k l) = ((W k (1028 + l.val) : ℝ) : EReal) := fun l => by
    refine Eq.trans (b := shapeCast S1024x514 (extractStridedSlice S1x1024x514 ![2, 0, 0] (V m c main_v9) slices_S4x1024x514_S1x1024x514_2_0_0) shapeCasts_S1x1024x514_S1024x514 (ix2 k l)) rfl ?_
    pointwise
    exact (h9 2 k l).trans (by simp)
  have h24 : ∀ l : Fin 514, (V m c main_v24 : FVec Ideal S1024x514 .bf16) (ix2 k l) = ((W k (1542 + l.val) : ℝ) : EReal) := fun l => by
    refine Eq.trans (b := shapeCast S1024x514 (extractStridedSlice S1x1024x514 ![3, 0, 0] (V m c main_v9) slices_S4x1024x514_S1x1024x514_3_0_0) shapeCasts_S1x1024x514_S1024x514 (ix2 k l)) rfl ?_
    pointwise
    exact (h9 3 k l).trans (by simp)
  have h22 : ∀ l : Fin 6, (V m c main_v22 : FVec Ideal S1024x6 .bf16) (ix2 k l) = ((W k (1536 + l.val) : ℝ) : EReal) := fun l => by
    rw [v22_eq]
    pointwise
    refine (h21 ⟨508 + l.val, by omega⟩).trans ?_
    rw [show 1028 + (508 + l.val) = 1536 + l.val by omega]
  have h25 : ∀ l : Fin 2, (V m c main_v25 : FVec Ideal S1024x2 .bf16) (ix2 k l) = ((W k (1542 + l.val) : ℝ) : EReal) := fun l => by
    rw [v25_eq]
    pointwise
    exact h24 ⟨l.val, by omega⟩
  have h26 : ∀ l : Fin 120, (V m c main_v26 : FVec Ideal S1024x120 .bf16) (ix2 k l) = ((0 : ℝ) : EReal) := fun l => by
    entry_read
    pointwise
    exact EReal.coe_zero.symm
  rw [v27_eq]
  pointwise
  simp only [h11, h13, h16, h19, h22, h25, h26]
  unfold ord
  split_ifs <;> first | rfl | exact congrArg (fun n => ((W k n : ℝ) : EReal)) (by omega) | omega

include hW in
theorem blk5 (t : Fin cfg0.N) (k : Fin 1024) (l : Fin 2176) :
    (iblk m c 5 t : FVec Ideal S1024x2176 .bf16) (ix2 k l) = ((ord (W k) l.val : ℝ) : EReal) := by
  refine Eq.trans ?_ (ent5 m c W hW k l)
  blk_ext [iblk, idx t]

/-- Row `n`'s gradient. -/
def dh (n : ℕ) (l : Fin 1024) : ℝ := D n l + rmsGrad (H n) (fun l => dhn (P n) W l * G l) l

/-- Row `n`'s part of the projection's gradient, at a column of the reference's order. -/
def wpart (k : Fin 1024) (n j : ℕ) : ℝ := H n k * rinv (H n) * G k * P n j

/-- Row `n`'s part of the gain's gradient. -/
def gpart (l : Fin 1024) (n : ℕ) : ℝ := dhn (P n) W l * (H n l * rinv (H n))

include hP hD hH hG hW in
theorem out6 (t : Fin cfg0.N) (y : S512x1024.Idx) :
    (outsAt0 m c t.val t.isLt).1 y = ((dh P D H G W (t.val * 512 + (y 0).val) (y 1) : ℝ) : EReal) := by
  have key := pay2 (iblk m c 0 t) (iblk m c 1 t) (iblk m c 2 t) (iblk m c 3 t) (iblk m c 4 t) (iblk m c 5 t)
    (fun r => P (t.val * 512 + r.val)) (fun r => H (t.val * 512 + r.val)) (fun r => D (t.val * 512 + r.val)) G W
    (blk0 m c P hP t) (blk1 m c P hP t) (blk2 m c H hH t) (blk3 m c D hD t) (blk4 m c G hG t) (blk5 m c W hW t) (y 0) (y 1)
  refine Eq.trans ?_ key
  rw [← eq_ix2 y]
  have := lt32 t
  by_cases ht : t.val % 32 = 0
  · rw [outsAt0_A m c t ht (by omega)]
    frame_out
  · by_cases ht' : t.val % 32 = 31
    · rw [outsAt0_C m c t ht ht']
      frame_out
    · rw [outsAt0_B m c t ht ht']
      frame_out

include hP hH hW in
theorem out7 (l : Fin 1024) (n : ℕ) (hn : n < cfg0.N) :
    (outsAt0 m c n hn).2.1 (ix2 0 l)
      = ((∑ p ∈ Finset.range (n + 1), ∑ r : Fin 512, gpart P H W l (p * 512 + r.val) : ℝ) : EReal) := by
  have key := fun t : Fin cfg0.N => pay1 (iblk m c 0 t) (iblk m c 1 t) (iblk m c 2 t) (iblk m c 5 t)
    (fun r => P (t.val * 512 + r.val)) (fun r => H (t.val * 512 + r.val)) W
    (blk0 m c P hP t) (blk1 m c P hP t) (blk2 m c H hH t) (blk5 m c W hW t)
  refine run_sum (fun n hn => (outsAt0 m c n hn).2.1 (ix2 0 l)) (fun p => ∑ r : Fin 512, gpart P H W l (p * 512 + r.val))
    (fun h => ?_) (fun n h => ?_) n hn
  · beta_reduce
    rw [outsAt0_A m c ⟨0, h⟩ rfl (by show ¬ 0 % 32 = 31; decide)]
    frame_out
    refine (key ⟨0, h⟩ _ _).trans ?_
    rw [pay4, zero_add]
    rfl
  · have h32 : n + 1 < 32 := lt32 ⟨n + 1, h⟩
    beta_reduce
    by_cases ht : (n + 1) % 32 = 31
    · rw [outsAt0_C m c ⟨n + 1, h⟩ (by show ¬ (n + 1) % 32 = 0; omega) ht]
      frame_out
      exact key ⟨n + 1, h⟩ _ _
    · rw [outsAt0_B m c ⟨n + 1, h⟩ (by show ¬ (n + 1) % 32 = 0; omega) ht]
      frame_out
      exact key ⟨n + 1, h⟩ _ _

include hP hH hG in
theorem acc (k : Fin 1024) (l : Fin 2176) (n : ℕ) (hn : n < cfg0.N) :
    (outsAt0 m c n hn).2.2.1 (ix2 k l)
      = ((∑ p ∈ Finset.range (n + 1), ∑ r : Fin 512, ord (fun j => wpart P H G k (p * 512 + r.val) j) l.val : ℝ) : EReal) := by
  have mul : ∀ (x : ℝ) (f : ℕ → ℝ) (n : ℕ), x * ord f n = ord (fun j => x * f j) n := fun x f n => by
    unfold ord
    split_ifs <;> simp
  have key := fun t : Fin cfg0.N => pay10 (iblk m c 0 t) (iblk m c 1 t) (iblk m c 2 t) (iblk m c 4 t)
    (fun r => P (t.val * 512 + r.val)) (fun r => H (t.val * 512 + r.val)) G
    (blk0 m c P hP t) (blk1 m c P hP t) (blk2 m c H hH t) (blk4 m c G hG t)
  simp only [mul] at key
  refine run_sum (fun n hn => (outsAt0 m c n hn).2.2.1 (ix2 k l))
    (fun p => ∑ r : Fin 512, ord (fun j => wpart P H G k (p * 512 + r.val) j) l.val) (fun h => ?_) (fun n h => ?_) n hn
  · beta_reduce
    rw [outsAt0_A m c ⟨0, h⟩ rfl (by show ¬ 0 % 32 = 31; decide)]
    frame_out
    refine (key ⟨0, h⟩ _ _ _).trans ?_
    rw [pay3, zero_add]
    rfl
  · have h32 : n + 1 < 32 := lt32 ⟨n + 1, h⟩
    beta_reduce
    by_cases ht : (n + 1) % 32 = 31
    · rw [outsAt0_C m c ⟨n + 1, h⟩ (by show ¬ (n + 1) % 32 = 0; omega) ht]
      frame_out
      refine (key ⟨n + 1, h⟩ _ _ _).trans ?_
      rw [read_unread_whole]
      rfl
    · rw [outsAt0_B m c ⟨n + 1, h⟩ (by show ¬ (n + 1) % 32 = 0; omega) ht]
      frame_out
      refine (key ⟨n + 1, h⟩ _ _ _).trans ?_
      rw [read_unread_whole]
      rfl

/-- The last point copies the accumulated gradient out. -/
theorem copied (h : 31 < cfg0.N) : (outsAt0 m c 31 h).2.2.2 = (outsAt0 m c 31 h).2.2.1 := by
  rw [outsAt0_C m c ⟨31, h⟩ (by show ¬ 31 % 32 = 0; decide) rfl]
  dsimp only
  unfold hbw0_C_0 kernelRun0_C
  dsimp only
  unfold kernelRun0_C.sl.dma14
  refine (View.write_whole_univ _ _ _).trans ?_
  funext y
  exact View.read_writes_apply_eq _ _ _ _ y _ (scover0_C_0 c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) (ms0_3 ⟨31, h⟩) (hs0_3 ⟨31, h⟩) (ms0_4 ⟨31, h⟩) (hs0_4 ⟨31, h⟩) (ms0_5 ⟨31, h⟩) (hs0_5 ⟨31, h⟩) (ms0_6 ⟨31, h⟩) (hs0_6 ⟨31, h⟩) (ms0_7 ⟨31, h⟩) (hs0_7 ⟨31, h⟩)
    scM0_0 (Memref.isWhole_whole _) (fun h' => absurd ((hcond0_0 ⟨31, h⟩).mp h') (by show ¬ 31 % 32 = 0; decide)) ((hcond0_1 ⟨31, h⟩).mpr rfl)
    (iblk m c 0 ⟨31, h⟩) (iblk m c 1 ⟨31, h⟩) (iblk m c 2 ⟨31, h⟩) (iblk m c 3 ⟨31, h⟩) (iblk m c 4 ⟨31, h⟩) (iblk m c 5 ⟨31, h⟩)
    (outsAt0 m c 30 (by omega)).2.1 (outsAt0 m c 30 (by omega)).2.2.1 (outsAt0 m c 30 (by omega)).2.2.2 y)

include hP hD hH hG hW in
/-- The rows' gradients. -/
theorem final6 : (dats m 0 c).arrAt 6 (cfgs 0).N
    = fun i : S16384x1024.Idx => ((dh P D H G W (i 0).val (i 1) : ℝ) : EReal) := by
  refine (dats m 0 c).arrAt_eq_of_covers 6 _ (by decide +kernel) fun t hf y => ?_
  blk_simp
  rw [after0_6]
  refine (out6 m c P D H G W hP hD hH hG hW t y).trans ?_
  have h0 : win0_6.index t 0 = t.val := by rw [(idx t).2.2.2.2.2.2.1]; rfl
  have h1 : (win0_6.blk t).view.emb y 1 = (y 1 : Fin 1024) := by
    refine Fin.ext ?_
    blk_simp [idx t]
  rw [h0, h1]

include hP hH hW in
/-- The gain's gradient. -/
theorem final7 : (dats m 0 c).arrAt 7 (cfgs 0).N
    = fun i : S1x1024.Idx => ((∑ n : Fin 16384, gpart P H W (i 1) n.val : ℝ) : EReal) := by
  refine (dats m 0 c).arrAt_eq_of_covers 7 _ (by decide +kernel) fun t hf y => ?_
  blk_simp
  rw [after0_7]
  have hy : y = (ix2 0 (y 1 : Fin 1024) : S1x1024.Idx) := by
    refine (eq_ix2 (y : S1x1024.Idx)).trans (congrArg (fun a : Fin 1 => (ix2 a (y 1 : Fin 1024) : S1x1024.Idx)) (Subsingleton.elim _ _))
  have h1 : (win0_7.blk t).view.emb y 1 = (y 1 : Fin 1024) := by
    refine Fin.ext ?_
    blk_simp [idx t]
  have ht : t.val + 1 = 32 := by have := (flush0_7 t).mp hf; have := lt32 t; omega
  rw [h1]
  refine (congrArg (outsAt0 m c t.val t.isLt).2.1 hy).trans
    ((out7 m c P H W hP hH hW (y 1) t.val t.isLt).trans ?_)
  rw [ht, sum_blocks 32 512]

include hP hH hG in
/-- The projection's gradient, in the kernel's column order. -/
theorem finalW (k : Fin 1024) (l : Fin 2176) (n : ℕ) (hn : n < cfg0.N) (h31 : n = 31) :
    ((outsAt0 m c n hn).2.2.2 : FVec Ideal S1024x2176 .f32) (ix2 k l)
      = ((ord (fun j => ∑ n : Fin 16384, wpart P H G k n.val j) l.val : ℝ) : EReal) := by
  subst h31
  rw [copied m c hn]
  refine (acc m c P H G hP hH hG k l 31 hn).trans ?_
  rw [sum_blocks 32 512 (fun n => ord (fun j => wpart P H G k n j) l.val)]
  refine congrArg _ ?_
  unfold ord
  split_ifs <;> simp

end results

end Cert.MixInValue

end
-- ==== Proof.MixInRef.lean ====
/- The input projection's gradients, as the reference computes them. -/
module

public import proofs.«01_k».proof.Proof.MixInValue
public import proofs.«01_k».proof.Proof.Gen.Reference5Ideal.Read

@[expose] public section

set_option maxRecDepth 16384

noncomputable section

namespace Cert.MixInRef

open Idealize.ShloMosaic Cert.Reference5Ideal Cert.Reference5Ideal.Read Cert.Reals Cert.MixInValue

variable (p : FVec Ideal S16384x2056 .f32) (d h : FVec Ideal S16384x1024 .f32) (g : FVec Ideal S1024 .f32) (w : FVec Ideal S1024x2056 .f32)
  (P : ℕ → ℕ → ℝ) (D H : ℕ → Fin 1024 → ℝ) (G : Fin 1024 → ℝ) (W : Fin 1024 → ℕ → ℝ)
  (hP : ∀ (r : Fin 16384) (l : Fin 2056), p (ix2 r l) = ((P r.val l.val : ℝ) : EReal))
  (hD : ∀ (r : Fin 16384) l, d (ix2 r l) = ((D r.val l : ℝ) : EReal))
  (hH : ∀ (r : Fin 16384) l, h (ix2 r l) = ((H r.val l : ℝ) : EReal)) (hG : ∀ l, g (ix1 l) = ((G l : ℝ) : EReal))
  (hW : ∀ k (l : Fin 2056), w (ix2 k l) = ((W k l.val : ℝ) : EReal))

include hH in
theorem v6 (r : Fin 16384) : val_main_v6 (F := Ideal) h (ix2 r 0) = ((msq (H r) + eps : ℝ) : EReal) := by
  pointwise [val_main_v6, val_main_v5, val_main_v4, val_main_v3, val_main_v2, val_main_v1, val_main_v0, val_main_cst, val_main_cst_0, val_main_cst_1]
  simp only [hH, c1024, cEps, ← EReal.coe_mul, sum_coe, div_real _ _ (by norm_num : (1024 : ℝ) ≠ 0), ← EReal.coe_add]
  rfl

include hH in
theorem v7 (r : Fin 16384) : val_main_v7 (F := Ideal) h (ix2 r 0) = ((rinv (H r) : ℝ) : EReal) := by
  have h6 := v6 h H hH r
  have hp := msq_eps_pos (H r)
  pointwise [val_main_v7]
  rw [h6, Ideal.rsqrt_coe, if_neg (not_lt.mpr hp.le), if_neg hp.ne']
  rfl

include hH in
theorem v10 (r : Fin 16384) : val_main_v10 (F := Ideal) h (ix2 r 0) = ((-(1 / 2) * (rinv (H r) / (msq (H r) + eps)) : ℝ) : EReal) := by
  have h6 := v6 h H hH r
  have h7 := v7 h H hH r
  pointwise [val_main_v10, val_main_v9, val_main_v8, val_main_cst_2]
  rw [h6, h7, cNegHalf, div_real _ _ (msq_eps_pos (H r)).ne', ← EReal.coe_mul]

include hH in
theorem v12 (r : Fin 16384) (l : Fin 1024) : val_main_v12 (F := Ideal) h (ix2 r l) = ((H r l * rinv (H r) : ℝ) : EReal) := by
  have h7 := v7 h H hH r
  pointwise [val_main_v12, val_main_v11]
  rw [h7, hH, EReal.coe_mul]

include hP hW in
theorem v19 (r : Fin 16384) (l : Fin 1024) : val_main_v19 (F := Ideal) p w (ix2 r l) = ((dhn (P r) W l : ℝ) : EReal) := by
  pointwise [val_main_v19]
  simp only [hP, hW, ← EReal.coe_mul, sum_coe]
  rfl

include hP hH hG in
/-- The projection's gradient in the reference's column order. -/
theorem v18 (k : Fin 1024) (l : Fin 2056) : val_main_v18 (F := Ideal) p h g (ix2 k l)
    = ((∑ n : Fin 16384, wpart P H G k n.val l.val : ℝ) : EReal) := by
  have h12 := v12 h H hH
  pointwise [val_main_v18, val_main_v17, val_main_v15, val_main_v14, val_main_v13]
  simp only [h12, hP, hG, ← EReal.coe_mul, sum_coe]
  refine congrArg (fun r : ℝ => (r : EReal)) (Finset.sum_congr rfl fun n _ => ?_)
  unfold wpart
  ring

include hP hD hH hG hW in
/-- The rows' gradients. -/
theorem dh_eq : val_main_v40 (F := Ideal) p d h g w
    = fun i : S16384x1024.Idx => ((dh P D H G W (i 0).val (i 1) : ℝ) : EReal) := by
  funext i
  obtain ⟨r, l, rfl⟩ : ∃ (r : Fin 16384) (l : Fin 1024), i = ix2 r l := ⟨i 0, i 1, eq_ix2 i⟩
  have h7 := v7 h H hH r
  have h10 := v10 h H hH r
  have h19 := v19 p w P W hP hW r
  pointwise [val_main_v40, val_main_v39, val_main_v38, val_main_v37, val_main_v36, val_main_v35, val_main_v34, val_main_v33, val_main_v32,
    val_main_v31, val_main_v30, val_main_v29, val_main_v28, val_main_v27, val_main_v26, val_main_v24, val_main_v23, val_main_v13,
    val_main_cst_5, val_main_cst_6, val_main_cst_7]
  simp only [Fin.sum_univ_one, h7, h10, h19, hH, hD, hG, c1024, ← EReal.coe_mul, sum_coe, div_real _ _ (by norm_num : (1024 : ℝ) ≠ 0), ← EReal.coe_add]
  refine congrArg (fun r : ℝ => (r : EReal)) ?_
  unfold dh
  rw [← rmsGrad_eq]
  ring

include hP hH hW in
/-- The gain's gradient. -/
theorem dg_eq : val_main_v46 (F := Ideal) p h w
    = fun i : S1x1024.Idx => ((∑ n : Fin 16384, gpart P H W (i 1) n.val : ℝ) : EReal) := by
  funext i
  obtain ⟨a, l, rfl⟩ : ∃ (a : Fin 1) (l : Fin 1024), i = ix2 a l := ⟨i 0, i 1, eq_ix2 i⟩
  obtain rfl : a = 0 := Subsingleton.elim _ _
  have h12 := v12 h H hH
  have h19 := v19 p w P W hP hW
  pointwise [val_main_v46, val_main_v25, val_main_v22, val_main_v21, val_main_v20, val_main_cst_3, val_main_cst_4]
  simp only [Fin.sum_univ_one, h12, h19, ← EReal.coe_mul, sum_coe]
  refine congrArg (fun r : ℝ => (r : EReal)) (Finset.sum_congr rfl fun n _ => ?_)
  rw [mul_comm]
  rfl

/-- The layout of a gradient in the kernel's column order. -/
theorem v45 (T : ℕ → ℝ) (k : Fin 1024) (h18 : ∀ l : Fin 2056, val_main_v18 (F := Ideal) p h g (ix2 k l) = ((T l.val : ℝ) : EReal)) (l : Fin 2176) :
    val_main_v45 (F := Ideal) p h g (ix2 k l) = ((ord T l.val : ℝ) : EReal) := by
  pointwise [val_main_v45, val_main_v44, val_main_v43, val_main_v42, val_main_v41, val_main_cst_8]
  simp only [h18]
  have e : ∀ a b : ℕ, a = b → ((T a : ℝ) : EReal) = ((T b : ℝ) : EReal) := fun a b h => by rw [h]
  unfold ord
  by_cases h1 : l.val < 1536
  · rw [dif_pos h1, if_pos h1]
  · rw [dif_neg h1, if_neg h1]
    by_cases h2 : l.val < 2048
    · rw [dif_pos (by omega), if_pos h2]
      exact e _ _ (by omega)
    · rw [dif_neg (by omega), if_neg h2]
      by_cases h3 : l.val < 2056
      · rw [dif_pos (by omega), if_pos h3]
        exact e _ _ (by omega)
      · rw [dif_neg (by omega), if_neg h3]
        exact EReal.coe_zero.symm

include hP hH hG in
/-- The projection's gradient, laid out in the kernel's column order. -/
theorem dw_eq : val_main_v45 (F := Ideal) p h g
    = fun i : S1024x2176.Idx => ((ord (fun j => ∑ n : Fin 16384, wpart P H G (i 0) n.val j) (i 1).val : ℝ) : EReal) := by
  funext i
  obtain ⟨k, l, rfl⟩ : ∃ (k : Fin 1024) (l : Fin 2176), i = ix2 k l := ⟨i 0, i 1, eq_ix2 i⟩
  exact v45 p h g (fun j => ∑ n : Fin 16384, wpart P H G k n.val j) k (fun l => v18 p h g P H G hP hH hG k l) l

end Cert.MixInRef

end
-- ==== Proof.MixInClaim.lean ====
/- The input projection's three gradients are the reference's, at finite arguments. -/
module

public import proofs.«01_k».proof.Defs
public import proofs.«01_k».proof.Proof.MixInRef
public import proofs.«01_k».proof.Proof.Gen.Pre_mix_in_finite
public import Idealize.ShloMosaic.Lib.Claim
public import Idealize.ShloMosaic.Lib.Quiescent

@[expose] public section

set_option maxRecDepth 16384

noncomputable section

namespace Cert.MixInClaim

open Idealize.ShloMosaic Idealize.ShloMosaic.TcCoe Idealize.SL.Sem

/-- Finite arguments of the input projection are arrays of reals. -/
theorem mix_in_reals (p : FVec Ideal Cert.Kernel5Ideal.S16384x2056 .f32) (d h : FVec Ideal Cert.Kernel5Ideal.S16384x1024 .f32)
    (g : FVec Ideal Cert.Kernel5Ideal.S1024 .f32) (w : FVec Ideal Cert.Kernel5Ideal.S1024x2056 .f32)
    (hp : Cert.Pre_mix_in_finite.fn (F := Ideal) p d h g w = fun _ => 1#1) :
    ∃ (P : ℕ → ℕ → ℝ) (D H : ℕ → Fin 1024 → ℝ) (G : Fin 1024 → ℝ) (W : Fin 1024 → ℕ → ℝ),
      (∀ (r : Fin 16384) (l : Fin 2056), p (ix2 r l) = ((P r.val l.val : ℝ) : EReal)) ∧ (∀ (r : Fin 16384) l, d (ix2 r l) = ((D r.val l : ℝ) : EReal))
      ∧ (∀ (r : Fin 16384) l, h (ix2 r l) = ((H r.val l : ℝ) : EReal)) ∧ (∀ l, g (ix1 l) = ((G l : ℝ) : EReal))
      ∧ ∀ k (l : Fin 2056), w (ix2 k l) = ((W k l.val : ℝ) : EReal) := by
  have h0 := congrFun hp (fun a => a.elim0)
  dsimp only [Cert.Pre_mix_in_finite.fn, Cert.Pre_mix_in_finite.fn_part1] at h0
  obtain ⟨h1, h5⟩ := IntOp.andi_eq_one.mp h0
  obtain ⟨h1, h4⟩ := IntOp.andi_eq_one.mp h1
  obtain ⟨h1, h3⟩ := IntOp.andi_eq_one.mp h1
  obtain ⟨h1, h2⟩ := IntOp.andi_eq_one.mp h1
  obtain ⟨X1, hX1⟩ := Cert.Reals.reals_of_finite p _ _ _ _ _ _ h1
  obtain ⟨X2, hX2⟩ := Cert.Reals.reals_of_finite d _ _ _ _ _ _ h2
  obtain ⟨X3, hX3⟩ := Cert.Reals.reals_of_finite h _ _ _ _ _ _ h3
  obtain ⟨X4, hX4⟩ := Cert.Reals.reals_of_finite g _ _ _ _ _ _ h4
  obtain ⟨X5, hX5⟩ := Cert.Reals.reals_of_finite w _ _ _ _ _ _ h5
  obtain ⟨D, hD⟩ := Cert.Reals.rows_of d X2 hX2
  obtain ⟨H, hH⟩ := Cert.Reals.rows_of h X3 hX3
  refine ⟨fun r l => if h : r < 16384 ∧ l < 2056 then X1 (ix2 ⟨r, h.1⟩ ⟨l, h.2⟩) else 0, D, H, fun l => X4 (ix1 l),
    fun k l => if h : l < 2056 then X5 (ix2 k ⟨l, h⟩) else 0, fun r l => ?_, hD, hH, fun l => hX4 _, fun k l => ?_⟩
  · have h : (if h : r.val < 16384 ∧ l.val < 2056 then X1 (ix2 ⟨r.val, h.1⟩ ⟨l.val, h.2⟩) else 0) = X1 (ix2 r l) := dif_pos ⟨r.isLt, l.isLt⟩
    exact (hX1 _).trans (congrArg (fun x : ℝ => (x : EReal)) h.symm)
  · have h : (if h : l.val < 2056 then X5 (ix2 k ⟨l.val, h⟩) else 0) = X5 (ix2 k l) := dif_pos l.isLt
    exact (hX5 _).trans (congrArg (fun x : ℝ => (x : EReal)) h.symm)

theorem frame_reference : Cert.quiescent_Reference5Ideal := fun m g _ =>
  (θ_run (Cert.Reference5Ideal.defs (F := Ideal)) _ _).mono
    (fun r h => ⟨fun c => (h c).2.2.2, sem_eq_zero_of_no_sems (by decide) r.2⟩)
    (Cert.Reference5Ideal.Value.run m g)

set_option maxHeartbeats 4000000 in
theorem algebraic : Cert.algebraic_Kernel5Ideal_Reference5Ideal_pre_mix_in_finite := by
  intro m g m' g' hpre hagree
  refine ⟨fun c => (Cert.Kernel5Ideal.Gen.dats m 0 c).arrAt 6 (Cert.Kernel5Ideal.cfgs 0).N,
    fun c => (Cert.Kernel5Ideal.Gen.outsAt0 m c ((Fin.last Cert.Kernel5Ideal.cfg0.N).val - 1)
      (by rw [Fin.val_last]; have : Cert.Kernel5Ideal.cfg0.N = 32 := Cert.Kernel5Ideal.Gen.N_0; omega)).2.2.2,
    fun c => (Cert.Kernel5Ideal.Gen.dats m 0 c).arrAt 7 (Cert.Kernel5Ideal.cfgs 0).N, ?_, ?_⟩
  · refine (θ_run (Cert.Kernel5Ideal.defs (F := Ideal)) _ _).mono (fun r h c => ?_) (Cert.Kernel5Ideal.Value.run_blocks m g)
    obtain ⟨h6, h7, a0, a1, a2, a3, a4, hw⟩ := h c
    exact ⟨h6, hw, h7, a0, a1, a2, a3, a4⟩
  · refine (θ_run (Cert.Reference5Ideal.defs (F := Ideal)) _ _).mono (fun r h c => ?_) (Cert.Reference5Ideal.Value.run m' g')
    obtain ⟨P, D, H, G, W, hP, hD, hH, hG, hW⟩ := mix_in_reals _ _ _ _ _ (hpre c)
    obtain ⟨h0, h1, h2, a⟩ := h c
    obtain ⟨e0, e1, e2, e3, e4⟩ := hagree c
    refine ⟨h0.trans ?_, h1.trans ?_, h2.trans ?_, a⟩
    · refine (Cert.Reference5Ideal.Read.val_main_v40_eq m' c).trans ?_
      rw [e0, e1, e2, e3, e4]
      exact (Cert.MixInRef.dh_eq _ _ _ _ _ P D H G W hP hD hH hG hW).trans
        (Cert.MixInValue.final6 m c P D H G W hP hD hH hG hW).symm
    · have e : Cert.Reference5Ideal.Read.val_main_v45 (F := Ideal)
          (m' ((c : Thread Cert.Reference5Ideal.nD Cert.Reference5Ideal.τ).loc Cert.Reference5Ideal.main_arg0))
          (m' ((c : Thread Cert.Reference5Ideal.nD Cert.Reference5Ideal.τ).loc Cert.Reference5Ideal.main_arg2))
          (m' ((c : Thread Cert.Reference5Ideal.nD Cert.Reference5Ideal.τ).loc Cert.Reference5Ideal.main_arg3))
          = fun i : Cert.Kernel5Ideal.S1024x2176.Idx => ((Cert.MixInValue.ord (fun j => ∑ n : Fin 16384, Cert.MixInValue.wpart P H G (i 0) n.val j) (i 1).val : ℝ) : EReal) := by
        rw [e0, e2, e3]
        exact Cert.MixInRef.dw_eq _ _ _ P H G hP hH hG
      have q := Cert.Reference5Ideal.Read.val_main_v45_eq (F := Ideal)
          (m' ((c : Thread Cert.Reference5Ideal.nD Cert.Reference5Ideal.τ).loc Cert.Reference5Ideal.main_arg0))
          (m' ((c : Thread Cert.Reference5Ideal.nD Cert.Reference5Ideal.τ).loc Cert.Reference5Ideal.main_arg2))
          (m' ((c : Thread Cert.Reference5Ideal.nD Cert.Reference5Ideal.τ).loc Cert.Reference5Ideal.main_arg3))
      refine q.trans (e.trans ?_)
      funext i
      exact ((congrArg _ (eq_ix2 i)).trans (Cert.MixInValue.finalW m c P H G hP hH hG (i 0) (i 1) _ _ rfl)).symm
    · have e : Cert.Reference5Ideal.Read.val_main_v46 (F := Ideal)
          (m' ((c : Thread Cert.Reference5Ideal.nD Cert.Reference5Ideal.τ).loc Cert.Reference5Ideal.main_arg0))
          (m' ((c : Thread Cert.Reference5Ideal.nD Cert.Reference5Ideal.τ).loc Cert.Reference5Ideal.main_arg2))
          (m' ((c : Thread Cert.Reference5Ideal.nD Cert.Reference5Ideal.τ).loc Cert.Reference5Ideal.main_arg4))
          = fun i : Cert.Kernel5Ideal.S1x1024.Idx => ((∑ n : Fin 16384, Cert.MixInValue.gpart P H W (i 1) n.val : ℝ) : EReal) := by
        rw [e0, e2, e4]
        exact Cert.MixInRef.dg_eq _ _ _ P H W hP hH hW
      have q := Cert.Reference5Ideal.Read.val_main_v46_eq (F := Ideal)
          (m' ((c : Thread Cert.Reference5Ideal.nD Cert.Reference5Ideal.τ).loc Cert.Reference5Ideal.main_arg0))
          (m' ((c : Thread Cert.Reference5Ideal.nD Cert.Reference5Ideal.τ).loc Cert.Reference5Ideal.main_arg2))
          (m' ((c : Thread Cert.Reference5Ideal.nD Cert.Reference5Ideal.τ).loc Cert.Reference5Ideal.main_arg4))
      exact q.trans (e.trans (Cert.MixInValue.final7 m c P H W hP hH hW).symm)

end Cert.MixInClaim

end
-- ==== Proof.FfnPay.lean ====
/- The values the feed-forward's backward kernel forms at one grid point, as functions of finite blocks. -/
module

public import proofs.«01_k».proof.Proof.Reals
public import proofs.«01_k».proof.Proof.Gen.Kernel6Ideal.Skeleton
public import Idealize.ShloMosaic.Lib.Pointwise
public import Idealize.ShloMosaic.Lib.Pipeline.ValueKit

@[expose] public section

set_option maxRecDepth 16384

noncomputable section

namespace Cert.Ffn

open Idealize.ShloMosaic Idealize.ShloMosaic.TcCoe Idealize.SL.Sem Cert.Reals

/-! ## The activation -/

/-- The root of two over pi. -/
def gc : ℝ := 6693141 / 8388608

def ga : ℝ := 12003091 / 268435456

def gth (x : ℝ) : ℝ := Real.tanh (x * (gc + gc * ga * (x * x)))

def gs (x : ℝ) : ℝ := 1 / 2 * gth x + 1 / 2

/-- The smooth gate. -/
def gl (x : ℝ) : ℝ := x * gs x

/-- Its derivative. -/
def dgl (x : ℝ) : ℝ := gs x + gl x * (1 - gth x) * (gc + 3 * ga * gc * (x * x))

/-- The convolved rows' cotangent on the gate's lanes and on the value's lanes of one half. -/
def dcvRow (v da : ℕ → ℝ) (l : ℕ) : ℝ := if l < 1408 then da l * v (l + 1408) * dgl (v l) else da (l - 1408) * gl (v (l - 1408))

/-- Three taps of a convolution over rows. -/
def taps (C : ℕ → ℕ → ℝ) (B : ℕ → ℝ) (u : ℕ → ℕ → ℝ) (r l : ℕ) : ℝ := B l + C 0 l * u r l + C 1 l * u (r + 1) l + C 2 l * u (r + 2) l

/-- The same taps backwards. -/
def back (C : ℕ → ℕ → ℝ) (d : ℕ → ℕ → ℝ) (r l : ℕ) : ℝ := C 2 l * d r l + C 0 l * d (r + 2) l + C 1 l * d (r + 1) l

open Cert.Kernel6Ideal Cert.Kernel6Ideal.Gen

theorem cC : Ideal.ofBits .f32 0x3F4C422A#32 = ((gc : ℝ) : EReal) := by
  simp [Ideal.ofBits, Ideal.ieee, -EReal.coe_mul, gc]; norm_num

theorem cC2' : Named.named (F := Ideal) κ "gelu_c2" (φ := .f32) 0x3D122279#32 = ((80338380498831 / 2251799813685248 : ℝ) : EReal) :=
  IdealRules.named_const.ideal_named_scalar _ _ _ _ rfl

theorem cC2 : Named.named (F := Ideal) κ "gelu_c2" (φ := .f32) 0x3D122279#32 = ((gc * ga : ℝ) : EReal) := by
  rw [cC2', show gc * ga = 80338380498831 / 2251799813685248 by norm_num [gc, ga]]

theorem cC3' : Named.named (F := Ideal) κ "gelu_c3" (φ := .f32) 0x3DDB33B6#32 = ((241015141496493 / 2251799813685248 : ℝ) : EReal) :=
  IdealRules.named_const.ideal_named_scalar _ _ _ _ rfl

theorem cC3 : Named.named (F := Ideal) κ "gelu_c3" (φ := .f32) 0x3DDB33B6#32 = ((3 * ga * gc : ℝ) : EReal) := by
  rw [cC3', show 3 * ga * gc = 241015141496493 / 2251799813685248 by norm_num [gc, ga]]

section payloads

variable (h : FVec Ideal S256x1024 .f32) (g : FVec Ideal S1x1024 .f32) (X : Fin 256 → Fin 1024 → ℝ) (G : Fin 1024 → ℝ)
  (hX : ∀ r l, h (ix2 r l) = ((X r l : ℝ) : EReal)) (hG : ∀ l, g (ix2 0 l) = ((G l : ℝ) : EReal))
  (cw : FVec Ideal S1x3x2816 .f32) (cb : FVec Ideal S1x1x2816 .f32) (u0 u1 u2 : FVec Ideal S272x2816 .f32)
  (C : ℕ → ℕ → ℝ) (B : ℕ → ℝ) (u : ℕ → ℕ → ℝ)
  (hC : ∀ (k : Fin 3) (l : Fin 2816), cw (ix3 0 k l) = ((C k.val l.val : ℝ) : EReal))
  (hB : ∀ l : Fin 2816, cb (ix3 0 0 l) = ((B l.val : ℝ) : EReal))
  (h0 : ∀ (r : Fin 272) (l : Fin 2816), u0 (ix2 r l) = ((u r.val l.val : ℝ) : EReal))
  (h1 : ∀ (r : Fin 272) (l : Fin 2816), u1 (ix2 r l) = ((u (r.val + 1) l.val : ℝ) : EReal))
  (h2 : ∀ (r : Fin 272) (l : Fin 2816), u2 (ix2 r l) = ((u (r.val + 2) l.val : ℝ) : EReal))
  (v : FVec Ideal S272x2816 .f32) (V : ℕ → ℕ → ℝ) (hV : ∀ (r : Fin 272) (l : Fin 2816), v (ix2 r l) = ((V r.val l.val : ℝ) : EReal))
  (d : FVec Ideal S272x1024 .bf16) (w : FVec Ideal S1x1408x1024 .bf16) (D : ℕ → Fin 1024 → ℝ) (W : ℕ → Fin 1024 → ℝ)
  (hD : ∀ (r : Fin 272) l, d (ix2 r l) = ((D r.val l : ℝ) : EReal))
  (hW : ∀ (p : Fin 1408) l, w (ix3 0 p l) = ((W p.val l : ℝ) : EReal))

include hX hG in
/-- The normalised rows. -/
theorem pay6 (r : Fin 256) (l : Fin 1024) : k0_pay6 (F := Ideal) h g (ix2 r l) = ((X r l * rinv (X r) * G l : ℝ) : EReal) := by
  pointwise [k0_pay6]
  simp only [hX, hG, c1024, cEps, rsqrt_row]
  rw [EReal.coe_mul, EReal.coe_mul]

include hC hB h0 h1 h2 in
theorem pay11 (r : Fin 272) (l : Fin 2816) :
    k0_pay11 (F := Ideal) cw cb u0 u1 u2 (ix2 r l) = ((taps C B u r.val l.val : ℝ) : EReal) := by
  pointwise [k0_pay11, k0_pay10]
  rw [hB, h0, h1, h2]
  have e0 := hC 0 l
  have e1 := hC 1 l
  have e2 := hC 2 l
  refine (congrArg₂ (· + ·) (congrArg₂ (· + ·) (congrArg (((B l.val : ℝ) : EReal) + ·) (congrArg (· * ((u r.val l.val : ℝ) : EReal)) e0))
    (congrArg (· * ((u (r.val + 1) l.val : ℝ) : EReal)) e1)) (congrArg (· * ((u (r.val + 2) l.val : ℝ) : EReal)) e2)).trans ?_
  simp only [← EReal.coe_mul, ← EReal.coe_add]
  rfl

include hD hW in
theorem pay13 (r : Fin 272) (p : Fin 1408) :
    k0_pay13 (F := Ideal) d w (ix2 r p) = ((∑ k, D r.val k * W p.val k : ℝ) : EReal) := by
  pointwise [k0_pay13]
  simp only [hD, hW, ← EReal.coe_mul, sum_coe]

include hV in
theorem pay14 (r : Fin 272) (p : Fin 1408) : k0_pay14 (F := Ideal) v (ix2 r p) = ((V r.val p.val : ℝ) : EReal) := by
  pointwise [k0_pay14]
  simp only [hV, Nat.zero_add]

include hV in
theorem pay15 (r : Fin 272) (p : Fin 1408) : k0_pay15 (F := Ideal) v (ix2 r p) = ((V r.val (p.val + 1408) : ℝ) : EReal) := by
  pointwise [k0_pay15]
  simp only [hV, Nat.add_comm 1408]

include hV in
theorem pay17 (r : Fin 272) (p : Fin 1408) : k0_pay17 (F := Ideal) v (ix2 r p) = ((gth (V r.val p.val) : ℝ) : EReal) := by
  have h14 := pay14 v V hV
  pointwise [k0_pay17, k0_pay16]
  simp only [h14, cC, cC2, ← EReal.coe_mul, ← EReal.coe_add, Ideal.tanh_coe]
  rfl

include hV in
theorem pay18 (r : Fin 272) (p : Fin 1408) : k0_pay18 (F := Ideal) v (ix2 r p) = ((gs (V r.val p.val) : ℝ) : EReal) := by
  have h17 := pay17 v V hV
  pointwise [k0_pay18]
  simp only [h17, cHalf, ← EReal.coe_mul, ← EReal.coe_add]
  rfl

include hV in
theorem pay19 (r : Fin 272) (p : Fin 1408) : k0_pay19 (F := Ideal) v (ix2 r p) = ((gl (V r.val p.val) : ℝ) : EReal) := by
  have h14 := pay14 v V hV
  have h18 := pay18 v V hV
  pointwise [k0_pay19]
  simp only [h14, h18, ← EReal.coe_mul]
  rfl

include hV hD hW in
theorem pay20 (r : Fin 272) (p : Fin 1408) :
    k0_pay20 (F := Ideal) v d w (ix2 r p) = ((dcvRow (V r.val) (fun q => ∑ k, D r.val k * W q k) p.val : ℝ) : EReal) := by
  have h13 := pay13 d w D W hD hW
  have h14 := pay14 v V hV
  have h15 := pay15 v V hV
  have h17 := pay17 v V hV
  have h18 := pay18 v V hV
  have h19 := pay19 v V hV
  pointwise [k0_pay20, k0_pay16]
  simp only [h13, h14, h15, h17, h18, h19, cOne, cC, cC3, ← EReal.coe_one, ← EReal.coe_mul, ← EReal.coe_add, ← EReal.coe_sub]
  exact congrArg _ (if_pos p.isLt).symm

include hV hD hW in
theorem pay21 (r : Fin 272) (p : Fin 1408) :
    k0_pay21 (F := Ideal) v d w (ix2 r p) = ((dcvRow (V r.val) (fun q => ∑ k, D r.val k * W q k) (1408 + p.val) : ℝ) : EReal) := by
  have h13 := pay13 d w D W hD hW
  have h19 := pay19 v V hV
  pointwise [k0_pay21]
  simp only [h13, h19, ← EReal.coe_mul]
  refine congrArg _ ?_
  unfold dcvRow
  rw [if_neg (by omega), show 1408 + p.val - 1408 = p.val by omega]

include hV hD in
/-- The down projection's gradient grows by one block of rows. -/
theorem pay23 (acc : FVec Ideal S1408x1024 .f32) (p : Fin 1408) (k : Fin 1024) :
    k0_pay23 (F := Ideal) (k0_pay22 v d acc) (ix2 p k)
      = acc (ix2 p k) + ((∑ r : Fin 256, gl (V r.val p.val) * V r.val (p.val + 1408) * D r.val k : ℝ) : EReal) := by
  have h15 := pay15 v V hV
  have h19 := pay19 v V hV
  pointwise [k0_pay23, k0_pay22]
  simp only [h15, h19, hD, Nat.zero_add, ← EReal.coe_mul, sum_coe]

end payloads

section steps

variable (y0 y1 y2 : FVec Ideal S256x2816 .f32) (Y : ℕ → ℕ → ℝ)
  (h0 : ∀ (r : Fin 256) (l : Fin 2816), y0 (ix2 r l) = ((Y r.val l.val : ℝ) : EReal))
  (h1 : ∀ (r : Fin 256) (l : Fin 2816), y1 (ix2 r l) = ((Y (r.val + 1) l.val : ℝ) : EReal))
  (h2 : ∀ (r : Fin 256) (l : Fin 2816), y2 (ix2 r l) = ((Y (r.val + 2) l.val : ℝ) : EReal))
  (cw : FVec Ideal S1x3x2816 .f32) (C : ℕ → ℕ → ℝ)
  (hC : ∀ (k : Fin 3) (l : Fin 2816), cw (ix3 0 k l) = ((C k.val l.val : ℝ) : EReal))
  (z : FVec Ideal S256x2816 .f32) (Z : ℕ → ℕ → ℝ) (hZ : ∀ (r : Fin 256) (l : Fin 2816), z (ix2 r l) = ((Z r.val l.val : ℝ) : EReal))

include h0 h1 h2 hC in
/-- The up projection's cotangent. -/
theorem pay31 (r : Fin 256) (l : Fin 2816) :
    k0_pay31 (F := Ideal) (k0_pay10 cw) (k0_pay25 (k0_pay10 cw) y0) y2 y1 (ix2 r l) = ((back C Y r.val l.val : ℝ) : EReal) := by
  pointwise [k0_pay31, k0_pay25, k0_pay10]
  rw [h0, h1, h2]
  have e0 := hC 0 l
  have e1 := hC 1 l
  have e2 := hC 2 l
  refine (congrArg₂ (· + ·) (congrArg₂ (· + ·) (congrArg (· * ((Y r.val l.val : ℝ) : EReal)) e2)
    (congrArg (· * ((Y (r.val + 2) l.val : ℝ) : EReal)) e0)) (congrArg (· * ((Y (r.val + 1) l.val : ℝ) : EReal)) e1)).trans ?_
  simp only [← EReal.coe_mul, ← EReal.coe_add]
  rfl

include h0 h1 h2 hC in
theorem pay32 (w : FVec Ideal S1x1024x2816 .bf16) (U : Fin 1024 → ℕ → ℝ) (hU : ∀ k (l : Fin 2816), w (ix3 0 k l) = ((U k l.val : ℝ) : EReal))
    (r : Fin 256) (k : Fin 1024) :
    k0_pay32 (F := Ideal) (k0_pay10 cw) (k0_pay25 (k0_pay10 cw) y0) y2 y1 w (ix3 0 r k)
      = ((∑ l : Fin 2816, back C Y r.val l.val * U k l.val : ℝ) : EReal) := by
  have h31 := pay31 y0 y1 y2 Y h0 h1 h2 cw C hC
  pointwise [k0_pay32]
  simp only [h31, hU, ← EReal.coe_mul, sum_coe]

include h0 h1 h2 hC in
theorem pay1 (n : FVec Ideal S256x1024 .bf16) (N : Fin 256 → Fin 1024 → ℝ) (hN : ∀ r k, n (ix2 r k) = ((N r k : ℝ) : EReal))
    (acc : FVec Ideal S1024x2816 .f32) (k : Fin 1024) (l : Fin 2816) :
    k0_pay1 (F := Ideal) n (k0_pay31 (k0_pay10 cw) (k0_pay25 (k0_pay10 cw) y0) y2 y1) acc (ix2 k l)
      = acc (ix2 k l) + ((∑ r : Fin 256, N r k * back C Y r.val l.val : ℝ) : EReal) := by
  have h31 := pay31 y0 y1 y2 Y h0 h1 h2 cw C hC
  pointwise [k0_pay1]
  simp only [h31, hN, ← EReal.coe_mul, sum_coe]

include h0 in
theorem pay24 (acc : FVec Ideal S1x1x2816 .f32) (l : Fin 2816) :
    k0_pay24 (F := Ideal) y0 acc (ix3 0 0 l) = acc (ix3 0 0 l) + ((∑ r : Fin 256, Y r.val l.val : ℝ) : EReal) := by
  pointwise [k0_pay24]
  simp only [h0, sum_coe]

include h0 hZ in
theorem pay26 (acc : FVec Ideal S1x1x2816 .f32) (l : Fin 2816) :
    k0_pay26 (F := Ideal) y0 acc z (ix3 0 0 l) = acc (ix3 0 0 l) + ((∑ r : Fin 256, Y r.val l.val * Z r.val l.val : ℝ) : EReal) := by
  pointwise [k0_pay26]
  simp only [h0, hZ, ← EReal.coe_mul, sum_coe]

include h0 hZ in
theorem pay29 (acc : FVec Ideal S1x1x2816 .f32) (l : Fin 2816) :
    k0_pay29 (F := Ideal) (k0_pay27 acc) (k0_pay28 y0 z) (ix3 0 0 l)
      = acc (ix3 0 0 l) + ((∑ r : Fin 256, Y r.val l.val * Z r.val l.val : ℝ) : EReal) := by
  pointwise [k0_pay29, k0_pay27, k0_pay28]
  simp only [h0, hZ, ← EReal.coe_mul, sum_coe]

include h0 hZ in
theorem pay30 (acc : FVec Ideal S1x1x2816 .f32) (l : Fin 2816) :
    k0_pay30 (F := Ideal) y0 acc z (ix3 0 0 l) = acc (ix3 0 0 l) + ((∑ r : Fin 256, Y r.val l.val * Z r.val l.val : ℝ) : EReal) := by
  pointwise [k0_pay30]
  simp only [h0, hZ, ← EReal.coe_mul, sum_coe]

end steps

section halos

theorem first (n : Fin 64) : Scalar.cmpi .sgt (BitVec.ofNat 32 n.val) 0#32 = if 0 < n.val then 1#1 else 0#1 := by
  revert n; decide

theorem last (n : Fin 64) : Scalar.cmpi .slt (BitVec.ofNat 32 n.val) 63#32 = if n.val < 63 then 1#1 else 0#1 := by
  revert n; decide

/-- The rows before a block are zero at the first. -/
theorem pay7 (i : grid0.Coords) (v : FVec Ideal S1x16x2816 .bf16) (U : Fin 16 → ℕ → ℝ)
    (hU : ∀ r (l : Fin 2816), v (ix3 0 r l) = ((U r l.val : ℝ) : EReal)) (r : Fin 16) (l : Fin 2816) :
    k0_pay7 (F := Ideal) i v (ix2 r l) = ((if 0 < (i 1).val then U r l.val else 0 : ℝ) : EReal) := by
  have e := first ⟨(i 1).val, (i 1).isLt⟩
  unfold k0_pay7
  dsimp only at e ⊢
  rw [e]
  by_cases h : 0 < (i 1).val
  · rw [if_pos h, if_pos h]
    pointwise []
    exact hU r l
  · rw [if_neg h, if_neg h]
    pointwise []
    exact EReal.coe_zero.symm

theorem pay8 (v : FVec Ideal S1x256x2816 .bf16) (r : Fin 256) (l : Fin 2816) : k0_pay8 (F := Ideal) v (ix2 r l) = v (ix3 0 r l) := by
  pointwise [k0_pay8]

theorem pay9 (v : FVec Ideal S1x16x2816 .bf16) (r : Fin 16) (l : Fin 2816) : k0_pay9 (F := Ideal) v (ix2 r l) = v (ix3 0 r l) := by
  pointwise [k0_pay9]

/-- The cotangent's rows of a block and the sixteen after it, zero after the last. -/
theorem pay12 (n : Fin 64) (x : FVec Ideal S256x1024 .f32) (y : FVec Ideal S16x1024 .f32) (D : ℕ → Fin 1024 → ℝ)
    (hx : ∀ (r : Fin 256) l, x (ix2 r l) = ((D r.val l : ℝ) : EReal))
    (hy : n.val < 63 → ∀ (r : Fin 16) l, y (ix2 r l) = ((D (256 + r.val) l : ℝ) : EReal))
    (hz : ¬ n.val < 63 → ∀ (r : Fin 16) l, D (256 + r.val) l = 0) (r : Fin 272) (l : Fin 1024) :
    k0_pay12 (F := Ideal) (BitVec.ofNat 32 n.val) x y (ix2 r l) = ((D r.val l : ℝ) : EReal) := by
  unfold k0_pay12
  rw [last n]
  have hr : r.val < 272 := r.isLt
  by_cases h : n.val < 63
  · rw [if_pos h]
    pointwise []
    by_cases h' : r.val < 256
    · rw [dif_pos h']
      exact hx ⟨r.val, h'⟩ l
    · rw [dif_neg h']
      refine (hy h ⟨r.val - 256, by omega⟩ l).trans ?_
      rw [show 256 + (r.val - 256) = r.val by omega]
  · rw [if_neg h]
    pointwise []
    by_cases h' : r.val < 256
    · rw [dif_pos h']
      exact hx ⟨r.val, h'⟩ l
    · rw [dif_neg h']
      have e := hz h ⟨r.val - 256, by omega⟩ l
      rw [show 256 + (r.val - 256) = r.val by omega] at e
      rw [e]
      exact EReal.coe_zero.symm

end halos

end Cert.Ffn

end
-- ==== Proof.FfnBlk.lean ====
/- The blocks the feed-forward's backward kernel is given at one grid point, as functions of finite arguments. -/
module

public import proofs.«01_k».proof.Proof.FfnPay
public import proofs.«01_k».proof.Proof.Gen.Kernel6Ideal.Value
public import Idealize.ShloMosaic.Lib.Claim

@[expose] public section

set_option maxRecDepth 16384

noncomputable section

namespace Cert.Ffn

open Idealize.ShloMosaic Idealize.ShloMosaic.TcCoe Idealize.SL.Sem Cert.Reals

/-- Where column `l` of one half of the up projection lies among all its columns: half the gate's lanes, then half the value's. -/
def col (j l : ℕ) : ℕ := if l < 1408 then j * 1408 + l else 2816 + (j * 1408 + (l - 1408))

theorem col_lt {j l : ℕ} (hj : j < 2) (hl : l < 2816) : col j l < 5632 := by
  unfold col
  split_ifs <;> omega

/-- The normalised rows' product with the up weights. -/
def upAll (H : ℕ → Fin 1024 → ℝ) (G : Fin 1024 → ℝ) (U : Fin 1024 → ℕ → ℝ) (r n : ℕ) : ℝ := ∑ k, H r k * rinv (H r) * G k * U k n

open Cert.Kernel6Ideal Cert.Kernel6Ideal.Gen

section blocks

variable (m : (ℓ : Loc nD τ sig) → Buf (Elt Ideal) ℓ) (c : Dev nD)
  (D H : ℕ → Fin 1024 → ℝ) (G : Fin 1024 → ℝ) (U : Fin 1024 → ℕ → ℝ) (C : ℕ → ℕ → ℝ) (B : ℕ → ℝ) (W : ℕ → Fin 1024 → ℝ)
  (hD : ∀ (r : Fin 16384) l, (m ((c : Thread nD τ).loc main_arg0) : FVec Ideal S16384x1024 .f32) (ix2 r l) = ((D r.val l : ℝ) : EReal))
  (hH : ∀ (r : Fin 16384) l, (m ((c : Thread nD τ).loc main_arg1) : FVec Ideal S16384x1024 .f32) (ix2 r l) = ((H r.val l : ℝ) : EReal))
  (hG : ∀ l, (m ((c : Thread nD τ).loc main_arg2) : FVec Ideal S1024 .f32) (ix1 l) = ((G l : ℝ) : EReal))
  (hU : ∀ k (n : Fin 5632), (m ((c : Thread nD τ).loc main_arg3) : FVec Ideal S1024x5632 .f32) (ix2 k n) = ((U k n.val : ℝ) : EReal))
  (hC : ∀ (k : Fin 3) (n : Fin 5632), (m ((c : Thread nD τ).loc main_arg4) : FVec Ideal S3x5632 .f32) (ix2 k n) = ((C k.val n.val : ℝ) : EReal))
  (hB : ∀ n : Fin 5632, (m ((c : Thread nD τ).loc main_arg5) : FVec Ideal S5632 .f32) (ix1 n) = ((B n.val : ℝ) : EReal))
  (hW : ∀ (p : Fin 2816) l, (m ((c : Thread nD τ).loc main_arg6) : FVec Ideal S2816x1024 .f32) (ix2 p l) = ((W p.val l : ℝ) : EReal))

theorem idx : ∀ t : Fin cfg0.N, win0_0.index t = ![t.val % 64, 0] ∧ win0_1.index t = ![min ((t.val % 64 + 1) * 16) 1023, 0]
    ∧ win0_2.index t = ![t.val % 64, 0] ∧ win0_3.index t = ![t.val / 64, t.val % 64, 0]
    ∧ win0_4.index t = ![t.val / 64, t.val % 64 * 16 - 1, 0] ∧ win0_5.index t = ![t.val / 64, min ((t.val % 64 + 1) * 16) 1023, 0]
    ∧ win0_6.index t = ![0, 0] ∧ win0_7.index t = ![t.val / 64, 0, 0] ∧ win0_8.index t = ![t.val / 64, 0, 0]
    ∧ win0_9.index t = ![t.val / 64, 0, 0] ∧ win0_10.index t = ![t.val / 64, 0, 0] ∧ win0_11.index t = ![t.val / 64, t.val % 64, 0]
    ∧ win0_12.index t = ![t.val / 64, 0, 0] ∧ win0_13.index t = ![t.val / 64, 0, 0] ∧ (grid0.coords t 1).val = t.val % 64 :=
  (by decide +kernel : ∀ t : Fin grid0.N, _)

theorem lt128 (t : Fin cfg0.N) : t.val < 128 := lt_of_lt_of_eq t.isLt N_0

/-! ## The host's arrays -/

theorem v10_eq : V m c main_v10 = concatenate S2x1024x2816 0 [⟨S1x1024x2816, V m c main_v8⟩, ⟨S1x1024x2816, V m c main_v9⟩]
    concatenates_S1x1024x2816_S1x1024x2816_S2x1024x2816_d0 := by
  sl_kernel_rfl

theorem v19_eq : V m c main_v19 = concatenate S2x3x2816 0 [⟨S1x3x2816, V m c main_v17⟩, ⟨S1x3x2816, V m c main_v18⟩]
    concatenates_S1x3x2816_S1x3x2816_S2x3x2816_d0 := by
  sl_kernel_rfl

theorem v29_eq : V m c main_v29 = concatenate S2x1x2816 0 [⟨S1x1x2816, V m c main_v27⟩, ⟨S1x1x2816, V m c main_v28⟩]
    concatenates_S1x1x2816_S1x1x2816_S2x1x2816_d0 := by
  sl_kernel_rfl

theorem v53_eq : V m c main_v53 = concatenate S2x16384x2816 0 [⟨S1x16384x2816, V m c main_v51⟩, ⟨S1x16384x2816, V m c main_v52⟩]
    concatenates_S1x16384x2816_S1x16384x2816_S2x16384x2816_d0 := by
  sl_kernel_rfl

include hU in
theorem v8_at (k : Fin 1024) (l : Fin 2816) : (V m c main_v8 : FVec Ideal S1x1024x2816 .bf16) (ix3 0 k l) = ((U k (col 0 l.val) : ℝ) : EReal) := by
  have h := hU k
  entry_read
  pointwise
  by_cases hl : l.val < 1408
  · rw [dif_pos hl]
    refine Eq.trans (congrArg _ (congrArg (ix2 k) (Fin.ext ?_))) (h ⟨col 0 l.val, col_lt (by omega) l.isLt⟩)
    show l.val = col 0 l.val
    rw [col, if_pos hl]; omega
  · rw [dif_neg hl]
    refine Eq.trans (congrArg _ (congrArg (ix2 k) (Fin.ext ?_))) (h ⟨col 0 l.val, col_lt (by omega) l.isLt⟩)
    show 2816 + (l.val - 1408) = col 0 l.val
    rw [col, if_neg hl]; omega

include hU in
theorem v9_at (k : Fin 1024) (l : Fin 2816) : (V m c main_v9 : FVec Ideal S1x1024x2816 .bf16) (ix3 0 k l) = ((U k (col 1 l.val) : ℝ) : EReal) := by
  have h := hU k
  entry_read
  pointwise
  by_cases hl : l.val < 1408
  · rw [dif_pos hl]
    refine Eq.trans (congrArg _ (congrArg (ix2 k) (Fin.ext ?_))) (h ⟨col 1 l.val, col_lt (by omega) l.isLt⟩)
    show 1408 + l.val = col 1 l.val
    rw [col, if_pos hl]
  · rw [dif_neg hl]
    refine Eq.trans (congrArg _ (congrArg (ix2 k) (Fin.ext ?_))) (h ⟨col 1 l.val, col_lt (by omega) l.isLt⟩)
    show 4224 + (l.val - 1408) = col 1 l.val
    rw [col, if_neg hl]; omega

include hU in
theorem ent7 (j : Fin 2) (k : Fin 1024) (l : Fin 2816) :
    (V m c main_v10 : FVec Ideal S2x1024x2816 .bf16) (ix3 j k l) = ((U k (col j.val l.val) : ℝ) : EReal) := by
  rw [v10_eq]
  have h8 := v8_at m c U hU k l
  have h9 := v9_at m c U hU k l
  fin_cases j <;> pointwise
  · exact h8
  · exact h9

include hC in
theorem v17_at (k : Fin 3) (l : Fin 2816) : (V m c main_v17 : FVec Ideal S1x3x2816 .f32) (ix3 0 k l) = ((C k.val (col 0 l.val) : ℝ) : EReal) := by
  have h := hC k
  entry_read
  pointwise
  by_cases hl : l.val < 1408
  · rw [dif_pos hl]
    refine Eq.trans (congrArg _ (congrArg (ix2 k) (Fin.ext ?_))) (h ⟨col 0 l.val, col_lt (by omega) l.isLt⟩)
    show l.val = col 0 l.val
    rw [col, if_pos hl]; omega
  · rw [dif_neg hl]
    refine Eq.trans (congrArg _ (congrArg (ix2 k) (Fin.ext ?_))) (h ⟨col 0 l.val, col_lt (by omega) l.isLt⟩)
    show 2816 + (l.val - 1408) = col 0 l.val
    rw [col, if_neg hl]; omega

include hC in
theorem v18_at (k : Fin 3) (l : Fin 2816) : (V m c main_v18 : FVec Ideal S1x3x2816 .f32) (ix3 0 k l) = ((C k.val (col 1 l.val) : ℝ) : EReal) := by
  have h := hC k
  entry_read
  pointwise
  by_cases hl : l.val < 1408
  · rw [dif_pos hl]
    refine Eq.trans (congrArg _ (congrArg (ix2 k) (Fin.ext ?_))) (h ⟨col 1 l.val, col_lt (by omega) l.isLt⟩)
    show 1408 + l.val = col 1 l.val
    rw [col, if_pos hl]
  · rw [dif_neg hl]
    refine Eq.trans (congrArg _ (congrArg (ix2 k) (Fin.ext ?_))) (h ⟨col 1 l.val, col_lt (by omega) l.isLt⟩)
    show 4224 + (l.val - 1408) = col 1 l.val
    rw [col, if_neg hl]; omega

include hC in
theorem ent8 (j : Fin 2) (k : Fin 3) (l : Fin 2816) :
    (V m c main_v19 : FVec Ideal S2x3x2816 .f32) (ix3 j k l) = ((C k.val (col j.val l.val) : ℝ) : EReal) := by
  rw [v19_eq]
  have h8 := v17_at m c C hC k l
  have h9 := v18_at m c C hC k l
  fin_cases j <;> pointwise
  · exact h8
  · exact h9

include hB in
theorem v27_at (l : Fin 2816) : (V m c main_v27 : FVec Ideal S1x1x2816 .f32) (ix3 0 0 l) = ((B (col 0 l.val) : ℝ) : EReal) := by
  have h := hB
  entry_read
  pointwise
  by_cases hl : l.val < 1408
  · rw [dif_pos hl]
    refine Eq.trans (congrArg _ (congrArg ix1 (Fin.ext ?_))) (h ⟨col 0 l.val, col_lt (by omega) l.isLt⟩)
    show l.val = col 0 l.val
    rw [col, if_pos hl]; omega
  · rw [dif_neg hl]
    refine Eq.trans (congrArg _ (congrArg ix1 (Fin.ext ?_))) (h ⟨col 0 l.val, col_lt (by omega) l.isLt⟩)
    show 2816 + (l.val - 1408) = col 0 l.val
    rw [col, if_neg hl]; omega

include hB in
theorem v28_at (l : Fin 2816) : (V m c main_v28 : FVec Ideal S1x1x2816 .f32) (ix3 0 0 l) = ((B (col 1 l.val) : ℝ) : EReal) := by
  have h := hB
  entry_read
  pointwise
  by_cases hl : l.val < 1408
  · rw [dif_pos hl]
    refine Eq.trans (congrArg _ (congrArg ix1 (Fin.ext ?_))) (h ⟨col 1 l.val, col_lt (by omega) l.isLt⟩)
    show 1408 + l.val = col 1 l.val
    rw [col, if_pos hl]
  · rw [dif_neg hl]
    refine Eq.trans (congrArg _ (congrArg ix1 (Fin.ext ?_))) (h ⟨col 1 l.val, col_lt (by omega) l.isLt⟩)
    show 4224 + (l.val - 1408) = col 1 l.val
    rw [col, if_neg hl]; omega

include hB in
theorem ent9 (j : Fin 2) (l : Fin 2816) : (V m c main_v29 : FVec Ideal S2x1x2816 .f32) (ix3 j 0 l) = ((B (col j.val l.val) : ℝ) : EReal) := by
  rw [v29_eq]
  have h8 := v27_at m c B hB l
  have h9 := v28_at m c B hB l
  fin_cases j <;> pointwise
  · exact h8
  · exact h9

include hW in
theorem ent10 (j : Fin 2) (p : Fin 1408) (k : Fin 1024) :
    (V m c main_v31 : FVec Ideal S2x1408x1024 .bf16) (ix3 j p k) = ((W (j.val * 1408 + p.val) k : ℝ) : EReal) := by
  refine Eq.trans ?_ (hW ⟨j.val * 1408 + p.val, by omega⟩ k)
  entry_read
  pointwise

include hH hG in
theorem v44_at (r : Fin 16384) (k : Fin 1024) :
    (V m c main_v44 : FVec Ideal S16384x1024 .bf16) (ix2 r k) = ((H r.val k * rinv (H r.val) * G k : ℝ) : EReal) := by
  have h := hH
  have g := hG
  entry_read
  pointwise
  simp only [h, g, c1024, cEps, rsqrt_row]
  rw [EReal.coe_mul, EReal.coe_mul]

theorem v46_eq : V m c main_v46
    = shapeCast S1024x2816 (extractStridedSlice S1x1024x2816 ![0, 0, 0] (V m c main_v10) slices_S2x1024x2816_S1x1024x2816_0_0_0) shapeCasts_S1x1024x2816_S1024x2816 := by
  sl_kernel_rfl

theorem v49_eq : V m c main_v49
    = shapeCast S1024x2816 (extractStridedSlice S1x1024x2816 ![1, 0, 0] (V m c main_v10) slices_S2x1024x2816_S1x1024x2816_1_0_0) shapeCasts_S1x1024x2816_S1024x2816 := by
  sl_kernel_rfl

theorem v51_eq : V m c main_v51 = broadcastInDim S1x16384x2816 ![1, 2] bcast_S16384x2816_S1x16384x2816_1_2
    (Host.dotGeneral (F := Ideal) (φ₁ := .bf16) (φ₂ := .bf16) dot_S16384x1024_S1024x2816_S16384x2816_1_0_0_1_n_n none
      (V m c main_v44 : FVec Ideal S16384x1024 .bf16) (V m c main_v46 : FVec Ideal S1024x2816 .bf16) : FVec Ideal S16384x2816 .f32) := by
  sl_kernel_rfl

theorem v52_eq : V m c main_v52 = broadcastInDim S1x16384x2816 ![1, 2] bcast_S16384x2816_S1x16384x2816_1_2
    (Host.dotGeneral (F := Ideal) (φ₁ := .bf16) (φ₂ := .bf16) dot_S16384x1024_S1024x2816_S16384x2816_1_0_0_1_n_n none
      (V m c main_v44 : FVec Ideal S16384x1024 .bf16) (V m c main_v49 : FVec Ideal S1024x2816 .bf16) : FVec Ideal S16384x2816 .f32) := by
  sl_kernel_rfl

include hU in
theorem v46_at (k : Fin 1024) (l : Fin 2816) : (V m c main_v46 : FVec Ideal S1024x2816 .bf16) (ix2 k l) = ((U k (col 0 l.val) : ℝ) : EReal) := by
  refine Eq.trans ?_ (ent7 m c U hU 0 k l)
  rw [v46_eq]
  pointwise

include hU in
theorem v49_at (k : Fin 1024) (l : Fin 2816) : (V m c main_v49 : FVec Ideal S1024x2816 .bf16) (ix2 k l) = ((U k (col 1 l.val) : ℝ) : EReal) := by
  refine Eq.trans ?_ (ent7 m c U hU 1 k l)
  rw [v49_eq]
  pointwise

include hH hG hU in
theorem v51_at (r : Fin 16384) (l : Fin 2816) :
    (V m c main_v51 : FVec Ideal S1x16384x2816 .f32) (ix3 0 r l) = ((upAll H G U r.val (col 0 l.val) : ℝ) : EReal) := by
  have h1 := v44_at m c H G hH hG r
  have h2 := fun k => v46_at m c U hU k l
  rw [v51_eq]
  pointwise
  simp only [h1, h2, ← EReal.coe_mul, sum_coe]
  rfl

include hH hG hU in
theorem v52_at (r : Fin 16384) (l : Fin 2816) :
    (V m c main_v52 : FVec Ideal S1x16384x2816 .f32) (ix3 0 r l) = ((upAll H G U r.val (col 1 l.val) : ℝ) : EReal) := by
  have h1 := v44_at m c H G hH hG r
  have h2 := fun k => v49_at m c U hU k l
  rw [v52_eq]
  pointwise
  simp only [h1, h2, ← EReal.coe_mul, sum_coe]
  rfl

include hH hG hU in
theorem ent3 (j : Fin 2) (r : Fin 16384) (l : Fin 2816) :
    (V m c main_v54 : FVec Ideal S2x16384x2816 .bf16) (ix3 j r l) = ((upAll H G U r.val (col j.val l.val) : ℝ) : EReal) := by
  refine Eq.trans (b := (V m c main_v53 : FVec Ideal S2x16384x2816 .f32) (ix3 j r l)) rfl ?_
  rw [v53_eq]
  have h8 := v51_at m c H G U hH hG hU r l
  have h9 := v52_at m c H G U hH hG hU r l
  fin_cases j <;> pointwise
  · exact h8
  · exact h9

/-! ## The blocks -/

section

variable (t : Fin cfg0.N)

include hD in
theorem blk0 (r : Fin 256) (l : Fin 1024) : (iblk m c 0 t : FVec Ideal S256x1024 .f32) (ix2 r l) = ((D (t.val % 64 * 256 + r.val) l : ℝ) : EReal) := by
  refine Eq.trans ?_ (hD ⟨t.val % 64 * 256 + r.val, by omega⟩ l)
  blk_ext [iblk, V, idx t]

include hD in
theorem blk1 (r : Fin 16) (l : Fin 1024) :
    (iblk m c 1 t : FVec Ideal S16x1024 .f32) (ix2 r l) = ((D (min ((t.val % 64 + 1) * 16) 1023 * 16 + r.val) l : ℝ) : EReal) := by
  refine Eq.trans ?_ (hD ⟨min ((t.val % 64 + 1) * 16) 1023 * 16 + r.val, by omega⟩ l)
  blk_ext [iblk, V, idx t]

include hH in
theorem blk2 (r : Fin 256) (l : Fin 1024) : (iblk m c 2 t : FVec Ideal S256x1024 .f32) (ix2 r l) = ((H (t.val % 64 * 256 + r.val) l : ℝ) : EReal) := by
  refine Eq.trans ?_ (hH ⟨t.val % 64 * 256 + r.val, by omega⟩ l)
  blk_ext [iblk, V, idx t]

include hH hG hU in
theorem blk3 (r : Fin 256) (l : Fin 2816) :
    (iblk m c 3 t : FVec Ideal S1x256x2816 .bf16) (ix3 0 r l) = ((upAll H G U (t.val % 64 * 256 + r.val) (col (t.val / 64) l.val) : ℝ) : EReal) := by
  have := lt128 t
  refine Eq.trans ?_ (ent3 m c H G U hH hG hU ⟨t.val / 64, by omega⟩ ⟨t.val % 64 * 256 + r.val, by omega⟩ l)
  blk_ext [iblk, idx t]

include hH hG hU in
theorem blk4 (r : Fin 16) (l : Fin 2816) :
    (iblk m c 4 t : FVec Ideal S1x16x2816 .bf16) (ix3 0 r l)
      = ((upAll H G U ((t.val % 64 * 16 - 1) * 16 + r.val) (col (t.val / 64) l.val) : ℝ) : EReal) := by
  have := lt128 t
  refine Eq.trans ?_ (ent3 m c H G U hH hG hU ⟨t.val / 64, by omega⟩ ⟨(t.val % 64 * 16 - 1) * 16 + r.val, by omega⟩ l)
  blk_ext [iblk, idx t]

include hH hG hU in
theorem blk5 (r : Fin 16) (l : Fin 2816) :
    (iblk m c 5 t : FVec Ideal S1x16x2816 .bf16) (ix3 0 r l)
      = ((upAll H G U (min ((t.val % 64 + 1) * 16) 1023 * 16 + r.val) (col (t.val / 64) l.val) : ℝ) : EReal) := by
  have := lt128 t
  refine Eq.trans ?_ (ent3 m c H G U hH hG hU ⟨t.val / 64, by omega⟩ ⟨min ((t.val % 64 + 1) * 16) 1023 * 16 + r.val, by omega⟩ l)
  blk_ext [iblk, idx t]

include hG in
theorem blk6 (l : Fin 1024) : (iblk m c 6 t : FVec Ideal S1x1024 .f32) (ix2 0 l) = ((G l : ℝ) : EReal) := by
  refine Eq.trans ?_ (hG l)
  blk_simp [iblk, idx t]
  entry_read
  pointwise
  blk_ext [idx t]

include hU in
theorem blk7 (k : Fin 1024) (l : Fin 2816) : (iblk m c 7 t : FVec Ideal S1x1024x2816 .bf16) (ix3 0 k l) = ((U k (col (t.val / 64) l.val) : ℝ) : EReal) := by
  have := lt128 t
  refine Eq.trans ?_ (ent7 m c U hU ⟨t.val / 64, by omega⟩ k l)
  blk_ext [iblk, idx t]

include hC in
theorem blk8 (k : Fin 3) (l : Fin 2816) : (iblk m c 8 t : FVec Ideal S1x3x2816 .f32) (ix3 0 k l) = ((C k.val (col (t.val / 64) l.val) : ℝ) : EReal) := by
  have := lt128 t
  refine Eq.trans ?_ (ent8 m c C hC ⟨t.val / 64, by omega⟩ k l)
  blk_ext [iblk, idx t]

include hB in
theorem blk9 (l : Fin 2816) : (iblk m c 9 t : FVec Ideal S1x1x2816 .f32) (ix3 0 0 l) = ((B (col (t.val / 64) l.val) : ℝ) : EReal) := by
  have := lt128 t
  refine Eq.trans ?_ (ent9 m c B hB ⟨t.val / 64, by omega⟩ l)
  blk_ext [iblk, idx t]

include hW in
theorem blk10 (p : Fin 1408) (k : Fin 1024) :
    (iblk m c 10 t : FVec Ideal S1x1408x1024 .bf16) (ix3 0 p k) = ((W (t.val / 64 * 1408 + p.val) k : ℝ) : EReal) := by
  have := lt128 t
  refine Eq.trans ?_ (ent10 m c W hW ⟨t.val / 64, by omega⟩ p k)
  blk_ext [iblk, idx t]

end

end blocks

end Cert.Ffn

end
-- ==== Proof.FfnRead.lean ====
/- What the feed-forward's backward kernel reads back of its two scratch buffers. -/
module

public import proofs.«01_k».proof.Proof.Gen.Kernel6Ideal.Skeleton
public import Idealize.ShloMosaic.Lib.WritesUnit
public import Idealize.ShloMosaic.Lib.Pipeline.ValueKit

@[expose] public section

set_option maxRecDepth 16384

noncomputable section

namespace Cert.Ffn

open Idealize.ShloMosaic Idealize.ShloMosaic.TcCoe Idealize.SL.Sem

section plain

variable {sg : RefSig} {kd : Kind} {sp : Space} {A w : ℕ}

/-- A load of some of the rows reads the contents at those rows. -/
theorem readCov_rows (v : View sg kd sp (⟨2, ![A, w]⟩ : Shape) .f32) (L : List (View.Piece (Elt Ideal) (⟨2, ![A, w]⟩ : Shape) .f32)) (o n : ℕ)
    (inb : ∀ x : Fin 2, (![o, 0] : Fin 2 → ℕ) x + (![n, w] : Fin 2 → ℕ) x ≤ (![A, w] : Fin 2 → ℕ) x) (r : Fin n) (l : Fin w) (h : o + r.val < A) :
    v.readCov (Val := Elt Ideal) L (Rect.unit (s := ⟨2, ![A, w]⟩) ![o, 0] ![n, w] inb).toLoadRect (ix2 r l : (⟨2, ![n, w]⟩ : Shape).Idx)
      = v.read (Elt Ideal) (v.writes (Elt Ideal) v.junk L) (ix2 ⟨o + r.val, h⟩ l) := by
  refine congrArg (v.read (Elt Ideal) (v.writes (Elt Ideal) v.junk L)) (funext fun x => Fin.ext ?_)
  fin_cases x
  · show o + 1 * r.val = o + r.val
    omega
  · show 0 + 1 * l.val = l.val
    omega

/-- The newest store holds the index: its payload is read. -/
theorem hit (v : View sg kd sp (⟨2, ![A, w]⟩ : Shape) .f32) (f : v.ty.Contents (Elt Ideal)) (L : List (View.Piece (Elt Ideal) (⟨2, ![A, w]⟩ : Shape) .f32))
    (o q n k : ℕ) (inb : ∀ x : Fin 2, (![o, q] : Fin 2 → ℕ) x + (![n, k] : Fin 2 → ℕ) x ≤ (![A, w] : Fin 2 → ℕ) x)
    (a : FVec Ideal (⟨2, ![n, k]⟩ : Shape) .f32) (r : Fin A) (l : Fin w) (r' : Fin n) (l' : Fin k) (hr : r.val = o + r'.val) (hl : l.val = q + l'.val) :
    v.read (Elt Ideal) (v.writes (Elt Ideal) f (⟨Rect.unit (s := ⟨2, ![A, w]⟩) ![o, q] ![n, k] inb, a⟩ :: L)) (ix2 r l) = a (ix2 r' l') :=
  View.read_writes_cons_unit_of_mem v f inb a L _ (ix2 r' l') rfl (Fin.forall_fin_two.mpr ⟨hr, hl⟩)

/-- The newest store misses the index's row. -/
theorem miss_row (v : View sg kd sp (⟨2, ![A, w]⟩ : Shape) .f32) (f : v.ty.Contents (Elt Ideal)) (L : List (View.Piece (Elt Ideal) (⟨2, ![A, w]⟩ : Shape) .f32))
    (o q n k : ℕ) (inb : ∀ x : Fin 2, (![o, q] : Fin 2 → ℕ) x + (![n, k] : Fin 2 → ℕ) x ≤ (![A, w] : Fin 2 → ℕ) x)
    (a : FVec Ideal (⟨2, ![n, k]⟩ : Shape) .f32) (r : Fin A) (l : Fin w) (hr : r.val < o ∨ o + n ≤ r.val) :
    v.read (Elt Ideal) (v.writes (Elt Ideal) f (⟨Rect.unit (s := ⟨2, ![A, w]⟩) ![o, q] ![n, k] inb, a⟩ :: L)) (ix2 r l)
      = v.read (Elt Ideal) (v.writes (Elt Ideal) f L) (ix2 r l) :=
  View.read_writes_cons_unit_of_not_mem v f inb a L _ rfl 0 hr

/-- The newest store misses the index's column. -/
theorem miss_col (v : View sg kd sp (⟨2, ![A, w]⟩ : Shape) .f32) (f : v.ty.Contents (Elt Ideal)) (L : List (View.Piece (Elt Ideal) (⟨2, ![A, w]⟩ : Shape) .f32))
    (o q n k : ℕ) (inb : ∀ x : Fin 2, (![o, q] : Fin 2 → ℕ) x + (![n, k] : Fin 2 → ℕ) x ≤ (![A, w] : Fin 2 → ℕ) x)
    (a : FVec Ideal (⟨2, ![n, k]⟩ : Shape) .f32) (r : Fin A) (l : Fin w) (hl : l.val < q ∨ q + k ≤ l.val) :
    v.read (Elt Ideal) (v.writes (Elt Ideal) f (⟨Rect.unit (s := ⟨2, ![A, w]⟩) ![o, q] ![n, k] inb, a⟩ :: L)) (ix2 r l)
      = v.read (Elt Ideal) (v.writes (Elt Ideal) f L) (ix2 r l) :=
  View.read_writes_cons_unit_of_not_mem v f inb a L _ rfl 1 hl

end plain

open Cert.Kernel6Ideal Cert.Kernel6Ideal.Gen

/-- Rows of the up projection between their halos. -/
theorem read_up (a : FVec Ideal S16x2816 .f32) (b : FVec Ideal S256x2816 .f32) (e : FVec Ideal S16x2816 .f32) (u : ℕ → ℕ → ℝ)
    (ha : ∀ (r : Fin 16) (l : Fin 2816), a (ix2 r l) = ((u r.val l.val : ℝ) : EReal))
    (hb : ∀ (r : Fin 256) (l : Fin 2816), b (ix2 r l) = ((u (16 + r.val) l.val : ℝ) : EReal))
    (he : ∀ (r : Fin 16) (l : Fin 2816), e (ix2 r l) = ((u (272 + r.val) l.val : ℝ) : EReal))
    (o n : ℕ) (inb : ∀ x : Fin 2, (![o, 0] : Fin 2 → ℕ) x + (![n, 2816] : Fin 2 → ℕ) x ≤ S288x2816.size x) (r : Fin n) (l : Fin 2816) :
    (View.whole cc0_scratch0).readCov (Val := Elt Ideal)
      [⟨Rect.unit ![272, 0] ![16, 2816] inb_S288x2816_S16x2816_272_0, e⟩, ⟨Rect.unit ![16, 0] ![256, 2816] inb_S288x2816_S256x2816_16_0, b⟩,
        ⟨Rect.unit ![0, 0] ![16, 2816] inb_S288x2816_S16x2816_0_0, a⟩] (Rect.unit (s := S288x2816) ![o, 0] ![n, 2816] inb).toLoadRect
        (ix2 r l : (⟨2, ![n, 2816]⟩ : Shape).Idx) = ((u (o + r.val) l.val : ℝ) : EReal) := by
  have hr := r.isLt
  have hn : o + n ≤ 288 := inb 0
  refine (readCov_rows (View.whole cc0_scratch0) _ o n inb r l (by omega)).trans ?_
  by_cases h1 : 272 ≤ o + r.val
  · refine (hit (View.whole cc0_scratch0) _ _ 272 0 16 2816 _ e _ l ⟨o + r.val - 272, by omega⟩ l (by show o + r.val = 272 + (o + r.val - 272); omega) (Nat.zero_add _).symm).trans
      ((he _ l).trans ?_)
    show ((u (272 + (o + r.val - 272)) l.val : ℝ) : EReal) = _
    rw [show 272 + (o + r.val - 272) = o + r.val by omega]
  · refine (miss_row (View.whole cc0_scratch0) _ _ 272 0 16 2816 _ e _ l (Or.inl (by show o + r.val < 272; omega))).trans ?_
    by_cases h2 : 16 ≤ o + r.val
    · refine (hit (View.whole cc0_scratch0) _ _ 16 0 256 2816 _ b _ l ⟨o + r.val - 16, by omega⟩ l (by show o + r.val = 16 + (o + r.val - 16); omega) (Nat.zero_add _).symm).trans
        ((hb _ l).trans ?_)
      show ((u (16 + (o + r.val - 16)) l.val : ℝ) : EReal) = _
      rw [show 16 + (o + r.val - 16) = o + r.val by omega]
    · refine (miss_row (View.whole cc0_scratch0) _ _ 16 0 256 2816 _ b _ l (Or.inl (by show o + r.val < 16; omega))).trans ?_
      refine (hit (View.whole cc0_scratch0) _ _ 0 0 16 2816 _ a _ l ⟨o + r.val, by omega⟩ l (Nat.zero_add _).symm (Nat.zero_add _).symm).trans (ha _ l)

/-- Rows of the convolved rows' cotangent, stored lane half by lane half. -/
theorem read_dcv (a b : FVec Ideal S272x1408 .f32) (d : ℕ → ℕ → ℝ)
    (ha : ∀ (r : Fin 272) (l : Fin 1408), a (ix2 r l) = ((d r.val l.val : ℝ) : EReal))
    (hb : ∀ (r : Fin 272) (l : Fin 1408), b (ix2 r l) = ((d r.val (1408 + l.val) : ℝ) : EReal))
    (o n : ℕ) (inb : ∀ x : Fin 2, (![o, 0] : Fin 2 → ℕ) x + (![n, 2816] : Fin 2 → ℕ) x ≤ S272x2816.size x) (r : Fin n) (l : Fin 2816) :
    (View.whole cc0_scratch1).readCov (Val := Elt Ideal)
      [⟨Rect.unit ![0, 1408] ![272, 1408] inb_S272x2816_S272x1408_0_1408, b⟩, ⟨Rect.unit ![0, 0] ![272, 1408] inb_S272x2816_S272x1408_0_0, a⟩]
        (Rect.unit (s := S272x2816) ![o, 0] ![n, 2816] inb).toLoadRect
        (ix2 r l : (⟨2, ![n, 2816]⟩ : Shape).Idx) = ((d (o + r.val) l.val : ℝ) : EReal) := by
  have hr := r.isLt
  have hl := l.isLt
  have hn : o + n ≤ 272 := inb 0
  refine (readCov_rows (View.whole cc0_scratch1) _ o n inb r l (by omega)).trans ?_
  by_cases h1 : 1408 ≤ l.val
  · refine (hit (View.whole cc0_scratch1) _ _ 0 1408 272 1408 _ b _ l ⟨o + r.val, by omega⟩ ⟨l.val - 1408, by omega⟩ (Nat.zero_add _).symm
      (by show l.val = 1408 + (l.val - 1408); omega)).trans ((hb _ _).trans ?_)
    show ((d (o + r.val) (1408 + (l.val - 1408)) : ℝ) : EReal) = _
    rw [show 1408 + (l.val - 1408) = l.val by omega]
  · refine (miss_col (View.whole cc0_scratch1) _ _ 0 1408 272 1408 _ b _ l (Or.inl (by omega))).trans ?_
    exact (hit (View.whole cc0_scratch1) _ _ 0 0 272 1408 _ a _ l ⟨o + r.val, by omega⟩ ⟨l.val, by omega⟩ (Nat.zero_add _).symm (Nat.zero_add _).symm).trans (ha _ _)

end Cert.Ffn

end
-- ==== Proof.FfnTile.lean ====
/- The convolved rows, their cotangent and the up projection's cotangent the feed-forward's backward kernel holds at one grid point. -/
module

public import proofs.«01_k».proof.Proof.FfnBlk
public import proofs.«01_k».proof.Proof.FfnRead

@[expose] public section

set_option maxRecDepth 16384

noncomputable section

namespace Cert.Ffn

open Idealize.ShloMosaic Idealize.ShloMosaic.TcCoe Idealize.SL.Sem Cert.Reals

section maths

variable (D H : ℕ → Fin 1024 → ℝ) (G : Fin 1024 → ℝ) (U : Fin 1024 → ℕ → ℝ) (C : ℕ → ℕ → ℝ) (B : ℕ → ℝ) (W : ℕ → Fin 1024 → ℝ)

/-- The up projection `s` rows earlier, zero before the first row. -/
def upS (s r n : ℕ) : ℝ := if s ≤ r then upAll H G U (r - s) n else 0

/-- The convolved rows. -/
def cv (r n : ℕ) : ℝ := B n + C 0 n * upS H G U 2 r n + C 1 n * upS H G U 1 r n + C 2 n * upS H G U 0 r n

/-- The activation's cotangent. -/
def dact (r p : ℕ) : ℝ := ∑ k, D r k * W p k

/-- The convolved rows' cotangent in half `j`, zero past the last row. -/
def dcv (j r l : ℕ) : ℝ :=
  if r < 16384 then dcvRow (fun l => cv H G U C B r (col j l)) (fun p => dact D W r (j * 1408 + p)) l else 0

/-- The up projection's cotangent in half `j`. -/
def dup (j r l : ℕ) : ℝ := back (fun k l => C k (col j l)) (dcv D H G U C B W j) r l

theorem back_shift (C : ℕ → ℕ → ℝ) (Y : ℕ → ℕ → ℝ) (b r l : ℕ) : back C (fun q l => Y (b + q) l) r l = back C Y (b + r) l := by
  simp only [back, Nat.add_assoc]

/-- The kernel's buffer of up rows at block `i`: sixteen rows before the block, the block, sixteen after it. -/
def us (i q n : ℕ) : ℝ :=
  if q < 16 then (if 0 < i then upAll H G U ((i * 16 - 1) * 16 + q) n else 0)
  else if q < 272 then upAll H G U (i * 256 + (q - 16)) n else upAll H G U (min ((i + 1) * 16) 1023 * 16 + (q - 272)) n

/-- Rows of the buffer are rows of the up projection. -/
theorem us_eq (i q n s r : ℕ) (hi : i < 64) (h : i < 63 ∨ q < 272) (hq : q < 288) (hs : s ≤ 16) (hr : i * 256 + q = 16 + r - s) (hsr : s ≤ 16 + r) :
    us H G U i q n = upS H G U s r n := by
  unfold us upS
  by_cases h1 : q < 16
  · rw [if_pos h1]
    by_cases h2 : 0 < i
    · rw [if_pos h2, if_pos (by omega), show (i * 16 - 1) * 16 + q = r - s by omega]
    · rw [if_neg h2, if_neg (by omega)]
  · rw [if_neg h1, if_pos (by omega : s ≤ r)]
    by_cases h2 : q < 272
    · rw [if_pos h2, show i * 256 + (q - 16) = r - s by omega]
    · rw [if_neg h2, show min ((i + 1) * 16) 1023 * 16 + (q - 272) = r - s by omega]

/-- The cotangent's rows of block `i` and the sixteen after it. -/
def dn (i q : ℕ) (k : Fin 1024) : ℝ := if i * 256 + q < 16384 then D (i * 256 + q) k else 0

/-- The convolved rows as the kernel forms them. -/
def kcvR (i j q l : ℕ) : ℝ := taps (fun k l => C k (col j l)) (fun l => B (col j l)) (fun q l => us H G U i (14 + q) (col j l)) q l

theorem kcvR_eq (i j q l : ℕ) (hi : i < 64) (h : i < 63 ∨ q < 256) (hq : q < 272) :
    kcvR H G U C B i j q l = cv H G U C B (i * 256 + q) (col j l) := by
  unfold kcvR taps cv
  beta_reduce
  rw [us_eq H G U i (14 + q) (col j l) 2 (i * 256 + q) hi (by omega) (by omega) (by omega) (by omega) (by omega),
    us_eq H G U i (14 + (q + 1)) (col j l) 1 (i * 256 + q) hi (by omega) (by omega) (by omega) (by omega) (by omega),
    us_eq H G U i (14 + (q + 2)) (col j l) 0 (i * 256 + q) hi (by omega) (by omega) (by omega) (by omega) (by omega)]

/-- Their cotangent as the kernel forms it. -/
def kdcvR (i j q l : ℕ) : ℝ := dcvRow (kcvR H G U C B i j q) (fun p => ∑ k, dn D i q k * W (j * 1408 + p) k) l

theorem kdcvR_eq (i j q l : ℕ) (hi : i < 64) (hq : q < 272) : kdcvR D H G U C B W i j q l = dcv D H G U C B W j (i * 256 + q) l := by
  unfold kdcvR dcv
  by_cases h : i * 256 + q < 16384
  · rw [if_pos h]
    refine congrArg₂ (fun a b => dcvRow a b l) (funext fun l => kcvR_eq H G U C B i j q l hi (by omega) hq) (funext fun p => ?_)
    unfold dact dn
    exact Finset.sum_congr rfl fun k _ => by rw [if_pos h]
  · rw [if_neg h]
    have e : (fun p => ∑ k, dn D i q k * W (j * 1408 + p) k) = fun _ => 0 := funext fun p => by
      unfold dn
      exact Finset.sum_eq_zero fun k _ => by rw [if_neg h, zero_mul]
    rw [e]
    unfold dcvRow
    split_ifs <;> ring

end maths

open Cert.Kernel6Ideal Cert.Kernel6Ideal.Gen

section tile

variable (m : (ℓ : Loc nD τ sig) → Buf (Elt Ideal) ℓ) (c : Dev nD)
  (D H : ℕ → Fin 1024 → ℝ) (G : Fin 1024 → ℝ) (U : Fin 1024 → ℕ → ℝ) (C : ℕ → ℕ → ℝ) (B : ℕ → ℝ) (W : ℕ → Fin 1024 → ℝ)
  (hD : ∀ (r : Fin 16384) l, (m ((c : Thread nD τ).loc main_arg0) : FVec Ideal S16384x1024 .f32) (ix2 r l) = ((D r.val l : ℝ) : EReal))
  (hH : ∀ (r : Fin 16384) l, (m ((c : Thread nD τ).loc main_arg1) : FVec Ideal S16384x1024 .f32) (ix2 r l) = ((H r.val l : ℝ) : EReal))
  (hG : ∀ l, (m ((c : Thread nD τ).loc main_arg2) : FVec Ideal S1024 .f32) (ix1 l) = ((G l : ℝ) : EReal))
  (hU : ∀ k (n : Fin 5632), (m ((c : Thread nD τ).loc main_arg3) : FVec Ideal S1024x5632 .f32) (ix2 k n) = ((U k n.val : ℝ) : EReal))
  (hC : ∀ (k : Fin 3) (n : Fin 5632), (m ((c : Thread nD τ).loc main_arg4) : FVec Ideal S3x5632 .f32) (ix2 k n) = ((C k.val n.val : ℝ) : EReal))
  (hB : ∀ n : Fin 5632, (m ((c : Thread nD τ).loc main_arg5) : FVec Ideal S5632 .f32) (ix1 n) = ((B n.val : ℝ) : EReal))
  (hW : ∀ (p : Fin 2816) l, (m ((c : Thread nD τ).loc main_arg6) : FVec Ideal S2816x1024 .f32) (ix2 p l) = ((W p.val l : ℝ) : EReal))
  (t : Fin cfg0.N)

/-- Some rows of the up rows the kernel stored. -/
abbrev kup (o n : ℕ) (inb : ∀ x : Fin 2, (![o, 0] : Fin 2 → ℕ) x + (![n, 2816] : Fin 2 → ℕ) x ≤ S288x2816.size x) : FVec Ideal (⟨2, ![n, 2816]⟩ : Shape) .f32 :=
  (View.whole cc0_scratch0).readCov (Val := Elt Ideal)
    [⟨Rect.unit ![272, 0] ![16, 2816] inb_S288x2816_S16x2816_272_0, k0_pay9 (iblk m c 5 t)⟩,
      ⟨Rect.unit ![16, 0] ![256, 2816] inb_S288x2816_S256x2816_16_0, k0_pay8 (iblk m c 3 t)⟩,
      ⟨Rect.unit ![0, 0] ![16, 2816] inb_S288x2816_S16x2816_0_0, k0_pay7 (grid0.coords t) (iblk m c 4 t)⟩]
    (Rect.unit (s := S288x2816) ![o, 0] ![n, 2816] inb).toLoadRect

/-- The convolved rows. -/
abbrev kcv : FVec Ideal S272x2816 .f32 :=
  k0_pay11 (iblk m c 8 t) (iblk m c 9 t) (kup m c t 14 272 inb_S288x2816_S272x2816_14_0) (kup m c t 15 272 inb_S288x2816_S272x2816_15_0)
    (kup m c t 16 272 inb_S288x2816_S272x2816_16_0)

/-- The cotangent's rows. -/
abbrev kdh : FVec Ideal S272x1024 .bf16 := k0_pay12 (BitVec.ofNat 32 (grid0.coords t 1).val) (iblk m c 0 t) (iblk m c 1 t)

/-- Some rows of the convolved rows' cotangent the kernel stored. -/
abbrev kdcv (o : ℕ) (inb : ∀ x : Fin 2, (![o, 0] : Fin 2 → ℕ) x + (![256, 2816] : Fin 2 → ℕ) x ≤ S272x2816.size x) : FVec Ideal S256x2816 .f32 :=
  (View.whole cc0_scratch1).readCov (Val := Elt Ideal)
    [⟨Rect.unit ![0, 1408] ![272, 1408] inb_S272x2816_S272x1408_0_1408, k0_pay21 (kcv m c t) (kdh m c t) (iblk m c 10 t)⟩,
      ⟨Rect.unit ![0, 0] ![272, 1408] inb_S272x2816_S272x1408_0_0, k0_pay20 (kcv m c t) (kdh m c t) (iblk m c 10 t)⟩]
    (Rect.unit (s := S272x2816) ![o, 0] ![256, 2816] inb).toLoadRect

theorem coord : (grid0.coords t 1).val = t.val % 64 := (idx t).2.2.2.2.2.2.2.2.2.2.2.2.2.2

include hH hG hU in
theorem kup_at (o n : ℕ) (inb : ∀ x : Fin 2, (![o, 0] : Fin 2 → ℕ) x + (![n, 2816] : Fin 2 → ℕ) x ≤ S288x2816.size x) (r : Fin n) (l : Fin 2816) :
    kup m c t o n inb (ix2 r l) = ((us H G U (t.val % 64) (o + r.val) (col (t.val / 64) l.val) : ℝ) : EReal) := by
  refine read_up (k0_pay7 (grid0.coords t) (iblk m c 4 t)) (k0_pay8 (iblk m c 3 t)) (k0_pay9 (iblk m c 5 t))
    (fun q l => us H G U (t.val % 64) q (col (t.val / 64) l)) (fun r l => ?_) (fun r l => ?_) (fun r l => ?_) o n inb r l
  · refine (pay7 (grid0.coords t) (iblk m c 4 t) (fun r l => upAll H G U ((t.val % 64 * 16 - 1) * 16 + r.val) (col (t.val / 64) l))
      (blk4 m c H G U hH hG hU t) r l).trans ?_
    rw [coord t]
    unfold us
    rw [if_pos r.isLt]
  · refine (pay8 (iblk m c 3 t) r l).trans ((blk3 m c H G U hH hG hU t r l).trans ?_)
    unfold us
    rw [if_neg (by omega), if_pos (by omega), show 16 + r.val - 16 = r.val by omega]
  · refine (pay9 (iblk m c 5 t) r l).trans ((blk5 m c H G U hH hG hU t r l).trans ?_)
    unfold us
    rw [if_neg (by omega), if_neg (by omega), show 272 + r.val - 272 = r.val by omega]

include hH hG hU hC hB in
theorem kcv_at (r : Fin 272) (l : Fin 2816) :
    kcv m c t (ix2 r l) = ((kcvR H G U C B (t.val % 64) (t.val / 64) r.val l.val : ℝ) : EReal) := by
  refine pay11 (iblk m c 8 t) (iblk m c 9 t) _ _ _ (fun k l => C k (col (t.val / 64) l)) (fun l => B (col (t.val / 64) l))
    (fun q l => us H G U (t.val % 64) (14 + q) (col (t.val / 64) l)) (blk8 m c C hC t) (blk9 m c B hB t)
    (kup_at m c H G U hH hG hU t 14 272 _) (fun r l => ?_) (fun r l => ?_) r l
  · refine (kup_at m c H G U hH hG hU t 15 272 _ r l).trans ?_
    rw [show 15 + r.val = 14 + (r.val + 1) by omega]
  · refine (kup_at m c H G U hH hG hU t 16 272 _ r l).trans ?_
    rw [show 16 + r.val = 14 + (r.val + 2) by omega]

include hD in
theorem kdh_at (r : Fin 272) (l : Fin 1024) : kdh m c t (ix2 r l) = ((dn D (t.val % 64) r.val l : ℝ) : EReal) := by
  have hi : t.val % 64 < 64 := Nat.mod_lt _ (by decide)
  unfold kdh
  rw [coord t]
  refine pay12 ⟨t.val % 64, hi⟩ (iblk m c 0 t) (iblk m c 1 t) (dn D (t.val % 64)) (fun r l => ?_) (fun h r l => ?_) (fun h r l => ?_) r l
  · refine (blk0 m c D hD t r l).trans ?_
    unfold dn
    rw [if_pos (by omega)]
  · refine (blk1 m c D hD t r l).trans ?_
    have h' : t.val % 64 < 63 := h
    unfold dn
    rw [if_pos (by omega), show min ((t.val % 64 + 1) * 16) 1023 * 16 + r.val = t.val % 64 * 256 + (256 + r.val) by omega]
  · have h' : ¬ t.val % 64 < 63 := h
    unfold dn
    rw [if_neg (by omega)]

include hD hH hG hU hC hB hW in
theorem kdcv_at (o : ℕ) (inb : ∀ x : Fin 2, (![o, 0] : Fin 2 → ℕ) x + (![256, 2816] : Fin 2 → ℕ) x ≤ S272x2816.size x) (r : Fin 256) (l : Fin 2816) :
    kdcv m c t o inb (ix2 r l) = ((dcv D H G U C B W (t.val / 64) (t.val % 64 * 256 + (o + r.val)) l.val : ℝ) : EReal) := by
  have hi : t.val % 64 < 64 := Nat.mod_lt _ (by decide)
  have ho : o + 256 ≤ 272 := inb 0
  have e20 := pay20 (kcv m c t) (kcvR H G U C B (t.val % 64) (t.val / 64)) (kcv_at m c H G U C B hH hG hU hC hB t) (kdh m c t) (iblk m c 10 t)
    (dn D (t.val % 64)) (fun p k => W (t.val / 64 * 1408 + p) k) (kdh_at m c D hD t) (blk10 m c W hW t)
  have e21 := pay21 (kcv m c t) (kcvR H G U C B (t.val % 64) (t.val / 64)) (kcv_at m c H G U C B hH hG hU hC hB t) (kdh m c t) (iblk m c 10 t)
    (dn D (t.val % 64)) (fun p k => W (t.val / 64 * 1408 + p) k) (kdh_at m c D hD t) (blk10 m c W hW t)
  refine (read_dcv _ _ (kdcvR D H G U C B W (t.val % 64) (t.val / 64)) e20 e21 o 256 inb r l).trans ?_
  rw [kdcvR_eq D H G U C B W _ _ _ _ hi (by omega)]

end tile

end Cert.Ffn

end
-- ==== Proof.FfnValue.lean ====
/- What the feed-forward's backward call leaves in its five results, as functions of finite arguments. -/
module

public import proofs.«01_k».proof.Proof.FfnTile
public import Idealize.ShloMosaic.Lib.Pipeline.ReadBack

@[expose] public section

set_option maxRecDepth 16384

noncomputable section

namespace Cert.Ffn

open Idealize.ShloMosaic Idealize.ShloMosaic.TcCoe Idealize.SL.Sem Cert.Reals

/-- A value that starts at each half's first point and grows by one part at each further point. -/
theorem run_halves {N : ℕ} (f : (n : ℕ) → n < N → EReal) (part : ℕ → ℕ → ℝ)
    (h0 : ∀ n h, n % 64 = 0 → f n h = ((part (n / 64) 0 : ℝ) : EReal))
    (hs : ∀ n (h : n + 1 < N), ¬ (n + 1) % 64 = 0 →
      f (n + 1) h = f n (Nat.lt_of_succ_lt h) + ((part ((n + 1) / 64) ((n + 1) % 64) : ℝ) : EReal)) :
    ∀ n (h : n < N), f n h = ((∑ p ∈ Finset.range (n % 64 + 1), part (n / 64) p : ℝ) : EReal) := by
  intro n
  induction n with
  | zero => intro h; exact (h0 0 h rfl).trans (by simp)
  | succ n ih =>
    intro h
    by_cases h1 : (n + 1) % 64 = 0
    · rw [h0 _ h h1, h1, Finset.sum_range_one]
    · rw [hs n h h1, ih, ← EReal.coe_add, show n / 64 = (n + 1) / 64 by omega, show n % 64 + 1 = (n + 1) % 64 by omega, Finset.sum_range_succ]

open Cert.Kernel6Ideal Cert.Kernel6Ideal.Gen

/-! ## The three taps' rows of one result -/

section taps

variable {w : ℕ} (k : Fin 3) (inb : ∀ x : Fin 3, (![0, k.val, 0] : Fin 3 → ℕ) x + (![1, 1, w] : Fin 3 → ℕ) x ≤ (![1, 3, w] : Fin 3 → ℕ) x)
  (L : List (View.Piece (Elt Ideal) (⟨3, ![1, 3, w]⟩ : Shape) .f32))

theorem tap_hit (x : FVec Ideal (⟨3, ![1, 1, w]⟩ : Shape) .f32) (l : Fin w) :
    View.canon (Val := Elt Ideal) (⟨Rect.unit (s := ⟨3, ![1, 3, w]⟩) ![0, k.val, 0] ![1, 1, w] inb, x⟩ :: L) (ix3 0 k l) = x (ix3 0 0 l) := by
  have e : (Rect.unit (s := ⟨3, ![1, 3, w]⟩) ![0, k.val, 0] ![1, 1, w] inb).emb (ix3 0 0 l : (⟨3, ![1, 1, w]⟩ : Shape).Idx) = ix3 0 k l := by
    funext a
    refine Fin.ext ?_
    fin_cases a
    · rfl
    · show k.val + 1 * 0 = k.val
      omega
    · show 0 + 1 * l.val = l.val
      omega
  rw [← e]
  exact View.canon_cons_emb (Val := Elt Ideal) (Rect.unit (s := ⟨3, ![1, 3, w]⟩) ![0, k.val, 0] ![1, 1, w] inb) x L (ix3 0 0 l)

theorem tap_miss (x : FVec Ideal (⟨3, ![1, 1, w]⟩ : Shape) .f32) (a : Fin 3) (l : Fin w) (h : a.val < k.val ∨ k.val + 1 ≤ a.val) :
    View.canon (Val := Elt Ideal) (⟨Rect.unit (s := ⟨3, ![1, 3, w]⟩) ![0, k.val, 0] ![1, 1, w] inb, x⟩ :: L) (ix3 0 a l) = View.canon L (ix3 0 a l) := by
  refine View.canon_cons_of_not_mem _ _ fun hm => ?_
  have h0 := hm
  rw [Rect.mem_set_unit] at h0
  have h1 := h0 1
  have h2 : k.val ≤ a.val ∧ a.val < k.val + 1 := h1
  omega

theorem tap_read {sg : RefSig} {kd : Kind} {sp : Space} (v : View sg kd sp (⟨3, ![1, 3, w]⟩ : Shape) .f32) (l : Fin w) :
    v.readCov (Val := Elt Ideal) L (Rect.unit (s := ⟨3, ![1, 3, w]⟩) ![0, k.val, 0] ![1, 1, w] inb).toLoadRect (ix3 0 0 l : (⟨3, ![1, 1, w]⟩ : Shape).Idx)
      = View.canon L (ix3 0 k l) := by
  rw [View.readCov_eq_canon']
  refine congrArg (View.canon L) (funext fun a => Fin.ext ?_)
  fin_cases a
  · rfl
  · show k.val + 1 * 0 = k.val
    omega
  · show 0 + 1 * l.val = l.val
    omega

theorem tap_ld (X : FVec Ideal (⟨3, ![1, 3, w]⟩ : Shape) .f32) (l : Fin w) :
    View.ld (Val := Elt Ideal) (e' := .f32) X (Rect.unit (s := ⟨3, ![1, 3, w]⟩) ![0, k.val, 0] ![1, 1, w] inb)
      (ix3 0 0 l : (⟨3, ![1, 1, w]⟩ : Shape).Idx) = X (ix3 0 k l) := by
  refine View.ld_unit_apply_of (Val := Elt Ideal) (e := .f32) (S := ⟨3, ![1, 3, w]⟩) X _ _ _ _ (ix3 0 k l) fun a => ?_
  fin_cases a
  · rfl
  · rfl
  · exact (Nat.zero_add _).symm

/-- What one store over the whole block leaves. -/
theorem tap_fill (inb : ∀ x : Fin 3, (![0, 0, 0] : Fin 3 → ℕ) x + (![1, 3, w] : Fin 3 → ℕ) x ≤ (![1, 3, w] : Fin 3 → ℕ) x)
    (x : FVec Ideal (⟨3, ![1, 3, w]⟩ : Shape) .f32) (a : Fin 3) (l : Fin w) :
    View.canon (Val := Elt Ideal) (⟨Rect.unit (s := ⟨3, ![1, 3, w]⟩) ![0, 0, 0] ![1, 3, w] inb, x⟩ :: ([] : List (View.Piece (Elt Ideal) (⟨3, ![1, 3, w]⟩ : Shape) .f32)))
      (ix3 0 a l) = x (ix3 0 a l) := by
  have e : (Rect.unit (s := ⟨3, ![1, 3, w]⟩) ![0, 0, 0] ![1, 3, w] inb).emb (ix3 0 a l : (⟨3, ![1, 3, w]⟩ : Shape).Idx) = ix3 0 a l := by
    funext b
    refine Fin.ext ?_
    fin_cases b
    · rfl
    · show 0 + 1 * a.val = a.val
      omega
    · show 0 + 1 * l.val = l.val
      omega
  conv_lhs => rw [← e]
  exact View.canon_cons_emb (Val := Elt Ideal) (Rect.unit (s := ⟨3, ![1, 3, w]⟩) ![0, 0, 0] ![1, 3, w] inb) x
    ([] : List (View.Piece (Elt Ideal) (⟨3, ![1, 3, w]⟩ : Shape) .f32)) (ix3 0 a l)

end taps

section results

variable (m : (ℓ : Loc nD τ sig) → Buf (Elt Ideal) ℓ) (c : Dev nD)
  (D H : ℕ → Fin 1024 → ℝ) (G : Fin 1024 → ℝ) (U : Fin 1024 → ℕ → ℝ) (C : ℕ → ℕ → ℝ) (B : ℕ → ℝ) (W : ℕ → Fin 1024 → ℝ)
  (hD : ∀ (r : Fin 16384) l, (m ((c : Thread nD τ).loc main_arg0) : FVec Ideal S16384x1024 .f32) (ix2 r l) = ((D r.val l : ℝ) : EReal))
  (hH : ∀ (r : Fin 16384) l, (m ((c : Thread nD τ).loc main_arg1) : FVec Ideal S16384x1024 .f32) (ix2 r l) = ((H r.val l : ℝ) : EReal))
  (hG : ∀ l, (m ((c : Thread nD τ).loc main_arg2) : FVec Ideal S1024 .f32) (ix1 l) = ((G l : ℝ) : EReal))
  (hU : ∀ k (n : Fin 5632), (m ((c : Thread nD τ).loc main_arg3) : FVec Ideal S1024x5632 .f32) (ix2 k n) = ((U k n.val : ℝ) : EReal))
  (hC : ∀ (k : Fin 3) (n : Fin 5632), (m ((c : Thread nD τ).loc main_arg4) : FVec Ideal S3x5632 .f32) (ix2 k n) = ((C k.val n.val : ℝ) : EReal))
  (hB : ∀ n : Fin 5632, (m ((c : Thread nD τ).loc main_arg5) : FVec Ideal S5632 .f32) (ix1 n) = ((B n.val : ℝ) : EReal))
  (hW : ∀ (p : Fin 2816) l, (m ((c : Thread nD τ).loc main_arg6) : FVec Ideal S2816x1024 .f32) (ix2 p l) = ((W p.val l : ℝ) : EReal))

/-- The half's part of the normalised rows' cotangent. -/
def partR (j r : ℕ) (k : Fin 1024) : ℝ := ∑ l : Fin 2816, dup D H G U C B W j r l.val * U k (col j l.val)

include hD hH hG hU hC hB hW in
theorem out11 (t : Fin cfg0.N) (r : Fin 256) (k : Fin 1024) :
    (outsAt0 m c t.val t.isLt).1 (ix3 0 r k) = ((partR D H G U C B W (t.val / 64) (t.val % 64 * 256 + r.val) k : ℝ) : EReal) := by
  have kd := kdcv_at m c D H G U C B W hD hH hG hU hC hB hW t
  have key := pay32 (kdcv m c t 0 inb_S272x2816_S256x2816_0_0) (kdcv m c t 1 inb_S272x2816_S256x2816_1_0) (kdcv m c t 2 inb_S272x2816_S256x2816_2_0)
    (fun q l => dcv D H G U C B W (t.val / 64) (t.val % 64 * 256 + q) l) (fun r l => (kd 0 _ r l).trans (by rw [Nat.zero_add]))
    (fun r l => (kd 1 _ r l).trans (by rw [Nat.add_comm 1])) (fun r l => (kd 2 _ r l).trans (by rw [Nat.add_comm 2])) (iblk m c 8 t)
    (fun k l => C k (col (t.val / 64) l)) (blk8 m c C hC t) (iblk m c 7 t) (fun k l => U k (col (t.val / 64) l)) (blk7 m c U hU t) r k
  simp only [back_shift] at key
  refine Eq.trans ?_ key
  by_cases h0 : t.val % 64 = 0
  · rw [outsAt0_A m c t h0 (by omega)]
    frame_out
  · by_cases h1 : t.val % 64 = 63
    · rw [outsAt0_C m c t h0 h1]
      frame_out
    · rw [outsAt0_B m c t h0 h1]
      frame_out

/-- A block's addition to the up weights' gradient, to the down weights' gradient, to the taps' and to the bias's. -/
def upR (j : ℕ) (k : Fin 1024) (l r : ℕ) : ℝ := H r k * rinv (H r) * G k * dup D H G U C B W j r l

def dnR (j : ℕ) (p : ℕ) (k : Fin 1024) (r : ℕ) : ℝ := gl (cv H G U C B r (col j p)) * cv H G U C B r (col j (p + 1408)) * D r k

def tapR (j a l r : ℕ) : ℝ := dcv D H G U C B W j r l * upS H G U (2 - a) r (col j l)

include hD hH hG hU hC hB hW in
theorem acc2 (k : Fin 1024) (l : Fin 2816) (n : ℕ) (hn : n < cfg0.N) :
    (outsAt0 m c n hn).2.2.2.1 (ix2 k l)
      = ((∑ p ∈ Finset.range (n % 64 + 1), ∑ r : Fin 256, upR D H G U C B W (n / 64) k l.val (p * 256 + r.val) : ℝ) : EReal) := by
  have key := fun t : Fin cfg0.N => by
    have kd := kdcv_at m c D H G U C B W hD hH hG hU hC hB hW t
    exact pay1 (kdcv m c t 0 inb_S272x2816_S256x2816_0_0) (kdcv m c t 1 inb_S272x2816_S256x2816_1_0) (kdcv m c t 2 inb_S272x2816_S256x2816_2_0)
      (fun q l => dcv D H G U C B W (t.val / 64) (t.val % 64 * 256 + q) l) (fun r l => (kd 0 _ r l).trans (by rw [Nat.zero_add]))
      (fun r l => (kd 1 _ r l).trans (by rw [Nat.add_comm 1])) (fun r l => (kd 2 _ r l).trans (by rw [Nat.add_comm 2])) (iblk m c 8 t)
      (fun k l => C k (col (t.val / 64) l)) (blk8 m c C hC t) (k0_pay6 (iblk m c 2 t) (iblk m c 6 t)) _
      (pay6 (iblk m c 2 t) (iblk m c 6 t) (fun r l => H (t.val % 64 * 256 + r.val) l) G (blk2 m c H hH t) (blk6 m c G hG t))
  simp only [back_shift] at key
  refine run_halves (fun n hn => (outsAt0 m c n hn).2.2.2.1 (ix2 k l)) (fun j p => ∑ r : Fin 256, upR D H G U C B W j k l.val (p * 256 + r.val))
    (fun n h h0 => ?_) (fun n h h0 => ?_) n hn
  · beta_reduce
    rw [outsAt0_A m c ⟨n, h⟩ h0 (by show ¬ n % 64 = 63; omega)]
    frame_out
    refine (key ⟨n, h⟩ _ _ _).trans ?_
    rw [show k0_pay2 (F := Ideal) (ix2 k l) = 0 by pointwise [k0_pay2], zero_add]
    dsimp only
    rw [h0]
    rfl
  · beta_reduce
    by_cases h1 : (n + 1) % 64 = 63
    · rw [outsAt0_C m c ⟨n + 1, h⟩ h0 h1]
      frame_out
      refine (key ⟨n + 1, h⟩ _ _ _).trans ?_
      rw [read_unread_whole]
      rfl
    · rw [outsAt0_B m c ⟨n + 1, h⟩ h0 h1]
      frame_out
      refine (key ⟨n + 1, h⟩ _ _ _).trans ?_
      rw [read_unread_whole]
      rfl

include hD hH hG hU hC hB in
theorem acc3 (p : Fin 1408) (k : Fin 1024) (n : ℕ) (hn : n < cfg0.N) :
    (outsAt0 m c n hn).2.2.2.2 (ix2 p k)
      = ((∑ q ∈ Finset.range (n % 64 + 1), ∑ r : Fin 256, dnR D H G U C B (n / 64) p.val k (q * 256 + r.val) : ℝ) : EReal) := by
  have key : ∀ (t : Fin cfg0.N) (acc : FVec Ideal S1408x1024 .f32), k0_pay23 (k0_pay22 (kcv m c t) (kdh m c t) acc) (ix2 p k)
      = acc (ix2 p k) + ((∑ r : Fin 256, dnR D H G U C B (t.val / 64) p.val k (t.val % 64 * 256 + r.val) : ℝ) : EReal) := fun t acc => by
    rw [pay23 (kcv m c t) (kcvR H G U C B (t.val % 64) (t.val / 64)) (kcv_at m c H G U C B hH hG hU hC hB t) (kdh m c t) (dn D (t.val % 64))
      (kdh_at m c D hD t) acc p k]
    refine congrArg (fun x : ℝ => acc (ix2 p k) + (x : EReal)) (Finset.sum_congr rfl fun r _ => ?_)
    have hi : t.val % 64 < 64 := Nat.mod_lt _ (by decide)
    rw [kcvR_eq H G U C B _ _ _ _ hi (by omega) (by omega), kcvR_eq H G U C B _ _ _ _ hi (by omega) (by omega)]
    unfold dn dnR
    rw [if_pos (by omega)]
  refine run_halves (fun n hn => (outsAt0 m c n hn).2.2.2.2 (ix2 p k)) (fun j q => ∑ r : Fin 256, dnR D H G U C B j p.val k (q * 256 + r.val))
    (fun n h h0 => ?_) (fun n h h0 => ?_) n hn
  · beta_reduce
    rw [outsAt0_A m c ⟨n, h⟩ h0 (by show ¬ n % 64 = 63; omega)]
    frame_out
    refine (key ⟨n, h⟩ _).trans ?_
    rw [show k0_pay3 (F := Ideal) (ix2 p k) = 0 by pointwise [k0_pay3], zero_add]
    dsimp only
    rw [h0]
  · beta_reduce
    by_cases h1 : (n + 1) % 64 = 63
    · rw [outsAt0_C m c ⟨n + 1, h⟩ h0 h1]
      frame_out
      refine (key ⟨n + 1, h⟩ _).trans ?_
      rw [read_unread_whole]
      rfl
    · rw [outsAt0_B m c ⟨n + 1, h⟩ h0 h1]
      frame_out
      refine (key ⟨n + 1, h⟩ _).trans ?_
      rw [read_unread_whole]
      rfl

include hD hH hG hU hC hB hW in
theorem out13 (l : Fin 2816) (n : ℕ) (hn : n < cfg0.N) :
    (outsAt0 m c n hn).2.2.1 (ix3 0 0 l)
      = ((∑ q ∈ Finset.range (n % 64 + 1), ∑ r : Fin 256, dcv D H G U C B W (n / 64) (q * 256 + r.val) l.val : ℝ) : EReal) := by
  have key := fun (t : Fin cfg0.N) (acc : FVec Ideal S1x1x2816 .f32) => pay24 (kdcv m c t 0 inb_S272x2816_S256x2816_0_0)
    (fun q l => dcv D H G U C B W (t.val / 64) (t.val % 64 * 256 + q) l)
    (fun r l => (kdcv_at m c D H G U C B W hD hH hG hU hC hB hW t 0 _ r l).trans (by rw [Nat.zero_add])) acc l
  refine run_halves (fun n hn => (outsAt0 m c n hn).2.2.1 (ix3 0 0 l)) (fun j q => ∑ r : Fin 256, dcv D H G U C B W j (q * 256 + r.val) l.val)
    (fun n h h0 => ?_) (fun n h h0 => ?_) n hn
  · beta_reduce
    rw [outsAt0_A m c ⟨n, h⟩ h0 (by show ¬ n % 64 = 63; omega)]
    frame_out
    refine (key ⟨n, h⟩ _).trans ?_
    rw [show k0_pay5 (F := Ideal) (ix3 0 0 l) = 0 by pointwise [k0_pay5], zero_add]
    dsimp only
    rw [h0]
  · beta_reduce
    by_cases h1 : (n + 1) % 64 = 63
    · rw [outsAt0_C m c ⟨n + 1, h⟩ h0 h1]
      frame_out
      exact key ⟨n + 1, h⟩ _
    · rw [outsAt0_B m c ⟨n + 1, h⟩ h0 h1]
      frame_out
      exact key ⟨n + 1, h⟩ _

/-- A tap's products over one block of rows. -/
theorem tap_sum (t : Fin cfg0.N) (a o : ℕ) (ho : o = 14 + a) (ha : a < 3) (l : Fin 2816) :
    ((∑ r : Fin 256, dcv D H G U C B W (t.val / 64) (t.val % 64 * 256 + r.val) l.val * us H G U (t.val % 64) (o + r.val) (col (t.val / 64) l.val) : ℝ) : EReal)
      = ((∑ r : Fin 256, tapR D H G U C B W (t.val / 64) a l.val (t.val % 64 * 256 + r.val) : ℝ) : EReal) := by
  have hi : t.val % 64 < 64 := Nat.mod_lt _ (by decide)
  refine congrArg _ (Finset.sum_congr rfl fun r _ => ?_)
  unfold tapR
  rw [us_eq H G U (t.val % 64) (o + r.val) (col (t.val / 64) l.val) (2 - a) (t.val % 64 * 256 + r.val) hi (by omega) (by omega) (by omega) (by omega) (by omega)]

include hD hH hG hU hC hB hW in
theorem out12 (a : Fin 3) (l : Fin 2816) (n : ℕ) (hn : n < cfg0.N) :
    (outsAt0 m c n hn).2.1 (ix3 0 a l)
      = ((∑ q ∈ Finset.range (n % 64 + 1), ∑ r : Fin 256, tapR D H G U C B W (n / 64) a.val l.val (q * 256 + r.val) : ℝ) : EReal) := by
  have y0 : ∀ (t : Fin cfg0.N) (r : Fin 256) (l : Fin 2816), kdcv m c t 0 inb_S272x2816_S256x2816_0_0 (ix2 r l)
      = ((dcv D H G U C B W (t.val / 64) (t.val % 64 * 256 + r.val) l.val : ℝ) : EReal) := fun t r l =>
    (kdcv_at m c D H G U C B W hD hH hG hU hC hB hW t 0 inb_S272x2816_S256x2816_0_0 r l).trans (by rw [Nat.zero_add])
  have z := fun (t : Fin cfg0.N) (o : ℕ) inb => kup_at m c H G U hH hG hU t o 256 inb
  have k0 := fun (t : Fin cfg0.N) inb (acc : FVec Ideal S1x1x2816 .f32) =>
    (pay29 _ (fun q l => dcv D H G U C B W (t.val / 64) (t.val % 64 * 256 + q) l) (y0 t) _
      (fun q l => us H G U (t.val % 64) (14 + q) (col (t.val / 64) l)) (z t 14 inb) acc l).trans
      (congrArg (acc (ix3 0 0 l) + ·) (tap_sum D H G U C B W t 0 14 rfl (by decide) l))
  have k1 := fun (t : Fin cfg0.N) inb (acc : FVec Ideal S1x1x2816 .f32) =>
    (pay30 _ (fun q l => dcv D H G U C B W (t.val / 64) (t.val % 64 * 256 + q) l) (y0 t) _
      (fun q l => us H G U (t.val % 64) (15 + q) (col (t.val / 64) l)) (z t 15 inb) acc l).trans
      (congrArg (acc (ix3 0 0 l) + ·) (tap_sum D H G U C B W t 1 15 rfl (by decide) l))
  have k2 := fun (t : Fin cfg0.N) inb (acc : FVec Ideal S1x1x2816 .f32) =>
    (pay26 _ (fun q l => dcv D H G U C B W (t.val / 64) (t.val % 64 * 256 + q) l) (y0 t) _
      (fun q l => us H G U (t.val % 64) (16 + q) (col (t.val / 64) l)) (z t 16 inb) acc l).trans
      (congrArg (acc (ix3 0 0 l) + ·) (tap_sum D H G U C B W t 2 16 rfl (by decide) l))
  refine run_halves (fun n hn => (outsAt0 m c n hn).2.1 (ix3 0 a l)) (fun j q => ∑ r : Fin 256, tapR D H G U C B W j a.val l.val (q * 256 + r.val))
    (fun n h h0 => ?_) (fun n h h0 => ?_) n hn
  · have p4 : ∀ a, k0_pay4 (F := Ideal) (ix3 0 a l) = 0 := fun a => by pointwise [k0_pay4]
    have e0 : (⟨n, h⟩ : Fin cfg0.N).val % 64 = 0 := h0
    beta_reduce
    rw [outsAt0_A m c ⟨n, h⟩ h0 (by show ¬ n % 64 = 63; omega)]
    frame_out
    obtain rfl | rfl | rfl : a = 0 ∨ a = 1 ∨ a = 2 := by omega
    · refine (tap_miss 1 _ _ _ 0 l (Or.inl (by decide))).trans ((tap_hit 0 _ _ _ l).trans ((k0 ⟨n, h⟩ _ _).trans ?_))
      refine (congrArg (· + _) ((tap_read 0 _ _ _ l).trans ((tap_miss 2 _ _ _ 0 l (Or.inl (by decide))).trans
        ((tap_fill _ _ 0 l).trans (p4 0))))).trans ((zero_add _).trans ?_)
      rw [e0]
      rfl
    · refine (tap_hit 1 _ _ _ l).trans ((k1 ⟨n, h⟩ _ _).trans ?_)
      refine (congrArg (· + _) ((tap_read 1 _ _ _ l).trans ((tap_miss 0 _ _ _ 1 l (Or.inr (by decide))).trans
        ((tap_miss 2 _ _ _ 1 l (Or.inl (by decide))).trans ((tap_fill _ _ 1 l).trans (p4 1)))))).trans ((zero_add _).trans ?_)
      rw [e0]
      rfl
    · refine (tap_miss 1 _ _ _ 2 l (Or.inr (by decide))).trans ((tap_miss 0 _ _ _ 2 l (Or.inr (by decide))).trans
        ((tap_hit 2 _ _ _ l).trans ((k2 ⟨n, h⟩ _ _).trans ?_)))
      refine (congrArg (· + _) ((tap_read 2 _ _ _ l).trans ((tap_fill _ _ 2 l).trans (p4 2)))).trans ((zero_add _).trans ?_)
      rw [e0]
      rfl
  · beta_reduce
    by_cases h1 : (n + 1) % 64 = 63
    · rw [outsAt0_C m c ⟨n + 1, h⟩ h0 h1]
      frame_out
      obtain rfl | rfl | rfl : a = 0 ∨ a = 1 ∨ a = 2 := by omega
      · exact (tap_miss 1 _ _ _ 0 l (Or.inl (by decide))).trans ((tap_hit 0 _ _ _ l).trans ((k0 ⟨n + 1, h⟩ _ _).trans
          (congrArg (· + _) (tap_ld 0 _ _ l))))
      · exact (tap_hit 1 _ _ _ l).trans ((k1 ⟨n + 1, h⟩ _ _).trans (congrArg (· + _) (tap_ld 1 _ _ l)))
      · exact (tap_miss 1 _ _ _ 2 l (Or.inr (by decide))).trans ((tap_miss 0 _ _ _ 2 l (Or.inr (by decide))).trans
          ((tap_hit 2 _ _ _ l).trans ((k2 ⟨n + 1, h⟩ _ _).trans (congrArg (· + _) (tap_ld 2 _ _ l)))))
    · rw [outsAt0_B m c ⟨n + 1, h⟩ h0 h1]
      frame_out
      obtain rfl | rfl | rfl : a = 0 ∨ a = 1 ∨ a = 2 := by omega
      · exact (tap_miss 1 _ _ _ 0 l (Or.inl (by decide))).trans ((tap_hit 0 _ _ _ l).trans ((k0 ⟨n + 1, h⟩ _ _).trans
          (congrArg (· + _) (tap_ld 0 _ _ l))))
      · exact (tap_hit 1 _ _ _ l).trans ((k1 ⟨n + 1, h⟩ _ _).trans (congrArg (· + _) (tap_ld 1 _ _ l)))
      · exact (tap_miss 1 _ _ _ 2 l (Or.inr (by decide))).trans ((tap_miss 0 _ _ _ 2 l (Or.inr (by decide))).trans
          ((tap_hit 2 _ _ _ l).trans ((k2 ⟨n + 1, h⟩ _ _).trans (congrArg (· + _) (tap_ld 2 _ _ l)))))

include hD hH hG hU hC hB hW in
/-- The normalised rows' cotangent, one part for each half. -/
theorem final11 : (dats m 0 c).arrAt 11 (cfgs 0).N
    = fun i : S2x16384x1024.Idx => ((partR D H G U C B W (i 0).val (i 1).val (i 2) : ℝ) : EReal) := by
  refine (dats m 0 c).arrAt_eq_of_covers 11 _ (by decide +kernel) fun t hf y => ?_
  blk_simp
  rw [after0_11]
  have hy : y = (ix3 0 (y 1 : Fin 256) (y 2 : Fin 1024) : S1x256x1024.Idx) := by
    refine (eq_ix3 (y : S1x256x1024.Idx)).trans (congrArg (fun a : Fin 1 => (ix3 a (y 1 : Fin 256) (y 2 : Fin 1024) : S1x256x1024.Idx)) (Subsingleton.elim _ _))
  have e := (idx t).2.2.2.2.2.2.2.2.2.2.2.1
  have g0 : win0_11.index t 0 = t.val / 64 := congrFun e 0
  have g1 : win0_11.index t 1 = t.val % 64 := congrFun e 1
  have g2 : (win0_11.blk t).view.emb y 2 = (y 2 : Fin 1024) := by
    refine Fin.ext ?_
    blk_simp [idx t]
  rw [g0, g1, g2]
  exact (congrArg (outsAt0 m c t.val t.isLt).1 hy).trans (out11 m c D H G U C B W hD hH hG hU hC hB hW t (y 1 : Fin 256) (y 2 : Fin 1024))

include hD hH hG hU hC hB hW in
/-- The taps' gradients. -/
theorem final12 : (dats m 0 c).arrAt 12 (cfgs 0).N
    = fun i : S2x3x2816.Idx => ((∑ r : Fin 16384, tapR D H G U C B W (i 0).val (i 1).val (i 2).val r.val : ℝ) : EReal) := by
  refine (dats m 0 c).arrAt_eq_of_covers 12 _ (by decide +kernel) fun t hf y => ?_
  blk_simp
  rw [after0_12]
  have hy : y = (ix3 0 (y 1 : Fin 3) (y 2 : Fin 2816) : S1x3x2816.Idx) := by
    refine (eq_ix3 (y : S1x3x2816.Idx)).trans (congrArg (fun a : Fin 1 => (ix3 a (y 1 : Fin 3) (y 2 : Fin 2816) : S1x3x2816.Idx)) (Subsingleton.elim _ _))
  have e := (idx t).2.2.2.2.2.2.2.2.2.2.2.2.1
  have g0 : win0_12.index t 0 = t.val / 64 := congrFun e 0
  have g1 : win0_12.index t 1 = 0 := congrFun e 1
  have g2 : win0_12.index t 2 = 0 := congrFun e 2
  have ht : t.val % 64 + 1 = 64 := by have := (flush0_12 t).mp hf; omega
  rw [g0, g1, g2, Nat.zero_mul, Nat.zero_add, Nat.zero_add]
  refine (congrArg (outsAt0 m c t.val t.isLt).2.1 hy).trans
    ((out12 m c D H G U C B W hD hH hG hU hC hB hW (y 1 : Fin 3) (y 2 : Fin 2816) t.val t.isLt).trans ?_)
  rw [ht, sum_blocks 64 256]

include hD hH hG hU hC hB hW in
/-- The bias's gradient. -/
theorem final13 : (dats m 0 c).arrAt 13 (cfgs 0).N
    = fun i : S2x1x2816.Idx => ((∑ r : Fin 16384, dcv D H G U C B W (i 0).val r.val (i 2).val : ℝ) : EReal) := by
  refine (dats m 0 c).arrAt_eq_of_covers 13 _ (by decide +kernel) fun t hf y => ?_
  blk_simp
  rw [after0_13]
  have hy : y = (ix3 0 0 (y 2 : Fin 2816) : S1x1x2816.Idx) := by
    refine (eq_ix3 (y : S1x1x2816.Idx)).trans ?_
    exact congrArg₂ (fun (a b : Fin 1) => (ix3 a b (y 2 : Fin 2816) : S1x1x2816.Idx)) (Subsingleton.elim _ _) (Subsingleton.elim _ _)
  have e := (idx t).2.2.2.2.2.2.2.2.2.2.2.2.2.1
  have g0 : win0_13.index t 0 = t.val / 64 := congrFun e 0
  have g1 : win0_13.index t 1 = 0 := congrFun e 1
  have g2 : win0_13.index t 2 = 0 := congrFun e 2
  have ht : t.val % 64 + 1 = 64 := by have := (flush0_13 t).mp hf; omega
  rw [g0, g2, Nat.zero_mul, Nat.zero_add]
  refine (congrArg (outsAt0 m c t.val t.isLt).2.2.1 hy).trans
    ((out13 m c D H G U C B W hD hH hG hU hC hB hW (y 2 : Fin 2816) t.val t.isLt).trans ?_)
  rw [ht, sum_blocks 64 256 (fun r => dcv D H G U C B W (t.val / 64) r (y 2 : Fin 2816).val)]

end results

end Cert.Ffn

end
-- ==== Proof.FfnRef.lean ====
/- The feed-forward's gradients, as the reference computes them. -/
module

public import proofs.«01_k».proof.Proof.FfnValue
public import proofs.«01_k».proof.Proof.Gen.Reference6Ideal.Read

@[expose] public section

set_option maxRecDepth 16384

noncomputable section

namespace Cert.FfnRef

open Idealize.ShloMosaic Cert.Reference6Ideal Cert.Reference6Ideal.Read Cert.Reals Cert.Ffn

theorem cA : Ideal.ofBits .f32 0x3D372713#32 = ((ga : ℝ) : EReal) := by
  simp [Ideal.ofBits, Ideal.ieee, -EReal.coe_mul, ga]; norm_num

theorem cThree : Ideal.ofBits .f32 0x40400000#32 = ((3 : ℝ) : EReal) := by
  simp [Ideal.ofBits, Ideal.ieee, -EReal.coe_mul]; norm_num

section maths

variable (D H : ℕ → Fin 1024 → ℝ) (G : Fin 1024 → ℝ) (U : Fin 1024 → ℕ → ℝ) (C : ℕ → ℕ → ℝ) (B : ℕ → ℝ) (W : ℕ → Fin 1024 → ℝ)

/-- The convolved rows' cotangent, in the reference's column order. -/
def dv (r n : ℕ) : ℝ :=
  if n < 2816 then dact D W r n * cv H G U C B r (n + 2816) * dgl (cv H G U C B r n)
  else dact D W r (n - 2816) * gl (cv H G U C B r (n - 2816))

theorem dv_col (j r l : ℕ) (hj : j < 2) (hl : l < 2816) (hr : r < 16384) : dv D H G U C B W r (col j l) = dcv D H G U C B W j r l := by
  unfold dv dcv dcvRow
  rw [if_pos hr]
  by_cases h : l < 1408
  · rw [if_pos h, if_pos (by unfold col; split_ifs; omega)]
    have e1 : col j l = j * 1408 + l := by unfold col; rw [if_pos h]
    have e2 : col j (l + 1408) = j * 1408 + l + 2816 := by unfold col; rw [if_neg (by omega)]; omega
    dsimp only
    rw [e1, e2]
  · rw [if_neg h, if_neg (by unfold col; split_ifs; omega)]
    have e1 : col j l - 2816 = j * 1408 + (l - 1408) := by unfold col; rw [if_neg h]; omega
    have e2 : col j (l - 1408) = j * 1408 + (l - 1408) := by unfold col; rw [if_pos (by omega)]
    dsimp only
    rw [e1, e2]

/-- The up projection's cotangent, in the reference's column order. -/
def du (r n : ℕ) : ℝ := dv D H G U C B W r n * C 2 n + (if r + 1 < 16384 then dv D H G U C B W (r + 1) n * C 1 n else 0)
  + (if r + 2 < 16384 then dv D H G U C B W (r + 2) n * C 0 n else 0)

theorem du_col (j r l : ℕ) (hj : j < 2) (hl : l < 2816) (hr : r < 16384) : du D H G U C B W r (col j l) = dup D H G U C B W j r l := by
  have e : ∀ q, (if q < 16384 then dv D H G U C B W q (col j l) else 0) = dcv D H G U C B W j q l := fun q => by
    by_cases h : q < 16384
    · rw [if_pos h, dv_col D H G U C B W j q l hj hl h]
    · rw [if_neg h]
      unfold dcv
      rw [if_neg h]
  unfold du dup back
  rw [← e r, ← e (r + 1), ← e (r + 2), if_pos hr]
  split_ifs <;> ring

theorem sum_half (f : ℕ → ℝ) : ∑ l : Fin 2816, f l.val = ∑ l : Fin 1408, f l.val + ∑ l : Fin 1408, f (1408 + l.val) := by
  rw [Fin.sum_univ_eq_sum_range f 2816, Fin.sum_univ_eq_sum_range f 1408, Fin.sum_univ_eq_sum_range (fun l => f (1408 + l)) 1408,
    ← Finset.sum_range_add f 1408 1408]

end maths

variable (d h : FVec Ideal S16384x1024 .f32) (g : FVec Ideal S1024 .f32) (u : FVec Ideal S1024x5632 .f32) (cw : FVec Ideal S3x5632 .f32)
  (b : FVec Ideal S5632 .f32) (w : FVec Ideal S2816x1024 .f32)
  (D H : ℕ → Fin 1024 → ℝ) (G : Fin 1024 → ℝ) (U : Fin 1024 → ℕ → ℝ) (C : ℕ → ℕ → ℝ) (B : ℕ → ℝ) (W : ℕ → Fin 1024 → ℝ)
  (hD : ∀ (r : Fin 16384) l, d (ix2 r l) = ((D r.val l : ℝ) : EReal)) (hH : ∀ (r : Fin 16384) l, h (ix2 r l) = ((H r.val l : ℝ) : EReal))
  (hG : ∀ l, g (ix1 l) = ((G l : ℝ) : EReal)) (hU : ∀ k (n : Fin 5632), u (ix2 k n) = ((U k n.val : ℝ) : EReal))
  (hC : ∀ (k : Fin 3) (n : Fin 5632), cw (ix2 k n) = ((C k.val n.val : ℝ) : EReal)) (hB : ∀ n : Fin 5632, b (ix1 n) = ((B n.val : ℝ) : EReal))
  (hW : ∀ (p : Fin 2816) l, w (ix2 p l) = ((W p.val l : ℝ) : EReal))

include hH in
theorem v7 (r : Fin 16384) : val_main_v7 (F := Ideal) h (ix2 r 0) = ((rinv (H r) : ℝ) : EReal) := by
  have h6 : val_main_v6 (F := Ideal) h (ix2 r 0) = ((msq (H r) + eps : ℝ) : EReal) := by
    pointwise [val_main_v6, val_main_v5, val_main_v4, val_main_v3, val_main_v2, val_main_v1, val_main_v0, val_main_cst, val_main_cst_0, val_main_cst_1]
    simp only [hH, c1024, cEps, ← EReal.coe_mul, sum_coe, div_real _ _ (by norm_num : (1024 : ℝ) ≠ 0), ← EReal.coe_add]
    rfl
  have hp := msq_eps_pos (H r)
  pointwise [val_main_v7]
  rw [h6, Ideal.rsqrt_coe, if_neg (not_lt.mpr hp.le), if_neg hp.ne']
  rfl

include hH hG in
theorem v12 (r : Fin 16384) (l : Fin 1024) : val_main_v12 (F := Ideal) h g (ix2 r l) = ((H r l * rinv (H r) * G l : ℝ) : EReal) := by
  have h7 := v7 h H hH r
  pointwise [val_main_v12, val_main_v11, val_main_v10, val_main_v9, val_main_v8]
  rw [h7, hH, hG, EReal.coe_mul, EReal.coe_mul]

include hH hG hU in
theorem v32 (r : Fin 16384) (n : Fin 5632) : val_main_v32 (F := Ideal) h g u (ix2 r n) = ((upAll H G U r.val n.val : ℝ) : EReal) := by
  have h12 := v12 h g H G hH hG r
  pointwise [val_main_v32, val_main_v19, val_main_v23, val_main_v27, val_main_v31, val_main_v17, val_main_v21, val_main_v25, val_main_v29,
    val_main_v16, val_main_v20, val_main_v24, val_main_v28, val_main_v18, val_main_v22, val_main_v26, val_main_v30, val_main_v15, val_main_v14, val_main_v13]
  simp only [h12, hU, ← EReal.coe_mul, sum_coe]
  unfold upAll
  have e : ∀ a b : ℕ, a = b → ((∑ k, H r k * rinv (H r) * G k * U k a : ℝ) : EReal) = ((∑ k, H r k * rinv (H r) * G k * U k b : ℝ) : EReal) :=
    fun a b h => by rw [h]
  split_ifs <;> exact e _ _ (by omega)

include hH hG hU in
theorem v36 (r : Fin 16384) (n : Fin 5632) : val_main_v36 (F := Ideal) h g u (ix2 r n) = ((upS H G U 2 r.val n.val : ℝ) : EReal) := by
  have h32 := v32 h g u H G U hH hG hU
  pointwise [val_main_v36, val_main_v34, val_main_v33, val_main_cst_2]
  simp only [h32]
  unfold upS
  split_ifs <;> first | rfl | exact congrArg (fun q : ℕ => ((upAll H G U q n.val : ℝ) : EReal)) (by omega) | omega

include hH hG hU in
theorem v45 (r : Fin 16384) (n : Fin 5632) : val_main_v45 (F := Ideal) h g u (ix2 r n) = ((upS H G U 1 r.val n.val : ℝ) : EReal) := by
  have h32 := v32 h g u H G U hH hG hU
  pointwise [val_main_v45, val_main_v34, val_main_v33, val_main_cst_2]
  simp only [h32]
  unfold upS
  split_ifs <;> first | rfl | exact congrArg (fun q : ℕ => ((upAll H G U q n.val : ℝ) : EReal)) (by omega) | omega

include hH hG hU in
theorem v52 (r : Fin 16384) (n : Fin 5632) : val_main_v52 (F := Ideal) h g u (ix2 r n) = ((upS H G U 0 r.val n.val : ℝ) : EReal) := by
  have h32 := v32 h g u H G U hH hG hU
  pointwise [val_main_v52, val_main_v34, val_main_v33, val_main_cst_2]
  simp only [h32]
  unfold upS
  split_ifs <;> first | rfl | exact congrArg (fun q : ℕ => ((upAll H G U q n.val : ℝ) : EReal)) (by omega) | omega

include hH hG hU hC hB in
theorem v58 (r : Fin 16384) (n : Fin 5632) : val_main_v58 (F := Ideal) h g u cw b (ix2 r n) = ((cv H G U C B r.val n.val : ℝ) : EReal) := by
  have h36 := v36 h g u H G U hH hG hU r n
  have h45 := v45 h g u H G U hH hG hU r n
  have h52 := v52 h g u H G U hH hG hU r n
  pointwise [val_main_v58, val_main_v57, val_main_v56, val_main_v55, val_main_v54, val_main_v53, val_main_v51, val_main_v50, val_main_v49, val_main_v48,
    val_main_v47, val_main_v46, val_main_v44, val_main_v43, val_main_v42, val_main_v41, val_main_v40, val_main_v39, val_main_v38, val_main_v37]
  simp only [h36, h45, h52, hC, hB, ← EReal.coe_mul, ← EReal.coe_add]
  refine congrArg (fun r : ℝ => (r : EReal)) ?_
  show B n.val + upS H G U 2 r.val n.val * C 0 n.val + upS H G U 1 r.val n.val * C 1 n.val + upS H G U 0 r.val n.val * C 2 n.val = _
  unfold cv
  ring

include hH hG hU hC hB in
theorem v59 (r : Fin 16384) (p : Fin 2816) : val_main_v59 (F := Ideal) h g u cw b (ix2 r p) = ((cv H G U C B r.val p.val : ℝ) : EReal) := by
  have h58 := v58 h g u cw b H G U C B hH hG hU hC hB r
  pointwise [val_main_v59]
  exact h58 ⟨p.val, by omega⟩

include hH hG hU hC hB in
theorem v60 (r : Fin 16384) (p : Fin 2816) : val_main_v60 (F := Ideal) h g u cw b (ix2 r p) = ((cv H G U C B r.val (p.val + 2816) : ℝ) : EReal) := by
  have h58 := v58 h g u cw b H G U C B hH hG hU hC hB r
  pointwise [val_main_v60]
  exact (h58 ⟨2816 + p.val, by omega⟩).trans (congrArg (fun q : ℕ => ((cv H G U C B r.val q : ℝ) : EReal)) (Nat.add_comm _ _))

include hH hG hU hC hB in
theorem v71 (r : Fin 16384) (p : Fin 2816) : val_main_v71 (F := Ideal) h g u cw b (ix2 r p) = ((gth (cv H G U C B r.val p.val) : ℝ) : EReal) := by
  have h59 := v59 h g u cw b H G U C B hH hG hU hC hB r
  pointwise [val_main_v71, val_main_v70, val_main_v69, val_main_v68, val_main_v67, val_main_v66, val_main_v62, val_main_v61, val_main_cst_5, val_main_cst_6]
  simp only [h59, cC, cA, ← EReal.coe_mul, ← EReal.coe_add, Ideal.tanh_coe]
  refine congrArg (fun r : ℝ => (r : EReal)) ?_
  unfold gth
  refine congrArg Real.tanh ?_
  ring

include hH hG hU hC hB in
theorem v81 (r : Fin 16384) (p : Fin 2816) : val_main_v81 (F := Ideal) h g u cw b (ix2 r p) = ((gl (cv H G U C B r.val p.val) : ℝ) : EReal) := by
  have h59 := v59 h g u cw b H G U C B hH hG hU hC hB r p
  have h71 := v71 h g u cw b H G U C B hH hG hU hC hB r p
  pointwise [val_main_v81, val_main_v80, val_main_v79, val_main_v78, val_main_v77, val_main_cst_9, val_main_cst_10]
  simp only [h59, h71, cHalf, cOne, ← EReal.coe_mul, ← EReal.coe_add]
  refine congrArg (fun r : ℝ => (r : EReal)) ?_
  unfold gl gs
  ring

include hD hW in
theorem v84 (r : Fin 16384) (p : Fin 2816) : val_main_v84 (F := Ideal) d w (ix2 r p) = ((dact D W r.val p.val : ℝ) : EReal) := by
  pointwise [val_main_v84]
  simp only [hD, hW, ← EReal.coe_mul, sum_coe]
  rfl

include hD hH hG hU hC hB hW in
theorem v98 (r : Fin 16384) (p : Fin 2816) : val_main_v98 (F := Ideal) d h g u cw b w (ix2 r p)
    = ((dact D W r.val p.val * cv H G U C B r.val (p.val + 2816) * dgl (cv H G U C B r.val p.val) : ℝ) : EReal) := by
  have h59 := v59 h g u cw b H G U C B hH hG hU hC hB r p
  have h60 := v60 h g u cw b H G U C B hH hG hU hC hB r p
  have h71 := v71 h g u cw b H G U C B hH hG hU hC hB r p
  have h84 := v84 d w D W hD hW r p
  pointwise [val_main_v98, val_main_v97, val_main_v96, val_main_v95, val_main_v94, val_main_v93, val_main_v92, val_main_v91, val_main_v90, val_main_v89,
    val_main_v88, val_main_v87, val_main_v86, val_main_v80, val_main_v79, val_main_v78, val_main_v77, val_main_v76, val_main_v75, val_main_v74,
    val_main_v73, val_main_v72, val_main_v65, val_main_v64, val_main_v63, val_main_cst_4, val_main_cst_7, val_main_cst_8, val_main_cst_9,
    val_main_cst_10, val_main_cst_11, val_main_cst_12, val_main_cst_13]
  simp only [h59, h60, h71, h84, cC, cA, cHalf, cOne, cThree, ← EReal.coe_mul, ← EReal.coe_add, ← EReal.coe_sub]
  refine congrArg (fun r : ℝ => (r : EReal)) ?_
  unfold dgl gl gs
  ring

include hD hH hG hU hC hB hW in
theorem v99 (r : Fin 16384) (n : Fin 5632) : val_main_v99 (F := Ideal) d h g u cw b w (ix2 r n) = ((dv D H G U C B W r.val n.val : ℝ) : EReal) := by
  have h98 := v98 d h g u cw b w D H G U C B W hD hH hG hU hC hB hW r
  have h81 := v81 h g u cw b H G U C B hH hG hU hC hB r
  have h84 := v84 d w D W hD hW r
  pointwise [val_main_v99, val_main_v85]
  simp only [h98, h81, h84, ← EReal.coe_mul]
  unfold dv
  split_ifs with hn
  · rfl
  · refine congrArg (fun r : ℝ => (r : EReal)) ?_
    ring

include hD hH hG hU hC hB hW in
/-- The up projection's cotangent. -/
theorem v135 (r : Fin 16384) (n : Fin 5632) : val_main_v135 (F := Ideal) d h g u cw b w (ix2 r n) = ((du D H G U C B W r.val n.val : ℝ) : EReal) := by
  have h99 := v99 d h g u cw b w D H G U C B W hD hH hG hU hC hB hW
  pointwise [val_main_v135, val_main_v133, val_main_v132, val_main_v127, val_main_v126, val_main_v119, val_main_v118, val_main_v113, val_main_v112,
    val_main_v108, val_main_v104, val_main_v103, val_main_v55, val_main_v54, val_main_v53, val_main_v48, val_main_v47, val_main_v46, val_main_v39,
    val_main_v38, val_main_v37, val_main_cst_17, val_main_cst_21, val_main_cst_27]
  simp only [h99, hC, ← EReal.coe_mul]
  unfold du
  have e : 2 + r.val - 1 = r.val + 1 := by omega
  by_cases h1 : r.val + 1 < 16384
  · rw [dif_pos (show 1 ≤ 2 + r.val ∧ 2 + r.val - 1 < 16384 from ⟨by omega, by omega⟩), if_pos h1, e]
    by_cases h2 : r.val + 2 < 16384
    · rw [dif_pos (show 2 + r.val < 16384 by omega), if_pos h2, Nat.add_comm 2, ← EReal.coe_add, ← EReal.coe_add]
      rfl
    · rw [dif_neg (show ¬ 2 + r.val < 16384 by omega), if_neg h2, add_zero, add_zero, ← EReal.coe_add]
      rfl
  · rw [dif_neg (show ¬ (1 ≤ 2 + r.val ∧ 2 + r.val - 1 < 16384) by omega), dif_neg (show ¬ 2 + r.val < 16384 by omega), if_neg h1,
      if_neg (show ¬ r.val + 2 < 16384 by omega), add_zero, add_zero, add_zero, add_zero]
    rfl

theorem part_split (j r : ℕ) (k : Fin 1024) (hj : j < 2) (hr : r < 16384) : partR D H G U C B W j r k
    = ∑ l : Fin 1408, du D H G U C B W r (j * 1408 + l.val) * U k (j * 1408 + l.val)
      + ∑ l : Fin 1408, du D H G U C B W r (2816 + (j * 1408 + l.val)) * U k (2816 + (j * 1408 + l.val)) := by
  have e1 : ∀ l : Fin 1408, col j l.val = j * 1408 + l.val := fun l => by unfold col; rw [if_pos l.isLt]
  have e2 : ∀ l : Fin 1408, col j (1408 + l.val) = 2816 + (j * 1408 + l.val) := fun l => by
    unfold col
    rw [if_neg (by omega)]
    omega
  unfold partR
  rw [sum_half (fun l => dup D H G U C B W j r l * U k (col j l))]
  refine congrArg₂ (· + ·) (Finset.sum_congr rfl fun l _ => ?_) (Finset.sum_congr rfl fun l _ => ?_)
  · rw [← du_col D H G U C B W j r _ hj (by omega) hr, e1]
  · rw [← du_col D H G U C B W j r _ hj (by omega) hr, e2]

include hD hH hG hU hC hB hW in
/-- The normalised rows' cotangent, one part for each half. -/
theorem part_eq : val_main_v154 (F := Ideal) d h g u cw b w
    = fun i : S2x16384x1024.Idx => ((partR D H G U C B W (i 0).val (i 1).val (i 2) : ℝ) : EReal) := by
  funext i
  obtain ⟨j, r, k, rfl⟩ : ∃ (j : Fin 2) (r : Fin 16384) (k : Fin 1024), i = ix3 j r k := ⟨i 0, i 1, i 2, eq_ix3 i⟩
  have h135 := v135 d h g u cw b w D H G U C B W hD hH hG hU hC hB hW r
  refine Eq.trans ?_ (congrArg (fun x : ℝ => (x : EReal)) (part_split D H G U C B W j.val r.val k j.isLt r.isLt).symm)
  fin_cases j <;>
    (pointwise [val_main_v154, val_main_v153, val_main_v152, val_main_v151, val_main_v150, val_main_v149, val_main_v148, val_main_v147, val_main_v146,
      val_main_v145, val_main_v144, val_main_v143, val_main_v142, val_main_v141, val_main_v140, val_main_v139, val_main_v138, val_main_v137, val_main_v136,
      val_main_v30, val_main_v26, val_main_v22, val_main_v18, val_main_cst_28, val_main_cst_29, val_main_cst_30, val_main_cst_31]
     simp only [h135, hU, ← EReal.coe_mul, sum_coe])
  · rw [← EReal.coe_add, add_comm]
  · rw [← EReal.coe_add, add_comm]
    simp only [← Nat.add_assoc, Nat.reduceAdd]

include hD hH hG hU hC hB hW in
/-- The taps' gradients in the reference's column order. -/
theorem v131 (a : Fin 3) (n : Fin 5632) : val_main_v131 (F := Ideal) d h g u cw b w (ix2 a n)
    = ((∑ r : Fin 16384, dv D H G U C B W r.val n.val * upS H G U (2 - a.val) r.val n.val : ℝ) : EReal) := by
  have h99 := v99 d h g u cw b w D H G U C B W hD hH hG hU hC hB hW
  have h36 := v36 h g u H G U hH hG hU
  have h45 := v45 h g u H G U hH hG hU
  have h52 := v52 h g u H G U hH hG hU
  fin_cases a <;>
    (pointwise [val_main_v131, val_main_v130, val_main_v129, val_main_v128, val_main_v125, val_main_v124, val_main_v123, val_main_v117, val_main_v116,
      val_main_v115, val_main_v114, val_main_v111, val_main_v110, val_main_v109, val_main_v107, val_main_v106, val_main_v105, val_main_v102,
      val_main_v101, val_main_v100, val_main_cst_14, val_main_cst_15, val_main_cst_16, val_main_cst_18, val_main_cst_19, val_main_cst_20,
      val_main_cst_24, val_main_cst_25, val_main_cst_26]
     simp only [Fin.sum_univ_one, h99, h36, h45, h52, ← EReal.coe_mul, sum_coe])
  all_goals exact congrArg (fun r : ℝ => (r : EReal)) (Finset.sum_congr rfl fun r _ => mul_comm _ _)

include hD hH hG hU hC hB hW in
/-- The taps' gradients. -/
theorem dcw_eq : val_main_v168 (F := Ideal) d h g u cw b w
    = fun i : S2x3x2816.Idx => ((∑ r : Fin 16384, tapR D H G U C B W (i 0).val (i 1).val (i 2).val r.val : ℝ) : EReal) := by
  funext i
  obtain ⟨j, a, l, rfl⟩ : ∃ (j : Fin 2) (a : Fin 3) (l : Fin 2816), i = ix3 j a l := ⟨i 0, i 1, i 2, eq_ix3 i⟩
  have h131 := v131 d h g u cw b w D H G U C B W hD hH hG hU hC hB hW a
  have e : ∑ r : Fin 16384, tapR D H G U C B W j.val a.val l.val r.val
      = ∑ r : Fin 16384, dv D H G U C B W r.val (col j.val l.val) * upS H G U (2 - a.val) r.val (col j.val l.val) :=
    Finset.sum_congr rfl fun r _ => by
      unfold tapR
      rw [dv_col D H G U C B W j.val r.val l.val j.isLt l.isLt r.isLt]
  refine Eq.trans ?_ (congrArg (fun x : ℝ => (x : EReal)) e.symm)
  have q : ∀ x y : ℕ, x = y → ((∑ r : Fin 16384, dv D H G U C B W r.val x * upS H G U (2 - a.val) r.val x : ℝ) : EReal)
      = ((∑ r : Fin 16384, dv D H G U C B W r.val y * upS H G U (2 - a.val) r.val y : ℝ) : EReal) := fun x y h => by rw [h]
  have hc : col j.val l.val = if l.val < 1408 then j.val * 1408 + l.val else 2816 + (j.val * 1408 + (l.val - 1408)) := rfl
  rw [hc]
  fin_cases j <;>
    (pointwise [val_main_v168, val_main_v167, val_main_v166, val_main_v165, val_main_v164, val_main_v158, val_main_v157, val_main_v156, val_main_v155]
     simp only [h131]
     by_cases h1 : l.val < 1408
     · rw [dif_pos h1, if_pos h1]
       try exact q _ _ (by first | omega | simp)
     · rw [dif_neg h1, if_neg h1]
       try exact q _ _ (by first | omega | (simp; omega)))

include hD hH hG hU hC hB hW in
/-- The bias's gradient in the reference's column order. -/
theorem v159 (n : Fin 5632) : val_main_v159 (F := Ideal) d h g u cw b w (ix2 0 n)
    = ((∑ r : Fin 16384, dv D H G U C B W r.val n.val : ℝ) : EReal) := by
  have h99 := v99 d h g u cw b w D H G U C B W hD hH hG hU hC hB hW
  pointwise [val_main_v159, val_main_v122, val_main_v121, val_main_v120, val_main_cst_22, val_main_cst_23]
  simp only [Fin.sum_univ_one, h99, sum_coe]

include hD hH hG hU hC hB hW in
/-- The bias's gradient. -/
theorem dcb_eq : val_main_v173 (F := Ideal) d h g u cw b w
    = fun i : S2x1x2816.Idx => ((∑ r : Fin 16384, dcv D H G U C B W (i 0).val r.val (i 2).val : ℝ) : EReal) := by
  funext i
  obtain ⟨j, a, l, rfl⟩ : ∃ (j : Fin 2) (a : Fin 1) (l : Fin 2816), i = ix3 j a l := ⟨i 0, i 1, i 2, eq_ix3 i⟩
  obtain rfl : a = 0 := Subsingleton.elim _ _
  have h159 := v159 d h g u cw b w D H G U C B W hD hH hG hU hC hB hW
  have e : ∑ r : Fin 16384, dcv D H G U C B W j.val r.val l.val = ∑ r : Fin 16384, dv D H G U C B W r.val (col j.val l.val) :=
    Finset.sum_congr rfl fun r _ => (dv_col D H G U C B W j.val r.val l.val j.isLt l.isLt r.isLt).symm
  refine Eq.trans ?_ (congrArg (fun x : ℝ => (x : EReal)) e.symm)
  have q : ∀ x y : ℕ, x = y → ((∑ r : Fin 16384, dv D H G U C B W r.val x : ℝ) : EReal)
      = ((∑ r : Fin 16384, dv D H G U C B W r.val y : ℝ) : EReal) := fun x y h => by rw [h]
  have hc : col j.val l.val = if l.val < 1408 then j.val * 1408 + l.val else 2816 + (j.val * 1408 + (l.val - 1408)) := rfl
  rw [hc]
  fin_cases j <;>
    (pointwise [val_main_v173, val_main_v172, val_main_v171, val_main_v170, val_main_v169, val_main_v163, val_main_v162, val_main_v161, val_main_v160]
     simp only [h159]
     by_cases h1 : l.val < 1408
     · rw [dif_pos h1, if_pos h1]
       try exact q _ _ (by first | omega | simp)
     · rw [dif_neg h1, if_neg h1]
       try exact q _ _ (by first | omega | (simp; omega)))

end Cert.FfnRef

end
-- ==== Proof.FfnClaim.lean ====
/- The feed-forward call's partial input gradients and its convolution's gradients are the reference's, at finite arguments. -/
module

public import proofs.«01_k».proof.Defs
public import proofs.«01_k».proof.Proof.FfnValue
public import proofs.«01_k».proof.Proof.FfnRef
public import proofs.«01_k».proof.Proof.Gen.Pre_ffn_finite
public import Idealize.ShloMosaic.Lib.Claim
public import Idealize.ShloMosaic.Lib.Quiescent

@[expose] public section

set_option maxRecDepth 16384

noncomputable section

namespace Cert.FfnClaim

open Idealize.ShloMosaic Idealize.ShloMosaic.TcCoe Idealize.SL.Sem

/-- An array of reals over two axes, read at natural numbers. -/
theorem cols_of {A N : ℕ} (x : FVec Ideal ⟨2, ![A, N]⟩ .f32) (X : (⟨2, ![A, N]⟩ : Shape).Idx → ℝ) (hX : ∀ i, x i = ((X i : ℝ) : EReal)) :
    ∃ Y : Fin A → ℕ → ℝ, ∀ a (n : Fin N), x (ix2 a n) = ((Y a n.val : ℝ) : EReal) := by
  refine ⟨fun a n => if h : n < N then X (ix2 a ⟨n, h⟩) else 0, fun a n => ?_⟩
  have h : (if h : n.val < N then X (ix2 a ⟨n.val, h⟩) else 0) = X (ix2 a n) := dif_pos n.isLt
  exact (hX _).trans (congrArg (fun x : ℝ => (x : EReal)) h.symm)

/-- Finite arguments of the feed-forward call are arrays of reals. -/
theorem ffn_reals (d h : FVec Ideal Cert.Kernel6Ideal.S16384x1024 .f32) (g : FVec Ideal Cert.Kernel6Ideal.S1024 .f32)
    (u : FVec Ideal Cert.Kernel6Ideal.S1024x5632 .f32) (cw : FVec Ideal Cert.Kernel6Ideal.S3x5632 .f32)
    (b : FVec Ideal Cert.Kernel6Ideal.S5632 .f32) (w : FVec Ideal Cert.Kernel6Ideal.S2816x1024 .f32)
    (hp : Cert.Pre_ffn_finite.fn (F := Ideal) d h g u cw b w = fun _ => 1#1) :
    ∃ (D H : ℕ → Fin 1024 → ℝ) (G : Fin 1024 → ℝ) (U : Fin 1024 → ℕ → ℝ) (C : ℕ → ℕ → ℝ) (B : ℕ → ℝ) (W : ℕ → Fin 1024 → ℝ),
      (∀ (r : Fin 16384) l, d (ix2 r l) = ((D r.val l : ℝ) : EReal)) ∧ (∀ (r : Fin 16384) l, h (ix2 r l) = ((H r.val l : ℝ) : EReal))
      ∧ (∀ l, g (ix1 l) = ((G l : ℝ) : EReal)) ∧ (∀ k (n : Fin 5632), u (ix2 k n) = ((U k n.val : ℝ) : EReal))
      ∧ (∀ (k : Fin 3) (n : Fin 5632), cw (ix2 k n) = ((C k.val n.val : ℝ) : EReal))
      ∧ (∀ n : Fin 5632, b (ix1 n) = ((B n.val : ℝ) : EReal)) ∧ ∀ (p : Fin 2816) l, w (ix2 p l) = ((W p.val l : ℝ) : EReal) := by
  have h0 := congrFun hp (fun a => a.elim0)
  dsimp only [Cert.Pre_ffn_finite.fn, Cert.Pre_ffn_finite.fn_part1] at h0
  obtain ⟨h1, h7⟩ := IntOp.andi_eq_one.mp h0
  obtain ⟨h1, h6⟩ := IntOp.andi_eq_one.mp h1
  obtain ⟨h1, h5⟩ := IntOp.andi_eq_one.mp h1
  obtain ⟨h1, h4⟩ := IntOp.andi_eq_one.mp h1
  obtain ⟨h1, h3⟩ := IntOp.andi_eq_one.mp h1
  obtain ⟨h1, h2⟩ := IntOp.andi_eq_one.mp h1
  obtain ⟨X1, hX1⟩ := Cert.Reals.reals_of_finite d _ _ _ _ _ _ h1
  obtain ⟨X2, hX2⟩ := Cert.Reals.reals_of_finite h _ _ _ _ _ _ h2
  obtain ⟨X3, hX3⟩ := Cert.Reals.reals_of_finite g _ _ _ _ _ _ h3
  obtain ⟨X4, hX4⟩ := Cert.Reals.reals_of_finite u _ _ _ _ _ _ h4
  obtain ⟨X5, hX5⟩ := Cert.Reals.reals_of_finite cw _ _ _ _ _ _ h5
  obtain ⟨X6, hX6⟩ := Cert.Reals.reals_of_finite b _ _ _ _ _ _ h6
  obtain ⟨X7, hX7⟩ := Cert.Reals.reals_of_finite w _ _ _ _ _ _ h7
  obtain ⟨D, hD⟩ := Cert.Reals.rows_of d X1 hX1
  obtain ⟨H, hH⟩ := Cert.Reals.rows_of h X2 hX2
  obtain ⟨U, hU⟩ := cols_of u X4 hX4
  obtain ⟨C, hC⟩ := cols_of cw X5 hX5
  obtain ⟨W, hW⟩ := Cert.Reals.rows_of w X7 hX7
  refine ⟨D, H, fun l => X3 (ix1 l), U, fun k n => if h : k < 3 then C ⟨k, h⟩ n else 0,
    fun n => if h : n < 5632 then X6 (ix1 ⟨n, h⟩) else 0, W, hD, hH, fun l => hX3 _, hU, fun k n => ?_, fun n => ?_, hW⟩
  · have e : (if h : k.val < 3 then C ⟨k.val, h⟩ n.val else 0) = C k n.val := dif_pos k.isLt
    exact (hC k n).trans (congrArg (fun x : ℝ => (x : EReal)) e.symm)
  · have e : (if h : n.val < 5632 then X6 (ix1 ⟨n.val, h⟩) else 0) = X6 (ix1 n) := dif_pos n.isLt
    exact (hX6 _).trans (congrArg (fun x : ℝ => (x : EReal)) e.symm)

theorem frame_reference : Cert.quiescent_Reference6Ideal := fun m g _ =>
  (θ_run (Cert.Reference6Ideal.defs (F := Ideal)) _ _).mono
    (fun r h => ⟨fun c => (h c).2.2.2, sem_eq_zero_of_no_sems (by decide) r.2⟩)
    (Cert.Reference6Ideal.Value.run m g)

/-- The kernel's two folded constants are the named products of the reference's. -/
theorem preserves : Cert.preserves_Kernel6_Kernel6Ideal :=
  ⟨IdealRules.named_const.statement Cert.Kernel6Ideal.κ "gelu_c2" .f32 0x3D122279#32 ((80338380498831 / 2251799813685248 : ℝ) : EReal) rfl,
    IdealRules.named_const.statement Cert.Kernel6Ideal.κ "gelu_c3" .f32 0x3DDB33B6#32 ((241015141496493 / 2251799813685248 : ℝ) : EReal) rfl⟩

set_option maxHeartbeats 4000000 in
theorem algebraic : Cert.algebraic_Kernel6Ideal_Reference6Ideal_pre_ffn_finite := by
  intro m g m' g' hpre hagree
  refine ⟨fun c => (Cert.Kernel6Ideal.Gen.dats m 0 c).arrAt 11 (Cert.Kernel6Ideal.cfgs 0).N,
    fun c => (Cert.Kernel6Ideal.Gen.dats m 0 c).arrAt 12 (Cert.Kernel6Ideal.cfgs 0).N,
    fun c => (Cert.Kernel6Ideal.Gen.dats m 0 c).arrAt 13 (Cert.Kernel6Ideal.cfgs 0).N, Cert.Kernel6Ideal.Value.run_blocks m g, ?_⟩
  refine (θ_run (Cert.Reference6Ideal.defs (F := Ideal)) _ _).mono (fun r h c => ?_) (Cert.Reference6Ideal.Value.run m' g')
  obtain ⟨D, H, G, U, C, B, W, hD, hH, hG, hU, hC, hB, hW⟩ := ffn_reals _ _ _ _ _ _ _ (hpre c)
  obtain ⟨h0, h1, h2, a⟩ := h c
  obtain ⟨e0, e1, e2, e3, e4, e5, e6⟩ := hagree c
  have k0 : StableHlo.launchContents m' c (Proc.devRef .tc Cert.Reference6Ideal.main_arg0) = _ := e0
  have k1 : StableHlo.launchContents m' c (Proc.devRef .tc Cert.Reference6Ideal.main_arg1) = _ := e1
  have k2 : StableHlo.launchContents m' c (Proc.devRef .tc Cert.Reference6Ideal.main_arg2) = _ := e2
  have k3 : StableHlo.launchContents m' c (Proc.devRef .tc Cert.Reference6Ideal.main_arg3) = _ := e3
  have k4 : StableHlo.launchContents m' c (Proc.devRef .tc Cert.Reference6Ideal.main_arg4) = _ := e4
  have k5 : StableHlo.launchContents m' c (Proc.devRef .tc Cert.Reference6Ideal.main_arg5) = _ := e5
  have k6 : StableHlo.launchContents m' c (Proc.devRef .tc Cert.Reference6Ideal.main_arg6) = _ := e6
  have q0 := Cert.Reference6Ideal.Read.val_main_v154_eq (StableHlo.launchContents m' c)
  have q1 := Cert.Reference6Ideal.Read.val_main_v168_eq (StableHlo.launchContents m' c)
  have q2 := Cert.Reference6Ideal.Read.val_main_v173_eq (StableHlo.launchContents m' c)
  rw [k0, k1, k2, k3, k4, k5, k6] at q0 q1 q2
  exact ⟨h0.trans (q0.trans ((Cert.FfnRef.part_eq _ _ _ _ _ _ _ D H G U C B W hD hH hG hU hC hB hW).trans
      (Cert.Ffn.final11 m c D H G U C B W hD hH hG hU hC hB hW).symm)),
    h1.trans (q1.trans ((Cert.FfnRef.dcw_eq _ _ _ _ _ _ _ D H G U C B W hD hH hG hU hC hB hW).trans
      (Cert.Ffn.final12 m c D H G U C B W hD hH hG hU hC hB hW).symm)),
    h2.trans (q2.trans ((Cert.FfnRef.dcb_eq _ _ _ _ _ _ _ D H G U C B W hD hH hG hU hC hB hW).trans
      (Cert.Ffn.final13 m c D H G U C B W hD hH hG hU hC hB hW).symm)), a⟩

end Cert.FfnClaim

end
-- ==== Proof.MixFwdValue.lean ====
/- The first norm and the input projection forward: what the call leaves in its two results, and what the reference computes. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Claim
public import Idealize.ShloMosaic.Lib.Pipeline.ReadBack

@[expose] public section

set_option maxRecDepth 16384

noncomputable section

namespace Cert.MixFwdValue

open Idealize.ShloMosaic Idealize.ShloMosaic.TcCoe Idealize.SL.Sem Cert.Kernel7Ideal Cert.Kernel7Ideal.Gen

/-- A row of 2056 columns in the kernel's order: the steps' eight columns last, zeros after them. -/
def ordE (f : ℕ → EReal) (c : ℕ) : EReal := if c < 1536 then f c else if c < 2048 then f (c + 8) else if c < 2056 then f (c - 512) else 0

/-- The normed row. -/
def normE (x g : Fin 1024 → EReal) (k : Fin 1024) : EReal :=
  x k * Ideal.rsqrt (Ideal.div (∑ j, x j * x j) (Ideal.ofBits .f32 0x44800000#32) + Ideal.ofBits .f32 0x358637BD#32) * g k

/-- The projection of a normed row, at one column. -/
def projE (x g : Fin 1024 → EReal) (W : Fin 1024 → ℕ → EReal) (c : ℕ) : EReal := ∑ k, normE x g k * W k c

theorem proj_ord (x g : Fin 1024 → EReal) (W : Fin 1024 → ℕ → EReal) (c : ℕ) :
    ∑ k, normE x g k * ordE (W k) c = ordE (projE x g W) c := by
  unfold ordE projE
  split_ifs <;> first | rfl | simp only [mul_zero, Finset.sum_const_zero]

section payloads

variable (h : FVec Ideal S512x1024 .f32) (g : FVec Ideal S1x1024 .f32) (w : FVec Ideal S1024x2176 .bf16)
  (X : Fin 512 → Fin 1024 → EReal) (G : Fin 1024 → EReal) (W : Fin 1024 → ℕ → EReal)
  (hX : ∀ r l, h (ix2 r l) = X r l) (hG : ∀ l, g (ix2 0 l) = G l) (hW : ∀ k (l : Fin 2176), w (ix2 k l) = ordE (W k) l.val)

include hX hG hW in
theorem pay1 (r : Fin 512) (l : Fin 2176) : k0_pay1 (F := Ideal) h g w (ix2 r l) = ordE (projE (X r) G W) l.val := by
  rw [← proj_ord]
  pointwise [k0_pay1]
  simp only [hX, hG, hW]
  rfl

include hX hG hW in
theorem pay2 (r : Fin 512) (l : Fin 2048) : k0_pay2 (F := Ideal) h g w (ix2 r l) = ordE (projE (X r) G W) l.val := by
  refine Eq.trans ?_ (pay1 h g w X G W hX hG hW r ⟨l.val, by omega⟩)
  pointwise [k0_pay2]

include hX hG hW in
theorem pay3 (r : Fin 512) (l : Fin 128) : k0_pay3 (F := Ideal) h g w (ix2 r l) = ordE (projE (X r) G W) (2048 + l.val) := by
  refine Eq.trans ?_ (pay1 h g w X G W hX hG hW r ⟨2048 + l.val, by omega⟩)
  pointwise [k0_pay3]

end payloads

section results

variable (m : (ℓ : Loc nD τ sig) → Buf (Elt Ideal) ℓ) (c : Dev nD)
  (H : Fin 16384 → Fin 1024 → EReal) (G : Fin 1024 → EReal) (W : Fin 1024 → ℕ → EReal)
  (hH : ∀ (r : Fin 16384) l, (m ((c : Thread nD τ).loc main_arg0) : FVec Ideal S16384x1024 .f32) (ix2 r l) = H r l)
  (hG : ∀ l, (m ((c : Thread nD τ).loc main_arg1) : FVec Ideal S1024 .f32) (ix1 l) = G l)
  (hW : ∀ k (l : Fin 2056), (m ((c : Thread nD τ).loc main_arg2) : FVec Ideal S1024x2056 .f32) (ix2 k l) = W k l.val)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem lt32 (t : Fin cfg0.N) : t.val < 32 := lt_of_lt_of_eq t.isLt N_0

theorem at_lt (t : Fin cfg0.N) (r : Fin 512) : t.val * 512 + r.val < 16384 := by
  have := lt32 t
  omega

/-- The row that a point's row `r` is. -/
abbrev rowAt (t : Fin cfg0.N) (r : Fin 512) : Fin 16384 := ⟨t.val * 512 + r.val, at_lt t r⟩

include hH in
theorem blk0 (t : Fin cfg0.N) (r : Fin 512) (l : Fin 1024) : (iblk m c 0 t : FVec Ideal S512x1024 .f32) (ix2 r l) = H (rowAt t r) l := by
  refine Eq.trans ?_ (hH (rowAt t r) l)
  blk_ext [iblk, V, idx t]

include hG in
theorem blk1 (t : Fin cfg0.N) (l : Fin 1024) : (iblk m c 1 t : FVec Ideal S1x1024 .f32) (ix2 0 l) = G l := by
  refine Eq.trans ?_ (hG l)
  blk_simp [iblk, idx t]
  entry_read
  pointwise
  blk_ext [idx t]

theorem v27_eq : V m c main_v27 = concatenate S1024x2176 1 [⟨S1024x514, V m c main_v11⟩, ⟨S1024x514, V m c main_v13⟩, ⟨S1024x508, V m c main_v16⟩,
    ⟨S1024x512, V m c main_v19⟩, ⟨S1024x6, V m c main_v22⟩, ⟨S1024x2, V m c main_v25⟩, ⟨S1024x120, V m c main_v26⟩]
    concatenates_S1024x514_S1024x514_S1024x508_S1024x512_S1024x6_S1024x2_S1024x120_S1024x2176_d1 := by
  sl_kernel_rfl

theorem v8_eq : V m c main_v8 = concatenate S4x1024x514 0 [⟨S1x1024x514, V m c main_v4⟩, ⟨S1x1024x514, V m c main_v5⟩, ⟨S1x1024x514, V m c main_v6⟩,
    ⟨S1x1024x514, V m c main_v7⟩] concatenates_S1x1024x514_S1x1024x514_S1x1024x514_S1x1024x514_S4x1024x514_d0 := by
  sl_kernel_rfl

include hW in
theorem v4_eq (k : Fin 1024) (l : Fin 514) : (V m c main_v4 : FVec Ideal S1x1024x514 .f32) (ix3 0 k l) = W k l.val := by
  refine Eq.trans ?_ (hW k ⟨l.val, by omega⟩)
  entry_read
  pointwise

include hW in
theorem v5_eq (k : Fin 1024) (l : Fin 514) : (V m c main_v5 : FVec Ideal S1x1024x514 .f32) (ix3 0 k l) = W k (514 + l.val) := by
  refine Eq.trans ?_ (hW k ⟨514 + l.val, by omega⟩)
  entry_read
  pointwise

include hW in
theorem v6_eq (k : Fin 1024) (l : Fin 514) : (V m c main_v6 : FVec Ideal S1x1024x514 .f32) (ix3 0 k l) = W k (1028 + l.val) := by
  refine Eq.trans ?_ (hW k ⟨1028 + l.val, by omega⟩)
  entry_read
  pointwise

include hW in
theorem v7_eq (k : Fin 1024) (l : Fin 514) : (V m c main_v7 : FVec Ideal S1x1024x514 .f32) (ix3 0 k l) = W k (1542 + l.val) := by
  refine Eq.trans ?_ (hW k ⟨1542 + l.val, by omega⟩)
  entry_read
  pointwise

include hW in
theorem v9_eq (a : Fin 4) (k : Fin 1024) (l : Fin 514) : (V m c main_v9 : FVec Ideal S4x1024x514 .bf16) (ix3 a k l) = W k (514 * a.val + l.val) := by
  refine Eq.trans (b := (V m c main_v8 : FVec Ideal S4x1024x514 .f32) (ix3 a k l)) rfl ?_
  rw [v8_eq]
  have h4 := v4_eq m c W hW
  have h5 := v5_eq m c W hW
  have h6 := v6_eq m c W hW
  have h7 := v7_eq m c W hW
  fin_cases a <;> pointwise
  · exact (h4 k l).trans (by simp)
  · exact (h5 k l).trans (by simp)
  · exact (h6 k l).trans (by simp)
  · exact (h7 k l).trans (by simp)

theorem v16_eq : V m c main_v16 = extractStridedSlice S1024x508 ![0, 0] (V m c main_v15) slices_S1024x514_S1024x508_0_0 := by
  sl_kernel_rfl

theorem v19_eq : V m c main_v19 = extractStridedSlice S1024x512 ![0, 2] (V m c main_v18) slices_S1024x514_S1024x512_0_2 := by
  sl_kernel_rfl

theorem v22_eq : V m c main_v22 = extractStridedSlice S1024x6 ![0, 508] (V m c main_v21) slices_S1024x514_S1024x6_0_508 := by
  sl_kernel_rfl

theorem v25_eq : V m c main_v25 = extractStridedSlice S1024x2 ![0, 0] (V m c main_v24) slices_S1024x514_S1024x2_0_0 := by
  sl_kernel_rfl

set_option maxHeartbeats 1000000 in
include hW in
theorem ent5 (k : Fin 1024) (l : Fin 2176) :
    (V m c main_v27 : FVec Ideal S1024x2176 .bf16) (ix2 k l) = ordE (W k) l.val := by
  have h9 := v9_eq m c W hW
  have h11 : ∀ l : Fin 514, (V m c main_v11 : FVec Ideal S1024x514 .bf16) (ix2 k l) = W k l.val := fun l => by
    refine Eq.trans (b := shapeCast S1024x514 (extractStridedSlice S1x1024x514 ![0, 0, 0] (V m c main_v9) slices_S4x1024x514_S1x1024x514_0_0_0) shapeCasts_S1x1024x514_S1024x514 (ix2 k l)) rfl ?_
    pointwise
    exact (h9 0 k l).trans (by simp)
  have h13 : ∀ l : Fin 514, (V m c main_v13 : FVec Ideal S1024x514 .bf16) (ix2 k l) = W k (514 + l.val) := fun l => by
    refine Eq.trans (b := shapeCast S1024x514 (extractStridedSlice S1x1024x514 ![1, 0, 0] (V m c main_v9) slices_S4x1024x514_S1x1024x514_1_0_0) shapeCasts_S1x1024x514_S1024x514 (ix2 k l)) rfl ?_
    pointwise
    exact (h9 1 k l).trans (by simp)
  have h15 : ∀ l : Fin 514, (V m c main_v15 : FVec Ideal S1024x514 .bf16) (ix2 k l) = W k (1028 + l.val) := fun l => by
    refine Eq.trans (b := shapeCast S1024x514 (extractStridedSlice S1x1024x514 ![2, 0, 0] (V m c main_v9) slices_S4x1024x514_S1x1024x514_2_0_0) shapeCasts_S1x1024x514_S1024x514 (ix2 k l)) rfl ?_
    pointwise
    exact (h9 2 k l).trans (by simp)
  have h18 : ∀ l : Fin 514, (V m c main_v18 : FVec Ideal S1024x514 .bf16) (ix2 k l) = W k (1542 + l.val) := fun l => by
    refine Eq.trans (b := shapeCast S1024x514 (extractStridedSlice S1x1024x514 ![3, 0, 0] (V m c main_v9) slices_S4x1024x514_S1x1024x514_3_0_0) shapeCasts_S1x1024x514_S1024x514 (ix2 k l)) rfl ?_
    pointwise
    exact (h9 3 k l).trans (by simp)
  have h16 : ∀ l : Fin 508, (V m c main_v16 : FVec Ideal S1024x508 .bf16) (ix2 k l) = W k (1028 + l.val) := fun l => by
    rw [v16_eq]
    pointwise
    exact h15 ⟨l.val, by omega⟩
  have h19 : ∀ l : Fin 512, (V m c main_v19 : FVec Ideal S1024x512 .bf16) (ix2 k l) = W k (1544 + l.val) := fun l => by
    rw [v19_eq]
    pointwise
    refine (h18 ⟨2 + l.val, by omega⟩).trans ?_
    rw [show 1542 + (2 + l.val) = 1544 + l.val by omega]
  have h21 : ∀ l : Fin 514, (V m c main_v21 : FVec Ideal S1024x514 .bf16) (ix2 k l) = W k (1028 + l.val) := fun l => by
    refine Eq.trans (b := shapeCast S1024x514 (extractStridedSlice S1x1024x514 ![2, 0, 0] (V m c main_v9) slices_S4x1024x514_S1x1024x514_2_0_0) shapeCasts_S1x1024x514_S1024x514 (ix2 k l)) rfl ?_
    pointwise
    exact (h9 2 k l).trans (by simp)
  have h24 : ∀ l : Fin 514, (V m c main_v24 : FVec Ideal S1024x514 .bf16) (ix2 k l) = W k (1542 + l.val) := fun l => by
    refine Eq.trans (b := shapeCast S1024x514 (extractStridedSlice S1x1024x514 ![3, 0, 0] (V m c main_v9) slices_S4x1024x514_S1x1024x514_3_0_0) shapeCasts_S1x1024x514_S1024x514 (ix2 k l)) rfl ?_
    pointwise
    exact (h9 3 k l).trans (by simp)
  have h22 : ∀ l : Fin 6, (V m c main_v22 : FVec Ideal S1024x6 .bf16) (ix2 k l) = W k (1536 + l.val) := fun l => by
    rw [v22_eq]
    pointwise
    refine (h21 ⟨508 + l.val, by omega⟩).trans ?_
    rw [show 1028 + (508 + l.val) = 1536 + l.val by omega]
  have h25 : ∀ l : Fin 2, (V m c main_v25 : FVec Ideal S1024x2 .bf16) (ix2 k l) = W k (1542 + l.val) := fun l => by
    rw [v25_eq]
    pointwise
    exact h24 ⟨l.val, by omega⟩
  have h26 : ∀ l : Fin 120, (V m c main_v26 : FVec Ideal S1024x120 .bf16) (ix2 k l) = (0 : EReal) := fun l => by
    entry_read
    pointwise
  rw [v27_eq]
  pointwise
  simp only [h11, h13, h16, h19, h22, h25, h26]
  unfold ordE
  split_ifs <;> first | rfl | exact congrArg (W k) (by omega) | omega

include hW in
theorem blk2 (t : Fin cfg0.N) (k : Fin 1024) (l : Fin 2176) :
    (iblk m c 2 t : FVec Ideal S1024x2176 .bf16) (ix2 k l) = ordE (W k) l.val := by
  refine Eq.trans ?_ (ent5 m c W hW k l)
  blk_ext [iblk, idx t]

include hH hG hW in
/-- The gate's, the convolved and the pooled columns. -/
theorem final3 : (dats m 0 c).arrAt 3 (cfgs 0).N = fun i : S16384x2048.Idx => ordE (projE (H (i 0)) G W) (i 1).val := by
  refine (dats m 0 c).arrAt_eq_of_covers 3 _ (by decide +kernel) fun t hf y => ?_
  blk_simp
  rw [after0_3]
  frame_out
  refine (congrArg _ (eq_ix2 y)).trans ((pay2 _ _ _ (fun r => H (rowAt t r)) G W (fun r l => blk0 m c H hH t r l) (fun l => blk1 m c G hG t l)
    (fun k l => blk2 m c W hW t k l) (y 0) (y 1)).trans ?_)
  have h0 : (win0_3.blk t).view.emb y 0 = (rowAt t (y 0) : Fin 16384) := Fin.ext (by blk_simp [idx t])
  refine congrArg₂ (fun (a : Fin 16384) b => ordE (projE (H a) G W) b) h0.symm ?_
  blk_simp [idx t]

include hH hG hW in
/-- The steps' columns with zeros after them. -/
theorem final4 : (dats m 0 c).arrAt 4 (cfgs 0).N = fun i : S16384x128.Idx => ordE (projE (H (i 0)) G W) (2048 + (i 1).val) := by
  refine (dats m 0 c).arrAt_eq_of_covers 4 _ (by decide +kernel) fun t hf y => ?_
  blk_simp
  rw [after0_4]
  frame_out
  refine (congrArg _ (eq_ix2 y)).trans ((pay3 _ _ _ (fun r => H (rowAt t r)) G W (fun r l => blk0 m c H hH t r l) (fun l => blk1 m c G hG t l)
    (fun k l => blk2 m c W hW t k l) (y 0) (y 1)).trans ?_)
  have h0 : (win0_4.blk t).view.emb y 0 = (rowAt t (y 0) : Fin 16384) := Fin.ext (by blk_simp [idx t])
  refine congrArg₂ (fun (a : Fin 16384) b => ordE (projE (H a) G W) (2048 + b)) h0.symm ?_
  blk_simp [idx t]

end results

section reference

open Cert.Reference7Ideal.Read

variable (h : FVec Ideal S16384x1024 .f32) (g : FVec Ideal S1024 .f32) (w : FVec Ideal S1024x2056 .f32)
  (H : Fin 16384 → Fin 1024 → EReal) (G : Fin 1024 → EReal) (W : Fin 1024 → ℕ → EReal)
  (hH : ∀ (r : Fin 16384) l, h (ix2 r l) = H r l) (hG : ∀ l, g (ix1 l) = G l)
  (hW : ∀ k (l : Fin 2056), w (ix2 k l) = W k l.val)

include hH hG in
theorem v12 (r : Fin 16384) (k : Fin 1024) : val_main_v12 (F := Ideal) h g (ix2 r k) = normE (H r) G k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  simp only [hH, hG]
  rfl

include hH hG hW in
theorem v13 (r : Fin 16384) (l : Fin 2056) : val_main_v13 (F := Ideal) h g w (ix2 r l) = projE (H r) G W l.val := by
  have h12 := v12 h g H G hH hG
  pointwise [val_main_v13]
  simp only [h12, hW]
  rfl

include hH hG hW in
theorem zxu_eq : val_main_v17 (F := Ideal) h g w = fun i : S16384x2048.Idx => ordE (projE (H (i 0)) G W) (i 1).val := by
  funext i
  have h13 := v13 h g w H G W hH hG hW (i 0)
  refine (congrArg _ (eq_ix2 i)).trans ?_
  pointwise [val_main_v17, val_main_v16, val_main_v15, val_main_v14]
  have hi : (i 1).val < 2048 := (i 1).isLt
  unfold ordE
  by_cases h1 : (i 1).val < 1536
  · rw [dif_pos h1, if_pos h1]
    exact h13 ⟨(i 1).val, by omega⟩
  · rw [dif_neg h1, if_neg h1, if_pos hi]
    refine Eq.trans (congrArg _ (congrArg (ix2 (i 0)) (Fin.ext ?_))) (h13 ⟨(i 1).val + 8, by omega⟩)
    show 1544 + ((i 1).val - 1536) = (i 1).val + 8
    omega

include hH hG hW in
theorem dtr_eq : val_main_v20 (F := Ideal) h g w = fun i : S16384x128.Idx => ordE (projE (H (i 0)) G W) (2048 + (i 1).val) := by
  funext i
  have h13 := v13 h g w H G W hH hG hW (i 0)
  refine (congrArg _ (eq_ix2 i)).trans ?_
  pointwise [val_main_v20, val_main_v19, val_main_v18, val_main_cst_2]
  unfold ordE
  rw [if_neg (by omega), if_neg (by omega)]
  by_cases h1 : (i 1).val < 8
  · rw [dif_pos h1, if_pos (by omega)]
    refine Eq.trans (congrArg _ (congrArg (ix2 (i 0)) (Fin.ext ?_))) (h13 ⟨2048 + (i 1).val - 512, by omega⟩)
    show 1536 + (i 1).val = 2048 + (i 1).val - 512
    omega
  · rw [dif_neg h1, if_neg (by omega)]

end reference

end Cert.MixFwdValue

end
-- ==== Proof.MixFwdClaim.lean ====
/- The input projection's two results are the reference's. -/
module

public import proofs.«01_k».proof.Defs
public import proofs.«01_k».proof.Proof.MixFwdValue
public import proofs.«01_k».proof.Proof.Gen.Reference7Ideal.Run
public import Idealize.ShloMosaic.Lib.Claim
public import Idealize.ShloMosaic.Lib.Quiescent

@[expose] public section

set_option maxRecDepth 16384

noncomputable section

namespace Cert.MixFwdClaim

open Idealize.ShloMosaic Idealize.ShloMosaic.TcCoe Idealize.SL.Sem

theorem frame_reference : Cert.quiescent_Reference7Ideal := fun m g _ =>
  (θ_run (Cert.Reference7Ideal.defs (F := Ideal)) _ _).mono
    (fun r h => ⟨fun c => (h c).2.2, sem_eq_zero_of_no_sems (by decide) r.2⟩)
    (Cert.Reference7Ideal.Value.run m g)

/-- A matrix's rows with zeros after their last column. -/
def padded (w : FVec Ideal Cert.Kernel7Ideal.S1024x2056 .f32) (k : Fin 1024) (l : ℕ) : EReal := if h : l < 2056 then w (ix2 k ⟨l, h⟩) else 0

theorem padded_eq (w : FVec Ideal Cert.Kernel7Ideal.S1024x2056 .f32) (k : Fin 1024) (l : Fin 2056) : w (ix2 k l) = padded w k l.val :=
  (dif_pos l.isLt : padded w k l.val = _).symm

set_option maxHeartbeats 4000000 in
theorem algebraic : Cert.algebraic_Kernel7Ideal_Reference7Ideal := by
  intro m g m' g' _ hagree
  refine ⟨fun c => (Cert.Kernel7Ideal.Gen.dats m 0 c).arrAt 3 (Cert.Kernel7Ideal.cfgs 0).N,
    fun c => (Cert.Kernel7Ideal.Gen.dats m 0 c).arrAt 4 (Cert.Kernel7Ideal.cfgs 0).N, ?_, ?_⟩
  · exact (θ_run (Cert.Kernel7Ideal.defs (F := Ideal)) _ _).mono (fun r h c => h c) (Cert.Kernel7Ideal.Value.run_blocks m g)
  · refine (θ_run (Cert.Reference7Ideal.defs (F := Ideal)) _ _).mono (fun r h c => ?_) (Cert.Reference7Ideal.Value.run m' g')
    obtain ⟨h0, h1, a⟩ := h c
    obtain ⟨e0, e1, e2⟩ := hagree c
    refine ⟨h0.trans ?_, h1.trans ?_, a⟩
    · refine (Cert.Reference7Ideal.Read.val_main_v17_eq (F := Ideal) _ _ _).trans ?_
      rw [e0, e1, e2]
      exact (Cert.MixFwdValue.zxu_eq _ _ _ (fun r l => m ((c : Thread Cert.Kernel7Ideal.nD Cert.Kernel7Ideal.τ).loc Cert.Kernel7Ideal.main_arg0) (ix2 r l))
        (fun l => m ((c : Thread Cert.Kernel7Ideal.nD Cert.Kernel7Ideal.τ).loc Cert.Kernel7Ideal.main_arg1) (ix1 l))
        (padded (m ((c : Thread Cert.Kernel7Ideal.nD Cert.Kernel7Ideal.τ).loc Cert.Kernel7Ideal.main_arg2)))
        (fun _ _ => rfl) (fun _ => rfl) (padded_eq _)).trans
        (Cert.MixFwdValue.final3 m c _ _ _ (fun _ _ => rfl) (fun _ => rfl) (padded_eq _)).symm
    · refine (Cert.Reference7Ideal.Read.val_main_v20_eq (F := Ideal) _ _ _).trans ?_
      rw [e0, e1, e2]
      exact (Cert.MixFwdValue.dtr_eq _ _ _ (fun r l => m ((c : Thread Cert.Kernel7Ideal.nD Cert.Kernel7Ideal.τ).loc Cert.Kernel7Ideal.main_arg0) (ix2 r l))
        (fun l => m ((c : Thread Cert.Kernel7Ideal.nD Cert.Kernel7Ideal.τ).loc Cert.Kernel7Ideal.main_arg1) (ix1 l))
        (padded (m ((c : Thread Cert.Kernel7Ideal.nD Cert.Kernel7Ideal.τ).loc Cert.Kernel7Ideal.main_arg2)))
        (fun _ _ => rfl) (fun _ => rfl) (padded_eq _)).trans
        (Cert.MixFwdValue.final4 m c _ _ _ (fun _ _ => rfl) (fun _ => rfl) (padded_eq _)).symm

end Cert.MixFwdClaim

end
-- ==== Proof.HalfPay.lean ====
/- The values the fused forward kernel forms at one grid point, as functions of its blocks. -/
module

public import proofs.«01_k».proof.Proof.FfnPay
public import proofs.«01_k».proof.Proof.MixFwdValue
public import proofs.«01_k».proof.Proof.Gen.Kernel8Ideal.Skeleton
public import Idealize.ShloMosaic.Lib.Pointwise
public import Idealize.ShloMosaic.Lib.Pipeline.ValueKit

@[expose] public section

set_option maxRecDepth 16384

noncomputable section

namespace Cert.Half

open Idealize.ShloMosaic Idealize.ShloMosaic.TcCoe Idealize.SL.Sem Cert.MixFwdValue Cert.Kernel8Ideal Cert.Kernel8Ideal.Gen

/-! ## The activation -/

/-- The smooth gate, as the kernel writes it. -/
def gelE (x : EReal) : EReal :=
  x * (Ideal.ofBits .f32 0x3F000000#32
    * Ideal.tanh (x * (Ideal.ofBits .f32 0x3F4C422A#32 + Named.named (F := Ideal) κ "gelu_c2" (φ := .f32) 0x3D122279#32 * (x * x)))
    + Ideal.ofBits .f32 0x3F000000#32)

theorem cC2 : Named.named (F := Ideal) κ "gelu_c2" (φ := .f32) 0x3D122279#32 = ((Cert.Ffn.gc * Cert.Ffn.ga : ℝ) : EReal) := by
  refine (IdealRules.named_const.ideal_named_scalar κ "gelu_c2" 0x3D122279#32 ((80338380498831 / 2251799813685248 : ℝ) : EReal) rfl).trans ?_
  rw [show Cert.Ffn.gc * Cert.Ffn.ga = 80338380498831 / 2251799813685248 by norm_num [Cert.Ffn.gc, Cert.Ffn.ga]]

theorem cA : Ideal.ofBits .f32 0x3D372713#32 = ((Cert.Ffn.ga : ℝ) : EReal) := by
  simp [Ideal.ofBits, Ideal.ieee, -EReal.coe_mul, Cert.Ffn.ga]; norm_num

theorem gc_pos : 0 < Cert.Ffn.gc := by norm_num [Cert.Ffn.gc]

theorem ga_pos : 0 < Cert.Ffn.ga := by norm_num [Cert.Ffn.ga]

/-- The reference writes the same gate with the cube, at infinite values too. -/
theorem gelE_eq (x : EReal) :
    x * (Ideal.ofBits .f32 0x3F000000#32 * (Ideal.ofBits .f32 0x3F800000#32
      + Ideal.tanh (Ideal.ofBits .f32 0x3F4C422A#32 * (x + Ideal.ofBits .f32 0x3D372713#32 * (x * x * x))))) = gelE x := by
  have hc := gc_pos
  have ha := ga_pos
  have hca := mul_pos hc ha
  unfold gelE
  rw [cC2, cA, Cert.Ffn.cC, Cert.Reals.cHalf, Cert.Reals.cOne]
  induction x using EReal.rec with
  | bot =>
    have e : Ideal.tanh ⊥ = ((-1 : ℝ) : EReal) := rfl
    rw [EReal.bot_mul_bot, EReal.top_mul_bot, EReal.coe_mul_bot_of_pos ha, EReal.bot_add, EReal.coe_mul_bot_of_pos hc, EReal.coe_mul_top_of_pos hca,
      EReal.coe_add_top, EReal.bot_mul_top, e, ← EReal.coe_add, ← EReal.coe_mul, ← EReal.coe_mul, ← EReal.coe_add]
    norm_num
  | top =>
    have e : Ideal.tanh ⊤ = ((1 : ℝ) : EReal) := rfl
    rw [EReal.top_mul_top, EReal.top_mul_top, EReal.coe_mul_top_of_pos ha, EReal.top_add_top, EReal.coe_mul_top_of_pos hc, EReal.coe_mul_top_of_pos hca,
      EReal.coe_add_top, EReal.top_mul_top, e, ← EReal.coe_add, ← EReal.coe_mul, ← EReal.coe_mul, ← EReal.coe_add]
    norm_num
  | coe x =>
    simp only [← EReal.coe_mul, ← EReal.coe_add, Ideal.tanh_coe]
    refine congrArg (fun r : ℝ => (r : EReal)) ?_
    rw [show Cert.Ffn.gc * (x + Cert.Ffn.ga * (x * x * x)) = x * (Cert.Ffn.gc + Cert.Ffn.gc * Cert.Ffn.ga * (x * x)) by ring]
    ring

/-- Three taps of a convolution over rows. -/
def tapsE (C : ℕ → ℕ → EReal) (B : ℕ → EReal) (u : ℕ → ℕ → EReal) (r l : ℕ) : EReal :=
  B l + C 0 l * u r l + C 1 l * u (r + 1) l + C 2 l * u (r + 2) l

section rows

variable (i : grid0.Coords) (x0 : FVec Ideal S16x1024 .f32) (y0 : FVec Ideal S16x1024 .bf16) (x : FVec Ideal S256x1024 .f32)
  (y : FVec Ideal S256x1024 .bf16) (w : FVec Ideal S1024x1024 .bf16) (g : FVec Ideal S1x1024 .f32)
  (X Y : ℕ → Fin 1024 → EReal) (O : Fin 1024 → Fin 1024 → EReal) (G : Fin 1024 → EReal)
  (hx : ∀ (r : Fin 256) l, x (ix2 r l) = X (16 + r.val) l) (hy : ∀ (r : Fin 256) l, y (ix2 r l) = Y (16 + r.val) l)
  (hx0 : 0 < (i 0).val → ∀ (r : Fin 16) l, x0 (ix2 r l) = X r.val l) (hy0 : 0 < (i 0).val → ∀ (r : Fin 16) l, y0 (ix2 r l) = Y r.val l)
  (hxz : ¬ 0 < (i 0).val → ∀ (r : Fin 16) l, X r.val l = 0) (hyz : ¬ 0 < (i 0).val → ∀ (r : Fin 16) l, Y r.val l = 0)
  (hO : ∀ k l, w (ix2 k l) = O k l) (hG : ∀ l, g (ix2 0 l) = G l)

include hx hy hx0 hy0 hxz hyz hO in
/-- A block's rows and the sixteen before it, the mixer's output added; zero before the first row. -/
theorem pay2 (r : Fin 272) (l : Fin 1024) : k0_pay2 (F := Ideal) i x0 y0 x y w (ix2 r l) = X r.val l + ∑ q, Y r.val q * O q l := by
  have e := Cert.Ffn.first ⟨(i 0).val, (i 0).isLt⟩
  unfold k0_pay2
  dsimp only at e ⊢
  rw [e]
  have hr : r.val < 272 := r.isLt
  by_cases h : 0 < (i 0).val
  · rw [if_pos h]
    pointwise []
    by_cases h' : r.val < 16
    · simp only [dif_pos h', hO]
      exact congrArg₂ (· + ·) (hx0 h ⟨r.val, h'⟩ l) (Finset.sum_congr rfl fun q _ => congrArg (· * O q l) (hy0 h ⟨r.val, h'⟩ q))
    · simp only [dif_neg h', hO]
      have e1 := fun l => hx ⟨r.val - 16, by omega⟩ l
      have e2 := fun l => hy ⟨r.val - 16, by omega⟩ l
      simp only [show 16 + (r.val - 16) = r.val by omega] at e1 e2
      exact congrArg₂ (· + ·) (e1 l) (Finset.sum_congr rfl fun q _ => congrArg (· * O q l) (e2 q))
  · rw [if_neg h]
    pointwise []
    by_cases h' : r.val < 16
    · simp only [dif_pos h', hO]
      exact congrArg₂ (· + ·) (hxz h ⟨r.val, h'⟩ l).symm (Finset.sum_congr rfl fun q _ => congrArg (· * O q l) (hyz h ⟨r.val, h'⟩ q).symm)
    · simp only [dif_neg h', hO]
      have e1 := fun l => hx ⟨r.val - 16, by omega⟩ l
      have e2 := fun l => hy ⟨r.val - 16, by omega⟩ l
      simp only [show 16 + (r.val - 16) = r.val by omega] at e1 e2
      exact congrArg₂ (· + ·) (e1 l) (Finset.sum_congr rfl fun q _ => congrArg (· * O q l) (e2 q))

variable (Z : ℕ → Fin 1024 → EReal) (hZ : ∀ (r : Fin 272) l, k0_pay2 (F := Ideal) i x0 y0 x y w (ix2 r l) = Z r.val l)

include hZ hG in
theorem pay3 (r : Fin 272) (l : Fin 1024) : k0_pay3 (F := Ideal) i x0 y0 x y w g (ix2 r l) = normE (Z r.val) G l := by
  pointwise [k0_pay3]
  simp only [hZ, hG]
  rfl

include hZ in
theorem pay4 (r : Fin 256) (l : Fin 1024) : k0_pay4 (F := Ideal) i x0 y0 x y w (ix2 r l) = Z (16 + r.val) l := by
  pointwise [k0_pay4]
  simp only [hZ]

end rows

section up

variable (n : FVec Ideal S272x1024 .bf16) (u : FVec Ideal S1x1024x2816 .bf16) (N : ℕ → Fin 1024 → EReal) (U : Fin 1024 → ℕ → EReal)
  (hN : ∀ (r : Fin 272) l, n (ix2 r l) = N r.val l) (hU : ∀ k (l : Fin 2816), u (ix3 0 k l) = U k l.val)

include hN hU in
theorem pay5 (r : Fin 272) (l : Fin 2816) : k0_pay5 (F := Ideal) n u (ix2 r l) = ∑ k, N r.val k * U k l.val := by
  pointwise [k0_pay5]
  simp only [hN, hU]

include hN hU in
theorem pay11 (r : Fin 272) (l : Fin 2816) : k0_pay11 (F := Ideal) n u (ix2 r l) = ∑ k, N r.val k * U k l.val := by
  pointwise [k0_pay11]
  simp only [hN, hU]

theorem pay7 (v : FVec Ideal S256x2816 .f32) (r : Fin 256) (l : Fin 2816) : k0_pay7 (F := Ideal) v (ix3 0 r l) = v (ix2 r l) := by
  pointwise [k0_pay7]

theorem pay14 (v : FVec Ideal S256x2816 .f32) (r : Fin 256) (l : Fin 2816) : k0_pay14 (F := Ideal) v (ix3 0 r l) = v (ix2 r l) := by
  pointwise [k0_pay14]

end up

section conv

variable (cw : FVec Ideal S1x3x2816 .f32) (cb : FVec Ideal S1x1x2816 .f32) (u0 u1 u2 : FVec Ideal S256x2816 .f32)
  (C : ℕ → ℕ → EReal) (B : ℕ → EReal) (u : ℕ → ℕ → EReal)
  (hC : ∀ (k : Fin 3) (l : Fin 2816), cw (ix3 0 k l) = C k.val l.val) (hB : ∀ l : Fin 2816, cb (ix3 0 0 l) = B l.val)
  (h0 : ∀ (r : Fin 256) (l : Fin 2816), u0 (ix2 r l) = u r.val l.val)
  (h1 : ∀ (r : Fin 256) (l : Fin 2816), u1 (ix2 r l) = u (r.val + 1) l.val)
  (h2 : ∀ (r : Fin 256) (l : Fin 2816), u2 (ix2 r l) = u (r.val + 2) l.val)
  (acc : FVec Ideal S256x1024 .f32) (w : FVec Ideal S1x1408x1024 .bf16) (A : Fin 256 → Fin 1024 → EReal) (W : ℕ → Fin 1024 → EReal)
  (hA : ∀ r k, acc (ix2 r k) = A r k) (hW : ∀ (p : Fin 1408) k, w (ix3 0 p k) = W p.val k)

include hC hB h0 h1 h2 in
theorem pay6 (r : Fin 256) (l : Fin 2816) : k0_pay6 (F := Ideal) cw cb u0 u1 u2 (ix2 r l) = tapsE C B u r.val l.val := by
  pointwise [k0_pay6]
  rw [hB, h0, h1, h2]
  exact congrArg₂ (· + ·) (congrArg₂ (· + ·) (congrArg (B l.val + ·) (congrArg (· * u r.val l.val) (hC 0 l)))
    (congrArg (· * u (r.val + 1) l.val) (hC 1 l))) (congrArg (· * u (r.val + 2) l.val) (hC 2 l))

/-- The gated lanes' product with one half of the down weights. -/
def downE (V : ℕ → ℕ → EReal) (W : ℕ → Fin 1024 → EReal) (r : ℕ) (k : Fin 1024) : EReal :=
  ∑ p : Fin 1408, gelE (V r p.val) * V r (p.val + 1408) * W p.val k

include hC hB h0 h1 h2 hA hW in
theorem pay10 (r : Fin 256) (k : Fin 1024) :
    k0_pay10 (F := Ideal) acc (k0_pay6 cw cb u0 u1 u2) (k0_pay8 cw cb u0 u1 u2) (k0_pay9 cw cb u0 u1 u2) (Ideal.ofBits .f32 0x3F4C422A#32) w (ix2 r k)
      = A r k + downE (tapsE C B u) W r.val k := by
  have h6 := pay6 cw cb u0 u1 u2 C B u hC hB h0 h1 h2
  pointwise [k0_pay10, k0_pay9, k0_pay8]
  simp only [h6, hA, hW, Nat.zero_add, Nat.add_comm 1408]
  rfl

include hC hB h0 h1 h2 hA hW in
theorem pay15 (r : Fin 256) (k : Fin 1024) :
    k0_pay15 (F := Ideal) acc (k0_pay12 cw) (k0_pay13 cw cb u0 u1) u2 w (ix2 r k) = A r k + downE (tapsE C B u) W r.val k := by
  refine Eq.trans ?_ (pay10 cw cb u0 u1 u2 C B u hC hB h0 h1 h2 acc w A W hA hW r k)
  rfl

end conv

section gate

variable (acc : FVec Ideal S256x1024 .f32) (c : FVec Ideal S3x2816 .f32) (v u : FVec Ideal S256x2816 .f32) (w : FVec Ideal S1x1408x1024 .bf16)
  (g : FVec Ideal S1x1024 .f32) (wg : FVec Ideal S1024x1024 .bf16) (p : FVec Ideal S1x256x256 .f32) (wp : FVec Ideal S256x1024 .bf16)
  (A : Fin 256 → Fin 1024 → EReal) (G : Fin 1024 → EReal) (Wg : Fin 1024 → Fin 1024 → EReal) (P : Fin 256 → Fin 256 → EReal) (Wp : Fin 256 → Fin 1024 → EReal)
  (hA : ∀ r k, k0_pay15 (F := Ideal) acc c v u w (ix2 r k) = A r k) (hG : ∀ l, g (ix2 0 l) = G l)
  (hWg : ∀ k l, wg (ix2 k l) = Wg k l) (hP : ∀ r q, p (ix3 0 r q) = P r q) (hWp : ∀ q l, wp (ix2 q l) = Wp q l)

/-- A row with the gated embedding added. -/
def gateE (a G : Fin 1024 → EReal) (Wg : Fin 1024 → Fin 1024 → EReal) (p : Fin 256 → EReal) (Wp : Fin 256 → Fin 1024 → EReal) (l : Fin 1024) : EReal :=
  a l + (∑ q, p q * Wp q l) * Ideal.div 1 (1 + Ideal.exp (-(∑ k, normE a G k * Wg k l)))

include hA hG hWg hP hWp in
theorem pay1 (r : Fin 256) (l : Fin 1024) :
    k0_pay1 (F := Ideal) (k0_pay15 acc c v u w) (k0_pay16 g) (k0_pay17 acc c v u w) wg p wp (ix2 r l) = gateE (A r) G Wg (P r) Wp l := by
  pointwise [k0_pay1, k0_pay16, k0_pay17]
  simp only [hA, hG, hWg, hP, hWp]
  unfold gateE normE
  rw [← zero_sub]

end gate

end Cert.Half

end
-- ==== Proof.HalfBlk.lean ====
/- The blocks the fused forward kernel is given at one grid point. -/
module

public import proofs.«01_k».proof.Proof.HalfPay
public import proofs.«01_k».proof.Proof.FfnBlk
public import proofs.«01_k».proof.Proof.Gen.Kernel8Ideal.Value
public import Idealize.ShloMosaic.Lib.Claim

@[expose] public section

set_option maxRecDepth 16384

noncomputable section

namespace Cert.Half

open Idealize.ShloMosaic Idealize.ShloMosaic.TcCoe Idealize.SL.Sem Cert.Ffn Cert.Kernel8Ideal Cert.Kernel8Ideal.Gen

section blocks

variable (m : (ℓ : Loc nD τ sig) → Buf (Elt Ideal) ℓ) (c : Dev nD)
  (H Y : ℕ → Fin 1024 → EReal) (P : ℕ → Fin 256 → EReal) (O : Fin 1024 → Fin 1024 → EReal) (G : Fin 1024 → EReal) (U : Fin 1024 → ℕ → EReal)
  (C : ℕ → ℕ → EReal) (B : ℕ → EReal) (W : ℕ → Fin 1024 → EReal) (G3 : Fin 1024 → EReal) (Wg : Fin 1024 → Fin 1024 → EReal)
  (Wp : Fin 256 → Fin 1024 → EReal)
  (hH : ∀ (r : Fin 16384) l, (m ((c : Thread nD τ).loc main_arg0) : FVec Ideal S16384x1024 .f32) (ix2 r l) = H r.val l)
  (hY : ∀ (r : Fin 16384) l, (m ((c : Thread nD τ).loc main_arg1) : FVec Ideal S16384x1024 .f32) (ix2 r l) = Y r.val l)
  (hP : ∀ (r : Fin 16384) l, (m ((c : Thread nD τ).loc main_arg2) : FVec Ideal S4x16384x256 .f32) (ix3 3 r l) = P r.val l)
  (hO : ∀ k l, (m ((c : Thread nD τ).loc main_arg3) : FVec Ideal S1024x1024 .f32) (ix2 k l) = O k l)
  (hG : ∀ l, (m ((c : Thread nD τ).loc main_arg4) : FVec Ideal S1024 .f32) (ix1 l) = G l)
  (hU : ∀ k (n : Fin 5632), (m ((c : Thread nD τ).loc main_arg5) : FVec Ideal S1024x5632 .f32) (ix2 k n) = U k n.val)
  (hC : ∀ (k : Fin 3) (n : Fin 5632), (m ((c : Thread nD τ).loc main_arg6) : FVec Ideal S3x5632 .f32) (ix2 k n) = C k.val n.val)
  (hB : ∀ n : Fin 5632, (m ((c : Thread nD τ).loc main_arg7) : FVec Ideal S5632 .f32) (ix1 n) = B n.val)
  (hW : ∀ (p : Fin 2816) l, (m ((c : Thread nD τ).loc main_arg8) : FVec Ideal S2816x1024 .f32) (ix2 p l) = W p.val l)
  (hG3 : ∀ l, (m ((c : Thread nD τ).loc main_arg9) : FVec Ideal S1024 .f32) (ix1 l) = G3 l)
  (hWg : ∀ k l, (m ((c : Thread nD τ).loc main_arg10) : FVec Ideal S1024x1024 .f32) (ix2 k l) = Wg k l)
  (hWp : ∀ q l, (m ((c : Thread nD τ).loc main_arg11) : FVec Ideal S256x1024 .f32) (ix2 q l) = Wp q l)

theorem idx : ∀ t : Fin cfg0.N, win0_0.index t = ![t.val, 0] ∧ win0_1.index t = ![t.val * 16 - 1, 0]
    ∧ win0_2.index t = ![t.val, 0] ∧ win0_3.index t = ![t.val * 16 - 1, 0] ∧ win0_4.index t = ![3, t.val, 0] ∧ win0_5.index t = ![0, 0]
    ∧ win0_6.index t = ![0, 0] ∧ win0_7.index t = ![0, 0, 0] ∧ win0_8.index t = ![0, 0, 0]
    ∧ win0_9.index t = ![0, 0, 0] ∧ win0_10.index t = ![0, 0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] ∧ win0_17.index t = ![0, t.val, 0]
    ∧ (grid0.coords t 0).val = t.val :=
  (by decide +kernel : ∀ t : Fin grid0.N, _)

theorem lt64 (t : Fin cfg0.N) : t.val < 64 := lt_of_lt_of_eq t.isLt N_0

/-! ## The host's arrays -/

theorem v12_eq : V m c main_v12 = concatenate S2x1024x2816 0 [⟨S1x1024x2816, V m c main_v10⟩, ⟨S1x1024x2816, V m c main_v11⟩]
    concatenates_S1x1024x2816_S1x1024x2816_S2x1024x2816_d0 := by
  sl_kernel_rfl

theorem v21_eq : V m c main_v21 = concatenate S2x3x2816 0 [⟨S1x3x2816, V m c main_v19⟩, ⟨S1x3x2816, V m c main_v20⟩]
    concatenates_S1x3x2816_S1x3x2816_S2x3x2816_d0 := by
  sl_kernel_rfl

theorem v31_eq : V m c main_v31 = concatenate S2x1x2816 0 [⟨S1x1x2816, V m c main_v29⟩, ⟨S1x1x2816, V m c main_v30⟩]
    concatenates_S1x1x2816_S1x1x2816_S2x1x2816_d0 := by
  sl_kernel_rfl

include hU in
theorem v10_at (k : Fin 1024) (l : Fin 2816) : (V m c main_v10 : FVec Ideal S1x1024x2816 .bf16) (ix3 0 k l) = U k (col 0 l.val) := by
  have h := hU k
  entry_read
  pointwise
  by_cases hl : l.val < 1408
  · rw [dif_pos hl]
    refine Eq.trans (congrArg _ (congrArg (ix2 k) (Fin.ext ?_))) (h ⟨col 0 l.val, col_lt (by omega) l.isLt⟩)
    show l.val = col 0 l.val
    rw [col, if_pos hl]; omega
  · rw [dif_neg hl]
    refine Eq.trans (congrArg _ (congrArg (ix2 k) (Fin.ext ?_))) (h ⟨col 0 l.val, col_lt (by omega) l.isLt⟩)
    show 2816 + (l.val - 1408) = col 0 l.val
    rw [col, if_neg hl]; omega

include hU in
theorem v11_at (k : Fin 1024) (l : Fin 2816) : (V m c main_v11 : FVec Ideal S1x1024x2816 .bf16) (ix3 0 k l) = U k (col 1 l.val) := by
  have h := hU k
  entry_read
  pointwise
  by_cases hl : l.val < 1408
  · rw [dif_pos hl]
    refine Eq.trans (congrArg _ (congrArg (ix2 k) (Fin.ext ?_))) (h ⟨col 1 l.val, col_lt (by omega) l.isLt⟩)
    show 1408 + l.val = col 1 l.val
    rw [col, if_pos hl]
  · rw [dif_neg hl]
    refine Eq.trans (congrArg _ (congrArg (ix2 k) (Fin.ext ?_))) (h ⟨col 1 l.val, col_lt (by omega) l.isLt⟩)
    show 4224 + (l.val - 1408) = col 1 l.val
    rw [col, if_neg hl]; omega

include hU in
theorem ent7 (j : Fin 2) (k : Fin 1024) (l : Fin 2816) : (V m c main_v12 : FVec Ideal S2x1024x2816 .bf16) (ix3 j k l) = U k (col j.val l.val) := by
  rw [v12_eq]
  have h8 := v10_at m c U hU k l
  have h9 := v11_at m c U hU k l
  fin_cases j <;> pointwise
  · exact h8
  · exact h9

include hC in
theorem v19_at (k : Fin 3) (l : Fin 2816) : (V m c main_v19 : FVec Ideal S1x3x2816 .f32) (ix3 0 k l) = C k.val (col 0 l.val) := by
  have h := hC k
  entry_read
  pointwise
  by_cases hl : l.val < 1408
  · rw [dif_pos hl]
    refine Eq.trans (congrArg _ (congrArg (ix2 k) (Fin.ext ?_))) (h ⟨col 0 l.val, col_lt (by omega) l.isLt⟩)
    show l.val = col 0 l.val
    rw [col, if_pos hl]; omega
  · rw [dif_neg hl]
    refine Eq.trans (congrArg _ (congrArg (ix2 k) (Fin.ext ?_))) (h ⟨col 0 l.val, col_lt (by omega) l.isLt⟩)
    show 2816 + (l.val - 1408) = col 0 l.val
    rw [col, if_neg hl]; omega

include hC in
theorem v20_at (k : Fin 3) (l : Fin 2816) : (V m c main_v20 : FVec Ideal S1x3x2816 .f32) (ix3 0 k l) = C k.val (col 1 l.val) := by
  have h := hC k
  entry_read
  pointwise
  by_cases hl : l.val < 1408
  · rw [dif_pos hl]
    refine Eq.trans (congrArg _ (congrArg (ix2 k) (Fin.ext ?_))) (h ⟨col 1 l.val, col_lt (by omega) l.isLt⟩)
    show 1408 + l.val = col 1 l.val
    rw [col, if_pos hl]
  · rw [dif_neg hl]
    refine Eq.trans (congrArg _ (congrArg (ix2 k) (Fin.ext ?_))) (h ⟨col 1 l.val, col_lt (by omega) l.isLt⟩)
    show 4224 + (l.val - 1408) = col 1 l.val
    rw [col, if_neg hl]; omega

include hC in
theorem ent8 (j : Fin 2) (k : Fin 3) (l : Fin 2816) : (V m c main_v21 : FVec Ideal S2x3x2816 .f32) (ix3 j k l) = C k.val (col j.val l.val) := by
  rw [v21_eq]
  have h8 := v19_at m c C hC k l
  have h9 := v20_at m c C hC k l
  fin_cases j <;> pointwise
  · exact h8
  · exact h9

include hB in
theorem v29_at (l : Fin 2816) : (V m c main_v29 : FVec Ideal S1x1x2816 .f32) (ix3 0 0 l) = B (col 0 l.val) := by
  have h := hB
  entry_read
  pointwise
  by_cases hl : l.val < 1408
  · rw [dif_pos hl]
    refine Eq.trans (congrArg _ (congrArg ix1 (Fin.ext ?_))) (h ⟨col 0 l.val, col_lt (by omega) l.isLt⟩)
    show l.val = col 0 l.val
    rw [col, if_pos hl]; omega
  · rw [dif_neg hl]
    refine Eq.trans (congrArg _ (congrArg ix1 (Fin.ext ?_))) (h ⟨col 0 l.val, col_lt (by omega) l.isLt⟩)
    show 2816 + (l.val - 1408) = col 0 l.val
    rw [col, if_neg hl]; omega

include hB in
theorem v30_at (l : Fin 2816) : (V m c main_v30 : FVec Ideal S1x1x2816 .f32) (ix3 0 0 l) = B (col 1 l.val) := by
  have h := hB
  entry_read
  pointwise
  by_cases hl : l.val < 1408
  · rw [dif_pos hl]
    refine Eq.trans (congrArg _ (congrArg ix1 (Fin.ext ?_))) (h ⟨col 1 l.val, col_lt (by omega) l.isLt⟩)
    show 1408 + l.val = col 1 l.val
    rw [col, if_pos hl]
  · rw [dif_neg hl]
    refine Eq.trans (congrArg _ (congrArg ix1 (Fin.ext ?_))) (h ⟨col 1 l.val, col_lt (by omega) l.isLt⟩)
    show 4224 + (l.val - 1408) = col 1 l.val
    rw [col, if_neg hl]; omega

include hB in
theorem ent9 (j : Fin 2) (l : Fin 2816) : (V m c main_v31 : FVec Ideal S2x1x2816 .f32) (ix3 j 0 l) = B (col j.val l.val) := by
  rw [v31_eq]
  have h8 := v29_at m c B hB l
  have h9 := v30_at m c B hB l
  fin_cases j <;> pointwise
  · exact h8
  · exact h9

include hW in
theorem ent10 (j : Fin 2) (p : Fin 1408) (k : Fin 1024) :
    (V m c main_v33 : FVec Ideal S2x1408x1024 .bf16) (ix3 j p k) = W (j.val * 1408 + p.val) k := by
  refine Eq.trans ?_ (hW ⟨j.val * 1408 + p.val, by omega⟩ k)
  entry_read
  pointwise

/-! ## The blocks -/

section

variable (t : Fin cfg0.N)

theorem at_lt (r : Fin 256) : t.val * 256 + r.val < 16384 := by
  have := lt64 t
  omega

theorem halo_lt (r : Fin 16) : (t.val * 16 - 1) * 16 + r.val < 16384 := by
  have := lt64 t
  omega

include hH in
theorem blk0 (r : Fin 256) (l : Fin 1024) : (iblk m c 0 t : FVec Ideal S256x1024 .f32) (ix2 r l) = H (t.val * 256 + r.val) l := by
  refine Eq.trans ?_ (hH ⟨t.val * 256 + r.val, at_lt t r⟩ l)
  blk_ext [iblk, V, idx t]

include hH in
theorem blk1 (r : Fin 16) (l : Fin 1024) : (iblk m c 1 t : FVec Ideal S16x1024 .f32) (ix2 r l) = H ((t.val * 16 - 1) * 16 + r.val) l := by
  refine Eq.trans ?_ (hH ⟨(t.val * 16 - 1) * 16 + r.val, halo_lt t r⟩ l)
  blk_ext [iblk, V, idx t]

include hY in
theorem blk2 (r : Fin 256) (l : Fin 1024) : (iblk m c 2 t : FVec Ideal S256x1024 .bf16) (ix2 r l) = Y (t.val * 256 + r.val) l := by
  refine Eq.trans ?_ (hY ⟨t.val * 256 + r.val, at_lt t r⟩ l)
  blk_simp [iblk, idx t]
  entry_read
  pointwise
  blk_ext [idx t]

include hY in
theorem blk3 (r : Fin 16) (l : Fin 1024) : (iblk m c 3 t : FVec Ideal S16x1024 .bf16) (ix2 r l) = Y ((t.val * 16 - 1) * 16 + r.val) l := by
  refine Eq.trans ?_ (hY ⟨(t.val * 16 - 1) * 16 + r.val, halo_lt t r⟩ l)
  blk_simp [iblk, idx t]
  entry_read
  pointwise
  blk_ext [idx t]

include hP in
theorem blk4 (r : Fin 256) (l : Fin 256) : (iblk m c 4 t : FVec Ideal S1x256x256 .f32) (ix3 0 r l) = P (t.val * 256 + r.val) l := by
  refine Eq.trans ?_ (hP ⟨t.val * 256 + r.val, at_lt t r⟩ l)
  blk_ext [iblk, V, idx t]

include hO in
theorem blk5 (k l : Fin 1024) : (iblk m c 5 t : FVec Ideal S1024x1024 .bf16) (ix2 k l) = O k l := by
  refine Eq.trans ?_ (hO k l)
  blk_simp [iblk, idx t]
  entry_read
  pointwise
  blk_ext [idx t]

include hG in
theorem blk6 (l : Fin 1024) : (iblk m c 6 t : FVec Ideal S1x1024 .f32) (ix2 0 l) = G l := by
  refine Eq.trans ?_ (hG l)
  blk_simp [iblk, idx t]
  entry_read
  pointwise
  blk_ext [idx t]

include hU in
theorem blk7 (j : Fin 2) (k : Fin 1024) (l : Fin 2816) : (iblk m c 7 t : FVec Ideal S2x1024x2816 .bf16) (ix3 j k l) = U k (col j.val l.val) := by
  refine Eq.trans ?_ (ent7 m c U hU j k l)
  blk_ext [iblk, idx t]

include hC in
theorem blk8 (j : Fin 2) (k : Fin 3) (l : Fin 2816) : (iblk m c 8 t : FVec Ideal S2x3x2816 .f32) (ix3 j k l) = C k.val (col j.val l.val) := by
  refine Eq.trans ?_ (ent8 m c C hC j k l)
  blk_ext [iblk, idx t]

include hB in
theorem blk9 (j : Fin 2) (l : Fin 2816) : (iblk m c 9 t : FVec Ideal S2x1x2816 .f32) (ix3 j 0 l) = B (col j.val l.val) := by
  refine Eq.trans ?_ (ent9 m c B hB j l)
  blk_ext [iblk, idx t]

include hW in
theorem blk10 (j : Fin 2) (p : Fin 1408) (k : Fin 1024) :
    (iblk m c 10 t : FVec Ideal S2x1408x1024 .bf16) (ix3 j p k) = W (j.val * 1408 + p.val) k := by
  refine Eq.trans ?_ (ent10 m c W hW j p k)
  blk_ext [iblk, idx t]

include hG3 in
theorem blk11 (l : Fin 1024) : (iblk m c 11 t : FVec Ideal S1x1024 .f32) (ix2 0 l) = G3 l := by
  refine Eq.trans ?_ (hG3 l)
  blk_simp [iblk, idx t]
  entry_read
  pointwise
  blk_ext [idx t]

include hWg in
theorem blk12 (k l : Fin 1024) : (iblk m c 12 t : FVec Ideal S1024x1024 .bf16) (ix2 k l) = Wg k l := by
  refine Eq.trans ?_ (hWg k l)
  blk_simp [iblk, idx t]
  entry_read
  pointwise
  blk_ext [idx t]

include hWp in
theorem blk13 (q : Fin 256) (l : Fin 1024) : (iblk m c 13 t : FVec Ideal S256x1024 .bf16) (ix2 q l) = Wp q l := by
  refine Eq.trans ?_ (hWp q l)
  blk_simp [iblk, idx t]
  entry_read
  pointwise
  blk_ext [idx t]

end

end blocks

end Cert.Half

end
-- ==== Proof.HalfValue.lean ====
/- What the fused forward call leaves in its four results. -/
module

public import proofs.«01_k».proof.Proof.HalfBlk
public import proofs.«01_k».proof.Proof.FfnRead
public import proofs.«01_k».proof.Proof.PoolRead
public import Idealize.ShloMosaic.Lib.Pipeline.ReadBack

@[expose] public section

set_option maxRecDepth 16384

noncomputable section

namespace Cert.Half

open Idealize.ShloMosaic Idealize.ShloMosaic.TcCoe Idealize.SL.Sem Cert.MixFwdValue Cert.Ffn

section maths

variable (H Y : ℕ → Fin 1024 → EReal) (P : ℕ → Fin 256 → EReal) (O : Fin 1024 → Fin 1024 → EReal) (G : Fin 1024 → EReal) (U : Fin 1024 → ℕ → EReal)
  (C : ℕ → ℕ → EReal) (B : ℕ → EReal) (W : ℕ → Fin 1024 → EReal) (G3 : Fin 1024 → EReal) (Wg : Fin 1024 → Fin 1024 → EReal)
  (Wp : Fin 256 → Fin 1024 → EReal)

/-- The rows with the mixer's output added. -/
def h1E (r : ℕ) (k : Fin 1024) : EReal := H r k + ∑ q, Y r q * O q k

/-- Their up projection. -/
def upE (r n : ℕ) : EReal := projE (h1E H Y O r) G U n

/-- The up projection `s` rows earlier, zero before the first row. -/
def upSE (s r n : ℕ) : EReal := if s ≤ r then upE H Y O G U (r - s) n else 0

/-- The convolved rows. -/
def cvE (r n : ℕ) : EReal := B n + C 0 n * upSE H Y O G U 2 r n + C 1 n * upSE H Y O G U 1 r n + C 2 n * upSE H Y O G U 0 r n

/-- One gated lane. -/
def actE (r p : ℕ) : EReal := gelE (cvE H Y O G U C B r p) * cvE H Y O G U C B r (2816 + p)

/-- The rows after the feed-forward. -/
def h2E (r : ℕ) (k : Fin 1024) : EReal := h1E H Y O r k + ∑ p : Fin 2816, actE H Y O G U C B r p.val * W p.val k

/-- The rows after the gated embedding. -/
def h3E (r : ℕ) (k : Fin 1024) : EReal := gateE (h2E H Y O G U C B W r) G3 Wg (P r) Wp k

theorem sum_half (f : ℕ → EReal) : ∑ l : Fin 2816, f l.val = ∑ l : Fin 1408, f l.val + ∑ l : Fin 1408, f (1408 + l.val) := by
  rw [Fin.sum_univ_eq_sum_range f 2816, Fin.sum_univ_eq_sum_range f 1408, Fin.sum_univ_eq_sum_range (fun l => f (1408 + l)) 1408,
    ← Finset.sum_range_add f 1408 1408]

/-- Block `i`'s rows and the sixteen before it, zero before the first row. -/
def ext (A : ℕ → Fin 1024 → EReal) (i q : ℕ) (k : Fin 1024) : EReal :=
  if q < 16 then (if 0 < i then A ((i * 16 - 1) * 16 + q) k else 0) else A (i * 256 + (q - 16)) k

theorem ext_pos (A : ℕ → Fin 1024 → EReal) (i q r : ℕ) (h : i * 256 + q = 16 + r) : ext A i q = A r := by
  funext k
  unfold ext
  by_cases h1 : q < 16
  · rw [if_pos h1, if_pos (by omega), show (i * 16 - 1) * 16 + q = r by omega]
  · rw [if_neg h1, show i * 256 + (q - 16) = r by omega]

theorem ext_zero (A : ℕ → Fin 1024 → EReal) (i q : ℕ) (h : i * 256 + q < 16) (k : Fin 1024) : ext A i q k = 0 := by
  unfold ext
  rw [if_pos (by omega), if_neg (by omega)]

/-- The same rows with the mixer's output added. -/
def extH (i q : ℕ) (k : Fin 1024) : EReal := ext H i q k + ∑ p, ext Y i q p * O p k

theorem extH_pos (i q r : ℕ) (h : i * 256 + q = 16 + r) : extH H Y O i q = h1E H Y O r := by
  funext k
  unfold extH h1E
  rw [ext_pos H i q r h, ext_pos Y i q r h]

/-- The kernel's buffer of up rows. -/
def usE (i q n : ℕ) : EReal := ∑ k, normE (extH H Y O i q) G k * U k n

theorem usE_eq (i q n s r : ℕ) (h : i * 256 + q + s = 16 + r) : usE H Y O G U i q n = upSE H Y O G U s r n := by
  unfold usE upSE
  by_cases h1 : s ≤ r
  · rw [if_pos h1, extH_pos H Y O i q (r - s) (by omega)]
    rfl
  · rw [if_neg h1]
    refine Finset.sum_eq_zero fun k _ => ?_
    have e : extH H Y O i q k = 0 := by
      unfold extH
      rw [ext_zero H i q (by omega), zero_add]
      exact Finset.sum_eq_zero fun p _ => by rw [ext_zero Y i q (by omega), zero_mul]
    unfold normE
    rw [e, zero_mul, zero_mul, zero_mul]

/-- The convolved rows of half `j` as the kernel forms them. -/
def kcvE (i j q l : ℕ) : EReal := tapsE (fun k l => C k (col j l)) (fun l => B (col j l)) (fun q l => usE H Y O G U i (14 + q) (col j l)) q l

theorem kcvE_eq (i j q l : ℕ) : kcvE H Y O G U C B i j q l = cvE H Y O G U C B (i * 256 + q) (col j l) := by
  unfold kcvE tapsE cvE
  beta_reduce
  rw [usE_eq H Y O G U i (14 + q) (col j l) 2 (i * 256 + q) (by omega), usE_eq H Y O G U i (14 + (q + 1)) (col j l) 1 (i * 256 + q) (by omega),
    usE_eq H Y O G U i (14 + (q + 2)) (col j l) 0 (i * 256 + q) (by omega)]

theorem down_eq (i j q : ℕ) (k : Fin 1024) : downE (kcvE H Y O G U C B i j) (fun p => W (j * 1408 + p)) q k
    = ∑ p : Fin 1408, actE H Y O G U C B (i * 256 + q) (j * 1408 + p.val) * W (j * 1408 + p.val) k := by
  unfold downE actE
  refine Finset.sum_congr rfl fun p _ => ?_
  have e1 : col j p.val = j * 1408 + p.val := by unfold col; rw [if_pos p.isLt]
  have e2 : col j (p.val + 1408) = 2816 + (j * 1408 + p.val) := by unfold col; rw [if_neg (by omega)]; omega
  rw [kcvE_eq, kcvE_eq, e1, e2]

theorem h2_halves (i q : ℕ) (k : Fin 1024) : extH H Y O i (16 + q) k + downE (kcvE H Y O G U C B i 0) (fun p => W (0 * 1408 + p)) q k
    + downE (kcvE H Y O G U C B i 1) (fun p => W (1 * 1408 + p)) q k = h2E H Y O G U C B W (i * 256 + q) k := by
  unfold h2E
  rw [down_eq, down_eq, extH_pos H Y O i (16 + q) (i * 256 + q) (by omega), sum_half fun p => actE H Y O G U C B (i * 256 + q) p * W p k, add_assoc]
  simp only [Nat.zero_mul, Nat.zero_add, Nat.one_mul]

end maths

section pieces

variable {N n w : ℕ} (k : Fin N) (inb : ∀ x : Fin 3, (![k.val, 0, 0] : Fin 3 → ℕ) x + (![1, n, w] : Fin 3 → ℕ) x ≤ (![N, n, w] : Fin 3 → ℕ) x)
  (L : List (View.Piece (Elt Ideal) (⟨3, ![N, n, w]⟩ : Shape) .bf16)) (x : FVec Ideal (⟨3, ![1, n, w]⟩ : Shape) .bf16)

theorem piece_hit (r : Fin n) (l : Fin w) :
    View.canon (Val := Elt Ideal) (⟨Rect.unit (s := ⟨3, ![N, n, w]⟩) ![k.val, 0, 0] ![1, n, w] inb, x⟩ :: L) (ix3 k r l) = x (ix3 0 r l) := by
  rw [← Cert.Pool.lead_emb k inb r l]
  exact View.canon_cons_emb (Val := Elt Ideal) (Rect.unit (s := ⟨3, ![N, n, w]⟩) ![k.val, 0, 0] ![1, n, w] inb) x L (ix3 0 r l)

theorem piece_miss (a : Fin N) (r : Fin n) (l : Fin w) (h : a.val ≠ k.val) :
    View.canon (Val := Elt Ideal) (⟨Rect.unit (s := ⟨3, ![N, n, w]⟩) ![k.val, 0, 0] ![1, n, w] inb, x⟩ :: L) (ix3 a r l) = View.canon L (ix3 a r l) := by
  refine View.canon_cons_of_not_mem _ _ fun hm => ?_
  have h0 := hm
  rw [Rect.mem_set_unit] at h0
  have h1 := h0 0
  have h2 : k.val ≤ a.val ∧ a.val < k.val + 1 := h1
  omega

end pieces

open Cert.Kernel8Ideal Cert.Kernel8Ideal.Gen

theorem row_lt (o : ℕ) (inb : ∀ x : Fin 2, (![o, 0] : Fin 2 → ℕ) x + (![256, 2816] : Fin 2 → ℕ) x ≤ S272x2816.size x) (r : Fin 256) : o + r.val < 272 := by
  have h : o + 256 ≤ 272 := inb 0
  omega

/-- Rows of the last store over the whole buffer. -/
theorem read_store (L : List (View.Piece (Elt Ideal) S272x2816 .f32)) (a : FVec Ideal S272x2816 .f32) (u : ℕ → ℕ → EReal)
    (ha : ∀ (r : Fin 272) (l : Fin 2816), a (ix2 r l) = u r.val l.val)
    (o : ℕ) (inb : ∀ x : Fin 2, (![o, 0] : Fin 2 → ℕ) x + (![256, 2816] : Fin 2 → ℕ) x ≤ S272x2816.size x) (r : Fin 256) (l : Fin 2816) :
    (View.whole cc0_scratch0).readCov (Val := Elt Ideal) (⟨Rect.unit ![0, 0] ![272, 2816] inb_S272x2816_S272x2816_0_0, a⟩ :: L)
      (Rect.unit (s := S272x2816) ![o, 0] ![256, 2816] inb).toLoadRect (ix2 r l : S256x2816.Idx) = u (o + r.val) l.val := by
  refine (readCov_rows (View.whole cc0_scratch0) _ o 256 inb r l (row_lt o inb r)).trans ?_
  exact (hit (View.whole cc0_scratch0) _ _ 0 0 272 2816 _ a ⟨o + r.val, row_lt o inb r⟩ l ⟨o + r.val, row_lt o inb r⟩ l (Nat.zero_add _).symm (Nat.zero_add _).symm).trans (ha _ l)

section tile

variable (m : (ℓ : Loc nD τ sig) → Buf (Elt Ideal) ℓ) (c : Dev nD)
  (H Y : ℕ → Fin 1024 → EReal) (P : ℕ → Fin 256 → EReal) (O : Fin 1024 → Fin 1024 → EReal) (G : Fin 1024 → EReal) (U : Fin 1024 → ℕ → EReal)
  (C : ℕ → ℕ → EReal) (B : ℕ → EReal) (W : ℕ → Fin 1024 → EReal) (G3 : Fin 1024 → EReal) (Wg : Fin 1024 → Fin 1024 → EReal)
  (Wp : Fin 256 → Fin 1024 → EReal)
  (hH : ∀ (r : Fin 16384) l, (m ((c : Thread nD τ).loc main_arg0) : FVec Ideal S16384x1024 .f32) (ix2 r l) = H r.val l)
  (hY : ∀ (r : Fin 16384) l, (m ((c : Thread nD τ).loc main_arg1) : FVec Ideal S16384x1024 .f32) (ix2 r l) = Y r.val l)
  (hP : ∀ (r : Fin 16384) l, (m ((c : Thread nD τ).loc main_arg2) : FVec Ideal S4x16384x256 .f32) (ix3 3 r l) = P r.val l)
  (hO : ∀ k l, (m ((c : Thread nD τ).loc main_arg3) : FVec Ideal S1024x1024 .f32) (ix2 k l) = O k l)
  (hG : ∀ l, (m ((c : Thread nD τ).loc main_arg4) : FVec Ideal S1024 .f32) (ix1 l) = G l)
  (hU : ∀ k (n : Fin 5632), (m ((c : Thread nD τ).loc main_arg5) : FVec Ideal S1024x5632 .f32) (ix2 k n) = U k n.val)
  (hC : ∀ (k : Fin 3) (n : Fin 5632), (m ((c : Thread nD τ).loc main_arg6) : FVec Ideal S3x5632 .f32) (ix2 k n) = C k.val n.val)
  (hB : ∀ n : Fin 5632, (m ((c : Thread nD τ).loc main_arg7) : FVec Ideal S5632 .f32) (ix1 n) = B n.val)
  (hW : ∀ (p : Fin 2816) l, (m ((c : Thread nD τ).loc main_arg8) : FVec Ideal S2816x1024 .f32) (ix2 p l) = W p.val l)
  (hG3 : ∀ l, (m ((c : Thread nD τ).loc main_arg9) : FVec Ideal S1024 .f32) (ix1 l) = G3 l)
  (hWg : ∀ k l, (m ((c : Thread nD τ).loc main_arg10) : FVec Ideal S1024x1024 .f32) (ix2 k l) = Wg k l)
  (hWp : ∀ q l, (m ((c : Thread nD τ).loc main_arg11) : FVec Ideal S256x1024 .f32) (ix2 q l) = Wp q l)
  (t : Fin cfg0.N)

theorem coord : (grid0.coords t 0).val = t.val := (idx t).2.2.2.2.2.2.2.2.2.2.2.2.2.2.2.2.2.2

/-- The normed rows. -/
abbrev kn : FVec Ideal S272x1024 .bf16 :=
  k0_pay3 (grid0.coords t) (iblk m c 1 t) (iblk m c 3 t) (iblk m c 0 t) (iblk m c 2 t) (iblk m c 5 t) (iblk m c 6 t)

/-- The stores of the two halves' up rows. -/
abbrev st0 : View.Piece (Elt Ideal) S272x2816 .f32 :=
  ⟨Rect.unit ![0, 0] ![272, 2816] inb_S272x2816_S272x2816_0_0,
    k0_pay5 (kn m c t) (View.ld (iblk m c 7 t) (Rect.unit ![0, 0, 0] ![1, 1024, 2816] inb_S2x1024x2816_S1x1024x2816_0_0_0))⟩

abbrev st1 : View.Piece (Elt Ideal) S272x2816 .f32 :=
  ⟨Rect.unit ![0, 0] ![272, 2816] inb_S272x2816_S272x2816_0_0,
    k0_pay11 (kn m c t) (View.ld (iblk m c 7 t) (Rect.unit ![1, 0, 0] ![1, 1024, 2816] inb_S2x1024x2816_S1x1024x2816_1_0_0))⟩

/-- Some rows of the up rows stored last. -/
abbrev kup (L : List (View.Piece (Elt Ideal) S272x2816 .f32)) (o : ℕ)
    (inb : ∀ x : Fin 2, (![o, 0] : Fin 2 → ℕ) x + (![256, 2816] : Fin 2 → ℕ) x ≤ S272x2816.size x) : FVec Ideal S256x2816 .f32 :=
  (View.whole cc0_scratch0).readCov (Val := Elt Ideal) L (Rect.unit (s := S272x2816) ![o, 0] ![256, 2816] inb).toLoadRect

include hH hY hO in
theorem kh_at (r : Fin 272) (l : Fin 1024) :
    k0_pay2 (F := Ideal) (grid0.coords t) (iblk m c 1 t) (iblk m c 3 t) (iblk m c 0 t) (iblk m c 2 t) (iblk m c 5 t) (ix2 r l) = extH H Y O t.val r.val l := by
  have hc := coord t
  refine pay2 (grid0.coords t) (iblk m c 1 t) (iblk m c 3 t) (iblk m c 0 t) (iblk m c 2 t) (iblk m c 5 t) (ext H t.val) (ext Y t.val) O
    (fun r l => ?_) (fun r l => ?_) (fun h r l => ?_) (fun h r l => ?_) (fun h r l => ?_) (fun h r l => ?_) (blk5 m c O hO t) r l
  · refine (blk0 m c H hH t r l).trans ?_
    rw [ext_pos H t.val (16 + r.val) (t.val * 256 + r.val) (by omega)]
  · refine (blk2 m c Y hY t r l).trans ?_
    rw [ext_pos Y t.val (16 + r.val) (t.val * 256 + r.val) (by omega)]
  · refine (blk1 m c H hH t r l).trans ?_
    rw [hc] at h
    rw [ext, if_pos r.isLt, if_pos h]
  · refine (blk3 m c Y hY t r l).trans ?_
    rw [hc] at h
    rw [ext, if_pos r.isLt, if_pos h]
  · rw [hc] at h
    exact ext_zero H t.val r.val (by omega) l
  · rw [hc] at h
    exact ext_zero Y t.val r.val (by omega) l

include hH hY hO hG in
theorem kn_at (r : Fin 272) (l : Fin 1024) : kn m c t (ix2 r l) = normE (extH H Y O t.val r.val) G l :=
  pay3 (grid0.coords t) (iblk m c 1 t) (iblk m c 3 t) (iblk m c 0 t) (iblk m c 2 t) (iblk m c 5 t) (iblk m c 6 t) G (blk6 m c G hG t)
    (extH H Y O t.val) (kh_at m c H Y O hH hY hO t) r l

include hH hY hO hG hU in
theorem kup0_at (L : List (View.Piece (Elt Ideal) S272x2816 .f32)) (o : ℕ)
    (inb : ∀ x : Fin 2, (![o, 0] : Fin 2 → ℕ) x + (![256, 2816] : Fin 2 → ℕ) x ≤ S272x2816.size x) (r : Fin 256) (l : Fin 2816) :
    kup (st0 m c t :: L) o inb (ix2 r l) = usE H Y O G U t.val (o + r.val) (col 0 l.val) :=
  read_store L _ (fun q l => usE H Y O G U t.val q (col 0 l))
    (fun r l => pay5 (kn m c t) _ (fun q => normE (extH H Y O t.val q) G) (fun k l => U k (col 0 l)) (kn_at m c H Y O G hH hY hO hG t)
      (fun k l => (Cert.Pool.lead_ld (0 : Fin 2) _ (e := .bf16) (iblk m c 7 t) k l).trans (blk7 m c U hU t 0 k l)) r l) o inb r l

include hH hY hO hG hU in
theorem kup1_at (L : List (View.Piece (Elt Ideal) S272x2816 .f32)) (o : ℕ)
    (inb : ∀ x : Fin 2, (![o, 0] : Fin 2 → ℕ) x + (![256, 2816] : Fin 2 → ℕ) x ≤ S272x2816.size x) (r : Fin 256) (l : Fin 2816) :
    kup (st1 m c t :: L) o inb (ix2 r l) = usE H Y O G U t.val (o + r.val) (col 1 l.val) :=
  read_store L _ (fun q l => usE H Y O G U t.val q (col 1 l))
    (fun r l => pay11 (kn m c t) _ (fun q => normE (extH H Y O t.val q) G) (fun k l => U k (col 1 l)) (kn_at m c H Y O G hH hY hO hG t)
      (fun k l => (Cert.Pool.lead_ld (1 : Fin 2) _ (e := .bf16) (iblk m c 7 t) k l).trans (blk7 m c U hU t 1 k l)) r l) o inb r l

/-- The rows after the first half's product. -/
abbrev kacc : FVec Ideal S256x1024 .f32 :=
  let cw := View.ld (iblk m c 8 t) (Rect.unit ![0, 0, 0] ![1, 3, 2816] inb_S2x3x2816_S1x3x2816_0_0_0)
  let cb := View.ld (iblk m c 9 t) (Rect.unit ![0, 0, 0] ![1, 1, 2816] inb_S2x1x2816_S1x1x2816_0_0_0)
  let u0 := kup [st0 m c t] 14 inb_S272x2816_S256x2816_14_0
  let u1 := kup [st0 m c t] 15 inb_S272x2816_S256x2816_15_0
  let u2 := kup [st0 m c t] 16 inb_S272x2816_S256x2816_16_0
  k0_pay10 (k0_pay4 (grid0.coords t) (iblk m c 1 t) (iblk m c 3 t) (iblk m c 0 t) (iblk m c 2 t) (iblk m c 5 t))
    (k0_pay6 cw cb u0 u1 u2) (k0_pay8 cw cb u0 u1 u2) (k0_pay9 cw cb u0 u1 u2) (Ideal.ofBits .f32 0x3F4C422A#32)
    (View.ld (iblk m c 10 t) (Rect.unit ![0, 0, 0] ![1, 1408, 1024] inb_S2x1408x1024_S1x1408x1024_0_0_0))

include hH hY hO hG hU hC hB hW in
theorem kacc_at (r : Fin 256) (k : Fin 1024) :
    kacc m c t (ix2 r k) = extH H Y O t.val (16 + r.val) k + downE (kcvE H Y O G U C B t.val 0) (fun p => W (0 * 1408 + p)) r.val k := by
  have ku := kup0_at m c H Y O G U hH hY hO hG hU t []
  exact pay10 _ _ _ _ _ (fun k l => C k (col 0 l)) (fun l => B (col 0 l)) (fun q l => usE H Y O G U t.val (14 + q) (col 0 l))
    (fun k l => (Cert.Pool.lead_ld (0 : Fin 2) _ (e := .f32) (iblk m c 8 t) k l).trans (blk8 m c C hC t 0 k l))
    (fun l => (Cert.Pool.lead_ld (0 : Fin 2) _ (e := .f32) (iblk m c 9 t) 0 l).trans (blk9 m c B hB t 0 l))
    (fun r l => ku 14 _ r l) (fun r l => (ku 15 _ r l).trans (by rw [show 14 + (r.val + 1) = 15 + r.val by omega]))
    (fun r l => (ku 16 _ r l).trans (by rw [show 14 + (r.val + 2) = 16 + r.val by omega])) _ _
    (fun r k => extH H Y O t.val (16 + r.val) k) (fun p => W (0 * 1408 + p))
    (pay4 (grid0.coords t) (iblk m c 1 t) (iblk m c 3 t) (iblk m c 0 t) (iblk m c 2 t) (iblk m c 5 t) (extH H Y O t.val) (kh_at m c H Y O hH hY hO t))
    (fun p k => (Cert.Pool.lead_ld (0 : Fin 2) _ (e := .bf16) (iblk m c 10 t) p k).trans (blk10 m c W hW t 0 p k)) r k

/-- The second half's taps, its convolved rows before the last tap, the rows that tap reads and its down weights. -/
abbrev kc : FVec Ideal S3x2816 .f32 := k0_pay12 (View.ld (iblk m c 8 t) (Rect.unit ![1, 0, 0] ![1, 3, 2816] inb_S2x3x2816_S1x3x2816_1_0_0))

abbrev kv : FVec Ideal S256x2816 .f32 :=
  k0_pay13 (View.ld (iblk m c 8 t) (Rect.unit ![1, 0, 0] ![1, 3, 2816] inb_S2x3x2816_S1x3x2816_1_0_0))
    (View.ld (iblk m c 9 t) (Rect.unit ![1, 0, 0] ![1, 1, 2816] inb_S2x1x2816_S1x1x2816_1_0_0))
    (kup [st1 m c t, st0 m c t] 14 inb_S272x2816_S256x2816_14_0) (kup [st1 m c t, st0 m c t] 15 inb_S272x2816_S256x2816_15_0)

abbrev ku2 : FVec Ideal S256x2816 .f32 := kup [st1 m c t, st0 m c t] 16 inb_S272x2816_S256x2816_16_0

abbrev kw1 : FVec Ideal S1x1408x1024 .bf16 := View.ld (iblk m c 10 t) (Rect.unit ![1, 0, 0] ![1, 1408, 1024] inb_S2x1408x1024_S1x1408x1024_1_0_0)

include hH hY hO hG hU hC hB hW in
theorem kh2_at (r : Fin 256) (k : Fin 1024) :
    k0_pay15 (F := Ideal) (kacc m c t) (kc m c t) (kv m c t) (ku2 m c t) (kw1 m c t) (ix2 r k) = h2E H Y O G U C B W (t.val * 256 + r.val) k := by
  have ku := kup1_at m c H Y O G U hH hY hO hG hU t [st0 m c t]
  refine (pay15 _ _ _ _ _ (fun k l => C k (col 1 l)) (fun l => B (col 1 l)) (fun q l => usE H Y O G U t.val (14 + q) (col 1 l))
    (fun k l => (Cert.Pool.lead_ld (1 : Fin 2) _ (e := .f32) (iblk m c 8 t) k l).trans (blk8 m c C hC t 1 k l))
    (fun l => (Cert.Pool.lead_ld (1 : Fin 2) _ (e := .f32) (iblk m c 9 t) 0 l).trans (blk9 m c B hB t 1 l))
    (fun r l => ku 14 _ r l) (fun r l => (ku 15 _ r l).trans (by rw [show 14 + (r.val + 1) = 15 + r.val by omega]))
    (fun r l => (ku 16 _ r l).trans (by rw [show 14 + (r.val + 2) = 16 + r.val by omega])) _ _
    (fun r k => extH H Y O t.val (16 + r.val) k + downE (kcvE H Y O G U C B t.val 0) (fun p => W (0 * 1408 + p)) r.val k) (fun p => W (1 * 1408 + p))
    (kacc_at m c H Y O G U C B W hH hY hO hG hU hC hB hW t)
    (fun p k => (Cert.Pool.lead_ld (1 : Fin 2) _ (e := .bf16) (iblk m c 10 t) p k).trans (blk10 m c W hW t 1 p k)) r k).trans ?_
  exact h2_halves H Y O G U C B W t.val r.val k

include hH hY hO in
theorem out14 (r : Fin 256) (k : Fin 1024) : (outsAt0 m c t).1 (ix2 r k) = h1E H Y O (t.val * 256 + r.val) k := by
  refine Eq.trans ?_ ((pay4 (grid0.coords t) (iblk m c 1 t) (iblk m c 3 t) (iblk m c 0 t) (iblk m c 2 t) (iblk m c 5 t) (extH H Y O t.val)
    (kh_at m c H Y O hH hY hO t) r k).trans (congrFun (extH_pos H Y O t.val (16 + r.val) (t.val * 256 + r.val) (by omega)) k))
  unfold outsAt0
  frame_out

include hH hY hO hG hU hC hB hW in
theorem out15 (r : Fin 256) (k : Fin 1024) : (outsAt0 m c t).2.1 (ix2 r k) = h2E H Y O G U C B W (t.val * 256 + r.val) k := by
  refine Eq.trans ?_ (kh2_at m c H Y O G U C B W hH hY hO hG hU hC hB hW t r k)
  unfold outsAt0
  frame_out
  rfl

include hH hY hP hO hG hU hC hB hW hG3 hWg hWp in
theorem out16 (r : Fin 256) (k : Fin 1024) : (outsAt0 m c t).2.2.1 (ix2 r k) = h3E H Y P O G U C B W G3 Wg Wp (t.val * 256 + r.val) k := by
  refine Eq.trans ?_ (pay1 (kacc m c t) (kc m c t) (kv m c t) (ku2 m c t) (kw1 m c t) (iblk m c 11 t) (iblk m c 12 t) (iblk m c 4 t) (iblk m c 13 t)
    (fun r => h2E H Y O G U C B W (t.val * 256 + r.val)) G3 Wg (fun r => P (t.val * 256 + r.val)) Wp
    (kh2_at m c H Y O G U C B W hH hY hO hG hU hC hB hW t) (blk11 m c G3 hG3 t) (blk12 m c Wg hWg t) (blk4 m c P hP t) (blk13 m c Wp hWp t) r k)
  unfold outsAt0
  frame_out
  rfl

include hH hY hO hG hU in
theorem out17 (j : Fin 2) (r : Fin 256) (l : Fin 2816) : (outsAt0 m c t).2.2.2 (ix3 j r l) = upE H Y O G U (t.val * 256 + r.val) (col j.val l.val) := by
  have e : ∀ n, usE H Y O G U t.val (16 + r.val) n = upE H Y O G U (t.val * 256 + r.val) n := fun n => by
    rw [usE_eq H Y O G U t.val (16 + r.val) n 0 (t.val * 256 + r.val) (by omega), upSE, if_pos (Nat.zero_le _), Nat.sub_zero]
  have h0 := (pay7 _ r l).trans ((kup0_at m c H Y O G U hH hY hO hG hU t [] 16 inb_S272x2816_S256x2816_16_0 r l).trans (e _))
  have h1 := (pay14 _ r l).trans ((kup1_at m c H Y O G U hH hY hO hG hU t [st0 m c t] 16 inb_S272x2816_S256x2816_16_0 r l).trans (e _))
  unfold outsAt0
  frame_out
  fin_cases j
  · exact (piece_miss (1 : Fin 2) _ _ _ 0 r l (by decide)).trans ((piece_hit (0 : Fin 2) _ _ _ r l).trans h0)
  · exact (piece_hit (1 : Fin 2) _ _ _ r l).trans h1

end tile

section results

variable (m : (ℓ : Loc nD τ sig) → Buf (Elt Ideal) ℓ) (c : Dev nD)
  (H Y : ℕ → Fin 1024 → EReal) (P : ℕ → Fin 256 → EReal) (O : Fin 1024 → Fin 1024 → EReal) (G : Fin 1024 → EReal) (U : Fin 1024 → ℕ → EReal)
  (C : ℕ → ℕ → EReal) (B : ℕ → EReal) (W : ℕ → Fin 1024 → EReal) (G3 : Fin 1024 → EReal) (Wg : Fin 1024 → Fin 1024 → EReal)
  (Wp : Fin 256 → Fin 1024 → EReal)
  (hH : ∀ (r : Fin 16384) l, (m ((c : Thread nD τ).loc main_arg0) : FVec Ideal S16384x1024 .f32) (ix2 r l) = H r.val l)
  (hY : ∀ (r : Fin 16384) l, (m ((c : Thread nD τ).loc main_arg1) : FVec Ideal S16384x1024 .f32) (ix2 r l) = Y r.val l)
  (hP : ∀ (r : Fin 16384) l, (m ((c : Thread nD τ).loc main_arg2) : FVec Ideal S4x16384x256 .f32) (ix3 3 r l) = P r.val l)
  (hO : ∀ k l, (m ((c : Thread nD τ).loc main_arg3) : FVec Ideal S1024x1024 .f32) (ix2 k l) = O k l)
  (hG : ∀ l, (m ((c : Thread nD τ).loc main_arg4) : FVec Ideal S1024 .f32) (ix1 l) = G l)
  (hU : ∀ k (n : Fin 5632), (m ((c : Thread nD τ).loc main_arg5) : FVec Ideal S1024x5632 .f32) (ix2 k n) = U k n.val)
  (hC : ∀ (k : Fin 3) (n : Fin 5632), (m ((c : Thread nD τ).loc main_arg6) : FVec Ideal S3x5632 .f32) (ix2 k n) = C k.val n.val)
  (hB : ∀ n : Fin 5632, (m ((c : Thread nD τ).loc main_arg7) : FVec Ideal S5632 .f32) (ix1 n) = B n.val)
  (hW : ∀ (p : Fin 2816) l, (m ((c : Thread nD τ).loc main_arg8) : FVec Ideal S2816x1024 .f32) (ix2 p l) = W p.val l)
  (hG3 : ∀ l, (m ((c : Thread nD τ).loc main_arg9) : FVec Ideal S1024 .f32) (ix1 l) = G3 l)
  (hWg : ∀ k l, (m ((c : Thread nD τ).loc main_arg10) : FVec Ideal S1024x1024 .f32) (ix2 k l) = Wg k l)
  (hWp : ∀ q l, (m ((c : Thread nD τ).loc main_arg11) : FVec Ideal S256x1024 .f32) (ix2 q l) = Wp q l)

include hH hY hO in
/-- The rows with the mixer's output added. -/
theorem final14 : (dats m 0 c).arrAt 14 (cfgs 0).N = fun i : S16384x1024.Idx => h1E H Y O (i 0).val (i 1) := by
  refine (dats m 0 c).arrAt_eq_of_covers 14 _ (by decide +kernel) fun t hf y => ?_
  blk_simp
  rw [after0_14]
  refine (congrArg _ (eq_ix2 y)).trans ((out14 m c H Y O hH hY hO t (y 0) (y 1)).trans ?_)
  refine congrArg₂ (fun a (b : Fin 1024) => h1E H Y O a b) ?_ (Fin.ext ?_)
  · blk_simp [idx t]
  · blk_simp [idx t]

include hH hY hO hG hU hC hB hW in
/-- The rows after the feed-forward. -/
theorem final15 : (dats m 0 c).arrAt 15 (cfgs 0).N = fun i : S16384x1024.Idx => h2E H Y O G U C B W (i 0).val (i 1) := by
  refine (dats m 0 c).arrAt_eq_of_covers 15 _ (by decide +kernel) fun t hf y => ?_
  blk_simp
  rw [after0_15]
  refine (congrArg _ (eq_ix2 y)).trans ((out15 m c H Y O G U C B W hH hY hO hG hU hC hB hW t (y 0) (y 1)).trans ?_)
  refine congrArg₂ (fun a (b : Fin 1024) => h2E H Y O G U C B W a b) ?_ (Fin.ext ?_)
  · blk_simp [idx t]
  · blk_simp [idx t]

include hH hY hP hO hG hU hC hB hW hG3 hWg hWp in
/-- The rows after the gated embedding. -/
theorem final16 : (dats m 0 c).arrAt 16 (cfgs 0).N = fun i : S16384x1024.Idx => h3E H Y P O G U C B W G3 Wg Wp (i 0).val (i 1) := by
  refine (dats m 0 c).arrAt_eq_of_covers 16 _ (by decide +kernel) fun t hf y => ?_
  blk_simp
  rw [after0_16]
  refine (congrArg _ (eq_ix2 y)).trans ((out16 m c H Y P O G U C B W G3 Wg Wp hH hY hP hO hG hU hC hB hW hG3 hWg hWp t (y 0) (y 1)).trans ?_)
  refine congrArg₂ (fun a (b : Fin 1024) => h3E H Y P O G U C B W G3 Wg Wp a b) ?_ (Fin.ext ?_)
  · blk_simp [idx t]
  · blk_simp [idx t]

include hH hY hO hG hU in
/-- The up projection's two halves. -/
theorem final17 : (dats m 0 c).arrAt 17 (cfgs 0).N = fun i : S2x16384x2816.Idx => upE H Y O G U (i 1).val (col (i 0).val (i 2).val) := by
  refine (dats m 0 c).arrAt_eq_of_covers 17 _ (by decide +kernel) fun t hf y => ?_
  blk_simp
  rw [after0_17]
  refine (congrArg _ (eq_ix3 y)).trans ((out17 m c H Y O G U hH hY hO hG hU t (y 0) (y 1) (y 2)).trans ?_)
  refine congrArg₂ (fun a b => upE H Y O G U a b) ?_ (congrArg₂ col ?_ ?_)
  · blk_simp [idx t]
  · blk_simp [idx t]
  · blk_simp [idx t]

end results

end Cert.Half

end
-- ==== Proof.HalfRef.lean ====
/- The fused forward's four results, as the reference computes them. -/
module

public import proofs.«01_k».proof.Proof.HalfValue
public import proofs.«01_k».proof.Proof.Gen.Reference8Ideal.Read

@[expose] public section

set_option maxRecDepth 16384

noncomputable section

namespace Cert.HalfRef

open Idealize.ShloMosaic Cert.Reference8Ideal Cert.Reference8Ideal.Read Cert.MixFwdValue Cert.Half Cert.Ffn

variable (x0 x1 : FVec Ideal S16384x1024 .f32) (x2 : FVec Ideal S4x16384x256 .f32) (x3 : FVec Ideal S1024x1024 .f32) (x4 : FVec Ideal S1024 .f32)
  (x5 : FVec Ideal S1024x5632 .f32) (x6 : FVec Ideal S3x5632 .f32) (x7 : FVec Ideal S5632 .f32) (x8 : FVec Ideal S2816x1024 .f32)
  (x9 : FVec Ideal S1024 .f32) (x10 : FVec Ideal S1024x1024 .f32) (x11 : FVec Ideal S256x1024 .f32)
  (H Y : ℕ → Fin 1024 → EReal) (P : ℕ → Fin 256 → EReal) (O : Fin 1024 → Fin 1024 → EReal) (G : Fin 1024 → EReal) (U : Fin 1024 → ℕ → EReal)
  (C : ℕ → ℕ → EReal) (B : ℕ → EReal) (W : ℕ → Fin 1024 → EReal) (G3 : Fin 1024 → EReal) (Wg : Fin 1024 → Fin 1024 → EReal)
  (Wp : Fin 256 → Fin 1024 → EReal)
  (hH : ∀ (r : Fin 16384) l, x0 (ix2 r l) = H r.val l) (hY : ∀ (r : Fin 16384) l, x1 (ix2 r l) = Y r.val l)
  (hP : ∀ (r : Fin 16384) l, x2 (ix3 3 r l) = P r.val l) (hO : ∀ k l, x3 (ix2 k l) = O k l) (hG : ∀ l, x4 (ix1 l) = G l)
  (hU : ∀ k (n : Fin 5632), x5 (ix2 k n) = U k n.val) (hC : ∀ (k : Fin 3) (n : Fin 5632), x6 (ix2 k n) = C k.val n.val)
  (hB : ∀ n : Fin 5632, x7 (ix1 n) = B n.val) (hW : ∀ (p : Fin 2816) l, x8 (ix2 p l) = W p.val l) (hG3 : ∀ l, x9 (ix1 l) = G3 l)
  (hWg : ∀ k l, x10 (ix2 k l) = Wg k l) (hWp : ∀ q l, x11 (ix2 q l) = Wp q l)

include hH hY hO in
theorem v1 (r : Fin 16384) (l : Fin 1024) : val_main_v1 (F := Ideal) x0 x1 x3 (ix2 r l) = h1E H Y O r.val l := by
  pointwise [val_main_v1, val_main_v0]
  simp only [hH, hY, hO]
  rfl

include hH hY hO hG in
theorem v14 (r : Fin 16384) (k : Fin 1024) : val_main_v14 (F := Ideal) x0 x1 x3 x4 (ix2 r k) = normE (h1E H Y O r.val) G k := by
  have h1 := v1 x0 x1 x3 H Y O hH hY hO
  pointwise [val_main_v14, val_main_v13, val_main_v12, val_main_v11, val_main_v10, val_main_v9, val_main_v8, val_main_v7, val_main_v6, val_main_v5,
    val_main_v4, val_main_v3, val_main_v2, val_main_cst, val_main_cst_0, val_main_cst_1]
  simp only [h1, hG]
  rfl

include hH hY hO hG hU in
theorem v15 (r : Fin 16384) (n : Fin 5632) : val_main_v15 (F := Ideal) x0 x1 x3 x4 x5 (ix2 r n) = upE H Y O G U r.val n.val := by
  have h14 := v14 x0 x1 x3 x4 H Y O G hH hY hO hG
  pointwise [val_main_v15]
  simp only [h14, hU]
  rfl

include hH hY hO hG hU in
theorem v18 (r : Fin 16384) (n : Fin 5632) : val_main_v18 (F := Ideal) x0 x1 x3 x4 x5 (ix2 r n) = upSE H Y O G U 2 r.val n.val := by
  have h15 := v15 x0 x1 x3 x4 x5 H Y O G U hH hY hO hG hU
  pointwise [val_main_v18, val_main_v17, val_main_v16, val_main_cst_2]
  simp only [h15]
  unfold upSE
  split_ifs <;> first | rfl | exact congrArg (fun q : ℕ => upE H Y O G U q n.val) (by omega) | omega

include hH hY hO hG hU in
theorem v27 (r : Fin 16384) (n : Fin 5632) : val_main_v27 (F := Ideal) x0 x1 x3 x4 x5 (ix2 r n) = upSE H Y O G U 1 r.val n.val := by
  have h15 := v15 x0 x1 x3 x4 x5 H Y O G U hH hY hO hG hU
  pointwise [val_main_v27, val_main_v17, val_main_v16, val_main_cst_2]
  simp only [h15]
  unfold upSE
  split_ifs <;> first | rfl | exact congrArg (fun q : ℕ => upE H Y O G U q n.val) (by omega) | omega

include hH hY hO hG hU in
theorem v34 (r : Fin 16384) (n : Fin 5632) : val_main_v34 (F := Ideal) x0 x1 x3 x4 x5 (ix2 r n) = upSE H Y O G U 0 r.val n.val := by
  have h15 := v15 x0 x1 x3 x4 x5 H Y O G U hH hY hO hG hU
  pointwise [val_main_v34, val_main_v17, val_main_v16, val_main_cst_2]
  simp only [h15]
  unfold upSE
  split_ifs <;> first | rfl | exact congrArg (fun q : ℕ => upE H Y O G U q n.val) (by omega) | omega

include hH hY hO hG hU hC hB in
theorem v40 (r : Fin 16384) (n : Fin 5632) : val_main_v40 (F := Ideal) x0 x1 x3 x4 x5 x6 x7 (ix2 r n) = cvE H Y O G U C B r.val n.val := by
  have h18 := v18 x0 x1 x3 x4 x5 H Y O G U hH hY hO hG hU r n
  have h27 := v27 x0 x1 x3 x4 x5 H Y O G U hH hY hO hG hU r n
  have h34 := v34 x0 x1 x3 x4 x5 H Y O G U hH hY hO hG hU r n
  pointwise [val_main_v40, val_main_v39, val_main_v38, val_main_v37, val_main_v36, val_main_v35, val_main_v33, val_main_v32, val_main_v31, val_main_v30,
    val_main_v29, val_main_v28, val_main_v26, val_main_v25, val_main_v24, val_main_v23, val_main_v22, val_main_v21, val_main_v20, val_main_v19]
  simp only [h18, h27, h34, hC, hB]
  unfold cvE
  rw [mul_comm (C 0 n.val), mul_comm (C 1 n.val), mul_comm (C 2 n.val)]
  rfl

include hH hY hO hG hU hC hB in
theorem v41 (r : Fin 16384) (p : Fin 2816) : val_main_v41 (F := Ideal) x0 x1 x3 x4 x5 x6 x7 (ix2 r p) = cvE H Y O G U C B r.val p.val := by
  have h40 := v40 x0 x1 x3 x4 x5 x6 x7 H Y O G U C B hH hY hO hG hU hC hB r
  pointwise [val_main_v41]
  exact h40 ⟨p.val, by omega⟩

include hH hY hO hG hU hC hB in
theorem v42 (r : Fin 16384) (p : Fin 2816) : val_main_v42 (F := Ideal) x0 x1 x3 x4 x5 x6 x7 (ix2 r p) = cvE H Y O G U C B r.val (2816 + p.val) := by
  have h40 := v40 x0 x1 x3 x4 x5 x6 x7 H Y O G U C B hH hY hO hG hU hC hB r
  pointwise [val_main_v42]
  exact h40 ⟨2816 + p.val, by omega⟩

include hH hY hO hG hU hC hB in
theorem v56 (r : Fin 16384) (p : Fin 2816) : val_main_v56 (F := Ideal) x0 x1 x3 x4 x5 x6 x7 (ix2 r p) = actE H Y O G U C B r.val p.val := by
  have h41 := v41 x0 x1 x3 x4 x5 x6 x7 H Y O G U C B hH hY hO hG hU hC hB r p
  have h42 := v42 x0 x1 x3 x4 x5 x6 x7 H Y O G U C B hH hY hO hG hU hC hB r p
  refine Eq.trans ?_ (congrArg (· * cvE H Y O G U C B r.val (2816 + p.val)) (gelE_eq (cvE H Y O G U C B r.val p.val)))
  rw [Cert.Reals.cOne]
  pointwise [val_main_v56, val_main_v55, val_main_v54, val_main_v53, val_main_v52, val_main_v51, val_main_v50, val_main_v49, val_main_v48, val_main_v47,
    val_main_v46, val_main_v45, val_main_v44, val_main_v43, val_main_cst_3, val_main_cst_4, val_main_cst_5, val_main_cst_6]
  simp only [h41, h42]
  rfl

include hH hY hO hG hU hC hB hW in
theorem v58 (r : Fin 16384) (k : Fin 1024) : val_main_v58 (F := Ideal) x0 x1 x3 x4 x5 x6 x7 x8 (ix2 r k) = h2E H Y O G U C B W r.val k := by
  have h1 := v1 x0 x1 x3 H Y O hH hY hO r k
  have h56 := v56 x0 x1 x3 x4 x5 x6 x7 H Y O G U C B hH hY hO hG hU hC hB r
  pointwise [val_main_v58, val_main_v57]
  simp only [h1, h56, hW]
  rfl

include hH hY hP hO hG hU hC hB hW hG3 hWg hWp in
theorem v83 (r : Fin 16384) (k : Fin 1024) :
    val_main_v83 (F := Ideal) x0 x1 x2 x3 x4 x5 x6 x7 x8 x9 x10 x11 (ix2 r k) = h3E H Y P O G U C B W G3 Wg Wp r.val k := by
  have h58 := v58 x0 x1 x3 x4 x5 x6 x7 x8 H Y O G U C B W hH hY hO hG hU hC hB hW r
  have h74 : ∀ k, val_main_v74 (F := Ideal) x0 x1 x3 x4 x5 x6 x7 x8 x9 (ix2 r k) = normE (h2E H Y O G U C B W r.val) G3 k := fun k => by
    pointwise [val_main_v74, val_main_v73, val_main_v72, val_main_v71, val_main_v70, val_main_v69, val_main_v68, val_main_v67, val_main_v66,
      val_main_v65, val_main_v64, val_main_v63, val_main_v62, val_main_cst_7, val_main_cst_8, val_main_cst_9]
    simp only [h58, hG3]
    rfl
  pointwise [val_main_v83, val_main_v82, val_main_v81, val_main_v80, val_main_v79, val_main_v78, val_main_v77, val_main_v76, val_main_v75,
    val_main_v61, val_main_v60, val_main_v59, val_main_cst_10, val_main_cst_11]
  simp only [h58, h74, hP, hWg, hWp]
  rfl

include hH hY hO hG hU in
theorem v93 (j : Fin 2) (r : Fin 16384) (l : Fin 2816) :
    val_main_v93 (F := Ideal) x0 x1 x3 x4 x5 (ix3 j r l) = upE H Y O G U r.val (col j.val l.val) := by
  have h15 := v15 x0 x1 x3 x4 x5 H Y O G U hH hY hO hG hU r
  fin_cases j <;>
  · pointwise [val_main_v93, val_main_v92, val_main_v91, val_main_v90, val_main_v89, val_main_v88, val_main_v87, val_main_v86, val_main_v85, val_main_v84]
    simp only [h15]
    unfold col
    split_ifs <;> exact congrArg (upE H Y O G U r.val) (by omega)

end Cert.HalfRef

end
-- ==== Proof.HalfClaim.lean ====
/- The fused forward's four results are the reference's. -/
module

public import proofs.«01_k».proof.Defs
public import proofs.«01_k».proof.Proof.HalfRef
public import proofs.«01_k».proof.Proof.Gen.Reference8Ideal.Run
public import Idealize.ShloMosaic.Lib.Claim
public import Idealize.ShloMosaic.Lib.Quiescent

@[expose] public section

set_option maxRecDepth 16384

noncomputable section

namespace Cert.HalfClaim

open Idealize.ShloMosaic Idealize.ShloMosaic.TcCoe Idealize.SL.Sem

theorem frame_reference : Cert.quiescent_Reference8Ideal := fun m g _ =>
  (θ_run (Cert.Reference8Ideal.defs (F := Ideal)) _ _).mono
    (fun r h => ⟨fun c => (h c).2.2.2.2, sem_eq_zero_of_no_sems (by decide) r.2⟩)
    (Cert.Reference8Ideal.Value.run m g)

/-- The kernel's folded constant is the named product of the reference's. -/
theorem preserves : Cert.preserves_Kernel8_Kernel8Ideal :=
  IdealRules.named_const.statement Cert.Kernel8Ideal.κ "gelu_c2" .f32 0x3D122279#32 ((80338380498831 / 2251799813685248 : ℝ) : EReal) rfl

/-- A function of the first `n` numbers with zeros after them. -/
def ext0 {n : ℕ} {α : Type} [Zero α] (f : Fin n → α) (r : ℕ) : α := if h : r < n then f ⟨r, h⟩ else 0

theorem ext0_eq {n : ℕ} {α : Type} [Zero α] (f : Fin n → α) (r : Fin n) : f r = ext0 f r.val := (dif_pos r.isLt : ext0 f r.val = _).symm

open Cert.Half in
/-- Arrays as functions of the rows' numbers, zero after the last row. -/
theorem arrays (x0 x1 : FVec Ideal Cert.Kernel8Ideal.S16384x1024 .f32) (x2 : FVec Ideal Cert.Kernel8Ideal.S4x16384x256 .f32)
    (x5 : FVec Ideal Cert.Kernel8Ideal.S1024x5632 .f32) (x6 : FVec Ideal Cert.Kernel8Ideal.S3x5632 .f32) (x7 : FVec Ideal Cert.Kernel8Ideal.S5632 .f32)
    (x8 : FVec Ideal Cert.Kernel8Ideal.S2816x1024 .f32) :
    ∃ (H Y : ℕ → Fin 1024 → EReal) (P : ℕ → Fin 256 → EReal) (U : Fin 1024 → ℕ → EReal) (C : ℕ → ℕ → EReal) (B : ℕ → EReal)
      (W : ℕ → Fin 1024 → EReal), (∀ (r : Fin 16384) l, x0 (ix2 r l) = H r.val l) ∧ (∀ (r : Fin 16384) l, x1 (ix2 r l) = Y r.val l) ∧
      (∀ (r : Fin 16384) l, x2 (ix3 3 r l) = P r.val l) ∧ (∀ k (n : Fin 5632), x5 (ix2 k n) = U k n.val) ∧
      (∀ (k : Fin 3) (n : Fin 5632), x6 (ix2 k n) = C k.val n.val) ∧ (∀ n : Fin 5632, x7 (ix1 n) = B n.val) ∧
      (∀ (p : Fin 2816) l, x8 (ix2 p l) = W p.val l) :=
  ⟨fun r l => ext0 (fun r => x0 (ix2 r l)) r, fun r l => ext0 (fun r => x1 (ix2 r l)) r, fun r l => ext0 (fun r => x2 (ix3 3 r l)) r,
    fun k => ext0 fun n => x5 (ix2 k n), fun k n => ext0 (fun k : Fin 3 => ext0 (fun n => x6 (ix2 k n)) n) k, ext0 fun n => x7 (ix1 n),
    fun p l => ext0 (fun p => x8 (ix2 p l)) p,
    fun r l => ext0_eq (fun r => x0 (ix2 r l)) r, fun r l => ext0_eq (fun r => x1 (ix2 r l)) r, fun r l => ext0_eq (fun r => x2 (ix3 3 r l)) r,
    fun k n => ext0_eq (fun n => x5 (ix2 k n)) n,
    fun k n => (ext0_eq (fun n => x6 (ix2 k n)) n).trans (ext0_eq (fun k : Fin 3 => ext0 (fun n => x6 (ix2 k n)) n.val) k),
    fun n => ext0_eq (fun n => x7 (ix1 n)) n, fun p l => ext0_eq (fun p => x8 (ix2 p l)) p⟩

set_option maxHeartbeats 4000000 in
theorem algebraic : Cert.algebraic_Kernel8Ideal_Reference8Ideal := by
  intro m g m' g' _ hagree
  refine ⟨fun c => (Cert.Kernel8Ideal.Gen.dats m 0 c).arrAt 14 (Cert.Kernel8Ideal.cfgs 0).N,
    fun c => (Cert.Kernel8Ideal.Gen.dats m 0 c).arrAt 15 (Cert.Kernel8Ideal.cfgs 0).N,
    fun c => (Cert.Kernel8Ideal.Gen.dats m 0 c).arrAt 16 (Cert.Kernel8Ideal.cfgs 0).N,
    fun c => (Cert.Kernel8Ideal.Gen.dats m 0 c).arrAt 17 (Cert.Kernel8Ideal.cfgs 0).N, ?_, ?_⟩
  · exact (θ_run (Cert.Kernel8Ideal.defs (F := Ideal)) _ _).mono (fun r h c => h c) (Cert.Kernel8Ideal.Value.run_blocks m g)
  · refine (θ_run (Cert.Reference8Ideal.defs (F := Ideal)) _ _).mono (fun r h c => ?_) (Cert.Reference8Ideal.Value.run m' g')
    obtain ⟨h0, h1, h2, h3, a⟩ := h c
    obtain ⟨e0, e1, e2, e3, e4, e5, e6, e7, e8, e9, e10, e11⟩ := hagree c
    obtain ⟨H, Y, P, U, C, B, W, hH, hY, hP, hU, hC, hB, hW⟩ := arrays
      (m ((c : Thread Cert.Kernel8Ideal.nD Cert.Kernel8Ideal.τ).loc Cert.Kernel8Ideal.main_arg0))
      (m ((c : Thread Cert.Kernel8Ideal.nD Cert.Kernel8Ideal.τ).loc Cert.Kernel8Ideal.main_arg1))
      (m ((c : Thread Cert.Kernel8Ideal.nD Cert.Kernel8Ideal.τ).loc Cert.Kernel8Ideal.main_arg2))
      (m ((c : Thread Cert.Kernel8Ideal.nD Cert.Kernel8Ideal.τ).loc Cert.Kernel8Ideal.main_arg5))
      (m ((c : Thread Cert.Kernel8Ideal.nD Cert.Kernel8Ideal.τ).loc Cert.Kernel8Ideal.main_arg6))
      (m ((c : Thread Cert.Kernel8Ideal.nD Cert.Kernel8Ideal.τ).loc Cert.Kernel8Ideal.main_arg7))
      (m ((c : Thread Cert.Kernel8Ideal.nD Cert.Kernel8Ideal.τ).loc Cert.Kernel8Ideal.main_arg8))
    refine ⟨h0.trans ?_, h1.trans ?_, h2.trans ?_, h3.trans ?_, a⟩
    · refine (Cert.Reference8Ideal.Read.val_main_v1_eq (F := Ideal) _).trans ?_
      change Cert.Reference8Ideal.Read.val_main_v1 (F := Ideal)
        (m' ((c : Thread Cert.Reference8Ideal.nD Cert.Reference8Ideal.τ).loc Cert.Reference8Ideal.main_arg0))
        (m' ((c : Thread Cert.Reference8Ideal.nD Cert.Reference8Ideal.τ).loc Cert.Reference8Ideal.main_arg1))
        (m' ((c : Thread Cert.Reference8Ideal.nD Cert.Reference8Ideal.τ).loc Cert.Reference8Ideal.main_arg3)) = _
      rw [e0, e1, e3]
      refine Eq.trans (funext fun i => ?_) (Cert.Half.final14 m c H Y _ hH hY (fun _ _ => rfl)).symm
      exact (congrArg _ (eq_ix2 i)).trans (Cert.HalfRef.v1 _ _ _ H Y _ hH hY (fun _ _ => rfl) (i 0) (i 1))
    · refine (Cert.Reference8Ideal.Read.val_main_v58_eq (F := Ideal) _).trans ?_
      change Cert.Reference8Ideal.Read.val_main_v58 (F := Ideal)
        (m' ((c : Thread Cert.Reference8Ideal.nD Cert.Reference8Ideal.τ).loc Cert.Reference8Ideal.main_arg0))
        (m' ((c : Thread Cert.Reference8Ideal.nD Cert.Reference8Ideal.τ).loc Cert.Reference8Ideal.main_arg1))
        (m' ((c : Thread Cert.Reference8Ideal.nD Cert.Reference8Ideal.τ).loc Cert.Reference8Ideal.main_arg3))
        (m' ((c : Thread Cert.Reference8Ideal.nD Cert.Reference8Ideal.τ).loc Cert.Reference8Ideal.main_arg4))
        (m' ((c : Thread Cert.Reference8Ideal.nD Cert.Reference8Ideal.τ).loc Cert.Reference8Ideal.main_arg5))
        (m' ((c : Thread Cert.Reference8Ideal.nD Cert.Reference8Ideal.τ).loc Cert.Reference8Ideal.main_arg6))
        (m' ((c : Thread Cert.Reference8Ideal.nD Cert.Reference8Ideal.τ).loc Cert.Reference8Ideal.main_arg7))
        (m' ((c : Thread Cert.Reference8Ideal.nD Cert.Reference8Ideal.τ).loc Cert.Reference8Ideal.main_arg8)) = _
      rw [e0, e1, e3, e4, e5, e6, e7, e8]
      refine Eq.trans (funext fun i => ?_) (Cert.Half.final15 m c H Y _ _ U C B W hH hY (fun _ _ => rfl) (fun _ => rfl) hU hC hB hW).symm
      exact (congrArg _ (eq_ix2 i)).trans
        (Cert.HalfRef.v58 _ _ _ _ _ _ _ _ H Y _ _ U C B W hH hY (fun _ _ => rfl) (fun _ => rfl) hU hC hB hW (i 0) (i 1))
    · refine (Cert.Reference8Ideal.Read.val_main_v83_eq (F := Ideal) _).trans ?_
      change Cert.Reference8Ideal.Read.val_main_v83 (F := Ideal)
        (m' ((c : Thread Cert.Reference8Ideal.nD Cert.Reference8Ideal.τ).loc Cert.Reference8Ideal.main_arg0))
        (m' ((c : Thread Cert.Reference8Ideal.nD Cert.Reference8Ideal.τ).loc Cert.Reference8Ideal.main_arg1))
        (m' ((c : Thread Cert.Reference8Ideal.nD Cert.Reference8Ideal.τ).loc Cert.Reference8Ideal.main_arg2))
        (m' ((c : Thread Cert.Reference8Ideal.nD Cert.Reference8Ideal.τ).loc Cert.Reference8Ideal.main_arg3))
        (m' ((c : Thread Cert.Reference8Ideal.nD Cert.Reference8Ideal.τ).loc Cert.Reference8Ideal.main_arg4))
        (m' ((c : Thread Cert.Reference8Ideal.nD Cert.Reference8Ideal.τ).loc Cert.Reference8Ideal.main_arg5))
        (m' ((c : Thread Cert.Reference8Ideal.nD Cert.Reference8Ideal.τ).loc Cert.Reference8Ideal.main_arg6))
        (m' ((c : Thread Cert.Reference8Ideal.nD Cert.Reference8Ideal.τ).loc Cert.Reference8Ideal.main_arg7))
        (m' ((c : Thread Cert.Reference8Ideal.nD Cert.Reference8Ideal.τ).loc Cert.Reference8Ideal.main_arg8))
        (m' ((c : Thread Cert.Reference8Ideal.nD Cert.Reference8Ideal.τ).loc Cert.Reference8Ideal.main_arg9))
        (m' ((c : Thread Cert.Reference8Ideal.nD Cert.Reference8Ideal.τ).loc Cert.Reference8Ideal.main_arg10))
        (m' ((c : Thread Cert.Reference8Ideal.nD Cert.Reference8Ideal.τ).loc Cert.Reference8Ideal.main_arg11)) = _
      rw [e0, e1, e2, e3, e4, e5, e6, e7, e8, e9, e10, e11]
      refine Eq.trans (funext fun i => ?_) (Cert.Half.final16 m c H Y P _ _ U C B W _ _ _ hH hY hP (fun _ _ => rfl) (fun _ => rfl) hU hC hB hW
        (fun _ => rfl) (fun _ _ => rfl) (fun _ _ => rfl)).symm
      exact (congrArg _ (eq_ix2 i)).trans (Cert.HalfRef.v83 _ _ _ _ _ _ _ _ _ _ _ _ H Y P _ _ U C B W _ _ _ hH hY hP (fun _ _ => rfl)
        (fun _ => rfl) hU hC hB hW (fun _ => rfl) (fun _ _ => rfl) (fun _ _ => rfl) (i 0) (i 1))
    · refine (Cert.Reference8Ideal.Read.val_main_v93_eq (F := Ideal) _).trans ?_
      change Cert.Reference8Ideal.Read.val_main_v93 (F := Ideal)
        (m' ((c : Thread Cert.Reference8Ideal.nD Cert.Reference8Ideal.τ).loc Cert.Reference8Ideal.main_arg0))
        (m' ((c : Thread Cert.Reference8Ideal.nD Cert.Reference8Ideal.τ).loc Cert.Reference8Ideal.main_arg1))
        (m' ((c : Thread Cert.Reference8Ideal.nD Cert.Reference8Ideal.τ).loc Cert.Reference8Ideal.main_arg3))
        (m' ((c : Thread Cert.Reference8Ideal.nD Cert.Reference8Ideal.τ).loc Cert.Reference8Ideal.main_arg4))
        (m' ((c : Thread Cert.Reference8Ideal.nD Cert.Reference8Ideal.τ).loc Cert.Reference8Ideal.main_arg5)) = _
      rw [e0, e1, e3, e4, e5]
      refine Eq.trans (funext fun i => ?_) (Cert.Half.final17 m c H Y _ _ U hH hY (fun _ _ => rfl) (fun _ => rfl) hU).symm
      exact (congrArg _ (eq_ix3 i)).trans
        (Cert.HalfRef.v93 _ _ _ _ _ H Y _ _ U hH hY (fun _ _ => rfl) (fun _ => rfl) hU (i 0) (i 1) (i 2))

end Cert.HalfClaim

end
-- ==== Proof.AdamValue.lean ====
/- The optimiser's step: what the call leaves in its three results, index by index, and what the reference computes. -/
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Claim
public import Idealize.ShloMosaic.Lib.Pipeline.ReadBack

@[expose] public section

set_option maxRecDepth 16384

noncomputable section

namespace Cert.AdamValue

open Idealize.ShloMosaic Idealize.ShloMosaic.TcCoe Idealize.SL.Sem Cert.Kernel9Ideal Cert.Kernel9Ideal.Gen

theorem layer_lt (n : Fin 4096) : n.val / 1024 < 4 := by omega

theorem row_lt (n : Fin 4096) : n.val % 1024 < 1024 := by omega

/-- The layers' rows below one another. -/
def rowsOf (a : FVec Ideal S4x1024x1408 .f32) (n : Fin 4096) (l : Fin 1408) : EReal :=
  a (ix3 ⟨n.val / 1024, layer_lt n⟩ ⟨n.val % 1024, row_lt n⟩ l)

theorem rowsOf_cast (a : FVec Ideal S4x1024x1408 .f32) (h : S4x1024x1408.ShapeCasts S4096x1408) (n : Fin 4096) (l : Fin 1408) :
    shapeCast S4096x1408 a h (ix2 n l) = rowsOf a n l := by
  pointwise
  rfl

variable (m : (ℓ : Loc nD τ sig) → Buf (Elt Ideal) ℓ) (c : Dev nD)

/-- The four arguments' rows. -/
abbrev argW : FVec Ideal S4x1024x1408 .f32 := m ((c : Thread nD τ).loc main_arg0)
abbrev argG : FVec Ideal S4x1024x1408 .f32 := m ((c : Thread nD τ).loc main_arg1)
abbrev argM : FVec Ideal S4x1024x1408 .f32 := m ((c : Thread nD τ).loc main_arg2)
abbrev argV : FVec Ideal S4x1024x1408 .f32 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem lt8 (t : Fin cfg0.N) : t.val < 8 := lt_of_lt_of_eq t.isLt N_0

theorem at_lt (t : Fin cfg0.N) (r : Fin 512) : t.val * 512 + r.val < 4096 := by
  have := lt8 t
  omega

theorem ent0 (n : Fin 4096) (l : Fin 1408) : (V m c main_v0 : FVec Ideal S4096x1408 .f32) (ix2 n l) = rowsOf (argW m c) n l := by
  entry_read
  exact rowsOf_cast _ _ n l

theorem ent1 (n : Fin 4096) (l : Fin 1408) : (V m c main_v1 : FVec Ideal S4096x1408 .f32) (ix2 n l) = rowsOf (argG m c) n l := by
  entry_read
  exact rowsOf_cast _ _ n l

theorem ent2 (n : Fin 4096) (l : Fin 1408) : (V m c main_v2 : FVec Ideal S4096x1408 .f32) (ix2 n l) = rowsOf (argM m c) n l := by
  entry_read
  exact rowsOf_cast _ _ n l

theorem ent3 (n : Fin 4096) (l : Fin 1408) : (V m c main_v3 : FVec Ideal S4096x1408 .f32) (ix2 n l) = rowsOf (argV m c) n l := by
  entry_read
  exact rowsOf_cast _ _ n l

theorem blk0 (t : Fin cfg0.N) (r : Fin 512) (l : Fin 1408) :
    (iblk m c 0 t : FVec Ideal S512x1408 .f32) (ix2 r l) = rowsOf (argW m c) ⟨t.val * 512 + r.val, at_lt t r⟩ l := by
  refine Eq.trans ?_ (ent0 m c ⟨t.val * 512 + r.val, at_lt t r⟩ l)
  blk_ext [iblk, idx t]

theorem blk1 (t : Fin cfg0.N) (r : Fin 512) (l : Fin 1408) :
    (iblk m c 1 t : FVec Ideal S512x1408 .f32) (ix2 r l) = rowsOf (argG m c) ⟨t.val * 512 + r.val, at_lt t r⟩ l := by
  refine Eq.trans ?_ (ent1 m c ⟨t.val * 512 + r.val, at_lt t r⟩ l)
  blk_ext [iblk, idx t]

theorem blk2 (t : Fin cfg0.N) (r : Fin 512) (l : Fin 1408) :
    (iblk m c 2 t : FVec Ideal S512x1408 .f32) (ix2 r l) = rowsOf (argM m c) ⟨t.val * 512 + r.val, at_lt t r⟩ l := by
  refine Eq.trans ?_ (ent2 m c ⟨t.val * 512 + r.val, at_lt t r⟩ l)
  blk_ext [iblk, idx t]

theorem blk3 (t : Fin cfg0.N) (r : Fin 512) (l : Fin 1408) :
    (iblk m c 3 t : FVec Ideal S512x1408 .f32) (ix2 r l) = rowsOf (argV m c) ⟨t.val * 512 + r.val, at_lt t r⟩ l := by
  refine Eq.trans ?_ (ent3 m c ⟨t.val * 512 + r.val, at_lt t r⟩ l)
  blk_ext [iblk, idx t]

/-- The reference's three results read the layers' rows below one another. -/
theorem ref_m (n : Fin 4096) (l : Fin 1408) (g mm : FVec Ideal S4x1024x1408 .f32) :
    Cert.Reference9Ideal.Read.val_main_v25 (F := Ideal) g mm (ix2 n l)
      = Cert.Reference9Ideal.Read.val_main_v4 (F := Ideal) g mm (ix3 ⟨n.val / 1024, layer_lt n⟩ ⟨n.val % 1024, row_lt n⟩ l) :=
  rowsOf_cast _ _ n l

theorem ref_v (n : Fin 4096) (l : Fin 1408) (g v : FVec Ideal S4x1024x1408 .f32) :
    Cert.Reference9Ideal.Read.val_main_v26 (F := Ideal) g v (ix2 n l)
      = Cert.Reference9Ideal.Read.val_main_v10 (F := Ideal) g v (ix3 ⟨n.val / 1024, layer_lt n⟩ ⟨n.val % 1024, row_lt n⟩ l) :=
  rowsOf_cast _ _ n l

theorem ref_d (n : Fin 4096) (l : Fin 1408) (w g mm v : FVec Ideal S4x1024x1408 .f32) :
    Cert.Reference9Ideal.Read.val_main_v24 (F := Ideal) w g mm v (ix2 n l)
      = Cert.Reference9Ideal.Read.val_main_v23 (F := Ideal) w g mm v (ix3 ⟨n.val / 1024, layer_lt n⟩ ⟨n.val % 1024, row_lt n⟩ l) :=
  rowsOf_cast _ _ n l

theorem new_m (t : Fin cfg0.N) (r : Fin 512) (l : Fin 1408) :
    k0_pay2 (F := Ideal) (iblk m c 1 t) (iblk m c 2 t) (ix2 r l)
      = Cert.Reference9Ideal.Read.val_main_v25 (F := Ideal) (argG m c) (argM m c) (ix2 ⟨t.val * 512 + r.val, at_lt t r⟩ l) := by
  have h1 := blk1 m c t r l
  have h2 := blk2 m c t r l
  rw [ref_m]
  pointwise [k0_pay2, k0_pay1, Cert.Reference9Ideal.Read.val_main_v4, Cert.Reference9Ideal.Read.val_main_v3, Cert.Reference9Ideal.Read.val_main_v2,
    Cert.Reference9Ideal.Read.val_main_v1, Cert.Reference9Ideal.Read.val_main_v0, Cert.Reference9Ideal.Read.val_main_cst, Cert.Reference9Ideal.Read.val_main_cst_0]
  rw [h1, h2]
  rfl

theorem new_v (t : Fin cfg0.N) (r : Fin 512) (l : Fin 1408) :
    k0_pay3 (F := Ideal) (iblk m c 1 t) (iblk m c 3 t) (ix2 r l)
      = Cert.Reference9Ideal.Read.val_main_v26 (F := Ideal) (argG m c) (argV m c) (ix2 ⟨t.val * 512 + r.val, at_lt t r⟩ l) := by
  have h1 := blk1 m c t r l
  have h3 := blk3 m c t r l
  rw [ref_v]
  pointwise [k0_pay3, k0_pay1, Cert.Reference9Ideal.Read.val_main_v10, Cert.Reference9Ideal.Read.val_main_v9, Cert.Reference9Ideal.Read.val_main_v8,
    Cert.Reference9Ideal.Read.val_main_v7, Cert.Reference9Ideal.Read.val_main_v6, Cert.Reference9Ideal.Read.val_main_v5,
    Cert.Reference9Ideal.Read.val_main_cst_1, Cert.Reference9Ideal.Read.val_main_cst_2]
  rw [h1, h3]
  rfl

theorem delta (t : Fin cfg0.N) (r : Fin 512) (l : Fin 1408) :
    k0_pay4 (F := Ideal) (iblk m c 1 t) (iblk m c 2 t) (iblk m c 3 t) (iblk m c 0 t) (ix2 r l)
      = Cert.Reference9Ideal.Read.val_main_v24 (F := Ideal) (argW m c) (argG m c) (argM m c) (argV m c) (ix2 ⟨t.val * 512 + r.val, at_lt t r⟩ l) := by
  have h0 := blk0 m c t r l
  have hm := (new_m m c t r l).trans (ref_m _ _ _ _)
  have hv := (new_v m c t r l).trans (ref_v _ _ _ _)
  rw [ref_d]
  pointwise [k0_pay4, Cert.Reference9Ideal.Read.val_main_v23, Cert.Reference9Ideal.Read.val_main_v22, Cert.Reference9Ideal.Read.val_main_v21,
    Cert.Reference9Ideal.Read.val_main_v20, Cert.Reference9Ideal.Read.val_main_v19, Cert.Reference9Ideal.Read.val_main_v18,
    Cert.Reference9Ideal.Read.val_main_v17, Cert.Reference9Ideal.Read.val_main_v16, Cert.Reference9Ideal.Read.val_main_v15,
    Cert.Reference9Ideal.Read.val_main_v14, Cert.Reference9Ideal.Read.val_main_v13, Cert.Reference9Ideal.Read.val_main_v12,
    Cert.Reference9Ideal.Read.val_main_v11, Cert.Reference9Ideal.Read.val_main_cst_3, Cert.Reference9Ideal.Read.val_main_cst_4,
    Cert.Reference9Ideal.Read.val_main_cst_5, Cert.Reference9Ideal.Read.val_main_cst_6, Cert.Reference9Ideal.Read.val_main_cst_7]
  rw [h0, hm, hv]
  rfl

theorem final4 : (dats m 0 c).arrAt 4 (cfgs 0).N
    = Cert.Reference9Ideal.Read.val_main_v24 (F := Ideal) (argW m c) (argG m c) (argM m c) (argV m c) := by
  refine (dats m 0 c).arrAt_eq_of_covers 4 _ (by decide +kernel) fun t hf y => ?_
  blk_simp
  rw [after0_4]
  frame_out
  refine (congrArg _ (eq_ix2 y)).trans ((delta m c t (y 0) (y 1)).trans (congrArg _ ?_))
  funext a
  fin_cases a <;> refine Fin.ext ?_ <;> blk_simp [idx t] <;> rfl

theorem final5 : (dats m 0 c).arrAt 5 (cfgs 0).N = Cert.Reference9Ideal.Read.val_main_v25 (F := Ideal) (argG m c) (argM m c) := by
  refine (dats m 0 c).arrAt_eq_of_covers 5 _ (by decide +kernel) fun t hf y => ?_
  blk_simp
  rw [after0_5]
  frame_out
  refine (congrArg _ (eq_ix2 y)).trans ((new_m m c t (y 0) (y 1)).trans (congrArg _ ?_))
  funext a
  fin_cases a <;> refine Fin.ext ?_ <;> blk_simp [idx t] <;> rfl

theorem final6 : (dats m 0 c).arrAt 6 (cfgs 0).N = Cert.Reference9Ideal.Read.val_main_v26 (F := Ideal) (argG m c) (argV m c) := by
  refine (dats m 0 c).arrAt_eq_of_covers 6 _ (by decide +kernel) fun t hf y => ?_
  blk_simp
  rw [after0_6]
  frame_out
  refine (congrArg _ (eq_ix2 y)).trans ((new_v m c t (y 0) (y 1)).trans (congrArg _ ?_))
  funext a
  fin_cases a <;> refine Fin.ext ?_ <;> blk_simp [idx t] <;> rfl

end Cert.AdamValue

end
-- ==== Proof.AdamClaim.lean ====
/- The optimiser's step leaves what the reference computes. -/
module

public import proofs.«01_k».proof.Defs
public import proofs.«01_k».proof.Proof.AdamValue
public import proofs.«01_k».proof.Proof.Gen.Reference9Ideal.Run
public import Idealize.ShloMosaic.Lib.Quiescent

@[expose] public section

set_option maxRecDepth 16384

noncomputable section

namespace Cert.AdamClaim

open Idealize.ShloMosaic Idealize.ShloMosaic.TcCoe Idealize.SL.Sem

theorem frame_reference : Cert.quiescent_Reference9Ideal := fun m g _ =>
  (θ_run (Cert.Reference9Ideal.defs (F := Ideal)) _ _).mono
    (fun r h => ⟨fun c => (h c).2.2.2, sem_eq_zero_of_no_sems (by decide) r.2⟩)
    (Cert.Reference9Ideal.Value.run m g)

set_option maxHeartbeats 4000000 in
theorem algebraic : Cert.algebraic_Kernel9Ideal_Reference9Ideal := by
  intro m g m' g' _ hagree
  refine ⟨fun c => (Cert.Kernel9Ideal.Gen.dats m 0 c).arrAt 4 (Cert.Kernel9Ideal.cfgs 0).N,
    fun c => (Cert.Kernel9Ideal.Gen.dats m 0 c).arrAt 5 (Cert.Kernel9Ideal.cfgs 0).N,
    fun c => (Cert.Kernel9Ideal.Gen.dats m 0 c).arrAt 6 (Cert.Kernel9Ideal.cfgs 0).N, ?_, ?_⟩
  · exact (θ_run (Cert.Kernel9Ideal.defs (F := Ideal)) _ _).mono (fun r h c => h c) (Cert.Kernel9Ideal.Value.run_blocks m g)
  · refine (θ_run (Cert.Reference9Ideal.defs (F := Ideal)) _ _).mono (fun r h c => ?_) (Cert.Reference9Ideal.Value.run m' g')
    obtain ⟨h0, h1, h2, a⟩ := h c
    obtain ⟨e0, e1, e2, e3⟩ := hagree c
    refine ⟨h0.trans ?_, h1.trans ?_, h2.trans ?_, a⟩
    · refine (Cert.Reference9Ideal.Read.val_main_v24_eq (F := Ideal) _ _ _ _).trans ?_
      rw [e0, e1, e2, e3]
      exact (Cert.AdamValue.final4 m c).symm
    · refine (Cert.Reference9Ideal.Read.val_main_v25_eq (F := Ideal) _ _).trans ?_
      rw [e1, e2]
      exact (Cert.AdamValue.final5 m c).symm
    · refine (Cert.Reference9Ideal.Read.val_main_v26_eq (F := Ideal) _ _).trans ?_
      rw [e1, e3]
      exact (Cert.AdamValue.final6 m c).symm

end Cert.AdamClaim

end
-- ==== Proof.PoolFwdPay.lean ====
/- What the pooling operations of the two branches' forward kernel give at one grid point. -/
module

public import proofs.«01_k».proof.Proof.PoolRead
public import proofs.«01_k».proof.Proof.Gen.Kernel10Ideal.Skeleton

@[expose] public section

set_option maxRecDepth 16384

noncomputable section

namespace Cert.PoolFwd

open Idealize.ShloMosaic Idealize.ShloMosaic.TcCoe Cert.Reals Cert.Pool Cert.Kernel10Ideal Cert.Kernel10Ideal.Gen

/-- The row numbers, counted from one. -/
theorem pos (a : ℕ) (ha : a < 128) (r : Fin 128) :
    k0_pay78 (F := Ideal) (BitVec.ofNat 32 a) (ix2 r 0) = (((a * 128 + r.val : ℕ) : ℝ) + 1 : ℝ) := by
  pointwise [k0_pay78]
  have hr := r.isLt
  have e : IntOp.addi (IntOp.addi (Scalar.muli (BitVec.ofNat 32 a) 128#32) (BitVec.ofNat 32 r.val)) 1#32 = BitVec.ofNat 32 (a * 128 + r.val + 1) := by
    refine BitVec.eq_of_toNat_eq ?_
    simp only [IntOp.addi, Scalar.muli, IntOp.muli, BitVec.toNat_add, BitVec.toNat_mul, BitVec.toNat_ofNat]
    omega
  rw [e]
  have t : (BitVec.ofNat 32 (a * 128 + r.val + 1)).toInt = ((a * 128 + r.val + 1 : ℕ) : ℤ) := by
    rw [BitVec.toInt_eq_toNat_of_lt (by rw [BitVec.toNat_ofNat]; omega), BitVec.toNat_ofNat, Nat.mod_eq_of_lt (by omega)]
  show (((BitVec.ofNat 32 (a * 128 + r.val + 1)).toInt : ℝ) : EReal) = _
  rw [t]
  push_cast
  rfl

section groups

variable (v380 : FVec Ideal S128x512 .f32) (U : ℕ → ℕ → ℝ) (a : ℕ) (ha : a < 128)
  (hu : ∀ (r : Fin 128) (l : Fin 512), v380 (ix2 r l) = ((U (a * 128 + r.val) l.val : ℝ) : EReal))
  (y : ℕ → FVec Ideal S128x128 .f32) (w : FVec Ideal S1x128x128 .bf16) (r l : Fin 128)

include ha hu

theorem group0 (hy : ∀ j < 2, ∀ k : Fin 128, y j (ix2 r k) = ((back (fun n => U n (0 + k.val)) j (a * 128 + r.val) : ℝ) : EReal)) :
    k0_pay81 (F := Ideal) v380 (k0_pay79 (y 0) (y 1)) (k0_pay80 (BitVec.ofNat 32 a)) w (ix2 r l)
      = ∑ k : Fin 128, ((pg (fun n => U n (0 + k.val)) 2 (a * 128 + r.val) : ℝ) : EReal) * w (ix3 0 k l) := by
  have hp := pos a ha r
  pointwise [k0_pay81, k0_pay79, k0_pay80]
  refine Finset.sum_congr rfl fun k _ => congrArg (· * _) ?_
  have c := close v380 U (a * 128) hu 2 (by decide) 0 r k (by omega)
  simp only [Nat.zero_add] at c hy ⊢
  rw [hp, cTwo]
  simp only [hy _ (by decide : 0 < 2), hy _ (by decide : 1 < 2), ← EReal.coe_add]
  exact c _ (by simp only [win, Finset.sum_range_succ, Finset.sum_range_zero, zero_add])

theorem group1 (hy : ∀ j < 4, ∀ k : Fin 128, y j (ix2 r k) = ((back (fun n => U n (128 + k.val)) j (a * 128 + r.val) : ℝ) : EReal)) :
    k0_pay82 (F := Ideal) v380 (k0_pay78 (BitVec.ofNat 32 a)) (y 0) (y 1) (y 2) (y 3) w (ix2 r l)
      = ∑ k : Fin 128, ((pg (fun n => U n (128 + k.val)) 4 (a * 128 + r.val) : ℝ) : EReal) * w (ix3 0 k l) := by
  have hp := pos a ha r
  generalize k0_pay78 (F := Ideal) (BitVec.ofNat 32 a) = d at hp ⊢
  pointwise [k0_pay82]
  refine Finset.sum_congr rfl fun k _ => congrArg (· * _) ?_
  have c := close v380 U (a * 128) hu 4 (by decide) 128 r k (by omega)
  rw [hp, c4]
  simp only [hy _ (by decide : 0 < 4), hy _ (by decide : 1 < 4), hy _ (by decide : 2 < 4), hy _ (by decide : 3 < 4), ← EReal.coe_add]
  exact c _ (by simp only [win, Finset.sum_range_succ, Finset.sum_range_zero, zero_add])

theorem group2 (hy : ∀ j < 8, ∀ k : Fin 128, y j (ix2 r k) = ((back (fun n => U n (256 + k.val)) j (a * 128 + r.val) : ℝ) : EReal)) :
    k0_pay84 (F := Ideal) v380 (k0_pay78 (BitVec.ofNat 32 a)) (k0_pay83 (y 0) (y 1) (y 2) (y 3)) (y 4) (y 5) (y 6) (y 7) w (ix2 r l)
      = ∑ k : Fin 128, ((pg (fun n => U n (256 + k.val)) 8 (a * 128 + r.val) : ℝ) : EReal) * w (ix3 0 k l) := by
  have hp := pos a ha r
  generalize k0_pay78 (F := Ideal) (BitVec.ofNat 32 a) = d at hp ⊢
  pointwise [k0_pay84, k0_pay83]
  refine Finset.sum_congr rfl fun k _ => congrArg (· * _) ?_
  have c := close v380 U (a * 128) hu 8 (by decide) 256 r k (by omega)
  rw [hp, c8]
  simp only [hy _ (by decide : 0 < 8), hy _ (by decide : 1 < 8), hy _ (by decide : 2 < 8), hy _ (by decide : 3 < 8), hy _ (by decide : 4 < 8),
    hy _ (by decide : 5 < 8), hy _ (by decide : 6 < 8), hy _ (by decide : 7 < 8), ← EReal.coe_add]
  exact c _ (by simp only [win, Finset.sum_range_succ, Finset.sum_range_zero, zero_add])

omit ha in
theorem mean3 (p : EReal) (hp : p = ((((a * 128 + r.val : ℕ) : ℝ) + 1 : ℝ) : EReal)) (k : Fin 128) (hl : 384 + k.val < 512)
    (hy : ∀ j < 16, y j (ix2 r k) = ((back (fun n => U n (384 + k.val)) j (a * 128 + r.val) : ℝ) : EReal)) :
    Ideal.div (y 0 (ix2 r k) + y 1 (ix2 r k) + y 2 (ix2 r k) + y 3 (ix2 r k) + y 4 (ix2 r k) + y 5 (ix2 r k) + y 6 (ix2 r k) + y 7 (ix2 r k)
      + y 8 (ix2 r k) + y 9 (ix2 r k) + y 10 (ix2 r k) + y 11 (ix2 r k) + y 12 (ix2 r k) + y 13 (ix2 r k) + y 14 (ix2 r k) + y 15 (ix2 r k))
        (min p (Ideal.ofBits .f32 0x41800000#32)) - v380 (ix2 r ⟨384 + k.val, hl⟩) = ((pg (fun n => U n (384 + k.val)) 16 (a * 128 + r.val) : ℝ) : EReal) := by
  have c := close v380 U (a * 128) hu 16 (by decide) 384 r k hl
  rw [hp, c16]
  simp only [hy _ (by decide : 0 < 16), hy _ (by decide : 1 < 16), hy _ (by decide : 2 < 16), hy _ (by decide : 3 < 16), hy _ (by decide : 4 < 16),
    hy _ (by decide : 5 < 16), hy _ (by decide : 6 < 16), hy _ (by decide : 7 < 16), hy _ (by decide : 8 < 16), hy _ (by decide : 9 < 16),
    hy _ (by decide : 10 < 16), hy _ (by decide : 11 < 16), hy _ (by decide : 12 < 16), hy _ (by decide : 13 < 16), hy _ (by decide : 14 < 16),
    hy _ (by decide : 15 < 16), ← EReal.coe_add]
  exact c _ (by simp only [win, Finset.sum_range_succ, Finset.sum_range_zero, zero_add])

end groups

/-- The four groups' products, scaled. -/
theorem scaled (v380 : FVec Ideal S128x512 .f32) (U : ℕ → ℕ → ℝ) (a : ℕ) (ha : a < 128)
    (hu : ∀ (r : Fin 128) (l : Fin 512), v380 (ix2 r l) = ((U (a * 128 + r.val) l.val : ℝ) : EReal))
    (y : ℕ → FVec Ideal S128x128 .f32) (w : FVec Ideal S1x128x128 .bf16) (s : FVec Ideal S1x512 .f32) (m0 m1 m2 : FVec Ideal S128x128 .f32)
    (f : ℕ → ℕ → EReal) (r : Fin 128)
    (h0 : ∀ l : Fin 128, m0 (ix2 r l) = f 0 l.val) (h1 : ∀ l : Fin 128, m1 (ix2 r l) = f 1 l.val) (h2 : ∀ l : Fin 128, m2 (ix2 r l) = f 2 l.val)
    (h3 : ∀ l : Fin 128, ∑ k : Fin 128, ((pg (fun n => U n (384 + k.val)) 16 (a * 128 + r.val) : ℝ) : EReal) * w (ix3 0 k l) = f 3 l.val)
    (hy : ∀ j < 16, ∀ k : Fin 128, y j (ix2 r k) = ((back (fun n => U n (384 + k.val)) j (a * 128 + r.val) : ℝ) : EReal)) (l : Fin 512) :
    k0_pay2 (F := Ideal) (k0_pay86 v380 (k0_pay77 s) (k0_pay78 (BitVec.ofNat 32 a)) m0 m1 m2
      (k0_pay85 (y 0) (y 1) (y 2) (y 3) (y 4) (y 5) (y 6) (y 7)) (y 8) (y 9) (y 10) (y 11) (y 12) (y 13) (y 14) (y 15) w) (ix2 r l)
      = f (l.val / 128) (l.val % 128) * s (ix2 0 l) := by
  have hp := pos a ha r
  generalize k0_pay78 (F := Ideal) (BitVec.ofNat 32 a) = d at hp ⊢
  have mean := fun k : Fin 128 => mean3 v380 U a hu y r (d (ix2 r 0)) hp k (by omega) (fun j hj => hy j hj k)
  have h3' := h3
  simp only [← mean] at h3'
  pointwise [k0_pay2, k0_pay86, k0_pay85, k0_pay77]
  refine congrArg (· * s (ix2 0 l)) ?_
  by_cases c0 : l.val < 128
  · rw [dif_pos c0, h0, show l.val / 128 = 0 by omega, show l.val % 128 = l.val by omega]
  · rw [dif_neg c0]
    by_cases c1 : l.val - 128 < 128
    · rw [dif_pos c1, h1, show l.val / 128 = 1 by omega, show l.val % 128 = l.val - 128 by omega]
    · rw [dif_neg c1]
      by_cases c2 : l.val - 128 - 128 < 128
      · rw [dif_pos c2, h2, show l.val / 128 = 2 by omega, show l.val % 128 = l.val - 128 - 128 by omega]
      · rw [dif_neg c2, show l.val / 128 = 3 by omega, show l.val % 128 = l.val - 128 - 128 - 128 by omega]
        exact h3' ⟨l.val - 128 - 128 - 128, by omega⟩

section cut

variable (i : grid0.Coords) (z : FVec Ideal S128x2048 .bf16) (q : FVec Ideal S16x2048 .bf16)

theorem pay9 (r : Fin 128) (l : Fin 512) : k0_pay9 (F := Ideal) z (ix2 r l) = z (ix2 r ⟨1536 + l.val, by omega⟩) := by
  pointwise [k0_pay9, k0_pay4]

theorem pay76 (r : Fin 128) (l : Fin 512) : k0_pay76 (F := Ideal) (k0_pay4 z) (ix2 r l) = z (ix2 r ⟨1536 + l.val, by omega⟩) := by
  pointwise [k0_pay76, k0_pay4]

theorem later (a : ℕ) (ha : a < 128) : Scalar.cmpi .sgt (BitVec.ofNat 32 a) 0#32 = if 0 < a then 1#1 else 0#1 :=
  (by decide +kernel : ∀ a : Fin 128, Scalar.cmpi .sgt (BitVec.ofNat 32 a.val) 0#32 = if 0 < a.val then 1#1 else 0#1) ⟨a, ha⟩

theorem pay8 (a : ℕ) (ha : a < 128) (hi : (i 0).val = a) (r : Fin 16) (l : Fin 512) :
    k0_pay8 (F := Ideal) i q (ix2 r l) = if 0 < a then q (ix2 r ⟨1536 + l.val, by omega⟩) else ((0 : ℝ) : EReal) := by
  pointwise [k0_pay8, k0_pay5]
  rw [hi, later a ha]
  by_cases h : 0 < a
  · rw [if_pos h, if_pos h]
    rfl
  · rw [if_neg h, if_neg h]
    rfl

end cut

end Cert.PoolFwd

end
-- ==== Proof.PoolFwdValue.lean ====
/- The pooled branch's columns of the two branches' forward kernel's result. -/
module

public import proofs.«01_k».proof.Proof.PoolFwdPay
public import proofs.«01_k».proof.Proof.PoolEntry
public import proofs.«01_k».proof.Proof.Gen.Kernel10Ideal.Frame
public import Idealize.ShloMosaic.Lib.Pipeline.ValueKit
public import Idealize.ShloMosaic.Lib.Pipeline.ReadBack

@[expose] public section

set_option maxRecDepth 16384

noncomputable section

namespace Cert.PoolFwd

open Idealize.ShloMosaic Idealize.ShloMosaic.TcCoe Idealize.SL.Sem Cert.Reals Cert.Pool Cert.Kernel10Ideal Cert.Kernel10Ideal.Gen

theorem inb (j c : ℕ) (hc : c + 128 ≤ 512) (x : Fin 2) : (![16 - j, c] : Fin 2 → ℕ) x + (![128, 128] : Fin 2 → ℕ) x ≤ S144x512.size x := by
  fin_cases x
  · show 16 - j + 128 ≤ 144
    omega
  · exact hc

section body

variable (i : grid0.Coords) (z : FVec Ideal S128x2048 .bf16) (q : FVec Ideal S16x2048 .bf16) (w : FVec Ideal S4x128x128 .bf16) (s : FVec Ideal S1x512 .f32)

/-- A load of the row buffer, `j` rows up, from column `o` on. -/
def kr (o : ℕ) (ho : o + 128 ≤ 512) (j : ℕ) : FVec Ideal S128x128 .f32 :=
  (View.whole cc0_scratch2).readCov (Val := Elt Ideal)
    [⟨Rect.unit ![16, 0] ![128, 512] inb_S144x512_S128x512_16_0, k0_pay9 (F := Ideal) z⟩,
      ⟨Rect.unit ![0, 0] ![16, 512] inb_S144x512_S16x512_0_0, k0_pay8 (F := Ideal) i q⟩]
      (Rect.unit (s := S144x512) ![16 - j, o] ![128, 128] (inb j o ho)).toLoadRect

theorem e0 : 0 + 128 ≤ 512 := by decide
theorem e1 : 128 + 128 ≤ 512 := by decide
theorem e2 : 256 + 128 ≤ 512 := by decide
theorem e3 : 384 + 128 ≤ 512 := by decide

/-- One group's weights. -/
def kw (g : ℕ) (h : ∀ x : Fin 3, (![g, 0, 0] : Fin 3 → ℕ) x + (![1, 128, 128] : Fin 3 → ℕ) x ≤ S4x128x128.size x) : FVec Ideal S1x128x128 .bf16 :=
  View.ld (Val := Elt Ideal) (e' := .bf16) w (Rect.unit (s := S4x128x128) ![g, 0, 0] ![1, 128, 128] h)

/-- The pooled branch's columns of one block of the result. -/
def body : FVec Ideal S128x512 .bf16 :=
  k0_pay2 (k0_pay86 (k0_pay76 (k0_pay4 z)) (k0_pay77 s) (k0_pay78 (BitVec.ofNat 32 (i 0).val))
    (k0_pay81 (k0_pay76 (k0_pay4 z)) (k0_pay79 (kr i z q 0 e0 0) (kr i z q 0 e0 1)) (k0_pay80 (BitVec.ofNat 32 (i 0).val)) (kw w 0 inb_S4x128x128_S1x128x128_0_0_0))
    (k0_pay82 (k0_pay76 (k0_pay4 z)) (k0_pay78 (BitVec.ofNat 32 (i 0).val)) (kr i z q 128 e1 0) (kr i z q 128 e1 1) (kr i z q 128 e1 2) (kr i z q 128 e1 3)
      (kw w 1 inb_S4x128x128_S1x128x128_1_0_0))
    (k0_pay84 (k0_pay76 (k0_pay4 z)) (k0_pay78 (BitVec.ofNat 32 (i 0).val))
      (k0_pay83 (kr i z q 256 e2 0) (kr i z q 256 e2 1) (kr i z q 256 e2 2) (kr i z q 256 e2 3))
      (kr i z q 256 e2 4) (kr i z q 256 e2 5) (kr i z q 256 e2 6) (kr i z q 256 e2 7) (kw w 2 inb_S4x128x128_S1x128x128_2_0_0))
    (k0_pay85 (kr i z q 384 e3 0) (kr i z q 384 e3 1) (kr i z q 384 e3 2) (kr i z q 384 e3 3) (kr i z q 384 e3 4) (kr i z q 384 e3 5)
      (kr i z q 384 e3 6) (kr i z q 384 e3 7))
    (kr i z q 384 e3 8) (kr i z q 384 e3 9) (kr i z q 384 e3 10) (kr i z q 384 e3 11) (kr i z q 384 e3 12) (kr i z q 384 e3 13)
    (kr i z q 384 e3 14) (kr i z q 384 e3 15) (kw w 3 inb_S4x128x128_S1x128x128_3_0_0))

variable (a : ℕ) (ha : a < 128) (hi : (i 0).val = a) (P : ℕ → ℕ → ℝ) (W : ℕ → ℕ → ℕ → EReal)
  (hz : ∀ (r : Fin 128) (l : Fin 512), z (ix2 r ⟨1536 + l.val, by omega⟩) = ((P (a * 128 + r.val) (1544 + l.val) : ℝ) : EReal))
  (hq : 0 < a → ∀ (r : Fin 16) (l : Fin 512), q (ix2 r ⟨1536 + l.val, by omega⟩) = ((P (a * 128 - 16 + r.val) (1544 + l.val) : ℝ) : EReal))
  (hw : ∀ (g : Fin 4) (k l : Fin 128), w (ix3 g k l) = W g.val k.val l.val)

include ha hi hz hq in
theorem kr_at (o : ℕ) (ho : o + 128 ≤ 512) (j : ℕ) (hj : j ≤ 16) (r k : Fin 128) :
    kr i z q o ho j (ix2 r k) = ((back (fun n => P n (1544 + (o + k.val))) j (a * 128 + r.val) : ℝ) : EReal) := by
  refine read_rows (View.whole cc0_scratch2) (k0_pay9 z) (k0_pay8 i q) (fun n l => P n (1544 + l)) (a * 128) (fun r l => (pay9 z r l).trans (hz r l))
    (fun r l => ?_) inb_S144x512_S128x512_16_0 inb_S144x512_S16x512_0_0 j o hj (inb j o ho) r k
  rw [pay8 i q a ha hi r l]
  unfold back
  dsimp only
  by_cases h : 0 < a
  · rw [if_pos h, hq h, if_pos (by omega), show a * 128 - 16 + r.val = a * 128 - (16 - r.val) by omega]
  · rw [if_neg h, if_neg (by omega)]

include hw in
theorem kw_at (g : Fin 4) (h : ∀ x : Fin 3, (![g.val, 0, 0] : Fin 3 → ℕ) x + (![1, 128, 128] : Fin 3 → ℕ) x ≤ S4x128x128.size x) (k l : Fin 128) :
    kw w g.val h (ix3 0 k l) = W g.val k.val l.val :=
  (lead_ld g h (e := .bf16) w k l).trans (hw g k l)

include ha hi hz hq hw in
theorem body_at (r : Fin 128) (l : Fin 512) :
    body i z q w s (ix2 r l)
      = (∑ k : Fin 128, ((pooled P (l.val / 128) (a * 128 + r.val) k.val : ℝ) : EReal) * W (l.val / 128) k.val (l.val % 128)) * s (ix2 0 l) := by
  have hu : ∀ (r : Fin 128) (l : Fin 512), k0_pay76 (F := Ideal) (k0_pay4 z) (ix2 r l) = (((fun n l => P n (1544 + l)) (a * 128 + r.val) l.val : ℝ) : EReal) :=
    fun r l => (pay76 z r l).trans (hz r l)
  have hr := kr_at i z q a ha hi P hz hq
  have g0 := fun l : Fin 128 => group0 _ (fun n l => P n (1544 + l)) a ha hu (kr i z q 0 e0) (kw w 0 inb_S4x128x128_S1x128x128_0_0_0) r l fun j hj k => hr 0 e0 j (by omega) r k
  have g1 := fun l : Fin 128 => group1 _ (fun n l => P n (1544 + l)) a ha hu (kr i z q 128 e1) (kw w 1 inb_S4x128x128_S1x128x128_1_0_0) r l fun j hj k => hr 128 e1 j (by omega) r k
  have g2 := fun l : Fin 128 => group2 _ (fun n l => P n (1544 + l)) a ha hu (kr i z q 256 e2) (kw w 2 inb_S4x128x128_S1x128x128_2_0_0) r l fun j hj k => hr 256 e2 j (by omega) r k
  unfold body
  rw [hi]
  refine scaled _ (fun n l => P n (1544 + l)) a ha hu (kr i z q 384 e3) _ s _ _ _
    (fun g l => ∑ k : Fin 128, ((pooled P g (a * 128 + r.val) k.val : ℝ) : EReal) * W g k.val l) r
    (fun l => (g0 l).trans ?_) (fun l => (g1 l).trans ?_) (fun l => (g2 l).trans ?_) (fun l => ?_) (fun j hj k => hr 384 e3 j (by omega) r k) l
  · exact Finset.sum_congr rfl fun k _ => congrArg _ (kw_at w W hw 0 _ k l)
  · exact Finset.sum_congr rfl fun k _ => congrArg _ (kw_at w W hw 1 _ k l)
  · exact Finset.sum_congr rfl fun k _ => congrArg _ (kw_at w W hw 2 _ k l)
  · exact Finset.sum_congr rfl fun k _ => congrArg _ (kw_at w W hw 3 _ k l)

end body

variable (m : (ℓ : Loc nD τ sig) → Buf (Elt Ideal) ℓ) (c : Dev nD)

/-- At every point the block's last columns are the pooled branch's. -/
theorem tile (t : Fin cfg0.N) (r : Fin 128) (l : Fin 512) :
    (outsAt0 m c t.val t.isLt).1 (ix2 r ⟨512 + l.val, by omega⟩)
      = body (grid0.coords t) (iblk m c 0 t) (iblk m c 1 t) (iblk m c 9 t) (iblk m c 10 t) (ix2 r l) := by
  by_cases h : t.val % 128 = 0
  · rw [outsAt0_A m c t h]
    dsimp only
    unfold out0_A_11
    unfold kernelRun0_A
    dsimp only
    refine (View.read_writes_cons_unit_of_mem VO0_11 _ _ _ _ _ (ix2 r l) rfl (Fin.forall_fin_two.mpr ⟨(Nat.zero_add _).symm, rfl⟩)).trans ?_
    frame_out
    rfl
  · rw [outsAt0_B m c t h]
    dsimp only
    unfold out0_B_11
    unfold kernelRun0_B
    dsimp only
    refine (View.read_writes_cons_unit_of_mem VO0_11 _ _ _ _ _ (ix2 r l) rfl (Fin.forall_fin_two.mpr ⟨(Nat.zero_add _).symm, rfl⟩)).trans ?_
    frame_out
    rfl

/-! ## The region's arrays -/

theorem V3 : V m c main_v3 = band (m ((c : Thread nD τ).loc main_arg0)) := by
  show StableHlo.after hostOps0 (fun b => m ((c : Dev nD), b)) (Proc.devRef .tc main_v3) = _
  after_reads_simp
  rfl

theorem V22 : (V m c main_v22 : FVec Ideal S4x128x128 .bf16) = (truncf .bf16 (m ((c : Thread nD τ).loc main_arg7) : FVec Ideal S4x128x128 .f32) bitsLt_bf16_f32 : FVec Ideal S4x128x128 .bf16) := by
  show StableHlo.after hostOps0 _ (Proc.devRef .tc main_v22) = _
  after_reads_simp

theorem V23 : (V m c main_v23 : FVec Ideal S1x512 .f32) = (shapeCast S1x512 (m ((c : Thread nD τ).loc main_arg8) : FVec Ideal S512 .f32) shapeCasts_S512_S1x512 : FVec Ideal S1x512 .f32) := by
  show StableHlo.after hostOps0 _ (Proc.devRef .tc main_v23) = _
  after_reads_simp
  rfl

theorem idx : ∀ t : Fin cfg0.N, win0_0.index t = ![t.val, 0] ∧ win0_1.index t = ![t.val * 8 - 1, 0] ∧ win0_9.index t = ![0, 0, 0]
    ∧ win0_10.index t = ![0, 0] ∧ win0_11.index t = ![t.val, 0] :=
  (by decide +kernel : ∀ t : Fin grid0.N, _)

theorem coord : ∀ t : Fin cfg0.N, (grid0.coords t 0).val = t.val :=
  (by decide +kernel : ∀ t : Fin grid0.N, (grid0.coords t 0).val = t.val)

section blocks

variable (P : ℕ → ℕ → ℝ) (W : ℕ → ℕ → ℕ → EReal) (S : ℕ → EReal)
  (hP : ∀ (n : Fin 16384) (l : Fin 2056), (m ((c : Thread nD τ).loc main_arg0) : FVec Ideal S16384x2056 .f32) (ix2 n l) = ((P n.val l.val : ℝ) : EReal))
  (hW : ∀ (g : Fin 4) (k l : Fin 128), (m ((c : Thread nD τ).loc main_arg7) : FVec Ideal S4x128x128 .f32) (ix3 g k l) = W g.val k.val l.val)
  (hS : ∀ l : Fin 512, (m ((c : Thread nD τ).loc main_arg8) : FVec Ideal S512 .f32) (ix1 l) = S l.val)

theorem t_lt (t : Fin cfg0.N) : t.val < 128 := t.isLt

include hP in
theorem blk0 (t : Fin cfg0.N) (r : Fin 128) (l : Fin 512) : (iblk m c 0 t : FVec Ideal S128x2048 .bf16) (ix2 r ⟨1536 + l.val, by omega⟩)
    = ((P (t.val * 128 + r.val) (1544 + l.val) : ℝ) : EReal) := by
  have ht := t_lt t
  refine Eq.trans ?_ (band_at _ P hP ⟨t.val * 128 + r.val, by omega⟩ l)
  have e' : iblk m c 0 t = ((cfg0.win 0).blk t).view.read (Elt Ideal) (band (m ((c : Thread nD τ).loc main_arg0))) := by
    rw [← V3 m c]
    rfl
  rw [e']
  generalize band (m ((c : Thread nD τ).loc main_arg0)) = z
  blk_ext [idx t]

include hP in
theorem blk1 (t : Fin cfg0.N) (h : 0 < t.val) (r : Fin 16) (l : Fin 512) : (iblk m c 1 t : FVec Ideal S16x2048 .bf16) (ix2 r ⟨1536 + l.val, by omega⟩)
    = ((P (t.val * 128 - 16 + r.val) (1544 + l.val) : ℝ) : EReal) := by
  have ht := t_lt t
  refine Eq.trans ?_ (band_at _ P hP ⟨t.val * 128 - 16 + r.val, by omega⟩ l)
  have e' : iblk m c 1 t = ((cfg0.win 1).blk t).view.read (Elt Ideal) (band (m ((c : Thread nD τ).loc main_arg0))) := by
    rw [← V3 m c]
    rfl
  rw [e']
  generalize band (m ((c : Thread nD τ).loc main_arg0)) = z
  blk_ext [idx t]

include hW in
theorem blk9 (t : Fin cfg0.N) (g : Fin 4) (k l : Fin 128) : (iblk m c 9 t : FVec Ideal S4x128x128 .bf16) (ix3 g k l) = W g.val k.val l.val := by
  refine Eq.trans ?_ (hW g k l)
  have e' : iblk m c 9 t = ((cfg0.win 9).blk t).view.read (Elt Ideal) (truncf .bf16 (m ((c : Thread nD τ).loc main_arg7) : FVec Ideal S4x128x128 .f32) bitsLt_bf16_f32 : FVec Ideal S4x128x128 .bf16) := by
    rw [← V22 m c]
    rfl
  rw [e']
  blk_ext [idx t]

include hS in
theorem blk10 (t : Fin cfg0.N) (l : Fin 512) : (iblk m c 10 t : FVec Ideal S1x512 .f32) (ix2 0 l) = S l.val := by
  have e' : iblk m c 10 t = ((cfg0.win 10).blk t).view.read (Elt Ideal) (shapeCast S1x512 (m ((c : Thread nD τ).loc main_arg8) : FVec Ideal S512 .f32) shapeCasts_S512_S1x512 : FVec Ideal S1x512 .f32) := by
    rw [← V23 m c]
    rfl
  have e : (shapeCast S1x512 (m ((c : Thread nD τ).loc main_arg8) : FVec Ideal S512 .f32) shapeCasts_S512_S1x512 : FVec Ideal S1x512 .f32) (ix2 0 l) = S l.val := by
    refine Eq.trans ?_ (hS l)
    generalize (m ((c : Thread nD τ).loc main_arg8) : FVec Ideal S512 .f32) = z
    pointwise []
  rw [e']
  refine Eq.trans ?_ e
  generalize (shapeCast S1x512 (m ((c : Thread nD τ).loc main_arg8) : FVec Ideal S512 .f32) shapeCasts_S512_S1x512 : FVec Ideal S1x512 .f32) = z
  blk_ext [idx t]

/-- The result's entry at row `n` and column `l`. -/
def out (n l : ℕ) : EReal := (∑ k : Fin 128, ((pooled P (l / 128) n k.val : ℝ) : EReal) * W (l / 128) k.val (l % 128)) * S l

include hP hW hS in
theorem tile_at (t : Fin cfg0.N) (r : Fin 128) (l : Fin 512) :
    (outsAt0 m c t.val t.isLt).1 (ix2 r ⟨512 + l.val, by omega⟩) = out P W S (t.val * 128 + r.val) l.val := by
  refine (tile m c t r l).trans ((body_at _ _ _ _ _ t.val (t_lt t) (coord t) P W (blk0 m c P hP t) (blk1 m c P hP t) (blk9 m c W hW t) r l).trans ?_)
  rw [blk10 m c S hS t l]
  rfl

include hP hW hS in
/-- The result's last columns after the last point. -/
theorem final11 (n : Fin 16384) (l : Fin 512) :
    ((dats m 0 c).arrAt 11 (cfgs 0).N : FVec Ideal S16384x1024 .bf16) (ix2 n ⟨512 + l.val, by omega⟩) = out P W S n.val l.val := by
  have key : ∀ i : S16384x1024.Idx, 512 ≤ (i 1).val →
      ((dats m 0 c).arrAt 11 (cfgs 0).N : FVec Ideal S16384x1024 .bf16) i = out P W S (i 0).val ((i 1).val - 512) := by
    intro i
    refine (dats m 0 c).arrAt_forall_of_covers 11
      (fun (i : S16384x1024.Idx) v => 512 ≤ (i 1).val → v = out P W S (i 0).val ((i 1).val - 512)) (by decide +kernel) (fun t hf y => ?_) i
    blk_simp
    rw [after0_11]
    have g0 : win0_11.index t 0 = t.val := congrFun (idx t).2.2.2.2 0
    have g1 : win0_11.index t 1 = 0 := congrFun (idx t).2.2.2.2 1
    rw [g0, g1, Nat.zero_mul, Nat.zero_add]
    intro h
    have hl : (y 1).val < 1024 := (y 1).isLt
    have hy : (y : S128x1024.Idx) = ix2 (y 0 : Fin 128) (⟨512 + ((y 1).val - 512), by omega⟩ : Fin 1024) :=
      (eq_ix2 (y : S128x1024.Idx)).trans (congrArg (ix2 (y 0 : Fin 128)) (Fin.ext (Nat.add_sub_cancel' h).symm))
    exact (congrArg (outsAt0 m c t.val t.isLt).1 hy).trans (tile_at m c P W S hP hW hS t (y 0 : Fin 128) ⟨(y 1).val - 512, by omega⟩)
  exact (key (ix2 n ⟨512 + l.val, by omega⟩) (Nat.le_add_right 512 l.val)).trans (congrArg (out P W S n.val) (Nat.add_sub_cancel_left 512 l.val))

include hP hW hS in
/-- The rows that the host's slice returns. -/
theorem sliced (n : Fin 16384) (l : Fin 512) :
    (Pipeline.afterTail₀ cfgs (dats m) 0 (V0 m) [hostOps1] c main_v25 : FVec Ideal S16384x512 .bf16) (ix2 n l) = out P W S n.val l.val := by
  have e := Pipeline.Dat.withArrays_arrAt (dats m 0 c) sharedIn0 (V0 m c) (A_eq m c) 11
  refine Eq.trans ?_ (final11 m c P W S hP hW hS n l)
  unfold Pipeline.afterTail₀
  generalize (dats m 0 c).arrAt 11 (cfgs 0).N = z at e ⊢
  after_reads_simp
  rw [e]
  pointwise []

end blocks

end Cert.PoolFwd

end
-- ==== Proof.PoolFwdClaim.lean ====
/- The two branches' forward call gives the pooled branch's columns as the reference does, at a finite projection. -/
module

public import proofs.«01_k».proof.Defs
public import proofs.«01_k».proof.Proof.PoolClaim
public import proofs.«01_k».proof.Proof.PoolFwdValue
public import proofs.«01_k».proof.Proof.Gen.Pre_pool_finite
public import proofs.«01_k».proof.Proof.Gen.Reference10Ideal.Run
public import proofs.«01_k».proof.Proof.Gen.Reference10Ideal.Read
public import Idealize.ShloMosaic.Lib.Claim
public import Idealize.ShloMosaic.Lib.Quiescent

@[expose] public section

set_option maxRecDepth 16384

noncomputable section

namespace Cert.PoolFwdClaim

open Idealize.ShloMosaic Idealize.ShloMosaic.TcCoe Idealize.SL.Sem Cert.Pool

section reference

open Cert.Reference10Ideal Cert.Reference10Ideal.Gen Cert.Reference10Ideal.Read

variable (x : FVec Ideal S16384x2056 .f32) (w : FVec Ideal S4x128x128 .f32) (s : FVec Ideal S512 .f32)
  (P : ℕ → ℕ → ℝ) (W : ℕ → ℕ → ℕ → EReal) (S : ℕ → EReal)
  (hP : ∀ (n : Fin 16384) (l : Fin 2056), x (ix2 n l) = ((P n.val l.val : ℝ) : EReal))
  (hW : ∀ (g : Fin 4) (k l : Fin 128), w (ix3 g k l) = W g.val k.val l.val)
  (hS : ∀ l : Fin 512, s (ix1 l) = S l.val)

/-- The forward call's pooled rows are the backward call's. -/
theorem v70_same : val_main_v70 (F := Ideal) x = Cert.Reference2Ideal.Read.val_main_v70 (F := Ideal) x := rfl

include hP hW in
theorem v71 (n : Fin 16384) (g : Fin 4) (l : Fin 128) :
    val_main_v71 (F := Ideal) x w (ix3 g l n) = ∑ k : Fin 128, ((pooled P g.val n.val k.val : ℝ) : EReal) * W g.val k.val l.val := by
  have a := fun k => (congrFun (v70_same x) (ix3 n g k)).trans (Cert.PoolRef.v70 x P hP n k g)
  have b := fun k => hW g k l
  rw [val_main_v71_apply]
  refine Finset.sum_congr rfl fun k _ => ?_
  rw [mul_comm (pooled P g.val n.val k.val : EReal), ← a k, ← b k]
  refine congrArg₂ (· * ·) (congrArg w (funext fun i => ?_)) (congrArg (val_main_v70 (F := Ideal) x) (funext fun i => ?_)) <;> fin_cases i <;> rfl

include hP hW in
theorem v73 (n : Fin 16384) (l : Fin 512) : val_main_v73 (F := Ideal) x w (ix2 n l)
    = ∑ k : Fin 128, ((pooled P (l.val / 128) n.val k.val : ℝ) : EReal) * W (l.val / 128) k.val (l.val % 128) := by
  have h := v71 x w P W hP hW n ⟨l.val / 128, by omega⟩ ⟨l.val % 128, Nat.mod_lt _ (by decide)⟩
  refine Eq.trans ?_ h
  pointwise [val_main_v73, val_main_v72]

include hP hW hS in
theorem v77 (n : Fin 16384) (l : Fin 512) : val_main_v77 (F := Ideal) x w s (ix2 n l) = Cert.PoolFwd.out P W S n.val l.val := by
  have h := v73 x w P W hP hW n l
  have hs := hS l
  pointwise [val_main_v77, val_main_v76, val_main_v75, val_main_v74]
  rw [h, hs]
  rfl

end reference

theorem frame_reference : Cert.quiescent_Reference10Ideal := fun m g _ =>
  (θ_run (Cert.Reference10Ideal.defs (F := Ideal)) _ _).mono
    (fun r h => ⟨fun c => (h c).2, sem_eq_zero_of_no_sems (by decide) r.2⟩)
    (Cert.Reference10Ideal.Value.run m g)

/-- A finite projection is an array of reals. -/
theorem proj_reals (x : FVec Ideal Cert.Kernel10Ideal.S16384x2056 .f32) (a1 : FVec Ideal Cert.Kernel10Ideal.S4x1024 .f32)
    (a2 : FVec Ideal Cert.Kernel10Ideal.S1024 .f32) (a3 a4 a5 : FVec Ideal Cert.Kernel10Ideal.S8 .f32) (a6 : FVec Ideal Cert.Kernel10Ideal.S512 .f32)
    (w : FVec Ideal Cert.Kernel10Ideal.S4x128x128 .f32) (s : FVec Ideal Cert.Kernel10Ideal.S512 .f32)
    (hp : Cert.Pre_pool_finite.fn (F := Ideal) x a1 a2 a3 a4 a5 a6 w s = fun _ => 1#1) :
    ∃ P : ℕ → ℕ → ℝ, ∀ (n : Fin 16384) (l : Fin 2056), x (ix2 n l) = ((P n.val l.val : ℝ) : EReal) := by
  have h0 := congrFun hp (fun a => a.elim0)
  dsimp only [Cert.Pre_pool_finite.fn] at h0
  obtain ⟨X, hX⟩ := Cert.Reals.reals_of_finite x _ _ _ _ _ _ h0
  exact Cert.PoolClaim.nat2 x X hX

/-- An array over three axes, read at natural numbers. -/
theorem ext3 (w : FVec Ideal Cert.Kernel10Ideal.S4x128x128 .f32) :
    ∃ W : ℕ → ℕ → ℕ → EReal, ∀ (g : Fin 4) (k l : Fin 128), w (ix3 g k l) = W g.val k.val l.val := by
  refine ⟨fun a b n => if h : a < 4 ∧ b < 128 ∧ n < 128 then w (ix3 ⟨a, h.1⟩ ⟨b, h.2.1⟩ ⟨n, h.2.2⟩) else 0, fun a b n => ?_⟩
  have h : (if h : a.val < 4 ∧ b.val < 128 ∧ n.val < 128 then w (ix3 ⟨a.val, h.1⟩ ⟨b.val, h.2.1⟩ ⟨n.val, h.2.2⟩) else 0) = w (ix3 a b n) :=
    dif_pos ⟨a.isLt, b.isLt, n.isLt⟩
  exact h.symm

open Cert.Kernel10Ideal Cert.Kernel10Ideal.Gen in
/-- The kernel's run: its result is the slice of what the region leaves, its arguments are unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = Pipeline.afterTail₀ cfgs (dats m) 0 (V0 m) [hostOps1] c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h.1 c).2 main_v25 (Pipeline.mem_restRefs_of main_v25 (by decide) (by decide)), h.2 c⟩)
    (θ_run_and (run_main m ρ) (unchanged m ρ))

set_option maxHeartbeats 4000000 in
theorem algebraic : Cert.algebraic_Kernel10Ideal_Reference10Ideal_pre_pool_finite := by
  intro m g m' g' hpre hagree
  refine ⟨fun c => Pipeline.afterTail₀ Cert.Kernel10Ideal.cfgs (Cert.Kernel10Ideal.Gen.dats m) 0 (Cert.Kernel10Ideal.Gen.V0 m)
    [Cert.Kernel10Ideal.Gen.hostOps1] c Cert.Kernel10Ideal.main_v25, run_result m g, ?_⟩
  refine (θ_run (Cert.Reference10Ideal.defs (F := Ideal)) _ _).mono (fun r h c => ?_) (Cert.Reference10Ideal.Value.run m' g')
  obtain ⟨P, hP⟩ := proj_reals _ _ _ _ _ _ _ _ _ (hpre c)
  obtain ⟨W, hW⟩ := ext3 (m ((c : Thread Cert.Kernel10Ideal.nD Cert.Kernel10Ideal.τ).loc Cert.Kernel10Ideal.main_arg7))
  obtain ⟨h0, a⟩ := h c
  obtain ⟨e0, -, -, -, -, -, -, e7, e8⟩ := hagree c
  have q0 := Cert.Reference10Ideal.Read.val_main_v77_eq m' c
  rw [e0, e7, e8] at q0
  let x8 : FVec Ideal Cert.Kernel10Ideal.S512 .f32 := m ((c : Thread Cert.Kernel10Ideal.nD Cert.Kernel10Ideal.τ).loc Cert.Kernel10Ideal.main_arg8)
  let S : ℕ → EReal := fun n => if h : n < 512 then x8 (ix1 ⟨n, h⟩) else 0
  have hS : ∀ l : Fin 512, x8 (ix1 l) = S l.val := fun l => (dif_pos l.isLt : S l.val = _).symm
  refine ⟨h0.trans (q0.trans (funext fun i => ?_)), a⟩
  have hi : i = (ix2 (i 0 : Fin 16384) (i 1 : Fin 512) : Cert.Kernel10Ideal.S16384x512.Idx) := eq_ix2 (i : Cert.Kernel10Ideal.S16384x512.Idx)
  refine (congrArg _ hi).trans ((v77 _ _ x8 P W S hP hW hS (i 0) (i 1)).trans ?_)
  exact (Cert.PoolFwd.sliced m c P W S hP hW hS (i 0) (i 1)).symm.trans (congrArg _ hi.symm)

end Cert.PoolFwdClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_loss_finite
public import proofs.«01_k».proof.Proof.Gen.Kernel2
public import proofs.«01_k».proof.Proof.Gen.Kernel2Ideal
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_ssd_pool_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_ple_finite
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_out_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_mix_in_finite
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_ffn_finite
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.LossClaim
public import proofs.«01_k».proof.Proof.SsdClaim
public import proofs.«01_k».proof.Proof.PoolClaim
public import proofs.«01_k».proof.Proof.PleClaim
public import proofs.«01_k».proof.Proof.OutClaim
public import proofs.«01_k».proof.Proof.MixInClaim
public import proofs.«01_k».proof.Proof.FfnClaim
public import Idealize.ShloMosaic.Lib.Claim
public import Idealize.ShloMosaic.Adequacy
public import proofs.«01_k».proof.Proof.MixFwdClaim
public import proofs.«01_k».proof.Proof.HalfClaim
public import proofs.«01_k».proof.Proof.AdamClaim
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_pool_finite
public import proofs.«01_k».proof.Proof.PoolFwdClaim
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_loss_finite.Gen.facts, Cert.Pre_ssd_pool_finite.Gen.facts, Cert.Pre_ple_finite.Gen.facts, Cert.Pre_out_finite.Gen.facts, Cert.Pre_mix_in_finite.Gen.facts,
  Cert.Pre_ffn_finite.Gen.facts, Cert.Pre_pool_finite.Gen.facts,
  fun m ρ _ => Cert.Kernel.Gen.frame m ρ, fun m ρ _ => Cert.KernelIdeal.Gen.frame m ρ, fun m ρ _ => Cert.KernelIdeal.Gen.frame m ρ,
  Cert.LossClaim.frame_reference, fun m g _ => Cert.LossClaim.frame_reference m g trivial,
  Cert.SsdClaim.frame_kernel, Cert.SsdClaim.frame_ideal, fun m g _ => Cert.SsdClaim.frame_ideal m g trivial,
  Cert.PoolClaim.frame_reference, fun m g _ => Cert.PoolClaim.frame_reference m g trivial,
  fun m ρ _ => Cert.Kernel3.Gen.frame m ρ, fun m ρ _ => Cert.Kernel3Ideal.Gen.frame m ρ, fun m ρ _ => Cert.Kernel3Ideal.Gen.frame m ρ,
  Cert.PleClaim.frame_reference, fun m g _ => Cert.PleClaim.frame_reference m g trivial,
  fun m ρ _ => Cert.Kernel4.Gen.frame m ρ, fun m ρ _ => Cert.Kernel4Ideal.Gen.frame m ρ, fun m ρ _ => Cert.Kernel4Ideal.Gen.frame m ρ,
  Cert.OutClaim.frame_reference, fun m g _ => Cert.OutClaim.frame_reference m g trivial,
  fun m ρ _ => Cert.Kernel5.Gen.frame m ρ, fun m ρ _ => Cert.Kernel5Ideal.Gen.frame m ρ, fun m ρ _ => Cert.Kernel5Ideal.Gen.frame m ρ,
  Cert.MixInClaim.frame_reference, fun m g _ => Cert.MixInClaim.frame_reference m g trivial,
  fun m ρ _ => Cert.Kernel6.Gen.frame m ρ, fun m ρ _ => Cert.Kernel6Ideal.Gen.frame m ρ, fun m ρ _ => Cert.Kernel6Ideal.Gen.frame m ρ,
  Cert.FfnClaim.frame_reference, fun m g _ => Cert.FfnClaim.frame_reference m g trivial,
  fun m ρ _ => Cert.Kernel7.Gen.frame m ρ, fun m ρ _ => Cert.Kernel7Ideal.Gen.frame m ρ, Cert.MixFwdClaim.frame_reference,
  fun m ρ _ => Cert.Kernel8.Gen.frame m ρ, fun m ρ _ => Cert.Kernel8Ideal.Gen.frame m ρ, Cert.HalfClaim.frame_reference,
  fun m ρ _ => Cert.Kernel9.Gen.frame m ρ, fun m ρ _ => Cert.Kernel9Ideal.Gen.frame m ρ, Cert.AdamClaim.frame_reference,
  fun m ρ _ => Cert.Kernel10.Gen.frame m ρ, fun m ρ _ => Cert.Kernel10Ideal.Gen.frame m ρ, fun m ρ _ => Cert.Kernel10Ideal.Gen.frame m ρ,
  Cert.PoolFwdClaim.frame_reference, fun m g _ => Cert.PoolFwdClaim.frame_reference m g trivial,
  trivial, Cert.LossClaim.algebraic, trivial, Cert.PoolClaim.algebraic, trivial, Cert.PleClaim.algebraic, trivial, Cert.OutClaim.algebraic,
  trivial, Cert.MixInClaim.algebraic, Cert.FfnClaim.preserves, Cert.FfnClaim.algebraic,
  trivial, Cert.MixFwdClaim.algebraic, Cert.HalfClaim.preserves, Cert.HalfClaim.algebraic, trivial, Cert.AdamClaim.algebraic,
  trivial, Cert.PoolFwdClaim.algebraic⟩

end Cert.Proof

end
